-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpOutDx (m : (ℓ : Loc Cert.MlpOutDx.nD Cert.MlpOutDx.τ Cert.MlpOutDx.sig) → Buf (Elt Bits) ℓ) : Prop :=
  True

def Pre_MlpOutDxIdeal (m : (ℓ : Loc Cert.MlpOutDxIdeal.nD Cert.MlpOutDxIdeal.τ Cert.MlpOutDxIdeal.sig) → Buf (Elt Ideal) ℓ) : Prop :=
  True

def Pre_MlpOutDxRefIdeal (m : (ℓ : Loc Cert.MlpOutDxRefIdeal.nD Cert.MlpOutDxRefIdeal.τ Cert.MlpOutDxRefIdeal.sig) → Buf (Elt Ideal) ℓ) : Prop :=
  True

def Pre_MlpOutDw (m : (ℓ : Loc Cert.MlpOutDw.nD Cert.MlpOutDw.τ Cert.MlpOutDw.sig) → Buf (Elt Bits) ℓ) : Prop :=
  True

def Pre_MlpOutDwIdeal (m : (ℓ : Loc Cert.MlpOutDwIdeal.nD Cert.MlpOutDwIdeal.τ Cert.MlpOutDwIdeal.sig) → Buf (Elt Ideal) ℓ) : Prop :=
  True

def Pre_MlpOutDwRefIdeal (m : (ℓ : Loc Cert.MlpOutDwRefIdeal.nD Cert.MlpOutDwRefIdeal.τ Cert.MlpOutDwRefIdeal.sig) → Buf (Elt Ideal) ℓ) : Prop :=
  True

def Pre_MlpInDw (m : (ℓ : Loc Cert.MlpInDw.nD Cert.MlpInDw.τ Cert.MlpInDw.sig) → Buf (Elt Bits) ℓ) : Prop :=
  True

def Pre_MlpInDwIdeal (m : (ℓ : Loc Cert.MlpInDwIdeal.nD Cert.MlpInDwIdeal.τ Cert.MlpInDwIdeal.sig) → Buf (Elt Ideal) ℓ) : Prop :=
  True

def Pre_MlpInDwRefIdeal (m : (ℓ : Loc Cert.MlpInDwRefIdeal.nD Cert.MlpInDwRefIdeal.τ Cert.MlpInDwRefIdeal.sig) → Buf (Elt Ideal) ℓ) : Prop :=
  True

def Pre_MlpInDx (m : (ℓ : Loc Cert.MlpInDx.nD Cert.MlpInDx.τ Cert.MlpInDx.sig) → Buf (Elt Bits) ℓ) : Prop :=
  True

def Pre_MlpInDxIdeal (m : (ℓ : Loc Cert.MlpInDxIdeal.nD Cert.MlpInDxIdeal.τ Cert.MlpInDxIdeal.sig) → Buf (Elt Ideal) ℓ) : Prop :=
  True

def Pre_MlpInDxRefIdeal (m : (ℓ : Loc Cert.MlpInDxRefIdeal.nD Cert.MlpInDxRefIdeal.τ Cert.MlpInDxRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjQkv (m : (ℓ : Loc Cert.InProjQkv.nD Cert.InProjQkv.τ Cert.InProjQkv.sig) → Buf (Elt Bits) ℓ) : Prop :=
  True

def Pre_InProjQkvIdeal (m : (ℓ : Loc Cert.InProjQkvIdeal.nD Cert.InProjQkvIdeal.τ Cert.InProjQkvIdeal.sig) → Buf (Elt Ideal) ℓ) : Prop :=
  True

def Pre_InProjQkvRefIdeal (m : (ℓ : Loc Cert.InProjQkvRefIdeal.nD Cert.InProjQkvRefIdeal.τ Cert.InProjQkvRefIdeal.sig) → Buf (Elt Ideal) ℓ) : Prop :=
  True

def Pre_InProjXbc (m : (ℓ : Loc Cert.InProjXbc.nD Cert.InProjXbc.τ Cert.InProjXbc.sig) → Buf (Elt Bits) ℓ) : Prop :=
  True

def Pre_InProjXbcIdeal (m : (ℓ : Loc Cert.InProjXbcIdeal.nD Cert.InProjXbcIdeal.τ Cert.InProjXbcIdeal.sig) → Buf (Elt Ideal) ℓ) : Prop :=
  True

def Pre_InProjXbcRefIdeal (m : (ℓ : Loc Cert.InProjXbcRefIdeal.nD Cert.InProjXbcRefIdeal.τ Cert.InProjXbcRefIdeal.sig) → Buf (Elt Ideal) ℓ) : Prop :=
  True

def Pre_InProjZdt (m : (ℓ : Loc Cert.InProjZdt.nD Cert.InProjZdt.τ Cert.InProjZdt.sig) → Buf (Elt Bits) ℓ) : Prop :=
  True

def Pre_InProjZdtIdeal (m : (ℓ : Loc Cert.InProjZdtIdeal.nD Cert.InProjZdtIdeal.τ Cert.InProjZdtIdeal.sig) → Buf (Elt Ideal) ℓ) : Prop :=
  True

def Pre_InProjZdtRefIdeal (m : (ℓ : Loc Cert.InProjZdtRefIdeal.nD Cert.InProjZdtRefIdeal.τ Cert.InProjZdtRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_ConvBwdIn (m : (ℓ : Loc Cert.ConvBwdIn.nD Cert.ConvBwdIn.τ Cert.ConvBwdIn.sig) → Buf (Elt Bits) ℓ) : Prop :=
  True

def Pre_ConvBwdInIdeal (m : (ℓ : Loc Cert.ConvBwdInIdeal.nD Cert.ConvBwdInIdeal.τ Cert.ConvBwdInIdeal.sig) → Buf (Elt Ideal) ℓ) : Prop :=
  True

def Pre_ConvBwdInRefIdeal (m : (ℓ : Loc Cert.ConvBwdInRefIdeal.nD Cert.ConvBwdInRefIdeal.τ Cert.ConvBwdInRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_ConvBwdPre (m : (ℓ : Loc Cert.ConvBwdPre.nD Cert.ConvBwdPre.τ Cert.ConvBwdPre.sig) → Buf (Elt Bits) ℓ) : Prop :=
  True

def Pre_ConvBwdPreIdeal (m : (ℓ : Loc Cert.ConvBwdPreIdeal.nD Cert.ConvBwdPreIdeal.τ Cert.ConvBwdPreIdeal.sig) → Buf (Elt Ideal) ℓ) : Prop :=
  True

def Pre_ConvBwdPreIdeal_finite [hPre_finite : Cert.Pre_finite.Facts] (m : (ℓ : Loc Cert.ConvBwdPreIdeal.nD Cert.ConvBwdPreIdeal.τ Cert.ConvBwdPreIdeal.sig) → Buf (Elt Ideal) ℓ) : Prop :=
  ∀ c : Dev Cert.ConvBwdPreIdeal.nD,
    (Cert.Pre_finite.fn (F := Ideal) (m ((c.tc : Thread Cert.ConvBwdPreIdeal.nD Cert.ConvBwdPreIdeal.τ).loc Cert.ConvBwdPreIdeal.main_arg0)) (m ((c.tc : Thread Cert.ConvBwdPreIdeal.nD Cert.ConvBwdPreIdeal.τ).loc Cert.ConvBwdPreIdeal.main_arg1)) (m ((c.tc : Thread Cert.ConvBwdPreIdeal.nD Cert.ConvBwdPreIdeal.τ).loc Cert.ConvBwdPreIdeal.main_arg2)) (m ((c.tc : Thread Cert.ConvBwdPreIdeal.nD Cert.ConvBwdPreIdeal.τ).loc Cert.ConvBwdPreIdeal.main_arg3)) (m ((c.tc : Thread Cert.ConvBwdPreIdeal.nD Cert.ConvBwdPreIdeal.τ).loc Cert.ConvBwdPreIdeal.main_arg4)) (m ((c.tc : Thread Cert.ConvBwdPreIdeal.nD Cert.ConvBwdPreIdeal.τ).loc Cert.ConvBwdPreIdeal.main_arg5))) = (fun _ => 1#1)

def Pre_ConvBwdPreRefIdeal (m : (ℓ : Loc Cert.ConvBwdPreRefIdeal.nD Cert.ConvBwdPreRefIdeal.τ Cert.ConvBwdPreRefIdeal.sig) → Buf (Elt Ideal) ℓ) : Prop :=
  True

def Pre_ConvBwdPreRefIdeal_finite [hPre_finite : Cert.Pre_finite.Facts] (m : (ℓ : Loc Cert.ConvBwdPreRefIdeal.nD Cert.ConvBwdPreRefIdeal.τ Cert.ConvBwdPreRefIdeal.sig) → Buf (Elt Ideal) ℓ) : Prop :=
  ∀ c : Dev Cert.ConvBwdPreRefIdeal.nD,
    (Cert.Pre_finite.fn (F := Ideal) (m ((c.tc : Thread Cert.ConvBwdPreRefIdeal.nD Cert.ConvBwdPreRefIdeal.τ).loc Cert.ConvBwdPreRefIdeal.main_arg0)) (m ((c.tc : Thread Cert.ConvBwdPreRefIdeal.nD Cert.ConvBwdPreRefIdeal.τ).loc Cert.ConvBwdPreRefIdeal.main_arg1)) (m ((c.tc : Thread Cert.ConvBwdPreRefIdeal.nD Cert.ConvBwdPreRefIdeal.τ).loc Cert.ConvBwdPreRefIdeal.main_arg2)) (m ((c.tc : Thread Cert.ConvBwdPreRefIdeal.nD Cert.ConvBwdPreRefIdeal.τ).loc Cert.ConvBwdPreRefIdeal.main_arg3)) (m ((c.tc : Thread Cert.ConvBwdPreRefIdeal.nD Cert.ConvBwdPreRefIdeal.τ).loc Cert.ConvBwdPreRefIdeal.main_arg4)) (m ((c.tc : Thread Cert.ConvBwdPreRefIdeal.nD Cert.ConvBwdPreRefIdeal.τ).loc Cert.ConvBwdPreRefIdeal.main_arg5))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_bounded [hPre_bounded : Cert.Pre_bounded.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_bounded.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5))) = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_bounded [hPre_bounded : Cert.Pre_bounded.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_bounded.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3)) (m ((c.tc : Thread Cert.GateBwdRefIdeal.nD Cert.GateBwdRefIdeal.τ).loc Cert.GateBwdRefIdeal.main_arg4)) (m ((c.tc : Thread Cert.GateBwdRefIdeal.nD Cert.GateBwdRefIdeal.τ).loc Cert.GateBwdRefIdeal.main_arg5))) = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpOutDx [hMlpOutDx : Cert.MlpOutDx.Facts] : Prop :=
  ∀ (m : (ℓ : Loc Cert.MlpOutDx.nD Cert.MlpOutDx.τ Cert.MlpOutDx.sig) → Buf (Elt Bits) ℓ) (g : Dev Cert.MlpOutDx.nD → PrngReg), Pre_MlpOutDx m →
    θ_run (Cert.MlpOutDx.defs (F := Bits)) (onTc (τ := Cert.MlpOutDx.τ) (Cert.MlpOutDx.main (F := Bits))) ⟨m, fun _ => 0, g⟩ (fun r => (∀ c : Dev Cert.MlpOutDx.nD,
      r.2.mem ((c.tc : Thread Cert.MlpOutDx.nD Cert.MlpOutDx.τ).loc Cert.MlpOutDx.main_arg0) = m ((c.tc : Thread Cert.MlpOutDx.nD Cert.MlpOutDx.τ).loc Cert.MlpOutDx.main_arg0)
      ∧ r.2.mem ((c.tc : Thread Cert.MlpOutDx.nD Cert.MlpOutDx.τ).loc Cert.MlpOutDx.main_arg1) = m ((c.tc : Thread Cert.MlpOutDx.nD Cert.MlpOutDx.τ).loc Cert.MlpOutDx.main_arg1)
      ∧ r.2.mem ((c.tc : Thread Cert.MlpOutDx.nD Cert.MlpOutDx.τ).loc Cert.MlpOutDx.main_arg2) = m ((c.tc : Thread Cert.MlpOutDx.nD Cert.MlpOutDx.τ).loc Cert.MlpOutDx.main_arg2))
      ∧ r.2.sem = fun _ => 0)

def quiescent_MlpOutDxIdeal [hMlpOutDxIdeal : Cert.MlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg), Pre_MlpOutDxIdeal m →
    θ_run (Cert.MlpOutDxIdeal.defs (F := Ideal)) (onTc (τ := Cert.MlpOutDxIdeal.τ) (Cert.MlpOutDxIdeal.main (F := Ideal))) ⟨m, fun _ => 0, g⟩ (fun r => (∀ c : Dev Cert.MlpOutDxIdeal.nD,
      r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
      ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
      ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ r.2.sem = fun _ => 0)

def quiescent_MlpOutDxRefIdeal [hMlpOutDxRefIdeal : Cert.MlpOutDxRefIdeal.Facts] : Prop :=
  ∀ (m : (ℓ : Loc Cert.MlpOutDxRefIdeal.nD Cert.MlpOutDxRefIdeal.τ Cert.MlpOutDxRefIdeal.sig) → Buf (Elt Ideal) ℓ) (g : Dev Cert.MlpOutDxRefIdeal.nD → PrngReg), Pre_MlpOutDxRefIdeal m →
    θ_run (Cert.MlpOutDxRefIdeal.defs (F := Ideal)) (onTc (τ := Cert.MlpOutDxRefIdeal.τ) (Cert.MlpOutDxRefIdeal.main (F := Ideal))) ⟨m, fun _ => 0, g⟩ (fun r => (∀ c : Dev Cert.MlpOutDxRefIdeal.nD,
      r.2.mem ((c.tc : Thread Cert.MlpOutDxRefIdeal.nD Cert.MlpOutDxRefIdeal.τ).loc Cert.MlpOutDxRefIdeal.main_arg0) = m ((c.tc : Thread Cert.MlpOutDxRefIdeal.nD Cert.MlpOutDxRefIdeal.τ).loc Cert.MlpOutDxRefIdeal.main_arg0)
      ∧ r.2.mem ((c.tc : Thread Cert.MlpOutDxRefIdeal.nD Cert.MlpOutDxRefIdeal.τ).loc Cert.MlpOutDxRefIdeal.main_arg1) = m ((c.tc : Thread Cert.MlpOutDxRefIdeal.nD Cert.MlpOutDxRefIdeal.τ).loc Cert.MlpOutDxRefIdeal.main_arg1)
      ∧ r.2.mem ((c.tc : Thread Cert.MlpOutDxRefIdeal.nD Cert.MlpOutDxRefIdeal.τ).loc Cert.MlpOutDxRefIdeal.main_arg2) = m ((c.tc : Thread Cert.MlpOutDxRefIdeal.nD Cert.MlpOutDxRefIdeal.τ).loc Cert.MlpOutDxRefIdeal.main_arg2))
      ∧ r.2.sem = fun _ => 0)

def quiescent_MlpOutDw [hMlpOutDw : Cert.MlpOutDw.Facts] : Prop :=
  ∀ (m : (ℓ : Loc Cert.MlpOutDw.nD Cert.MlpOutDw.τ Cert.MlpOutDw.sig) → Buf (Elt Bits) ℓ) (g : Dev Cert.MlpOutDw.nD → PrngReg), Pre_MlpOutDw m →
    θ_run (Cert.MlpOutDw.defs (F := Bits)) (onTc (τ := Cert.MlpOutDw.τ) (Cert.MlpOutDw.main (F := Bits))) ⟨m, fun _ => 0, g⟩ (fun r => (∀ c : Dev Cert.MlpOutDw.nD,
      r.2.mem ((c.tc : Thread Cert.MlpOutDw.nD Cert.MlpOutDw.τ).loc Cert.MlpOutDw.main_arg0) = m ((c.tc : Thread Cert.MlpOutDw.nD Cert.MlpOutDw.τ).loc Cert.MlpOutDw.main_arg0)
      ∧ r.2.mem ((c.tc : Thread Cert.MlpOutDw.nD Cert.MlpOutDw.τ).loc Cert.MlpOutDw.main_arg1) = m ((c.tc : Thread Cert.MlpOutDw.nD Cert.MlpOutDw.τ).loc Cert.MlpOutDw.main_arg1))
      ∧ r.2.sem = fun _ => 0)

def quiescent_MlpOutDwIdeal [hMlpOutDwIdeal : Cert.MlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg), Pre_MlpOutDwIdeal m →
    θ_run (Cert.MlpOutDwIdeal.defs (F := Ideal)) (onTc (τ := Cert.MlpOutDwIdeal.τ) (Cert.MlpOutDwIdeal.main (F := Ideal))) ⟨m, fun _ => 0, g⟩ (fun r => (∀ c : Dev Cert.MlpOutDwIdeal.nD,
      r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
      ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ r.2.sem = fun _ => 0)

def quiescent_MlpOutDwRefIdeal [hMlpOutDwRefIdeal : Cert.MlpOutDwRefIdeal.Facts] : Prop :=
  ∀ (m : (ℓ : Loc Cert.MlpOutDwRefIdeal.nD Cert.MlpOutDwRefIdeal.τ Cert.MlpOutDwRefIdeal.sig) → Buf (Elt Ideal) ℓ) (g : Dev Cert.MlpOutDwRefIdeal.nD → PrngReg), Pre_MlpOutDwRefIdeal m →
    θ_run (Cert.MlpOutDwRefIdeal.defs (F := Ideal)) (onTc (τ := Cert.MlpOutDwRefIdeal.τ) (Cert.MlpOutDwRefIdeal.main (F := Ideal))) ⟨m, fun _ => 0, g⟩ (fun r => (∀ c : Dev Cert.MlpOutDwRefIdeal.nD,
      r.2.mem ((c.tc : Thread Cert.MlpOutDwRefIdeal.nD Cert.MlpOutDwRefIdeal.τ).loc Cert.MlpOutDwRefIdeal.main_arg0) = m ((c.tc : Thread Cert.MlpOutDwRefIdeal.nD Cert.MlpOutDwRefIdeal.τ).loc Cert.MlpOutDwRefIdeal.main_arg0)
      ∧ r.2.mem ((c.tc : Thread Cert.MlpOutDwRefIdeal.nD Cert.MlpOutDwRefIdeal.τ).loc Cert.MlpOutDwRefIdeal.main_arg1) = m ((c.tc : Thread Cert.MlpOutDwRefIdeal.nD Cert.MlpOutDwRefIdeal.τ).loc Cert.MlpOutDwRefIdeal.main_arg1))
      ∧ r.2.sem = fun _ => 0)

def quiescent_MlpInDw [hMlpInDw : Cert.MlpInDw.Facts] : Prop :=
  ∀ (m : (ℓ : Loc Cert.MlpInDw.nD Cert.MlpInDw.τ Cert.MlpInDw.sig) → Buf (Elt Bits) ℓ) (g : Dev Cert.MlpInDw.nD → PrngReg), Pre_MlpInDw m →
    θ_run (Cert.MlpInDw.defs (F := Bits)) (onTc (τ := Cert.MlpInDw.τ) (Cert.MlpInDw.main (F := Bits))) ⟨m, fun _ => 0, g⟩ (fun r => (∀ c : Dev Cert.MlpInDw.nD,
      r.2.mem ((c.tc : Thread Cert.MlpInDw.nD Cert.MlpInDw.τ).loc Cert.MlpInDw.main_arg0) = m ((c.tc : Thread Cert.MlpInDw.nD Cert.MlpInDw.τ).loc Cert.MlpInDw.main_arg0)
      ∧ r.2.mem ((c.tc : Thread Cert.MlpInDw.nD Cert.MlpInDw.τ).loc Cert.MlpInDw.main_arg1) = m ((c.tc : Thread Cert.MlpInDw.nD Cert.MlpInDw.τ).loc Cert.MlpInDw.main_arg1))
      ∧ r.2.sem = fun _ => 0)

def quiescent_MlpInDwIdeal [hMlpInDwIdeal : Cert.MlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg), Pre_MlpInDwIdeal m →
    θ_run (Cert.MlpInDwIdeal.defs (F := Ideal)) (onTc (τ := Cert.MlpInDwIdeal.τ) (Cert.MlpInDwIdeal.main (F := Ideal))) ⟨m, fun _ => 0, g⟩ (fun r => (∀ c : Dev Cert.MlpInDwIdeal.nD,
      r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
      ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ r.2.sem = fun _ => 0)

def quiescent_MlpInDwRefIdeal [hMlpInDwRefIdeal : Cert.MlpInDwRefIdeal.Facts] : Prop :=
  ∀ (m : (ℓ : Loc Cert.MlpInDwRefIdeal.nD Cert.MlpInDwRefIdeal.τ Cert.MlpInDwRefIdeal.sig) → Buf (Elt Ideal) ℓ) (g : Dev Cert.MlpInDwRefIdeal.nD → PrngReg), Pre_MlpInDwRefIdeal m →
    θ_run (Cert.MlpInDwRefIdeal.defs (F := Ideal)) (onTc (τ := Cert.MlpInDwRefIdeal.τ) (Cert.MlpInDwRefIdeal.main (F := Ideal))) ⟨m, fun _ => 0, g⟩ (fun r => (∀ c : Dev Cert.MlpInDwRefIdeal.nD,
      r.2.mem ((c.tc : Thread Cert.MlpInDwRefIdeal.nD Cert.MlpInDwRefIdeal.τ).loc Cert.MlpInDwRefIdeal.main_arg0) = m ((c.tc : Thread Cert.MlpInDwRefIdeal.nD Cert.MlpInDwRefIdeal.τ).loc Cert.MlpInDwRefIdeal.main_arg0)
      ∧ r.2.mem ((c.tc : Thread Cert.MlpInDwRefIdeal.nD Cert.MlpInDwRefIdeal.τ).loc Cert.MlpInDwRefIdeal.main_arg1) = m ((c.tc : Thread Cert.MlpInDwRefIdeal.nD Cert.MlpInDwRefIdeal.τ).loc Cert.MlpInDwRefIdeal.main_arg1))
      ∧ r.2.sem = fun _ => 0)

def quiescent_MlpInDx [hMlpInDx : Cert.MlpInDx.Facts] : Prop :=
  ∀ (m : (ℓ : Loc Cert.MlpInDx.nD Cert.MlpInDx.τ Cert.MlpInDx.sig) → Buf (Elt Bits) ℓ) (g : Dev Cert.MlpInDx.nD → PrngReg), Pre_MlpInDx m →
    θ_run (Cert.MlpInDx.defs (F := Bits)) (onTc (τ := Cert.MlpInDx.τ) (Cert.MlpInDx.main (F := Bits))) ⟨m, fun _ => 0, g⟩ (fun r => (∀ c : Dev Cert.MlpInDx.nD,
      r.2.mem ((c.tc : Thread Cert.MlpInDx.nD Cert.MlpInDx.τ).loc Cert.MlpInDx.main_arg0) = m ((c.tc : Thread Cert.MlpInDx.nD Cert.MlpInDx.τ).loc Cert.MlpInDx.main_arg0)
      ∧ r.2.mem ((c.tc : Thread Cert.MlpInDx.nD Cert.MlpInDx.τ).loc Cert.MlpInDx.main_arg1) = m ((c.tc : Thread Cert.MlpInDx.nD Cert.MlpInDx.τ).loc Cert.MlpInDx.main_arg1)
      ∧ r.2.mem ((c.tc : Thread Cert.MlpInDx.nD Cert.MlpInDx.τ).loc Cert.MlpInDx.main_arg2) = m ((c.tc : Thread Cert.MlpInDx.nD Cert.MlpInDx.τ).loc Cert.MlpInDx.main_arg2))
      ∧ r.2.sem = fun _ => 0)

def quiescent_MlpInDxIdeal [hMlpInDxIdeal : Cert.MlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg), Pre_MlpInDxIdeal m →
    θ_run (Cert.MlpInDxIdeal.defs (F := Ideal)) (onTc (τ := Cert.MlpInDxIdeal.τ) (Cert.MlpInDxIdeal.main (F := Ideal))) ⟨m, fun _ => 0, g⟩ (fun r => (∀ c : Dev Cert.MlpInDxIdeal.nD,
      r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
      ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1)
      ∧ r.2.mem ((c.tc : Thread Cert.MlpInDxIdeal.nD Cert.MlpInDxIdeal.τ).loc Cert.MlpInDxIdeal.main_arg2) = m ((c.tc : Thread Cert.MlpInDxIdeal.nD Cert.MlpInDxIdeal.τ).loc Cert.MlpInDxIdeal.main_arg2))
      ∧ r.2.sem = fun _ => 0)

def quiescent_MlpInDxRefIdeal [hMlpInDxRefIdeal : Cert.MlpInDxRefIdeal.Facts] : Prop :=
  ∀ (m : (ℓ : Loc Cert.MlpInDxRefIdeal.nD Cert.MlpInDxRefIdeal.τ Cert.MlpInDxRefIdeal.sig) → Buf (Elt Ideal) ℓ) (g : Dev Cert.MlpInDxRefIdeal.nD → PrngReg), Pre_MlpInDxRefIdeal m →
    θ_run (Cert.MlpInDxRefIdeal.defs (F := Ideal)) (onTc (τ := Cert.MlpInDxRefIdeal.τ) (Cert.MlpInDxRefIdeal.main (F := Ideal))) ⟨m, fun _ => 0, g⟩ (fun r => (∀ c : Dev Cert.MlpInDxRefIdeal.nD,
      r.2.mem ((c.tc : Thread Cert.MlpInDxRefIdeal.nD Cert.MlpInDxRefIdeal.τ).loc Cert.MlpInDxRefIdeal.main_arg0) = m ((c.tc : Thread Cert.MlpInDxRefIdeal.nD Cert.MlpInDxRefIdeal.τ).loc Cert.MlpInDxRefIdeal.main_arg0)
      ∧ r.2.mem ((c.tc : Thread Cert.MlpInDxRefIdeal.nD Cert.MlpInDxRefIdeal.τ).loc Cert.MlpInDxRefIdeal.main_arg1) = m ((c.tc : Thread Cert.MlpInDxRefIdeal.nD Cert.MlpInDxRefIdeal.τ).loc Cert.MlpInDxRefIdeal.main_arg1)
      ∧ r.2.mem ((c.tc : Thread Cert.MlpInDxRefIdeal.nD Cert.MlpInDxRefIdeal.τ).loc Cert.MlpInDxRefIdeal.main_arg2) = m ((c.tc : Thread Cert.MlpInDxRefIdeal.nD Cert.MlpInDxRefIdeal.τ).loc Cert.MlpInDxRefIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2))
      ∧ r.2.sem = fun _ => 0)

def quiescent_InProjQkv [hInProjQkv : Cert.InProjQkv.Facts] : Prop :=
  ∀ (m : (ℓ : Loc Cert.InProjQkv.nD Cert.InProjQkv.τ Cert.InProjQkv.sig) → Buf (Elt Bits) ℓ) (g : Dev Cert.InProjQkv.nD → PrngReg), Pre_InProjQkv m →
    θ_run (Cert.InProjQkv.defs (F := Bits)) (onTc (τ := Cert.InProjQkv.τ) (Cert.InProjQkv.main (F := Bits))) ⟨m, fun _ => 0, g⟩ (fun r => (∀ c : Dev Cert.InProjQkv.nD,
      r.2.mem ((c.tc : Thread Cert.InProjQkv.nD Cert.InProjQkv.τ).loc Cert.InProjQkv.main_arg0) = m ((c.tc : Thread Cert.InProjQkv.nD Cert.InProjQkv.τ).loc Cert.InProjQkv.main_arg0)
      ∧ r.2.mem ((c.tc : Thread Cert.InProjQkv.nD Cert.InProjQkv.τ).loc Cert.InProjQkv.main_arg1) = m ((c.tc : Thread Cert.InProjQkv.nD Cert.InProjQkv.τ).loc Cert.InProjQkv.main_arg1))
      ∧ r.2.sem = fun _ => 0)

def quiescent_InProjQkvIdeal [hInProjQkvIdeal : Cert.InProjQkvIdeal.Facts] : Prop :=
  ∀ (m : (ℓ : Loc Cert.InProjQkvIdeal.nD Cert.InProjQkvIdeal.τ Cert.InProjQkvIdeal.sig) → Buf (Elt Ideal) ℓ) (g : Dev Cert.InProjQkvIdeal.nD → PrngReg), Pre_InProjQkvIdeal m →
    θ_run (Cert.InProjQkvIdeal.defs (F := Ideal)) (onTc (τ := Cert.InProjQkvIdeal.τ) (Cert.InProjQkvIdeal.main (F := Ideal))) ⟨m, fun _ => 0, g⟩ (fun r => (∀ c : Dev Cert.InProjQkvIdeal.nD,
      r.2.mem ((c.tc : Thread Cert.InProjQkvIdeal.nD Cert.InProjQkvIdeal.τ).loc Cert.InProjQkvIdeal.main_arg0) = m ((c.tc : Thread Cert.InProjQkvIdeal.nD Cert.InProjQkvIdeal.τ).loc Cert.InProjQkvIdeal.main_arg0)
      ∧ r.2.mem ((c.tc : Thread Cert.InProjQkvIdeal.nD Cert.InProjQkvIdeal.τ).loc Cert.InProjQkvIdeal.main_arg1) = m ((c.tc : Thread Cert.InProjQkvIdeal.nD Cert.InProjQkvIdeal.τ).loc Cert.InProjQkvIdeal.main_arg1))
      ∧ r.2.sem = fun _ => 0)

def quiescent_InProjQkvRefIdeal [hInProjQkvRefIdeal : Cert.InProjQkvRefIdeal.Facts] : Prop :=
  ∀ (m : (ℓ : Loc Cert.InProjQkvRefIdeal.nD Cert.InProjQkvRefIdeal.τ Cert.InProjQkvRefIdeal.sig) → Buf (Elt Ideal) ℓ) (g : Dev Cert.InProjQkvRefIdeal.nD → PrngReg), Pre_InProjQkvRefIdeal m →
    θ_run (Cert.InProjQkvRefIdeal.defs (F := Ideal)) (onTc (τ := Cert.InProjQkvRefIdeal.τ) (Cert.InProjQkvRefIdeal.main (F := Ideal))) ⟨m, fun _ => 0, g⟩ (fun r => (∀ c : Dev Cert.InProjQkvRefIdeal.nD,
      r.2.mem ((c.tc : Thread Cert.InProjQkvRefIdeal.nD Cert.InProjQkvRefIdeal.τ).loc Cert.InProjQkvRefIdeal.main_arg0) = m ((c.tc : Thread Cert.InProjQkvRefIdeal.nD Cert.InProjQkvRefIdeal.τ).loc Cert.InProjQkvRefIdeal.main_arg0)
      ∧ r.2.mem ((c.tc : Thread Cert.InProjQkvRefIdeal.nD Cert.InProjQkvRefIdeal.τ).loc Cert.InProjQkvRefIdeal.main_arg1) = m ((c.tc : Thread Cert.InProjQkvRefIdeal.nD Cert.InProjQkvRefIdeal.τ).loc Cert.InProjQkvRefIdeal.main_arg1))
      ∧ r.2.sem = fun _ => 0)

def quiescent_InProjXbc [hInProjXbc : Cert.InProjXbc.Facts] : Prop :=
  ∀ (m : (ℓ : Loc Cert.InProjXbc.nD Cert.InProjXbc.τ Cert.InProjXbc.sig) → Buf (Elt Bits) ℓ) (g : Dev Cert.InProjXbc.nD → PrngReg), Pre_InProjXbc m →
    θ_run (Cert.InProjXbc.defs (F := Bits)) (onTc (τ := Cert.InProjXbc.τ) (Cert.InProjXbc.main (F := Bits))) ⟨m, fun _ => 0, g⟩ (fun r => (∀ c : Dev Cert.InProjXbc.nD,
      r.2.mem ((c.tc : Thread Cert.InProjXbc.nD Cert.InProjXbc.τ).loc Cert.InProjXbc.main_arg0) = m ((c.tc : Thread Cert.InProjXbc.nD Cert.InProjXbc.τ).loc Cert.InProjXbc.main_arg0)
      ∧ r.2.mem ((c.tc : Thread Cert.InProjXbc.nD Cert.InProjXbc.τ).loc Cert.InProjXbc.main_arg1) = m ((c.tc : Thread Cert.InProjXbc.nD Cert.InProjXbc.τ).loc Cert.InProjXbc.main_arg1))
      ∧ r.2.sem = fun _ => 0)

def quiescent_InProjXbcIdeal [hInProjXbcIdeal : Cert.InProjXbcIdeal.Facts] : Prop :=
  ∀ (m : (ℓ : Loc Cert.InProjXbcIdeal.nD Cert.InProjXbcIdeal.τ Cert.InProjXbcIdeal.sig) → Buf (Elt Ideal) ℓ) (g : Dev Cert.InProjXbcIdeal.nD → PrngReg), Pre_InProjXbcIdeal m →
    θ_run (Cert.InProjXbcIdeal.defs (F := Ideal)) (onTc (τ := Cert.InProjXbcIdeal.τ) (Cert.InProjXbcIdeal.main (F := Ideal))) ⟨m, fun _ => 0, g⟩ (fun r => (∀ c : Dev Cert.InProjXbcIdeal.nD,
      r.2.mem ((c.tc : Thread Cert.InProjXbcIdeal.nD Cert.InProjXbcIdeal.τ).loc Cert.InProjXbcIdeal.main_arg0) = m ((c.tc : Thread Cert.InProjXbcIdeal.nD Cert.InProjXbcIdeal.τ).loc Cert.InProjXbcIdeal.main_arg0)
      ∧ r.2.mem ((c.tc : Thread Cert.InProjXbcIdeal.nD Cert.InProjXbcIdeal.τ).loc Cert.InProjXbcIdeal.main_arg1) = m ((c.tc : Thread Cert.InProjXbcIdeal.nD Cert.InProjXbcIdeal.τ).loc Cert.InProjXbcIdeal.main_arg1))
      ∧ r.2.sem = fun _ => 0)

def quiescent_InProjXbcRefIdeal [hInProjXbcRefIdeal : Cert.InProjXbcRefIdeal.Facts] : Prop :=
  ∀ (m : (ℓ : Loc Cert.InProjXbcRefIdeal.nD Cert.InProjXbcRefIdeal.τ Cert.InProjXbcRefIdeal.sig) → Buf (Elt Ideal) ℓ) (g : Dev Cert.InProjXbcRefIdeal.nD → PrngReg), Pre_InProjXbcRefIdeal m →
    θ_run (Cert.InProjXbcRefIdeal.defs (F := Ideal)) (onTc (τ := Cert.InProjXbcRefIdeal.τ) (Cert.InProjXbcRefIdeal.main (F := Ideal))) ⟨m, fun _ => 0, g⟩ (fun r => (∀ c : Dev Cert.InProjXbcRefIdeal.nD,
      r.2.mem ((c.tc : Thread Cert.InProjXbcRefIdeal.nD Cert.InProjXbcRefIdeal.τ).loc Cert.InProjXbcRefIdeal.main_arg0) = m ((c.tc : Thread Cert.InProjXbcRefIdeal.nD Cert.InProjXbcRefIdeal.τ).loc Cert.InProjXbcRefIdeal.main_arg0)
      ∧ r.2.mem ((c.tc : Thread Cert.InProjXbcRefIdeal.nD Cert.InProjXbcRefIdeal.τ).loc Cert.InProjXbcRefIdeal.main_arg1) = m ((c.tc : Thread Cert.InProjXbcRefIdeal.nD Cert.InProjXbcRefIdeal.τ).loc Cert.InProjXbcRefIdeal.main_arg1))
      ∧ r.2.sem = fun _ => 0)

def quiescent_InProjZdt [hInProjZdt : Cert.InProjZdt.Facts] : Prop :=
  ∀ (m : (ℓ : Loc Cert.InProjZdt.nD Cert.InProjZdt.τ Cert.InProjZdt.sig) → Buf (Elt Bits) ℓ) (g : Dev Cert.InProjZdt.nD → PrngReg), Pre_InProjZdt m →
    θ_run (Cert.InProjZdt.defs (F := Bits)) (onTc (τ := Cert.InProjZdt.τ) (Cert.InProjZdt.main (F := Bits))) ⟨m, fun _ => 0, g⟩ (fun r => (∀ c : Dev Cert.InProjZdt.nD,
      r.2.mem ((c.tc : Thread Cert.InProjZdt.nD Cert.InProjZdt.τ).loc Cert.InProjZdt.main_arg0) = m ((c.tc : Thread Cert.InProjZdt.nD Cert.InProjZdt.τ).loc Cert.InProjZdt.main_arg0)
      ∧ r.2.mem ((c.tc : Thread Cert.InProjZdt.nD Cert.InProjZdt.τ).loc Cert.InProjZdt.main_arg1) = m ((c.tc : Thread Cert.InProjZdt.nD Cert.InProjZdt.τ).loc Cert.InProjZdt.main_arg1))
      ∧ r.2.sem = fun _ => 0)

def quiescent_InProjZdtIdeal [hInProjZdtIdeal : Cert.InProjZdtIdeal.Facts] : Prop :=
  ∀ (m : (ℓ : Loc Cert.InProjZdtIdeal.nD Cert.InProjZdtIdeal.τ Cert.InProjZdtIdeal.sig) → Buf (Elt Ideal) ℓ) (g : Dev Cert.InProjZdtIdeal.nD → PrngReg), Pre_InProjZdtIdeal m →
    θ_run (Cert.InProjZdtIdeal.defs (F := Ideal)) (onTc (τ := Cert.InProjZdtIdeal.τ) (Cert.InProjZdtIdeal.main (F := Ideal))) ⟨m, fun _ => 0, g⟩ (fun r => (∀ c : Dev Cert.InProjZdtIdeal.nD,
      r.2.mem ((c.tc : Thread Cert.InProjZdtIdeal.nD Cert.InProjZdtIdeal.τ).loc Cert.InProjZdtIdeal.main_arg0) = m ((c.tc : Thread Cert.InProjZdtIdeal.nD Cert.InProjZdtIdeal.τ).loc Cert.InProjZdtIdeal.main_arg0)
      ∧ r.2.mem ((c.tc : Thread Cert.InProjZdtIdeal.nD Cert.InProjZdtIdeal.τ).loc Cert.InProjZdtIdeal.main_arg1) = m ((c.tc : Thread Cert.InProjZdtIdeal.nD Cert.InProjZdtIdeal.τ).loc Cert.InProjZdtIdeal.main_arg1))
      ∧ r.2.sem = fun _ => 0)

def quiescent_InProjZdtRefIdeal [hInProjZdtRefIdeal : Cert.InProjZdtRefIdeal.Facts] : Prop :=
  ∀ (m : (ℓ : Loc Cert.InProjZdtRefIdeal.nD Cert.InProjZdtRefIdeal.τ Cert.InProjZdtRefIdeal.sig) → Buf (Elt Ideal) ℓ) (g : Dev Cert.InProjZdtRefIdeal.nD → PrngReg), Pre_InProjZdtRefIdeal m →
    θ_run (Cert.InProjZdtRefIdeal.defs (F := Ideal)) (onTc (τ := Cert.InProjZdtRefIdeal.τ) (Cert.InProjZdtRefIdeal.main (F := Ideal))) ⟨m, fun _ => 0, g⟩ (fun r => (∀ c : Dev Cert.InProjZdtRefIdeal.nD,
      r.2.mem ((c.tc : Thread Cert.InProjZdtRefIdeal.nD Cert.InProjZdtRefIdeal.τ).loc Cert.InProjZdtRefIdeal.main_arg0) = m ((c.tc : Thread Cert.InProjZdtRefIdeal.nD Cert.InProjZdtRefIdeal.τ).loc Cert.InProjZdtRefIdeal.main_arg0)
      ∧ r.2.mem ((c.tc : Thread Cert.InProjZdtRefIdeal.nD Cert.InProjZdtRefIdeal.τ).loc Cert.InProjZdtRefIdeal.main_arg1) = m ((c.tc : Thread Cert.InProjZdtRefIdeal.nD Cert.InProjZdtRefIdeal.τ).loc Cert.InProjZdtRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2))
      ∧ r.2.sem = fun _ => 0)

def quiescent_ConvBwdIn [hConvBwdIn : Cert.ConvBwdIn.Facts] : Prop :=
  ∀ (m : (ℓ : Loc Cert.ConvBwdIn.nD Cert.ConvBwdIn.τ Cert.ConvBwdIn.sig) → Buf (Elt Bits) ℓ) (g : Dev Cert.ConvBwdIn.nD → PrngReg), Pre_ConvBwdIn m →
    θ_run (Cert.ConvBwdIn.defs (F := Bits)) (onTc (τ := Cert.ConvBwdIn.τ) (Cert.ConvBwdIn.main (F := Bits))) ⟨m, fun _ => 0, g⟩ (fun r => (∀ c : Dev Cert.ConvBwdIn.nD,
      r.2.mem ((c.tc : Thread Cert.ConvBwdIn.nD Cert.ConvBwdIn.τ).loc Cert.ConvBwdIn.main_arg0) = m ((c.tc : Thread Cert.ConvBwdIn.nD Cert.ConvBwdIn.τ).loc Cert.ConvBwdIn.main_arg0)
      ∧ r.2.mem ((c.tc : Thread Cert.ConvBwdIn.nD Cert.ConvBwdIn.τ).loc Cert.ConvBwdIn.main_arg1) = m ((c.tc : Thread Cert.ConvBwdIn.nD Cert.ConvBwdIn.τ).loc Cert.ConvBwdIn.main_arg1)
      ∧ r.2.mem ((c.tc : Thread Cert.ConvBwdIn.nD Cert.ConvBwdIn.τ).loc Cert.ConvBwdIn.main_arg2) = m ((c.tc : Thread Cert.ConvBwdIn.nD Cert.ConvBwdIn.τ).loc Cert.ConvBwdIn.main_arg2))
      ∧ r.2.sem = fun _ => 0)

def quiescent_ConvBwdInIdeal [hConvBwdInIdeal : Cert.ConvBwdInIdeal.Facts] : Prop :=
  ∀ (m : (ℓ : Loc Cert.ConvBwdInIdeal.nD Cert.ConvBwdInIdeal.τ Cert.ConvBwdInIdeal.sig) → Buf (Elt Ideal) ℓ) (g : Dev Cert.ConvBwdInIdeal.nD → PrngReg), Pre_ConvBwdInIdeal m →
    θ_run (Cert.ConvBwdInIdeal.defs (F := Ideal)) (onTc (τ := Cert.ConvBwdInIdeal.τ) (Cert.ConvBwdInIdeal.main (F := Ideal))) ⟨m, fun _ => 0, g⟩ (fun r => (∀ c : Dev Cert.ConvBwdInIdeal.nD,
      r.2.mem ((c.tc : Thread Cert.ConvBwdInIdeal.nD Cert.ConvBwdInIdeal.τ).loc Cert.ConvBwdInIdeal.main_arg0) = m ((c.tc : Thread Cert.ConvBwdInIdeal.nD Cert.ConvBwdInIdeal.τ).loc Cert.ConvBwdInIdeal.main_arg0)
      ∧ r.2.mem ((c.tc : Thread Cert.ConvBwdInIdeal.nD Cert.ConvBwdInIdeal.τ).loc Cert.ConvBwdInIdeal.main_arg1) = m ((c.tc : Thread Cert.ConvBwdInIdeal.nD Cert.ConvBwdInIdeal.τ).loc Cert.ConvBwdInIdeal.main_arg1)
      ∧ r.2.mem ((c.tc : Thread Cert.ConvBwdInIdeal.nD Cert.ConvBwdInIdeal.τ).loc Cert.ConvBwdInIdeal.main_arg2) = m ((c.tc : Thread Cert.ConvBwdInIdeal.nD Cert.ConvBwdInIdeal.τ).loc Cert.ConvBwdInIdeal.main_arg2))
      ∧ r.2.sem = fun _ => 0)

def quiescent_ConvBwdInRefIdeal [hConvBwdInRefIdeal : Cert.ConvBwdInRefIdeal.Facts] : Prop :=
  ∀ (m : (ℓ : Loc Cert.ConvBwdInRefIdeal.nD Cert.ConvBwdInRefIdeal.τ Cert.ConvBwdInRefIdeal.sig) → Buf (Elt Ideal) ℓ) (g : Dev Cert.ConvBwdInRefIdeal.nD → PrngReg), Pre_ConvBwdInRefIdeal m →
    θ_run (Cert.ConvBwdInRefIdeal.defs (F := Ideal)) (onTc (τ := Cert.ConvBwdInRefIdeal.τ) (Cert.ConvBwdInRefIdeal.main (F := Ideal))) ⟨m, fun _ => 0, g⟩ (fun r => (∀ c : Dev Cert.ConvBwdInRefIdeal.nD,
      r.2.mem ((c.tc : Thread Cert.ConvBwdInRefIdeal.nD Cert.ConvBwdInRefIdeal.τ).loc Cert.ConvBwdInRefIdeal.main_arg0) = m ((c.tc : Thread Cert.ConvBwdInRefIdeal.nD Cert.ConvBwdInRefIdeal.τ).loc Cert.ConvBwdInRefIdeal.main_arg0)
      ∧ r.2.mem ((c.tc : Thread Cert.ConvBwdInRefIdeal.nD Cert.ConvBwdInRefIdeal.τ).loc Cert.ConvBwdInRefIdeal.main_arg1) = m ((c.tc : Thread Cert.ConvBwdInRefIdeal.nD Cert.ConvBwdInRefIdeal.τ).loc Cert.ConvBwdInRefIdeal.main_arg1)
      ∧ r.2.mem ((c.tc : Thread Cert.ConvBwdInRefIdeal.nD Cert.ConvBwdInRefIdeal.τ).loc Cert.ConvBwdInRefIdeal.main_arg2) = m ((c.tc : Thread Cert.ConvBwdInRefIdeal.nD Cert.ConvBwdInRefIdeal.τ).loc Cert.ConvBwdInRefIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_ConvBwdPre [hConvBwdPre : Cert.ConvBwdPre.Facts] : Prop :=
  ∀ (m : (ℓ : Loc Cert.ConvBwdPre.nD Cert.ConvBwdPre.τ Cert.ConvBwdPre.sig) → Buf (Elt Bits) ℓ) (g : Dev Cert.ConvBwdPre.nD → PrngReg), Pre_ConvBwdPre m →
    θ_run (Cert.ConvBwdPre.defs (F := Bits)) (onTc (τ := Cert.ConvBwdPre.τ) (Cert.ConvBwdPre.main (F := Bits))) ⟨m, fun _ => 0, g⟩ (fun r => (∀ c : Dev Cert.ConvBwdPre.nD,
      r.2.mem ((c.tc : Thread Cert.ConvBwdPre.nD Cert.ConvBwdPre.τ).loc Cert.ConvBwdPre.main_arg0) = m ((c.tc : Thread Cert.ConvBwdPre.nD Cert.ConvBwdPre.τ).loc Cert.ConvBwdPre.main_arg0)
      ∧ r.2.mem ((c.tc : Thread Cert.ConvBwdPre.nD Cert.ConvBwdPre.τ).loc Cert.ConvBwdPre.main_arg1) = m ((c.tc : Thread Cert.ConvBwdPre.nD Cert.ConvBwdPre.τ).loc Cert.ConvBwdPre.main_arg1)
      ∧ r.2.mem ((c.tc : Thread Cert.ConvBwdPre.nD Cert.ConvBwdPre.τ).loc Cert.ConvBwdPre.main_arg2) = m ((c.tc : Thread Cert.ConvBwdPre.nD Cert.ConvBwdPre.τ).loc Cert.ConvBwdPre.main_arg2)
      ∧ r.2.mem ((c.tc : Thread Cert.ConvBwdPre.nD Cert.ConvBwdPre.τ).loc Cert.ConvBwdPre.main_arg3) = m ((c.tc : Thread Cert.ConvBwdPre.nD Cert.ConvBwdPre.τ).loc Cert.ConvBwdPre.main_arg3)
      ∧ r.2.mem ((c.tc : Thread Cert.ConvBwdPre.nD Cert.ConvBwdPre.τ).loc Cert.ConvBwdPre.main_arg4) = m ((c.tc : Thread Cert.ConvBwdPre.nD Cert.ConvBwdPre.τ).loc Cert.ConvBwdPre.main_arg4)
      ∧ r.2.mem ((c.tc : Thread Cert.ConvBwdPre.nD Cert.ConvBwdPre.τ).loc Cert.ConvBwdPre.main_arg5) = m ((c.tc : Thread Cert.ConvBwdPre.nD Cert.ConvBwdPre.τ).loc Cert.ConvBwdPre.main_arg5))
      ∧ r.2.sem = fun _ => 0)

def quiescent_ConvBwdPreIdeal [hConvBwdPreIdeal : Cert.ConvBwdPreIdeal.Facts] : Prop :=
  ∀ (m : (ℓ : Loc Cert.ConvBwdPreIdeal.nD Cert.ConvBwdPreIdeal.τ Cert.ConvBwdPreIdeal.sig) → Buf (Elt Ideal) ℓ) (g : Dev Cert.ConvBwdPreIdeal.nD → PrngReg), Pre_ConvBwdPreIdeal m →
    θ_run (Cert.ConvBwdPreIdeal.defs (F := Ideal)) (onTc (τ := Cert.ConvBwdPreIdeal.τ) (Cert.ConvBwdPreIdeal.main (F := Ideal))) ⟨m, fun _ => 0, g⟩ (fun r => (∀ c : Dev Cert.ConvBwdPreIdeal.nD,
      r.2.mem ((c.tc : Thread Cert.ConvBwdPreIdeal.nD Cert.ConvBwdPreIdeal.τ).loc Cert.ConvBwdPreIdeal.main_arg0) = m ((c.tc : Thread Cert.ConvBwdPreIdeal.nD Cert.ConvBwdPreIdeal.τ).loc Cert.ConvBwdPreIdeal.main_arg0)
      ∧ r.2.mem ((c.tc : Thread Cert.ConvBwdPreIdeal.nD Cert.ConvBwdPreIdeal.τ).loc Cert.ConvBwdPreIdeal.main_arg1) = m ((c.tc : Thread Cert.ConvBwdPreIdeal.nD Cert.ConvBwdPreIdeal.τ).loc Cert.ConvBwdPreIdeal.main_arg1)
      ∧ r.2.mem ((c.tc : Thread Cert.ConvBwdPreIdeal.nD Cert.ConvBwdPreIdeal.τ).loc Cert.ConvBwdPreIdeal.main_arg2) = m ((c.tc : Thread Cert.ConvBwdPreIdeal.nD Cert.ConvBwdPreIdeal.τ).loc Cert.ConvBwdPreIdeal.main_arg2)
      ∧ r.2.mem ((c.tc : Thread Cert.ConvBwdPreIdeal.nD Cert.ConvBwdPreIdeal.τ).loc Cert.ConvBwdPreIdeal.main_arg3) = m ((c.tc : Thread Cert.ConvBwdPreIdeal.nD Cert.ConvBwdPreIdeal.τ).loc Cert.ConvBwdPreIdeal.main_arg3)
      ∧ r.2.mem ((c.tc : Thread Cert.ConvBwdPreIdeal.nD Cert.ConvBwdPreIdeal.τ).loc Cert.ConvBwdPreIdeal.main_arg4) = m ((c.tc : Thread Cert.ConvBwdPreIdeal.nD Cert.ConvBwdPreIdeal.τ).loc Cert.ConvBwdPreIdeal.main_arg4)
      ∧ r.2.mem ((c.tc : Thread Cert.ConvBwdPreIdeal.nD Cert.ConvBwdPreIdeal.τ).loc Cert.ConvBwdPreIdeal.main_arg5) = m ((c.tc : Thread Cert.ConvBwdPreIdeal.nD Cert.ConvBwdPreIdeal.τ).loc Cert.ConvBwdPreIdeal.main_arg5))
      ∧ r.2.sem = fun _ => 0)

def quiescent_ConvBwdPreIdeal_pre_finite [hConvBwdPreIdeal : Cert.ConvBwdPreIdeal.Facts] [hPre_finite : Cert.Pre_finite.Facts] : Prop :=
  ∀ (m : (ℓ : Loc Cert.ConvBwdPreIdeal.nD Cert.ConvBwdPreIdeal.τ Cert.ConvBwdPreIdeal.sig) → Buf (Elt Ideal) ℓ) (g : Dev Cert.ConvBwdPreIdeal.nD → PrngReg), Pre_ConvBwdPreIdeal_finite m →
    θ_run (Cert.ConvBwdPreIdeal.defs (F := Ideal)) (onTc (τ := Cert.ConvBwdPreIdeal.τ) (Cert.ConvBwdPreIdeal.main (F := Ideal))) ⟨m, fun _ => 0, g⟩ (fun r => (∀ c : Dev Cert.ConvBwdPreIdeal.nD,
      r.2.mem ((c.tc : Thread Cert.ConvBwdPreIdeal.nD Cert.ConvBwdPreIdeal.τ).loc Cert.ConvBwdPreIdeal.main_arg0) = m ((c.tc : Thread Cert.ConvBwdPreIdeal.nD Cert.ConvBwdPreIdeal.τ).loc Cert.ConvBwdPreIdeal.main_arg0)
      ∧ r.2.mem ((c.tc : Thread Cert.ConvBwdPreIdeal.nD Cert.ConvBwdPreIdeal.τ).loc Cert.ConvBwdPreIdeal.main_arg1) = m ((c.tc : Thread Cert.ConvBwdPreIdeal.nD Cert.ConvBwdPreIdeal.τ).loc Cert.ConvBwdPreIdeal.main_arg1)
      ∧ r.2.mem ((c.tc : Thread Cert.ConvBwdPreIdeal.nD Cert.ConvBwdPreIdeal.τ).loc Cert.ConvBwdPreIdeal.main_arg2) = m ((c.tc : Thread Cert.ConvBwdPreIdeal.nD Cert.ConvBwdPreIdeal.τ).loc Cert.ConvBwdPreIdeal.main_arg2)
      ∧ r.2.mem ((c.tc : Thread Cert.ConvBwdPreIdeal.nD Cert.ConvBwdPreIdeal.τ).loc Cert.ConvBwdPreIdeal.main_arg3) = m ((c.tc : Thread Cert.ConvBwdPreIdeal.nD Cert.ConvBwdPreIdeal.τ).loc Cert.ConvBwdPreIdeal.main_arg3)
      ∧ r.2.mem ((c.tc : Thread Cert.ConvBwdPreIdeal.nD Cert.ConvBwdPreIdeal.τ).loc Cert.ConvBwdPreIdeal.main_arg4) = m ((c.tc : Thread Cert.ConvBwdPreIdeal.nD Cert.ConvBwdPreIdeal.τ).loc Cert.ConvBwdPreIdeal.main_arg4)
      ∧ r.2.mem ((c.tc : Thread Cert.ConvBwdPreIdeal.nD Cert.ConvBwdPreIdeal.τ).loc Cert.ConvBwdPreIdeal.main_arg5) = m ((c.tc : Thread Cert.ConvBwdPreIdeal.nD Cert.ConvBwdPreIdeal.τ).loc Cert.ConvBwdPreIdeal.main_arg5))
      ∧ r.2.sem = fun _ => 0)

def quiescent_ConvBwdPreRefIdeal [hConvBwdPreRefIdeal : Cert.ConvBwdPreRefIdeal.Facts] : Prop :=
  ∀ (m : (ℓ : Loc Cert.ConvBwdPreRefIdeal.nD Cert.ConvBwdPreRefIdeal.τ Cert.ConvBwdPreRefIdeal.sig) → Buf (Elt Ideal) ℓ) (g : Dev Cert.ConvBwdPreRefIdeal.nD → PrngReg), Pre_ConvBwdPreRefIdeal m →
    θ_run (Cert.ConvBwdPreRefIdeal.defs (F := Ideal)) (onTc (τ := Cert.ConvBwdPreRefIdeal.τ) (Cert.ConvBwdPreRefIdeal.main (F := Ideal))) ⟨m, fun _ => 0, g⟩ (fun r => (∀ c : Dev Cert.ConvBwdPreRefIdeal.nD,
      r.2.mem ((c.tc : Thread Cert.ConvBwdPreRefIdeal.nD Cert.ConvBwdPreRefIdeal.τ).loc Cert.ConvBwdPreRefIdeal.main_arg0) = m ((c.tc : Thread Cert.ConvBwdPreRefIdeal.nD Cert.ConvBwdPreRefIdeal.τ).loc Cert.ConvBwdPreRefIdeal.main_arg0)
      ∧ r.2.mem ((c.tc : Thread Cert.ConvBwdPreRefIdeal.nD Cert.ConvBwdPreRefIdeal.τ).loc Cert.ConvBwdPreRefIdeal.main_arg1) = m ((c.tc : Thread Cert.ConvBwdPreRefIdeal.nD Cert.ConvBwdPreRefIdeal.τ).loc Cert.ConvBwdPreRefIdeal.main_arg1)
      ∧ r.2.mem ((c.tc : Thread Cert.ConvBwdPreRefIdeal.nD Cert.ConvBwdPreRefIdeal.τ).loc Cert.ConvBwdPreRefIdeal.main_arg2) = m ((c.tc : Thread Cert.ConvBwdPreRefIdeal.nD Cert.ConvBwdPreRefIdeal.τ).loc Cert.ConvBwdPreRefIdeal.main_arg2)
      ∧ r.2.mem ((c.tc : Thread Cert.ConvBwdPreRefIdeal.nD Cert.ConvBwdPreRefIdeal.τ).loc Cert.ConvBwdPreRefIdeal.main_arg3) = m ((c.tc : Thread Cert.ConvBwdPreRefIdeal.nD Cert.ConvBwdPreRefIdeal.τ).loc Cert.ConvBwdPreRefIdeal.main_arg3)
      ∧ r.2.mem ((c.tc : Thread Cert.ConvBwdPreRefIdeal.nD Cert.ConvBwdPreRefIdeal.τ).loc Cert.ConvBwdPreRefIdeal.main_arg4) = m ((c.tc : Thread Cert.ConvBwdPreRefIdeal.nD Cert.ConvBwdPreRefIdeal.τ).loc Cert.ConvBwdPreRefIdeal.main_arg4)
      ∧ r.2.mem ((c.tc : Thread Cert.ConvBwdPreRefIdeal.nD Cert.ConvBwdPreRefIdeal.τ).loc Cert.ConvBwdPreRefIdeal.main_arg5) = m ((c.tc : Thread Cert.ConvBwdPreRefIdeal.nD Cert.ConvBwdPreRefIdeal.τ).loc Cert.ConvBwdPreRefIdeal.main_arg5))
      ∧ r.2.sem = fun _ => 0)

def quiescent_ConvBwdPreRefIdeal_pre_finite [hConvBwdPreRefIdeal : Cert.ConvBwdPreRefIdeal.Facts] [hPre_finite : Cert.Pre_finite.Facts] : Prop :=
  ∀ (m : (ℓ : Loc Cert.ConvBwdPreRefIdeal.nD Cert.ConvBwdPreRefIdeal.τ Cert.ConvBwdPreRefIdeal.sig) → Buf (Elt Ideal) ℓ) (g : Dev Cert.ConvBwdPreRefIdeal.nD → PrngReg), Pre_ConvBwdPreRefIdeal_finite m →
    θ_run (Cert.ConvBwdPreRefIdeal.defs (F := Ideal)) (onTc (τ := Cert.ConvBwdPreRefIdeal.τ) (Cert.ConvBwdPreRefIdeal.main (F := Ideal))) ⟨m, fun _ => 0, g⟩ (fun r => (∀ c : Dev Cert.ConvBwdPreRefIdeal.nD,
      r.2.mem ((c.tc : Thread Cert.ConvBwdPreRefIdeal.nD Cert.ConvBwdPreRefIdeal.τ).loc Cert.ConvBwdPreRefIdeal.main_arg0) = m ((c.tc : Thread Cert.ConvBwdPreRefIdeal.nD Cert.ConvBwdPreRefIdeal.τ).loc Cert.ConvBwdPreRefIdeal.main_arg0)
      ∧ r.2.mem ((c.tc : Thread Cert.ConvBwdPreRefIdeal.nD Cert.ConvBwdPreRefIdeal.τ).loc Cert.ConvBwdPreRefIdeal.main_arg1) = m ((c.tc : Thread Cert.ConvBwdPreRefIdeal.nD Cert.ConvBwdPreRefIdeal.τ).loc Cert.ConvBwdPreRefIdeal.main_arg1)
      ∧ r.2.mem ((c.tc : Thread Cert.ConvBwdPreRefIdeal.nD Cert.ConvBwdPreRefIdeal.τ).loc Cert.ConvBwdPreRefIdeal.main_arg2) = m ((c.tc : Thread Cert.ConvBwdPreRefIdeal.nD Cert.ConvBwdPreRefIdeal.τ).loc Cert.ConvBwdPreRefIdeal.main_arg2)
      ∧ r.2.mem ((c.tc : Thread Cert.ConvBwdPreRefIdeal.nD Cert.ConvBwdPreRefIdeal.τ).loc Cert.ConvBwdPreRefIdeal.main_arg3) = m ((c.tc : Thread Cert.ConvBwdPreRefIdeal.nD Cert.ConvBwdPreRefIdeal.τ).loc Cert.ConvBwdPreRefIdeal.main_arg3)
      ∧ r.2.mem ((c.tc : Thread Cert.ConvBwdPreRefIdeal.nD Cert.ConvBwdPreRefIdeal.τ).loc Cert.ConvBwdPreRefIdeal.main_arg4) = m ((c.tc : Thread Cert.ConvBwdPreRefIdeal.nD Cert.ConvBwdPreRefIdeal.τ).loc Cert.ConvBwdPreRefIdeal.main_arg4)
      ∧ r.2.mem ((c.tc : Thread Cert.ConvBwdPreRefIdeal.nD Cert.ConvBwdPreRefIdeal.τ).loc Cert.ConvBwdPreRefIdeal.main_arg5) = m ((c.tc : Thread Cert.ConvBwdPreRefIdeal.nD Cert.ConvBwdPreRefIdeal.τ).loc Cert.ConvBwdPreRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdIdeal_pre_bounded [hGateBwdIdeal : Cert.GateBwdIdeal.Facts] [hPre_bounded : Cert.Pre_bounded.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_bounded m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5))
      ∧ r.2.sem = fun _ => 0)

def quiescent_GateBwdRefIdeal_pre_bounded [hGateBwdRefIdeal : Cert.GateBwdRefIdeal.Facts] [hPre_bounded : Cert.Pre_bounded.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_bounded m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v140) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpOutDx_MlpOutDxIdeal : Prop :=
  True

def algebraic_MlpOutDxIdeal_MlpOutDxRefIdeal [hMlpOutDxIdeal : Cert.MlpOutDxIdeal.Facts] [hMlpOutDxRefIdeal : Cert.MlpOutDxRefIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg)
    (m' : (ℓ : Loc Cert.MlpOutDxRefIdeal.nD Cert.MlpOutDxRefIdeal.τ Cert.MlpOutDxRefIdeal.sig) → Buf (Elt Ideal) ℓ) (g' : Dev Cert.MlpOutDxRefIdeal.nD → PrngReg), Pre_MlpOutDxIdeal m →
    (∀ c : Dev Cert.MlpOutDxIdeal.nD,
      m' ((c.tc : Thread Cert.MlpOutDxRefIdeal.nD Cert.MlpOutDxRefIdeal.τ).loc Cert.MlpOutDxRefIdeal.main_arg0) = m ((c.tc : Thread Cert.MlpOutDxIdeal.nD Cert.MlpOutDxIdeal.τ).loc Cert.MlpOutDxIdeal.main_arg0)
      ∧ m' ((c.tc : Thread Cert.MlpOutDxRefIdeal.nD Cert.MlpOutDxRefIdeal.τ).loc Cert.MlpOutDxRefIdeal.main_arg1) = m ((c.tc : Thread Cert.MlpOutDxIdeal.nD Cert.MlpOutDxIdeal.τ).loc Cert.MlpOutDxIdeal.main_arg1)
      ∧ m' ((c.tc : Thread Cert.MlpOutDxRefIdeal.nD Cert.MlpOutDxRefIdeal.τ).loc Cert.MlpOutDxRefIdeal.main_arg2) = m ((c.tc : Thread Cert.MlpOutDxIdeal.nD Cert.MlpOutDxIdeal.τ).loc Cert.MlpOutDxIdeal.main_arg2)) →
    ∃ (v0 : (c : Dev Cert.MlpOutDxIdeal.nD) → Buf (Elt Ideal) ((c.tc : Thread Cert.MlpOutDxIdeal.nD Cert.MlpOutDxIdeal.τ).loc Cert.MlpOutDxIdeal.main_v4)),
      θ_run (Cert.MlpOutDxIdeal.defs (F := Ideal)) (onTc (τ := Cert.MlpOutDxIdeal.τ) (Cert.MlpOutDxIdeal.main (F := Ideal))) ⟨m, fun _ => 0, g⟩ (fun r => ∀ c : Dev Cert.MlpOutDxIdeal.nD,
          r.2.mem ((c.tc : Thread Cert.MlpOutDxIdeal.nD Cert.MlpOutDxIdeal.τ).loc Cert.MlpOutDxIdeal.main_v4) = v0 c
          ∧ r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
          ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
          ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ θ_run (Cert.MlpOutDxRefIdeal.defs (F := Ideal)) (onTc (τ := Cert.MlpOutDxRefIdeal.τ) (Cert.MlpOutDxRefIdeal.main (F := Ideal))) ⟨m', fun _ => 0, g'⟩ (fun r => ∀ c : Dev Cert.MlpOutDxRefIdeal.nD,
          r.2.mem ((c.tc : Thread Cert.MlpOutDxRefIdeal.nD Cert.MlpOutDxRefIdeal.τ).loc Cert.MlpOutDxRefIdeal.main_v14) = v0 c
          ∧ r.2.mem ((c.tc : Thread Cert.MlpOutDxRefIdeal.nD Cert.MlpOutDxRefIdeal.τ).loc Cert.MlpOutDxRefIdeal.main_arg0) = m' ((c.tc : Thread Cert.MlpOutDxRefIdeal.nD Cert.MlpOutDxRefIdeal.τ).loc Cert.MlpOutDxRefIdeal.main_arg0)
          ∧ r.2.mem ((c.tc : Thread Cert.MlpOutDxRefIdeal.nD Cert.MlpOutDxRefIdeal.τ).loc Cert.MlpOutDxRefIdeal.main_arg1) = m' ((c.tc : Thread Cert.MlpOutDxRefIdeal.nD Cert.MlpOutDxRefIdeal.τ).loc Cert.MlpOutDxRefIdeal.main_arg1)
          ∧ r.2.mem ((c.tc : Thread Cert.MlpOutDxRefIdeal.nD Cert.MlpOutDxRefIdeal.τ).loc Cert.MlpOutDxRefIdeal.main_arg2) = m' ((c.tc : Thread Cert.MlpOutDxRefIdeal.nD Cert.MlpOutDxRefIdeal.τ).loc Cert.MlpOutDxRefIdeal.main_arg2))

def preserves_MlpOutDw_MlpOutDwIdeal : Prop :=
  True

def algebraic_MlpOutDwIdeal_MlpOutDwRefIdeal [hMlpOutDwIdeal : Cert.MlpOutDwIdeal.Facts] [hMlpOutDwRefIdeal : Cert.MlpOutDwRefIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg)
    (m' : (ℓ : Loc Cert.MlpOutDwRefIdeal.nD Cert.MlpOutDwRefIdeal.τ Cert.MlpOutDwRefIdeal.sig) → Buf (Elt Ideal) ℓ) (g' : Dev Cert.MlpOutDwRefIdeal.nD → PrngReg), Pre_MlpOutDwIdeal m →
    (∀ c : Dev Cert.MlpOutDwIdeal.nD,
      m' ((c.tc : Thread Cert.MlpOutDwRefIdeal.nD Cert.MlpOutDwRefIdeal.τ).loc Cert.MlpOutDwRefIdeal.main_arg0) = m ((c.tc : Thread Cert.MlpOutDwIdeal.nD Cert.MlpOutDwIdeal.τ).loc Cert.MlpOutDwIdeal.main_arg0)
      ∧ m' ((c.tc : Thread Cert.MlpOutDwRefIdeal.nD Cert.MlpOutDwRefIdeal.τ).loc Cert.MlpOutDwRefIdeal.main_arg1) = m ((c.tc : Thread Cert.MlpOutDwIdeal.nD Cert.MlpOutDwIdeal.τ).loc Cert.MlpOutDwIdeal.main_arg1)) →
    ∃ (v0 : (c : Dev Cert.MlpOutDwIdeal.nD) → Buf (Elt Ideal) ((c.tc : Thread Cert.MlpOutDwIdeal.nD Cert.MlpOutDwIdeal.τ).loc Cert.MlpOutDwIdeal.main_v4)),
      θ_run (Cert.MlpOutDwIdeal.defs (F := Ideal)) (onTc (τ := Cert.MlpOutDwIdeal.τ) (Cert.MlpOutDwIdeal.main (F := Ideal))) ⟨m, fun _ => 0, g⟩ (fun r => ∀ c : Dev Cert.MlpOutDwIdeal.nD,
          r.2.mem ((c.tc : Thread Cert.MlpOutDwIdeal.nD Cert.MlpOutDwIdeal.τ).loc Cert.MlpOutDwIdeal.main_v4) = v0 c
          ∧ r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
          ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ θ_run (Cert.MlpOutDwRefIdeal.defs (F := Ideal)) (onTc (τ := Cert.MlpOutDwRefIdeal.τ) (Cert.MlpOutDwRefIdeal.main (F := Ideal))) ⟨m', fun _ => 0, g'⟩ (fun r => ∀ c : Dev Cert.MlpOutDwRefIdeal.nD,
          r.2.mem ((c.tc : Thread Cert.MlpOutDwRefIdeal.nD Cert.MlpOutDwRefIdeal.τ).loc Cert.MlpOutDwRefIdeal.main_v7) = v0 c
          ∧ r.2.mem ((c.tc : Thread Cert.MlpOutDwRefIdeal.nD Cert.MlpOutDwRefIdeal.τ).loc Cert.MlpOutDwRefIdeal.main_arg0) = m' ((c.tc : Thread Cert.MlpOutDwRefIdeal.nD Cert.MlpOutDwRefIdeal.τ).loc Cert.MlpOutDwRefIdeal.main_arg0)
          ∧ r.2.mem ((c.tc : Thread Cert.MlpOutDwRefIdeal.nD Cert.MlpOutDwRefIdeal.τ).loc Cert.MlpOutDwRefIdeal.main_arg1) = m' ((c.tc : Thread Cert.MlpOutDwRefIdeal.nD Cert.MlpOutDwRefIdeal.τ).loc Cert.MlpOutDwRefIdeal.main_arg1))

def preserves_MlpInDw_MlpInDwIdeal : Prop :=
  True

def algebraic_MlpInDwIdeal_MlpInDwRefIdeal [hMlpInDwIdeal : Cert.MlpInDwIdeal.Facts] [hMlpInDwRefIdeal : Cert.MlpInDwRefIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg)
    (m' : (ℓ : Loc Cert.MlpInDwRefIdeal.nD Cert.MlpInDwRefIdeal.τ Cert.MlpInDwRefIdeal.sig) → Buf (Elt Ideal) ℓ) (g' : Dev Cert.MlpInDwRefIdeal.nD → PrngReg), Pre_MlpInDwIdeal m →
    (∀ c : Dev Cert.MlpInDwIdeal.nD,
      m' ((c.tc : Thread Cert.MlpInDwRefIdeal.nD Cert.MlpInDwRefIdeal.τ).loc Cert.MlpInDwRefIdeal.main_arg0) = m ((c.tc : Thread Cert.MlpInDwIdeal.nD Cert.MlpInDwIdeal.τ).loc Cert.MlpInDwIdeal.main_arg0)
      ∧ m' ((c.tc : Thread Cert.MlpInDwRefIdeal.nD Cert.MlpInDwRefIdeal.τ).loc Cert.MlpInDwRefIdeal.main_arg1) = m ((c.tc : Thread Cert.MlpInDwIdeal.nD Cert.MlpInDwIdeal.τ).loc Cert.MlpInDwIdeal.main_arg1)) →
    ∃ (v0 : (c : Dev Cert.MlpInDwIdeal.nD) → Buf (Elt Ideal) ((c.tc : Thread Cert.MlpInDwIdeal.nD Cert.MlpInDwIdeal.τ).loc Cert.MlpInDwIdeal.main_v0)),
      θ_run (Cert.MlpInDwIdeal.defs (F := Ideal)) (onTc (τ := Cert.MlpInDwIdeal.τ) (Cert.MlpInDwIdeal.main (F := Ideal))) ⟨m, fun _ => 0, g⟩ (fun r => ∀ c : Dev Cert.MlpInDwIdeal.nD,
          r.2.mem ((c.tc : Thread Cert.MlpInDwIdeal.nD Cert.MlpInDwIdeal.τ).loc Cert.MlpInDwIdeal.main_v0) = v0 c
          ∧ r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
          ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ θ_run (Cert.MlpInDwRefIdeal.defs (F := Ideal)) (onTc (τ := Cert.MlpInDwRefIdeal.τ) (Cert.MlpInDwRefIdeal.main (F := Ideal))) ⟨m', fun _ => 0, g'⟩ (fun r => ∀ c : Dev Cert.MlpInDwRefIdeal.nD,
          r.2.mem ((c.tc : Thread Cert.MlpInDwRefIdeal.nD Cert.MlpInDwRefIdeal.τ).loc Cert.MlpInDwRefIdeal.main_v15) = v0 c
          ∧ r.2.mem ((c.tc : Thread Cert.MlpInDwRefIdeal.nD Cert.MlpInDwRefIdeal.τ).loc Cert.MlpInDwRefIdeal.main_arg0) = m' ((c.tc : Thread Cert.MlpInDwRefIdeal.nD Cert.MlpInDwRefIdeal.τ).loc Cert.MlpInDwRefIdeal.main_arg0)
          ∧ r.2.mem ((c.tc : Thread Cert.MlpInDwRefIdeal.nD Cert.MlpInDwRefIdeal.τ).loc Cert.MlpInDwRefIdeal.main_arg1) = m' ((c.tc : Thread Cert.MlpInDwRefIdeal.nD Cert.MlpInDwRefIdeal.τ).loc Cert.MlpInDwRefIdeal.main_arg1))

def preserves_MlpInDx_MlpInDxIdeal : Prop :=
  True

def algebraic_MlpInDxIdeal_MlpInDxRefIdeal [hMlpInDxIdeal : Cert.MlpInDxIdeal.Facts] [hMlpInDxRefIdeal : Cert.MlpInDxRefIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg)
    (m' : (ℓ : Loc Cert.MlpInDxRefIdeal.nD Cert.MlpInDxRefIdeal.τ Cert.MlpInDxRefIdeal.sig) → Buf (Elt Ideal) ℓ) (g' : Dev Cert.MlpInDxRefIdeal.nD → PrngReg), Pre_MlpInDxIdeal m →
    (∀ c : Dev Cert.MlpInDxIdeal.nD,
      m' ((c.tc : Thread Cert.MlpInDxRefIdeal.nD Cert.MlpInDxRefIdeal.τ).loc Cert.MlpInDxRefIdeal.main_arg0) = m ((c.tc : Thread Cert.MlpInDxIdeal.nD Cert.MlpInDxIdeal.τ).loc Cert.MlpInDxIdeal.main_arg0)
      ∧ m' ((c.tc : Thread Cert.MlpInDxRefIdeal.nD Cert.MlpInDxRefIdeal.τ).loc Cert.MlpInDxRefIdeal.main_arg1) = m ((c.tc : Thread Cert.MlpInDxIdeal.nD Cert.MlpInDxIdeal.τ).loc Cert.MlpInDxIdeal.main_arg1)
      ∧ m' ((c.tc : Thread Cert.MlpInDxRefIdeal.nD Cert.MlpInDxRefIdeal.τ).loc Cert.MlpInDxRefIdeal.main_arg2) = m ((c.tc : Thread Cert.MlpInDxIdeal.nD Cert.MlpInDxIdeal.τ).loc Cert.MlpInDxIdeal.main_arg2)) →
    ∃ (v0 : (c : Dev Cert.MlpInDxIdeal.nD) → Buf (Elt Ideal) ((c.tc : Thread Cert.MlpInDxIdeal.nD Cert.MlpInDxIdeal.τ).loc Cert.MlpInDxIdeal.main_v0)),
      θ_run (Cert.MlpInDxIdeal.defs (F := Ideal)) (onTc (τ := Cert.MlpInDxIdeal.τ) (Cert.MlpInDxIdeal.main (F := Ideal))) ⟨m, fun _ => 0, g⟩ (fun r => ∀ c : Dev Cert.MlpInDxIdeal.nD,
          r.2.mem ((c.tc : Thread Cert.MlpInDxIdeal.nD Cert.MlpInDxIdeal.τ).loc Cert.MlpInDxIdeal.main_v0) = v0 c
          ∧ r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
          ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1)
          ∧ r.2.mem ((c.tc : Thread Cert.MlpInDxIdeal.nD Cert.MlpInDxIdeal.τ).loc Cert.MlpInDxIdeal.main_arg2) = m ((c.tc : Thread Cert.MlpInDxIdeal.nD Cert.MlpInDxIdeal.τ).loc Cert.MlpInDxIdeal.main_arg2))
      ∧ θ_run (Cert.MlpInDxRefIdeal.defs (F := Ideal)) (onTc (τ := Cert.MlpInDxRefIdeal.τ) (Cert.MlpInDxRefIdeal.main (F := Ideal))) ⟨m', fun _ => 0, g'⟩ (fun r => ∀ c : Dev Cert.MlpInDxRefIdeal.nD,
          r.2.mem ((c.tc : Thread Cert.MlpInDxRefIdeal.nD Cert.MlpInDxRefIdeal.τ).loc Cert.MlpInDxRefIdeal.main_v13) = v0 c
          ∧ r.2.mem ((c.tc : Thread Cert.MlpInDxRefIdeal.nD Cert.MlpInDxRefIdeal.τ).loc Cert.MlpInDxRefIdeal.main_arg0) = m' ((c.tc : Thread Cert.MlpInDxRefIdeal.nD Cert.MlpInDxRefIdeal.τ).loc Cert.MlpInDxRefIdeal.main_arg0)
          ∧ r.2.mem ((c.tc : Thread Cert.MlpInDxRefIdeal.nD Cert.MlpInDxRefIdeal.τ).loc Cert.MlpInDxRefIdeal.main_arg1) = m' ((c.tc : Thread Cert.MlpInDxRefIdeal.nD Cert.MlpInDxRefIdeal.τ).loc Cert.MlpInDxRefIdeal.main_arg1)
          ∧ r.2.mem ((c.tc : Thread Cert.MlpInDxRefIdeal.nD Cert.MlpInDxRefIdeal.τ).loc Cert.MlpInDxRefIdeal.main_arg2) = m' ((c.tc : Thread Cert.MlpInDxRefIdeal.nD Cert.MlpInDxRefIdeal.τ).loc Cert.MlpInDxRefIdeal.main_arg2))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v4) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v6) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v6) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v4) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2))

def preserves_InProjQkv_InProjQkvIdeal : Prop :=
  True

def algebraic_InProjQkvIdeal_InProjQkvRefIdeal [hInProjQkvIdeal : Cert.InProjQkvIdeal.Facts] [hInProjQkvRefIdeal : Cert.InProjQkvRefIdeal.Facts] : Prop :=
  ∀ (m : (ℓ : Loc Cert.InProjQkvIdeal.nD Cert.InProjQkvIdeal.τ Cert.InProjQkvIdeal.sig) → Buf (Elt Ideal) ℓ) (g : Dev Cert.InProjQkvIdeal.nD → PrngReg)
    (m' : (ℓ : Loc Cert.InProjQkvRefIdeal.nD Cert.InProjQkvRefIdeal.τ Cert.InProjQkvRefIdeal.sig) → Buf (Elt Ideal) ℓ) (g' : Dev Cert.InProjQkvRefIdeal.nD → PrngReg), Pre_InProjQkvIdeal m →
    (∀ c : Dev Cert.InProjQkvIdeal.nD,
      m' ((c.tc : Thread Cert.InProjQkvRefIdeal.nD Cert.InProjQkvRefIdeal.τ).loc Cert.InProjQkvRefIdeal.main_arg0) = m ((c.tc : Thread Cert.InProjQkvIdeal.nD Cert.InProjQkvIdeal.τ).loc Cert.InProjQkvIdeal.main_arg0)
      ∧ m' ((c.tc : Thread Cert.InProjQkvRefIdeal.nD Cert.InProjQkvRefIdeal.τ).loc Cert.InProjQkvRefIdeal.main_arg1) = m ((c.tc : Thread Cert.InProjQkvIdeal.nD Cert.InProjQkvIdeal.τ).loc Cert.InProjQkvIdeal.main_arg1)) →
    ∃ (v0 : (c : Dev Cert.InProjQkvIdeal.nD) → Buf (Elt Ideal) ((c.tc : Thread Cert.InProjQkvIdeal.nD Cert.InProjQkvIdeal.τ).loc Cert.InProjQkvIdeal.main_v0)),
      θ_run (Cert.InProjQkvIdeal.defs (F := Ideal)) (onTc (τ := Cert.InProjQkvIdeal.τ) (Cert.InProjQkvIdeal.main (F := Ideal))) ⟨m, fun _ => 0, g⟩ (fun r => ∀ c : Dev Cert.InProjQkvIdeal.nD,
          r.2.mem ((c.tc : Thread Cert.InProjQkvIdeal.nD Cert.InProjQkvIdeal.τ).loc Cert.InProjQkvIdeal.main_v0) = v0 c
          ∧ r.2.mem ((c.tc : Thread Cert.InProjQkvIdeal.nD Cert.InProjQkvIdeal.τ).loc Cert.InProjQkvIdeal.main_arg0) = m ((c.tc : Thread Cert.InProjQkvIdeal.nD Cert.InProjQkvIdeal.τ).loc Cert.InProjQkvIdeal.main_arg0)
          ∧ r.2.mem ((c.tc : Thread Cert.InProjQkvIdeal.nD Cert.InProjQkvIdeal.τ).loc Cert.InProjQkvIdeal.main_arg1) = m ((c.tc : Thread Cert.InProjQkvIdeal.nD Cert.InProjQkvIdeal.τ).loc Cert.InProjQkvIdeal.main_arg1))
      ∧ θ_run (Cert.InProjQkvRefIdeal.defs (F := Ideal)) (onTc (τ := Cert.InProjQkvRefIdeal.τ) (Cert.InProjQkvRefIdeal.main (F := Ideal))) ⟨m', fun _ => 0, g'⟩ (fun r => ∀ c : Dev Cert.InProjQkvRefIdeal.nD,
          r.2.mem ((c.tc : Thread Cert.InProjQkvRefIdeal.nD Cert.InProjQkvRefIdeal.τ).loc Cert.InProjQkvRefIdeal.main_v4) = v0 c
          ∧ r.2.mem ((c.tc : Thread Cert.InProjQkvRefIdeal.nD Cert.InProjQkvRefIdeal.τ).loc Cert.InProjQkvRefIdeal.main_arg0) = m' ((c.tc : Thread Cert.InProjQkvRefIdeal.nD Cert.InProjQkvRefIdeal.τ).loc Cert.InProjQkvRefIdeal.main_arg0)
          ∧ r.2.mem ((c.tc : Thread Cert.InProjQkvRefIdeal.nD Cert.InProjQkvRefIdeal.τ).loc Cert.InProjQkvRefIdeal.main_arg1) = m' ((c.tc : Thread Cert.InProjQkvRefIdeal.nD Cert.InProjQkvRefIdeal.τ).loc Cert.InProjQkvRefIdeal.main_arg1))

def preserves_InProjXbc_InProjXbcIdeal : Prop :=
  True

def algebraic_InProjXbcIdeal_InProjXbcRefIdeal [hInProjXbcIdeal : Cert.InProjXbcIdeal.Facts] [hInProjXbcRefIdeal : Cert.InProjXbcRefIdeal.Facts] : Prop :=
  ∀ (m : (ℓ : Loc Cert.InProjXbcIdeal.nD Cert.InProjXbcIdeal.τ Cert.InProjXbcIdeal.sig) → Buf (Elt Ideal) ℓ) (g : Dev Cert.InProjXbcIdeal.nD → PrngReg)
    (m' : (ℓ : Loc Cert.InProjXbcRefIdeal.nD Cert.InProjXbcRefIdeal.τ Cert.InProjXbcRefIdeal.sig) → Buf (Elt Ideal) ℓ) (g' : Dev Cert.InProjXbcRefIdeal.nD → PrngReg), Pre_InProjXbcIdeal m →
    (∀ c : Dev Cert.InProjXbcIdeal.nD,
      m' ((c.tc : Thread Cert.InProjXbcRefIdeal.nD Cert.InProjXbcRefIdeal.τ).loc Cert.InProjXbcRefIdeal.main_arg0) = m ((c.tc : Thread Cert.InProjXbcIdeal.nD Cert.InProjXbcIdeal.τ).loc Cert.InProjXbcIdeal.main_arg0)
      ∧ m' ((c.tc : Thread Cert.InProjXbcRefIdeal.nD Cert.InProjXbcRefIdeal.τ).loc Cert.InProjXbcRefIdeal.main_arg1) = m ((c.tc : Thread Cert.InProjXbcIdeal.nD Cert.InProjXbcIdeal.τ).loc Cert.InProjXbcIdeal.main_arg1)) →
    ∃ (v0 : (c : Dev Cert.InProjXbcIdeal.nD) → Buf (Elt Ideal) ((c.tc : Thread Cert.InProjXbcIdeal.nD Cert.InProjXbcIdeal.τ).loc Cert.InProjXbcIdeal.main_v0)),
      θ_run (Cert.InProjXbcIdeal.defs (F := Ideal)) (onTc (τ := Cert.InProjXbcIdeal.τ) (Cert.InProjXbcIdeal.main (F := Ideal))) ⟨m, fun _ => 0, g⟩ (fun r => ∀ c : Dev Cert.InProjXbcIdeal.nD,
          r.2.mem ((c.tc : Thread Cert.InProjXbcIdeal.nD Cert.InProjXbcIdeal.τ).loc Cert.InProjXbcIdeal.main_v0) = v0 c
          ∧ r.2.mem ((c.tc : Thread Cert.InProjXbcIdeal.nD Cert.InProjXbcIdeal.τ).loc Cert.InProjXbcIdeal.main_arg0) = m ((c.tc : Thread Cert.InProjXbcIdeal.nD Cert.InProjXbcIdeal.τ).loc Cert.InProjXbcIdeal.main_arg0)
          ∧ r.2.mem ((c.tc : Thread Cert.InProjXbcIdeal.nD Cert.InProjXbcIdeal.τ).loc Cert.InProjXbcIdeal.main_arg1) = m ((c.tc : Thread Cert.InProjXbcIdeal.nD Cert.InProjXbcIdeal.τ).loc Cert.InProjXbcIdeal.main_arg1))
      ∧ θ_run (Cert.InProjXbcRefIdeal.defs (F := Ideal)) (onTc (τ := Cert.InProjXbcRefIdeal.τ) (Cert.InProjXbcRefIdeal.main (F := Ideal))) ⟨m', fun _ => 0, g'⟩ (fun r => ∀ c : Dev Cert.InProjXbcRefIdeal.nD,
          r.2.mem ((c.tc : Thread Cert.InProjXbcRefIdeal.nD Cert.InProjXbcRefIdeal.τ).loc Cert.InProjXbcRefIdeal.main_v3) = v0 c
          ∧ r.2.mem ((c.tc : Thread Cert.InProjXbcRefIdeal.nD Cert.InProjXbcRefIdeal.τ).loc Cert.InProjXbcRefIdeal.main_arg0) = m' ((c.tc : Thread Cert.InProjXbcRefIdeal.nD Cert.InProjXbcRefIdeal.τ).loc Cert.InProjXbcRefIdeal.main_arg0)
          ∧ r.2.mem ((c.tc : Thread Cert.InProjXbcRefIdeal.nD Cert.InProjXbcRefIdeal.τ).loc Cert.InProjXbcRefIdeal.main_arg1) = m' ((c.tc : Thread Cert.InProjXbcRefIdeal.nD Cert.InProjXbcRefIdeal.τ).loc Cert.InProjXbcRefIdeal.main_arg1))

def preserves_InProjZdt_InProjZdtIdeal : Prop :=
  True

def algebraic_InProjZdtIdeal_InProjZdtRefIdeal [hInProjZdtIdeal : Cert.InProjZdtIdeal.Facts] [hInProjZdtRefIdeal : Cert.InProjZdtRefIdeal.Facts] : Prop :=
  ∀ (m : (ℓ : Loc Cert.InProjZdtIdeal.nD Cert.InProjZdtIdeal.τ Cert.InProjZdtIdeal.sig) → Buf (Elt Ideal) ℓ) (g : Dev Cert.InProjZdtIdeal.nD → PrngReg)
    (m' : (ℓ : Loc Cert.InProjZdtRefIdeal.nD Cert.InProjZdtRefIdeal.τ Cert.InProjZdtRefIdeal.sig) → Buf (Elt Ideal) ℓ) (g' : Dev Cert.InProjZdtRefIdeal.nD → PrngReg), Pre_InProjZdtIdeal m →
    (∀ c : Dev Cert.InProjZdtIdeal.nD,
      m' ((c.tc : Thread Cert.InProjZdtRefIdeal.nD Cert.InProjZdtRefIdeal.τ).loc Cert.InProjZdtRefIdeal.main_arg0) = m ((c.tc : Thread Cert.InProjZdtIdeal.nD Cert.InProjZdtIdeal.τ).loc Cert.InProjZdtIdeal.main_arg0)
      ∧ m' ((c.tc : Thread Cert.InProjZdtRefIdeal.nD Cert.InProjZdtRefIdeal.τ).loc Cert.InProjZdtRefIdeal.main_arg1) = m ((c.tc : Thread Cert.InProjZdtIdeal.nD Cert.InProjZdtIdeal.τ).loc Cert.InProjZdtIdeal.main_arg1)) →
    ∃ (v0 : (c : Dev Cert.InProjZdtIdeal.nD) → Buf (Elt Ideal) ((c.tc : Thread Cert.InProjZdtIdeal.nD Cert.InProjZdtIdeal.τ).loc Cert.InProjZdtIdeal.main_v0)),
      θ_run (Cert.InProjZdtIdeal.defs (F := Ideal)) (onTc (τ := Cert.InProjZdtIdeal.τ) (Cert.InProjZdtIdeal.main (F := Ideal))) ⟨m, fun _ => 0, g⟩ (fun r => ∀ c : Dev Cert.InProjZdtIdeal.nD,
          r.2.mem ((c.tc : Thread Cert.InProjZdtIdeal.nD Cert.InProjZdtIdeal.τ).loc Cert.InProjZdtIdeal.main_v0) = v0 c
          ∧ r.2.mem ((c.tc : Thread Cert.InProjZdtIdeal.nD Cert.InProjZdtIdeal.τ).loc Cert.InProjZdtIdeal.main_arg0) = m ((c.tc : Thread Cert.InProjZdtIdeal.nD Cert.InProjZdtIdeal.τ).loc Cert.InProjZdtIdeal.main_arg0)
          ∧ r.2.mem ((c.tc : Thread Cert.InProjZdtIdeal.nD Cert.InProjZdtIdeal.τ).loc Cert.InProjZdtIdeal.main_arg1) = m ((c.tc : Thread Cert.InProjZdtIdeal.nD Cert.InProjZdtIdeal.τ).loc Cert.InProjZdtIdeal.main_arg1))
      ∧ θ_run (Cert.InProjZdtRefIdeal.defs (F := Ideal)) (onTc (τ := Cert.InProjZdtRefIdeal.τ) (Cert.InProjZdtRefIdeal.main (F := Ideal))) ⟨m', fun _ => 0, g'⟩ (fun r => ∀ c : Dev Cert.InProjZdtRefIdeal.nD,
          r.2.mem ((c.tc : Thread Cert.InProjZdtRefIdeal.nD Cert.InProjZdtRefIdeal.τ).loc Cert.InProjZdtRefIdeal.main_v3) = v0 c
          ∧ r.2.mem ((c.tc : Thread Cert.InProjZdtRefIdeal.nD Cert.InProjZdtRefIdeal.τ).loc Cert.InProjZdtRefIdeal.main_arg0) = m' ((c.tc : Thread Cert.InProjZdtRefIdeal.nD Cert.InProjZdtRefIdeal.τ).loc Cert.InProjZdtRefIdeal.main_arg0)
          ∧ r.2.mem ((c.tc : Thread Cert.InProjZdtRefIdeal.nD Cert.InProjZdtRefIdeal.τ).loc Cert.InProjZdtRefIdeal.main_arg1) = m' ((c.tc : Thread Cert.InProjZdtRefIdeal.nD Cert.InProjZdtRefIdeal.τ).loc Cert.InProjZdtRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0) = v0 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v14) = v0 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v3) = v0 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2))

def preserves_ConvBwdIn_ConvBwdInIdeal : Prop :=
  True

def algebraic_ConvBwdInIdeal_ConvBwdInRefIdeal [hConvBwdInIdeal : Cert.ConvBwdInIdeal.Facts] [hConvBwdInRefIdeal : Cert.ConvBwdInRefIdeal.Facts] : Prop :=
  ∀ (m : (ℓ : Loc Cert.ConvBwdInIdeal.nD Cert.ConvBwdInIdeal.τ Cert.ConvBwdInIdeal.sig) → Buf (Elt Ideal) ℓ) (g : Dev Cert.ConvBwdInIdeal.nD → PrngReg)
    (m' : (ℓ : Loc Cert.ConvBwdInRefIdeal.nD Cert.ConvBwdInRefIdeal.τ Cert.ConvBwdInRefIdeal.sig) → Buf (Elt Ideal) ℓ) (g' : Dev Cert.ConvBwdInRefIdeal.nD → PrngReg), Pre_ConvBwdInIdeal m →
    (∀ c : Dev Cert.ConvBwdInIdeal.nD,
      m' ((c.tc : Thread Cert.ConvBwdInRefIdeal.nD Cert.ConvBwdInRefIdeal.τ).loc Cert.ConvBwdInRefIdeal.main_arg0) = m ((c.tc : Thread Cert.ConvBwdInIdeal.nD Cert.ConvBwdInIdeal.τ).loc Cert.ConvBwdInIdeal.main_arg0)
      ∧ m' ((c.tc : Thread Cert.ConvBwdInRefIdeal.nD Cert.ConvBwdInRefIdeal.τ).loc Cert.ConvBwdInRefIdeal.main_arg1) = m ((c.tc : Thread Cert.ConvBwdInIdeal.nD Cert.ConvBwdInIdeal.τ).loc Cert.ConvBwdInIdeal.main_arg1)
      ∧ m' ((c.tc : Thread Cert.ConvBwdInRefIdeal.nD Cert.ConvBwdInRefIdeal.τ).loc Cert.ConvBwdInRefIdeal.main_arg2) = m ((c.tc : Thread Cert.ConvBwdInIdeal.nD Cert.ConvBwdInIdeal.τ).loc Cert.ConvBwdInIdeal.main_arg2)) →
    ∃ (v0 : (c : Dev Cert.ConvBwdInIdeal.nD) → Buf (Elt Ideal) ((c.tc : Thread Cert.ConvBwdInIdeal.nD Cert.ConvBwdInIdeal.τ).loc Cert.ConvBwdInIdeal.main_v0)),
      θ_run (Cert.ConvBwdInIdeal.defs (F := Ideal)) (onTc (τ := Cert.ConvBwdInIdeal.τ) (Cert.ConvBwdInIdeal.main (F := Ideal))) ⟨m, fun _ => 0, g⟩ (fun r => ∀ c : Dev Cert.ConvBwdInIdeal.nD,
          r.2.mem ((c.tc : Thread Cert.ConvBwdInIdeal.nD Cert.ConvBwdInIdeal.τ).loc Cert.ConvBwdInIdeal.main_v0) = v0 c
          ∧ r.2.mem ((c.tc : Thread Cert.ConvBwdInIdeal.nD Cert.ConvBwdInIdeal.τ).loc Cert.ConvBwdInIdeal.main_arg0) = m ((c.tc : Thread Cert.ConvBwdInIdeal.nD Cert.ConvBwdInIdeal.τ).loc Cert.ConvBwdInIdeal.main_arg0)
          ∧ r.2.mem ((c.tc : Thread Cert.ConvBwdInIdeal.nD Cert.ConvBwdInIdeal.τ).loc Cert.ConvBwdInIdeal.main_arg1) = m ((c.tc : Thread Cert.ConvBwdInIdeal.nD Cert.ConvBwdInIdeal.τ).loc Cert.ConvBwdInIdeal.main_arg1)
          ∧ r.2.mem ((c.tc : Thread Cert.ConvBwdInIdeal.nD Cert.ConvBwdInIdeal.τ).loc Cert.ConvBwdInIdeal.main_arg2) = m ((c.tc : Thread Cert.ConvBwdInIdeal.nD Cert.ConvBwdInIdeal.τ).loc Cert.ConvBwdInIdeal.main_arg2))
      ∧ θ_run (Cert.ConvBwdInRefIdeal.defs (F := Ideal)) (onTc (τ := Cert.ConvBwdInRefIdeal.τ) (Cert.ConvBwdInRefIdeal.main (F := Ideal))) ⟨m', fun _ => 0, g'⟩ (fun r => ∀ c : Dev Cert.ConvBwdInRefIdeal.nD,
          r.2.mem ((c.tc : Thread Cert.ConvBwdInRefIdeal.nD Cert.ConvBwdInRefIdeal.τ).loc Cert.ConvBwdInRefIdeal.main_v65) = v0 c
          ∧ r.2.mem ((c.tc : Thread Cert.ConvBwdInRefIdeal.nD Cert.ConvBwdInRefIdeal.τ).loc Cert.ConvBwdInRefIdeal.main_arg0) = m' ((c.tc : Thread Cert.ConvBwdInRefIdeal.nD Cert.ConvBwdInRefIdeal.τ).loc Cert.ConvBwdInRefIdeal.main_arg0)
          ∧ r.2.mem ((c.tc : Thread Cert.ConvBwdInRefIdeal.nD Cert.ConvBwdInRefIdeal.τ).loc Cert.ConvBwdInRefIdeal.main_arg1) = m' ((c.tc : Thread Cert.ConvBwdInRefIdeal.nD Cert.ConvBwdInRefIdeal.τ).loc Cert.ConvBwdInRefIdeal.main_arg1)
          ∧ r.2.mem ((c.tc : Thread Cert.ConvBwdInRefIdeal.nD Cert.ConvBwdInRefIdeal.τ).loc Cert.ConvBwdInRefIdeal.main_arg2) = m' ((c.tc : Thread Cert.ConvBwdInRefIdeal.nD Cert.ConvBwdInRefIdeal.τ).loc Cert.ConvBwdInRefIdeal.main_arg2))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v36) = v0 c
          ∧ r.2.mem ((c.tc : Thread Cert.LnBwdRefIdeal.nD Cert.LnBwdRefIdeal.τ).loc Cert.LnBwdRefIdeal.main_v38) = v1 c
          ∧ r.2.mem ((c.tc : Thread Cert.LnBwdRefIdeal.nD Cert.LnBwdRefIdeal.τ).loc Cert.LnBwdRefIdeal.main_v21) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_ConvBwdPre_ConvBwdPreIdeal : Prop :=
  True

def algebraic_ConvBwdPreIdeal_ConvBwdPreRefIdeal_pre_finite [hConvBwdPreIdeal : Cert.ConvBwdPreIdeal.Facts] [hConvBwdPreRefIdeal : Cert.ConvBwdPreRefIdeal.Facts] [hPre_finite : Cert.Pre_finite.Facts] : Prop :=
  ∀ (m : (ℓ : Loc Cert.ConvBwdPreIdeal.nD Cert.ConvBwdPreIdeal.τ Cert.ConvBwdPreIdeal.sig) → Buf (Elt Ideal) ℓ) (g : Dev Cert.ConvBwdPreIdeal.nD → PrngReg)
    (m' : (ℓ : Loc Cert.ConvBwdPreRefIdeal.nD Cert.ConvBwdPreRefIdeal.τ Cert.ConvBwdPreRefIdeal.sig) → Buf (Elt Ideal) ℓ) (g' : Dev Cert.ConvBwdPreRefIdeal.nD → PrngReg), Pre_ConvBwdPreIdeal_finite m →
    (∀ c : Dev Cert.ConvBwdPreIdeal.nD,
      m' ((c.tc : Thread Cert.ConvBwdPreRefIdeal.nD Cert.ConvBwdPreRefIdeal.τ).loc Cert.ConvBwdPreRefIdeal.main_arg0) = m ((c.tc : Thread Cert.ConvBwdPreIdeal.nD Cert.ConvBwdPreIdeal.τ).loc Cert.ConvBwdPreIdeal.main_arg0)
      ∧ m' ((c.tc : Thread Cert.ConvBwdPreRefIdeal.nD Cert.ConvBwdPreRefIdeal.τ).loc Cert.ConvBwdPreRefIdeal.main_arg1) = m ((c.tc : Thread Cert.ConvBwdPreIdeal.nD Cert.ConvBwdPreIdeal.τ).loc Cert.ConvBwdPreIdeal.main_arg1)
      ∧ m' ((c.tc : Thread Cert.ConvBwdPreRefIdeal.nD Cert.ConvBwdPreRefIdeal.τ).loc Cert.ConvBwdPreRefIdeal.main_arg2) = m ((c.tc : Thread Cert.ConvBwdPreIdeal.nD Cert.ConvBwdPreIdeal.τ).loc Cert.ConvBwdPreIdeal.main_arg2)
      ∧ m' ((c.tc : Thread Cert.ConvBwdPreRefIdeal.nD Cert.ConvBwdPreRefIdeal.τ).loc Cert.ConvBwdPreRefIdeal.main_arg3) = m ((c.tc : Thread Cert.ConvBwdPreIdeal.nD Cert.ConvBwdPreIdeal.τ).loc Cert.ConvBwdPreIdeal.main_arg3)
      ∧ m' ((c.tc : Thread Cert.ConvBwdPreRefIdeal.nD Cert.ConvBwdPreRefIdeal.τ).loc Cert.ConvBwdPreRefIdeal.main_arg4) = m ((c.tc : Thread Cert.ConvBwdPreIdeal.nD Cert.ConvBwdPreIdeal.τ).loc Cert.ConvBwdPreIdeal.main_arg4)
      ∧ m' ((c.tc : Thread Cert.ConvBwdPreRefIdeal.nD Cert.ConvBwdPreRefIdeal.τ).loc Cert.ConvBwdPreRefIdeal.main_arg5) = m ((c.tc : Thread Cert.ConvBwdPreIdeal.nD Cert.ConvBwdPreIdeal.τ).loc Cert.ConvBwdPreIdeal.main_arg5)) →
    ∃ (v0 : (c : Dev Cert.ConvBwdPreIdeal.nD) → Buf (Elt Ideal) ((c.tc : Thread Cert.ConvBwdPreIdeal.nD Cert.ConvBwdPreIdeal.τ).loc Cert.ConvBwdPreIdeal.main_v1_0)) (v1 : (c : Dev Cert.ConvBwdPreIdeal.nD) → Buf (Elt Ideal) ((c.tc : Thread Cert.ConvBwdPreIdeal.nD Cert.ConvBwdPreIdeal.τ).loc Cert.ConvBwdPreIdeal.main_v10)) (v2 : (c : Dev Cert.ConvBwdPreIdeal.nD) → Buf (Elt Ideal) ((c.tc : Thread Cert.ConvBwdPreIdeal.nD Cert.ConvBwdPreIdeal.τ).loc Cert.ConvBwdPreIdeal.main_v11)),
      θ_run (Cert.ConvBwdPreIdeal.defs (F := Ideal)) (onTc (τ := Cert.ConvBwdPreIdeal.τ) (Cert.ConvBwdPreIdeal.main (F := Ideal))) ⟨m, fun _ => 0, g⟩ (fun r => ∀ c : Dev Cert.ConvBwdPreIdeal.nD,
          r.2.mem ((c.tc : Thread Cert.ConvBwdPreIdeal.nD Cert.ConvBwdPreIdeal.τ).loc Cert.ConvBwdPreIdeal.main_v1_0) = v0 c
          ∧ r.2.mem ((c.tc : Thread Cert.ConvBwdPreIdeal.nD Cert.ConvBwdPreIdeal.τ).loc Cert.ConvBwdPreIdeal.main_v10) = v1 c
          ∧ r.2.mem ((c.tc : Thread Cert.ConvBwdPreIdeal.nD Cert.ConvBwdPreIdeal.τ).loc Cert.ConvBwdPreIdeal.main_v11) = v2 c
          ∧ r.2.mem ((c.tc : Thread Cert.ConvBwdPreIdeal.nD Cert.ConvBwdPreIdeal.τ).loc Cert.ConvBwdPreIdeal.main_arg0) = m ((c.tc : Thread Cert.ConvBwdPreIdeal.nD Cert.ConvBwdPreIdeal.τ).loc Cert.ConvBwdPreIdeal.main_arg0)
          ∧ r.2.mem ((c.tc : Thread Cert.ConvBwdPreIdeal.nD Cert.ConvBwdPreIdeal.τ).loc Cert.ConvBwdPreIdeal.main_arg1) = m ((c.tc : Thread Cert.ConvBwdPreIdeal.nD Cert.ConvBwdPreIdeal.τ).loc Cert.ConvBwdPreIdeal.main_arg1)
          ∧ r.2.mem ((c.tc : Thread Cert.ConvBwdPreIdeal.nD Cert.ConvBwdPreIdeal.τ).loc Cert.ConvBwdPreIdeal.main_arg2) = m ((c.tc : Thread Cert.ConvBwdPreIdeal.nD Cert.ConvBwdPreIdeal.τ).loc Cert.ConvBwdPreIdeal.main_arg2)
          ∧ r.2.mem ((c.tc : Thread Cert.ConvBwdPreIdeal.nD Cert.ConvBwdPreIdeal.τ).loc Cert.ConvBwdPreIdeal.main_arg3) = m ((c.tc : Thread Cert.ConvBwdPreIdeal.nD Cert.ConvBwdPreIdeal.τ).loc Cert.ConvBwdPreIdeal.main_arg3)
          ∧ r.2.mem ((c.tc : Thread Cert.ConvBwdPreIdeal.nD Cert.ConvBwdPreIdeal.τ).loc Cert.ConvBwdPreIdeal.main_arg4) = m ((c.tc : Thread Cert.ConvBwdPreIdeal.nD Cert.ConvBwdPreIdeal.τ).loc Cert.ConvBwdPreIdeal.main_arg4)
          ∧ r.2.mem ((c.tc : Thread Cert.ConvBwdPreIdeal.nD Cert.ConvBwdPreIdeal.τ).loc Cert.ConvBwdPreIdeal.main_arg5) = m ((c.tc : Thread Cert.ConvBwdPreIdeal.nD Cert.ConvBwdPreIdeal.τ).loc Cert.ConvBwdPreIdeal.main_arg5))
      ∧ θ_run (Cert.ConvBwdPreRefIdeal.defs (F := Ideal)) (onTc (τ := Cert.ConvBwdPreRefIdeal.τ) (Cert.ConvBwdPreRefIdeal.main (F := Ideal))) ⟨m', fun _ => 0, g'⟩ (fun r => ∀ c : Dev Cert.ConvBwdPreRefIdeal.nD,
          r.2.mem ((c.tc : Thread Cert.ConvBwdPreRefIdeal.nD Cert.ConvBwdPreRefIdeal.τ).loc Cert.ConvBwdPreRefIdeal.main_v38) = v0 c
          ∧ r.2.mem ((c.tc : Thread Cert.ConvBwdPreRefIdeal.nD Cert.ConvBwdPreRefIdeal.τ).loc Cert.ConvBwdPreRefIdeal.main_v68) = v1 c
          ∧ r.2.mem ((c.tc : Thread Cert.ConvBwdPreRefIdeal.nD Cert.ConvBwdPreRefIdeal.τ).loc Cert.ConvBwdPreRefIdeal.main_v41) = v2 c
          ∧ r.2.mem ((c.tc : Thread Cert.ConvBwdPreRefIdeal.nD Cert.ConvBwdPreRefIdeal.τ).loc Cert.ConvBwdPreRefIdeal.main_arg0) = m' ((c.tc : Thread Cert.ConvBwdPreRefIdeal.nD Cert.ConvBwdPreRefIdeal.τ).loc Cert.ConvBwdPreRefIdeal.main_arg0)
          ∧ r.2.mem ((c.tc : Thread Cert.ConvBwdPreRefIdeal.nD Cert.ConvBwdPreRefIdeal.τ).loc Cert.ConvBwdPreRefIdeal.main_arg1) = m' ((c.tc : Thread Cert.ConvBwdPreRefIdeal.nD Cert.ConvBwdPreRefIdeal.τ).loc Cert.ConvBwdPreRefIdeal.main_arg1)
          ∧ r.2.mem ((c.tc : Thread Cert.ConvBwdPreRefIdeal.nD Cert.ConvBwdPreRefIdeal.τ).loc Cert.ConvBwdPreRefIdeal.main_arg2) = m' ((c.tc : Thread Cert.ConvBwdPreRefIdeal.nD Cert.ConvBwdPreRefIdeal.τ).loc Cert.ConvBwdPreRefIdeal.main_arg2)
          ∧ r.2.mem ((c.tc : Thread Cert.ConvBwdPreRefIdeal.nD Cert.ConvBwdPreRefIdeal.τ).loc Cert.ConvBwdPreRefIdeal.main_arg3) = m' ((c.tc : Thread Cert.ConvBwdPreRefIdeal.nD Cert.ConvBwdPreRefIdeal.τ).loc Cert.ConvBwdPreRefIdeal.main_arg3)
          ∧ r.2.mem ((c.tc : Thread Cert.ConvBwdPreRefIdeal.nD Cert.ConvBwdPreRefIdeal.τ).loc Cert.ConvBwdPreRefIdeal.main_arg4) = m' ((c.tc : Thread Cert.ConvBwdPreRefIdeal.nD Cert.ConvBwdPreRefIdeal.τ).loc Cert.ConvBwdPreRefIdeal.main_arg4)
          ∧ r.2.mem ((c.tc : Thread Cert.ConvBwdPreRefIdeal.nD Cert.ConvBwdPreRefIdeal.τ).loc Cert.ConvBwdPreRefIdeal.main_arg5) = m' ((c.tc : Thread Cert.ConvBwdPreRefIdeal.nD Cert.ConvBwdPreRefIdeal.τ).loc Cert.ConvBwdPreRefIdeal.main_arg5))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v2)) (v3 : (c : Dev Cert.LossHeadIdeal.nD) → Buf (Elt Ideal) ((c.tc : Thread Cert.LossHeadIdeal.nD Cert.LossHeadIdeal.τ).loc Cert.LossHeadIdeal.main_v5)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v2) = v2 c
          ∧ r.2.mem ((c.tc : Thread Cert.LossHeadIdeal.nD Cert.LossHeadIdeal.τ).loc Cert.LossHeadIdeal.main_v5) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v36) = v2 c
          ∧ r.2.mem ((c.tc : Thread Cert.LossHeadRefIdeal.nD Cert.LossHeadRefIdeal.τ).loc Cert.LossHeadRefIdeal.main_v24) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_GateBwd_GateBwdIdeal : Prop :=
  True

def algebraic_GateBwdIdeal_GateBwdRefIdeal_pre_bounded [hGateBwdIdeal : Cert.GateBwdIdeal.Facts] [hGateBwdRefIdeal : Cert.GateBwdRefIdeal.Facts] [hPre_bounded : Cert.Pre_bounded.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_bounded m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)
      ∧ m' ((c.tc : Thread Cert.GateBwdRefIdeal.nD Cert.GateBwdRefIdeal.τ).loc Cert.GateBwdRefIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v16_0)) (v1 : (c : Dev Cert.GateBwdIdeal.nD) → Buf (Elt Ideal) ((c.tc : Thread Cert.GateBwdIdeal.nD Cert.GateBwdIdeal.τ).loc Cert.GateBwdIdeal.main_v16_1)) (v2 : (c : Dev Cert.GateBwdIdeal.nD) → Buf (Elt Ideal) ((c.tc : Thread Cert.GateBwdIdeal.nD Cert.GateBwdIdeal.τ).loc Cert.GateBwdIdeal.main_v16_2)) (v3 : (c : Dev Cert.GateBwdIdeal.nD) → Buf (Elt Ideal) ((c.tc : Thread Cert.GateBwdIdeal.nD Cert.GateBwdIdeal.τ).loc Cert.GateBwdIdeal.main_v19)) (v4 : (c : Dev Cert.GateBwdIdeal.nD) → Buf (Elt Ideal) ((c.tc : Thread Cert.GateBwdIdeal.nD Cert.GateBwdIdeal.τ).loc Cert.GateBwdIdeal.main_v20)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v16_0) = v0 c
          ∧ r.2.mem ((c.tc : Thread Cert.GateBwdIdeal.nD Cert.GateBwdIdeal.τ).loc Cert.GateBwdIdeal.main_v16_1) = v1 c
          ∧ r.2.mem ((c.tc : Thread Cert.GateBwdIdeal.nD Cert.GateBwdIdeal.τ).loc Cert.GateBwdIdeal.main_v16_2) = v2 c
          ∧ r.2.mem ((c.tc : Thread Cert.GateBwdIdeal.nD Cert.GateBwdIdeal.τ).loc Cert.GateBwdIdeal.main_v19) = v3 c
          ∧ r.2.mem ((c.tc : Thread Cert.GateBwdIdeal.nD Cert.GateBwdIdeal.τ).loc Cert.GateBwdIdeal.main_v20) = v4 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v68) = v0 c
          ∧ r.2.mem ((c.tc : Thread Cert.GateBwdRefIdeal.nD Cert.GateBwdRefIdeal.τ).loc Cert.GateBwdRefIdeal.main_v66) = v1 c
          ∧ r.2.mem ((c.tc : Thread Cert.GateBwdRefIdeal.nD Cert.GateBwdRefIdeal.τ).loc Cert.GateBwdRefIdeal.main_v69) = v2 c
          ∧ r.2.mem ((c.tc : Thread Cert.GateBwdRefIdeal.nD Cert.GateBwdRefIdeal.τ).loc Cert.GateBwdRefIdeal.main_v67) = v3 c
          ∧ r.2.mem ((c.tc : Thread Cert.GateBwdRefIdeal.nD Cert.GateBwdRefIdeal.τ).loc Cert.GateBwdRefIdeal.main_v53) = v4 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4)
          ∧ r.2.mem ((c.tc : Thread Cert.GateBwdRefIdeal.nD Cert.GateBwdRefIdeal.τ).loc Cert.GateBwdRefIdeal.main_arg5) = m' ((c.tc : Thread Cert.GateBwdRefIdeal.nD Cert.GateBwdRefIdeal.τ).loc Cert.GateBwdRefIdeal.main_arg5))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)) →
    ∃ (v0 : (c : Dev Cert.LnFwdIdeal.nD) → Buf (Elt Ideal) ((c.tc : Thread Cert.LnFwdIdeal.nD Cert.LnFwdIdeal.τ).loc Cert.LnFwdIdeal.main_v1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v1) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v13) = v0 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v3)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v11) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v35) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def Claim : Prop :=
  ∃ (hKernel : Cert.Kernel.Facts) (hKernelIdeal : Cert.KernelIdeal.Facts) (hReferenceIdeal : Cert.ReferenceIdeal.Facts) (hMlpOutDx : Cert.MlpOutDx.Facts) (hMlpOutDxIdeal : Cert.MlpOutDxIdeal.Facts) (hMlpOutDxRefIdeal : Cert.MlpOutDxRefIdeal.Facts) (hMlpOutDw : Cert.MlpOutDw.Facts) (hMlpOutDwIdeal : Cert.MlpOutDwIdeal.Facts) (hMlpOutDwRefIdeal : Cert.MlpOutDwRefIdeal.Facts) (hMlpInDw : Cert.MlpInDw.Facts) (hMlpInDwIdeal : Cert.MlpInDwIdeal.Facts) (hMlpInDwRefIdeal : Cert.MlpInDwRefIdeal.Facts) (hMlpInDx : Cert.MlpInDx.Facts) (hMlpInDxIdeal : Cert.MlpInDxIdeal.Facts) (hMlpInDxRefIdeal : Cert.MlpInDxRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hInProjDw : Cert.InProjDw.Facts) (hInProjDwIdeal : Cert.InProjDwIdeal.Facts) (hInProjDwRefIdeal : Cert.InProjDwRefIdeal.Facts) (hInProjDx : Cert.InProjDx.Facts) (hInProjDxIdeal : Cert.InProjDxIdeal.Facts) (hInProjDxRefIdeal : Cert.InProjDxRefIdeal.Facts) (hInProjQkv : Cert.InProjQkv.Facts) (hInProjQkvIdeal : Cert.InProjQkvIdeal.Facts) (hInProjQkvRefIdeal : Cert.InProjQkvRefIdeal.Facts) (hInProjXbc : Cert.InProjXbc.Facts) (hInProjXbcIdeal : Cert.InProjXbcIdeal.Facts) (hInProjXbcRefIdeal : Cert.InProjXbcRefIdeal.Facts) (hInProjZdt : Cert.InProjZdt.Facts) (hInProjZdtIdeal : Cert.InProjZdtIdeal.Facts) (hInProjZdtRefIdeal : Cert.InProjZdtRefIdeal.Facts) (hOutProj : Cert.OutProj.Facts) (hOutProjIdeal : Cert.OutProjIdeal.Facts) (hOutProjRefIdeal : Cert.OutProjRefIdeal.Facts) (hMlpIn : Cert.MlpIn.Facts) (hMlpInIdeal : Cert.MlpInIdeal.Facts) (hMlpInRefIdeal : Cert.MlpInRefIdeal.Facts) (hMlpOut : Cert.MlpOut.Facts) (hMlpOutIdeal : Cert.MlpOutIdeal.Facts) (hMlpOutRefIdeal : Cert.MlpOutRefIdeal.Facts) (hConvBwdIn : Cert.ConvBwdIn.Facts) (hConvBwdInIdeal : Cert.ConvBwdInIdeal.Facts) (hConvBwdInRefIdeal : Cert.ConvBwdInRefIdeal.Facts) (hLnBwd : Cert.LnBwd.Facts) (hLnBwdIdeal : Cert.LnBwdIdeal.Facts) (hLnBwdRefIdeal : Cert.LnBwdRefIdeal.Facts) (hConvBwdPre : Cert.ConvBwdPre.Facts) (hConvBwdPreIdeal : Cert.ConvBwdPreIdeal.Facts) (hConvBwdPreRefIdeal : Cert.ConvBwdPreRefIdeal.Facts) (hLossHead : Cert.LossHead.Facts) (hLossHeadIdeal : Cert.LossHeadIdeal.Facts) (hLossHeadRefIdeal : Cert.LossHeadRefIdeal.Facts) (hGateBwd : Cert.GateBwd.Facts) (hGateBwdIdeal : Cert.GateBwdIdeal.Facts) (hGateBwdRefIdeal : Cert.GateBwdRefIdeal.Facts) (hLnFwd : Cert.LnFwd.Facts) (hLnFwdIdeal : Cert.LnFwdIdeal.Facts) (hLnFwdRefIdeal : Cert.LnFwdRefIdeal.Facts) (hGateFwd : Cert.GateFwd.Facts) (hGateFwdIdeal : Cert.GateFwdIdeal.Facts) (hGateFwdRefIdeal : Cert.GateFwdRefIdeal.Facts) (hConvFwd : Cert.ConvFwd.Facts) (hConvFwdIdeal : Cert.ConvFwdIdeal.Facts) (hConvFwdRefIdeal : Cert.ConvFwdRefIdeal.Facts) (hPre_finite : Cert.Pre_finite.Facts) (hPre_bounded : Cert.Pre_bounded.Facts),
    quiescent_Kernel (hKernel := hKernel)
    ∧ quiescent_KernelIdeal (hKernelIdeal := hKernelIdeal)
    ∧ quiescent_ReferenceIdeal (hReferenceIdeal := hReferenceIdeal)
    ∧ quiescent_MlpOutDx (hMlpOutDx := hMlpOutDx)
    ∧ quiescent_MlpOutDxIdeal (hMlpOutDxIdeal := hMlpOutDxIdeal)
    ∧ quiescent_MlpOutDxRefIdeal (hMlpOutDxRefIdeal := hMlpOutDxRefIdeal)
    ∧ quiescent_MlpOutDw (hMlpOutDw := hMlpOutDw)
    ∧ quiescent_MlpOutDwIdeal (hMlpOutDwIdeal := hMlpOutDwIdeal)
    ∧ quiescent_MlpOutDwRefIdeal (hMlpOutDwRefIdeal := hMlpOutDwRefIdeal)
    ∧ quiescent_MlpInDw (hMlpInDw := hMlpInDw)
    ∧ quiescent_MlpInDwIdeal (hMlpInDwIdeal := hMlpInDwIdeal)
    ∧ quiescent_MlpInDwRefIdeal (hMlpInDwRefIdeal := hMlpInDwRefIdeal)
    ∧ quiescent_MlpInDx (hMlpInDx := hMlpInDx)
    ∧ quiescent_MlpInDxIdeal (hMlpInDxIdeal := hMlpInDxIdeal)
    ∧ quiescent_MlpInDxRefIdeal (hMlpInDxRefIdeal := hMlpInDxRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjQkv (hInProjQkv := hInProjQkv)
    ∧ quiescent_InProjQkvIdeal (hInProjQkvIdeal := hInProjQkvIdeal)
    ∧ quiescent_InProjQkvRefIdeal (hInProjQkvRefIdeal := hInProjQkvRefIdeal)
    ∧ quiescent_InProjXbc (hInProjXbc := hInProjXbc)
    ∧ quiescent_InProjXbcIdeal (hInProjXbcIdeal := hInProjXbcIdeal)
    ∧ quiescent_InProjXbcRefIdeal (hInProjXbcRefIdeal := hInProjXbcRefIdeal)
    ∧ quiescent_InProjZdt (hInProjZdt := hInProjZdt)
    ∧ quiescent_InProjZdtIdeal (hInProjZdtIdeal := hInProjZdtIdeal)
    ∧ quiescent_InProjZdtRefIdeal (hInProjZdtRefIdeal := hInProjZdtRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_ConvBwdIn (hConvBwdIn := hConvBwdIn)
    ∧ quiescent_ConvBwdInIdeal (hConvBwdInIdeal := hConvBwdInIdeal)
    ∧ quiescent_ConvBwdInRefIdeal (hConvBwdInRefIdeal := hConvBwdInRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_ConvBwdPre (hConvBwdPre := hConvBwdPre)
    ∧ quiescent_ConvBwdPreIdeal (hConvBwdPreIdeal := hConvBwdPreIdeal)
    ∧ quiescent_ConvBwdPreIdeal_pre_finite (hConvBwdPreIdeal := hConvBwdPreIdeal) (hPre_finite := hPre_finite)
    ∧ quiescent_ConvBwdPreRefIdeal (hConvBwdPreRefIdeal := hConvBwdPreRefIdeal)
    ∧ quiescent_ConvBwdPreRefIdeal_pre_finite (hConvBwdPreRefIdeal := hConvBwdPreRefIdeal) (hPre_finite := hPre_finite)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_GateBwd (hGateBwd := hGateBwd)
    ∧ quiescent_GateBwdIdeal (hGateBwdIdeal := hGateBwdIdeal)
    ∧ quiescent_GateBwdIdeal_pre_bounded (hGateBwdIdeal := hGateBwdIdeal) (hPre_bounded := hPre_bounded)
    ∧ quiescent_GateBwdRefIdeal (hGateBwdRefIdeal := hGateBwdRefIdeal)
    ∧ quiescent_GateBwdRefIdeal_pre_bounded (hGateBwdRefIdeal := hGateBwdRefIdeal) (hPre_bounded := hPre_bounded)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_Kernel_KernelIdeal
    ∧ algebraic_KernelIdeal_ReferenceIdeal (hKernelIdeal := hKernelIdeal) (hReferenceIdeal := hReferenceIdeal)
    ∧ preserves_MlpOutDx_MlpOutDxIdeal
    ∧ algebraic_MlpOutDxIdeal_MlpOutDxRefIdeal (hMlpOutDxIdeal := hMlpOutDxIdeal) (hMlpOutDxRefIdeal := hMlpOutDxRefIdeal)
    ∧ preserves_MlpOutDw_MlpOutDwIdeal
    ∧ algebraic_MlpOutDwIdeal_MlpOutDwRefIdeal (hMlpOutDwIdeal := hMlpOutDwIdeal) (hMlpOutDwRefIdeal := hMlpOutDwRefIdeal)
    ∧ preserves_MlpInDw_MlpInDwIdeal
    ∧ algebraic_MlpInDwIdeal_MlpInDwRefIdeal (hMlpInDwIdeal := hMlpInDwIdeal) (hMlpInDwRefIdeal := hMlpInDwRefIdeal)
    ∧ preserves_MlpInDx_MlpInDxIdeal
    ∧ algebraic_MlpInDxIdeal_MlpInDxRefIdeal (hMlpInDxIdeal := hMlpInDxIdeal) (hMlpInDxRefIdeal := hMlpInDxRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_InProjDw_InProjDwIdeal
    ∧ algebraic_InProjDwIdeal_InProjDwRefIdeal (hInProjDwIdeal := hInProjDwIdeal) (hInProjDwRefIdeal := hInProjDwRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjQkv_InProjQkvIdeal
    ∧ algebraic_InProjQkvIdeal_InProjQkvRefIdeal (hInProjQkvIdeal := hInProjQkvIdeal) (hInProjQkvRefIdeal := hInProjQkvRefIdeal)
    ∧ preserves_InProjXbc_InProjXbcIdeal
    ∧ algebraic_InProjXbcIdeal_InProjXbcRefIdeal (hInProjXbcIdeal := hInProjXbcIdeal) (hInProjXbcRefIdeal := hInProjXbcRefIdeal)
    ∧ preserves_InProjZdt_InProjZdtIdeal
    ∧ algebraic_InProjZdtIdeal_InProjZdtRefIdeal (hInProjZdtIdeal := hInProjZdtIdeal) (hInProjZdtRefIdeal := hInProjZdtRefIdeal)
    ∧ preserves_OutProj_OutProjIdeal
    ∧ algebraic_OutProjIdeal_OutProjRefIdeal (hOutProjIdeal := hOutProjIdeal) (hOutProjRefIdeal := hOutProjRefIdeal)
    ∧ preserves_MlpIn_MlpInIdeal
    ∧ algebraic_MlpInIdeal_MlpInRefIdeal (hMlpInIdeal := hMlpInIdeal) (hMlpInRefIdeal := hMlpInRefIdeal)
    ∧ preserves_MlpOut_MlpOutIdeal
    ∧ algebraic_MlpOutIdeal_MlpOutRefIdeal (hMlpOutIdeal := hMlpOutIdeal) (hMlpOutRefIdeal := hMlpOutRefIdeal)
    ∧ preserves_ConvBwdIn_ConvBwdInIdeal
    ∧ algebraic_ConvBwdInIdeal_ConvBwdInRefIdeal (hConvBwdInIdeal := hConvBwdInIdeal) (hConvBwdInRefIdeal := hConvBwdInRefIdeal)
    ∧ preserves_LnBwd_LnBwdIdeal
    ∧ algebraic_LnBwdIdeal_LnBwdRefIdeal (hLnBwdIdeal := hLnBwdIdeal) (hLnBwdRefIdeal := hLnBwdRefIdeal)
    ∧ preserves_ConvBwdPre_ConvBwdPreIdeal
    ∧ algebraic_ConvBwdPreIdeal_ConvBwdPreRefIdeal_pre_finite (hConvBwdPreIdeal := hConvBwdPreIdeal) (hConvBwdPreRefIdeal := hConvBwdPreRefIdeal) (hPre_finite := hPre_finite)
    ∧ preserves_LossHead_LossHeadIdeal
    ∧ algebraic_LossHeadIdeal_LossHeadRefIdeal (hLossHeadIdeal := hLossHeadIdeal) (hLossHeadRefIdeal := hLossHeadRefIdeal)
    ∧ preserves_GateBwd_GateBwdIdeal
    ∧ algebraic_GateBwdIdeal_GateBwdRefIdeal_pre_bounded (hGateBwdIdeal := hGateBwdIdeal) (hGateBwdRefIdeal := hGateBwdRefIdeal) (hPre_bounded := hPre_bounded)
    ∧ preserves_LnFwd_LnFwdIdeal
    ∧ algebraic_LnFwdIdeal_LnFwdRefIdeal (hLnFwdIdeal := hLnFwdIdeal) (hLnFwdRefIdeal := hLnFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_ConvFwd_ConvFwdIdeal
    ∧ algebraic_ConvFwdIdeal_ConvFwdRefIdeal (hConvFwdIdeal := hConvFwdIdeal) (hConvFwdRefIdeal := hConvFwdRefIdeal)
-- ==== Pre_bounded.lean ====
abbrev S4096x2048 : Shape := ⟨2, ![4096, 2048]⟩
abbrev S4096x1024 : Shape := ⟨2, ![4096, 1024]⟩
abbrev S4096x1536 : Shape := ⟨2, ![4096, 1536]⟩
abbrev S4096x1152 : Shape := ⟨2, ![4096, 1152]⟩
abbrev S16 : Shape := ⟨1, ![16]⟩
abbrev S1024 : Shape := ⟨1, ![1024]⟩
abbrev S1x1024 : Shape := ⟨2, ![1, 1024]⟩
abbrev S_ : Shape := ⟨0, ![]⟩

class Facts : Prop where
  slices_S4096x2048_S4096x1024_0_1024 : S4096x2048.Slices ![0, 1024] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)

variable [Facts]

def fn {F : FTy → Type} [FloatOps F] (main_arg0 : FVec F S4096x2048 .f32) (main_arg1 : FVec F S4096x1024 .f32) (main_arg2 : FVec F S4096x1536 .f32) (main_arg3 : FVec F S4096x1152 .f32) (main_arg4 : FVec F S16 .f32) (main_arg5 : FVec F S1024 .f32) : IVec S4096x1024 1 :=
  let main_v0 : FVec F S4096x1024 .f32 := (extractStridedSlice S4096x1024 ![0, 1024] · slices_S4096x2048_S4096x1024_0_1024) main_arg0
  let main_v1 : FVec F S1x1024 .f32 := broadcastInDim S1x1024 ![1] bcast_S1024_S1x1024_1 main_arg5
  let main_v2 : FVec F S4096x1024 .f32 := broadcastInDim S4096x1024 ![0, 1] bcast_S1x1024_S4096x1024_0_1 main_v1
  let main_v3 : FVec F S4096x1024 .f32 := mulf main_v0 main_v2
  let main_v4 : FVec F S4096x1024 .f32 := Host.absf main_v3
  let main_cst : FVec F S_ .f32 := constant S_ .f32 0x7F800000#32
  let main_v5 : FVec F S4096x1024 .f32 := broadcastInDim S4096x1024 ![] bcast_S_S4096x1024 main_cst
  let main_v6 : IVec S4096x1024 1 := cmpf .olt main_v4 main_v5
  main_v6
-- ==== Pre_finite.lean ====
abbrev S4096x1536 : Shape := ⟨2, ![4096, 1536]⟩
abbrev S4096x1024 : Shape := ⟨2, ![4096, 1024]⟩
abbrev S4096x512 : Shape := ⟨2, ![4096, 512]⟩
abbrev S4x1536 : Shape := ⟨2, ![4, 1536]⟩
abbrev S1536 : Shape := ⟨1, ![1536]⟩
abbrev S_ : Shape := ⟨0, ![]⟩

class Facts : Prop where
  concatenates_S4096x1024_S4096x512_S4096x1536_d1 : Shape.Concatenates [S4096x1024, S4096x512] S4096x1536 1
  bcast_S_S4096x1536 : S_.BroadcastsInDim S4096x1536 (![] : Fin 0 → Fin S4096x1536.rank)

variable [Facts]

def fn {F : FTy → Type} [FloatOps F] (main_arg0 : FVec F S4096x1536 .f32) (main_arg1 : FVec F S4096x1024 .f32) (main_arg2 : FVec F S4096x512 .f32) (main_arg3 : FVec F S4096x1024 .f32) (main_arg4 : FVec F S4x1536 .f32) (main_arg5 : FVec F S1536 .f32) : IVec S4096x1536 1 :=
  let main_v0 : FVec F S4096x1024 .f32 := addf main_arg1 main_arg3
  let main_v1 : FVec F S4096x1536 .f32 := (fun a b => concatenate S4096x1536 1 [⟨S4096x1024, a⟩, ⟨S4096x512, b⟩] concatenates_S4096x1024_S4096x512_S4096x1536_d1) main_v0 main_arg2
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  main_v4
-- ==== Kernel.lean ====
abbrev S4096x3072 : Shape := ⟨2, ![4096, 3072]⟩
abbrev S4096x1024 : Shape := ⟨2, ![4096, 1024]⟩
abbrev S4096x128 : Shape := ⟨2, ![4096, 128]⟩
abbrev S16 : Shape := ⟨1, ![16]⟩
abbrev S1024x12288 : Shape := ⟨2, ![1024, 12288]⟩
abbrev S1024x4096 : Shape := ⟨2, ![1024, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S16x1x1 : Shape := ⟨3, ![16, 1, 1]⟩
abbrev S1x128x128 : Shape := ⟨3, ![1, 128, 128]⟩
abbrev S16x128x128 : Shape := ⟨3, ![16, 128, 128]⟩
abbrev S16x128x256 : Shape := ⟨3, ![16, 128, 256]⟩
abbrev S1x16x128x256 : Shape := ⟨4, ![1, 16, 128, 256]⟩
abbrev S2x16x128x256 : Shape := ⟨4, ![2, 16, 128, 256]⟩
abbrev S2x8x256x256 : Shape := ⟨4, ![2, 8, 256, 256]⟩
abbrev S1024x512 : Shape := ⟨2, ![1024, 512]⟩
abbrev S128x1024 : Shape := ⟨2, ![128, 1024]⟩
abbrev S1x8x256x256 : Shape := ⟨4, ![1, 8, 256, 256]⟩
abbrev S256x128 : Shape := ⟨2, ![256, 128]⟩
abbrev S256x1 : Shape := ⟨2, ![256, 1]⟩
abbrev S256x256 : Shape := ⟨2, ![256, 256]⟩
abbrev S1x1x256x256 : Shape := ⟨4, ![1, 1, 256, 256]⟩

abbrev nBuf : Space → Nat
  | .hbm => 70
  | .vmem => 24
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x128, .f32⟩
  | .hbm, ⟨3, _⟩ => ⟨S16, .f32⟩
  | .hbm, ⟨4, _⟩ => ⟨S1024x12288, .bf16⟩
  | .hbm, ⟨5, _⟩ => ⟨S1024x4096, .bf16⟩
  | .hbm, ⟨6, _⟩ => ⟨S128, .i32⟩
  | .hbm, ⟨7, _⟩ => ⟨S128x1, .i32⟩
  | .hbm, ⟨8, _⟩ => ⟨S128, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i1⟩
  | .hbm, ⟨16, _⟩ => ⟨S16x1x1, .f32⟩
  | .hbm, ⟨17, _⟩ => ⟨S16x1x1, .f32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .f32⟩
  | .hbm, ⟨25, _⟩ => ⟨S1x128x128, .f32⟩
  | .hbm, ⟨26, _⟩ => ⟨S16x128x128, .f32⟩
  | .hbm, ⟨27, _⟩ => ⟨S16x128x128, .f32⟩
  | .hbm, ⟨28, _⟩ => ⟨S16x128x128, .f32⟩
  | .hbm, ⟨29, _⟩ => ⟨S_, .f32⟩
  | .hbm, ⟨30, _⟩ => ⟨S_, .f32⟩
  | .hbm, ⟨31, _⟩ => ⟨S16x128x128, .i1⟩
  | .hbm, ⟨32, _⟩ => ⟨S16x128x128, .f32⟩
  | .hbm, ⟨33, _⟩ => ⟨S16x128x128, .f32⟩
  | .hbm, ⟨34, _⟩ => ⟨S128x128, .i32⟩
  | .hbm, ⟨35, _⟩ => ⟨S128x128, .i32⟩
  | .hbm, ⟨36, _⟩ => ⟨S128x128, .i1⟩
  | .hbm, ⟨37, _⟩ => ⟨S16x1x1, .f32⟩
  | .hbm, ⟨38, _⟩ => ⟨S16x1x1, .f32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .f32⟩
  | .hbm, ⟨49, _⟩ => ⟨S1x128x128, .f32⟩
  | .hbm, ⟨50, _⟩ => ⟨S16x128x128, .f32⟩
  | .hbm, ⟨51, _⟩ => ⟨S16x128x128, .f32⟩
  | .hbm, ⟨52, _⟩ => ⟨S16x128x128, .f32⟩
  | .hbm, ⟨53, _⟩ => ⟨S_, .f32⟩
  | .hbm, ⟨54, _⟩ => ⟨S_, .f32⟩
  | .hbm, ⟨55, _⟩ => ⟨S16x128x128, .i1⟩
  | .hbm, ⟨56, _⟩ => ⟨S16x128x128, .f32⟩
  | .hbm, ⟨57, _⟩ => ⟨S16x128x128, .f32⟩
  | .hbm, ⟨58, _⟩ => ⟨S_, .f32⟩
  | .hbm, ⟨59, _⟩ => ⟨S16x128x128, .f32⟩
  | .hbm, ⟨60, _⟩ => ⟨S16x128x256, .f32⟩
  | .hbm, ⟨61, _⟩ => ⟨S16x128x256, .f32⟩
  | .hbm, ⟨62, _⟩ => ⟨S1x16x128x256, .f32⟩
  | .hbm, ⟨63, _⟩ => ⟨S1x16x128x256, .f32⟩
  | .hbm, ⟨64, _⟩ => ⟨S2x16x128x256, .f32⟩
  | .hbm, ⟨65, _⟩ => ⟨S2x8x256x256, .f32⟩
  | .hbm, ⟨66, _⟩ => ⟨S1024x512, .f32⟩
  | .hbm, ⟨67, _⟩ => ⟨S1024x4096, .bf16⟩
  | .hbm, ⟨68, _⟩ => ⟨S1024x4096, .bf16⟩
  | .hbm, ⟨69, _⟩ => ⟨S1024x4096, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S1x8x256x256, .f32⟩
  | .local _ .vmem, ⟨15, _⟩ => ⟨S1x8x256x256, .f32⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .f32⟩
  | .local _ .vmem, ⟨23, _⟩ => ⟨S128x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c3_i32 : BitVec 32 := 3#32
  let v1 : BitVec 32 := Scalar.muli arg0 c3_i32
  let c0_i32 : BitVec 32 := 0#32
  let v2 : BitVec 32 := Scalar.addi v1 c0_i32
  let c0_i32_0 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c3_i32 : BitVec 32 := 3#32
  let v1 : BitVec 32 := Scalar.muli arg0 c3_i32
  let c1_i32 : BitVec 32 := 1#32
  let v2 : BitVec 32 := Scalar.addi v1 c1_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c7_i32 : BitVec 32 := 7#32
  let v1 : BitVec 32 := Scalar.maxsi c0_i32 v0
  let v2 : BitVec 32 := Scalar.minsi c7_i32 v1
  let c3_i32 : BitVec 32 := 3#32
  let v3 : BitVec 32 := Scalar.muli arg0 c3_i32
  let c1_i32_0 : BitVec 32 := 1#32
  let v4 : BitVec 32 := Scalar.addi v3 c1_i32_0
  let c0_i32_1 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c3_i32 : BitVec 32 := 3#32
  let v1 : BitVec 32 := Scalar.muli arg0 c3_i32
  let c2_i32 : BitVec 32 := 2#32
  let v2 : BitVec 32 := Scalar.addi v1 c2_i32
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c7_i32 : BitVec 32 := 7#32
  let v1 : BitVec 32 := Scalar.maxsi c0_i32 v0
  let v2 : BitVec 32 := Scalar.minsi c7_i32 v1
  let c3_i32 : BitVec 32 := 3#32
  let v3 : BitVec 32 := Scalar.muli arg0 c3_i32
  let c2_i32 : BitVec 32 := 2#32
  let v4 : BitVec 32 := Scalar.addi v3 c2_i32
  let c0_i32_0 : BitVec 32 := 0#32
  ![v2.toNat, v4.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.muli arg0 c1_i32
  let c0_i32 : BitVec 32 := 0#32
  let v2 : BitVec 32 := Scalar.addi v1 c0_i32
  let c0_i32_0 : BitVec 32 := 0#32
  ![v0.toNat, v2.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.muli arg0 c1_i32
  let c0_i32 : BitVec 32 := 0#32
  let v2 : BitVec 32 := Scalar.addi v1 c0_i32
  let c0_i32_0 : BitVec 32 := 0#32
  ![v0.toNat, v2.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c7_i32 : BitVec 32 := 7#32
  let v1 : BitVec 32 := Scalar.maxsi c0_i32 v0
  let v2 : BitVec 32 := Scalar.minsi c7_i32 v1
  let c1_i32_0 : BitVec 32 := 1#32
  let v3 : BitVec 32 := Scalar.muli arg0 c1_i32_0
  let c0_i32_1 : BitVec 32 := 0#32
  let v4 : BitVec 32 := Scalar.addi v3 c0_i32_1
  let c0_i32_2 : BitVec 32 := 0#32
  ![v2.toNat, v4.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c7_i32 : BitVec 32 := 7#32
  let v1 : BitVec 32 := Scalar.maxsi c0_i32 v0
  let v2 : BitVec 32 := Scalar.minsi c7_i32 v1
  let c1_i32_0 : BitVec 32 := 1#32
  let v3 : BitVec 32 := Scalar.muli arg0 c1_i32_0
  let c0_i32_1 : BitVec 32 := 0#32
  let v4 : BitVec 32 := Scalar.addi v3 c0_i32_1
  let c0_i32_2 : BitVec 32 := 0#32
  ![v2.toNat, v4.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4096x3072 : Shape := ⟨2, ![4096, 3072]⟩
abbrev S4096x1024 : Shape := ⟨2, ![4096, 1024]⟩
abbrev S4096x128 : Shape := ⟨2, ![4096, 128]⟩
abbrev S16 : Shape := ⟨1, ![16]⟩
abbrev S4096x16x64 : Shape := ⟨3, ![4096, 16, 64]⟩
abbrev S4096x16 : Shape := ⟨2, ![4096, 16]⟩
abbrev S4096x16x1 : Shape := ⟨3, ![4096, 16, 1]⟩
abbrev S1024x4x16x64 : Shape := ⟨4, ![1024, 4, 16, 64]⟩
abbrev S4x16x1024x64 : Shape := ⟨4, ![4, 16, 1024, 64]⟩
abbrev S4x16x8x128x64 : Shape := ⟨5, ![4, 16, 8, 128, 64]⟩
abbrev S4x16x1x128x64 : Shape := ⟨5, ![4, 16, 1, 128, 64]⟩
abbrev S_ : Shape := ⟨0, ![]⟩
abbrev S4x16x7x128x64 : Shape := ⟨5, ![4, 16, 7, 128, 64]⟩
abbrev S4x16x8x256x64 : Shape := ⟨5, ![4, 16, 8, 256, 64]⟩
abbrev S4x16x8x128x256 : Shape := ⟨5, ![4, 16, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S16x1x1x1 : Shape := ⟨4, ![16, 1, 1, 1]⟩
abbrev S1x1x128x256 : Shape := ⟨4, ![1, 1, 128, 256]⟩
abbrev S16x1x128x256 : Shape := ⟨4, ![16, 1, 128, 256]⟩
abbrev S1x16x1x128x256 : Shape := ⟨5, ![1, 16, 1, 128, 256]⟩
abbrev S1024x4x16x1 : Shape := ⟨4, ![1024, 4, 16, 1]⟩
abbrev S4x16x1024x1 : Shape := ⟨4, ![4, 16, 1024, 1]⟩
abbrev S4x16x8x128x1 : Shape := ⟨5, ![4, 16, 8, 128, 1]⟩
abbrev S4x16x8x128 : Shape := ⟨4, ![4, 16, 8, 128]⟩
abbrev S4x16x8x64x256 : Shape := ⟨5, ![4, 16, 8, 64, 256]⟩
abbrev S1024x4096 : Shape := ⟨2, ![1024, 4096]⟩

abbrev nBuf : Space → Nat
  | .hbm => 170
  | .vmem => 0
  | .smem => 0
  | _ => 0

abbrev hbmTy0_0 (i : Nat) : BufTy := match i % 128 with
  | 0 => ⟨S4096x3072, .bf16⟩
  | 1 => ⟨S4096x1024, .bf16⟩
  | 2 => ⟨S4096x128, .f32⟩
  | 3 => ⟨S16, .f32⟩
  | 4 => ⟨S4096x3072, .f32⟩
  | 5 => ⟨S4096x1024, .f32⟩
  | 6 => ⟨S4096x1024, .f32⟩
  | 7 => ⟨S4096x1024, .f32⟩
  | 8 => ⟨S4096x16x64, .f32⟩
  | 9 => ⟨S4096x16x64, .f32⟩
  | 10 => ⟨S4096x16x64, .f32⟩
  | 11 => ⟨S4096x16, .f32⟩
  | 12 => ⟨S4096x16x1, .f32⟩
  | 13 => ⟨S4096x16, .f32⟩
  | 14 => ⟨S4096x16x1, .f32⟩
  | 15 => ⟨S1024x4x16x64, .f32⟩
  | 16 => ⟨S4x16x1024x64, .f32⟩
  | 17 => ⟨S4x16x8x128x64, .f32⟩
  | 18 => ⟨S1024x4x16x64, .f32⟩
  | 19 => ⟨S4x16x1024x64, .f32⟩
  | 20 => ⟨S4x16x8x128x64, .f32⟩
  | 21 => ⟨S4x16x1x128x64, .f32⟩
  | 22 => ⟨S_, .f32⟩
  | 23 => ⟨S4x16x1x128x64, .f32⟩
  | 24 => ⟨S4x16x7x128x64, .f32⟩
  | 25 => ⟨S4x16x8x128x64, .f32⟩
  | 26 => ⟨S_, .f32⟩
  | 27 => ⟨S4x16x1x128x64, .f32⟩
  | 28 => ⟨S4x16x8x256x64, .f32⟩
  | 29 => ⟨S1024x4x16x64, .f32⟩
  | 30 => ⟨S4x16x1024x64, .f32⟩
  | 31 => ⟨S4x16x8x128x64, .f32⟩
  | 32 => ⟨S4x16x1x128x64, .f32⟩
  | 33 => ⟨S_, .f32⟩
  | 34 => ⟨S4x16x1x128x64, .f32⟩
  | 35 => ⟨S4x16x7x128x64, .f32⟩
  | 36 => ⟨S4x16x8x128x64, .f32⟩
  | 37 => ⟨S_, .f32⟩
  | 38 => ⟨S4x16x1x128x64, .f32⟩
  | 39 => ⟨S4x16x8x256x64, .f32⟩
  | 40 => ⟨S4x16x8x128x256, .f32⟩
  | 41 => ⟨S_, .f32⟩
  | 42 => ⟨S4x16x8x128x256, .f32⟩
  | 43 => ⟨S4x16x8x128x256, .f32⟩
  | 44 => ⟨S128, .i32⟩
  | 45 => ⟨S128x1, .i32⟩
  | 46 => ⟨S256, .i32⟩
  | 47 => ⟨S1x256, .i32⟩
  | 48 => ⟨S128x256, .i32⟩
  | 49 => ⟨S128x256, .i32⟩
  | 50 => ⟨S128x256, .i32⟩
  | 51 => ⟨S_, .i32⟩
  | 52 => ⟨S128x256, .i32⟩
  | 53 => ⟨S128x256, .i32⟩
  | 54 => ⟨S8, .i32⟩
  | 55 => ⟨S8x1x1, .i32⟩
  | 56 => ⟨S_, .i32⟩
  | 57 => ⟨S8x1x1, .i32⟩
  | 58 => ⟨S8x1x1, .i32⟩
  | 59 => ⟨S_, .i32⟩
  | 60 => ⟨S8x1x1, .i32⟩
  | 61 => ⟨S8x1x1, .i32⟩
  | 62 => ⟨S1x1x256, .i32⟩
  | 63 => ⟨S8x1x256, .i32⟩
  | 64 => ⟨S8x1x256, .i32⟩
  | 65 => ⟨S8x1x256, .i32⟩
  | 66 => ⟨S_, .i32⟩
  | 67 => ⟨S128x256, .i32⟩
  | 68 => ⟨S128x256, .i1⟩
  | 69 => ⟨S_, .i32⟩
  | 70 => ⟨S128x256, .i32⟩
  | 71 => ⟨S128x256, .i1⟩
  | 72 => ⟨S128x256, .i1⟩
  | 73 => ⟨S_, .i32⟩
  | 74 => ⟨S8x1x256, .i32⟩
  | 75 => ⟨S8x1x256, .i1⟩
  | 76 => ⟨S1x128x256, .i1⟩
  | 77 => ⟨S8x128x256, .i1⟩
  | 78 => ⟨S8x128x256, .i1⟩
  | 79 => ⟨S8x128x256, .i1⟩
  | 80 => ⟨S16x1x1x1, .f32⟩
  | 81 => ⟨S16x1x1x1, .f32⟩
  | 82 => ⟨S_, .i32⟩
  | 83 => ⟨S128x256, .i32⟩
  | 84 => ⟨S128x256, .i32⟩
  | 85 => ⟨S128x256, .f32⟩
  | 86 => ⟨S1x1x128x256, .f32⟩
  | 87 => ⟨S16x1x128x256, .f32⟩
  | 88 => ⟨S16x1x128x256, .f32⟩
  | 89 => ⟨S16x1x128x256, .f32⟩
  | 90 => ⟨S1x16x1x128x256, .f32⟩
  | 91 => ⟨S4x16x8x128x256, .f32⟩
  | 92 => ⟨S4x16x8x128x256, .f32⟩
  | 93 => ⟨S_, .f32⟩
  | 94 => ⟨S_, .f32⟩
  | 95 => ⟨S4x16x8x128x256, .i1⟩
  | 96 => ⟨S4x16x8x128x256, .f32⟩
  | 97 => ⟨S4x16x8x128x256, .f32⟩
  | 98 => ⟨S_, .f32⟩
  | 99 => ⟨S4x16x8x128x256, .f32⟩
  | 100 => ⟨S1024x4x16x1, .f32⟩
  | 101 => ⟨S4x16x1024x1, .f32⟩
  | 102 => ⟨S4x16x8x128x1, .f32⟩
  | 103 => ⟨S4x16x8x128x256, .f32⟩
  | 104 => ⟨S4x16x8x128x256, .f32⟩
  | 105 => ⟨S4x16x8x128x256, .f32⟩
  | 106 => ⟨S4x16x8x128x64, .f32⟩
  | 107 => ⟨S4x16x1024x64, .f32⟩
  | 108 => ⟨S1024x4x16x64, .f32⟩
  | 109 => ⟨S4096x16x64, .f32⟩
  | 110 => ⟨S_, .f32⟩
  | 111 => ⟨S4x16x8x128, .f32⟩
  | 112 => ⟨S4x16x8x128x1, .f32⟩
  | 113 => ⟨S4x16x1024x1, .f32⟩
  | 114 => ⟨S1024x4x16x1, .f32⟩
  | 115 => ⟨S4096x16x1, .f32⟩
  | 116 => ⟨S4096x1024, .f32⟩
  | 117 => ⟨S4096x16x64, .f32⟩
  | 118 => ⟨S4096x16x1, .f32⟩
  | 119 => ⟨S1024x4x16x1, .f32⟩
  | 120 => ⟨S4x16x1024x1, .f32⟩
  | 121 => ⟨S4x16x8x128x1, .f32⟩
  | 122 => ⟨S_, .f32⟩
  | 123 => ⟨S4x16x8x128, .f32⟩
  | 124 => ⟨S4x16x8x128x256, .f32⟩
  | 125 => ⟨S1024x4x16x64, .f32⟩
  | 126 => ⟨S4x16x1024x64, .f32⟩
  | 127 => ⟨S4x16x8x128x64, .f32⟩
  | _ => ⟨S4096x3072, .bf16⟩

abbrev hbmTy0_1 (i : Nat) : BufTy := match i % 128 with
  | 0 => ⟨S4x16x8x64x256, .f32⟩
  | 1 => ⟨S4x16x8x256x64, .f32⟩
  | 2 => ⟨S4x16x8x128x256, .f32⟩
  | 3 => ⟨S4x16x8x128x256, .f32⟩
  | 4 => ⟨S4x16x8x128x256, .f32⟩
  | 5 => ⟨S_, .f32⟩
  | 6 => ⟨S4x16x8x128x256, .f32⟩
  | 7 => ⟨S4x16x8x128x256, .f32⟩
  | 8 => ⟨S_, .f32⟩
  | 9 => ⟨S4x16x8x128x256, .f32⟩
  | 10 => ⟨S4x16x8x128x256, .f32⟩
  | 11 => ⟨S4x16x8x256x64, .f32⟩
  | 12 => ⟨S4x16x8x128x64, .f32⟩
  | 13 => ⟨S4x16x8x128x64, .f32⟩
  | 14 => ⟨S4x16x8x128x64, .f32⟩
  | 15 => ⟨S4x16x1x128x64, .f32⟩
  | 16 => ⟨S4x16x7x128x64, .f32⟩
  | 17 => ⟨S_, .f32⟩
  | 18 => ⟨S4x16x8x128x64, .f32⟩
  | 19 => ⟨S4x16x8x128x64, .f32⟩
  | 20 => ⟨S4x16x1024x64, .f32⟩
  | 21 => ⟨S1024x4x16x64, .f32⟩
  | 22 => ⟨S4096x16x64, .f32⟩
  | 23 => ⟨S4x16x8x128x64, .f32⟩
  | 24 => ⟨S4x16x8x128x64, .f32⟩
  | 25 => ⟨S4x16x1x128x64, .f32⟩
  | 26 => ⟨S4x16x7x128x64, .f32⟩
  | 27 => ⟨S_, .f32⟩
  | 28 => ⟨S4x16x8x128x64, .f32⟩
  | 29 => ⟨S4x16x8x128x64, .f32⟩
  | 30 => ⟨S4x16x1024x64, .f32⟩
  | 31 => ⟨S1024x4x16x64, .f32⟩
  | 32 => ⟨S4096x16x64, .f32⟩
  | 33 => ⟨S4x16x1024x64, .f32⟩
  | 34 => ⟨S1024x4x16x64, .f32⟩
  | 35 => ⟨S4096x16x64, .f32⟩
  | 36 => ⟨S1024x4096, .f32⟩
  | 37 => ⟨S1024x4096, .bf16⟩
  | 38 => ⟨S1024x4096, .f32⟩
  | 39 => ⟨S1024x4096, .bf16⟩
  | 40 => ⟨S1024x4096, .f32⟩
  | 41 => ⟨S1024x4096, .bf16⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_c_5 : Ref sig .tc := ⟨.hbm, 56, rfl⟩
abbrev main_v46 : Ref sig .tc := ⟨.hbm, 57, rfl⟩
abbrev main_v47 : Ref sig .tc := ⟨.hbm, 58, rfl⟩
abbrev main_c_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_7 : Ref sig .tc := ⟨.hbm, 66, rfl⟩
abbrev main_v54 : Ref sig .tc := ⟨.hbm, 67, rfl⟩
abbrev main_v55 : Ref sig .tc := ⟨.hbm, 68, rfl⟩
abbrev main_c_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c_10 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_11 : Ref sig .tc := ⟨.hbm, 93, rfl⟩
abbrev main_call0_v0 : Ref sig .tc := ⟨.hbm, 94, rfl⟩
abbrev main_v77_1 : Ref sig .tc := ⟨.hbm, 95, rfl⟩
abbrev main_call0_v2 : Ref sig .tc := ⟨.hbm, 96, rfl⟩
abbrev main_v77_0 : Ref sig .tc := ⟨.hbm, 97, rfl⟩
abbrev main_call0_cst : Ref sig .tc := ⟨.hbm, 98, rfl⟩
abbrev main_v77_2 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_13 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_call1_cst : Ref sig .tc := ⟨.hbm, 133, rfl⟩
abbrev main_call1_v0 : Ref sig .tc := ⟨.hbm, 134, rfl⟩
abbrev main_v109 : Ref sig .tc := ⟨.hbm, 135, rfl⟩
abbrev main_cst_14 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_15 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_16 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩

abbrev nD : Nat := 1
abbrev τ : Topo := Topo.v7x

variable {F : FTy → Type} [FloatOps F]
-- ==== MlpOutDx.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutDxRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== MlpOutDw.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== MlpInDw.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S1x2048x2048, .bf16⟩
  | .hbm, ⟨15, _⟩ => ⟨S1x2048x2048, .bf16⟩
  | .hbm, ⟨16, _⟩ => ⟨S1x2048x2048, .bf16⟩
  | .hbm, ⟨17, _⟩ => ⟨S1x2048x2048, .bf16⟩
  | .hbm, ⟨18, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== MlpInDx.lean ====
abbrev S4096x8192 : Shape := ⟨2, ![4096, 8192]⟩
abbrev S4x2048x2048 : Shape := ⟨3, ![4, 2048, 2048]⟩
abbrev S8x128 : Shape := ⟨2, ![8, 128]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S8x128, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDxRefIdeal.lean ====
abbrev S4096x8192 : Shape := ⟨2, ![4096, 8192]⟩
abbrev S4x2048x2048 : Shape := ⟨3, ![4, 2048, 2048]⟩
abbrev S8x128 : Shape := ⟨2, ![8, 128]⟩
abbrev S1x2048x2048 : Shape := ⟨3, ![1, 2048, 2048]⟩
abbrev S2048x2048 : Shape := ⟨2, ![2048, 2048]⟩
abbrev S2048x8192 : Shape := ⟨2, ![2048, 8192]⟩
abbrev S_ : Shape := ⟨0, ![]⟩
abbrev S4096x2048 : Shape := ⟨2, ![4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S8x128, .f32⟩
  | .hbm, ⟨3, _⟩ => ⟨S1x2048x2048, .bf16⟩
  | .hbm, ⟨4, _⟩ => ⟨S2048x2048, .bf16⟩
  | .hbm, ⟨5, _⟩ => ⟨S1x2048x2048, .bf16⟩
  | .hbm, ⟨6, _⟩ => ⟨S2048x2048, .bf16⟩
  | .hbm, ⟨7, _⟩ => ⟨S1x2048x2048, .bf16⟩
  | .hbm, ⟨8, _⟩ => ⟨S2048x2048, .bf16⟩
  | .hbm, ⟨9, _⟩ => ⟨S1x2048x2048, .bf16⟩
  | .hbm, ⟨10, _⟩ => ⟨S2048x2048, .bf16⟩
  | .hbm, ⟨11, _⟩ => ⟨S2048x8192, .bf16⟩
  | .hbm, ⟨12, _⟩ => ⟨S2048x8192, .f32⟩
  | .hbm, ⟨13, _⟩ => ⟨S_, .f32⟩
  | .hbm, ⟨14, _⟩ => ⟨S4096x2048, .f32⟩
  | .hbm, ⟨15, _⟩ => ⟨S4096x8192, .f32⟩
  | .hbm, ⟨16, _⟩ => ⟨S4096x8192, .f32⟩
  | .hbm, ⟨17, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== OutProjDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutProjDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjDw.lean ====
abbrev S4096x2048 : Shape := ⟨2, ![4096, 2048]⟩
abbrev S4096x5760 : Shape := ⟨2, ![4096, 5760]⟩
abbrev S2048x5760 : Shape := ⟨2, ![2048, 5760]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5760, .bf16⟩
  | .hbm, ⟨2, _⟩ => ⟨S2048x5760, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S4096x2048 : Shape := ⟨2, ![4096, 2048]⟩
abbrev S4096x5760 : Shape := ⟨2, ![4096, 5760]⟩
abbrev S_ : Shape := ⟨0, ![]⟩
abbrev S2048x5760 : Shape := ⟨2, ![2048, 5760]⟩
abbrev S5760x2048 : Shape := ⟨2, ![5760, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5760, .bf16⟩
  | .hbm, ⟨2, _⟩ => ⟨S_, .f32⟩
  | .hbm, ⟨3, _⟩ => ⟨S2048x5760, .f32⟩
  | .hbm, ⟨4, _⟩ => ⟨S4096x2048, .f32⟩
  | .hbm, ⟨5, _⟩ => ⟨S4096x5760, .f32⟩
  | .hbm, ⟨6, _⟩ => ⟨S4096x5760, .f32⟩
  | .hbm, ⟨7, _⟩ => ⟨S5760x2048, .f32⟩
  | .hbm, ⟨8, _⟩ => ⟨S2048x5760, .f32⟩
  | .hbm, ⟨9, _⟩ => ⟨S2048x5760, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProjDx.lean ====
abbrev S4096x5760 : Shape := ⟨2, ![4096, 5760]⟩
abbrev S2048x5760 : Shape := ⟨2, ![2048, 5760]⟩
abbrev S8x128 : Shape := ⟨2, ![8, 128]⟩
abbrev S4096x2048 : Shape := ⟨2, ![4096, 2048]⟩
abbrev S1024x1920 : Shape := ⟨2, ![1024, 1920]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5760, .bf16⟩
  | .hbm, ⟨1, _⟩ => ⟨S2048x5760, .bf16⟩
  | .hbm, ⟨2, _⟩ => ⟨S8x128, .f32⟩
  | .hbm, ⟨3, _⟩ => ⟨S4096x2048, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S4096x5760 : Shape := ⟨2, ![4096, 5760]⟩
abbrev S2048x5760 : Shape := ⟨2, ![2048, 5760]⟩
abbrev S8x128 : Shape := ⟨2, ![8, 128]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S2048x5760, .bf16⟩
  | .hbm, ⟨2, _⟩ => ⟨S8x128, .f32⟩
  | .hbm, ⟨3, _⟩ => ⟨S2048x5760, .f32⟩
  | .hbm, ⟨4, _⟩ => ⟨S_, .f32⟩
  | .hbm, ⟨5, _⟩ => ⟨S4096x2048, .f32⟩
  | .hbm, ⟨6, _⟩ => ⟨S4096x5760, .f32⟩
  | .hbm, ⟨7, _⟩ => ⟨S4096x5760, .f32⟩
  | .hbm, ⟨8, _⟩ => ⟨S4096x2048, .f32⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProjQkv.lean ====
abbrev S4096x2048 : Shape := ⟨2, ![4096, 2048]⟩
abbrev S2048x5760 : Shape := ⟨2, ![2048, 5760]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x5760, .bf16⟩
  | .hbm, ⟨2, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjQkvRefIdeal.lean ====
abbrev S4096x2048 : Shape := ⟨2, ![4096, 2048]⟩
abbrev S2048x5760 : Shape := ⟨2, ![2048, 5760]⟩
abbrev S4096x5760 : Shape := ⟨2, ![4096, 5760]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5760, .bf16⟩
  | .hbm, ⟨2, _⟩ => ⟨S4096x2048, .f32⟩
  | .hbm, ⟨3, _⟩ => ⟨S2048x5760, .f32⟩
  | .hbm, ⟨4, _⟩ => ⟨S4096x5760, .f32⟩
  | .hbm, ⟨5, _⟩ => ⟨S4096x3072, .f32⟩
  | .hbm, ⟨6, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InProjXbc.lean ====
abbrev S4096x2048 : Shape := ⟨2, ![4096, 2048]⟩
abbrev S2048x5760 : Shape := ⟨2, ![2048, 5760]⟩
abbrev S4096x1536 : Shape := ⟨2, ![4096, 1536]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x5760, .bf16⟩
  | .hbm, ⟨2, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjXbcRefIdeal.lean ====
abbrev S4096x2048 : Shape := ⟨2, ![4096, 2048]⟩
abbrev S2048x5760 : Shape := ⟨2, ![2048, 5760]⟩
abbrev S4096x5760 : Shape := ⟨2, ![4096, 5760]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5760, .bf16⟩
  | .hbm, ⟨2, _⟩ => ⟨S4096x2048, .f32⟩
  | .hbm, ⟨3, _⟩ => ⟨S2048x5760, .f32⟩
  | .hbm, ⟨4, _⟩ => ⟨S4096x5760, .f32⟩
  | .hbm, ⟨5, _⟩ => ⟨S4096x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjZdt.lean ====
abbrev S4096x2048 : Shape := ⟨2, ![4096, 2048]⟩
abbrev S2048x5760 : Shape := ⟨2, ![2048, 5760]⟩
abbrev S4096x1152 : Shape := ⟨2, ![4096, 1152]⟩
abbrev S1024x2048 : Shape := ⟨2, ![1024, 2048]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5760, .bf16⟩
  | .hbm, ⟨2, _⟩ => ⟨S4096x1152, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S1024x1152, .f32⟩
  | .local _ .vmem, ⟨4, _⟩ => ⟨S1024x1152, .f32⟩
  | .local _ .vmem, ⟨5, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjZdtRefIdeal.lean ====
abbrev S4096x2048 : Shape := ⟨2, ![4096, 2048]⟩
abbrev S2048x5760 : Shape := ⟨2, ![2048, 5760]⟩
abbrev S4096x5760 : Shape := ⟨2, ![4096, 5760]⟩
abbrev S4096x1152 : Shape := ⟨2, ![4096, 1152]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5760, .bf16⟩
  | .hbm, ⟨2, _⟩ => ⟨S4096x2048, .f32⟩
  | .hbm, ⟨3, _⟩ => ⟨S2048x5760, .f32⟩
  | .hbm, ⟨4, _⟩ => ⟨S4096x5760, .f32⟩
  | .hbm, ⟨5, _⟩ => ⟨S4096x1152, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlpIn.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInRefIdeal.lean ====
abbrev S4096x2048 : Shape := ⟨2, ![4096, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S1x2048x2048, .bf16⟩
  | .hbm, ⟨3, _⟩ => ⟨S2048x2048, .bf16⟩
  | .hbm, ⟨4, _⟩ => ⟨S1x2048x2048, .bf16⟩
  | .hbm, ⟨5, _⟩ => ⟨S2048x2048, .bf16⟩
  | .hbm, ⟨6, _⟩ => ⟨S1x2048x2048, .bf16⟩
  | .hbm, ⟨7, _⟩ => ⟨S2048x2048, .bf16⟩
  | .hbm, ⟨8, _⟩ => ⟨S1x2048x2048, .bf16⟩
  | .hbm, ⟨9, _⟩ => ⟨S2048x2048, .bf16⟩
  | .hbm, ⟨10, _⟩ => ⟨S2048x8192, .bf16⟩
  | .hbm, ⟨11, _⟩ => ⟨S2048x8192, .f32⟩
  | .hbm, ⟨12, _⟩ => ⟨S4096x2048, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_cst : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== MlpOut.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvBwdIn.lean ====
abbrev S4096x1536 : Shape := ⟨2, ![4096, 1536]⟩
abbrev S4096x5760 : Shape := ⟨2, ![4096, 5760]⟩
abbrev S4x1536 : Shape := ⟨2, ![4, 1536]⟩
abbrev S128x1536 : Shape := ⟨2, ![128, 1536]⟩
abbrev S8x1536 : Shape := ⟨2, ![8, 1536]⟩
abbrev S136x1536 : Shape := ⟨2, ![136, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4096x5760, .bf16⟩
  | .hbm, ⟨2, _⟩ => ⟨S4x1536, .f32⟩
  | .hbm, ⟨3, _⟩ => ⟨S4096x5760, .bf16⟩
  | .local _ .vmem, ⟨0, _⟩ => ⟨S128x1536, .f32⟩
  | .local _ .vmem, ⟨1, _⟩ => ⟨S128x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S128x1536, .bf16⟩
  | .local _ .vmem, ⟨6, _⟩ => ⟨S128x1536, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvBwdInRefIdeal.lean ====
abbrev S4096x1536 : Shape := ⟨2, ![4096, 1536]⟩
abbrev S4096x5760 : Shape := ⟨2, ![4096, 5760]⟩
abbrev S4x1536 : Shape := ⟨2, ![4, 1536]⟩
abbrev S_ : Shape := ⟨0, ![]⟩
abbrev S1536 : Shape := ⟨1, ![1536]⟩
abbrev S1x1536 : Shape := ⟨2, ![1, 1536]⟩
abbrev S4095x1536 : Shape := ⟨2, ![4095, 1536]⟩
abbrev S2x1536 : Shape := ⟨2, ![2, 1536]⟩
abbrev S4094x1536 : Shape := ⟨2, ![4094, 1536]⟩
abbrev S3x1536 : Shape := ⟨2, ![3, 1536]⟩
abbrev S4093x1536 : Shape := ⟨2, ![4093, 1536]⟩
abbrev S4096x3072 : Shape := ⟨2, ![4096, 3072]⟩
abbrev S4096x1152 : Shape := ⟨2, ![4096, 1152]⟩

abbrev nBuf : Space → Nat
  | .hbm => 80
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x5760, .bf16⟩
  | .hbm, ⟨2, _⟩ => ⟨S4x1536, .f32⟩
  | .hbm, ⟨3, _⟩ => ⟨S_, .f32⟩
  | .hbm, ⟨4, _⟩ => ⟨S4096x1536, .f32⟩
  | .hbm, ⟨5, _⟩ => ⟨S_, .f32⟩
  | .hbm, ⟨6, _⟩ => ⟨S1536, .f32⟩
  | .hbm, ⟨7, _⟩ => ⟨S_, .f32⟩
  | .hbm, ⟨8, _⟩ => ⟨S1x1536, .f32⟩
  | .hbm, ⟨9, _⟩ => ⟨S4095x1536, .f32⟩
  | .hbm, ⟨10, _⟩ => ⟨S4096x1536, .f32⟩
  | .hbm, ⟨11, _⟩ => ⟨S_, .f32⟩
  | .hbm, ⟨12, _⟩ => ⟨S1x1536, .f32⟩
  | .hbm, ⟨13, _⟩ => ⟨S_, .f32⟩
  | .hbm, ⟨14, _⟩ => ⟨S2x1536, .f32⟩
  | .hbm, ⟨15, _⟩ => ⟨S4094x1536, .f32⟩
  | .hbm, ⟨16, _⟩ => ⟨S4096x1536, .f32⟩
  | .hbm, ⟨17, _⟩ => ⟨S_, .f32⟩
  | .hbm, ⟨18, _⟩ => ⟨S2x1536, .f32⟩
  | .hbm, ⟨19, _⟩ => ⟨S_, .f32⟩
  | .hbm, ⟨20, _⟩ => ⟨S3x1536, .f32⟩
  | .hbm, ⟨21, _⟩ => ⟨S4093x1536, .f32⟩
  | .hbm, ⟨22, _⟩ => ⟨S4096x1536, .f32⟩
  | .hbm, ⟨23, _⟩ => ⟨S_, .f32⟩
  | .hbm, ⟨24, _⟩ => ⟨S3x1536, .f32⟩
  | .hbm, ⟨25, _⟩ => ⟨S1x1536, .f32⟩
  | .hbm, ⟨26, _⟩ => ⟨S1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S1x1536, .f32⟩
  | .hbm, ⟨37, _⟩ => ⟨S1536, .f32⟩
  | .hbm, ⟨38, _⟩ => ⟨S1x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S1x1536, .f32⟩
  | .hbm, ⟨43, _⟩ => ⟨S1536, .f32⟩
  | .hbm, ⟨44, _⟩ => ⟨S1x1536, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S1x1536, .f32⟩
  | .hbm, ⟨49, _⟩ => ⟨S4096x1536, .f32⟩
  | .hbm, ⟨50, _⟩ => ⟨S4096x1536, .f32⟩
  | .hbm, ⟨51, _⟩ => ⟨S4096x1536, .f32⟩
  | .hbm, ⟨52, _⟩ => ⟨S4096x1536, .f32⟩
  | .hbm, ⟨53, _⟩ => ⟨S4096x1536, .f32⟩
  | .hbm, ⟨54, _⟩ => ⟨S4096x1536, .f32⟩
  | .hbm, ⟨55, _⟩ => ⟨S4096x1536, .f32⟩
  | .hbm, ⟨56, _⟩ => ⟨S4096x1536, .f32⟩
  | .hbm, ⟨57, _⟩ => ⟨S4096x1536, .f32⟩
  | .hbm, ⟨58, _⟩ => ⟨S4096x1536, .f32⟩
  | .hbm, ⟨59, _⟩ => ⟨S4096x1536, .f32⟩
  | .hbm, ⟨60, _⟩ => ⟨S4096x1536, .f32⟩
  | .hbm, ⟨61, _⟩ => ⟨S3x1536, .f32⟩
  | .hbm, ⟨62, _⟩ => ⟨S4093x1536, .f32⟩
  | .hbm, ⟨63, _⟩ => ⟨S_, .f32⟩
  | .hbm, ⟨64, _⟩ => ⟨S4096x1536, .f32⟩
  | .hbm, ⟨65, _⟩ => ⟨S4096x1536, .f32⟩
  | .hbm, ⟨66, _⟩ => ⟨S2x1536, .f32⟩
  | .hbm, ⟨67, _⟩ => ⟨S4094x1536, .f32⟩
  | .hbm, ⟨68, _⟩ => ⟨S_, .f32⟩
  | .hbm, ⟨69, _⟩ => ⟨S4096x1536, .f32⟩
  | .hbm, ⟨70, _⟩ => ⟨S4096x1536, .f32⟩
  | .hbm, ⟨71, _⟩ => ⟨S1x1536, .f32⟩
  | .hbm, ⟨72, _⟩ => ⟨S4095x1536, .f32⟩
  | .hbm, ⟨73, _⟩ => ⟨S_, .f32⟩
  | .hbm, ⟨74, _⟩ => ⟨S4096x1536, .f32⟩
  | .hbm, ⟨75, _⟩ => ⟨S4096x1536, .f32⟩
  | .hbm, ⟨76, _⟩ => ⟨S4096x3072, .bf16⟩
  | .hbm, ⟨77, _⟩ => ⟨S4096x1536, .bf16⟩
  | .hbm, ⟨78, _⟩ => ⟨S4096x1152, .bf16⟩
  | .hbm, ⟨79, _⟩ => ⟨S4096x5760, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== LnBwd.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩
abbrev S_ : Shape := ⟨0, ![]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S8x2048, .f32⟩
  | .hbm, ⟨8, _⟩ => ⟨S_, .f32⟩
  | .hbm, ⟨9, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== ConvBwdPre.lean ====
abbrev S4096x1536 : Shape := ⟨2, ![4096, 1536]⟩
abbrev S4096x1024 : Shape := ⟨2, ![4096, 1024]⟩
abbrev S4096x512 : Shape := ⟨2, ![4096, 512]⟩
abbrev S4x1536 : Shape := ⟨2, ![4, 1536]⟩
abbrev S1536 : Shape := ⟨1, ![1536]⟩
abbrev S1x1536 : Shape := ⟨2, ![1, 1536]⟩
abbrev S8x1536 : Shape := ⟨2, ![8, 1536]⟩
abbrev S256x1536 : Shape := ⟨2, ![256, 1536]⟩
abbrev S256x1024 : Shape := ⟨2, ![256, 1024]⟩
abbrev S256x512 : Shape := ⟨2, ![256, 512]⟩
abbrev S264x1536 : Shape := ⟨2, ![264, 1536]⟩
abbrev S32x8x1536 : Shape := ⟨3, ![32, 8, 1536]⟩
abbrev S_ : Shape := ⟨0, ![]⟩

abbrev nBuf : Space → Nat
  | .hbm => 28
  | .vmem => 19
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x512, .f32⟩
  | .hbm, ⟨3, _⟩ => ⟨S4096x1024, .f32⟩
  | .hbm, ⟨4, _⟩ => ⟨S4x1536, .f32⟩
  | .hbm, ⟨5, _⟩ => ⟨S1536, .f32⟩
  | .hbm, ⟨6, _⟩ => ⟨S1x1536, .f32⟩
  | .hbm, ⟨7, _⟩ => ⟨S4096x1536, .f32⟩
  | .hbm, ⟨8, _⟩ => ⟨S8x1536, .f32⟩
  | .hbm, ⟨9, _⟩ => ⟨S8x1536, .f32⟩
  | .hbm, ⟨10, _⟩ => ⟨S8x1536, .f32⟩
  | .hbm, ⟨11, _⟩ => ⟨S8x1536, .f32⟩
  | .hbm, ⟨12, _⟩ => ⟨S8x1536, .f32⟩
  | .hbm, ⟨13, _⟩ => ⟨S_, .f32⟩
  | .hbm, ⟨14, _⟩ => ⟨S1536, .f32⟩
  | .hbm, ⟨15, _⟩ => ⟨S_, .f32⟩
  | .hbm, ⟨16, _⟩ => ⟨S1536, .f32⟩
  | .hbm, ⟨17, _⟩ => ⟨S_, .f32⟩
  | .hbm, ⟨18, _⟩ => ⟨S1536, .f32⟩
  | .hbm, ⟨19, _⟩ => ⟨S_, .f32⟩
  | .hbm, ⟨20, _⟩ => ⟨S1536, .f32⟩
  | .hbm, ⟨21, _⟩ => ⟨S1x1536, .f32⟩
  | .hbm, ⟨22, _⟩ => ⟨S1x1536, .f32⟩
  | .hbm, ⟨23, _⟩ => ⟨S1x1536, .f32⟩
  | .hbm, ⟨24, _⟩ => ⟨S1x1536, .f32⟩
  | .hbm, ⟨25, _⟩ => ⟨S4x1536, .f32⟩
  | .hbm, ⟨26, _⟩ => ⟨S_, .f32⟩
  | .hbm, ⟨27, _⟩ => ⟨S1536, .f32⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S8x1536, .f32⟩
  | .local _ .vmem, ⟨9, _⟩ => ⟨S8x1536, .f32⟩
  | .local _ .vmem, ⟨10, _⟩ => ⟨S4x1536, .f32⟩
  | .local _ .vmem, ⟨11, _⟩ => ⟨S1x1536, .f32⟩
  | .local _ .vmem, ⟨12, _⟩ => ⟨S256x1536, .f32⟩
  | .local _ .vmem, ⟨13, _⟩ => ⟨S256x1536, .f32⟩
  | .local _ .vmem, ⟨14, _⟩ => ⟨S8x1536, .f32⟩
  | .local _ .vmem, ⟨15, _⟩ => ⟨S8x1536, .f32⟩
  | .local _ .vmem, ⟨16, _⟩ => ⟨S8x1536, .f32⟩
  | .local _ .vmem, ⟨17, _⟩ => ⟨S8x1536, .f32⟩
  | .local _ .vmem, ⟨18, _⟩ => ⟨S8x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev main_v1_5 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ConvBwdPreRefIdeal.lean ====
abbrev S4096x1536 : Shape := ⟨2, ![4096, 1536]⟩
abbrev S4096x1024 : Shape := ⟨2, ![4096, 1024]⟩
abbrev S4096x512 : Shape := ⟨2, ![4096, 512]⟩
abbrev S4x1536 : Shape := ⟨2, ![4, 1536]⟩
abbrev S1536 : Shape := ⟨1, ![1536]⟩
abbrev S_ : Shape := ⟨0, ![]⟩
abbrev S1x1536 : Shape := ⟨2, ![1, 1536]⟩
abbrev S4095x1536 : Shape := ⟨2, ![4095, 1536]⟩
abbrev S2x1536 : Shape := ⟨2, ![2, 1536]⟩
abbrev S4094x1536 : Shape := ⟨2, ![4094, 1536]⟩
abbrev S3x1536 : Shape := ⟨2, ![3, 1536]⟩
abbrev S4093x1536 : Shape := ⟨2, ![4093, 1536]⟩

abbrev nBuf : Space → Nat
  | .hbm => 107
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x512, .f32⟩
  | .hbm, ⟨3, _⟩ => ⟨S4096x1024, .f32⟩
  | .hbm, ⟨4, _⟩ => ⟨S4x1536, .f32⟩
  | .hbm, ⟨5, _⟩ => ⟨S1536, .f32⟩
  | .hbm, ⟨6, _⟩ => ⟨S4096x1024, .f32⟩
  | .hbm, ⟨7, _⟩ => ⟨S4096x1536, .f32⟩
  | .hbm, ⟨8, _⟩ => ⟨S_, .f32⟩
  | .hbm, ⟨9, _⟩ => ⟨S1x1536, .f32⟩
  | .hbm, ⟨10, _⟩ => ⟨S4095x1536, .f32⟩
  | .hbm, ⟨11, _⟩ => ⟨S4096x1536, .f32⟩
  | .hbm, ⟨12, _⟩ => ⟨S_, .f32⟩
  | .hbm, ⟨13, _⟩ => ⟨S2x1536, .f32⟩
  | .hbm, ⟨14, _⟩ => ⟨S4094x1536, .f32⟩
  | .hbm, ⟨15, _⟩ => ⟨S4096x1536, .f32⟩
  | .hbm, ⟨16, _⟩ => ⟨S_, .f32⟩
  | .hbm, ⟨17, _⟩ => ⟨S3x1536, .f32⟩
  | .hbm, ⟨18, _⟩ => ⟨S4093x1536, .f32⟩
  | .hbm, ⟨19, _⟩ => ⟨S4096x1536, .f32⟩
  | .hbm, ⟨20, _⟩ => ⟨S1x1536, .f32⟩
  | .hbm, ⟨21, _⟩ => ⟨S1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S1x1536, .f32⟩
  | .hbm, ⟨26, _⟩ => ⟨S1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S1x1536, .f32⟩
  | .hbm, ⟨32, _⟩ => ⟨S1536, .f32⟩
  | .hbm, ⟨33, _⟩ => ⟨S1x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S1x1536, .f32⟩
  | .hbm, ⟨38, _⟩ => ⟨S1536, .f32⟩
  | .hbm, ⟨39, _⟩ => ⟨S1x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S1x1536, .f32⟩
  | .hbm, ⟨44, _⟩ => ⟨S4096x1536, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S_, .f32⟩
  | .hbm, ⟨49, _⟩ => ⟨S4096x1536, .f32⟩
  | .hbm, ⟨50, _⟩ => ⟨S4096x1536, .f32⟩
  | .hbm, ⟨51, _⟩ => ⟨S_, .f32⟩
  | .hbm, ⟨52, _⟩ => ⟨S4096x1536, .f32⟩
  | .hbm, ⟨53, _⟩ => ⟨S4096x1536, .f32⟩
  | .hbm, ⟨54, _⟩ => ⟨S_, .f32⟩
  | .hbm, ⟨55, _⟩ => ⟨S4096x1536, .f32⟩
  | .hbm, ⟨56, _⟩ => ⟨S4096x1536, .f32⟩
  | .hbm, ⟨57, _⟩ => ⟨S4096x1536, .f32⟩
  | .hbm, ⟨58, _⟩ => ⟨S4096x1536, .f32⟩
  | .hbm, ⟨59, _⟩ => ⟨S4096x1536, .f32⟩
  | .hbm, ⟨60, _⟩ => ⟨S4096x1536, .f32⟩
  | .hbm, ⟨61, _⟩ => ⟨S4096x1536, .f32⟩
  | .hbm, ⟨62, _⟩ => ⟨S4096x1536, .f32⟩
  | .hbm, ⟨63, _⟩ => ⟨S_, .f32⟩
  | .hbm, ⟨64, _⟩ => ⟨S1536, .f32⟩
  | .hbm, ⟨65, _⟩ => ⟨S1x1536, .f32⟩
  | .hbm, ⟨66, _⟩ => ⟨S_, .f32⟩
  | .hbm, ⟨67, _⟩ => ⟨S1536, .f32⟩
  | .hbm, ⟨68, _⟩ => ⟨S4096x1536, .f32⟩
  | .hbm, ⟨69, _⟩ => ⟨S_, .f32⟩
  | .hbm, ⟨70, _⟩ => ⟨S1536, .f32⟩
  | .hbm, ⟨71, _⟩ => ⟨S1x1536, .f32⟩
  | .hbm, ⟨72, _⟩ => ⟨S_, .f32⟩
  | .hbm, ⟨73, _⟩ => ⟨S1536, .f32⟩
  | .hbm, ⟨74, _⟩ => ⟨S1x1536, .f32⟩
  | .hbm, ⟨75, _⟩ => ⟨S_, .f32⟩
  | .hbm, ⟨76, _⟩ => ⟨S4x1536, .f32⟩
  | .hbm, ⟨77, _⟩ => ⟨S4096x1536, .f32⟩
  | .hbm, ⟨78, _⟩ => ⟨S_, .f32⟩
  | .hbm, ⟨79, _⟩ => ⟨S1536, .f32⟩
  | .hbm, ⟨80, _⟩ => ⟨S1x1536, .f32⟩
  | .hbm, ⟨81, _⟩ => ⟨S_, .f32⟩
  | .hbm, ⟨82, _⟩ => ⟨S1536, .f32⟩
  | .hbm, ⟨83, _⟩ => ⟨S1x1536, .f32⟩
  | .hbm, ⟨84, _⟩ => ⟨S_, .f32⟩
  | .hbm, ⟨85, _⟩ => ⟨S4x1536, .f32⟩
  | .hbm, ⟨86, _⟩ => ⟨S4x1536, .f32⟩
  | .hbm, ⟨87, _⟩ => ⟨S4096x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S_, .f32⟩
  | .hbm, ⟨92, _⟩ => ⟨S1536, .f32⟩
  | .hbm, ⟨93, _⟩ => ⟨S1x1536, .f32⟩
  | .hbm, ⟨94, _⟩ => ⟨S_, .f32⟩
  | .hbm, ⟨95, _⟩ => ⟨S4x1536, .f32⟩
  | .hbm, ⟨96, _⟩ => ⟨S4x1536, .f32⟩
  | .hbm, ⟨97, _⟩ => ⟨S4096x1536, .f32⟩
  | .hbm, ⟨98, _⟩ => ⟨S_, .f32⟩
  | .hbm, ⟨99, _⟩ => ⟨S1536, .f32⟩
  | .hbm, ⟨100, _⟩ => ⟨S1x1536, .f32⟩
  | .hbm, ⟨101, _⟩ => ⟨S_, .f32⟩
  | .hbm, ⟨102, _⟩ => ⟨S1536, .f32⟩
  | .hbm, ⟨103, _⟩ => ⟨S1x1536, .f32⟩
  | .hbm, ⟨104, _⟩ => ⟨S_, .f32⟩
  | .hbm, ⟨105, _⟩ => ⟨S4x1536, .f32⟩
  | .hbm, ⟨106, _⟩ => ⟨S4x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v37_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v37_1 : Ref sig .tc := ⟨.hbm, 57, rfl⟩
abbrev main_v37_0 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_13 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_cst_15 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S32x8x2048 : Shape := ⟨3, ![32, 8, 2048]⟩
abbrev S32x8x128 : Shape := ⟨3, ![32, 8, 128]⟩
abbrev S_ : Shape := ⟨0, ![]⟩
abbrev S8x1 : Shape := ⟨2, ![8, 1]⟩
abbrev S8 : Shape := ⟨1, ![8]⟩

abbrev nBuf : Space → Nat
  | .hbm => 14
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S8x128, .f32⟩
  | .hbm, ⟨8, _⟩ => ⟨S_, .f32⟩
  | .hbm, ⟨9, _⟩ => ⟨S2048, .f32⟩
  | .hbm, ⟨10, _⟩ => ⟨S8x1, .f32⟩
  | .hbm, ⟨11, _⟩ => ⟨S8, .f32⟩
  | .hbm, ⟨12, _⟩ => ⟨S_, .f32⟩
  | .hbm, ⟨13, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | .local _ .vmem, ⟨10, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== GateBwd.lean ====
abbrev S4096x2048 : Shape := ⟨2, ![4096, 2048]⟩
abbrev S4096x1024 : Shape := ⟨2, ![4096, 1024]⟩
abbrev S4096x1536 : Shape := ⟨2, ![4096, 1536]⟩
abbrev S4096x1152 : Shape := ⟨2, ![4096, 1152]⟩
abbrev S16 : Shape := ⟨1, ![16]⟩
abbrev S1024 : Shape := ⟨1, ![1024]⟩
abbrev S4096x16x64 : Shape := ⟨3, ![4096, 16, 64]⟩
abbrev S16x1 : Shape := ⟨2, ![16, 1]⟩
abbrev S1x16x1 : Shape := ⟨3, ![1, 16, 1]⟩
abbrev S_ : Shape := ⟨0, ![]⟩
abbrev S16x64 : Shape := ⟨2, ![16, 64]⟩
abbrev S1x1024 : Shape := ⟨2, ![1, 1024]⟩
abbrev S8x1024 : Shape := ⟨2, ![8, 1024]⟩
abbrev S256x1024 : Shape := ⟨2, ![256, 1024]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S32x8x1024 : Shape := ⟨3, ![32, 8, 1024]⟩

abbrev nBuf : Space → Nat
  | .hbm => 42
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1536, .f32⟩
  | .hbm, ⟨3, _⟩ => ⟨S4096x1152, .f32⟩
  | .hbm, ⟨4, _⟩ => ⟨S16, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x16x64, .f32⟩
  | .hbm, ⟨9, _⟩ => ⟨S16x1, .f32⟩
  | .hbm, ⟨10, _⟩ => ⟨S4096x16x64, .f32⟩
  | .hbm, ⟨11, _⟩ => ⟨S1x16x1, .f32⟩
  | .hbm, ⟨12, _⟩ => ⟨S4096x16x64, .f32⟩
  | .hbm, ⟨13, _⟩ => ⟨S4096x16x64, .f32⟩
  | .hbm, ⟨14, _⟩ => ⟨S4096x16x64, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S16x64, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S8x1024, .f32⟩
  | .hbm, ⟨34, _⟩ => ⟨S8x1024, .f32⟩
  | .hbm, ⟨35, _⟩ => ⟨S_, .f32⟩
  | .hbm, ⟨36, _⟩ => ⟨S1024, .f32⟩
  | .hbm, ⟨37, _⟩ => ⟨S16x64, .f32⟩
  | .hbm, ⟨38, _⟩ => ⟨S_, .f32⟩
  | .hbm, ⟨39, _⟩ => ⟨S16, .f32⟩
  | .hbm, ⟨40, _⟩ => ⟨S_, .f32⟩
  | .hbm, ⟨41, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateBwdRefIdeal.lean ====
abbrev S4096x2048 : Shape := ⟨2, ![4096, 2048]⟩
abbrev S4096x1024 : Shape := ⟨2, ![4096, 1024]⟩
abbrev S4096x1536 : Shape := ⟨2, ![4096, 1536]⟩
abbrev S4096x1152 : Shape := ⟨2, ![4096, 1152]⟩
abbrev S16 : Shape := ⟨1, ![16]⟩
abbrev S1024 : Shape := ⟨1, ![1024]⟩
abbrev S4096x16x64 : Shape := ⟨3, ![4096, 16, 64]⟩
abbrev S16x1 : Shape := ⟨2, ![16, 1]⟩
abbrev S1x16x1 : Shape := ⟨3, ![1, 16, 1]⟩
abbrev S_ : Shape := ⟨0, ![]⟩
abbrev S4096x2x512 : Shape := ⟨3, ![4096, 2, 512]⟩
abbrev S2x512 : Shape := ⟨2, ![2, 512]⟩
abbrev S4096x2 : Shape := ⟨2, ![4096, 2]⟩
abbrev S4096x2x1 : Shape := ⟨3, ![4096, 2, 1]⟩
abbrev S1x2x512 : Shape := ⟨3, ![1, 2, 512]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1536, .f32⟩
  | .hbm, ⟨3, _⟩ => ⟨S4096x1152, .f32⟩
  | .hbm, ⟨4, _⟩ => ⟨S16, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x16x64, .f32⟩
  | .hbm, ⟨9, _⟩ => ⟨S16x1, .f32⟩
  | .hbm, ⟨10, _⟩ => ⟨S4096x16x64, .f32⟩
  | .hbm, ⟨11, _⟩ => ⟨S1x16x1, .f32⟩
  | .hbm, ⟨12, _⟩ => ⟨S4096x16x64, .f32⟩
  | .hbm, ⟨13, _⟩ => ⟨S4096x16x64, .f32⟩
  | .hbm, ⟨14, _⟩ => ⟨S4096x16x64, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2x512, .f32⟩
  | .hbm, ⟨31, _⟩ => ⟨S2x512, .f32⟩
  | .hbm, ⟨32, _⟩ => ⟨S4096x2x512, .f32⟩
  | .hbm, ⟨33, _⟩ => ⟨S_, .f32⟩
  | .hbm, ⟨34, _⟩ => ⟨S4096x2, .f32⟩
  | .hbm, ⟨35, _⟩ => ⟨S4096x2x1, .f32⟩
  | .hbm, ⟨36, _⟩ => ⟨S_, .f32⟩
  | .hbm, ⟨37, _⟩ => ⟨S4096x2x1, .f32⟩
  | .hbm, ⟨38, _⟩ => ⟨S4096x2x1, .f32⟩
  | .hbm, ⟨39, _⟩ => ⟨S_, .f32⟩
  | .hbm, ⟨40, _⟩ => ⟨S4096x2x1, .f32⟩
  | .hbm, ⟨41, _⟩ => ⟨S4096x2x1, .f32⟩
  | .hbm, ⟨42, _⟩ => ⟨S4096x2x1, .f32⟩
  | .hbm, ⟨43, _⟩ => ⟨S4096x2x1, .f32⟩
  | .hbm, ⟨44, _⟩ => ⟨S_, .f32⟩
  | .hbm, ⟨45, _⟩ => ⟨S4096x2x1, .f32⟩
  | .hbm, ⟨46, _⟩ => ⟨S4096x2x1, .f32⟩
  | .hbm, ⟨47, _⟩ => ⟨S4096x2x512, .f32⟩
  | .hbm, ⟨48, _⟩ => ⟨S4096x2x512, .f32⟩
  | .hbm, ⟨49, _⟩ => ⟨S1x2x512, .f32⟩
  | .hbm, ⟨50, _⟩ => ⟨S4096x2x512, .f32⟩
  | .hbm, ⟨51, _⟩ => ⟨S4096x2x512, .f32⟩
  | .hbm, ⟨52, _⟩ => ⟨S4096x1024, .f32⟩
  | .hbm, ⟨53, _⟩ => ⟨S4096x1024, .f32⟩
  | .hbm, ⟨54, _⟩ => ⟨S4096x2x512, .f32⟩
  | .hbm, ⟨55, _⟩ => ⟨S4096x2x512, .f32⟩
  | .hbm, ⟨56, _⟩ => ⟨S_, .f32⟩
  | .hbm, ⟨57, _⟩ => ⟨S2x512, .f32⟩
  | .hbm, ⟨58, _⟩ => ⟨S1x2x512, .f32⟩
  | .hbm, ⟨59, _⟩ => ⟨S4096x2x512, .f32⟩
  | .hbm, ⟨60, _⟩ => ⟨S4096x2x512, .f32⟩
  | .hbm, ⟨61, _⟩ => ⟨S_, .f32⟩
  | .hbm, ⟨62, _⟩ => ⟨S2x512, .f32⟩
  | .hbm, ⟨63, _⟩ => ⟨S4096x2x512, .f32⟩
  | .hbm, ⟨64, _⟩ => ⟨S_, .f32⟩
  | .hbm, ⟨65, _⟩ => ⟨S4096x2, .f32⟩
  | .hbm, ⟨66, _⟩ => ⟨S4096x2x1, .f32⟩
  | .hbm, ⟨67, _⟩ => ⟨S4096x2x512, .f32⟩
  | .hbm, ⟨68, _⟩ => ⟨S4096x2x512, .f32⟩
  | .hbm, ⟨69, _⟩ => ⟨S4096x2x1, .f32⟩
  | .hbm, ⟨70, _⟩ => ⟨S_, .f32⟩
  | .hbm, ⟨71, _⟩ => ⟨S4096x2x1, .f32⟩
  | .hbm, ⟨72, _⟩ => ⟨S4096x2x1, .f32⟩
  | .hbm, ⟨73, _⟩ => ⟨S_, .f32⟩
  | .hbm, ⟨74, _⟩ => ⟨S4096x2, .f32⟩
  | .hbm, ⟨75, _⟩ => ⟨S4096x2x512, .f32⟩
  | .hbm, ⟨76, _⟩ => ⟨S4096x2x512, .f32⟩
  | .hbm, ⟨77, _⟩ => ⟨S4096x2x512, .f32⟩
  | .hbm, ⟨78, _⟩ => ⟨S4096x2x512, .f32⟩
  | .hbm, ⟨79, _⟩ => ⟨S4096x2x512, .f32⟩
  | .hbm, ⟨80, _⟩ => ⟨S1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x16x64, .f32⟩
  | .hbm, ⟨89, _⟩ => ⟨S4096x16x64, .f32⟩
  | .hbm, ⟨90, _⟩ => ⟨S4096x16x64, .f32⟩
  | .hbm, ⟨91, _⟩ => ⟨S4096x16x64, .f32⟩
  | .hbm, ⟨92, _⟩ => ⟨S_, .f32⟩
  | .hbm, ⟨93, _⟩ => ⟨S16, .f32⟩
  | .hbm, ⟨94, _⟩ => ⟨S1x16x1, .f32⟩
  | .hbm, ⟨95, _⟩ => ⟨S_, .f32⟩
  | .hbm, ⟨96, _⟩ => ⟨S16, .f32⟩
  | .hbm, ⟨97, _⟩ => ⟨S16x1, .f32⟩
  | .hbm, ⟨98, _⟩ => ⟨S4096x1024, .f32⟩
  | .hbm, ⟨99, _⟩ => ⟨S_, .f32⟩
  | .hbm, ⟨100, _⟩ => ⟨S16, .f32⟩
  | .hbm, ⟨101, _⟩ => ⟨S4096x1024, .f32⟩
  | .hbm, ⟨102, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v10_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v10_1 : Ref sig .tc := ⟨.hbm, 27, rfl⟩
abbrev main_v10_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_8 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_10 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]
-- ==== LnFwd.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LnFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateFwd.lean ====
abbrev S4096x1024 : Shape := ⟨2, ![4096, 1024]⟩
abbrev S4096x1536 : Shape := ⟨2, ![4096, 1536]⟩
abbrev S4096x1152 : Shape := ⟨2, ![4096, 1152]⟩
abbrev S16 : Shape := ⟨1, ![16]⟩
abbrev S16x64 : Shape := ⟨2, ![16, 64]⟩
abbrev S1024 : Shape := ⟨1, ![1024]⟩
abbrev S1x1024 : Shape := ⟨2, ![1, 1024]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1152, .f32⟩
  | .hbm, ⟨3, _⟩ => ⟨S16, .f32⟩
  | .hbm, ⟨4, _⟩ => ⟨S16x64, .f32⟩
  | .hbm, ⟨5, _⟩ => ⟨S1024, .f32⟩
  | .hbm, ⟨6, _⟩ => ⟨S1x1024, .f32⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFwdRefIdeal.lean ====
abbrev S4096x1024 : Shape := ⟨2, ![4096, 1024]⟩
abbrev S4096x1536 : Shape := ⟨2, ![4096, 1536]⟩
abbrev S4096x1152 : Shape := ⟨2, ![4096, 1152]⟩
abbrev S16 : Shape := ⟨1, ![16]⟩
abbrev S4096x16x64 : Shape := ⟨3, ![4096, 16, 64]⟩
abbrev S16x1 : Shape := ⟨2, ![16, 1]⟩
abbrev S1x16x1 : Shape := ⟨3, ![1, 16, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1152, .f32⟩
  | .hbm, ⟨3, _⟩ => ⟨S16, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S16x1, .f32⟩
  | .hbm, ⟨8, _⟩ => ⟨S4096x16x64, .f32⟩
  | .hbm, ⟨9, _⟩ => ⟨S1x16x1, .f32⟩
  | .hbm, ⟨10, _⟩ => ⟨S4096x16x64, .f32⟩
  | .hbm, ⟨11, _⟩ => ⟨S4096x16x64, .f32⟩
  | .hbm, ⟨12, _⟩ => ⟨S4096x16x64, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== ConvFwd.lean ====
abbrev S4096x1536 : Shape := ⟨2, ![4096, 1536]⟩
abbrev S4x1536 : Shape := ⟨2, ![4, 1536]⟩
abbrev S1536 : Shape := ⟨1, ![1536]⟩
abbrev S1x1536 : Shape := ⟨2, ![1, 1536]⟩
abbrev S128x1536 : Shape := ⟨2, ![128, 1536]⟩
abbrev S8x1536 : Shape := ⟨2, ![8, 1536]⟩
abbrev S136x1536 : Shape := ⟨2, ![136, 1536]⟩

abbrev nBuf : Space → Nat
  | .hbm => 5
  | .vmem => 8
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S1x1536, .f32⟩
  | .hbm, ⟨4, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S1x1536, .f32⟩
  | .local _ .vmem, ⟨6, _⟩ => ⟨S128x1536, .f32⟩
  | .local _ .vmem, ⟨7, _⟩ => ⟨S128x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S4096x1536 : Shape := ⟨2, ![4096, 1536]⟩
abbrev S4x1536 : Shape := ⟨2, ![4, 1536]⟩
abbrev S1536 : Shape := ⟨1, ![1536]⟩
abbrev S_ : Shape := ⟨0, ![]⟩
abbrev S1x1536 : Shape := ⟨2, ![1, 1536]⟩
abbrev S4095x1536 : Shape := ⟨2, ![4095, 1536]⟩
abbrev S2x1536 : Shape := ⟨2, ![2, 1536]⟩
abbrev S4094x1536 : Shape := ⟨2, ![4094, 1536]⟩
abbrev S3x1536 : Shape := ⟨2, ![3, 1536]⟩
abbrev S4093x1536 : Shape := ⟨2, ![4093, 1536]⟩

abbrev nBuf : Space → Nat
  | .hbm => 50
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S1536, .f32⟩
  | .hbm, ⟨3, _⟩ => ⟨S_, .f32⟩
  | .hbm, ⟨4, _⟩ => ⟨S1x1536, .f32⟩
  | .hbm, ⟨5, _⟩ => ⟨S4095x1536, .f32⟩
  | .hbm, ⟨6, _⟩ => ⟨S4096x1536, .f32⟩
  | .hbm, ⟨7, _⟩ => ⟨S_, .f32⟩
  | .hbm, ⟨8, _⟩ => ⟨S2x1536, .f32⟩
  | .hbm, ⟨9, _⟩ => ⟨S4094x1536, .f32⟩
  | .hbm, ⟨10, _⟩ => ⟨S4096x1536, .f32⟩
  | .hbm, ⟨11, _⟩ => ⟨S_, .f32⟩
  | .hbm, ⟨12, _⟩ => ⟨S3x1536, .f32⟩
  | .hbm, ⟨13, _⟩ => ⟨S4093x1536, .f32⟩
  | .hbm, ⟨14, _⟩ => ⟨S4096x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S4096x1536, .f32⟩
  | .hbm, ⟨19, _⟩ => ⟨S4096x1536, .f32⟩
  | .hbm, ⟨20, _⟩ => ⟨S1x1536, .f32⟩
  | .hbm, ⟨21, _⟩ => ⟨S1536, .f32⟩
  | .hbm, ⟨22, _⟩ => ⟨S1x1536, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S1x1536, .f32⟩
  | .hbm, ⟨27, _⟩ => ⟨S1536, .f32⟩
  | .hbm, ⟨28, _⟩ => ⟨S1x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S1x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S4096x1536, .f32⟩
  | .hbm, ⟨45, _⟩ => ⟨S4096x1536, .f32⟩
  | .hbm, ⟨46, _⟩ => ⟨S_, .f32⟩
  | .hbm, ⟨47, _⟩ => ⟨S4096x1536, .f32⟩
  | .hbm, ⟨48, _⟩ => ⟨S4096x1536, .f32⟩
  | .hbm, ⟨49, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Proof.Pair.lean ====
module

public import proofs.«01_k».proof.Proof.Gen.KernelIdeal.Skeleton
public import Idealize.ShloMosaic.Lib.Pipeline.FrameBody
public import Idealize.ShloMosaic.Lib.ValueIdxCore

/-! What one block of the attention's backward pass computes, one pair of heads at a time, over any float
instance: the printed statements of the first pair, as functions of the blocks the body reads. -/

@[expose] public section

set_option maxRecDepth 16384

noncomputable section

namespace Cert.KernelIdeal.Attn

open Cert.KernelIdeal Cert.KernelIdeal.Gen
open Idealize.ShloMosaic Idealize.ShloMosaic.ValueIdx

variable {F : FTy → Type} [FloatOps F]

/-- The blocks one grid point reads: queries, keys and values of this block and the one before, cotangent,
    the two row statistics (sixteen lanes each), the bias of the eight pairs. -/
structure Ins (F : FTy → Type) where
  q : Vec F S128x1024 .bf16
  kc : Vec F S128x1024 .bf16
  kp : Vec F S128x1024 .bf16
  vc : Vec F S128x1024 .bf16
  vp : Vec F S128x1024 .bf16
  d : Vec F S128x1024 .bf16
  l : Vec F S128x128 .f32
  b : Vec F S1x8x256x256 .f32

/-- The 128 lanes of pair `p`. -/
def cols {e : EltTy} (x : Vec F S128x1024 e) (p : Fin 8) : Vec F S128x128 e :=
  View.ld (Val := Elt F) x (Rect.unit (s := S128x1024) ![0, 128 * p.val] S128x128.size (by
    intro a; have := p.isLt; match a with | ⟨0, _⟩ => exact le_of_eq rfl | ⟨1, _⟩ => show 128 * p.val + 128 ≤ 1024; omega))

/-- One lane of the row statistics. -/
def col (x : Vec F S128x128 .f32) (n : ℕ) (h : n < 128) : Vec F S128x1 .f32 :=
  View.ld (Val := Elt F) x (Rect.unit (s := S128x128) ![0, n] S128x1.size (by
    intro a; match a with | ⟨0, _⟩ => exact le_of_eq rfl | ⟨1, _⟩ => show n + 1 ≤ 128; omega))

/-- The bias of pair `p`. -/
def bia (x : Vec F S1x8x256x256 .f32) (p : Fin 8) : Vec F S1x1x256x256 .f32 :=
  View.ld (Val := Elt F) x (Rect.unit (s := S1x8x256x256) ![0, p.val, 0, 0] S1x1x256x256.size (by
    intro a; have := p.isLt; match a with
      | ⟨0, _⟩ => exact le_of_eq rfl | ⟨1, _⟩ => show p.val + 1 ≤ 8; omega | ⟨2, _⟩ => exact le_of_eq rfl | ⟨3, _⟩ => exact le_of_eq rfl))

variable (X : Ins F) (y : Vec F S128x1024 .f32) (p : Fin 8)

/-- The keys of a pair, the earlier block over this one; likewise the values. -/
def k2 : FVec F S256x128 .bf16 := k0_pay6 (cols X.kp p) (cols X.kc p)
def v2 : FVec F S256x128 .bf16 := k0_pay7 (cols X.vp p) (cols X.vc p)
/-- The scaled queries of the pair's two heads, one head over the other, each zero on the other's lanes; the
    cotangent likewise. -/
def q2 : FVec F S256x128 .bf16 := k0_pay8 (cols X.q p)
def d2 : FVec F S256x128 .bf16 := k0_pay9 (cols X.d p)
def l2 : FVec F S256x1 .f32 := k0_pay10 (col X.l (2 * p.val) (by omega)) (col X.l (2 * p.val + 1) (by omega))
def sA : FVec F S128x1 .f32 := k0_pay11 (col X.l (2 * p.val + 16) (by omega))
def sB : FVec F S128x1 .f32 := k0_pay12 (col X.l (2 * p.val + 17) (by omega))

/-- A pair's block of the query gradient, -/
def gQ : Vec F S128x128 .bf16 := k0_pay17 k0_pay5 (k2 X p) (v2 X p) (q2 X p) (d2 X p) (l2 X p) (sA X p) (sB X p) (bia X.b p)
/-- of the key and value gradients of the block before, over what that block itself left in `y`, -/
def gK : Vec F S128x128 .bf16 := k0_pay18 (k2 X p) (v2 X p) (q2 X p) (d2 X p) (l2 X p) (sA X p) (sB X p) (bia X.b p) (cols y p)
def gV : Vec F S128x128 .bf16 := k0_pay19 (k2 X p) (q2 X p) (d2 X p) (l2 X p) (bia X.b p) (cols y p)
/-- and what this block leaves for the next point. -/
def hK : Vec F S128x128 .f32 := k0_pay21 (k0_pay20 (k2 X p) (v2 X p) (q2 X p) (d2 X p) (l2 X p) (sA X p) (sB X p) (bia X.b p))
def hV : Vec F S128x128 .f32 := k0_pay22 (k0_pay16 (k2 X p) (q2 X p) (d2 X p) (l2 X p) (bia X.b p))

/-- A block of eight pairs from its pairs. -/
def byPair {e : EltTy} (g : Fin 8 → Vec F S128x128 e) : Vec F S128x1024 e := fun j =>
  g ⟨(j 1).val / 128, Nat.div_lt_of_lt_mul (j 1).isLt⟩ (ix2 (j 0) ⟨(j 1).val % 128, Nat.mod_lt _ (by decide)⟩)

/-- The whole blocks. -/
def DQ : Vec F S128x1024 .bf16 := byPair (gQ X)
def DK : Vec F S128x1024 .bf16 := byPair (gK X y)
def DV : Vec F S128x1024 .bf16 := byPair (gV X y)
def CK : Vec F S128x1024 .f32 := byPair (hK X)
def CV : Vec F S128x1024 .f32 := byPair (hV X)

omit [FloatOps F] in
theorem byPair_emb {e : EltTy} (g : Fin 8 → Vec F S128x128 e) (p : Fin 8) (n : ℕ) (hn : n = 128 * p.val)
    (inb : ∀ a, (![0, n] : Fin 2 → ℕ) a + S128x128.size a ≤ S128x1024.size a) (x : S128x128.Idx) :
    byPair g ((Rect.unit (s := S128x1024) ![0, n] S128x128.size inb).emb x) = g p x := by
  subst hn
  have h1 : ((Rect.unit (s := S128x1024) ![0, 128 * p.val] S128x128.size inb).emb x 1).val = 128 * p.val + (x 1).val :=
    (Rect.emb_apply _ _ _).trans (by show 128 * p.val + 1 * (x 1).val = _; omega)
  have h0 : ((Rect.unit (s := S128x1024) ![0, 128 * p.val] S128x128.size inb).emb x 0).val = (x 0).val :=
    (Rect.emb_apply _ _ _).trans (by show 0 + 1 * (x 0).val = _; omega)
  have hx : (x 1).val < 128 := (x 1).isLt
  unfold byPair
  congr 1
  · exact Fin.ext (by show _ / 128 = _; omega)
  · conv_rhs => rw [eq_ix2 (n0 := 128) (n1 := 128) x]
    congr 1
    · exact Fin.ext h0
    · exact Fin.ext (by show _ % 128 = _; omega)

omit [FloatOps F] in
/-- Eight stores, one per pair, leave the block of the eight pairs, whatever was stored before. -/
theorem read_byPair {e : EltTy} {sp : Space} (v : View sig .tc sp S128x1024 e) (f : v.ty.Contents (Elt F)) (L : List (View.Piece (Elt F) S128x1024 e))
    (g : Fin 8 → Vec F S128x128 e) (w0 w1 w2 w3 w4 w5 w6 w7 : Vec F S128x128 e)
    (h0 : w0 = g 0) (h1 : w1 = g 1) (h2 : w2 = g 2) (h3 : w3 = g 3) (h4 : w4 = g 4) (h5 : w5 = g 5) (h6 : w6 = g 6) (h7 : w7 = g 7) :
    v.read (Elt F) (v.writes (Elt F) f ([⟨Rect.unit (s := S128x1024) ![0, 896] S128x128.size inb_S128x1024_S128x128_0_896, w7⟩, ⟨Rect.unit (s := S128x1024) ![0, 768] S128x128.size inb_S128x1024_S128x128_0_768, w6⟩, ⟨Rect.unit (s := S128x1024) ![0, 640] S128x128.size inb_S128x1024_S128x128_0_640, w5⟩, ⟨Rect.unit (s := S128x1024) ![0, 512] S128x128.size inb_S128x1024_S128x128_0_512, w4⟩, ⟨Rect.unit (s := S128x1024) ![0, 384] S128x128.size inb_S128x1024_S128x128_0_384, w3⟩, ⟨Rect.unit (s := S128x1024) ![0, 256] S128x128.size inb_S128x1024_S128x128_0_256, w2⟩, ⟨Rect.unit (s := S128x1024) ![0, 128] S128x128.size inb_S128x1024_S128x128_0_128, w1⟩, ⟨Rect.unit (s := S128x1024) ![0, 0] S128x128.size inb_S128x1024_S128x128_0_0, w0⟩] ++ L)) = byPair g := by
  rw [View.writes_append]
  funext y
  refine View.read_writes_apply_of_pieces v _ (byPair g) _ ?_ y ?_
  · subst h0 h1 h2 h3 h4 h5 h6 h7
    intro q hq
    simp only [List.mem_cons, List.not_mem_nil, or_false] at hq
    rcases hq with rfl | rfl | rfl | rfl | rfl | rfl | rfl | rfl
    · exact fun x => (byPair_emb g 7 896 rfl inb_S128x1024_S128x128_0_896 x).symm
    · exact fun x => (byPair_emb g 6 768 rfl inb_S128x1024_S128x128_0_768 x).symm
    · exact fun x => (byPair_emb g 5 640 rfl inb_S128x1024_S128x128_0_640 x).symm
    · exact fun x => (byPair_emb g 4 512 rfl inb_S128x1024_S128x128_0_512 x).symm
    · exact fun x => (byPair_emb g 3 384 rfl inb_S128x1024_S128x128_0_384 x).symm
    · exact fun x => (byPair_emb g 2 256 rfl inb_S128x1024_S128x128_0_256 x).symm
    · exact fun x => (byPair_emb g 1 128 rfl inb_S128x1024_S128x128_0_128 x).symm
    · exact fun x => (byPair_emb g 0 0 rfl inb_S128x1024_S128x128_0_0 x).symm
  · have h0 : (y 0).val < 128 := (y 0).isLt
    have h1 : (y 1).val < 1024 := (y 1).isLt
    simp only [List.mem_cons, List.not_mem_nil, or_false, exists_eq_or_imp, exists_eq_left, Rect.mem_set_unit, Fin.forall_fin_two]
    show _
    simp only [Matrix.cons_val_zero, Matrix.cons_val_one, Matrix.cons_val_fin_one, show S128x128.size 0 = 128 from rfl, show S128x128.size 1 = 128 from rfl]
    omega

end Cert.KernelIdeal.Attn

end
-- ==== Proof.Block.lean ====
module

public import proofs.«01_k».proof.Proof.Pair
public import Idealize.ShloMosaic.Lib.Pointwise
public import Idealize.ShloMosaic.PureOps.Ideal.Laws

/-! One block's results at the extended reals, an element at a time: the two heads stacked on 256 rows, each zero on
the other's lanes, read as one head of 64 lanes. -/

@[expose] public section

set_option maxRecDepth 16384

noncomputable section

namespace Cert.KernelIdeal.Attn

open Cert.KernelIdeal Cert.KernelIdeal.Gen Idealize.ShloMosaic

variable (X : Ins Ideal) (y : Vec Ideal S128x1024 .f32) (p : Fin 8) (e : Fin 2) (i : Fin 128) (j : Fin 256) (k : Fin 128) (d : Fin 64)

theorem byPair_apply {t : EltTy} (g : Fin 8 → Vec Ideal S128x128 t) (l : Fin 1024) :
    byPair g (ix2 i l) = g ⟨l.val / 128, by omega⟩ (ix2 i ⟨l.val % 128, Nat.mod_lt _ (by decide)⟩) := by
  rw [ix2_eq_valueIdx, ix2_eq_valueIdx]; rfl

theorem cols_apply {t : EltTy} (x : Vec Ideal S128x1024 t) : cols x p (ix2 i k) = x (ix2 i ⟨128 * p.val + k.val, by omega⟩) := by
  pointwise [cols]

/-- A sum over 128 lanes of which only one head's 64 count. -/
theorem lane_sum (A B : Fin 128 → EReal) :
    ∑ k : Fin 128, (if k.val / 64 = e.val then A k else 0) * B k = ∑ d : Fin 64, A ⟨e.val * 64 + d.val, by omega⟩ * B ⟨e.val * 64 + d.val, by omega⟩ := by
  rw [show (∑ k : Fin 128, (if k.val / 64 = e.val then A k else 0) * B k) = ∑ k : Fin (64 + 64), (if k.val / 64 = e.val then A k else 0) * B k from rfl, Fin.sum_univ_add]
  have h : e.val = 0 ∨ e.val = 1 := by omega
  rcases h with h | h
  · have e0 : ∀ d : Fin 64, (if (Fin.castAdd 64 d).val / 64 = e.val then A (Fin.castAdd 64 d) else 0) * B (Fin.castAdd 64 d) = A ⟨e.val * 64 + d.val, by omega⟩ * B ⟨e.val * 64 + d.val, by omega⟩ := fun d => by
      rw [if_pos (by simp only [Fin.val_castAdd]; omega)]
      congr 2 <;> exact Fin.ext (by simp only [Fin.val_castAdd]; omega)
    have e1 : ∀ d : Fin 64, (if (Fin.natAdd 64 d).val / 64 = e.val then A (Fin.natAdd 64 d) else 0) * B (Fin.natAdd 64 d) = 0 := fun d => by
      rw [if_neg (by simp only [Fin.val_natAdd]; omega), zero_mul]
    simp only [e0, e1, Finset.sum_const_zero, add_zero]
  · have e0 : ∀ d : Fin 64, (if (Fin.natAdd 64 d).val / 64 = e.val then A (Fin.natAdd 64 d) else 0) * B (Fin.natAdd 64 d) = A ⟨e.val * 64 + d.val, by omega⟩ * B ⟨e.val * 64 + d.val, by omega⟩ := fun d => by
      rw [if_pos (by simp only [Fin.val_natAdd]; omega)]
      congr 2 <;> exact Fin.ext (by simp only [Fin.val_natAdd]; omega)
    have e1 : ∀ d : Fin 64, (if (Fin.castAdd 64 d).val / 64 = e.val then A (Fin.castAdd 64 d) else 0) * B (Fin.castAdd 64 d) = 0 := fun d => by
      rw [if_neg (by simp only [Fin.val_castAdd]; omega), zero_mul]
    simp only [e0, e1, Finset.sum_const_zero, zero_add]

/-- A sum over 256 stacked rows of which only one head's 128 count. -/
theorem row_sum (A : Fin 256 → EReal) (h : ∀ (a : Fin 2) (r : Fin 128), a ≠ e → A ⟨a.val * 128 + r.val, by omega⟩ = 0) :
    ∑ r : Fin 256, A r = ∑ r : Fin 128, A ⟨e.val * 128 + r.val, by omega⟩ := by
  rw [show (∑ r : Fin 256, A r) = ∑ r : Fin (128 + 128), A r from rfl, Fin.sum_univ_add]
  have h0 : ∀ r : Fin 128, (Fin.castAdd 128 r : Fin (128 + 128)) = (⟨(0 : Fin 2).val * 128 + r.val, by simp; omega⟩ : Fin 256) := fun r => Fin.ext (by simp)
  have h1 : ∀ r : Fin 128, (Fin.natAdd 128 r : Fin (128 + 128)) = (⟨(1 : Fin 2).val * 128 + r.val, by simp; omega⟩ : Fin 256) := fun r => Fin.ext (by simp; omega)
  simp only [h0, h1]
  have he : e = 0 ∨ e = 1 := by omega
  rcases he with rfl | rfl
  · rw [Finset.sum_eq_zero (s := Finset.univ) (f := fun r : Fin 128 => A ⟨(1 : Fin 2).val * 128 + r.val, _⟩) fun r _ => h 1 r (by decide), add_zero]
  · rw [Finset.sum_eq_zero (s := Finset.univ) (f := fun r : Fin 128 => A ⟨(0 : Fin 2).val * 128 + r.val, _⟩) fun r _ => h 0 r (by decide), zero_add]

/-! One head: its keys, its scores, its weights and the scores' cotangents. -/

def K2 (j : Fin 256) (l : Fin 1024) : EReal := if h : j.val < 128 then X.kp (ix2 ⟨j.val, h⟩ l) else X.kc (ix2 ⟨j.val - 128, by omega⟩ l)
def V2 (j : Fin 256) (l : Fin 1024) : EReal := if h : j.val < 128 then X.vp (ix2 ⟨j.val, h⟩ l) else X.vc (ix2 ⟨j.val - 128, by omega⟩ l)
def Q2 (i : Fin 128) (l : Fin 1024) : EReal := X.q (ix2 i l) * Ideal.ofBits .bf16 0x3E00#16
def pr (h : Fin 16) (i : Fin 128) (j : Fin 256) : EReal :=
  Ideal.exp (∑ d : Fin 64, Q2 X i ⟨h.val * 64 + d.val, by omega⟩ * K2 X j ⟨h.val * 64 + d.val, by omega⟩
    + X.b (ix4 0 ⟨h.val / 2, by omega⟩ ⟨h.val % 2 * 128 + i.val, by omega⟩ j) - X.l (ix2 i ⟨h.val, by omega⟩))
def ds (h : Fin 16) (i : Fin 128) (j : Fin 256) : EReal :=
  pr X h i j * (∑ d : Fin 64, X.d (ix2 i ⟨h.val * 64 + d.val, by omega⟩) * V2 X j ⟨h.val * 64 + d.val, by omega⟩ - X.l (ix2 i ⟨h.val + 16, by omega⟩))

theorem k2_apply : k2 X p (ix2 j k) = K2 X j ⟨128 * p.val + k.val, by omega⟩ := by
  pointwise [k2, k0_pay6, cols, K2]
theorem v2_apply : v2 X p (ix2 j k) = V2 X j ⟨128 * p.val + k.val, by omega⟩ := by
  pointwise [v2, k0_pay7, cols, V2]
theorem low_apply : k0_pay5 (ix2 i k) = if k.val < 64 then 1#1 else 0#1 := by
  pointwise [k0_pay5]
  revert k
  decide +kernel
theorem q2_apply : q2 X p (ix2 ⟨e.val * 128 + i.val, by omega⟩ k) = if k.val / 64 = e.val then Q2 X i ⟨128 * p.val + k.val, by omega⟩ else 0 := by
  pointwise [q2, k0_pay8, cols, Q2]
  have h : e.val = 0 ∨ e.val = 1 := by omega
  rcases h with h | h
  · rw [dif_pos (by omega), show (⟨e.val * 128 + i.val, by omega⟩ : Fin 128) = i from Fin.ext (by show _ * _ + _ = _; omega), low_apply]
    by_cases hk : k.val < 64
    · rw [if_pos hk, if_pos (by omega)]; rfl
    · rw [if_neg hk, if_neg (by omega)]; rfl
  · rw [dif_neg (by omega), show (⟨e.val * 128 + i.val - 128, by omega⟩ : Fin 128) = i from Fin.ext (by show _ * _ + _ - _ = _; omega), low_apply]
    by_cases hk : k.val < 64
    · rw [if_pos hk, if_neg (by omega)]; rfl
    · rw [if_neg hk, if_pos (by omega)]; rfl
theorem d2_apply : d2 X p (ix2 ⟨e.val * 128 + i.val, by omega⟩ k) = if k.val / 64 = e.val then X.d (ix2 i ⟨128 * p.val + k.val, by omega⟩) else 0 := by
  pointwise [d2, k0_pay9, cols]
  have h : e.val = 0 ∨ e.val = 1 := by omega
  rcases h with h | h
  · rw [dif_pos (by omega), show (⟨e.val * 128 + i.val, by omega⟩ : Fin 128) = i from Fin.ext (by show _ * _ + _ = _; omega), low_apply]
    by_cases hk : k.val < 64
    · rw [if_pos hk, if_pos (by omega)]; rfl
    · rw [if_neg hk, if_neg (by omega)]; rfl
  · rw [dif_neg (by omega), show (⟨e.val * 128 + i.val - 128, by omega⟩ : Fin 128) = i from Fin.ext (by show _ * _ + _ - _ = _; omega), low_apply]
    by_cases hk : k.val < 64
    · rw [if_pos hk, if_neg (by omega)]; rfl
    · rw [if_neg hk, if_pos (by omega)]; rfl
theorem l2_apply : l2 X p (ix2 ⟨e.val * 128 + i.val, by omega⟩ 0) = X.l (ix2 i ⟨2 * p.val + e.val, by omega⟩) := by
  pointwise [l2, k0_pay10, col]
  have h : e.val = 0 ∨ e.val = 1 := by omega
  rcases h with h | h
  · rw [dif_pos (by omega)]
    congr 2 <;> exact Fin.ext (by show _ = _; simp only []; omega)
  · rw [dif_neg (by omega)]
    congr 2 <;> exact Fin.ext (by show _ = _; simp only []; omega)
theorem sA_apply : sA X p (ix2 i 0) = X.l (ix2 i ⟨2 * p.val + 16, by omega⟩) := by
  pointwise [sA, k0_pay11, col]
theorem sB_apply : sB X p (ix2 i 0) = X.l (ix2 i ⟨2 * p.val + 17, by omega⟩) := by
  pointwise [sB, k0_pay12, col]

/-- Row `e * 128 + i` of a pair's weights is row `i` of head `2 p + e`'s. -/
theorem w_apply : k0_pay13 (k2 X p) (q2 X p) (l2 X p) (bia X.b p) (ix2 ⟨e.val * 128 + i.val, by omega⟩ j) = pr X ⟨2 * p.val + e.val, by omega⟩ i j := by
  pointwise [k0_pay13, bia]
  simp only [q2_apply, k2_apply, l2_apply, lane_sum]
  unfold pr
  have h1 : ∀ d : Fin 64, 128 * p.val + (e.val * 64 + d.val) = (2 * p.val + e.val) * 64 + d.val := fun d => by omega
  have h2 : (2 * p.val + e.val) / 2 = p.val := by omega
  have h3 : (2 * p.val + e.val) % 2 = e.val := by omega
  simp only [h1, h2, h3]
theorem g_apply : k0_pay14 (k2 X p) (v2 X p) (q2 X p) (d2 X p) (l2 X p) (sA X p) (sB X p) (bia X.b p) (ix2 ⟨e.val * 128 + i.val, by omega⟩ j) = ds X ⟨2 * p.val + e.val, by omega⟩ i j := by
  pointwise [k0_pay14]
  simp only [w_apply, d2_apply, v2_apply, lane_sum]
  unfold ds
  have h1 : ∀ d : Fin 64, 128 * p.val + (e.val * 64 + d.val) = (2 * p.val + e.val) * 64 + d.val := fun d => by omega
  simp only [h1]
  have h : e.val = 0 ∨ e.val = 1 := by omega
  rcases h with h | h
  · rw [dif_pos (by omega)]
    simp only [h, Nat.zero_mul, Nat.zero_add, Nat.add_zero, sA_apply]
  · rw [dif_neg (by omega)]
    simp only [h, Nat.one_mul, Nat.add_sub_cancel_left, sB_apply]

theorem gQ_apply (hk : k.val / 64 = e.val) : gQ X p (ix2 i k) = (∑ j : Fin 256, ds X ⟨2 * p.val + e.val, by omega⟩ i j * K2 X j ⟨128 * p.val + k.val, by omega⟩) * Ideal.ofBits .f32 0x3E000000#32 := by
  pointwise [gQ, k0_pay17]
  have g0 := fun x => g_apply X p 0 i x
  have g1 := fun x => g_apply X p 1 i x
  simp only [Fin.val_zero, Fin.val_one, Nat.zero_mul, Nat.zero_add, Nat.one_mul, Nat.add_zero] at g0 g1
  simp only [g0, g1, low_apply, k2_apply]
  have h : e.val = 0 ∨ e.val = 1 := by omega
  rcases h with h | h
  · rw [if_pos (by omega)]; simp only [h, Nat.add_zero]; rfl
  · rw [if_neg (by omega)]; simp only [h]; rfl

/-- A product of the pair's stacked rows with its stacked queries is the one head's. -/
theorem dk_sum (hk : k.val / 64 = e.val) : ∑ r : Fin 256, k0_pay14 (k2 X p) (v2 X p) (q2 X p) (d2 X p) (l2 X p) (sA X p) (sB X p) (bia X.b p) (ix2 r j) * q2 X p (ix2 r k)
    = ∑ i : Fin 128, ds X ⟨2 * p.val + e.val, by omega⟩ i j * Q2 X i ⟨128 * p.val + k.val, by omega⟩ := by
  rw [row_sum e]
  · simp only [g_apply, q2_apply, if_pos hk]
  · intro a r ha
    rw [q2_apply, if_neg (fun h => ha (Fin.ext (h.symm.trans hk))), mul_zero]
theorem dv_sum (hk : k.val / 64 = e.val) : ∑ r : Fin 256, k0_pay13 (k2 X p) (q2 X p) (l2 X p) (bia X.b p) (ix2 r j) * d2 X p (ix2 r k)
    = ∑ i : Fin 128, pr X ⟨2 * p.val + e.val, by omega⟩ i j * X.d (ix2 i ⟨128 * p.val + k.val, by omega⟩) := by
  rw [row_sum e]
  · simp only [w_apply, d2_apply, if_pos hk]
  · intro a r ha
    rw [d2_apply, if_neg (fun h => ha (Fin.ext (h.symm.trans hk))), mul_zero]

theorem gK_apply (hk : k.val / 64 = e.val) : gK X y p (ix2 i k) = y (ix2 i ⟨128 * p.val + k.val, by omega⟩) + ∑ x : Fin 128, ds X ⟨2 * p.val + e.val, by omega⟩ x ⟨i.val, by omega⟩ * Q2 X x ⟨128 * p.val + k.val, by omega⟩ := by
  pointwise [gK, k0_pay18, k0_pay15, cols]
  rw [dk_sum (e := e) (hk := hk)]
theorem gV_apply (hk : k.val / 64 = e.val) : gV X y p (ix2 i k) = y (ix2 i ⟨128 * p.val + k.val, by omega⟩) + ∑ x : Fin 128, pr X ⟨2 * p.val + e.val, by omega⟩ x ⟨i.val, by omega⟩ * X.d (ix2 x ⟨128 * p.val + k.val, by omega⟩) := by
  pointwise [gV, k0_pay19, k0_pay16, cols]
  rw [dv_sum (e := e) (hk := hk)]
theorem hK_apply (hk : k.val / 64 = e.val) : hK X p (ix2 i k) = ∑ x : Fin 128, ds X ⟨2 * p.val + e.val, by omega⟩ x ⟨128 + i.val, by omega⟩ * Q2 X x ⟨128 * p.val + k.val, by omega⟩ := by
  pointwise [hK, k0_pay21, k0_pay20, k0_pay15]
  rw [dk_sum (e := e) (hk := hk)]
theorem hV_apply (hk : k.val / 64 = e.val) : hV X p (ix2 i k) = ∑ x : Fin 128, pr X ⟨2 * p.val + e.val, by omega⟩ x ⟨128 + i.val, by omega⟩ * X.d (ix2 x ⟨128 * p.val + k.val, by omega⟩) := by
  pointwise [hV, k0_pay22, k0_pay16]
  rw [dv_sum (e := e) (hk := hk)]

/-! The same of a whole block: lane `l` belongs to head `l / 64`. -/

variable (l : Fin 1024)

theorem lane_fact : l.val % 128 / 64 < 2 ∧ 128 * (l.val / 128) + l.val % 128 = l.val ∧ 2 * (l.val / 128) + l.val % 128 / 64 = l.val / 64 := by omega

theorem DQ_apply : DQ X (ix2 i l) = (∑ j : Fin 256, ds X ⟨l.val / 64, by omega⟩ i j * K2 X j l) * Ideal.ofBits .f32 0x3E000000#32 := by
  obtain ⟨h1, h2, h3⟩ := lane_fact l
  rw [DQ, byPair_apply, gQ_apply (e := ⟨l.val % 128 / 64, h1⟩) (hk := rfl)]
  simp only [h2, h3]
theorem DK_apply : DK X y (ix2 i l) = y (ix2 i l) + ∑ x : Fin 128, ds X ⟨l.val / 64, by omega⟩ x ⟨i.val, by omega⟩ * Q2 X x l := by
  obtain ⟨h1, h2, h3⟩ := lane_fact l
  rw [DK, byPair_apply, gK_apply (e := ⟨l.val % 128 / 64, h1⟩) (hk := rfl)]
  simp only [h2, h3]
theorem DV_apply : DV X y (ix2 i l) = y (ix2 i l) + ∑ x : Fin 128, pr X ⟨l.val / 64, by omega⟩ x ⟨i.val, by omega⟩ * X.d (ix2 x l) := by
  obtain ⟨h1, h2, h3⟩ := lane_fact l
  rw [DV, byPair_apply, gV_apply (e := ⟨l.val % 128 / 64, h1⟩) (hk := rfl)]
  simp only [h2, h3]
theorem CK_apply : CK X (ix2 i l) = ∑ x : Fin 128, ds X ⟨l.val / 64, by omega⟩ x ⟨128 + i.val, by omega⟩ * Q2 X x l := by
  obtain ⟨h1, h2, h3⟩ := lane_fact l
  rw [CK, byPair_apply, hK_apply (e := ⟨l.val % 128 / 64, h1⟩) (hk := rfl)]
  simp only [h2, h3]
theorem CV_apply : CV X (ix2 i l) = ∑ x : Fin 128, pr X ⟨l.val / 64, by omega⟩ x ⟨128 + i.val, by omega⟩ * X.d (ix2 x l) := by
  obtain ⟨h1, h2, h3⟩ := lane_fact l
  rw [CV, byPair_apply, hV_apply (e := ⟨l.val % 128 / 64, h1⟩) (hk := rfl)]
  simp only [h2, h3]

end Cert.KernelIdeal.Attn

end
-- ==== Proof.RunA.lean ====
module

public import proofs.«01_k».proof.Proof.Pair
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.Ring
public import Idealize.ShloMosaic.Lib.Tactic
public import Idealize.ShloMosaic.Lib.WordCmp

/-! The body's run at the first block. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

omit [FloatOps F] in
/-- A load after a fill of the whole buffer reads the fill; -/
theorem readCov_fill {e : EltTy} [∀ e, Nonempty (Elt F e)] (v : View sig .tc .vmem S128x1024 e) (w : Vec F S128x1024 e)
    (inb : ∀ a, (![0, 0] : Fin 2 → ℕ) a + (![128, 1024] : Fin 2 → ℕ) a ≤ S128x1024.size a) (B : LoadRect S128x1024) :
    v.readCov (Val := Elt F) [⟨Rect.unit (s := S128x1024) ![0, 0] ![128, 1024] inb, w⟩] B = fun j => w (B.idx j) := by
  rw [View.readCov_eq_canon']
  have h : (![0, 0] : Fin S128x1024.rank → ℕ) = fun _ => 0 := by
    funext a
    match a with
    | ⟨0, _⟩ => rfl
    | ⟨1, _⟩ => rfl
  exact congrArg (fun g => fun j => g (B.idx j)) (View.canon_unit_zero (Val := Elt F) (S := S128x1024) h inb w)

omit [FloatOps F] in
/-- a load of one pair's lanes does not see a store of an earlier pair's. -/
theorem readCov_skip {e : EltTy} [∀ e, Nonempty (Elt F e)] (v : View sig .tc .vmem S128x1024 e) {a b : ℕ}
    (inb : ∀ k, (![0, a] : Fin 2 → ℕ) k + (![128, 128] : Fin 2 → ℕ) k ≤ S128x1024.size k)
    (inb' : ∀ k, (![0, b] : Fin 2 → ℕ) k + (![128, 128] : Fin 2 → ℕ) k ≤ S128x1024.size k) (w : Vec F S128x128 e)
    (L : List (View.Piece (Elt F) S128x1024 e)) (h : a + 128 ≤ b) :
    v.readCov (Val := Elt F) (⟨Rect.unit (s := S128x1024) ![0, a] ![128, 128] inb, w⟩ :: L) (Rect.unit (s := S128x1024) ![0, b] ![128, 128] inb').toLoadRect
      = v.readCov (Val := Elt F) L (Rect.unit (s := S128x1024) ![0, b] ![128, 128] inb').toLoadRect :=
  View.readCov_cons_of_disjoint v _ L _ (Rect.unit_disjoint (inb := inb) (inb' := inb') (1 : Fin 2) (Or.inl h))

/-- The body's first test: this is the first block of its run. -/
abbrev cond0 (i : grid0.Coords) : Prop :=
  (Scalar.cmpi .ne (Scalar.extui (Scalar.cmpi .eq (BitVec.ofNat 32 (i 1).val) 0#32)) 0#32) = 1#1

set_option maxHeartbeats 2000000 in
/-- At the first block of a run of nine the two carried sums are cleared, then the block's gradients are stored. -/
theorem run_A (c : Dev nD) (i : grid0.Coords)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x1024 .bf16) (harg5 : arg5.IsWhole)
  (arg6 : Memref sig .tc .vmem S128x1024 .bf16) (harg6 : arg6.IsWhole)
  (arg7 : Memref sig .tc .vmem S128x1024 .bf16) (harg7 : arg7.IsWhole)
  (arg8 : Memref sig .tc .vmem S128x128 .f32) (harg8 : arg8.IsWhole)
  (arg9 : Memref sig .tc .vmem S1x8x256x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S128x1024 .f32) (harg13 : arg13.IsWhole)
  (arg14 : Memref sig .tc .vmem S128x1024 .f32) (harg14 : arg14.IsWhole)
  (hc0 : cond0 i) (hc1 : k0_cond2 i = 1#1) (hc2 : ¬ k0_cond3 i = 1#1) (X : Ins F) :
  ∀ (E : Set ℕ) (K : PUnit → sProp 𝕄),
    iprop(owns (c : Thread nD τ) arg2 fullShare X.q ∗ owns (c : Thread nD τ) arg3 fullShare X.kc ∗ owns (c : Thread nD τ) arg4 fullShare X.kp ∗ owns (c : Thread nD τ) arg5 fullShare X.vc ∗ owns (c : Thread nD τ) arg6 fullShare X.vp ∗ owns (c : Thread nD τ) arg7 fullShare X.d ∗ owns (c : Thread nD τ) arg8 fullShare X.l ∗ owns (c : Thread nD τ) arg9 fullShare X.b ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare X.q ∗ owns (c : Thread nD τ) arg3 fullShare X.kc ∗ owns (c : Thread nD τ) arg4 fullShare X.kp ∗ owns (c : Thread nD τ) arg5 fullShare X.vc ∗ owns (c : Thread nD τ) arg6 fullShare X.vp ∗ owns (c : Thread nD τ) arg7 fullShare X.d ∗ owns (c : Thread nD τ) arg8 fullShare X.l ∗ owns (c : Thread nD τ) arg9 fullShare X.b ∗ owns (c : Thread nD τ) arg10 fullShare (DQ X) ∗ owns (c : Thread nD τ) arg11 fullShare (DK X (k0_pay1 (F := F))) ∗ owns (c : Thread nD τ) arg12 fullShare (DV X (k0_pay2 (F := F))) ∗ owns (c : Thread nD τ) arg13 fullShare (CK X) ∗ owns (c : Thread nD τ) arg14 fullShare (CV X)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine (read_byPair arg10.view _ _ (gQ (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩) _ _ _ _ _ _ _ _ ?_ ?_ ?_ ?_ ?_ ?_ ?_ ?_).trans ?_
    iterate 8 (sl_unfold_words; (try simp (config := {decide := true}) only [readCov_skip, readCov_fill]); dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread]
    rfl
  isplitl [H11]
  · iexists _; isplitr; swap; · iexact H11
    ipureintro
    refine (read_byPair arg11.view _ _ (gK (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩ (k0_pay1 (F := F))) _ _ _ _ _ _ _ _ ?_ ?_ ?_ ?_ ?_ ?_ ?_ ?_).trans ?_
    iterate 8 (sl_unfold_words; (try simp (config := {decide := true}) only [readCov_skip, readCov_fill]); dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread]
    rfl
  isplitl [H12]
  · iexists _; isplitr; swap; · iexact H12
    ipureintro
    refine (read_byPair arg12.view _ _ (gV (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩ (k0_pay2 (F := F))) _ _ _ _ _ _ _ _ ?_ ?_ ?_ ?_ ?_ ?_ ?_ ?_).trans ?_
    iterate 8 (sl_unfold_words; (try simp (config := {decide := true}) only [readCov_skip, readCov_fill]); dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread]
    rfl
  isplitl [H13]
  · iexists _; isplitr; swap; · iexact H13
    ipureintro
    refine (read_byPair arg13.view _ _ (hK (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩) _ _ _ _ _ _ _ _ ?_ ?_ ?_ ?_ ?_ ?_ ?_ ?_).trans ?_
    iterate 8 (sl_unfold_words; (try simp (config := {decide := true}) only [readCov_skip, readCov_fill]); dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread]
    rfl
  iexists _; isplitr; swap; · iexact H14
  ipureintro
  refine (read_byPair arg14.view _ _ (hV (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩) _ _ _ _ _ _ _ _ ?_ ?_ ?_ ?_ ?_ ?_ ?_ ?_).trans ?_
  iterate 8 (sl_unfold_words; (try simp (config := {decide := true}) only [readCov_skip, readCov_fill]); dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
  simp only [harg2.read_unread, harg3.read_unread, harg4.read_unread, harg5.read_unread, harg6.read_unread, harg7.read_unread, harg8.read_unread, harg9.read_unread]
  rfl

end Cert.KernelIdeal.Attn

end
-- ==== Proof.RunB.lean ====
module

public import proofs.«01_k».proof.Proof.RunA
public import proofs.«01_k».proof.Proof.Gen.KernelIdeal.Launch
public import proofs.«01_k».proof.Proof.Gen.KernelIdeal.Points
public import proofs.«01_k».proof.Proof.Gen.KernelIdeal.Frame
public import Idealize.ShloMosaic.Lib.Ring
public import Idealize.ShloMosaic.Lib.Tactic
public import Idealize.ShloMosaic.Lib.WordCmp

/-! The body's run at a later block. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- At a later block the gradients are stored over what the block before left in the two carried sums. -/
theorem run_B (c : Dev nD) (i : grid0.Coords)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x1024 .bf16) (harg5 : arg5.IsWhole)
  (arg6 : Memref sig .tc .vmem S128x1024 .bf16) (harg6 : arg6.IsWhole)
  (arg7 : Memref sig .tc .vmem S128x1024 .bf16) (harg7 : arg7.IsWhole)
  (arg8 : Memref sig .tc .vmem S128x128 .f32) (harg8 : arg8.IsWhole)
  (arg9 : Memref sig .tc .vmem S1x8x256x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S128x1024 .f32) (harg13 : arg13.IsWhole)
  (arg14 : Memref sig .tc .vmem S128x1024 .f32) (harg14 : arg14.IsWhole)
  (hc0 : ¬ cond0 i) (hc1 : k0_cond2 i = 1#1) (hc2 : ¬ k0_cond3 i = 1#1) (X : Ins F) (y0 y1 : Vec F S128x1024 .f32) :
  ∀ (E : Set ℕ) (K : PUnit → sProp 𝕄),
    iprop(owns (c : Thread nD τ) arg2 fullShare X.q ∗ owns (c : Thread nD τ) arg3 fullShare X.kc ∗ owns (c : Thread nD τ) arg4 fullShare X.kp ∗ owns (c : Thread nD τ) arg5 fullShare X.vc ∗ owns (c : Thread nD τ) arg6 fullShare X.vp ∗ owns (c : Thread nD τ) arg7 fullShare X.d ∗ owns (c : Thread nD τ) arg8 fullShare X.l ∗ owns (c : Thread nD τ) arg9 fullShare X.b ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y0 ∗ owns (c : Thread nD τ) arg14 fullShare y1
        ∗ (iprop(owns (c : Thread nD τ) arg2 fullShare X.q ∗ owns (c : Thread nD τ) arg3 fullShare X.kc ∗ owns (c : Thread nD τ) arg4 fullShare X.kp ∗ owns (c : Thread nD τ) arg5 fullShare X.vc ∗ owns (c : Thread nD τ) arg6 fullShare X.vp ∗ owns (c : Thread nD τ) arg7 fullShare X.d ∗ owns (c : Thread nD τ) arg8 fullShare X.l ∗ owns (c : Thread nD τ) arg9 fullShare X.b ∗ owns (c : Thread nD τ) arg10 fullShare (DQ X) ∗ owns (c : Thread nD τ) arg11 fullShare (DK X y0) ∗ owns (c : Thread nD τ) arg12 fullShare (DV X y1) ∗ owns (c : Thread nD τ) arg13 fullShare (CK X) ∗ owns (c : Thread nD τ) arg14 fullShare (CV X)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg13.eq_unread hf13
  obtain rfl := harg14.eq_unread hf14
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine (read_byPair arg10.view _ _ (gQ (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩) _ _ _ _ _ _ _ _ ?_ ?_ ?_ ?_ ?_ ?_ ?_ ?_).trans ?_
    iterate 8 (sl_unfold_words; dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread, harg13.read_unread, harg14.read_unread]
    rfl
  isplitl [H11]
  · iexists _; isplitr; swap; · iexact H11
    ipureintro
    refine (read_byPair arg11.view _ _ (gK (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩ (arg13.view.read (Elt F) (harg13.unread y0))) _ _ _ _ _ _ _ _ ?_ ?_ ?_ ?_ ?_ ?_ ?_ ?_).trans ?_
    iterate 8 (sl_unfold_words; dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread, harg13.read_unread, harg14.read_unread]
    rfl
  isplitl [H12]
  · iexists _; isplitr; swap; · iexact H12
    ipureintro
    refine (read_byPair arg12.view _ _ (gV (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩ (arg14.view.read (Elt F) (harg14.unread y1))) _ _ _ _ _ _ _ _ ?_ ?_ ?_ ?_ ?_ ?_ ?_ ?_).trans ?_
    iterate 8 (sl_unfold_words; dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread, harg13.read_unread, harg14.read_unread]
    rfl
  isplitl [H13]
  · iexists _; isplitr; swap; · iexact H13
    ipureintro
    refine (read_byPair arg13.view _ _ (hK (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩) _ _ _ _ _ _ _ _ ?_ ?_ ?_ ?_ ?_ ?_ ?_ ?_).trans ?_
    iterate 8 (sl_unfold_words; dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
    simp only [harg2.read_unread, harg3.read_unread, harg4.read_unread, harg5.read_unread, harg6.read_unread, harg7.read_unread, harg8.read_unread, harg9.read_unread, harg13.read_unread, harg14.read_unread]
    rfl
  iexists _; isplitr; swap; · iexact H14
  ipureintro
  refine (read_byPair arg14.view _ _ (hV (F := F) ⟨arg2.view.read (Elt F) (harg2.unread X.q), arg3.view.read (Elt F) (harg3.unread X.kc), arg4.view.read (Elt F) (harg4.unread X.kp), arg5.view.read (Elt F) (harg5.unread X.vc), arg6.view.read (Elt F) (harg6.unread X.vp), arg7.view.read (Elt F) (harg7.unread X.d), arg8.view.read (Elt F) (harg8.unread X.l), arg9.view.read (Elt F) (harg9.unread X.b)⟩) _ _ _ _ _ _ _ _ ?_ ?_ ?_ ?_ ?_ ?_ ?_ ?_).trans ?_
  iterate 8 (sl_unfold_words; dsimp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, gQ, gK, gV, hK, hV, k2, v2, q2, d2, l2, sA, sB]; rfl)
  simp only [harg2.read_unread, harg3.read_unread, harg4.read_unread, harg5.read_unread, harg6.read_unread, harg7.read_unread, harg8.read_unread, harg9.read_unread, harg13.read_unread, harg14.read_unread]
  rfl

end Cert.KernelIdeal.Attn

end
-- ==== Proof.RunC.lean ====
module

public import proofs.«01_k».proof.Proof.RunB
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.Ring
public import Idealize.ShloMosaic.Lib.Tactic
public import Idealize.ShloMosaic.Lib.WordCmp

/-! The body's run at the closing point. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem zeros2 : (![0, 0] : Fin S128x1024.rank → ℕ) = fun _ => 0 := by
  funext a
  match a with
  | ⟨0, _⟩ => rfl
  | ⟨1, _⟩ => rfl

omit [FloatOps F] in
/-- A store over the whole buffer leaves what was stored; -/
theorem read_whole {e : EltTy} [∀ e, Nonempty (Elt F e)] (v : View sig .tc .vmem S128x1024 e) (f : v.ty.Contents (Elt F)) (w : Vec F S128x1024 e) :
    v.read (Elt F) (v.writes (Elt F) f [⟨Rect.unit (s := S128x1024) ![0, 0] S128x1024.size inb_S128x1024_S128x1024_0_0, w⟩]) = w := by
  refine (View.read_writes_eq_canon v f _ fun y => ⟨_, List.mem_cons_self, ?_⟩).trans ?_
  · exact View.mem_set_unit_zero (S := S128x1024) zeros2 inb_S128x1024_S128x1024_0_0 y
  · exact View.canon_unit_zero (Val := Elt F) (S := S128x1024) zeros2 inb_S128x1024_S128x1024_0_0 w

omit [FloatOps F] in
/-- a load of the whole buffer reads what it holds. -/
theorem ld_whole {e : EltTy} (w : Vec F S128x1024 e) :
    View.ld (Val := Elt F) w (Rect.unit (s := S128x1024) ![0, 0] S128x1024.size inb_S128x1024_S128x1024_0_0) = w :=
  View.ld_unit_zero (Val := Elt F) (S := S128x1024) (e := e) zeros2 inb_S128x1024_S128x1024_0_0 w

set_option maxHeartbeats 2000000 in
/-- At the closing point the carried sums themselves are stored. -/
theorem run_C (c : Dev nD) (i : grid0.Coords)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x1024 .bf16) (harg5 : arg5.IsWhole)
  (arg6 : Memref sig .tc .vmem S128x1024 .bf16) (harg6 : arg6.IsWhole)
  (arg7 : Memref sig .tc .vmem S128x1024 .bf16) (harg7 : arg7.IsWhole)
  (arg8 : Memref sig .tc .vmem S128x128 .f32) (harg8 : arg8.IsWhole)
  (arg9 : Memref sig .tc .vmem S1x8x256x256 .f32) (harg9 : arg9.IsWhole)
  (arg10 : Memref sig .tc .vmem S128x1024 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S128x1024 .f32) (harg13 : arg13.IsWhole)
  (arg14 : Memref sig .tc .vmem S128x1024 .f32) (harg14 : arg14.IsWhole)
  (hc0 : ¬ cond0 i) (hc1 : ¬ k0_cond2 i = 1#1) (hc2 : k0_cond3 i = 1#1)  (y0 y1 : Vec F S128x1024 .f32) :
  ∀ (E : Set ℕ) (K : PUnit → sProp 𝕄),
    iprop((∃ d, owns (c : Thread nD τ) arg11 fullShare d) ∗ (∃ d, owns (c : Thread nD τ) arg12 fullShare d) ∗ owns (c : Thread nD τ) arg13 fullShare y0 ∗ owns (c : Thread nD τ) arg14 fullShare y1
        ∗ (iprop(owns (c : Thread nD τ) arg11 fullShare (k0_pay3 y0) ∗ owns (c : Thread nD τ) arg12 fullShare (k0_pay4 y1) ∗ owns (c : Thread nD τ) arg13 fullShare y0 ∗ owns (c : Thread nD τ) arg14 fullShare y1) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14) K := by
  intro E K
  simp only [cc0_attn_bwd_eq_skeleton]; unfold cc0_attn_bwd_skel
  unfold owns
  iintro ⟨⟨%d11, %f11, -, H11⟩, ⟨%d12, %f12, -, H12⟩, ⟨%f13, %hf13, H13⟩, ⟨%f14, %hf14, H14⟩, Hk⟩
  obtain rfl := harg13.eq_unread hf13
  obtain rfl := harg14.eq_unread hf14
  sl_exec (disch := first | sl_exact hc0 | sl_exact hc1 | sl_exact hc2)
  sl_step
  iapply Hk
  isplitl [H11]
  · iexists _; isplitr; swap; · iexact H11
    ipureintro
    refine (read_whole arg11.view _ _).trans ?_
    show k0_pay3 (View.ld (Val := Elt F) (arg13.view.read (Elt F) (harg13.unread y0)) (Rect.unit (s := S128x1024) ![0, 0] S128x1024.size inb_S128x1024_S128x1024_0_0)) = _
    rw [harg13.read_unread, ld_whole]
  isplitl [H12]
  · iexists _; isplitr; swap; · iexact H12
    ipureintro
    refine (read_whole arg12.view _ _).trans ?_
    show k0_pay4 (View.ld (Val := Elt F) (arg14.view.read (Elt F) (harg14.unread y1)) (Rect.unit (s := S128x1024) ![0, 0] S128x1024.size inb_S128x1024_S128x1024_0_0)) = _
    rw [harg14.read_unread, ld_whole]
  isplitl [H13]
  · iexists _; isplitr; · ipureintro; exact harg13.read_unread _
    iexact H13
  iexists _; isplitr; · ipureintro; exact harg14.read_unread _
  iexact H14

end Cert.KernelIdeal.Attn

end
-- ==== Proof.Launch.lean ====
module

public import proofs.«01_k».proof.Proof.RunC

/-! The launch of the attention's backward kernel: what every buffer holds at every grid point, the body at a point,
and the run of the whole program, over any float instance. Point `t` of the grid is block `t % 9` of residue `t / 9`. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's tests and the idle windows, by the point -/

theorem cond0_iff : ∀ t : Fin cfg0.N, cond0 (grid0.coords t) ↔ t.val % 9 = 0 :=
  (by decide +kernel : ∀ t : Fin grid0.N, cond0 (grid0.coords t) ↔ t.val % 9 = 0)
theorem cond1_iff : ∀ t : Fin cfg0.N, k0_cond2 (grid0.coords t) = 1#1 ↔ t.val % 9 < 8 :=
  (by decide +kernel : ∀ t : Fin grid0.N, k0_cond2 (grid0.coords t) = 1#1 ↔ t.val % 9 < 8)
theorem cond2_iff : ∀ t : Fin cfg0.N, k0_cond3 (grid0.coords t) = 1#1 ↔ t.val % 9 = 8 :=
  (by decide +kernel : ∀ t : Fin grid0.N, k0_cond3 (grid0.coords t) = 1#1 ↔ t.val % 9 = 8)
theorem idle8_iff : ∀ t : Fin cfg0.N, cfg0.idle 8 (grid0.coords t) = decide (t.val % 9 = 8) :=
  (by decide +kernel : ∀ t : Fin grid0.N, cfg0.idle 8 (grid0.coords t) = decide (t.val % 9 = 8))
theorem idle9 : ∀ t : Fin cfg0.N, cfg0.idle 9 (grid0.coords t) = false :=
  (by decide +kernel : ∀ t : Fin grid0.N, cfg0.idle 9 (grid0.coords t) = false)
theorem idle10 : ∀ t : Fin cfg0.N, cfg0.idle 10 (grid0.coords t) = false :=
  (by decide +kernel : ∀ t : Fin grid0.N, cfg0.idle 10 (grid0.coords t) = false)
theorem flush8_iff : ∀ t : Fin cfg0.N, (cfg0.win 8).flush t = decide (t.val % 9 ≠ 7) :=
  (by decide +kernel : ∀ t : Fin grid0.N, win0_8.flush t = decide (t.val % 9 ≠ 7))

abbrev ms0 (t : Fin cfg0.N) : Memref sig .tc .vmem S128x1024 .bf16 := win0_0.stage (cfg0.slots t 0)
abbrev ms1 (t : Fin cfg0.N) : Memref sig .tc .vmem S128x1024 .bf16 := win0_1.stage (cfg0.slots t 1)
abbrev ms2 (t : Fin cfg0.N) : Memref sig .tc .vmem S128x1024 .bf16 := win0_2.stage (cfg0.slots t 2)
abbrev ms3 (t : Fin cfg0.N) : Memref sig .tc .vmem S128x1024 .bf16 := win0_3.stage (cfg0.slots t 3)
abbrev ms4 (t : Fin cfg0.N) : Memref sig .tc .vmem S128x1024 .bf16 := win0_4.stage (cfg0.slots t 4)
abbrev ms5 (t : Fin cfg0.N) : Memref sig .tc .vmem S128x1024 .bf16 := win0_5.stage (cfg0.slots t 5)
abbrev ms6 (t : Fin cfg0.N) : Memref sig .tc .vmem S128x128 .f32 := win0_6.stage (cfg0.slots t 6)
abbrev ms7 (t : Fin cfg0.N) : Memref sig .tc .vmem S1x8x256x256 .f32 := win0_7.stage (cfg0.slots t 7)
abbrev ms8 (t : Fin cfg0.N) : Memref sig .tc .vmem S128x1024 .bf16 := win0_8.stage (cfg0.slots t 8)
abbrev ms9 (t : Fin cfg0.N) : Memref sig .tc .vmem S128x1024 .bf16 := win0_9.stage (cfg0.slots t 9)
abbrev ms10 (t : Fin cfg0.N) : Memref sig .tc .vmem S128x1024 .bf16 := win0_10.stage (cfg0.slots t 10)
/-- The two carried sums. -/
abbrev scK : Memref sig .tc .vmem S128x1024 .f32 := Memref.whole cc0_scratch0
abbrev scV : Memref sig .tc .vmem S128x1024 .f32 := Memref.whole cc0_scratch1

theorem phi_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

variable (m : (ℓ : Loc nD τ sig) → Buf (Elt F) ℓ) (ρ : Dev nD → PrngReg)

/-! ## The contents -/

/-- The blocks read at a point. -/
def ins (c : Dev nD) (t : Fin cfg0.N) : Ins F :=
  ⟨iblk m c 0 t, iblk m c 1 t, iblk m c 2 t, iblk m c 3 t, iblk m c 4 t, iblk m c 5 t, iblk m c 6 t, iblk m c 7 t⟩

/-- The point of a number (its own for a number below the grid's size). -/
def pt (n : ℕ) : Fin cfg0.N := ⟨n % 36, lt_of_lt_of_eq (Nat.mod_lt _ (by decide)) N_0.symm⟩
theorem pt_val (t : Fin cfg0.N) : pt t.val = t := Fin.ext (Nat.mod_eq_of_lt (lt_of_lt_of_eq t.isLt N_0))

/-- What the query gradient's buffer holds after a point: its block; at the closing point still the block before, -/
def aQ (c : Dev nD) (t : Fin cfg0.N) : Vec F S128x1024 .bf16 := if t.val % 9 = 8 then DQ (ins m c (pt (t.val - 1))) else DQ (ins m c t)
/-- the key gradient's: over nothing at a first block, over the block before at a later one, the block before
    alone at the closing point, -/
def aK (c : Dev nD) (t : Fin cfg0.N) : Vec F S128x1024 .bf16 :=
  if t.val % 9 = 0 then DK (ins m c t) (k0_pay1 (F := F))
  else if t.val % 9 = 8 then k0_pay3 (CK (ins m c (pt (t.val - 1))))
  else DK (ins m c t) (CK (ins m c (pt (t.val - 1))))
/-- and the value gradient's. -/
def aV (c : Dev nD) (t : Fin cfg0.N) : Vec F S128x1024 .bf16 :=
  if t.val % 9 = 0 then DV (ins m c t) (k0_pay2 (F := F))
  else if t.val % 9 = 8 then k0_pay4 (CV (ins m c (pt (t.val - 1))))
  else DV (ins m c t) (CV (ins m c (pt (t.val - 1))))

/-- Between two points the carried sums hold what the block before left, unless a run of nine is about to begin. -/
def phiS (c : Dev nD) (n : ℕ) (_ : n ≤ cfg0.N) : sProp 𝕄 :=
  iprop(iprop((∃ d, iprop(⌜n % 9 ≠ 0 → d = CK (ins m c (pt (n - 1)))⌝ ∗ owns (c : Thread nD τ) scK fullShare d))
    ∗ (∃ d, iprop(⌜n % 9 ≠ 0 → d = CV (ins m c (pt (n - 1)))⌝ ∗ owns (c : Thread nD τ) scV fullShare d))) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => aQ m c t
    | ⟨9, _⟩ => aK m c t
    | ⟨10, _⟩ => aV m c t
  Φ t := phiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = aQ m c t := by dsimp only [dats]
theorem after_9 (c : Dev nD) (t : Fin cfg0.N) : (dats m 0 c).after 9 t = aK m c t := by dsimp only [dats]
theorem after_10 (c : Dev nD) (t : Fin cfg0.N) : (dats m 0 c).after 10 t = aV m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem fetch8 : ∀ t : Fin cfg0.N, (cfg0.win 8).fetch t = false := fun _ => rfl

/-- At a closing point the query gradient's buffer still holds the block of the point before. -/
theorem before_8 (c : Dev nD) (t : Fin cfg0.N) (h : t.val % 9 = 8) (d) : (dats m 0 c).before 8 t d = aQ m c t := by
  have hN : t.val < 36 := lt_of_lt_of_eq t.isLt N_0
  have hp : (⟨t.val - 1, Nat.lt_of_le_of_lt (Nat.sub_le _ _) t.isLt⟩ : Fin cfg0.N) = pt (t.val - 1) :=
    Fin.ext (Nat.mod_eq_of_lt (show t.val - 1 < 36 by omega)).symm
  have hv : (pt (t.val - 1)).val % 9 = 7 := by show (t.val - 1) % 36 % 9 = 7; omega
  rw [Dat.before_of_pos _ 8 t (by omega) (fetch8 t), hp, if_neg (by rw [flush8_iff, hv]; decide)]
  unfold Dat.left
  rw [idle8_iff, hv]
  show (dats m 0 c).kept 8 (pt (t.val - 1)) d = _
  unfold Dat.kept
  rw [Pipeline.fill_of_clip_none 8 _ (fun _ => rfl) d ((dats m 0 c).after 8 (pt (t.val - 1))), Window.fill_cut, after_8]
  unfold aQ
  rw [if_neg (by omega), if_pos h]

theorem phi_castSucc (c : Dev nD) (t : Fin cfg0.N) : (dats m 0 c).Φ t.castSucc = phiS m c t.val (Nat.le_of_lt t.isLt) := by
  dsimp only [dats]; exact Pipeline.Dat.Φ_castSucc (phiS m c) t
theorem phi_succ (c : Dev nD) (t : Fin cfg0.N) : (dats m 0 c).Φ t.succ = phiS m c (t.val + 1) t.isLt := by
  dsimp only [dats]; rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (ms0 t) fullShare (iblk m c 0 t) := by
  rw [← after_0 m c t]
theorem leaves_1 (c : Dev nD) (t : Fin cfg0.N) : (dats m 0 c).leavesExact 1 t = owns (c : Thread nD τ) (ms1 t) fullShare (iblk m c 1 t) := by
  rw [← after_1 m c t]
theorem leaves_2 (c : Dev nD) (t : Fin cfg0.N) : (dats m 0 c).leavesExact 2 t = owns (c : Thread nD τ) (ms2 t) fullShare (iblk m c 2 t) := by
  rw [← after_2 m c t]
theorem leaves_3 (c : Dev nD) (t : Fin cfg0.N) : (dats m 0 c).leavesExact 3 t = owns (c : Thread nD τ) (ms3 t) fullShare (iblk m c 3 t) := by
  rw [← after_3 m c t]
theorem leaves_4 (c : Dev nD) (t : Fin cfg0.N) : (dats m 0 c).leavesExact 4 t = owns (c : Thread nD τ) (ms4 t) fullShare (iblk m c 4 t) := by
  rw [← after_4 m c t]
theorem leaves_5 (c : Dev nD) (t : Fin cfg0.N) : (dats m 0 c).leavesExact 5 t = owns (c : Thread nD τ) (ms5 t) fullShare (iblk m c 5 t) := by
  rw [← after_5 m c t]
theorem leaves_6 (c : Dev nD) (t : Fin cfg0.N) : (dats m 0 c).leavesExact 6 t = owns (c : Thread nD τ) (ms6 t) fullShare (iblk m c 6 t) := by
  rw [← after_6 m c t]
theorem leaves_7 (c : Dev nD) (t : Fin cfg0.N) : (dats m 0 c).leavesExact 7 t = owns (c : Thread nD τ) (ms7 t) fullShare (iblk m c 7 t) := by
  rw [← after_7 m c t]
theorem leaves_8 (c : Dev nD) (t : Fin cfg0.N) : (dats m 0 c).leavesExact 8 t = owns (c : Thread nD τ) (ms8 t) fullShare (aQ m c t) := by
  rw [← after_8 m c t]; unfold Dat.leavesExact
  by_cases h : t.val % 9 = 8
  · rw [show cfg0.idle 8 (cfg0.grid.coords t) = true from (idle8_iff t).trans (by rw [h]; rfl), show (cfg0.win 8).flush t = true from (flush8_iff t).trans (by rw [h]; rfl)]
  · rw [show cfg0.idle 8 (cfg0.grid.coords t) = false from (idle8_iff t).trans (decide_eq_false h)]
theorem leaves_9 (c : Dev nD) (t : Fin cfg0.N) : (dats m 0 c).leavesExact 9 t = owns (c : Thread nD τ) (ms9 t) fullShare (aK m c t) := by
  rw [← after_9 m c t]; unfold Dat.leavesExact; rw [show cfg0.idle 9 (cfg0.grid.coords t) = false from idle9 t]
theorem leaves_10 (c : Dev nD) (t : Fin cfg0.N) : (dats m 0 c).leavesExact 10 t = owns (c : Thread nD τ) (ms10 t) fullShare (aV m c t) := by
  rw [← after_10 m c t]; unfold Dat.leavesExact; rw [show cfg0.idle 10 (cfg0.grid.coords t) = false from idle10 t]

set_option maxHeartbeats 2000000 in
theorem body_A (c : Dev nD) (t : Fin cfg0.N) (h0 : t.val % 9 = 0) :
    bodyPre m c t ⊢ wp frame (wpE (defs₀ (F := F)) Variants.none c none) Set.univ (bodyAt0 t) (fun _ => bodyPost m c t) := by
  have hN : t.val < 36 := lt_of_lt_of_eq t.isLt N_0
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [phi_succ, phi_castSucc, show (dats m 0 c).owesAt () t.succ = (dats m 0 c).owesAt () t.castSucc from rfl]
  unfold phiS
  rw [show aQ m c t = DQ (ins m c t) from if_neg (by omega), show aK m c t = DK (ins m c t) (k0_pay1 (F := F)) from if_pos h0, show aV m c t = DV (ins m c t) (k0_pay2 (F := F)) from if_pos h0]
  iintro ⟨⟨⟨⟨%dK, %hK, HK⟩, ⟨%dV, %hV, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((run_A c (grid0.coords t) _ _ _ _ _ _ _ _ _ _ _ _ _ _ _ _ _ _ _ _ _ _ _ _ _ _ ((cond0_iff t).mpr h0) ((cond1_iff t).mpr (by omega)) (fun h => by have := (cond2_iff t).mp h; omega) (ins m c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HK]; · iexists _; iexact HK
  isplitl [HV]; · iexists _; iexact HV
  iintro ⟨H0, H1, H2, H3, H4, H5, H6, H7, H8, H9, H10, HK, HV⟩
  isplitl [HK HV Hg]
  · isplitl [HK HV]
    · isplitl [HK]
      · iexists _; isplitr; swap; · iexact HK
        ipureintro; intro _; rw [Nat.add_sub_cancel, pt_val]
      · iexists _; isplitr; swap; · iexact HV
        ipureintro; intro _; rw [Nat.add_sub_cancel, pt_val]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem body_B (c : Dev nD) (t : Fin cfg0.N) (h0 : ¬ t.val % 9 = 0) (h8 : ¬ t.val % 9 = 8) :
    bodyPre m c t ⊢ wp frame (wpE (defs₀ (F := F)) Variants.none c none) Set.univ (bodyAt0 t) (fun _ => bodyPost m c t) := by
  have hN : t.val < 36 := lt_of_lt_of_eq t.isLt N_0
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [phi_succ, phi_castSucc, show (dats m 0 c).owesAt () t.succ = (dats m 0 c).owesAt () t.castSucc from rfl]
  unfold phiS
  rw [show aQ m c t = DQ (ins m c t) from if_neg h8, show aK m c t = DK (ins m c t) (CK (ins m c (pt (t.val - 1)))) from (if_neg h0).trans (if_neg h8), show aV m c t = DV (ins m c t) (CV (ins m c (pt (t.val - 1)))) from (if_neg h0).trans (if_neg h8)]
  iintro ⟨⟨⟨⟨%dK, %hK, HK⟩, ⟨%dV, %hV, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hK (by omega)
  obtain rfl := hV (by omega)
  iapply ((run_B c (grid0.coords t) _ _ _ _ _ _ _ _ _ _ _ _ _ _ _ _ _ _ _ _ _ _ _ _ _ _ (fun h => h0 ((cond0_iff t).mp h)) ((cond1_iff t).mpr (by omega)) (fun h => h8 ((cond2_iff t).mp h)) (ins m c t) (CK (ins m c (pt (t.val - 1)))) (CV (ins m c (pt (t.val - 1))))) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HK]; · iexact HK
  isplitl [HV]; · iexact HV
  iintro ⟨H0, H1, H2, H3, H4, H5, H6, H7, H8, H9, H10, HK, HV⟩
  isplitl [HK HV Hg]
  · isplitl [HK HV]
    · isplitl [HK]
      · iexists _; isplitr; swap; · iexact HK
        ipureintro; intro _; rw [Nat.add_sub_cancel, pt_val]
      · iexists _; isplitr; swap; · iexact HV
        ipureintro; intro _; rw [Nat.add_sub_cancel, pt_val]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem body_C (c : Dev nD) (t : Fin cfg0.N) (h8 : t.val % 9 = 8) :
    bodyPre m c t ⊢ wp frame (wpE (defs₀ (F := F)) Variants.none c none) Set.univ (bodyAt0 t) (fun _ => bodyPost m c t) := by
  have hN : t.val < 36 := lt_of_lt_of_eq t.isLt N_0
  unfold bodyPre bodyPost bodyAt0
  simp only [before_0, before_1, before_2, before_3, before_4, before_5, before_6, before_7, leaves_0, leaves_1, leaves_2, leaves_3, leaves_4, leaves_5, leaves_6, leaves_7, leaves_8, leaves_9, leaves_10]
  rw [phi_succ, phi_castSucc, show (dats m 0 c).owesAt () t.succ = (dats m 0 c).owesAt () t.castSucc from rfl]
  unfold phiS
  simp only [before_8 m c t h8]
  rw [show aK m c t = k0_pay3 (CK (ins m c (pt (t.val - 1)))) from (if_neg (by omega)).trans (if_pos h8), show aV m c t = k0_pay4 (CV (ins m c (pt (t.val - 1)))) from (if_neg (by omega)).trans (if_pos h8)]
  iintro ⟨⟨⟨⟨%dK, %hK, HK⟩, ⟨%dV, %hV, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hK (by omega)
  obtain rfl := hV (by omega)
  iapply ((run_C c (grid0.coords t) _ _ _ _ _ _ _ _ _ _ _ _ _ _ _ _ _ _ _ _ _ _ _ _ _ _ (fun h => by have := (cond0_iff t).mp h; omega) (fun h => by have := (cond1_iff t).mp h; omega) ((cond2_iff t).mpr h8) (CK (ins m c (pt (t.val - 1)))) (CV (ins m c (pt (t.val - 1))))) Set.univ _)
  isplitl [H9]; · iexists _; iexact H9
  isplitl [H10]; · iexists _; iexact H10
  isplitl [HK]; · iexact HK
  isplitl [HV]; · iexact HV
  iintro ⟨H9, H10, HK, HV⟩
  isplitl [HK HV Hg]
  · isplitl [HK HV]
    · isplitl [HK]
      · iexists _; isplitr; swap; · iexact HK
        ipureintro; intro h; omega
      · iexists _; isplitr; swap; · iexact HV
        ipureintro; intro h; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_sound (c : Dev nD) (t : Fin cfg0.N) :
    bodyPre m c t ⊢ wp frame (wpE (defs₀ (F := F)) Variants.none c none) Set.univ (bodyAt0 t) (fun _ => bodyPost m c t) := by
  by_cases h0 : t.val % 9 = 0
  · exact body_A m c t h0
  · by_cases h8 : t.val % 9 = 8
    · exact body_C m c t h8
    · exact body_B m c t h0 h8

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-! ## The run -/

theorem phi_in (c : Dev nD) : (Pipeline.ΦA spec0 c : sProp 𝕄) ⊢ (dats m 0 c).Φ 0 := by
  rw [phi_eq, show (dats m 0 c).Φ 0 = phiS m c 0 (Nat.zero_le _) from rfl]
  unfold phiS
  iintro ⟨⟨⟨%d, HK⟩, ⟨%e, HV⟩⟩, Hg⟩
  isplitl [HK HV]
  · isplitl [HK]
    · iexists _; isplitr; swap; · iexact HK
      ipureintro; intro h; exact absurd rfl h
    · iexists _; isplitr; swap; · iexact HV
      ipureintro; intro h; exact absurd rfl h
  iexact Hg

theorem phi_out (c : Dev nD) : (dats m 0 c).Φ (Fin.last cfg0.N) ⊢ (Pipeline.ΦA spec0 c : sProp 𝕄) := by
  rw [phi_eq, show (dats m 0 c).Φ (Fin.last cfg0.N) = phiS m c cfg0.N le_rfl from rfl]
  unfold phiS
  iintro ⟨⟨⟨%d, -, HK⟩, ⟨%e, -, HV⟩⟩, Hg⟩
  isplitl [HK HV]
  · isplitl [HK]
    · iexists _; iexact HK
    · iexists _; iexact HV
  iexact Hg

set_option backward.isDefEq.respectTransparency.types false in
/-- The launch: every array at the contents the points' blocks leave, and every semaphore's counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := phi_in m) (hout := phi_out m)

end Cert.KernelIdeal.Attn

end
-- ==== Proof.Inputs.lean ====
module

public import proofs.«01_k».proof.Proof.Gen.KernelIdeal.Frame
public import proofs.«01_k».proof.Proof.Launch
public import Idealize.ShloMosaic.Lib.Pointwise
public import Idealize.ShloMosaic.Lib.Tactic.IndexArith
public import Idealize.ShloMosaic.Lib.StableHlo.RunRead
public import Idealize.ShloMosaic.Lib.Claim

/-! The blocks a grid point reads, an element at a time, as elements of the three arguments and of the bias table the
host builds. Point `9 r + n` reads residue `r`'s block `n`. -/

@[expose] public section

set_option maxRecDepth 16384

noncomputable section

namespace Cert.KernelIdeal.Attn

open Cert.KernelIdeal Cert.KernelIdeal.Gen Idealize.ShloMosaic Idealize.ShloMosaic.TcCoe

/-- The host's bias of the keys of the block itself, minus infinity after the query, -/
def biasCur (s : FVec Ideal S16 .f32) : FVec Ideal S16x128x128 .f32 :=
  select (broadcastInDim S16x128x128 ![1, 2] bcast_S128x128_S16x128x128_1_2 (cmpi .sge (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) (broadcastInDim S128x128 ![] bcast_S_S128x128 (constantI S_ 32 0#32))))
    (mulf (broadcastInDim S16x128x128 ![0, 1, 2] bcast_S16x1x1_S16x128x128_0_1_2 (Host.negf (broadcastInDim S16x1x1 ![0] bcast_S16_S16x1x1_0 s)))
      (broadcastInDim S16x128x128 ![0, 1, 2] bcast_S1x128x128_S16x128x128_0_1_2 (broadcastInDim S1x128x128 ![1, 2] bcast_S128x128_S1x128x128_1_2 (sitofp .f32 (muli (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) (broadcastInDim S128x128 ![] bcast_S_S128x128 (constantI S_ 32 4#32)))))))
    (broadcastInDim S16x128x128 ![] bcast_S_S16x128x128 (constant S_ .f32 0xFF800000#32))

/-- of the keys of the block before, minus infinity out of the window, -/
def biasPrev (s : FVec Ideal S16 .f32) : FVec Ideal S16x128x128 .f32 :=
  select (broadcastInDim S16x128x128 ![1, 2] bcast_S128x128_S16x128x128_1_2 (cmpi .sge (broadcastInDim S128x128 ![0, 1] bcast_S1x128_S128x128_0_1 (broadcastInDim S1x128 ![1] bcast_S128_S1x128_1 (iotaInDim S128 32 0)))
      (broadcastInDim S128x128 ![0, 1] bcast_S128x1_S128x128_0_1 (broadcastInDim S128x1 ![0] bcast_S128_S128x1_0 (iotaInDim S128 32 0)))))
    (mulf (broadcastInDim S16x128x128 ![0, 1, 2] bcast_S16x1x1_S16x128x128_0_1_2 (Host.negf (broadcastInDim S16x1x1 ![0] bcast_S16_S16x1x1_0 s)))
      (broadcastInDim S16x128x128 ![0, 1, 2] bcast_S1x128x128_S16x128x128_0_1_2 (broadcastInDim S1x128x128 ![1, 2] bcast_S128x128_S1x128x128_1_2 (sitofp .f32 (muli (addi (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) (broadcastInDim S128x128 ![] bcast_S_S128x128 (constantI S_ 32 128#32))) (broadcastInDim S128x128 ![] bcast_S_S128x128 (constantI S_ 32 4#32)))))))
    (broadcastInDim S16x128x128 ![] bcast_S_S16x128x128 (constant S_ .f32 0xFF800000#32))

/-- and the table of both: first the one with no block before, then the other; two heads stacked. -/
def table (s : FVec Ideal S16 .f32) : FVec Ideal S2x8x256x256 .f32 :=
  shapeCast _ (concatenate S2x16x128x256 0 [⟨S1x16x128x256, broadcastInDim S1x16x128x256 ![1, 2, 3] bcast_S16x128x256_S1x16x128x256_1_2_3
      (concatenate S16x128x256 2 [⟨S16x128x128, broadcastInDim S16x128x128 ![] bcast_S_S16x128x128 (constant S_ .f32 0xFF800000#32)⟩, ⟨S16x128x128, biasCur s⟩] concatenates_S16x128x128_S16x128x128_S16x128x256_d2)⟩,
    ⟨S1x16x128x256, broadcastInDim S1x16x128x256 ![1, 2, 3] bcast_S16x128x256_S1x16x128x256_1_2_3
      (concatenate S16x128x256 2 [⟨S16x128x128, biasPrev s⟩, ⟨S16x128x128, biasCur s⟩] concatenates_S16x128x128_S16x128x128_S16x128x256_d2)⟩] concatenates_S1x16x128x256_S1x16x128x256_S2x16x128x256_d0) shapeCasts_S2x16x128x256_S2x8x256x256

def slopes : FVec Ideal S16 .f32 := fun i => FloatOps.ofBits .f32 (lit0 (S16.rowMajor i))

def catK (a b : FVec Ideal S16x128x128 .f32) : FVec Ideal S16x128x256 .f32 := concatenate S16x128x256 2 [⟨S16x128x128, a⟩, ⟨S16x128x128, b⟩] concatenates_S16x128x128_S16x128x128_S16x128x256_d2
def catT (a b : FVec Ideal S1x16x128x256 .f32) : FVec Ideal S2x16x128x256 .f32 := concatenate S2x16x128x256 0 [⟨S1x16x128x256, a⟩, ⟨S1x16x128x256, b⟩] concatenates_S1x16x128x256_S1x16x128x256_S2x16x128x256_d0
theorem catK_eq : (fun a b => concatenate S16x128x256 2 [⟨S16x128x128, a⟩, ⟨S16x128x128, b⟩] concatenates_S16x128x128_S16x128x128_S16x128x256_d2 : FVec Ideal S16x128x128 .f32 → FVec Ideal S16x128x128 .f32 → FVec Ideal S16x128x256 .f32) = catK := rfl
theorem catT_eq : (fun a b => concatenate S2x16x128x256 0 [⟨S1x16x128x256, a⟩, ⟨S1x16x128x256, b⟩] concatenates_S1x16x128x256_S1x16x128x256_S2x16x128x256_d0 : FVec Ideal S1x16x128x256 .f32 → FVec Ideal S1x16x128x256 .f32 → FVec Ideal S2x16x128x256 .f32) = catT := rfl

section Host
variable (m : (ℓ : Loc nD τ sig) → Buf (Elt Ideal) ℓ) (c : Dev nD)

theorem V_v0 : V m c main_v0 = shapeCast S1024x12288 (m ((c.tc : Thread nD τ).loc main_arg0)) shapeCasts_S4096x3072_S1024x12288 := by
  unfold_abbrev_sides
  simp only [hostOps0, hostOps0_1, hostOps0_2, hostOps0_3, hostOps0_4, List.flatten_cons, List.flatten_nil, List.append_nil, List.cons_append, List.nil_append]
  after_reads_simp
  rfl
theorem V_v1 : V m c main_v1 = shapeCast S1024x4096 (m ((c.tc : Thread nD τ).loc main_arg1)) shapeCasts_S4096x1024_S1024x4096 := by
  unfold_abbrev_sides
  simp only [hostOps0, hostOps0_1, hostOps0_2, hostOps0_3, hostOps0_4, List.flatten_cons, List.flatten_nil, List.append_nil, List.cons_append, List.nil_append]
  after_reads_simp
  rfl
theorem V_v49 : V m c main_v49 = shapeCast S1024x512 (m ((c.tc : Thread nD τ).loc main_arg2)) shapeCasts_S4096x128_S1024x512 := by
  unfold_abbrev_sides
  simp only [hostOps0, hostOps0_1, hostOps0_2, hostOps0_3, hostOps0_4, List.flatten_cons, List.flatten_nil, List.append_nil, List.cons_append, List.nil_append]
  after_reads_simp
  rfl
theorem V_v48 : V m c main_v48 = table slopes := by
  unfold_abbrev_sides
  simp only [hostOps0, hostOps0_1, hostOps0_2, hostOps0_3, hostOps0_4, List.flatten_cons, List.flatten_nil, List.append_nil, List.cons_append, List.nil_append, StableHlo.TRef.nullary, StableHlo.TRef.ternary, StableHlo.TRef.unary, StableHlo.TRef.toBuf, StableHlo.TRef.ofBuf, cast_eq]
  rw [catK_eq, catT_eq]
  after_reads_simp
  unfold catK catT
  rfl
end Host

theorem index_facts : ∀ t : Fin cfg0.N, t.val % 9 < 8 → (win0_0.index t 0 = t.val % 9 ∧ win0_0.index t 1 = 3 * (t.val / 9)) ∧ (win0_1.index t 0 = t.val % 9 ∧ win0_1.index t 1 = 3 * (t.val / 9) + 1)
    ∧ (win0_2.index t 0 = t.val % 9 - 1 ∧ win0_2.index t 1 = 3 * (t.val / 9) + 1) ∧ (win0_3.index t 0 = t.val % 9 ∧ win0_3.index t 1 = 3 * (t.val / 9) + 2)
    ∧ (win0_4.index t 0 = t.val % 9 - 1 ∧ win0_4.index t 1 = 3 * (t.val / 9) + 2) ∧ (win0_5.index t 0 = t.val % 9 ∧ win0_5.index t 1 = t.val / 9) ∧ (win0_6.index t 0 = t.val % 9 ∧ win0_6.index t 1 = t.val / 9)
    ∧ (win0_7.index t 0 = min (t.val % 9) 1 ∧ win0_7.index t 1 = 0 ∧ win0_7.index t 2 = 0 ∧ win0_7.index t 3 = 0) := by
  decide +kernel

section Table
variable (s : FVec Ideal S16 .f32) (h : Fin 16) (i j : Fin 128)
theorem biasCur_apply : biasCur s (ix3 h i j) = Scalar.select (IntOp.cmpi CmpIPredicate.sge (IntOp.subi (BitVec.ofNat 32 i.val) (BitVec.ofNat 32 j.val)) 0#32)
    (-s (ix1 h) * FloatOps.sitofp FTy.f32 (IntOp.muli (IntOp.subi (BitVec.ofNat 32 i.val) (BitVec.ofNat 32 j.val)) 4#32)) (Ideal.ofBits FTy.f32 0xFF800000#32) := by
  pointwise [biasCur]
theorem biasPrev_apply : biasPrev s (ix3 h i j) = Scalar.select (IntOp.cmpi CmpIPredicate.sge (BitVec.ofNat 32 j.val) (BitVec.ofNat 32 i.val))
    (-s (ix1 h) * FloatOps.sitofp FTy.f32 (IntOp.muli (IntOp.addi (IntOp.subi (BitVec.ofNat 32 i.val) (BitVec.ofNat 32 j.val)) 128#32) 4#32)) (Ideal.ofBits FTy.f32 0xFF800000#32) := by
  pointwise [biasPrev]
theorem table_apply (f : Fin 2) (p : Fin 8) (a b : Fin 256) : table s (ix4 f p a b) =
    if f.val < 1 then (if hb : b.val < 128 then Ideal.ofBits FTy.f32 0xFF800000#32 else biasCur s (ix3 ⟨p.val * 2 + a.val / 128, by omega⟩ ⟨a.val % 128, by omega⟩ ⟨b.val - 128, by omega⟩))
    else (if hb : b.val < 128 then biasPrev s (ix3 ⟨p.val * 2 + a.val / 128, by omega⟩ ⟨a.val % 128, by omega⟩ ⟨b.val, hb⟩)
      else biasCur s (ix3 ⟨p.val * 2 + a.val / 128, by omega⟩ ⟨a.val % 128, by omega⟩ ⟨b.val - 128, by omega⟩)) := by
  pointwise [table]
  rfl
end Table

section Flat
theorem flat0 (x : FVec Ideal S4096x3072 .bf16) (a : Fin 1024) (b : Fin 12288) : shapeCast S1024x12288 x shapeCasts_S4096x3072_S1024x12288 (ix2 a b) = x (ix2 ⟨a.val * 4 + b.val / 3072, by omega⟩ ⟨b.val % 3072, by omega⟩) := by
  pointwise []
theorem flat1 (x : FVec Ideal S4096x1024 .bf16) (a : Fin 1024) (b : Fin 4096) : shapeCast S1024x4096 x shapeCasts_S4096x1024_S1024x4096 (ix2 a b) = x (ix2 ⟨a.val * 4 + b.val / 1024, by omega⟩ ⟨b.val % 1024, by omega⟩) := by
  pointwise []
theorem flat2 (x : FVec Ideal S4096x128 .f32) (a : Fin 1024) (b : Fin 512) : shapeCast S1024x512 x shapeCasts_S4096x128_S1024x512 (ix2 a b) = x (ix2 ⟨a.val * 4 + b.val / 128, by omega⟩ ⟨b.val % 128, by omega⟩) := by
  pointwise []
end Flat

section Blocks
variable (m : (ℓ : Loc nD τ sig) → Buf (Elt Ideal) ℓ) (c : Dev nD) (r : Fin 4) (n : Fin 8) (t : Fin cfg0.N) (ht : t.val = 9 * r.val + n.val) (i : Fin 128)
include ht

theorem point_fact : t.val % 9 = n.val ∧ t.val / 9 = r.val := by omega

theorem q_at (l : Fin 1024) : (ins m c t).q (ix2 i l) = m ((c.tc : Thread nD τ).loc main_arg0) (ix2 ⟨((n.val) * 128 + i.val) * 4 + r.val, by omega⟩ ⟨l.val, by omega⟩) := by
  obtain ⟨e1, e2⟩ := point_fact r n t ht
  have hf := index_facts t (by omega)
  rw [e1, e2] at hf
  obtain ⟨⟨h0, h1⟩, -⟩ := hf
  have he : ((cfg0.win 0).blk t).view.emb (ix2 i l) = (ix2 ⟨(n.val) * 128 + i.val, by omega⟩ ⟨(3 * r.val) * 1024 + l.val, by omega⟩ : S1024x12288.Idx) := funext fun a => Fin.ext (match a with
    | ⟨0, _⟩ => by show win0_0.index t 0 * 128 + 1 * i.val = (n.val) * 128 + i.val; rw [h0, Nat.one_mul]
    | ⟨1, _⟩ => by show win0_0.index t 1 * 1024 + 1 * l.val = (3 * r.val) * 1024 + l.val; rw [h1, Nat.one_mul])
  show V m c main_v0 (((cfg0.win 0).blk t).view.emb (ix2 i l)) = _
  rw [V_v0, he]
  refine (flat0 _ _ _).trans (congrArg _ (congrArg₂ _ (Fin.ext ?_) (Fin.ext ?_))) <;> (show _ = _; dsimp only; omega)
theorem kc_at (l : Fin 1024) : (ins m c t).kc (ix2 i l) = m ((c.tc : Thread nD τ).loc main_arg0) (ix2 ⟨((n.val) * 128 + i.val) * 4 + r.val, by omega⟩ ⟨1024 + l.val, by omega⟩) := by
  obtain ⟨e1, e2⟩ := point_fact r n t ht
  have hf := index_facts t (by omega)
  rw [e1, e2] at hf
  obtain ⟨-, ⟨h0, h1⟩, -⟩ := hf
  have he : ((cfg0.win 1).blk t).view.emb (ix2 i l) = (ix2 ⟨(n.val) * 128 + i.val, by omega⟩ ⟨(3 * r.val + 1) * 1024 + l.val, by omega⟩ : S1024x12288.Idx) := funext fun a => Fin.ext (match a with
    | ⟨0, _⟩ => by show win0_1.index t 0 * 128 + 1 * i.val = (n.val) * 128 + i.val; rw [h0, Nat.one_mul]
    | ⟨1, _⟩ => by show win0_1.index t 1 * 1024 + 1 * l.val = (3 * r.val + 1) * 1024 + l.val; rw [h1, Nat.one_mul])
  show V m c main_v0 (((cfg0.win 1).blk t).view.emb (ix2 i l)) = _
  rw [V_v0, he]
  refine (flat0 _ _ _).trans (congrArg _ (congrArg₂ _ (Fin.ext ?_) (Fin.ext ?_))) <;> (show _ = _; dsimp only; omega)
theorem kp_at (l : Fin 1024) : (ins m c t).kp (ix2 i l) = m ((c.tc : Thread nD τ).loc main_arg0) (ix2 ⟨((n.val - 1) * 128 + i.val) * 4 + r.val, by omega⟩ ⟨1024 + l.val, by omega⟩) := by
  obtain ⟨e1, e2⟩ := point_fact r n t ht
  have hf := index_facts t (by omega)
  rw [e1, e2] at hf
  obtain ⟨-, -, ⟨h0, h1⟩, -⟩ := hf
  have he : ((cfg0.win 2).blk t).view.emb (ix2 i l) = (ix2 ⟨(n.val - 1) * 128 + i.val, by omega⟩ ⟨(3 * r.val + 1) * 1024 + l.val, by omega⟩ : S1024x12288.Idx) := funext fun a => Fin.ext (match a with
    | ⟨0, _⟩ => by show win0_2.index t 0 * 128 + 1 * i.val = (n.val - 1) * 128 + i.val; rw [h0, Nat.one_mul]
    | ⟨1, _⟩ => by show win0_2.index t 1 * 1024 + 1 * l.val = (3 * r.val + 1) * 1024 + l.val; rw [h1, Nat.one_mul])
  show V m c main_v0 (((cfg0.win 2).blk t).view.emb (ix2 i l)) = _
  rw [V_v0, he]
  refine (flat0 _ _ _).trans (congrArg _ (congrArg₂ _ (Fin.ext ?_) (Fin.ext ?_))) <;> (show _ = _; dsimp only; omega)
theorem vc_at (l : Fin 1024) : (ins m c t).vc (ix2 i l) = m ((c.tc : Thread nD τ).loc main_arg0) (ix2 ⟨((n.val) * 128 + i.val) * 4 + r.val, by omega⟩ ⟨2048 + l.val, by omega⟩) := by
  obtain ⟨e1, e2⟩ := point_fact r n t ht
  have hf := index_facts t (by omega)
  rw [e1, e2] at hf
  obtain ⟨-, -, -, ⟨h0, h1⟩, -⟩ := hf
  have he : ((cfg0.win 3).blk t).view.emb (ix2 i l) = (ix2 ⟨(n.val) * 128 + i.val, by omega⟩ ⟨(3 * r.val + 2) * 1024 + l.val, by omega⟩ : S1024x12288.Idx) := funext fun a => Fin.ext (match a with
    | ⟨0, _⟩ => by show win0_3.index t 0 * 128 + 1 * i.val = (n.val) * 128 + i.val; rw [h0, Nat.one_mul]
    | ⟨1, _⟩ => by show win0_3.index t 1 * 1024 + 1 * l.val = (3 * r.val + 2) * 1024 + l.val; rw [h1, Nat.one_mul])
  show V m c main_v0 (((cfg0.win 3).blk t).view.emb (ix2 i l)) = _
  rw [V_v0, he]
  refine (flat0 _ _ _).trans (congrArg _ (congrArg₂ _ (Fin.ext ?_) (Fin.ext ?_))) <;> (show _ = _; dsimp only; omega)
theorem vp_at (l : Fin 1024) : (ins m c t).vp (ix2 i l) = m ((c.tc : Thread nD τ).loc main_arg0) (ix2 ⟨((n.val - 1) * 128 + i.val) * 4 + r.val, by omega⟩ ⟨2048 + l.val, by omega⟩) := by
  obtain ⟨e1, e2⟩ := point_fact r n t ht
  have hf := index_facts t (by omega)
  rw [e1, e2] at hf
  obtain ⟨-, -, -, -, ⟨h0, h1⟩, -⟩ := hf
  have he : ((cfg0.win 4).blk t).view.emb (ix2 i l) = (ix2 ⟨(n.val - 1) * 128 + i.val, by omega⟩ ⟨(3 * r.val + 2) * 1024 + l.val, by omega⟩ : S1024x12288.Idx) := funext fun a => Fin.ext (match a with
    | ⟨0, _⟩ => by show win0_4.index t 0 * 128 + 1 * i.val = (n.val - 1) * 128 + i.val; rw [h0, Nat.one_mul]
    | ⟨1, _⟩ => by show win0_4.index t 1 * 1024 + 1 * l.val = (3 * r.val + 2) * 1024 + l.val; rw [h1, Nat.one_mul])
  show V m c main_v0 (((cfg0.win 4).blk t).view.emb (ix2 i l)) = _
  rw [V_v0, he]
  refine (flat0 _ _ _).trans (congrArg _ (congrArg₂ _ (Fin.ext ?_) (Fin.ext ?_))) <;> (show _ = _; dsimp only; omega)
theorem d_at (l : Fin 1024) : (ins m c t).d (ix2 i l) = m ((c.tc : Thread nD τ).loc main_arg1) (ix2 ⟨((n.val) * 128 + i.val) * 4 + r.val, by omega⟩ ⟨l.val, by omega⟩) := by
  obtain ⟨e1, e2⟩ := point_fact r n t ht
  have hf := index_facts t (by omega)
  rw [e1, e2] at hf
  obtain ⟨-, -, -, -, -, ⟨h0, h1⟩, -⟩ := hf
  have he : ((cfg0.win 5).blk t).view.emb (ix2 i l) = (ix2 ⟨(n.val) * 128 + i.val, by omega⟩ ⟨(r.val) * 1024 + l.val, by omega⟩ : S1024x4096.Idx) := funext fun a => Fin.ext (match a with
    | ⟨0, _⟩ => by show win0_5.index t 0 * 128 + 1 * i.val = (n.val) * 128 + i.val; rw [h0, Nat.one_mul]
    | ⟨1, _⟩ => by show win0_5.index t 1 * 1024 + 1 * l.val = (r.val) * 1024 + l.val; rw [h1, Nat.one_mul])
  show V m c main_v1 (((cfg0.win 5).blk t).view.emb (ix2 i l)) = _
  rw [V_v1, he]
  refine (flat1 _ _ _).trans (congrArg _ (congrArg₂ _ (Fin.ext ?_) (Fin.ext ?_))) <;> (show _ = _; dsimp only; omega)
theorem l_at (l : Fin 128) : (ins m c t).l (ix2 i l) = m ((c.tc : Thread nD τ).loc main_arg2) (ix2 ⟨((n.val) * 128 + i.val) * 4 + r.val, by omega⟩ ⟨l.val, by omega⟩) := by
  obtain ⟨e1, e2⟩ := point_fact r n t ht
  have hf := index_facts t (by omega)
  rw [e1, e2] at hf
  obtain ⟨-, -, -, -, -, -, ⟨h0, h1⟩, -⟩ := hf
  have he : ((cfg0.win 6).blk t).view.emb (ix2 i l) = (ix2 ⟨(n.val) * 128 + i.val, by omega⟩ ⟨(r.val) * 128 + l.val, by omega⟩ : S1024x512.Idx) := funext fun a => Fin.ext (match a with
    | ⟨0, _⟩ => by show win0_6.index t 0 * 128 + 1 * i.val = (n.val) * 128 + i.val; rw [h0, Nat.one_mul]
    | ⟨1, _⟩ => by show win0_6.index t 1 * 128 + 1 * l.val = (r.val) * 128 + l.val; rw [h1, Nat.one_mul])
  show V m c main_v49 (((cfg0.win 6).blk t).view.emb (ix2 i l)) = _
  rw [V_v49, he]
  refine (flat2 _ _ _).trans (congrArg _ (congrArg₂ _ (Fin.ext ?_) (Fin.ext ?_))) <;> (show _ = _; dsimp only; omega)
theorem b_at (p : Fin 8) (a j : Fin 256) : (ins m c t).b (ix4 0 p a j) = table slopes (ix4 ⟨min n.val 1, by omega⟩ p a j) := by
  obtain ⟨e1, e2⟩ := point_fact r n t ht
  have hf := index_facts t (by omega)
  rw [e1, e2] at hf
  obtain ⟨-, -, -, -, -, -, -, h0, h1, h2, h3⟩ := hf
  have he : ((cfg0.win 7).blk t).view.emb (ix4 0 p a j) = (ix4 ⟨min n.val 1, by omega⟩ p a j : S2x8x256x256.Idx) := funext fun x => Fin.ext (match x with
    | ⟨0, _⟩ => by show win0_7.index t 0 * 1 + 1 * 0 = min n.val 1; rw [h0]; omega
    | ⟨1, _⟩ => by show win0_7.index t 1 * 8 + 1 * p.val = p.val; rw [h1]; omega
    | ⟨2, _⟩ => by show win0_7.index t 2 * 256 + 1 * a.val = a.val; rw [h2]; omega
    | ⟨3, _⟩ => by show win0_7.index t 3 * 256 + 1 * j.val = j.val; rw [h3]; omega)
  show V m c main_v48 (((cfg0.win 7).blk t).view.emb (ix4 0 p a j)) = _
  rw [V_v48, he]
end Blocks

end Cert.KernelIdeal.Attn

end
-- ==== Proof.RefTerms.lean ====
module

public import proofs.«01_k».proof.Proof.Gen.ReferenceIdeal.Run
public import Idealize.ShloMosaic.Lib.Pointwise
public import Idealize.ShloMosaic.Lib.Tactic.IndexArith

/-! The reference's three results in stages: heads' rows by residue and block, the keys with the block before, the
mask, the weights, the score gradient, and the three products. -/

@[expose] public section

set_option maxRecDepth 16384

noncomputable section

namespace Cert.ReferenceIdeal.Attn

open Cert.ReferenceIdeal Cert.ReferenceIdeal.Gen Idealize.ShloMosaic Idealize.ShloMosaic.TcCoe

abbrev A0 := FVec Ideal S4096x3072 .bf16
abbrev A1 := FVec Ideal S4096x1024 .bf16
abbrev A2 := FVec Ideal S4096x128 .f32
abbrev Rows := FVec Ideal S4x16x8x128x64 .f32
abbrev Keys := FVec Ideal S4x16x8x256x64 .f32
abbrev Sq := FVec Ideal S4x16x8x128x256 .f32

/-- The rows of a [4096, 1024] array by residue, head, block and row of the block. -/
def toB (x : FVec Ideal S4096x1024 .f32) : Rows :=
  shapeCast _ (transpose S4x16x1024x64 [1, 2, 0, 3] (shapeCast _ (shapeCast _ x shapeCasts_S4096x1024_S4096x16x64) shapeCasts_S4096x16x64_S1024x4x16x64)
    transposes_S1024x4x16x64_S4x16x1024x64_1_2_0_3) shapeCasts_S4x16x1024x64_S4x16x8x128x64

/-- And of a [4096, 16] array. -/
def toB1 (x : FVec Ideal S4096x16x1 .f32) : FVec Ideal S4x16x8x128x1 .f32 :=
  shapeCast _ (transpose S4x16x1024x1 [1, 2, 0, 3] (shapeCast _ x shapeCasts_S4096x16x1_S1024x4x16x1)
    transposes_S1024x4x16x1_S4x16x1024x1_1_2_0_3) shapeCasts_S4x16x1024x1_S4x16x8x128x1

/-- Each block of keys under the block before it, zero before the first. -/
def withPrev (x : Rows) : Keys :=
  concatenate S4x16x8x256x64 3 [⟨S4x16x8x128x64, concatenate S4x16x8x128x64 2 [⟨S4x16x1x128x64, broadcastInDim S4x16x1x128x64 ![] bcast_S_S4x16x1x128x64 (constant S_ .f32 0x00000000#32)⟩,
    ⟨S4x16x7x128x64, extractStridedSlice S4x16x7x128x64 ![0, 0, 0, 0, 0] x slices_S4x16x8x128x64_S4x16x7x128x64_0_0_0_0_0⟩] concatenates_S4x16x1x128x64_S4x16x7x128x64_S4x16x8x128x64_d2⟩,
    ⟨S4x16x8x128x64, x⟩] concatenates_S4x16x8x128x64_S4x16x8x128x64_S4x16x8x256x64_d3

/-- Back to the rows of a [1024, 4096] array. -/
def fromB (x : Rows) : FVec Ideal S1024x4096 .bf16 :=
  truncf .bf16 (shapeCast _ (shapeCast _ (transpose S1024x4x16x64 [2, 0, 1, 3] (shapeCast _ x shapeCasts_S4x16x8x128x64_S4x16x1024x64)
    transposes_S4x16x1024x64_S1024x4x16x64_2_0_1_3) shapeCasts_S1024x4x16x64_S4096x16x64) shapeCasts_S4096x16x64_S1024x4096) bitsLt_bf16_f32

theorem toB_apply (x : FVec Ideal S4096x1024 .f32) (r : Fin 4) (h : Fin 16) (n : Fin 8) (i : Fin 128) (d : Fin 64) :
    toB x (ix5 r h n i d) = x (ix2 ⟨(n.val * 128 + i.val) * 4 + r.val, by omega⟩ ⟨h.val * 64 + d.val, by omega⟩) := by
  pointwise [toB]
theorem toB1_apply (x : FVec Ideal S4096x16x1 .f32) (r : Fin 4) (h : Fin 16) (n : Fin 8) (i : Fin 128) (d : Fin 1) :
    toB1 x (ix5 r h n i d) = x (ix3 ⟨(n.val * 128 + i.val) * 4 + r.val, by omega⟩ h 0) := by
  pointwise [toB1]
theorem withPrev_apply (x : Rows) (r : Fin 4) (h : Fin 16) (n : Fin 8) (j : Fin 256) (d : Fin 64) :
    withPrev x (ix5 r h n j d) = if hj : j.val < 128 then (if hn : n.val < 1 then 0 else x (ix5 r h ⟨n.val - 1, by omega⟩ ⟨j.val, hj⟩ d))
      else x (ix5 r h n ⟨j.val - 128, by omega⟩ d) := by
  pointwise [withPrev]
theorem fromB_apply (x : Rows) (a : Fin 1024) (b : Fin 4096) :
    fromB x (ix2 a b) = x (ix5 ⟨b.val / 1024, by omega⟩ ⟨b.val / 64 % 16, by omega⟩ ⟨a.val / 128, by omega⟩ ⟨a.val % 128, by omega⟩ ⟨b.val % 64, by omega⟩) := by
  pointwise [fromB]

/-! ## The stages -/

variable (a0 : A0) (a1 : A1) (a2 : A2)

def qB : Rows := toB (extractStridedSlice S4096x1024 ![0, 0] (extf .f32 a0 bitsLt_bf16_f32) slices_S4096x3072_S4096x1024_0_0)
def kB : Rows := toB (extractStridedSlice S4096x1024 ![0, 1024] (extf .f32 a0 bitsLt_bf16_f32) slices_S4096x3072_S4096x1024_0_1024)
def vB : Rows := toB (extractStridedSlice S4096x1024 ![0, 2048] (extf .f32 a0 bitsLt_bf16_f32) slices_S4096x3072_S4096x1024_0_2048)
def dB : Rows := toB (extf .f32 a1 bitsLt_bf16_f32)
def lB : FVec Ideal S4x16x8x128x1 .f32 := toB1 (broadcastInDim S4096x16x1 ![0, 1] bcast_S4096x16_S4096x16x1_0_1 (extractStridedSlice S4096x16 ![0, 0] a2 slices_S4096x128_S4096x16_0_0))
def sB : FVec Ideal S4x16x8x128x1 .f32 := toB1 (Host.negf (broadcastInDim S4096x16x1 ![0, 1] bcast_S4096x16_S4096x16x1_0_1 (extractStridedSlice S4096x16 ![0, 16] a2 slices_S4096x128_S4096x16_0_16)))

/-- How far key `j` of the two blocks lies behind query `i`, as a word. -/
def delta : IVec S128x256 32 :=
  addi (subi (broadcastInDim S128x256 ![0, 1] bcast_S128x1_S128x256_0_1 (broadcastInDim S128x1 ![0] bcast_S128_S128x1_0 (iotaInDim S128 32 0)))
    (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32))

def inWindow : IVec S128x256 1 :=
  andi (cmpi .sge delta (broadcastInDim S128x256 ![] bcast_S_S128x256 (constantI S_ 32 0#32))) (cmpi .sle delta (broadcastInDim S128x256 ![] bcast_S_S128x256 (constantI S_ 32 128#32)))

def isKey : IVec S8x1x256 1 :=
  cmpi .sge (addi (broadcastInDim S8x1x256 ![0, 1, 2] bcast_S8x1x1_S8x1x256_0_1_2 (subi (muli (broadcastInDim S8x1x1 ![0] bcast_S8_S8x1x1_0 (iotaInDim S8 32 0)) (broadcastInDim S8x1x1 ![] bcast_S_S8x1x1 (constantI S_ 32 128#32)))
    (broadcastInDim S8x1x1 ![] bcast_S_S8x1x1 (constantI S_ 32 128#32)))) (broadcastInDim S8x1x256 ![0, 1, 2] bcast_S1x1x256_S8x1x256_0_1_2 (broadcastInDim S1x1x256 ![1, 2] bcast_S1x256_S1x1x256_1_2 (broadcastInDim S1x256 ![1] bcast_S256_S1x256_1 (iotaInDim S256 32 0)))))
    (broadcastInDim S8x1x256 ![] bcast_S_S8x1x256 (constantI S_ 32 0#32))

def mask : IVec S4x16x8x128x256 1 :=
  broadcastInDim S4x16x8x128x256 ![2, 3, 4] bcast_S8x128x256_S4x16x8x128x256_2_3_4 (andi (broadcastInDim S8x128x256 ![0, 1, 2] bcast_S1x128x256_S8x128x256_0_1_2 (broadcastInDim S1x128x256 ![1, 2] bcast_S128x256_S1x128x256_1_2 inWindow))
    (broadcastInDim S8x128x256 ![0, 1, 2] bcast_S8x1x256_S8x128x256_0_1_2 isKey))

def slopes : FVec Ideal S16 .f32 := fun i => FloatOps.ofBits .f32 (lit0 (S16.rowMajor i))

def bias : Sq :=
  broadcastInDim S4x16x8x128x256 ![0, 1, 2, 3, 4] bcast_S1x16x1x128x256_S4x16x8x128x256_0_1_2_3_4 (broadcastInDim S1x16x1x128x256 ![1, 2, 3, 4] bcast_S16x1x128x256_S1x16x1x128x256_1_2_3_4
    (mulf (broadcastInDim S16x1x128x256 ![0, 1, 2, 3] bcast_S16x1x1x1_S16x1x128x256_0_1_2_3 (Host.negf (broadcastInDim S16x1x1x1 ![0] bcast_S16_S16x1x1x1_0 slopes)))
      (broadcastInDim S16x1x128x256 ![0, 1, 2, 3] bcast_S1x1x128x256_S16x1x128x256_0_1_2_3 (broadcastInDim S1x1x128x256 ![2, 3] bcast_S128x256_S1x1x128x256_2_3 (sitofp .f32 (muli delta (broadcastInDim S128x256 ![] bcast_S_S128x256 (constantI S_ 32 4#32))))))))

/-- The weights `exp (score − lse)`, -/
def pB : Sq :=
  Host.exp (subf (select mask (addf (mulf (Host.dotGeneral dot_S4x16x8x128x64_S4x16x8x256x64_S4x16x8x128x256_4_4_3_3_012_012 none (qB a0) (withPrev (kB a0))) (broadcastInDim S4x16x8x128x256 ![] bcast_S_S4x16x8x128x256 (constant S_ .f32 0x3E000000#32))) bias)
    (broadcastInDim S4x16x8x128x256 ![] bcast_S_S4x16x8x128x256 (constant S_ .f32 0xFF800000#32))) (broadcastInDim S4x16x8x128x256 ![0, 1, 2, 3, 4] bcast_S4x16x8x128x1_S4x16x8x128x256_0_1_2_3_4 (lB a2)))

/-- and the scaled score gradient. -/
def gB : Sq :=
  mulf (select mask (mulf (addf (broadcastInDim S4x16x8x128x256 ![0, 1, 2, 3] bcast_S4x16x8x128_S4x16x8x128x256_0_1_2_3 (Host.reduceAdd (sB a2) (constant S_ .f32 0x00000000#32) reducesTo_S4x16x8x128x1_S4x16x8x128_d4 h_S_))
      (Host.dotGeneral dot_S4x16x8x128x64_S4x16x8x256x64_S4x16x8x128x256_4_4_3_3_012_012 none (dB a1) (withPrev (vB a0)))) (pB a0 a2)) (broadcastInDim S4x16x8x128x256 ![] bcast_S_S4x16x8x128x256 (constant S_ .f32 0x00000000#32)))
    (broadcastInDim S4x16x8x128x256 ![] bcast_S_S4x16x8x128x256 (constant S_ .f32 0x3E000000#32))

/-- A block's own half of a gradient over 256 keys, plus the other half of the next block's. -/
def fold (x : Keys) : Rows :=
  addf (extractStridedSlice S4x16x8x128x64 ![0, 0, 0, 128, 0] x slices_S4x16x8x256x64_S4x16x8x128x64_0_0_0_128_0)
    (pad S4x16x8x128x64 ![0, 0, 0, 0, 0] ![0, 0, 1, 0, 0] ![0, 0, 0, 0, 0] (extractStridedSlice S4x16x7x128x64 ![0, 0, 1, 0, 0] (extractStridedSlice S4x16x8x128x64 ![0, 0, 0, 0, 0] x slices_S4x16x8x256x64_S4x16x8x128x64_0_0_0_0_0) slices_S4x16x8x128x64_S4x16x7x128x64_0_0_1_0_0)
      (constant S_ .f32 0x00000000#32) pads_S4x16x7x128x64_S4x16x8x128x64_000_000_010_000_000 h_S_)

def dkW : Keys := Host.dotGeneral dot_S4x16x8x128x256_S4x16x8x128x64_S4x16x8x256x64_3_3_4_4_012_012 none (gB a0 a1 a2) (qB a0)
def dvW : Keys := transpose S4x16x8x256x64 [0, 1, 2, 4, 3] (Host.dotGeneral dot_S4x16x8x128x64_S4x16x8x128x256_S4x16x8x64x256_3_3_4_4_012_012 none (dB a1) (pB a0 a2)) transposes_S4x16x8x64x256_S4x16x8x256x64_0_1_2_4_3

def refQ : FVec Ideal S1024x4096 .bf16 := fromB (Host.dotGeneral dot_S4x16x8x128x256_S4x16x8x256x64_S4x16x8x128x64_4_3_3_4_012_012 none (gB a0 a1 a2) (withPrev (kB a0)))
def refK : FVec Ideal S1024x4096 .bf16 := fromB (fold (dkW a0 a1 a2))
def refV : FVec Ideal S1024x4096 .bf16 := fromB (fold (dvW a0 a1 a2))

variable (m : (ℓ : Loc nD τ sig) → Buf (Elt Ideal) ℓ) (c : Dev nD)

theorem res_Q : Value.res_out0 (F := Ideal) m c = refQ (m ((c.tc : Thread nD τ).loc main_arg0)) (m ((c.tc : Thread nD τ).loc main_arg1)) (m ((c.tc : Thread nD τ).loc main_arg2)) := by
  unfold Value.res_out0 Value.res_main_v136; rfl
theorem res_K : Value.res_out1 (F := Ideal) m c = refK (m ((c.tc : Thread nD τ).loc main_arg0)) (m ((c.tc : Thread nD τ).loc main_arg1)) (m ((c.tc : Thread nD τ).loc main_arg2)) := by
  unfold Value.res_out1 Value.res_main_v138; rfl
theorem res_V : Value.res_out2 (F := Ideal) m c = refV (m ((c.tc : Thread nD τ).loc main_arg0)) (m ((c.tc : Thread nD τ).loc main_arg1)) (m ((c.tc : Thread nD τ).loc main_arg2)) := by
  unfold Value.res_out2 Value.res_main_v140; rfl

/-! ## The stages at an index -/

variable (r : Fin 4) (h : Fin 16) (n : Fin 8) (i : Fin 128) (j : Fin 256) (d : Fin 64)

theorem qB_apply : qB a0 (ix5 r h n i d) = a0 (ix2 ⟨(n.val * 128 + i.val) * 4 + r.val, by omega⟩ ⟨h.val * 64 + d.val, by omega⟩) := by
  rw [qB, toB_apply]; pointwise []
theorem kB_apply : kB a0 (ix5 r h n i d) = a0 (ix2 ⟨(n.val * 128 + i.val) * 4 + r.val, by omega⟩ ⟨1024 + (h.val * 64 + d.val), by omega⟩) := by
  rw [kB, toB_apply]; pointwise []
theorem vB_apply : vB a0 (ix5 r h n i d) = a0 (ix2 ⟨(n.val * 128 + i.val) * 4 + r.val, by omega⟩ ⟨2048 + (h.val * 64 + d.val), by omega⟩) := by
  rw [vB, toB_apply]; pointwise []
theorem dB_apply : dB a1 (ix5 r h n i d) = a1 (ix2 ⟨(n.val * 128 + i.val) * 4 + r.val, by omega⟩ ⟨h.val * 64 + d.val, by omega⟩) := by
  rw [dB, toB_apply]; pointwise []
theorem lB_apply (z : Fin 1) : lB a2 (ix5 r h n i z) = a2 (ix2 ⟨(n.val * 128 + i.val) * 4 + r.val, by omega⟩ ⟨h.val, by omega⟩) := by
  rw [lB, toB1_apply]; pointwise []
theorem sB_apply (z : Fin 1) : sB a2 (ix5 r h n i z) = -a2 (ix2 ⟨(n.val * 128 + i.val) * 4 + r.val, by omega⟩ ⟨16 + h.val, by omega⟩) := by
  rw [sB, toB1_apply]; pointwise []
theorem delta_apply : delta (ix2 i j) = IntOp.addi (IntOp.subi (BitVec.ofNat 32 i.val) (BitVec.ofNat 32 j.val)) 128#32 := by
  pointwise [delta]
theorem mask_apply : mask (ix5 r h n i j) = IntOp.andi (IntOp.andi (IntOp.cmpi .sge (delta (ix2 i j)) 0#32) (IntOp.cmpi .sle (delta (ix2 i j)) 128#32))
    (IntOp.cmpi .sge (IntOp.addi (IntOp.subi (IntOp.muli (BitVec.ofNat 32 n.val) 128#32) 128#32) (BitVec.ofNat 32 j.val)) 0#32) := by
  pointwise [mask, inWindow, isKey]
theorem bias_apply : bias (ix5 r h n i j) = -slopes (ix1 h) * FloatOps.sitofp FTy.f32 (IntOp.muli (delta (ix2 i j)) 4#32) := by
  pointwise [bias]
theorem pB_apply : pB a0 a2 (ix5 r h n i j) = Ideal.exp (Scalar.select (mask (ix5 r h n i j))
    ((∑ x : Fin 64, qB a0 (ix5 r h n i x) * withPrev (kB a0) (ix5 r h n j x)) * Ideal.ofBits FTy.f32 0x3E000000#32 + bias (ix5 r h n i j)) (Ideal.ofBits FTy.f32 0xFF800000#32)
    - lB a2 (ix5 r h n i 0)) := by
  pointwise [pB]
theorem gB_apply : gB a0 a1 a2 (ix5 r h n i j) = Scalar.select (mask (ix5 r h n i j))
    ((-a2 (ix2 ⟨(n.val * 128 + i.val) * 4 + r.val, by omega⟩ ⟨16 + h.val, by omega⟩) + ∑ x : Fin 64, dB a1 (ix5 r h n i x) * withPrev (vB a0) (ix5 r h n j x)) * pB a0 a2 (ix5 r h n i j)) 0
    * Ideal.ofBits FTy.f32 0x3E000000#32 := by
  have e : (∑ x : Fin 1, sB a2 (ix5 r h n i x)) = -a2 (ix2 ⟨(n.val * 128 + i.val) * 4 + r.val, by omega⟩ ⟨16 + h.val, by omega⟩) := by
    rw [Fin.sum_univ_one, sB_apply]
  pointwise [gB]
  rw [e]
theorem fold_apply (x : Keys) : fold x (ix5 r h n i d) = x (ix5 r h n ⟨128 + i.val, by omega⟩ d) + if hn : n.val < 7 then x (ix5 r h ⟨1 + n.val, by omega⟩ ⟨i.val, by omega⟩ d) else 0 := by
  pointwise [fold]
theorem dkW_apply : dkW a0 a1 a2 (ix5 r h n j d) = ∑ x : Fin 128, gB a0 a1 a2 (ix5 r h n x j) * qB a0 (ix5 r h n x d) := by
  pointwise [dkW]
theorem dvW_apply : dvW a0 a1 a2 (ix5 r h n j d) = ∑ x : Fin 128, dB a1 (ix5 r h n x d) * pB a0 a2 (ix5 r h n x j) := by
  pointwise [dvW]

section Back
variable (a : Fin 1024) (b : Fin 4096)

theorem refQ_apply : refQ a0 a1 a2 (ix2 a b) = ∑ x : Fin 256, gB a0 a1 a2 (ix5 ⟨b.val / 1024, by omega⟩ ⟨b.val / 64 % 16, by omega⟩ ⟨a.val / 128, by omega⟩ ⟨a.val % 128, by omega⟩ x)
    * withPrev (kB a0) (ix5 ⟨b.val / 1024, by omega⟩ ⟨b.val / 64 % 16, by omega⟩ ⟨a.val / 128, by omega⟩ x ⟨b.val % 64, by omega⟩) := by
  rw [refQ, fromB_apply]
  pointwise []
theorem refK_apply : refK a0 a1 a2 (ix2 a b) = fold (dkW a0 a1 a2) (ix5 ⟨b.val / 1024, by omega⟩ ⟨b.val / 64 % 16, by omega⟩ ⟨a.val / 128, by omega⟩ ⟨a.val % 128, by omega⟩ ⟨b.val % 64, by omega⟩) := by
  rw [refK, fromB_apply]
theorem refV_apply : refV a0 a1 a2 (ix2 a b) = fold (dvW a0 a1 a2) (ix5 ⟨b.val / 1024, by omega⟩ ⟨b.val / 64 % 16, by omega⟩ ⟨a.val / 128, by omega⟩ ⟨a.val % 128, by omega⟩ ⟨b.val % 64, by omega⟩) := by
  rw [refV, fromB_apply]

end Back

end Cert.ReferenceIdeal.Attn

end
-- ==== Proof.Meet.lean ====
module

public import proofs.«01_k».proof.Proof.Block
public import proofs.«01_k».proof.Proof.Inputs
public import proofs.«01_k».proof.Proof.RefTerms
public import Idealize.ShloMosaic.Lib.IdealHost

/-! A block of the kernel against the reference's stages: the same weights, the same score gradients up to the scale
the kernel applies elsewhere, and so the same three products. -/

@[expose] public section

set_option maxRecDepth 16384

noncomputable section

namespace Cert.KernelIdeal.Attn

open Cert.KernelIdeal Cert.KernelIdeal.Gen Idealize.ShloMosaic Idealize.ShloMosaic.TcCoe

/-! ## The scale -/

theorem scale_bf16 : Ideal.ofBits .bf16 0x3E00#16 = (((1 : ℝ) / 8 : ℝ) : EReal) := by
  simp [Ideal.ofBits, Ideal.ieee, -EReal.coe_mul]; norm_num
theorem scale_f32 : Ideal.ofBits .f32 0x3E000000#32 = (((1 : ℝ) / 8 : ℝ) : EReal) := by
  simp [Ideal.ofBits, Ideal.ieee, -EReal.coe_mul]; norm_num
theorem bits_bot : Ideal.ofBits .f32 0xFF800000#32 = ⊥ := by simp [Ideal.ofBits, Ideal.ieee]

/-- A real scale that is not negative goes through a sum. -/
theorem sum_scale {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-! ## The mask -/

/-- The difference of two small words, as one word of their shifted difference. -/
theorem diff_word (i : Fin 128) (j : Fin 256) : IntOp.subi (BitVec.ofNat 32 i.val) (BitVec.ofNat 32 j.val) = BitVec.ofNat 32 (i.val + 255 - j.val) - 255#32 := by
  show BitVec.ofNat 32 i.val - BitVec.ofNat 32 j.val = _
  bv_omega
theorem window_word : ∀ k : Fin 383, IntOp.andi (IntOp.cmpi .sge (IntOp.addi (BitVec.ofNat 32 k.val - 255#32) 128#32) 0#32) (IntOp.cmpi .sle (IntOp.addi (BitVec.ofNat 32 k.val - 255#32) 128#32) 128#32)
    = BitVec.ofBool (decide (127 ≤ k.val ∧ k.val ≤ 255)) := by
  decide +kernel
theorem cur_cmp : ∀ k : Fin 383, IntOp.cmpi .sge (BitVec.ofNat 32 k.val - 255#32) 0#32 = BitVec.ofBool (decide (255 ≤ k.val)) := by
  decide +kernel
theorem window_bit (i : Fin 128) (j : Fin 256) : IntOp.andi (IntOp.cmpi .sge (IntOp.addi (IntOp.subi (BitVec.ofNat 32 i.val) (BitVec.ofNat 32 j.val)) 128#32) 0#32)
    (IntOp.cmpi .sle (IntOp.addi (IntOp.subi (BitVec.ofNat 32 i.val) (BitVec.ofNat 32 j.val)) 128#32) 128#32) = BitVec.ofBool (decide (i.val ≤ j.val ∧ j.val ≤ i.val + 128)) := by
  rw [diff_word, window_word ⟨i.val + 255 - j.val, by omega⟩]
  congr 1; rw [decide_eq_decide]; dsimp only; omega
theorem cur_bit (i j : Fin 128) : IntOp.cmpi .sge (IntOp.subi (BitVec.ofNat 32 i.val) (BitVec.ofNat 32 j.val)) 0#32 = BitVec.ofBool (decide (j.val ≤ i.val)) := by
  rw [diff_word i ⟨j.val, by omega⟩, cur_cmp ⟨i.val + 255 - j.val, by omega⟩]
  congr 1; rw [decide_eq_decide]; dsimp only; omega
theorem cur_word (i j : Fin 128) : IntOp.addi (IntOp.subi (BitVec.ofNat 32 i.val) (BitVec.ofNat 32 (j.val + 128))) 128#32 = IntOp.subi (BitVec.ofNat 32 i.val) (BitVec.ofNat 32 j.val) := by
  show BitVec.ofNat 32 i.val - BitVec.ofNat 32 (j.val + 128) + 128#32 = BitVec.ofNat 32 i.val - BitVec.ofNat 32 j.val
  bv_omega
theorem prev_bit (i j : Fin 128) : IntOp.cmpi .sge (BitVec.ofNat 32 j.val) (BitVec.ofNat 32 i.val) = BitVec.ofBool (decide (i.val ≤ j.val)) := by
  revert i j
  decide +kernel
theorem key_bit : ∀ (n : Fin 8) (j : Fin 256), IntOp.cmpi .sge (IntOp.addi (IntOp.subi (IntOp.muli (BitVec.ofNat 32 n.val) 128#32) 128#32) (BitVec.ofNat 32 j.val)) 0#32
    = BitVec.ofBool (decide (1 ≤ n.val ∨ 128 ≤ j.val)) := by
  decide +kernel
theorem slopes_eq : slopes = Cert.ReferenceIdeal.Attn.slopes := rfl

open Cert.ReferenceIdeal.Attn (delta mask bias pB gB qB kB vB dB lB withPrev)

variable (r : Fin 4) (h : Fin 16) (n : Fin 8) (i : Fin 128) (j : Fin 256) (d : Fin 64)

theorem mask_bit : mask (ix5 r h n i j) = BitVec.ofBool (decide ((i.val ≤ j.val ∧ j.val ≤ i.val + 128) ∧ (1 ≤ n.val ∨ 128 ≤ j.val))) := by
  rw [Cert.ReferenceIdeal.Attn.mask_apply, Cert.ReferenceIdeal.Attn.delta_apply, window_bit, key_bit, Bool.decide_and (p := i.val ≤ j.val ∧ j.val ≤ i.val + 128)]
  exact BitVec.ofBool_and_ofBool

/-- The kernel's table holds the reference's masked bias. -/
theorem table_eq : table slopes (ix4 ⟨min n.val 1, by omega⟩ ⟨h.val / 2, by omega⟩ ⟨h.val % 2 * 128 + i.val, by omega⟩ j)
    = Scalar.select (mask (ix5 r h n i j)) (bias (ix5 r h n i j)) (Ideal.ofBits .f32 0xFF800000#32) := by
  have eh : (⟨h.val / 2 * 2 + (h.val % 2 * 128 + i.val) / 128, by omega⟩ : Fin 16) = h := Fin.ext (by dsimp only; omega)
  have ei : (⟨(h.val % 2 * 128 + i.val) % 128, by omega⟩ : Fin 128) = i := Fin.ext (by dsimp only; omega)
  rw [table_apply, mask_bit, Cert.ReferenceIdeal.Attn.bias_apply, Cert.ReferenceIdeal.Attn.delta_apply, ← slopes_eq]
  simp only [eh, ei, biasCur_apply, biasPrev_apply, cur_bit, prev_bit]
  by_cases hj : j.val < 128
  · simp only [dif_pos hj]
    by_cases hn : n.val < 1
    · rw [if_pos (by omega), decide_eq_false (p := (i.val ≤ j.val ∧ j.val ≤ i.val + 128) ∧ (1 ≤ n.val ∨ 128 ≤ j.val)) (by omega)]
      rfl
    · rw [if_neg (by omega)]
      have : (decide ((i.val ≤ j.val ∧ j.val ≤ i.val + 128) ∧ (1 ≤ n.val ∨ 128 ≤ j.val))) = decide (i.val ≤ j.val) := by
        rw [decide_eq_decide]; omega
      rw [this, prev_bit i ⟨j.val, hj⟩]
  · simp only [dif_neg hj, ite_self]
    have : (decide ((i.val ≤ j.val ∧ j.val ≤ i.val + 128) ∧ (1 ≤ n.val ∨ 128 ≤ j.val))) = decide (j.val - 128 ≤ i.val) := by
      rw [decide_eq_decide]; omega
    rw [this]
    have hw := cur_word i ⟨j.val - 128, by omega⟩
    simp only [show j.val - 128 + 128 = j.val by omega] at hw
    have hc := cur_bit i ⟨j.val - 128, by omega⟩
    dsimp only at hc
    rw [hw, hc]

/-! ## A block of the kernel, as one of the reference's -/

variable (a0 : FVec Ideal S4096x3072 .bf16) (a1 : FVec Ideal S4096x1024 .bf16) (a2 : FVec Ideal S4096x128 .f32)

/-- The blocks read for residue `r`, block `n`. -/
structure IsBlock (X : Ins Ideal) : Prop where
  q : ∀ (i : Fin 128) (l : Fin 1024), X.q (ix2 i l) = a0 (ix2 ⟨(n.val * 128 + i.val) * 4 + r.val, by omega⟩ ⟨l.val, by omega⟩)
  kc : ∀ (i : Fin 128) (l : Fin 1024), X.kc (ix2 i l) = a0 (ix2 ⟨(n.val * 128 + i.val) * 4 + r.val, by omega⟩ ⟨1024 + l.val, by omega⟩)
  kp : ∀ (i : Fin 128) (l : Fin 1024), X.kp (ix2 i l) = a0 (ix2 ⟨((n.val - 1) * 128 + i.val) * 4 + r.val, by omega⟩ ⟨1024 + l.val, by omega⟩)
  vc : ∀ (i : Fin 128) (l : Fin 1024), X.vc (ix2 i l) = a0 (ix2 ⟨(n.val * 128 + i.val) * 4 + r.val, by omega⟩ ⟨2048 + l.val, by omega⟩)
  vp : ∀ (i : Fin 128) (l : Fin 1024), X.vp (ix2 i l) = a0 (ix2 ⟨((n.val - 1) * 128 + i.val) * 4 + r.val, by omega⟩ ⟨2048 + l.val, by omega⟩)
  d : ∀ (i : Fin 128) (l : Fin 1024), X.d (ix2 i l) = a1 (ix2 ⟨(n.val * 128 + i.val) * 4 + r.val, by omega⟩ ⟨l.val, by omega⟩)
  l : ∀ (i : Fin 128) (l : Fin 128), X.l (ix2 i l) = a2 (ix2 ⟨(n.val * 128 + i.val) * 4 + r.val, by omega⟩ ⟨l.val, by omega⟩)
  b : ∀ (p : Fin 8) (a j : Fin 256), X.b (ix4 0 p a j) = table slopes (ix4 ⟨min n.val 1, by omega⟩ p a j)

theorem ins_isBlock (m : (ℓ : Loc nD τ sig) → Buf (Elt Ideal) ℓ) (c : Dev nD) (t : Fin cfg0.N) (ht : t.val = 9 * r.val + n.val) :
    IsBlock r n (m ((c.tc : Thread nD τ).loc main_arg0)) (m ((c.tc : Thread nD τ).loc main_arg1)) (m ((c.tc : Thread nD τ).loc main_arg2)) (ins m c t) :=
  ⟨fun i l => q_at m c r n t ht i l, fun i l => kc_at m c r n t ht i l, fun i l => kp_at m c r n t ht i l, fun i l => vc_at m c r n t ht i l,
    fun i l => vp_at m c r n t ht i l, fun i l => d_at m c r n t ht i l, fun i l => l_at m c r n t ht i l, fun p a j => b_at m c r n t ht p a j⟩

variable {r n a0 a1 a2} {X : Ins Ideal} (hX : IsBlock r n a0 a1 a2 X)
include hX

theorem q_eq : X.q (ix2 i ⟨h.val * 64 + d.val, by omega⟩) = qB a0 (ix5 r h n i d) := by
  rw [hX.q, Cert.ReferenceIdeal.Attn.qB_apply]
theorem d_eq : X.d (ix2 i ⟨h.val * 64 + d.val, by omega⟩) = dB a1 (ix5 r h n i d) := by
  rw [hX.d, Cert.ReferenceIdeal.Attn.dB_apply]
/-- The keys are the reference's but where no block comes before. -/
theorem K2_eq (hk : 1 ≤ n.val ∨ 128 ≤ j.val) : K2 X j ⟨h.val * 64 + d.val, by omega⟩ = withPrev (kB a0) (ix5 r h n j d) := by
  rw [Cert.ReferenceIdeal.Attn.withPrev_apply, K2]
  by_cases hj : j.val < 128
  · rw [dif_pos hj, dif_pos hj, dif_neg (by omega), hX.kp, Cert.ReferenceIdeal.Attn.kB_apply]
  · rw [dif_neg hj, dif_neg hj, hX.kc, Cert.ReferenceIdeal.Attn.kB_apply]
theorem V2_eq (hk : 1 ≤ n.val ∨ 128 ≤ j.val) : V2 X j ⟨h.val * 64 + d.val, by omega⟩ = withPrev (vB a0) (ix5 r h n j d) := by
  rw [Cert.ReferenceIdeal.Attn.withPrev_apply, V2]
  by_cases hj : j.val < 128
  · rw [dif_pos hj, dif_pos hj, dif_neg (by omega), hX.vp, Cert.ReferenceIdeal.Attn.vB_apply]
  · rw [dif_neg hj, dif_neg hj, hX.vc, Cert.ReferenceIdeal.Attn.vB_apply]

theorem pr_eq : pr X h i j = pB a0 a2 (ix5 r h n i j) := by
  rw [pr, Cert.ReferenceIdeal.Attn.pB_apply, hX.b, table_eq r h n i j, hX.l, Cert.ReferenceIdeal.Attn.lB_apply, mask_bit, scale_f32, bits_bot]
  by_cases hm : (i.val ≤ j.val ∧ j.val ≤ i.val + 128) ∧ (1 ≤ n.val ∨ 128 ≤ j.val)
  · rw [decide_eq_true hm, sum_scale _ _ _ (by norm_num)]
    show Ideal.exp (_ + bias _ - _) = Ideal.exp (_ + bias _ - _)
    congr 3
    refine Finset.sum_congr rfl fun d _ => ?_
    rw [Q2, q_eq h i d hX, K2_eq h j d hX hm.2, scale_bf16, mul_right_comm]
  · rw [decide_eq_false hm]
    show Ideal.exp (_ + ⊥ - _) = Ideal.exp (⊥ - _)
    rw [EReal.add_bot]

/-- No weight where the mask is off. -/
theorem pB_off (hm : ¬((i.val ≤ j.val ∧ j.val ≤ i.val + 128) ∧ (1 ≤ n.val ∨ 128 ≤ j.val))) : pB a0 a2 (ix5 r h n i j) = 0 := by
  rw [Cert.ReferenceIdeal.Attn.pB_apply, mask_bit, decide_eq_false hm, bits_bot]
  show Ideal.exp (⊥ - _) = 0
  rw [sub_eq_add_neg, EReal.bot_add, Ideal.exp_bot]

theorem ds_eq : ds X h i j * (((1 : ℝ) / 8 : ℝ) : EReal) = gB a0 a1 a2 (ix5 r h n i j) := by
  rw [ds, pr_eq h i j hX, Cert.ReferenceIdeal.Attn.gB_apply, scale_f32, mask_bit]
  by_cases hm : (i.val ≤ j.val ∧ j.val ≤ i.val + 128) ∧ (1 ≤ n.val ∨ 128 ≤ j.val)
  · rw [decide_eq_true hm]
    show _ = (_ + _) * _ * _
    rw [hX.l, sub_eq_add_neg, mul_comm (pB a0 a2 _), add_comm]
    congr 3
    · congr 3; exact Fin.ext (by dsimp only; omega)
    · refine Finset.sum_congr rfl fun d _ => ?_
      rw [d_eq h i d hX, V2_eq h j d hX hm.2]
  · rw [decide_eq_false hm, pB_off h i j hX hm, zero_mul, zero_mul]
    show (0 : EReal) = 0 * _
    rw [zero_mul]

theorem gQ_eq : (∑ j : Fin 256, ds X h i j * K2 X j ⟨h.val * 64 + d.val, by omega⟩) * Ideal.ofBits .f32 0x3E000000#32
    = ∑ j : Fin 256, gB a0 a1 a2 (ix5 r h n i j) * withPrev (kB a0) (ix5 r h n j d) := by
  rw [scale_f32, sum_scale _ _ _ (by norm_num)]
  refine Finset.sum_congr rfl fun j _ => ?_
  rw [← ds_eq h i j hX]
  by_cases hk : 1 ≤ n.val ∨ 128 ≤ j.val
  · rw [K2_eq h j d hX hk, mul_right_comm]
  · rw [ds, pr_eq h i j hX, pB_off h i j hX (fun hm => hk hm.2)]
    simp only [zero_mul]
theorem gK_eq : ∑ x : Fin 128, ds X h x j * Q2 X x ⟨h.val * 64 + d.val, by omega⟩ = Cert.ReferenceIdeal.Attn.dkW a0 a1 a2 (ix5 r h n j d) := by
  rw [Cert.ReferenceIdeal.Attn.dkW_apply]
  refine Finset.sum_congr rfl fun x _ => ?_
  rw [← ds_eq h x j hX, Q2, q_eq h x d hX, scale_bf16, mul_right_comm, mul_assoc]
theorem gV_eq : ∑ x : Fin 128, pr X h x j * X.d (ix2 x ⟨h.val * 64 + d.val, by omega⟩) = Cert.ReferenceIdeal.Attn.dvW a0 a1 a2 (ix5 r h n j d) := by
  rw [Cert.ReferenceIdeal.Attn.dvW_apply]
  refine Finset.sum_congr rfl fun x _ => ?_
  rw [pr_eq h x j hX, d_eq h x d hX, mul_comm]

end Cert.KernelIdeal.Attn

end
-- ==== Proof.Final.lean ====
module

public import proofs.«01_k».proof.Proof.Meet
public import Idealize.ShloMosaic.Lib.Pipeline.Value

/-! The three result arrays after the launch, and their elements as the reference's. -/

@[expose] public section

set_option maxRecDepth 16384

noncomputable section

namespace Cert.KernelIdeal.Attn

open Cert.KernelIdeal Cert.KernelIdeal.Gen Idealize.ShloMosaic Idealize.ShloMosaic.TcCoe

theorem flush9_iff : ∀ t : Fin cfg0.N, (cfg0.win 9).flush t = decide (t.val % 9 ≠ 0) := by decide +kernel
theorem flush10_iff : ∀ t : Fin cfg0.N, (cfg0.win 10).flush t = decide (t.val % 9 ≠ 0) := by decide +kernel
theorem out_index : ∀ t : Fin cfg0.N, (win0_8.index t 0 = min (t.val % 9) 7 ∧ win0_8.index t 1 = t.val / 9)
    ∧ (win0_9.index t 0 = t.val % 9 - 1 ∧ win0_9.index t 1 = t.val / 9) ∧ (win0_10.index t 0 = t.val % 9 - 1 ∧ win0_10.index t 1 = t.val / 9) := by
  decide +kernel

variable (m : (ℓ : Loc nD τ sig) → Buf (Elt Ideal) ℓ) (c : Dev nD)

/-- The point that writes the query gradient's block holding row `x`, residue `r`, -/
def ptQ (r x : ℕ) : Fin cfg0.N := pt (9 * r + if x / 128 = 7 then 8 else x / 128)
/-- and the other two's. -/
def ptK (r x : ℕ) : Fin cfg0.N := pt (9 * r + x / 128 + 1)

/-- An array of the blocks `g` at the points `p`. -/
def blocks (g : Fin cfg0.N → Vec Ideal S128x1024 .bf16) (p : ℕ → ℕ → Fin cfg0.N) : FVec Ideal S1024x4096 .bf16 := fun x =>
  g (p ((x 1).val / 1024) (x 0).val) (ix2 ⟨(x 0).val % 128, Nat.mod_lt _ (by decide)⟩ ⟨(x 1).val % 1024, Nat.mod_lt _ (by decide)⟩)

theorem blocks_at (g : Fin cfg0.N → Vec Ideal S128x1024 .bf16) (p : ℕ → ℕ → Fin cfg0.N) (t : Fin cfg0.N) (x : S1024x4096.Idx) (y : S128x1024.Idx)
    (h0 : (x 0).val % 128 = (y 0).val) (h1 : (x 1).val % 1024 = (y 1).val) (hp : p ((x 1).val / 1024) (x 0).val = t) : blocks g p x = g t y := by
  unfold blocks
  rw [hp]
  congr 1
  funext a
  match a with
  | ⟨0, _⟩ => exact Fin.ext h0
  | ⟨1, _⟩ => exact Fin.ext h1

theorem N_val : cfg0.N = 36 := N_0

theorem flushed_Q (t : Fin cfg0.N) (hf : (cfg0.win 8).flush t = true) : (dats m 0 c).flushed 8 t = ((cfg0.win 8).blk t).view.read (Elt Ideal) (blocks (aQ m c) ptQ) := by
  have h8 : t.val % 9 ≠ 7 := by rw [flush8_iff] at hf; exact of_decide_eq_true hf
  have hN : t.val < 36 := lt_of_lt_of_eq t.isLt N_val
  obtain ⟨⟨e0, e1⟩, -⟩ := out_index t
  show (aQ m c t : Vec Ideal S128x1024 .bf16) = _
  funext y
  have y0 : (y 0).val < 128 := (y 0).isLt
  have y1 : (y 1).val < 1024 := (y 1).isLt
  refine (blocks_at (aQ m c) ptQ t (((cfg0.win 8).blk t).view.emb y) y ?_ ?_ ?_).symm
  · show (win0_8.index t 0 * 128 + 1 * (y 0).val) % 128 = _; omega
  · show (win0_8.index t 1 * 1024 + 1 * (y 1).val) % 1024 = _; omega
  · show ptQ ((win0_8.index t 1 * 1024 + 1 * (y 1).val) / 1024) (win0_8.index t 0 * 128 + 1 * (y 0).val) = t
    rw [e0, e1]
    have d0 : (min (t.val % 9) 7 * 128 + 1 * (y 0).val) / 128 = min (t.val % 9) 7 := by omega
    have d1 : (t.val / 9 * 1024 + 1 * (y 1).val) / 1024 = t.val / 9 := by omega
    unfold ptQ
    rw [d0, d1]
    conv_rhs => rw [← pt_val t]
    congr 1
    split <;> omega

theorem cover_Q (i : S1024x4096.Idx) : ∃ t : Fin cfg0.N, (cfg0.win 8).flush t = true ∧ i ∈ ((cfg0.win 8).blk t).view.set := by
  have i0 : (i 0).val < 1024 := (i 0).isLt
  have i1 : (i 1).val < 4096 := (i 1).isLt
  have hv : (ptQ ((i 1).val / 1024) (i 0).val).val = 9 * ((i 1).val / 1024) + if (i 0).val / 128 = 7 then 8 else (i 0).val / 128 :=
    Nat.mod_eq_of_lt (by split <;> omega)
  obtain ⟨⟨e0, e1⟩, -⟩ := out_index (ptQ ((i 1).val / 1024) (i 0).val)
  rw [hv] at e0 e1
  refine ⟨ptQ ((i 1).val / 1024) (i 0).val, by rw [flush8_iff, hv]; exact decide_eq_true (by split <;> omega), ?_⟩
  show (show ((View.whole main_v50_0).slice (win0_8.rect (ptQ ((i 1).val / 1024) (i 0).val))).ty.Idx from i) ∈ ((View.whole main_v50_0).slice (win0_8.rect (ptQ ((i 1).val / 1024) (i 0).val))).set
  rw [View.set_slice_whole, Rect.mem_set_unit]
  intro a
  match a with
  | ⟨0, _⟩ => show win0_8.index _ 0 * 128 ≤ (i 0).val ∧ (i 0).val < win0_8.index _ 0 * 128 + 128
              rw [e0]; split <;> omega
  | ⟨1, _⟩ => show win0_8.index _ 1 * 1024 ≤ (i 1).val ∧ (i 1).val < win0_8.index _ 1 * 1024 + 1024
              rw [e1]; split <;> omega
theorem final_Q : (dats m 0 c).arrAt 8 cfg0.N = blocks (aQ m c) ptQ :=
  (dats m 0 c).arrAt_eq_of_cover 8 (blocks (aQ m c) ptQ) (flushed_Q m c) fun i => cover_Q i

theorem flushed_K (t : Fin cfg0.N) (hf : (cfg0.win 9).flush t = true) : (dats m 0 c).flushed 9 t = ((cfg0.win 9).blk t).view.read (Elt Ideal) (blocks (aK m c) ptK) := by
  have h8 : t.val % 9 ≠ 0 := by rw [flush9_iff] at hf; exact of_decide_eq_true hf
  have hN : t.val < 36 := lt_of_lt_of_eq t.isLt N_val
  obtain ⟨-, ⟨e0, e1⟩, -⟩ := out_index t
  show (aK m c t : Vec Ideal S128x1024 .bf16) = _
  funext y
  have y0 : (y 0).val < 128 := (y 0).isLt
  have y1 : (y 1).val < 1024 := (y 1).isLt
  refine (blocks_at (aK m c) ptK t (((cfg0.win 9).blk t).view.emb y) y ?_ ?_ ?_).symm
  · show (win0_9.index t 0 * 128 + 1 * (y 0).val) % 128 = _; omega
  · show (win0_9.index t 1 * 1024 + 1 * (y 1).val) % 1024 = _; omega
  · show ptK ((win0_9.index t 1 * 1024 + 1 * (y 1).val) / 1024) (win0_9.index t 0 * 128 + 1 * (y 0).val) = t
    rw [e0, e1]
    unfold ptK
    conv_rhs => rw [← pt_val t]
    congr 1
    omega
theorem flushed_V (t : Fin cfg0.N) (hf : (cfg0.win 10).flush t = true) : (dats m 0 c).flushed 10 t = ((cfg0.win 10).blk t).view.read (Elt Ideal) (blocks (aV m c) ptK) := by
  have h8 : t.val % 9 ≠ 0 := by rw [flush10_iff] at hf; exact of_decide_eq_true hf
  have hN : t.val < 36 := lt_of_lt_of_eq t.isLt N_val
  obtain ⟨-, -, e0, e1⟩ := out_index t
  show (aV m c t : Vec Ideal S128x1024 .bf16) = _
  funext y
  have y0 : (y 0).val < 128 := (y 0).isLt
  have y1 : (y 1).val < 1024 := (y 1).isLt
  refine (blocks_at (aV m c) ptK t (((cfg0.win 10).blk t).view.emb y) y ?_ ?_ ?_).symm
  · show (win0_10.index t 0 * 128 + 1 * (y 0).val) % 128 = _; omega
  · show (win0_10.index t 1 * 1024 + 1 * (y 1).val) % 1024 = _; omega
  · show ptK ((win0_10.index t 1 * 1024 + 1 * (y 1).val) / 1024) (win0_10.index t 0 * 128 + 1 * (y 0).val) = t
    rw [e0, e1]
    unfold ptK
    conv_rhs => rw [← pt_val t]
    congr 1
    omega

theorem ptK_val (i : S1024x4096.Idx) : (ptK ((i 1).val / 1024) (i 0).val).val = 9 * ((i 1).val / 1024) + (i 0).val / 128 + 1 := by
  have i0 : (i 0).val < 1024 := (i 0).isLt
  have i1 : (i 1).val < 4096 := (i 1).isLt
  exact Nat.mod_eq_of_lt (by omega)

theorem cover_K (i : S1024x4096.Idx) : ∃ t : Fin cfg0.N, (cfg0.win 9).flush t = true ∧ i ∈ ((cfg0.win 9).blk t).view.set := by
  have i0 : (i 0).val < 1024 := (i 0).isLt
  have i1 : (i 1).val < 4096 := (i 1).isLt
  obtain ⟨-, ⟨e0, e1⟩, -⟩ := out_index (ptK ((i 1).val / 1024) (i 0).val)
  have hv := ptK_val i
  rw [hv] at e0 e1
  refine ⟨ptK ((i 1).val / 1024) (i 0).val, by rw [flush9_iff, hv]; exact decide_eq_true (by omega), ?_⟩
  show (show ((View.whole main_v50_1).slice (win0_9.rect (ptK ((i 1).val / 1024) (i 0).val))).ty.Idx from i) ∈ ((View.whole main_v50_1).slice (win0_9.rect (ptK ((i 1).val / 1024) (i 0).val))).set
  rw [View.set_slice_whole, Rect.mem_set_unit]
  intro a
  match a with
  | ⟨0, _⟩ => show win0_9.index _ 0 * 128 ≤ (i 0).val ∧ (i 0).val < win0_9.index _ 0 * 128 + 128
              rw [e0]; omega
  | ⟨1, _⟩ => show win0_9.index _ 1 * 1024 ≤ (i 1).val ∧ (i 1).val < win0_9.index _ 1 * 1024 + 1024
              rw [e1]; omega
theorem final_K : (dats m 0 c).arrAt 9 cfg0.N = blocks (aK m c) ptK :=
  (dats m 0 c).arrAt_eq_of_cover 9 (blocks (aK m c) ptK) (flushed_K m c) fun i => cover_K i

theorem cover_V (i : S1024x4096.Idx) : ∃ t : Fin cfg0.N, (cfg0.win 10).flush t = true ∧ i ∈ ((cfg0.win 10).blk t).view.set := by
  have i0 : (i 0).val < 1024 := (i 0).isLt
  have i1 : (i 1).val < 4096 := (i 1).isLt
  obtain ⟨-, -, e0, e1⟩ := out_index (ptK ((i 1).val / 1024) (i 0).val)
  have hv := ptK_val i
  rw [hv] at e0 e1
  refine ⟨ptK ((i 1).val / 1024) (i 0).val, by rw [flush10_iff, hv]; exact decide_eq_true (by omega), ?_⟩
  show (show ((View.whole main_v50_2).slice (win0_10.rect (ptK ((i 1).val / 1024) (i 0).val))).ty.Idx from i) ∈ ((View.whole main_v50_2).slice (win0_10.rect (ptK ((i 1).val / 1024) (i 0).val))).set
  rw [View.set_slice_whole, Rect.mem_set_unit]
  intro a
  match a with
  | ⟨0, _⟩ => show win0_10.index _ 0 * 128 ≤ (i 0).val ∧ (i 0).val < win0_10.index _ 0 * 128 + 128
              rw [e0]; omega
  | ⟨1, _⟩ => show win0_10.index _ 1 * 1024 ≤ (i 1).val ∧ (i 1).val < win0_10.index _ 1 * 1024 + 1024
              rw [e1]; omega
theorem final_V : (dats m 0 c).arrAt 10 cfg0.N = blocks (aV m c) ptK :=
  (dats m 0 c).arrAt_eq_of_cover 10 (blocks (aV m c) ptK) (flushed_V m c) fun i => cover_V i

/-! ## The elements -/

variable (a0 : FVec Ideal S4096x3072 .bf16) (a1 : FVec Ideal S4096x1024 .bf16) (a2 : FVec Ideal S4096x128 .f32)
  (e0 : m ((c.tc : Thread nD τ).loc main_arg0) = a0) (e1 : m ((c.tc : Thread nD τ).loc main_arg1) = a1) (e2 : m ((c.tc : Thread nD τ).loc main_arg2) = a2)
include e0 e1 e2

theorem isBlock_pt (r : Fin 4) (n : Fin 8) (k : ℕ) (hk : k = 9 * r.val + n.val) : IsBlock r n a0 a1 a2 (ins m c (pt k)) := by
  subst e0 e1 e2
  exact ins_isBlock r n m c (pt k) (by show k % 36 = _; omega)

omit e0 e1 e2 in
theorem lane_split (b : Fin 4096) : (⟨b.val % 1024, by omega⟩ : Fin 1024) = ⟨b.val / 64 % 16 * 64 + b.val % 64, by omega⟩ := Fin.ext (by dsimp only; omega)

omit e0 e1 e2 in
theorem DQ_at (X : Ins Ideal) (i : Fin 128) (h : Fin 16) (d : Fin 64) : DQ X (ix2 i ⟨h.val * 64 + d.val, by omega⟩)
    = (∑ j : Fin 256, ds X h i j * K2 X j ⟨h.val * 64 + d.val, by omega⟩) * Ideal.ofBits .f32 0x3E000000#32 := by
  rw [DQ_apply]; simp only [show (h.val * 64 + d.val) / 64 = h.val by omega]
omit e0 e1 e2 in
theorem DK_at (X : Ins Ideal) (y : Vec Ideal S128x1024 .f32) (i : Fin 128) (h : Fin 16) (d : Fin 64) : DK X y (ix2 i ⟨h.val * 64 + d.val, by omega⟩)
    = y (ix2 i ⟨h.val * 64 + d.val, by omega⟩) + ∑ x : Fin 128, ds X h x ⟨i.val, by omega⟩ * Q2 X x ⟨h.val * 64 + d.val, by omega⟩ := by
  rw [DK_apply]; simp only [show (h.val * 64 + d.val) / 64 = h.val by omega]
omit e0 e1 e2 in
theorem DV_at (X : Ins Ideal) (y : Vec Ideal S128x1024 .f32) (i : Fin 128) (h : Fin 16) (d : Fin 64) : DV X y (ix2 i ⟨h.val * 64 + d.val, by omega⟩)
    = y (ix2 i ⟨h.val * 64 + d.val, by omega⟩) + ∑ x : Fin 128, pr X h x ⟨i.val, by omega⟩ * X.d (ix2 x ⟨h.val * 64 + d.val, by omega⟩) := by
  rw [DV_apply]; simp only [show (h.val * 64 + d.val) / 64 = h.val by omega]
omit e0 e1 e2 in
theorem CK_at (X : Ins Ideal) (i : Fin 128) (h : Fin 16) (d : Fin 64) : CK X (ix2 i ⟨h.val * 64 + d.val, by omega⟩)
    = ∑ x : Fin 128, ds X h x ⟨128 + i.val, by omega⟩ * Q2 X x ⟨h.val * 64 + d.val, by omega⟩ := by
  rw [CK_apply]; simp only [show (h.val * 64 + d.val) / 64 = h.val by omega]
omit e0 e1 e2 in
theorem CV_at (X : Ins Ideal) (i : Fin 128) (h : Fin 16) (d : Fin 64) : CV X (ix2 i ⟨h.val * 64 + d.val, by omega⟩)
    = ∑ x : Fin 128, pr X h x ⟨128 + i.val, by omega⟩ * X.d (ix2 x ⟨h.val * 64 + d.val, by omega⟩) := by
  rw [CV_apply]; simp only [show (h.val * 64 + d.val) / 64 = h.val by omega]

section Pick
variable (a : Fin 1024) (b : Fin 4096)
omit e0 e1 e2

theorem aQ_pick : aQ m c (ptQ (b.val / 1024) a.val) = DQ (ins m c (pt (9 * (b.val / 1024) + a.val / 128))) := by
  have hb := b.isLt
  have ha := a.isLt
  by_cases h : a.val / 128 = 7
  · rw [ptQ, if_pos h, aQ, if_pos (by show (9 * (b.val / 1024) + 8) % 36 % 9 = 8; omega), h]
    congr 3
    show (9 * (b.val / 1024) + 8) % 36 - 1 = _; omega
  · rw [ptQ, if_neg h, aQ, if_neg (by show ¬(9 * (b.val / 1024) + a.val / 128) % 36 % 9 = 8; omega)]
theorem aK_pick_last (h : a.val / 128 = 7) : aK m c (ptK (b.val / 1024) a.val) = k0_pay3 (CK (ins m c (pt (9 * (b.val / 1024) + a.val / 128)))) := by
  have hb := b.isLt
  have ha := a.isLt
  rw [ptK, aK, if_neg (by show ¬(9 * (b.val / 1024) + a.val / 128 + 1) % 36 % 9 = 0; omega), if_pos (by show (9 * (b.val / 1024) + a.val / 128 + 1) % 36 % 9 = 8; omega)]
  congr 4
  show (9 * (b.val / 1024) + a.val / 128 + 1) % 36 - 1 = _; omega
theorem aK_pick (h : a.val / 128 < 7) : aK m c (ptK (b.val / 1024) a.val)
    = DK (ins m c (pt (9 * (b.val / 1024) + a.val / 128 + 1))) (CK (ins m c (pt (9 * (b.val / 1024) + a.val / 128)))) := by
  have hb := b.isLt
  have ha := a.isLt
  rw [ptK, aK, if_neg (by show ¬(9 * (b.val / 1024) + a.val / 128 + 1) % 36 % 9 = 0; omega), if_neg (by show ¬(9 * (b.val / 1024) + a.val / 128 + 1) % 36 % 9 = 8; omega)]
  congr 4
  show (9 * (b.val / 1024) + a.val / 128 + 1) % 36 - 1 = _; omega
theorem aV_pick_last (h : a.val / 128 = 7) : aV m c (ptK (b.val / 1024) a.val) = k0_pay4 (CV (ins m c (pt (9 * (b.val / 1024) + a.val / 128)))) := by
  have hb := b.isLt
  have ha := a.isLt
  rw [ptK, aV, if_neg (by show ¬(9 * (b.val / 1024) + a.val / 128 + 1) % 36 % 9 = 0; omega), if_pos (by show (9 * (b.val / 1024) + a.val / 128 + 1) % 36 % 9 = 8; omega)]
  congr 4
  show (9 * (b.val / 1024) + a.val / 128 + 1) % 36 - 1 = _; omega
theorem aV_pick (h : a.val / 128 < 7) : aV m c (ptK (b.val / 1024) a.val)
    = DV (ins m c (pt (9 * (b.val / 1024) + a.val / 128 + 1))) (CV (ins m c (pt (9 * (b.val / 1024) + a.val / 128)))) := by
  have hb := b.isLt
  have ha := a.isLt
  rw [ptK, aV, if_neg (by show ¬(9 * (b.val / 1024) + a.val / 128 + 1) % 36 % 9 = 0; omega), if_neg (by show ¬(9 * (b.val / 1024) + a.val / 128 + 1) % 36 % 9 = 8; omega)]
  congr 4
  show (9 * (b.val / 1024) + a.val / 128 + 1) % 36 - 1 = _; omega
end Pick

theorem blocks_Q : blocks (aQ m c) ptQ = Cert.ReferenceIdeal.Attn.refQ a0 a1 a2 := by
  funext x
  idx_vars x
  show aQ m c (ptQ (x1.val / 1024) x0.val) (ix2 ⟨x0.val % 128, _⟩ ⟨x1.val % 1024, _⟩) = _
  have hX := isBlock_pt m c a0 a1 a2 e0 e1 e2 ⟨x1.val / 1024, by omega⟩ ⟨x0.val / 128, by omega⟩ _ rfl
  rw [aQ_pick, lane_split, Cert.ReferenceIdeal.Attn.refQ_apply]
  rw [DQ_at _ _ ⟨x1.val / 64 % 16, by omega⟩ ⟨x1.val % 64, by omega⟩]
  exact gQ_eq _ _ _ hX
theorem blocks_K : blocks (aK m c) ptK = Cert.ReferenceIdeal.Attn.refK a0 a1 a2 := by
  funext x
  idx_vars x
  show aK m c (ptK (x1.val / 1024) x0.val) (ix2 ⟨x0.val % 128, _⟩ ⟨x1.val % 1024, _⟩) = _
  have hX := isBlock_pt m c a0 a1 a2 e0 e1 e2 ⟨x1.val / 1024, by omega⟩ ⟨x0.val / 128, by omega⟩ _ rfl
  rw [lane_split, Cert.ReferenceIdeal.Attn.refK_apply, Cert.ReferenceIdeal.Attn.fold_apply]
  by_cases h : x0.val / 128 < 7
  · have hY := isBlock_pt m c a0 a1 a2 e0 e1 e2 ⟨x1.val / 1024, by omega⟩ ⟨1 + x0.val / 128, by omega⟩ (9 * (x1.val / 1024) + x0.val / 128 + 1) (by dsimp only; omega)
    rw [aK_pick _ _ _ _ h, DK_at _ _ _ ⟨x1.val / 64 % 16, by omega⟩ ⟨x1.val % 64, by omega⟩, CK_at _ _ ⟨x1.val / 64 % 16, by omega⟩ ⟨x1.val % 64, by omega⟩, dif_pos h]
    exact congrArg₂ _ (gK_eq _ _ _ hX) (gK_eq _ _ _ hY)
  · rw [aK_pick_last _ _ _ _ (by omega), dif_neg h, add_zero]
    exact (CK_at _ _ ⟨x1.val / 64 % 16, by omega⟩ ⟨x1.val % 64, by omega⟩).trans (gK_eq _ _ _ hX)
theorem blocks_V : blocks (aV m c) ptK = Cert.ReferenceIdeal.Attn.refV a0 a1 a2 := by
  funext x
  idx_vars x
  show aV m c (ptK (x1.val / 1024) x0.val) (ix2 ⟨x0.val % 128, _⟩ ⟨x1.val % 1024, _⟩) = _
  have hX := isBlock_pt m c a0 a1 a2 e0 e1 e2 ⟨x1.val / 1024, by omega⟩ ⟨x0.val / 128, by omega⟩ _ rfl
  rw [lane_split, Cert.ReferenceIdeal.Attn.refV_apply, Cert.ReferenceIdeal.Attn.fold_apply]
  by_cases h : x0.val / 128 < 7
  · have hY := isBlock_pt m c a0 a1 a2 e0 e1 e2 ⟨x1.val / 1024, by omega⟩ ⟨1 + x0.val / 128, by omega⟩ (9 * (x1.val / 1024) + x0.val / 128 + 1) (by dsimp only; omega)
    rw [aV_pick _ _ _ _ h, DV_at _ _ _ ⟨x1.val / 64 % 16, by omega⟩ ⟨x1.val % 64, by omega⟩, CV_at _ _ ⟨x1.val / 64 % 16, by omega⟩ ⟨x1.val % 64, by omega⟩, dif_pos h]
    exact congrArg₂ _ (gV_eq _ _ _ hX) (gV_eq _ _ _ hY)
  · rw [aV_pick_last _ _ _ _ (by omega), dif_neg h, add_zero]
    exact (CV_at _ _ ⟨x1.val / 64 % 16, by omega⟩ ⟨x1.val % 64, by omega⟩).trans (gV_eq _ _ _ hX)

end Cert.KernelIdeal.Attn

end
-- ==== Proof.Same.lean ====
module

public import proofs.«01_k».proof.Defs
public import proofs.«01_k».proof.Proof.Gen.Kernel
public import proofs.«01_k».proof.Proof.Gen.KernelIdeal

/-! The kernel and the idealized program are the same text, read at the words. -/

@[expose] public section

set_option maxRecDepth 16384
set_option maxHeartbeats 1000000

noncomputable section

namespace Cert.Proof

open Idealize.ShloMosaic

/-- The kernel's bodies are the idealized program's, word for word. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem table_eq : Cert.Kernel.defs (F := Bits) = Cert.KernelIdeal.defs (F := Bits) :=
  congrArg (Pipeline.defs Cert.KernelIdeal.pcfgs) bodies_eq

theorem main_eq : Cert.Kernel.main (F := Bits) = Cert.KernelIdeal.main (F := Bits) := by rfl

end Cert.Proof

end
-- ==== Proof.Blocks.lean ====
module

public import Idealize.ShloMosaic.Lib.Pointwise

/-! A sum taken block by block. -/

@[expose] public section

noncomputable section

namespace Cert.Prod

theorem zeros : (![0, 0] : Fin 2 → Nat) = fun _ => 0 := funext fun a => by fin_cases a <;> rfl
theorem zeros3 : (![0, 0, 0] : Fin 3 → Nat) = fun _ => 0 := funext fun a => by fin_cases a <;> rfl

/-- The root of a square of a number that is not negative. -/
theorem sqrt_square {x : EReal} (h : 0 ≤ x) : Idealize.ShloMosaic.Ideal.sqrt (x * x) = x := by
  induction x using EReal.rec with
  | bot => exact absurd h (by simp)
  | top => rw [EReal.top_mul_top]; rfl
  | coe r =>
    have hr : 0 ≤ r := by exact_mod_cast h
    rw [← EReal.coe_mul, Idealize.ShloMosaic.Ideal.sqrt_coe, if_neg (not_lt.mpr (mul_nonneg hr hr)), Real.sqrt_mul_self hr]

/-- Two blocks, -/
theorem sum_two (b : ℕ) (f : Fin (2 * b) → EReal) : ∑ k, f k = (∑ k : Fin b, f ⟨k.val, by omega⟩) + ∑ k : Fin b, f ⟨b + k.val, by omega⟩ := by
  have e : 2 * b = b + b := by omega
  rw [← Equiv.sum_comp (finCongr e.symm) f, Fin.sum_univ_add]
  rfl
/-- three, -/
theorem sum_three (b : ℕ) (f : Fin (3 * b) → EReal) : ∑ k, f k = (∑ k : Fin b, f ⟨k.val, by omega⟩) + (∑ k : Fin b, f ⟨b + k.val, by omega⟩) + ∑ k : Fin b, f ⟨2 * b + k.val, by omega⟩ := by
  have e : 3 * b = 2 * b + b := by omega
  rw [← Equiv.sum_comp (finCongr e.symm) f, Fin.sum_univ_add, sum_two]
  rfl
/-- four. -/
theorem sum_four (b : ℕ) (f : Fin (4 * b) → EReal) : ∑ k, f k = (∑ k : Fin b, f ⟨k.val, by omega⟩) + (∑ k : Fin b, f ⟨b + k.val, by omega⟩) + (∑ k : Fin b, f ⟨2 * b + k.val, by omega⟩) + ∑ k : Fin b, f ⟨3 * b + k.val, by omega⟩ := by
  have e : 4 * b = 3 * b + b := by omega
  rw [← Equiv.sum_comp (finCongr e.symm) f, Fin.sum_univ_add, sum_three]
  rfl

end Cert.Prod

end
-- ==== Proof.MlpOutDx.lean ====
module

public import proofs.«01_k».proof.Proof.Blocks
public import proofs.«01_k».proof.Proof.Gen.MlpOutDxIdeal.Value
public import proofs.«01_k».proof.Proof.Gen.MlpOutDxRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The backward product of the MLP's second product with its weights, times the activation's derivative. -/

@[expose] public section

set_option maxRecDepth 16384

noncomputable section

namespace Cert.MlpOutDxIdeal.Prod

open Cert.MlpOutDxIdeal Cert.MlpOutDxIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
  (x0 : Vec F S1024x2048 .bf16) (x1 : Vec F S1024x2048 .bf16) (x2 : Vec F S1024x1024 .bf16) (xs : Vec F S1024x1024 .f32)

theorem last_out (h0 : cond0_0 i) (h1 : cond0_1 i) : out0_A_3 c i arg3 harg3 arg4 harg4 arg5 harg5 arg6 harg6 arg7 harg7 h0 h1 x0 x1 x2 = k0_pay3 (k0_pay2 k0_pay1 x0 x1) x2 := by
  unfold out0_A_3
  refine Eq.trans (View.read_writes_eq_canon _ _ _ fun _ => cover0_A_3 ..) ?_
  unfold kernelRun0_A
  dsimp only
  sl_unfold_words
  rw [View.canon_unit_zero zeros]
  rw [View.readCov_cons_unit_lit' (S := S1024x1024) _ _ _ _ _ (fun a => congrFun zeros a) (fun a => congrFun zeros a)]
  rw [View.readCov_unit_zero (S := S1024x1024) _ zeros]
  simp only [View.readAt_eq_ld, Memref.IsWhole.read_unread, View.ld_unit_zero (S := S1024x2048) zeros, View.ld_unit_zero (S := S1024x1024) zeros]

end Cases

section Payloads
variable (x0 : Vec Ideal S1024x2048 .bf16) (x1 : Vec Ideal S1024x2048 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix2 j k) := by
  pointwise [k0_pay2]
theorem done_at (x2 : Vec Ideal S1024x1024 .bf16) : k0_pay3 xs x2 (ix2 i j) = xs (ix2 i j) * Ideal.ofBits FTy.f32 0x40000000#32 * Ideal.sqrt (x2 (ix2 i j)) := by
  pointwise [k0_pay3]
end Payloads

theorem coords : ∀ t : Fin cfg0.N, (win0_0.index t 0 = t.val / 8 ∧ win0_0.index t 1 = 0)
    ∧ (win0_1.index t 0 = t.val % 8 ∧ win0_1.index t 1 = 0)
    ∧ (win0_2.index t 0 = t.val / 8 ∧ win0_2.index t 1 = t.val % 8)
    ∧ (win0_3.index t 0 = t.val / 8 ∧ win0_3.index t 1 = t.val % 8) := by
  decide +kernel

/-- The host's activation. -/
def act (u : FVec Ideal S4096x8192 .f32) : FVec Ideal S4096x8192 .bf16 :=
  truncf .bf16 (mulf (maximumf u (broadcastInDim S4096x8192 ![] bcast_S_S4096x8192 (constant S_ .f32 0x00000000#32))) (maximumf u (broadcastInDim S4096x8192 ![] bcast_S_S4096x8192 (constant S_ .f32 0x00000000#32)))) bitsLt_bf16_f32

theorem act_at (u : FVec Ideal S4096x8192 .f32) (i : Fin 4096) (j : Fin 8192) : act u (ix2 i j) = max (u (ix2 i j)) 0 * max (u (ix2 i j)) 0 := by
  pointwise [act]

section Array
variable (m : (ℓ : Loc nD τ sig) → Buf (Elt Ideal) ℓ) (c : Dev nD)

theorem act_arr : V m c main_v3 = act (m ((c.tc : Thread nD τ).loc main_arg2)) := by
  unfold_abbrev_sides
  simp only [hostOps0, List.flatten_cons, List.flatten_nil, List.append_nil, List.cons_append, List.nil_append]
  after_reads_simp
  rfl

theorem lhs_at (t : Fin cfg0.N) (a : Fin 1024) (b : Fin 2048) (r : Fin 4096) (s : Fin 2048) (hr : r.val = t.val / 8 * 1024 + a.val) (hs : s.val = 0 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 1024) (b : Fin 2048) (r : Fin 8192) (s : Fin 2048) (hr : r.val = t.val % 8 * 1024 + a.val) (hs : s.val = 0 * 2048 + b.val) :
    iblk m c 1 t (ix2 a b) = V m c main_arg1 (ix2 r s) := by
  obtain ⟨-, ⟨h0, h1⟩, -⟩ := coords t
  have he : ((cfg0.win 1).blk t).view.emb (ix2 a b) = (ix2 r s : S8192x2048.Idx) := funext fun d => Fin.ext (match d with
    | ⟨0, _⟩ => by show win0_1.index t 0 * 1024 + 1 * a.val = r.val; rw [h0, hr, Nat.one_mul]
    | ⟨1, _⟩ => by show win0_1.index t 1 * 2048 + 1 * b.val = s.val; rw [h1, hs, Nat.one_mul])
  show V m c main_arg1 (((cfg0.win 1).blk t).view.emb (ix2 a b)) = _
  rw [he]
theorem epi_at (t : Fin cfg0.N) (a : Fin 1024) (b : Fin 1024) (r : Fin 4096) (s : Fin 8192) (hr : r.val = t.val / 8 * 1024 + a.val) (hs : s.val = t.val % 8 * 1024 + b.val) :
    iblk m c 2 t (ix2 a b) = V m c main_v3 (ix2 r s) := by
  obtain ⟨-, -, ⟨h0, h1⟩, -⟩ := coords t
  have he : ((cfg0.win 2).blk t).view.emb (ix2 a b) = (ix2 r s : S4096x8192.Idx) := funext fun d => Fin.ext (match d with
    | ⟨0, _⟩ => by show win0_2.index t 0 * 1024 + 1 * a.val = r.val; rw [h0, hr, Nat.one_mul]
    | ⟨1, _⟩ => by show win0_2.index t 1 * 1024 + 1 * b.val = s.val; rw [h1, hs, Nat.one_mul])
  show V m c main_v3 (((cfg0.win 2).blk t).view.emb (ix2 a b)) = _
  rw [he]
/-- One entry of the product of two arrays. -/
def sums (A : FVec Ideal S4096x2048 .bf16) (B : FVec Ideal S8192x2048 .bf16) (i : Fin 4096) (j : Fin 8192) : EReal := ∑ k : Fin 2048, A (ix2 i k) * B (ix2 j k)
/-- What the launch leaves. -/
def prod (A : FVec Ideal S4096x2048 .bf16) (B : FVec Ideal S8192x2048 .bf16) (C : FVec Ideal S4096x8192 .bf16) : FVec Ideal S4096x8192 .bf16 := fun x =>
  sums A B (x 0) (x 1) * Ideal.ofBits FTy.f32 0x40000000#32 * Ideal.sqrt (C (ix2 (x 0) (x 1)))

theorem N_val : cfg0.N = 32 := N_0

theorem out_at (t : Fin cfg0.N) (i : Fin 1024) (j : Fin 1024) (r : Fin 4096) (s : Fin 8192) (hr : r.val = t.val / 8 * 1024 + i.val) (hs : s.val = t.val % 8 * 1024 + j.val) :
    outsAt0 m c t (ix2 i j) = prod (V m c main_arg0) (V m c main_arg1) (V m c main_v3) (ix2 r s) := by
  have hN : t.val < 32 := lt_of_lt_of_eq t.isLt N_val
  unfold outsAt0
  rw [last_out, done_at, step_at, zero_at, zero_add]
  show _ = sums (V m c main_arg0) (V m c main_arg1) r s * Ideal.ofBits FTy.f32 0x40000000#32 * Ideal.sqrt (V m c main_v3 (ix2 r s))
  rw [epi_at m c t i j r s hr hs]
  refine congrArg (· * Ideal.ofBits FTy.f32 0x40000000#32 * _) ?_
  unfold sums
  refine Finset.sum_congr rfl fun k _ => ?_
  refine congrArg₂ (· * ·) (lhs_at m c _ _ _ _ _ ?_ ?_) (rhs_at m c _ _ _ _ _ ?_ ?_) <;> (try dsimp only) <;> omega

theorem flushed_out (t : Fin cfg0.N) (hf : (cfg0.win 3).flush t = true) : (dats m 0 c).flushed 3 t = ((cfg0.win 3).blk t).view.read (Elt Ideal) (prod (V m c main_arg0) (V m c main_arg1) (V m c main_v3)) := by
  obtain ⟨-, -, -, h0, h1⟩ := coords t
  have hN : t.val < 32 := lt_of_lt_of_eq t.isLt N_val
  rw [Value.flushed3]
  funext y
  show outsAt0 m c t y = prod (V m c main_arg0) (V m c main_arg1) (V m c main_v3) (((cfg0.win 3).blk t).view.emb y)
  have y0 : (y 0).val < 1024 := (y 0).isLt
  have y1 : (y 1).val < 1024 := (y 1).isLt
  have he : ((cfg0.win 3).blk t).view.emb y = (ix2 ⟨t.val / 8 * 1024 + (y 0).val, by omega⟩ ⟨t.val % 8 * 1024 + (y 1).val, by omega⟩ : S4096x8192.Idx) := funext fun d => Fin.ext (match d with
    | ⟨0, _⟩ => by show win0_3.index t 0 * 1024 + 1 * (y 0).val = t.val / 8 * 1024 + (y 0).val; rw [h0, Nat.one_mul]
    | ⟨1, _⟩ => by show win0_3.index t 1 * 1024 + 1 * (y 1).val = t.val % 8 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t _ _ _ _ rfl rfl

theorem cover_out (i : S4096x8192.Idx) : ∃ t : Fin cfg0.N, (cfg0.win 3).flush t = true ∧ i ∈ ((cfg0.win 3).blk t).view.set := by
  have i0 : (i 0).val < 4096 := (i 0).isLt
  have i1 : (i 1).val < 8192 := (i 1).isLt
  have hb : 8 * ((i 0).val / 1024) + 1 * ((i 1).val / 1024) + 0 < cfg0.N := by rw [N_val]; omega
  obtain ⟨-, -, -, h0, h1⟩ := coords ⟨_, hb⟩
  refine ⟨⟨_, hb⟩, flush0_3 _, ?_⟩
  show (show ((View.whole main_v4).slice (win0_3.rect ⟨_, hb⟩)).ty.Idx from i) ∈ ((View.whole main_v4).slice (win0_3.rect ⟨_, hb⟩)).set
  rw [View.set_slice_whole, Rect.mem_set_unit]
  intro a
  match a with
  | ⟨0, _⟩ => show win0_3.index _ 0 * 1024 ≤ (i 0).val ∧ (i 0).val < win0_3.index _ 0 * 1024 + 1024
              rw [h0]; dsimp only; omega
  | ⟨1, _⟩ => show win0_3.index _ 1 * 1024 ≤ (i 1).val ∧ (i 1).val < win0_3.index _ 1 * 1024 + 1024
              rw [h1]; dsimp only; omega

theorem final_out : (dats m 0 c).arrAt 3 cfg0.N = prod (V m c main_arg0) (V m c main_arg1) (V m c main_v3) :=
  (dats m 0 c).arrAt_eq_of_cover 3 _ (flushed_out m c) cover_out
end Array

end Cert.MlpOutDxIdeal.Prod

namespace Cert.MlpOutDxRefIdeal.Prod

open Cert.MlpOutDxRefIdeal Cert.MlpOutDxRefIdeal.Gen Idealize.ShloMosaic Idealize.ShloMosaic.TcCoe
variable (a : FVec Ideal S4096x2048 .bf16) (b : FVec Ideal S8192x2048 .bf16) (u : FVec Ideal S4096x8192 .f32)

/-- The reference's result. -/
def wanted : FVec Ideal S4096x8192 .bf16 :=
  truncf .bf16 (select (cmpf .ogt u (broadcastInDim S4096x8192 ![] bcast_S_S4096x8192 (constant S_ .f32 0x00000000#32))) (mulf (Host.dotGeneral dot_S4096x2048_S8192x2048_S4096x8192_1_1_0_0_n_n none (extf .f32 a bitsLt_bf16_f32) (extf .f32 b bitsLt_bf16_f32)) (mulf (broadcastInDim S4096x8192 ![] bcast_S_S4096x8192 (constant S_ .f32 0x40000000#32)) (maximumf u (broadcastInDim S4096x8192 ![] bcast_S_S4096x8192 (constant S_ .f32 0x00000000#32))))) (broadcastInDim S4096x8192 ![] bcast_S_S4096x8192 (constant S_ .f32 0x00000000#32))) bitsLt_bf16_f32

theorem wanted_at (i : Fin 4096) (j : Fin 8192) : wanted a b u (ix2 i j) = if 0 < u (ix2 i j) then (∑ k : Fin 2048, a (ix2 i k) * b (ix2 j k)) * (Ideal.ofBits FTy.f32 0x40000000#32 * max (u (ix2 i j)) 0) else 0 := by
  pointwise [wanted]
theorem meet : Cert.MlpOutDxIdeal.Prod.prod a b (Cert.MlpOutDxIdeal.Prod.act u) = wanted a b u := by
  funext x
  idx_vars x
  show (∑ k : Fin 2048, a (ix2 x0 k) * b (ix2 x1 k)) * Ideal.ofBits FTy.f32 0x40000000#32 * Ideal.sqrt (Cert.MlpOutDxIdeal.Prod.act u (ix2 x0 x1)) = _
  rw [wanted_at, Cert.MlpOutDxIdeal.Prod.act_at, Cert.Prod.sqrt_square (le_max_right _ _)]
  split_ifs with h
  · exact mul_assoc _ _ _
  · rw [max_eq_right (not_lt.mp h), mul_zero]
end Cert.MlpOutDxRefIdeal.Prod

end
-- ==== Proof.MlpOutDxClaims.lean ====
module

public import proofs.«01_k».proof.Defs
public import proofs.«01_k».proof.Proof.Gen.MlpOutDx
public import proofs.«01_k».proof.Proof.MlpOutDx
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.MlpOutDx

open Idealize.ShloMosaic Idealize.SL.Sem

/-- The kernel's body is the idealized program's, word for word. -/
theorem bodies_eq : Cert.MlpOutDx.defs₀ (F := Bits) = Cert.MlpOutDxIdeal.defs₀ (F := Bits) := by
  unfold Cert.MlpOutDx.defs₀ Cert.MlpOutDxIdeal.defs₀
  refine congrArg Defs.onTc ?_
  funext l a
  match l, a with
  | 0, (t, s) => rfl

theorem table_eq : Cert.MlpOutDx.defs (F := Bits) = Cert.MlpOutDxIdeal.defs (F := Bits) :=
  congrArg (Pipeline.defs Cert.MlpOutDxIdeal.pcfgs) bodies_eq

theorem main_eq : Cert.MlpOutDx.main (F := Bits) = Cert.MlpOutDxIdeal.main (F := Bits) := by rfl

theorem frame_P : Cert.quiescent_MlpOutDx := fun m ρ _ => by
  rw [table_eq, main_eq]
  exact Cert.MlpOutDxIdeal.Gen.frame (F := Bits) m ρ

theorem frame_PI : Cert.quiescent_MlpOutDxIdeal := fun m ρ _ => Cert.MlpOutDxIdeal.Gen.frame (F := Ideal) m ρ

/-- The reference declares no semaphore. -/
theorem frame_RI : Cert.quiescent_MlpOutDxRefIdeal := fun m ρ _ =>
  (θ_run Cert.MlpOutDxRefIdeal.defs _ _).mono (fun r h => ⟨fun c => (h c).2, sem_eq_zero_of_no_sems (by decide) r.2⟩)
    (Cert.MlpOutDxRefIdeal.Value.run (F := Ideal) m ρ)

/-- The common value is the reference's result. -/
theorem algebraic : Cert.algebraic_MlpOutDxIdeal_MlpOutDxRefIdeal := fun m ρ m' ρ' _ hagree =>
  ⟨fun c => Cert.MlpOutDxRefIdeal.Prod.wanted (m' (c.tc.loc Cert.MlpOutDxRefIdeal.main_arg0)) (m' (c.tc.loc Cert.MlpOutDxRefIdeal.main_arg1)) (m' (c.tc.loc Cert.MlpOutDxRefIdeal.main_arg2)),
    (θ_run Cert.MlpOutDxIdeal.defs _ _).mono (fun _ h c =>
      ⟨((h c).1.trans (Cert.MlpOutDxIdeal.Prod.final_out m c)).trans (by
          beta_reduce
          rw [Cert.MlpOutDxIdeal.Gen.V_main_arg0, Cert.MlpOutDxIdeal.Gen.V_main_arg1, Cert.MlpOutDxIdeal.Prod.act_arr, (hagree c).1, (hagree c).2.1, (hagree c).2.2]
          exact Cert.MlpOutDxRefIdeal.Prod.meet _ _ _), (h c).2⟩)
      (Cert.MlpOutDxIdeal.Value.run_blocks (F := Ideal) m ρ),
    Cert.MlpOutDxRefIdeal.Value.run (F := Ideal) m' ρ'⟩

end Cert.Proof.MlpOutDx

end
-- ==== Proof.MlpOutDw.lean ====
module

public import proofs.«01_k».proof.Proof.Blocks
public import proofs.«01_k».proof.Proof.Gen.MlpOutDwIdeal.Value
public import proofs.«01_k».proof.Proof.Gen.MlpOutDwRefIdeal.Run
public import Idealize.ShloMosaic.Lib.Tactic.IndexArith
public import Idealize.ShloMosaic.Lib.StableHlo.RunRead
public import Idealize.ShloMosaic.Lib.Claim

/-! The gradient of the weights of the MLP's second product: the launch's blocks, summed over two halves of the rows, are one product. -/

@[expose] public section

set_option maxRecDepth 16384

noncomputable section

namespace Cert.MlpOutDwIdeal.Prod

open Cert.MlpOutDwIdeal Cert.MlpOutDwIdeal.Gen Idealize.ShloMosaic Idealize.ShloMosaic.TcCoe
open Cert.Prod (zeros zeros3)

section Cases
variable {F : FTy → Type} [FloatOps F] (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec F S2048x1024 .bf16) (x1 : Vec F S2048x1024 .bf16) (xs : Vec F S1024x1024 .f32)

theorem first_acc (h0 : cond0_0 i) (h1 : ¬cond0_1 i) : sout0_A_0 c i arg3 harg3 arg4 harg4 arg5 harg5 arg6 harg6 h0 h1 x0 x1 = k0_pay2 k0_pay1 x0 x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S1024x1024) zeros, View.readCov_unit_zero (S := S1024x1024) _ zeros]
  simp only [View.readAt_eq_ld, Memref.IsWhole.read_unread, View.ld_unit_zero (S := S2048x1024) zeros]

theorem last_out (h0 : ¬cond0_0 i) (h1 : cond0_1 i) : out0_B_2 c i arg3 harg3 arg4 harg4 arg5 harg5 arg6 harg6 h0 h1 x0 x1 xs = k0_pay3 (k0_pay2 xs x0 x1) := by
  unfold out0_B_2
  refine Eq.trans (View.read_writes_eq_canon _ _ _ fun _ => cover0_B_2 ..) ?_
  unfold kernelRun0_B
  dsimp only
  sl_unfold_words
  rw [View.canon_unit_zero zeros, View.readCov_unit_zero (S := S1024x1024) _ zeros]
  simp only [View.readAt_eq_ld, Memref.IsWhole.read_unread, View.ld_unit_zero (S := S2048x1024) zeros, View.ld_unit_zero (S := S1024x1024) zeros]

end Cases

section Payloads
variable (x0 : Vec Ideal S2048x1024 .bf16) (x1 : Vec Ideal S2048x1024 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 k i) * x1 (ix2 k j) := by
  pointwise [k0_pay2]
theorem done_at : k0_pay3 xs (ix2 i j) = xs (ix2 i j) := by
  pointwise [k0_pay3]
end Payloads

theorem coords : ∀ t : Fin cfg0.N, (win0_0.index t 0 = t.val % 2 ∧ win0_0.index t 1 = t.val / 4)
    ∧ (win0_1.index t 0 = t.val % 2 ∧ win0_1.index t 1 = t.val / 2 % 2)
    ∧ (win0_2.index t 0 = t.val / 4 ∧ win0_2.index t 1 = t.val / 2 % 2) := by
  decide +kernel

/-- The host's activation. -/
def act (u : FVec Ideal S4096x8192 .f32) : FVec Ideal S4096x8192 .bf16 :=
  truncf .bf16 (mulf (maximumf u (broadcastInDim S4096x8192 ![] bcast_S_S4096x8192 (constant S_ .f32 0x00000000#32))) (maximumf u (broadcastInDim S4096x8192 ![] bcast_S_S4096x8192 (constant S_ .f32 0x00000000#32)))) bitsLt_bf16_f32

theorem act_at (u : FVec Ideal S4096x8192 .f32) (i : Fin 4096) (j : Fin 8192) : act u (ix2 i j) = max (u (ix2 i j)) 0 * max (u (ix2 i j)) 0 := by
  pointwise [act]

section Array
variable (m : (ℓ : Loc nD τ sig) → Buf (Elt Ideal) ℓ) (c : Dev nD)

theorem act_arr : V m c main_v3 = act (m ((c.tc : Thread nD τ).loc main_arg0)) := by
  unfold_abbrev_sides
  simp only [hostOps0, List.flatten_cons, List.flatten_nil, List.append_nil, List.cons_append, List.nil_append]
  after_reads_simp
  rfl

theorem lhs_at (t : Fin cfg0.N) (a : Fin 2048) (b : Fin 1024) (r : Fin 4096) (s : Fin 8192) (hr : r.val = t.val % 2 * 2048 + a.val) (hs : s.val = t.val / 4 * 1024 + b.val) :
    iblk m c 0 t (ix2 a b) = V m c main_v3 (ix2 r s) := by
  obtain ⟨⟨h0, h1⟩, -⟩ := coords t
  have he : ((cfg0.win 0).blk t).view.emb (ix2 a b) = (ix2 r s : S4096x8192.Idx) := funext fun d => Fin.ext (match d with
    | ⟨0, _⟩ => by show win0_0.index t 0 * 2048 + 1 * a.val = r.val; rw [h0, hr, Nat.one_mul]
    | ⟨1, _⟩ => by show win0_0.index t 1 * 1024 + 1 * b.val = s.val; rw [h1, hs, Nat.one_mul])
  show V m c main_v3 (((cfg0.win 0).blk t).view.emb (ix2 a b)) = _
  rw [he]
theorem rhs_at (t : Fin cfg0.N) (a : Fin 2048) (b : Fin 1024) (r : Fin 4096) (s : Fin 2048) (hr : r.val = t.val % 2 * 2048 + a.val) (hs : s.val = t.val / 2 % 2 * 1024 + b.val) :
    iblk m c 1 t (ix2 a b) = V m c main_arg1 (ix2 r s) := by
  obtain ⟨-, ⟨h0, h1⟩, -⟩ := coords t
  have he : ((cfg0.win 1).blk t).view.emb (ix2 a b) = (ix2 r s : S4096x2048.Idx) := funext fun d => Fin.ext (match d with
    | ⟨0, _⟩ => by show win0_1.index t 0 * 2048 + 1 * a.val = r.val; rw [h0, hr, Nat.one_mul]
    | ⟨1, _⟩ => by show win0_1.index t 1 * 1024 + 1 * b.val = s.val; rw [h1, hs, Nat.one_mul])
  show V m c main_arg1 (((cfg0.win 1).blk t).view.emb (ix2 a b)) = _
  rw [he]
/-- One entry of the product of two arrays. -/
def sums (A : FVec Ideal S4096x8192 .bf16) (B : FVec Ideal S4096x2048 .bf16) (i : Fin 8192) (j : Fin 2048) : EReal := ∑ k : Fin 4096, A (ix2 k i) * B (ix2 k j)
/-- The product of two arrays. -/
def prod (A : FVec Ideal S4096x8192 .bf16) (B : FVec Ideal S4096x2048 .bf16) : FVec Ideal S8192x2048 .bf16 := fun x =>
  sums A B (x 0) (x 1)

theorem N_val : cfg0.N = 32 := N_0

theorem out_at (t : Fin cfg0.N) (ht : t.val % 2 = 1) (i : Fin 1024) (j : Fin 1024) (r : Fin 8192) (s : Fin 2048) (hr : r.val = t.val / 4 * 1024 + i.val) (hs : s.val = t.val / 2 % 2 * 1024 + j.val) :
    (outsAt0 m c t.val t.isLt).1 (ix2 i j) = prod (V m c main_v3) (V m c main_arg1) (ix2 r s) := by
  have hN : t.val < 32 := lt_of_lt_of_eq t.isLt N_val
  have e1 := congrArg Prod.snd (outsAt0_A m c ⟨t.val - 1, by omega⟩ (by dsimp only; omega) (by dsimp only; omega))
  have e2 := congrArg Prod.fst (outsAt0_B m c t (by omega) ht)
  dsimp only at e1 e2
  rw [e2, last_out, done_at, step_at, e1, first_acc, step_at, zero_at, zero_add]
  show _ = sums (V m c main_v3) (V m c main_arg1) r s
  unfold sums
  refine Eq.trans ?_ (Cert.Prod.sum_two 2048 _).symm
  refine congrArg₂ (· + ·) (Finset.sum_congr rfl fun k _ => ?_) (Finset.sum_congr rfl fun k _ => ?_) <;>
    refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_v3) (V m c main_arg1)) := by
  obtain ⟨-, -, h0, h1⟩ := coords t
  have hN : t.val < 32 := lt_of_lt_of_eq t.isLt N_val
  rw [Value.flushed2]
  funext y
  show (outsAt0 m c t.val t.isLt).1 y = prod (V m c main_v3) (V m c main_arg1) (((cfg0.win 2).blk t).view.emb y)
  have y0 : (y 0).val < 1024 := (y 0).isLt
  have y1 : (y 1).val < 1024 := (y 1).isLt
  have he : ((cfg0.win 2).blk t).view.emb y = (ix2 ⟨t.val / 4 * 1024 + (y 0).val, by omega⟩ ⟨t.val / 2 % 2 * 1024 + (y 1).val, by omega⟩ : S8192x2048.Idx) := funext fun d => Fin.ext (match d with
    | ⟨0, _⟩ => by show win0_2.index t 0 * 1024 + 1 * (y 0).val = t.val / 4 * 1024 + (y 0).val; rw [h0, Nat.one_mul]
    | ⟨1, _⟩ => by show win0_2.index t 1 * 1024 + 1 * (y 1).val = t.val / 2 % 2 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t ((flush0_2 t).mp hf) _ _ _ _ rfl rfl

theorem cover_out (i : S8192x2048.Idx) : ∃ t : Fin cfg0.N, (cfg0.win 2).flush t = true ∧ i ∈ ((cfg0.win 2).blk t).view.set := by
  have i0 : (i 0).val < 8192 := (i 0).isLt
  have i1 : (i 1).val < 2048 := (i 1).isLt
  have hb : 4 * ((i 0).val / 1024) + 2 * ((i 1).val / 1024) + 1 < cfg0.N := by rw [N_val]; omega
  obtain ⟨-, -, h0, h1⟩ := coords ⟨_, hb⟩
  refine ⟨⟨_, hb⟩, (flush0_2 _).mpr (by dsimp only; omega), ?_⟩
  show (show ((View.whole main_v4).slice (win0_2.rect ⟨_, hb⟩)).ty.Idx from i) ∈ ((View.whole main_v4).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1024 ≤ (i 1).val ∧ (i 1).val < win0_2.index _ 1 * 1024 + 1024
              rw [h1]; dsimp only; omega

theorem final_out : (dats m 0 c).arrAt 2 cfg0.N = prod (V m c main_v3) (V m c main_arg1) :=
  (dats m 0 c).arrAt_eq_of_cover 2 _ (flushed_out m c) cover_out
end Array

end Cert.MlpOutDwIdeal.Prod

namespace Cert.MlpOutDwRefIdeal.Prod

open Cert.MlpOutDwRefIdeal Cert.MlpOutDwRefIdeal.Gen Idealize.ShloMosaic Idealize.ShloMosaic.TcCoe
variable (u : FVec Ideal S4096x8192 .f32) (d : FVec Ideal S4096x2048 .bf16)

/-- The reference's result. -/
def wanted : FVec Ideal S8192x2048 .bf16 :=
  truncf .bf16 (transpose S8192x2048 [1, 0] (Host.dotGeneral dot_S4096x2048_S4096x8192_S2048x8192_0_0_1_1_n_n none (extf .f32 d bitsLt_bf16_f32) (mulf (maximumf u (broadcastInDim S4096x8192 ![] bcast_S_S4096x8192 (constant S_ .f32 0x00000000#32))) (maximumf u (broadcastInDim S4096x8192 ![] bcast_S_S4096x8192 (constant S_ .f32 0x00000000#32))))) transposes_S2048x8192_S8192x2048_1_0) bitsLt_bf16_f32

theorem wanted_at (i : Fin 8192) (j : Fin 2048) : wanted u d (ix2 i j) = ∑ k : Fin 4096, d (ix2 k j) * (max (u (ix2 k i)) 0 * max (u (ix2 k i)) 0) := by
  pointwise [wanted]

theorem meet : Cert.MlpOutDwIdeal.Prod.prod (Cert.MlpOutDwIdeal.Prod.act u) d = wanted u d := by
  funext x
  idx_vars x
  show ∑ k : Fin 4096, Cert.MlpOutDwIdeal.Prod.act u (ix2 k x0) * d (ix2 k x1) = _
  rw [wanted_at]
  exact Finset.sum_congr rfl fun k _ => (mul_comm _ _).trans (congrArg (d (ix2 k x1) * ·) (Cert.MlpOutDwIdeal.Prod.act_at u k x0))

end Cert.MlpOutDwRefIdeal.Prod

end
-- ==== Proof.MlpOutDwClaims.lean ====
module

public import proofs.«01_k».proof.Defs
public import proofs.«01_k».proof.Proof.Gen.MlpOutDw
public import proofs.«01_k».proof.Proof.MlpOutDw
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.MlpOutDw

open Idealize.ShloMosaic Idealize.SL.Sem

/-- The kernel's body is the idealized program's, word for word. -/
theorem bodies_eq : Cert.MlpOutDw.defs₀ (F := Bits) = Cert.MlpOutDwIdeal.defs₀ (F := Bits) := by
  unfold Cert.MlpOutDw.defs₀ Cert.MlpOutDwIdeal.defs₀
  refine congrArg Defs.onTc ?_
  funext l a
  match l, a with
  | 0, (t, s) => rfl

theorem table_eq : Cert.MlpOutDw.defs (F := Bits) = Cert.MlpOutDwIdeal.defs (F := Bits) :=
  congrArg (Pipeline.defs Cert.MlpOutDwIdeal.pcfgs) bodies_eq

theorem main_eq : Cert.MlpOutDw.main (F := Bits) = Cert.MlpOutDwIdeal.main (F := Bits) := by rfl

theorem frame_P : Cert.quiescent_MlpOutDw := fun m ρ _ => by
  rw [table_eq, main_eq]
  exact Cert.MlpOutDwIdeal.Gen.frame (F := Bits) m ρ

theorem frame_PI : Cert.quiescent_MlpOutDwIdeal := fun m ρ _ => Cert.MlpOutDwIdeal.Gen.frame (F := Ideal) m ρ

/-- The reference declares no semaphore. -/
theorem frame_RI : Cert.quiescent_MlpOutDwRefIdeal := fun m ρ _ =>
  (θ_run Cert.MlpOutDwRefIdeal.defs _ _).mono (fun r h => ⟨fun c => (h c).2, sem_eq_zero_of_no_sems (by decide) r.2⟩)
    (Cert.MlpOutDwRefIdeal.Value.run (F := Ideal) m ρ)

/-- The common value is the reference's result. -/
theorem algebraic : Cert.algebraic_MlpOutDwIdeal_MlpOutDwRefIdeal := fun m ρ m' ρ' _ hagree =>
  ⟨fun c => Cert.MlpOutDwRefIdeal.Prod.wanted (m' (c.tc.loc Cert.MlpOutDwRefIdeal.main_arg0)) (m' (c.tc.loc Cert.MlpOutDwRefIdeal.main_arg1)),
    (θ_run Cert.MlpOutDwIdeal.defs _ _).mono (fun _ h c =>
      ⟨((h c).1.trans (Cert.MlpOutDwIdeal.Prod.final_out m c)).trans (by
          beta_reduce
          rw [Cert.MlpOutDwIdeal.Prod.act_arr, Cert.MlpOutDwIdeal.Gen.V_main_arg1, (hagree c).1, (hagree c).2]
          exact Cert.MlpOutDwRefIdeal.Prod.meet _ _), (h c).2⟩)
      (Cert.MlpOutDwIdeal.Value.run_blocks (F := Ideal) m ρ),
    Cert.MlpOutDwRefIdeal.Value.run (F := Ideal) m' ρ'⟩

end Cert.Proof.MlpOutDw

end
-- ==== Proof.MlpInDw.lean ====
module

public import proofs.«01_k».proof.Proof.Blocks
public import proofs.«01_k».proof.Proof.Gen.MlpInDwIdeal.Value
public import proofs.«01_k».proof.Proof.Gen.MlpInDwRefIdeal.Run
public import Idealize.ShloMosaic.Lib.Tactic.IndexArith
public import Idealize.ShloMosaic.Lib.StableHlo.RunRead
public import Idealize.ShloMosaic.Lib.Claim

/-! The gradient of the weights of the MLP's first product, in the four parts the devices hold. -/

@[expose] public section

set_option maxRecDepth 16384

noncomputable section

namespace Cert.MlpInDwIdeal.Prod

open Cert.MlpInDwIdeal Cert.MlpInDwIdeal.Gen Idealize.ShloMosaic Idealize.ShloMosaic.TcCoe
open Cert.Prod (zeros zeros3)

section Cases
variable {F : FTy → Type} [FloatOps F] (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1x1024x1024 .bf16) (harg5 : arg5.IsWhole) (arg6 : Memref sig .tc .vmem S1024x1024 .f32) (harg6 : arg6.IsWhole)
  (x0 : Vec F S2048x1024 .bf16) (x1 : Vec F S2048x1024 .bf16) (xs : Vec F S1024x1024 .f32)

theorem first_acc (h0 : cond0_0 i) (h1 : ¬cond0_1 i) : sout0_A_0 c i arg3 harg3 arg4 harg4 arg5 harg5 arg6 harg6 h0 h1 x0 x1 = k0_pay2 k0_pay1 x0 x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S1024x1024) zeros, View.readCov_unit_zero (S := S1024x1024) _ zeros]
  simp only [View.readAt_eq_ld, Memref.IsWhole.read_unread, View.ld_unit_zero (S := S2048x1024) zeros]

theorem last_out (h0 : ¬cond0_0 i) (h1 : cond0_1 i) : out0_B_2 c i arg3 harg3 arg4 harg4 arg5 harg5 arg6 harg6 h0 h1 x0 x1 xs = k0_pay3 (k0_pay2 xs x0 x1) := by
  unfold out0_B_2
  refine Eq.trans (View.read_writes_eq_canon _ _ _ fun _ => cover0_B_2 ..) ?_
  unfold kernelRun0_B
  dsimp only
  sl_unfold_words
  rw [View.canon_unit_zero zeros3, View.readCov_unit_zero (S := S1024x1024) _ zeros]
  simp only [View.readAt_eq_ld, Memref.IsWhole.read_unread, View.ld_unit_zero (S := S2048x1024) zeros, View.ld_unit_zero (S := S1024x1024) zeros]

end Cases

section Payloads
variable (x0 : Vec Ideal S2048x1024 .bf16) (x1 : Vec Ideal S2048x1024 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 k i) * x1 (ix2 k j) := by
  pointwise [k0_pay2]
theorem done_at : k0_pay3 xs (ix3 0 i j) = xs (ix2 i j) := by
  pointwise [k0_pay3]
end Payloads

theorem coords : ∀ t : Fin cfg0.N, (win0_0.index t 0 = t.val % 2 ∧ win0_0.index t 1 = t.val / 16)
    ∧ (win0_1.index t 0 = t.val % 2 ∧ win0_1.index t 1 = t.val / 2 % 8)
    ∧ (win0_2.index t 0 = t.val / 2 % 8 / 2 ∧ win0_2.index t 1 = t.val / 16 ∧ win0_2.index t 2 = t.val / 2 % 2) := by
  decide +kernel

section Array
variable (m : (ℓ : Loc nD τ sig) → Buf (Elt Ideal) ℓ) (c : Dev nD)

theorem lhs_at (t : Fin cfg0.N) (a : Fin 2048) (b : Fin 1024) (r : Fin 4096) (s : Fin 2048) (hr : r.val = t.val % 2 * 2048 + a.val) (hs : s.val = t.val / 16 * 1024 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 2048 + 1 * a.val = r.val; rw [h0, hr, Nat.one_mul]
    | ⟨1, _⟩ => by show win0_0.index t 1 * 1024 + 1 * b.val = s.val; rw [h1, hs, Nat.one_mul])
  show V m c main_arg0 (((cfg0.win 0).blk t).view.emb (ix2 a b)) = _
  rw [he]
theorem rhs_at (t : Fin cfg0.N) (a : Fin 2048) (b : Fin 1024) (r : Fin 4096) (s : Fin 8192) (hr : r.val = t.val % 2 * 2048 + a.val) (hs : s.val = t.val / 2 % 8 * 1024 + b.val) :
    iblk m c 1 t (ix2 a b) = V m c main_arg1 (ix2 r s) := by
  obtain ⟨-, ⟨h0, h1⟩, -⟩ := coords t
  have he : ((cfg0.win 1).blk t).view.emb (ix2 a b) = (ix2 r s : S4096x8192.Idx) := funext fun d => Fin.ext (match d with
    | ⟨0, _⟩ => by show win0_1.index t 0 * 2048 + 1 * a.val = r.val; rw [h0, hr, Nat.one_mul]
    | ⟨1, _⟩ => by show win0_1.index t 1 * 1024 + 1 * b.val = s.val; rw [h1, hs, Nat.one_mul])
  show V m c main_arg1 (((cfg0.win 1).blk t).view.emb (ix2 a b)) = _
  rw [he]
/-- One entry of the product of two arrays. -/
def sums (A : FVec Ideal S4096x2048 .bf16) (B : FVec Ideal S4096x8192 .bf16) (i : Fin 2048) (j : Fin 8192) : EReal := ∑ k : Fin 4096, A (ix2 k i) * B (ix2 k j)
/-- The product of two arrays. -/
def prod (A : FVec Ideal S4096x2048 .bf16) (B : FVec Ideal S4096x8192 .bf16) : FVec Ideal S4x2048x2048 .bf16 := fun x =>
  sums A B (x 1) (⟨(x 0).val * 2048 + (x 2).val, by have h0 : (x 0).val < 4 := (x 0).isLt; have h2 : (x 2).val < 2048 := (x 2).isLt; omega⟩)

theorem N_val : cfg0.N = 32 := N_0

theorem out_at (t : Fin cfg0.N) (ht : t.val % 2 = 1) (i : Fin 1024) (j : Fin 1024) (p : Fin 4) (r : Fin 2048) (s : Fin 2048) (hp : p.val = t.val / 2 % 8 / 2) (hr : r.val = t.val / 16 * 1024 + i.val) (hs : s.val = t.val / 2 % 2 * 1024 + j.val) :
    (outsAt0 m c t.val t.isLt).1 (ix3 0 i j) = prod (V m c main_arg0) (V m c main_arg1) (ix3 p r s) := by
  have hN : t.val < 32 := lt_of_lt_of_eq t.isLt N_val
  have e1 := congrArg Prod.snd (outsAt0_A m c ⟨t.val - 1, by omega⟩ (by dsimp only; omega) (by dsimp only; omega))
  have e2 := congrArg Prod.fst (outsAt0_B m c t (by omega) ht)
  dsimp only at e1 e2
  rw [e2, last_out, done_at, step_at, e1, first_acc, step_at, zero_at, zero_add]
  show _ = sums (V m c main_arg0) (V m c main_arg1) r (⟨p.val * 2048 + s.val, by omega⟩ : Fin 8192)
  unfold sums
  refine Eq.trans ?_ (Cert.Prod.sum_two 2048 _).symm
  refine congrArg₂ (· + ·) (Finset.sum_congr rfl fun k _ => ?_) (Finset.sum_congr rfl fun k _ => ?_) <;>
    refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1, h2⟩ := coords t
  have hN : t.val < 32 := lt_of_lt_of_eq t.isLt N_val
  rw [Value.flushed2]
  funext y
  show (outsAt0 m c t.val t.isLt).1 y = prod (V m c main_arg0) (V m c main_arg1) (((cfg0.win 2).blk t).view.emb y)
  have y0 : (y 0).val < 1 := (y 0).isLt
  have y1 : (y 1).val < 1024 := (y 1).isLt
  have y2 : (y 2).val < 1024 := (y 2).isLt
  have he : ((cfg0.win 2).blk t).view.emb y = (ix3 ⟨t.val / 2 % 8 / 2 * 1 + (y 0).val, by omega⟩ ⟨t.val / 16 * 1024 + (y 1).val, by omega⟩ ⟨t.val / 2 % 2 * 1024 + (y 2).val, by omega⟩ : S4x2048x2048.Idx) := funext fun d => Fin.ext (match d with
    | ⟨0, _⟩ => by show win0_2.index t 0 * 1 + 1 * (y 0).val = t.val / 2 % 8 / 2 * 1 + (y 0).val; rw [h0, Nat.one_mul]
    | ⟨1, _⟩ => by show win0_2.index t 1 * 1024 + 1 * (y 1).val = t.val / 16 * 1024 + (y 1).val; rw [h1, Nat.one_mul]
    | ⟨2, _⟩ => by show win0_2.index t 2 * 1024 + 1 * (y 2).val = t.val / 2 % 2 * 1024 + (y 2).val; rw [h2, Nat.one_mul])
  have hy : y = (ix3 0 ⟨(y 1).val, y1⟩ ⟨(y 2).val, y2⟩ : S1x1024x1024.Idx) := funext fun d => match d with
    | ⟨0, _⟩ => Fin.ext (show (y 0).val = 0 by omega)
    | ⟨1, _⟩ => rfl
    | ⟨2, _⟩ => rfl
  rw [he]
  conv_lhs => rw [hy]
  exact out_at m c t ((flush0_2 t).mp hf) _ _ _ _ _ (show t.val / 2 % 8 / 2 * 1 + (y 0).val = t.val / 2 % 8 / 2 by omega) rfl rfl

theorem cover_out (i : S4x2048x2048.Idx) : ∃ t : Fin cfg0.N, (cfg0.win 2).flush t = true ∧ i ∈ ((cfg0.win 2).blk t).view.set := by
  have i0 : (i 0).val < 4 := (i 0).isLt
  have i1 : (i 1).val < 2048 := (i 1).isLt
  have i2 : (i 2).val < 2048 := (i 2).isLt
  have hb : 16 * ((i 1).val / 1024) + 2 * (2 * (i 0).val + (i 2).val / 1024) + 1 < cfg0.N := by rw [N_val]; omega
  obtain ⟨-, -, h0, h1, h2⟩ := coords ⟨_, hb⟩
  refine ⟨⟨_, hb⟩, (flush0_2 _).mpr (by dsimp only; omega), ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1 ≤ (i 0).val ∧ (i 0).val < win0_2.index _ 0 * 1 + 1
              rw [h0]; dsimp only; omega
  | ⟨1, _⟩ => show win0_2.index _ 1 * 1024 ≤ (i 1).val ∧ (i 1).val < win0_2.index _ 1 * 1024 + 1024
              rw [h1]; dsimp only; omega
  | ⟨2, _⟩ => show win0_2.index _ 2 * 1024 ≤ (i 2).val ∧ (i 2).val < win0_2.index _ 2 * 1024 + 1024
              rw [h2]; dsimp only; omega

theorem final_out : (dats m 0 c).arrAt 2 cfg0.N = prod (V m c main_arg0) (V m c main_arg1) :=
  (dats m 0 c).arrAt_eq_of_cover 2 _ (flushed_out m c) cover_out
end Array

end Cert.MlpInDwIdeal.Prod

namespace Cert.MlpInDwRefIdeal.Prod

open Cert.MlpInDwRefIdeal Cert.MlpInDwRefIdeal.Gen Idealize.ShloMosaic Idealize.ShloMosaic.TcCoe
variable (a : FVec Ideal S4096x2048 .bf16) (b : FVec Ideal S4096x8192 .bf16)

/-- The gradient of the whole matrix, -/
def flat : FVec Ideal S2048x8192 .bf16 :=
  truncf .bf16 (transpose S2048x8192 [1, 0] (Host.dotGeneral dot_S4096x8192_S4096x2048_S8192x2048_0_0_1_1_n_n none (extf .f32 b bitsLt_bf16_f32) (extf .f32 a bitsLt_bf16_f32)) transposes_S8192x2048_S2048x8192_1_0) bitsLt_bf16_f32
/-- and the reference's result, its four parts. -/
def wanted : FVec Ideal S4x2048x2048 .bf16 :=
  concatenate S4x2048x2048 0 [⟨S1x2048x2048, broadcastInDim S1x2048x2048 ![1, 2] bcast_S2048x2048_S1x2048x2048_1_2 (extractStridedSlice S2048x2048 ![0, 0] (flat a b) slices_S2048x8192_S2048x2048_0_0)⟩,
    ⟨S1x2048x2048, broadcastInDim S1x2048x2048 ![1, 2] bcast_S2048x2048_S1x2048x2048_1_2 (extractStridedSlice S2048x2048 ![0, 2048] (flat a b) slices_S2048x8192_S2048x2048_0_2048)⟩,
    ⟨S1x2048x2048, broadcastInDim S1x2048x2048 ![1, 2] bcast_S2048x2048_S1x2048x2048_1_2 (extractStridedSlice S2048x2048 ![0, 4096] (flat a b) slices_S2048x8192_S2048x2048_0_4096)⟩,
    ⟨S1x2048x2048, broadcastInDim S1x2048x2048 ![1, 2] bcast_S2048x2048_S1x2048x2048_1_2 (extractStridedSlice S2048x2048 ![0, 6144] (flat a b) slices_S2048x8192_S2048x2048_0_6144)⟩] concatenates_S1x2048x2048_S1x2048x2048_S1x2048x2048_S1x2048x2048_S4x2048x2048_d0

theorem flat_at (i : Fin 2048) (j : Fin 8192) : flat a b (ix2 i j) = ∑ k : Fin 4096, b (ix2 k j) * a (ix2 k i) := by
  pointwise [flat]
theorem wanted_at (p : Fin 4) (i j : Fin 2048) : wanted a b (ix3 p i j) = flat a b (ix2 i ⟨p.val * 2048 + j.val, by omega⟩) := by
  fin_cases p <;> pointwise [wanted]
theorem meet : Cert.MlpInDwIdeal.Prod.prod a b = wanted a b := by
  funext x
  idx_vars x
  show ∑ k : Fin 4096, a (ix2 k x1) * b (ix2 k ⟨x0.val * 2048 + x2.val, by omega⟩) = _
  rw [wanted_at, flat_at]
  exact Finset.sum_congr rfl fun k _ => mul_comm _ _
end Cert.MlpInDwRefIdeal.Prod

end
-- ==== Proof.MlpInDwClaims.lean ====
module

public import proofs.«01_k».proof.Defs
public import proofs.«01_k».proof.Proof.Gen.MlpInDw
public import proofs.«01_k».proof.Proof.MlpInDw
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.MlpInDw

open Idealize.ShloMosaic Idealize.SL.Sem

/-- The kernel's body is the idealized program's, word for word. -/
theorem bodies_eq : Cert.MlpInDw.defs₀ (F := Bits) = Cert.MlpInDwIdeal.defs₀ (F := Bits) := by
  unfold Cert.MlpInDw.defs₀ Cert.MlpInDwIdeal.defs₀
  refine congrArg Defs.onTc ?_
  funext l a
  match l, a with
  | 0, (t, s) => rfl

theorem table_eq : Cert.MlpInDw.defs (F := Bits) = Cert.MlpInDwIdeal.defs (F := Bits) :=
  congrArg (Pipeline.defs Cert.MlpInDwIdeal.pcfgs) bodies_eq

theorem main_eq : Cert.MlpInDw.main (F := Bits) = Cert.MlpInDwIdeal.main (F := Bits) := by rfl

theorem frame_P : Cert.quiescent_MlpInDw := fun m ρ _ => by
  rw [table_eq, main_eq]
  exact Cert.MlpInDwIdeal.Gen.frame (F := Bits) m ρ

theorem frame_PI : Cert.quiescent_MlpInDwIdeal := fun m ρ _ => Cert.MlpInDwIdeal.Gen.frame (F := Ideal) m ρ

/-- The reference declares no semaphore. -/
theorem frame_RI : Cert.quiescent_MlpInDwRefIdeal := fun m ρ _ =>
  (θ_run Cert.MlpInDwRefIdeal.defs _ _).mono (fun r h => ⟨fun c => (h c).2, sem_eq_zero_of_no_sems (by decide) r.2⟩)
    (Cert.MlpInDwRefIdeal.Value.run (F := Ideal) m ρ)

/-- The common value is the reference's result. -/
theorem algebraic : Cert.algebraic_MlpInDwIdeal_MlpInDwRefIdeal := fun m ρ m' ρ' _ hagree =>
  ⟨fun c => Cert.MlpInDwRefIdeal.Prod.wanted (m' (c.tc.loc Cert.MlpInDwRefIdeal.main_arg0)) (m' (c.tc.loc Cert.MlpInDwRefIdeal.main_arg1)),
    (θ_run Cert.MlpInDwIdeal.defs _ _).mono (fun _ h c =>
      ⟨((h c).1.trans (Cert.MlpInDwIdeal.Prod.final_out m c)).trans (by
          beta_reduce
          rw [Cert.MlpInDwIdeal.Gen.V_main_arg0, Cert.MlpInDwIdeal.Gen.V_main_arg1, (hagree c).1, (hagree c).2]
          exact Cert.MlpInDwRefIdeal.Prod.meet _ _), (h c).2⟩)
      (Cert.MlpInDwIdeal.Value.run_blocks (F := Ideal) m ρ),
    Cert.MlpInDwRefIdeal.Value.run (F := Ideal) m' ρ'⟩

end Cert.Proof.MlpInDw

end
-- ==== Proof.MlpInDx.lean ====
module

public import proofs.«01_k».proof.Proof.Blocks
public import proofs.«01_k».proof.Proof.Gen.MlpInDxIdeal.Value
public import proofs.«01_k».proof.Proof.Gen.MlpInDxRefIdeal.Run
public import Idealize.ShloMosaic.Lib.Tactic.IndexArith
public import Idealize.ShloMosaic.Lib.StableHlo.RunRead
public import Idealize.ShloMosaic.Lib.Claim

/-! The backward product of the MLP's first product with its weights, a part of the four at a time. -/

@[expose] public section

set_option maxRecDepth 16384

noncomputable section

namespace Cert.MlpInDxIdeal.Prod

open Cert.MlpInDxIdeal Cert.MlpInDxIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S1x1024x2048 .bf16) (harg4 : arg4.IsWhole) (arg6 : Memref sig .tc .vmem S1024x1024 .f32) (harg6 : arg6.IsWhole) (arg7 : Memref sig .tc .vmem S1024x1024 .f32) (harg7 : arg7.IsWhole)
  (x0 : Vec F S1024x2048 .bf16) (x1 : Vec F S1x1024x2048 .bf16) (xs : Vec F S1024x1024 .f32)

theorem first_acc (h0 : cond0_0 i) (h1 : ¬cond0_1 i) : sout0_A_0 c i arg3 harg3 arg4 harg4 arg6 harg6 arg7 harg7 h0 h1 x0 x1 = k0_pay2 k0_pay1 x0 x1 := by
  unfold sout0_A_0
  rw [View.read_writes_eq_canon _ _ _ (scover0_A_0 c i arg3 harg3 arg4 harg4 arg6 harg6 arg7 harg7 h0 h1 x0 x1)]
  unfold kernelRun0_A
  dsimp only
  sl_unfold_words
  rw [View.canon_cons_unit_zero (S := S1024x1024) zeros, View.readCov_unit_zero (S := S1024x1024) _ zeros]
  simp only [View.readAt_eq_ld, Memref.IsWhole.read_unread, View.ld_unit_zero (S := S1024x2048) zeros, View.ld_unit_zero (S := S1x1024x2048) zeros3]

theorem next_acc (h0 : ¬cond0_0 i) (h1 : ¬cond0_1 i) : sout0_B_0 c i arg3 harg3 arg4 harg4 arg6 harg6 arg7 harg7 h0 h1 x0 x1 xs = k0_pay2 xs x0 x1 := by
  unfold sout0_B_0
  rw [View.read_writes_eq_canon _ _ _ (scover0_B_0 c i arg3 harg3 arg4 harg4 arg6 harg6 arg7 harg7 h0 h1 x0 x1 xs)]
  unfold kernelRun0_B
  dsimp only
  rw [View.canon_unit_zero zeros]
  simp only [View.readAt_eq_ld, Memref.IsWhole.read_unread, View.ld_unit_zero (S := S1024x2048) zeros, View.ld_unit_zero (S := S1x1024x2048) zeros3, View.ld_unit_zero (S := S1024x1024) zeros]

theorem last_out (h0 : ¬cond0_0 i) (h1 : cond0_1 i) : out0_C_2 c i arg3 harg3 arg4 harg4 arg6 harg6 arg7 harg7 h0 h1 x0 x1 xs = k0_pay2 xs x0 x1 := by
  unfold out0_C_2
  refine Eq.trans (View.read_writes_eq_canon _ _ _ fun _ => cover0_C_2 ..) ?_
  unfold kernelRun0_C
  dsimp only
  sl_unfold_words
  rw [View.canon_unit_zero zeros, View.readCov_unit_zero (S := S1024x1024) _ zeros]
  simp only [View.readAt_eq_ld, Memref.IsWhole.read_unread, View.ld_unit_zero (S := S1024x2048) zeros, View.ld_unit_zero (S := S1x1024x2048) zeros3, View.ld_unit_zero (S := S1024x1024) zeros]

end Cases

section Payloads
variable (x0 : Vec Ideal S1024x2048 .bf16) (x1 : Vec Ideal S1x1024x2048 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix3 0 j k) := by
  pointwise [k0_pay2]
end Payloads

theorem coords : ∀ t : Fin cfg0.N, (win0_0.index t 0 = t.val / 8 ∧ win0_0.index t 1 = t.val % 4)
    ∧ (win0_1.index t 0 = t.val % 4 ∧ win0_1.index t 1 = t.val / 4 % 2 ∧ win0_1.index t 2 = 0)
    ∧ (win0_2.index t 0 = t.val / 8 ∧ win0_2.index t 1 = t.val / 4 % 2) := by
  decide +kernel

section Array
variable (m : (ℓ : Loc nD τ sig) → Buf (Elt Ideal) ℓ) (c : Dev nD)

theorem lhs_at (t : Fin cfg0.N) (a : Fin 1024) (b : Fin 2048) (r : Fin 4096) (s : Fin 8192) (hr : r.val = t.val / 8 * 1024 + a.val) (hs : s.val = t.val % 4 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x8192.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 1) (b : Fin 1024) (e : Fin 2048) (p : Fin 4) (r : Fin 2048) (s : Fin 2048) (hp : p.val = t.val % 4 * 1 + a.val) (hr : r.val = t.val / 4 % 2 * 1024 + b.val) (hs : s.val = 0 * 2048 + e.val) :
    iblk m c 1 t (ix3 a b e) = V m c main_arg1 (ix3 p r s) := by
  obtain ⟨-, ⟨h0, h1, h2⟩, -⟩ := coords t
  have he : ((cfg0.win 1).blk t).view.emb (ix3 a b e) = (ix3 p r s : S4x2048x2048.Idx) := funext fun d => Fin.ext (match d with
    | ⟨0, _⟩ => by show win0_1.index t 0 * 1 + 1 * a.val = p.val; rw [h0, hp, Nat.one_mul]
    | ⟨1, _⟩ => by show win0_1.index t 1 * 1024 + 1 * b.val = r.val; rw [h1, hr, Nat.one_mul]
    | ⟨2, _⟩ => by show win0_1.index t 2 * 2048 + 1 * e.val = s.val; rw [h2, hs, Nat.one_mul])
  show V m c main_arg1 (((cfg0.win 1).blk t).view.emb (ix3 a b e)) = _
  rw [he]
/-- One entry of the product of two arrays. -/
def sums (A : FVec Ideal S4096x8192 .bf16) (B : FVec Ideal S4x2048x2048 .bf16) (i : Fin 4096) (j : Fin 2048) : EReal := ∑ k : Fin 8192, A (ix2 i k) * B (ix3 ⟨k.val / 2048, by omega⟩ j ⟨k.val % 2048, by omega⟩)
/-- The product of two arrays. -/
def prod (A : FVec Ideal S4096x8192 .bf16) (B : FVec Ideal S4x2048x2048 .bf16) : FVec Ideal S4096x2048 .f32 := fun x =>
  sums A B (x 0) (x 1)

theorem N_val : cfg0.N = 32 := N_0

theorem out_at (t : Fin cfg0.N) (ht : t.val % 4 = 3) (i : Fin 1024) (j : Fin 1024) (r : Fin 4096) (s : Fin 2048) (hr : r.val = t.val / 8 * 1024 + i.val) (hs : s.val = t.val / 4 % 2 * 1024 + j.val) :
    (outsAt0 m c t.val t.isLt).1 (ix2 i j) = prod (V m c main_arg0) (V m c main_arg1) (ix2 r s) := by
  have hN : t.val < 32 := lt_of_lt_of_eq t.isLt N_val
  have e1 := congrArg Prod.snd (outsAt0_A m c ⟨t.val - 3, by omega⟩ (by dsimp only; omega) (by dsimp only; omega))
  have e2 := congrArg Prod.snd (outsAt0_B m c ⟨t.val - 2, by omega⟩ (by dsimp only; omega) (by dsimp only; omega))
  have e3 := congrArg Prod.snd (outsAt0_B m c ⟨t.val - 1, by omega⟩ (by dsimp only; omega) (by dsimp only; omega))
  have e4 := congrArg Prod.fst (outsAt0_C m c t (by omega) ht)
  dsimp only at e1 e2 e3 e4
  have s2 : t.val - 2 - 1 = t.val - 3 := by omega
  have s3 : t.val - 1 - 1 = t.val - 2 := by omega
  simp only [s2] at e2
  simp only [s3] at e3
  rw [e4, last_out, step_at, e3, next_acc, step_at, e2, next_acc, step_at, e1, first_acc, step_at, zero_at, zero_add]
  show _ = sums (V m c main_arg0) (V m c main_arg1) r s
  unfold sums
  refine Eq.trans ?_ (Cert.Prod.sum_four 2048 _).symm
  refine congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_) <;>
    refine congrArg₂ (· * ·) (lhs_at m c _ _ _ _ _ ?_ ?_) (rhs_at m c _ _ _ _ _ _ _ ?_ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 32 := lt_of_lt_of_eq t.isLt N_val
  rw [Value.flushed2]
  funext y
  show (outsAt0 m c t.val t.isLt).1 y = prod (V m c main_arg0) (V m c main_arg1) (((cfg0.win 2).blk t).view.emb y)
  have y0 : (y 0).val < 1024 := (y 0).isLt
  have y1 : (y 1).val < 1024 := (y 1).isLt
  have he : ((cfg0.win 2).blk t).view.emb y = (ix2 ⟨t.val / 8 * 1024 + (y 0).val, by omega⟩ ⟨t.val / 4 % 2 * 1024 + (y 1).val, by omega⟩ : S4096x2048.Idx) := funext fun d => Fin.ext (match d with
    | ⟨0, _⟩ => by show win0_2.index t 0 * 1024 + 1 * (y 0).val = t.val / 8 * 1024 + (y 0).val; rw [h0, Nat.one_mul]
    | ⟨1, _⟩ => by show win0_2.index t 1 * 1024 + 1 * (y 1).val = t.val / 4 % 2 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t ((flush0_2 t).mp hf) _ _ _ _ rfl rfl

theorem cover_out (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hb : 8 * ((i 0).val / 1024) + 4 * ((i 1).val / 1024) + 3 < cfg0.N := by rw [N_val]; omega
  obtain ⟨-, -, h0, h1⟩ := coords ⟨_, hb⟩
  refine ⟨⟨_, hb⟩, (flush0_2 _).mpr (by dsimp only; omega), ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1024 ≤ (i 1).val ∧ (i 1).val < win0_2.index _ 1 * 1024 + 1024
              rw [h1]; dsimp only; omega

theorem final_out : (dats m 0 c).arrAt 2 cfg0.N = prod (V m c main_arg0) (V m c main_arg1) :=
  (dats m 0 c).arrAt_eq_of_cover 2 _ (flushed_out m c) cover_out
end Array

end Cert.MlpInDxIdeal.Prod

namespace Cert.MlpInDxRefIdeal.Prod

open Cert.MlpInDxRefIdeal Cert.MlpInDxRefIdeal.Gen Idealize.ShloMosaic Idealize.ShloMosaic.TcCoe
variable (a : FVec Ideal S4096x8192 .bf16) (b : FVec Ideal S4x2048x2048 .bf16)

/-- The whole matrix, its four parts side by side. -/
def flat : FVec Ideal S2048x8192 .bf16 :=
  concatenate S2048x8192 1 [⟨S2048x2048, shapeCast _ (extractStridedSlice S1x2048x2048 ![0, 0, 0] b slices_S4x2048x2048_S1x2048x2048_0_0_0) shapeCasts_S1x2048x2048_S2048x2048⟩, ⟨S2048x2048, shapeCast _ (extractStridedSlice S1x2048x2048 ![1, 0, 0] b slices_S4x2048x2048_S1x2048x2048_1_0_0) shapeCasts_S1x2048x2048_S2048x2048⟩, ⟨S2048x2048, shapeCast _ (extractStridedSlice S1x2048x2048 ![2, 0, 0] b slices_S4x2048x2048_S1x2048x2048_2_0_0) shapeCasts_S1x2048x2048_S2048x2048⟩, ⟨S2048x2048, shapeCast _ (extractStridedSlice S1x2048x2048 ![3, 0, 0] b slices_S4x2048x2048_S1x2048x2048_3_0_0) shapeCasts_S1x2048x2048_S2048x2048⟩] concatenates_S2048x2048_S2048x2048_S2048x2048_S2048x2048_S2048x8192_d1
/-- The reference's result. -/
def wanted : FVec Ideal S4096x2048 .f32 :=
  Host.dotGeneral dot_S4096x8192_S2048x8192_S4096x2048_1_1_0_0_n_n none (extf .f32 a bitsLt_bf16_f32) (extf .f32 (flat b) bitsLt_bf16_f32)

theorem flat_parts (i : Fin 2048) (k : Fin 8192) : flat b (ix2 i k) = if h : k.val < 2048 then b (ix3 0 i ⟨k.val, by omega⟩) else if h1 : k.val - 2048 < 2048 then b (ix3 1 i ⟨k.val - 2048, h1⟩)
    else if h2 : k.val - 2048 - 2048 < 2048 then b (ix3 2 i ⟨k.val - 2048 - 2048, h2⟩) else b (ix3 3 i ⟨k.val - 2048 - 2048 - 2048, by omega⟩) := by
  pointwise [flat]
theorem flat_at (i : Fin 2048) (k : Fin 8192) : flat b (ix2 i k) = b (ix3 ⟨k.val / 2048, by omega⟩ i ⟨k.val % 2048, by omega⟩) := by
  rw [flat_parts]
  split_ifs <;> refine congrArg b (congr (congrArg (fun p q => ix3 p i q) (Fin.ext ?_)) (Fin.ext ?_)) <;> simp <;> omega
theorem wanted_at (i : Fin 4096) (j : Fin 2048) : wanted a b (ix2 i j) = ∑ k : Fin 8192, a (ix2 i k) * flat b (ix2 j k) := by
  pointwise [wanted]
theorem meet : Cert.MlpInDxIdeal.Prod.prod a b = wanted a b := by
  funext x
  idx_vars x
  show ∑ k : Fin 8192, a (ix2 x0 k) * b (ix3 ⟨k.val / 2048, by omega⟩ x1 ⟨k.val % 2048, by omega⟩) = _
  rw [wanted_at]
  exact Finset.sum_congr rfl fun k _ => by rw [flat_at]
end Cert.MlpInDxRefIdeal.Prod

end
-- ==== Proof.MlpInDxClaims.lean ====
module

public import proofs.«01_k».proof.Defs
public import proofs.«01_k».proof.Proof.Gen.MlpInDx
public import proofs.«01_k».proof.Proof.MlpInDx
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.MlpInDx

open Idealize.ShloMosaic Idealize.SL.Sem

/-- The kernel's body is the idealized program's, word for word. -/
theorem bodies_eq : Cert.MlpInDx.defs₀ (F := Bits) = Cert.MlpInDxIdeal.defs₀ (F := Bits) := by
  unfold Cert.MlpInDx.defs₀ Cert.MlpInDxIdeal.defs₀
  refine congrArg Defs.onTc ?_
  funext l a
  match l, a with
  | 0, (t, s) => rfl

theorem table_eq : Cert.MlpInDx.defs (F := Bits) = Cert.MlpInDxIdeal.defs (F := Bits) :=
  congrArg (Pipeline.defs Cert.MlpInDxIdeal.pcfgs) bodies_eq

theorem main_eq : Cert.MlpInDx.main (F := Bits) = Cert.MlpInDxIdeal.main (F := Bits) := by rfl

theorem frame_P : Cert.quiescent_MlpInDx := fun m ρ _ => by
  rw [table_eq, main_eq]
  exact Cert.MlpInDxIdeal.Gen.frame (F := Bits) m ρ

theorem frame_PI : Cert.quiescent_MlpInDxIdeal := fun m ρ _ => Cert.MlpInDxIdeal.Gen.frame (F := Ideal) m ρ

/-- The reference declares no semaphore. -/
theorem frame_RI : Cert.quiescent_MlpInDxRefIdeal := fun m ρ _ =>
  (θ_run Cert.MlpInDxRefIdeal.defs _ _).mono (fun r h => ⟨fun c => (h c).2, sem_eq_zero_of_no_sems (by decide) r.2⟩)
    (Cert.MlpInDxRefIdeal.Value.run (F := Ideal) m ρ)

/-- The common value is the reference's result. -/
theorem algebraic : Cert.algebraic_MlpInDxIdeal_MlpInDxRefIdeal := fun m ρ m' ρ' _ hagree =>
  ⟨fun c => Cert.MlpInDxRefIdeal.Prod.wanted (m' (c.tc.loc Cert.MlpInDxRefIdeal.main_arg0)) (m' (c.tc.loc Cert.MlpInDxRefIdeal.main_arg1)),
    (θ_run Cert.MlpInDxIdeal.defs _ _).mono (fun _ h c =>
      ⟨((h c).1.trans (Cert.MlpInDxIdeal.Prod.final_out m c)).trans (by
          beta_reduce
          rw [Cert.MlpInDxIdeal.Gen.V_main_arg0, Cert.MlpInDxIdeal.Gen.V_main_arg1, (hagree c).1, (hagree c).2.1]
          exact Cert.MlpInDxRefIdeal.Prod.meet _ _), (h c).2⟩)
      (Cert.MlpInDxIdeal.Value.run_blocks (F := Ideal) m ρ),
    Cert.MlpInDxRefIdeal.Value.run (F := Ideal) m' ρ'⟩

end Cert.Proof.MlpInDx

end
-- ==== Proof.OutProjDx.lean ====
module

public import proofs.«01_k».proof.Proof.Blocks
public import proofs.«01_k».proof.Proof.Gen.OutProjDxIdeal.Value
public import proofs.«01_k».proof.Proof.Gen.OutProjDxRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The output projection's backward product with its weights. -/

@[expose] public section

set_option maxRecDepth 16384

noncomputable section

namespace Cert.OutProjDxIdeal.Prod

open Cert.OutProjDxIdeal Cert.OutProjDxIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)
  (x0 : Vec F S1024x2048 .bf16) (x1 : Vec F S1024x2048 .bf16) (xs : Vec F S1024x1024 .f32)

theorem last_out (h0 : cond0_0 i) (h1 : cond0_1 i) : out0_A_2 c i arg3 harg3 arg4 harg4 arg5 harg5 arg6 harg6 h0 h1 x0 x1 = k0_pay2 k0_pay1 x0 x1 := by
  unfold out0_A_2
  refine Eq.trans (View.read_writes_eq_canon _ _ _ fun _ => cover0_A_2 ..) ?_
  unfold kernelRun0_A
  dsimp only
  sl_unfold_words
  rw [View.canon_unit_zero zeros]
  rw [View.readCov_cons_unit_lit' (S := S1024x1024) _ _ _ _ _ (fun a => congrFun zeros a) (fun a => congrFun zeros a)]
  rw [View.readCov_unit_zero (S := S1024x1024) _ zeros]
  simp only [View.readAt_eq_ld, Memref.IsWhole.read_unread, View.ld_unit_zero (S := S1024x2048) zeros]

end Cases

section Payloads
variable (x0 : Vec Ideal S1024x2048 .bf16) (x1 : Vec Ideal S1024x2048 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix2 j k) := by
  pointwise [k0_pay2]
end Payloads

theorem coords : ∀ t : Fin cfg0.N, (win0_0.index t 0 = t.val / 2 ∧ win0_0.index t 1 = 0)
    ∧ (win0_1.index t 0 = t.val % 2 ∧ win0_1.index t 1 = 0)
    ∧ (win0_2.index t 0 = t.val / 2 ∧ win0_2.index t 1 = t.val % 2) := by
  decide +kernel

section Array
variable (m : (ℓ : Loc nD τ sig) → Buf (Elt Ideal) ℓ) (c : Dev nD)

theorem lhs_at (t : Fin cfg0.N) (a : Fin 1024) (b : Fin 2048) (r : Fin 4096) (s : Fin 2048) (hr : r.val = t.val / 2 * 1024 + a.val) (hs : s.val = 0 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 1024) (b : Fin 2048) (r : Fin 2048) (s : Fin 2048) (hr : r.val = t.val % 2 * 1024 + a.val) (hs : s.val = 0 * 2048 + b.val) :
    iblk m c 1 t (ix2 a b) = V m c main_arg1 (ix2 r s) := by
  obtain ⟨-, ⟨h0, h1⟩, -⟩ := coords t
  have he : ((cfg0.win 1).blk t).view.emb (ix2 a b) = (ix2 r s : S2048x2048.Idx) := funext fun d => Fin.ext (match d with
    | ⟨0, _⟩ => by show win0_1.index t 0 * 1024 + 1 * a.val = r.val; rw [h0, hr, Nat.one_mul]
    | ⟨1, _⟩ => by show win0_1.index t 1 * 2048 + 1 * b.val = s.val; rw [h1, hs, Nat.one_mul])
  show V m c main_arg1 (((cfg0.win 1).blk t).view.emb (ix2 a b)) = _
  rw [he]
/-- One entry of the product of two arrays. -/
def sums (A : FVec Ideal S4096x2048 .bf16) (B : FVec Ideal S2048x2048 .bf16) (i : Fin 4096) (j : Fin 2048) : EReal := ∑ k : Fin 2048, A (ix2 i k) * B (ix2 j k)
/-- The product of two arrays. -/
def prod (A : FVec Ideal S4096x2048 .bf16) (B : FVec Ideal S2048x2048 .bf16) : FVec Ideal S4096x2048 .f32 := fun x =>
  sums A B (x 0) (x 1)

theorem N_val : cfg0.N = 8 := N_0

theorem out_at (t : Fin cfg0.N) (i : Fin 1024) (j : Fin 1024) (r : Fin 4096) (s : Fin 2048) (hr : r.val = t.val / 2 * 1024 + i.val) (hs : s.val = t.val % 2 * 1024 + j.val) :
    outsAt0 m c t (ix2 i j) = prod (V m c main_arg0) (V m c main_arg1) (ix2 r s) := by
  have hN : t.val < 8 := lt_of_lt_of_eq t.isLt N_val
  unfold outsAt0
  rw [last_out, step_at, zero_at, zero_add]
  show _ = sums (V m c main_arg0) (V m c main_arg1) r s
  unfold sums
  refine Finset.sum_congr rfl fun k _ => ?_
  refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 8 := lt_of_lt_of_eq t.isLt N_val
  rw [Value.flushed2]
  funext y
  show outsAt0 m c t y = prod (V m c main_arg0) (V m c main_arg1) (((cfg0.win 2).blk t).view.emb y)
  have y0 : (y 0).val < 1024 := (y 0).isLt
  have y1 : (y 1).val < 1024 := (y 1).isLt
  have he : ((cfg0.win 2).blk t).view.emb y = (ix2 ⟨t.val / 2 * 1024 + (y 0).val, by omega⟩ ⟨t.val % 2 * 1024 + (y 1).val, by omega⟩ : S4096x2048.Idx) := funext fun d => Fin.ext (match d with
    | ⟨0, _⟩ => by show win0_2.index t 0 * 1024 + 1 * (y 0).val = t.val / 2 * 1024 + (y 0).val; rw [h0, Nat.one_mul]
    | ⟨1, _⟩ => by show win0_2.index t 1 * 1024 + 1 * (y 1).val = t.val % 2 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t _ _ _ _ rfl rfl

theorem cover_out (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hb : 2 * ((i 0).val / 1024) + 1 * ((i 1).val / 1024) + 0 < cfg0.N := by rw [N_val]; omega
  obtain ⟨-, -, h0, h1⟩ := coords ⟨_, hb⟩
  refine ⟨⟨_, hb⟩, flush0_2 _, ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1024 ≤ (i 1).val ∧ (i 1).val < win0_2.index _ 1 * 1024 + 1024
              rw [h1]; dsimp only; omega

theorem final_out : (dats m 0 c).arrAt 2 cfg0.N = prod (V m c main_arg0) (V m c main_arg1) :=
  (dats m 0 c).arrAt_eq_of_cover 2 _ (flushed_out m c) cover_out
end Array

end Cert.OutProjDxIdeal.Prod

namespace Cert.OutProjDxRefIdeal.Prod

open Cert.OutProjDxRefIdeal Cert.OutProjDxRefIdeal.Gen Idealize.ShloMosaic Idealize.ShloMosaic.TcCoe
variable (a : FVec Ideal S4096x2048 .bf16) (b : FVec Ideal S2048x2048 .bf16)

/-- The reference's result. -/
def wanted : FVec Ideal S4096x2048 .f32 :=
  Host.dotGeneral dot_S4096x2048_S2048x2048_S4096x2048_1_1_0_0_n_n none (extf .f32 a bitsLt_bf16_f32) (extf .f32 b bitsLt_bf16_f32)

theorem wanted_at (i : Fin 4096) (j : Fin 2048) : wanted a b (ix2 i j) = ∑ k : Fin 2048, a (ix2 i k) * b (ix2 j k) := by
  pointwise [wanted]

theorem meet : Cert.OutProjDxIdeal.Prod.prod a b = wanted a b := by
  funext x
  idx_vars x
  exact (wanted_at a b x0 x1).symm

end Cert.OutProjDxRefIdeal.Prod

end
-- ==== Proof.OutProjDxClaims.lean ====
module

public import proofs.«01_k».proof.Defs
public import proofs.«01_k».proof.Proof.Gen.OutProjDx
public import proofs.«01_k».proof.Proof.OutProjDx
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.OutProjDx

open Idealize.ShloMosaic Idealize.SL.Sem

/-- The kernel's body is the idealized program's, word for word. -/
theorem bodies_eq : Cert.OutProjDx.defs₀ (F := Bits) = Cert.OutProjDxIdeal.defs₀ (F := Bits) := by
  unfold Cert.OutProjDx.defs₀ Cert.OutProjDxIdeal.defs₀
  refine congrArg Defs.onTc ?_
  funext l a
  match l, a with
  | 0, (t, s) => rfl

theorem table_eq : Cert.OutProjDx.defs (F := Bits) = Cert.OutProjDxIdeal.defs (F := Bits) :=
  congrArg (Pipeline.defs Cert.OutProjDxIdeal.pcfgs) bodies_eq

theorem main_eq : Cert.OutProjDx.main (F := Bits) = Cert.OutProjDxIdeal.main (F := Bits) := by rfl

theorem frame_P : Cert.quiescent_OutProjDx := fun m ρ _ => by
  rw [table_eq, main_eq]
  exact Cert.OutProjDxIdeal.Gen.frame (F := Bits) m ρ

theorem frame_PI : Cert.quiescent_OutProjDxIdeal := fun m ρ _ => Cert.OutProjDxIdeal.Gen.frame (F := Ideal) m ρ

/-- The reference declares no semaphore. -/
theorem frame_RI : Cert.quiescent_OutProjDxRefIdeal := fun m ρ _ =>
  (θ_run Cert.OutProjDxRefIdeal.defs _ _).mono (fun r h => ⟨fun c => (h c).2, sem_eq_zero_of_no_sems (by decide) r.2⟩)
    (Cert.OutProjDxRefIdeal.Value.run (F := Ideal) m ρ)

/-- The common value is the reference's result. -/
theorem algebraic : Cert.algebraic_OutProjDxIdeal_OutProjDxRefIdeal := fun m ρ m' ρ' _ hagree =>
  ⟨fun c => Cert.OutProjDxRefIdeal.Prod.wanted (m' (c.tc.loc Cert.OutProjDxRefIdeal.main_arg0)) (m' (c.tc.loc Cert.OutProjDxRefIdeal.main_arg1)),
    (θ_run Cert.OutProjDxIdeal.defs _ _).mono (fun _ h c =>
      ⟨((h c).1.trans (Cert.OutProjDxIdeal.Prod.final_out m c)).trans (by
          beta_reduce
          rw [Cert.OutProjDxIdeal.Gen.V_main_arg0, Cert.OutProjDxIdeal.Gen.V_main_arg1, (hagree c).1, (hagree c).2]
          exact Cert.OutProjDxRefIdeal.Prod.meet _ _), (h c).2⟩)
      (Cert.OutProjDxIdeal.Value.run_blocks (F := Ideal) m ρ),
    Cert.OutProjDxRefIdeal.Value.run (F := Ideal) m' ρ'⟩

end Cert.Proof.OutProjDx

end
-- ==== Proof.OutProjDw.lean ====
module

public import proofs.«01_k».proof.Proof.Blocks
public import proofs.«01_k».proof.Proof.Gen.OutProjDwIdeal.Value
public import proofs.«01_k».proof.Proof.Gen.OutProjDwRefIdeal.Run
public import Idealize.ShloMosaic.Lib.Tactic.IndexArith
public import Idealize.ShloMosaic.Lib.StableHlo.RunRead
public import Idealize.ShloMosaic.Lib.Claim

/-! The gradient of the output projection's weights. -/

@[expose] public section

set_option maxRecDepth 16384

noncomputable section

namespace Cert.OutProjDwIdeal.Prod

open Cert.OutProjDwIdeal Cert.OutProjDwIdeal.Gen Idealize.ShloMosaic Idealize.ShloMosaic.TcCoe
open Cert.Prod (zeros zeros3)

section Cases
variable {F : FTy → Type} [FloatOps F] (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec F S2048x1024 .bf16) (x1 : Vec F S2048x1024 .bf16) (xs : Vec F S1024x1024 .f32)

theorem first_acc (h0 : cond0_0 i) (h1 : ¬cond0_1 i) : sout0_A_0 c i arg3 harg3 arg4 harg4 arg5 harg5 arg6 harg6 h0 h1 x0 x1 = k0_pay2 k0_pay1 x0 x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S1024x1024) zeros, View.readCov_unit_zero (S := S1024x1024) _ zeros]
  simp only [View.readAt_eq_ld, Memref.IsWhole.read_unread, View.ld_unit_zero (S := S2048x1024) zeros]

theorem last_out (h0 : ¬cond0_0 i) (h1 : cond0_1 i) : out0_B_2 c i arg3 harg3 arg4 harg4 arg5 harg5 arg6 harg6 h0 h1 x0 x1 xs = k0_pay3 (k0_pay2 xs x0 x1) := by
  unfold out0_B_2
  refine Eq.trans (View.read_writes_eq_canon _ _ _ fun _ => cover0_B_2 ..) ?_
  unfold kernelRun0_B
  dsimp only
  sl_unfold_words
  rw [View.canon_unit_zero zeros, View.readCov_unit_zero (S := S1024x1024) _ zeros]
  simp only [View.readAt_eq_ld, Memref.IsWhole.read_unread, View.ld_unit_zero (S := S2048x1024) zeros, View.ld_unit_zero (S := S1024x1024) zeros]

end Cases

section Payloads
variable (x0 : Vec Ideal S2048x1024 .bf16) (x1 : Vec Ideal S2048x1024 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 k i) * x1 (ix2 k j) := by
  pointwise [k0_pay2]
theorem done_at : k0_pay3 xs (ix2 i j) = xs (ix2 i j) := by
  pointwise [k0_pay3]
end Payloads

theorem coords : ∀ t : Fin cfg0.N, (win0_0.index t 0 = t.val % 2 ∧ win0_0.index t 1 = t.val / 4)
    ∧ (win0_1.index t 0 = t.val % 2 ∧ win0_1.index t 1 = t.val / 2 % 2)
    ∧ (win0_2.index t 0 = t.val / 4 ∧ win0_2.index t 1 = t.val / 2 % 2) := by
  decide +kernel

section Array
variable (m : (ℓ : Loc nD τ sig) → Buf (Elt Ideal) ℓ) (c : Dev nD)

theorem lhs_at (t : Fin cfg0.N) (a : Fin 2048) (b : Fin 1024) (r : Fin 4096) (s : Fin 2048) (hr : r.val = t.val % 2 * 2048 + a.val) (hs : s.val = t.val / 4 * 1024 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 2048 + 1 * a.val = r.val; rw [h0, hr, Nat.one_mul]
    | ⟨1, _⟩ => by show win0_0.index t 1 * 1024 + 1 * b.val = s.val; rw [h1, hs, Nat.one_mul])
  show V m c main_arg0 (((cfg0.win 0).blk t).view.emb (ix2 a b)) = _
  rw [he]
theorem rhs_at (t : Fin cfg0.N) (a : Fin 2048) (b : Fin 1024) (r : Fin 4096) (s : Fin 2048) (hr : r.val = t.val % 2 * 2048 + a.val) (hs : s.val = t.val / 2 % 2 * 1024 + b.val) :
    iblk m c 1 t (ix2 a b) = V m c main_arg1 (ix2 r s) := by
  obtain ⟨-, ⟨h0, h1⟩, -⟩ := coords t
  have he : ((cfg0.win 1).blk t).view.emb (ix2 a b) = (ix2 r s : S4096x2048.Idx) := funext fun d => Fin.ext (match d with
    | ⟨0, _⟩ => by show win0_1.index t 0 * 2048 + 1 * a.val = r.val; rw [h0, hr, Nat.one_mul]
    | ⟨1, _⟩ => by show win0_1.index t 1 * 1024 + 1 * b.val = s.val; rw [h1, hs, Nat.one_mul])
  show V m c main_arg1 (((cfg0.win 1).blk t).view.emb (ix2 a b)) = _
  rw [he]
/-- One entry of the product of two arrays. -/
def sums (A : FVec Ideal S4096x2048 .bf16) (B : FVec Ideal S4096x2048 .bf16) (i : Fin 2048) (j : Fin 2048) : EReal := ∑ k : Fin 4096, A (ix2 k i) * B (ix2 k j)
/-- The product of two arrays. -/
def prod (A : FVec Ideal S4096x2048 .bf16) (B : FVec Ideal S4096x2048 .bf16) : FVec Ideal S2048x2048 .bf16 := fun x =>
  sums A B (x 0) (x 1)

theorem N_val : cfg0.N = 8 := N_0

theorem out_at (t : Fin cfg0.N) (ht : t.val % 2 = 1) (i : Fin 1024) (j : Fin 1024) (r : Fin 2048) (s : Fin 2048) (hr : r.val = t.val / 4 * 1024 + i.val) (hs : s.val = t.val / 2 % 2 * 1024 + j.val) :
    (outsAt0 m c t.val t.isLt).1 (ix2 i j) = prod (V m c main_arg0) (V m c main_arg1) (ix2 r s) := by
  have hN : t.val < 8 := lt_of_lt_of_eq t.isLt N_val
  have e1 := congrArg Prod.snd (outsAt0_A m c ⟨t.val - 1, by omega⟩ (by dsimp only; omega) (by dsimp only; omega))
  have e2 := congrArg Prod.fst (outsAt0_B m c t (by omega) ht)
  dsimp only at e1 e2
  rw [e2, last_out, done_at, step_at, e1, first_acc, step_at, zero_at, zero_add]
  show _ = sums (V m c main_arg0) (V m c main_arg1) r s
  unfold sums
  refine Eq.trans ?_ (Cert.Prod.sum_two 2048 _).symm
  refine congrArg₂ (· + ·) (Finset.sum_congr rfl fun k _ => ?_) (Finset.sum_congr rfl fun k _ => ?_) <;>
    refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 8 := lt_of_lt_of_eq t.isLt N_val
  rw [Value.flushed2]
  funext y
  show (outsAt0 m c t.val t.isLt).1 y = prod (V m c main_arg0) (V m c main_arg1) (((cfg0.win 2).blk t).view.emb y)
  have y0 : (y 0).val < 1024 := (y 0).isLt
  have y1 : (y 1).val < 1024 := (y 1).isLt
  have he : ((cfg0.win 2).blk t).view.emb y = (ix2 ⟨t.val / 4 * 1024 + (y 0).val, by omega⟩ ⟨t.val / 2 % 2 * 1024 + (y 1).val, by omega⟩ : S2048x2048.Idx) := funext fun d => Fin.ext (match d with
    | ⟨0, _⟩ => by show win0_2.index t 0 * 1024 + 1 * (y 0).val = t.val / 4 * 1024 + (y 0).val; rw [h0, Nat.one_mul]
    | ⟨1, _⟩ => by show win0_2.index t 1 * 1024 + 1 * (y 1).val = t.val / 2 % 2 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t ((flush0_2 t).mp hf) _ _ _ _ rfl rfl

theorem cover_out (i : S2048x2048.Idx) : ∃ t : Fin cfg0.N, (cfg0.win 2).flush t = true ∧ i ∈ ((cfg0.win 2).blk t).view.set := by
  have i0 : (i 0).val < 2048 := (i 0).isLt
  have i1 : (i 1).val < 2048 := (i 1).isLt
  have hb : 4 * ((i 0).val / 1024) + 2 * ((i 1).val / 1024) + 1 < cfg0.N := by rw [N_val]; omega
  obtain ⟨-, -, h0, h1⟩ := coords ⟨_, hb⟩
  refine ⟨⟨_, hb⟩, (flush0_2 _).mpr (by dsimp only; omega), ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1024 ≤ (i 1).val ∧ (i 1).val < win0_2.index _ 1 * 1024 + 1024
              rw [h1]; dsimp only; omega

theorem final_out : (dats m 0 c).arrAt 2 cfg0.N = prod (V m c main_arg0) (V m c main_arg1) :=
  (dats m 0 c).arrAt_eq_of_cover 2 _ (flushed_out m c) cover_out
end Array

end Cert.OutProjDwIdeal.Prod

namespace Cert.OutProjDwRefIdeal.Prod

open Cert.OutProjDwRefIdeal Cert.OutProjDwRefIdeal.Gen Idealize.ShloMosaic Idealize.ShloMosaic.TcCoe
variable (a : FVec Ideal S4096x2048 .bf16) (b : FVec Ideal S4096x2048 .bf16)

/-- The reference's result. -/
def wanted : FVec Ideal S2048x2048 .bf16 :=
  truncf .bf16 (transpose S2048x2048 [1, 0] (Host.dotGeneral dot_S4096x2048_S4096x2048_S2048x2048_0_0_1_1_n_n none (extf .f32 b bitsLt_bf16_f32) (extf .f32 a bitsLt_bf16_f32)) transposes_S2048x2048_S2048x2048_1_0) bitsLt_bf16_f32

theorem wanted_at (i : Fin 2048) (j : Fin 2048) : wanted a b (ix2 i j) = ∑ k : Fin 4096, b (ix2 k j) * a (ix2 k i) := by
  pointwise [wanted]

theorem meet : Cert.OutProjDwIdeal.Prod.prod a b = wanted a b := by
  funext x
  idx_vars x
  show ∑ k : Fin 4096, a (ix2 k x0) * b (ix2 k x1) = _
  rw [wanted_at]
  exact Finset.sum_congr rfl fun k _ => mul_comm _ _

end Cert.OutProjDwRefIdeal.Prod

end
-- ==== Proof.OutProjDwClaims.lean ====
module

public import proofs.«01_k».proof.Defs
public import proofs.«01_k».proof.Proof.Gen.OutProjDw
public import proofs.«01_k».proof.Proof.OutProjDw
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.OutProjDw

open Idealize.ShloMosaic Idealize.SL.Sem

/-- The kernel's body is the idealized program's, word for word. -/
theorem bodies_eq : Cert.OutProjDw.defs₀ (F := Bits) = Cert.OutProjDwIdeal.defs₀ (F := Bits) := by
  unfold Cert.OutProjDw.defs₀ Cert.OutProjDwIdeal.defs₀
  refine congrArg Defs.onTc ?_
  funext l a
  match l, a with
  | 0, (t, s) => rfl

theorem table_eq : Cert.OutProjDw.defs (F := Bits) = Cert.OutProjDwIdeal.defs (F := Bits) :=
  congrArg (Pipeline.defs Cert.OutProjDwIdeal.pcfgs) bodies_eq

theorem main_eq : Cert.OutProjDw.main (F := Bits) = Cert.OutProjDwIdeal.main (F := Bits) := by rfl

theorem frame_P : Cert.quiescent_OutProjDw := fun m ρ _ => by
  rw [table_eq, main_eq]
  exact Cert.OutProjDwIdeal.Gen.frame (F := Bits) m ρ

theorem frame_PI : Cert.quiescent_OutProjDwIdeal := fun m ρ _ => Cert.OutProjDwIdeal.Gen.frame (F := Ideal) m ρ

/-- The reference declares no semaphore. -/
theorem frame_RI : Cert.quiescent_OutProjDwRefIdeal := fun m ρ _ =>
  (θ_run Cert.OutProjDwRefIdeal.defs _ _).mono (fun r h => ⟨fun c => (h c).2, sem_eq_zero_of_no_sems (by decide) r.2⟩)
    (Cert.OutProjDwRefIdeal.Value.run (F := Ideal) m ρ)

/-- The common value is the reference's result. -/
theorem algebraic : Cert.algebraic_OutProjDwIdeal_OutProjDwRefIdeal := fun m ρ m' ρ' _ hagree =>
  ⟨fun c => Cert.OutProjDwRefIdeal.Prod.wanted (m' (c.tc.loc Cert.OutProjDwRefIdeal.main_arg0)) (m' (c.tc.loc Cert.OutProjDwRefIdeal.main_arg1)),
    (θ_run Cert.OutProjDwIdeal.defs _ _).mono (fun _ h c =>
      ⟨((h c).1.trans (Cert.OutProjDwIdeal.Prod.final_out m c)).trans (by
          beta_reduce
          rw [Cert.OutProjDwIdeal.Gen.V_main_arg0, Cert.OutProjDwIdeal.Gen.V_main_arg1, (hagree c).1, (hagree c).2]
          exact Cert.OutProjDwRefIdeal.Prod.meet _ _), (h c).2⟩)
      (Cert.OutProjDwIdeal.Value.run_blocks (F := Ideal) m ρ),
    Cert.OutProjDwRefIdeal.Value.run (F := Ideal) m' ρ'⟩

end Cert.Proof.OutProjDw

end
-- ==== Proof.InProjDw.lean ====
module

public import proofs.«01_k».proof.Proof.Blocks
public import proofs.«01_k».proof.Proof.Gen.InProjDwIdeal.Value
public import proofs.«01_k».proof.Proof.Gen.InProjDwRefIdeal.Run
public import Idealize.ShloMosaic.Lib.Tactic.IndexArith
public import Idealize.ShloMosaic.Lib.StableHlo.RunRead
public import Idealize.ShloMosaic.Lib.Claim

/-! The gradient of the input projection's weights. -/

@[expose] public section

set_option maxRecDepth 16384

noncomputable section

namespace Cert.InProjDwIdeal.Prod

open Cert.InProjDwIdeal Cert.InProjDwIdeal.Gen Idealize.ShloMosaic Idealize.ShloMosaic.TcCoe
open Cert.Prod (zeros zeros3)

section Cases
variable {F : FTy → Type} [FloatOps F] (c : Dev nD) (i : grid0.Coords) (arg3 : Memref sig .tc .vmem S2048x1024 .bf16) (harg3 : arg3.IsWhole) (arg4 : Memref sig .tc .vmem S2048x1152 .bf16) (harg4 : arg4.IsWhole) (arg5 : Memref sig .tc .vmem S1024x1152 .bf16) (harg5 : arg5.IsWhole) (arg6 : Memref sig .tc .vmem S1024x1152 .f32) (harg6 : arg6.IsWhole)
  (x0 : Vec F S2048x1024 .bf16) (x1 : Vec F S2048x1152 .bf16) (xs : Vec F S1024x1152 .f32)

theorem first_acc (h0 : cond0_0 i) (h1 : ¬cond0_1 i) : sout0_A_0 c i arg3 harg3 arg4 harg4 arg5 harg5 arg6 harg6 h0 h1 x0 x1 = k0_pay2 k0_pay1 x0 x1 := by
  unfold sout0_A_0
  rw [View.read_writes_eq_canon _ _ _ (scover0_A_0 c i arg3 harg3 arg4 harg4 arg5 harg5 arg6 harg6 h0 h1 x0 x1)]
  unfold kernelRun0_A
  dsimp only
  sl_unfold_words
  rw [View.canon_cons_unit_zero (S := S1024x1152) zeros, View.readCov_unit_zero (S := S1024x1152) _ zeros]
  simp only [View.readAt_eq_ld, Memref.IsWhole.read_unread, View.ld_unit_zero (S := S2048x1024) zeros, View.ld_unit_zero (S := S2048x1152) zeros]

theorem last_out (h0 : ¬cond0_0 i) (h1 : cond0_1 i) : out0_B_2 c i arg3 harg3 arg4 harg4 arg5 harg5 arg6 harg6 h0 h1 x0 x1 xs = k0_pay3 (k0_pay2 xs x0 x1) := by
  unfold out0_B_2
  refine Eq.trans (View.read_writes_eq_canon _ _ _ fun _ => cover0_B_2 ..) ?_
  unfold kernelRun0_B
  dsimp only
  sl_unfold_words
  rw [View.canon_unit_zero zeros, View.readCov_unit_zero (S := S1024x1152) _ zeros]
  simp only [View.readAt_eq_ld, Memref.IsWhole.read_unread, View.ld_unit_zero (S := S2048x1024) zeros, View.ld_unit_zero (S := S2048x1152) zeros, View.ld_unit_zero (S := S1024x1152) zeros]

end Cases

section Payloads
variable (x0 : Vec Ideal S2048x1024 .bf16) (x1 : Vec Ideal S2048x1152 .bf16) (xs : Vec Ideal S1024x1152 .f32) (i : Fin 1024) (j : Fin 1152)

theorem zero_at : (k0_pay1 (F := Ideal)) (ix2 i j) = 0 := by
  pointwise [k0_pay1]
theorem step_at : k0_pay2 xs x0 x1 (ix2 i j) = xs (ix2 i j) + ∑ k : Fin 2048, x0 (ix2 k i) * x1 (ix2 k j) := by
  pointwise [k0_pay2]
theorem done_at : k0_pay3 xs (ix2 i j) = xs (ix2 i j) := by
  pointwise [k0_pay3]
end Payloads

theorem coords : ∀ t : Fin cfg0.N, (win0_0.index t 0 = t.val % 2 ∧ win0_0.index t 1 = t.val / 10)
    ∧ (win0_1.index t 0 = t.val % 2 ∧ win0_1.index t 1 = t.val / 2 % 5)
    ∧ (win0_2.index t 0 = t.val / 10 ∧ win0_2.index t 1 = t.val / 2 % 5) := by
  decide +kernel

section Array
variable (m : (ℓ : Loc nD τ sig) → Buf (Elt Ideal) ℓ) (c : Dev nD)

theorem lhs_at (t : Fin cfg0.N) (a : Fin 2048) (b : Fin 1024) (r : Fin 4096) (s : Fin 2048) (hr : r.val = t.val % 2 * 2048 + a.val) (hs : s.val = t.val / 10 * 1024 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 2048 + 1 * a.val = r.val; rw [h0, hr, Nat.one_mul]
    | ⟨1, _⟩ => by show win0_0.index t 1 * 1024 + 1 * b.val = s.val; rw [h1, hs, Nat.one_mul])
  show V m c main_arg0 (((cfg0.win 0).blk t).view.emb (ix2 a b)) = _
  rw [he]
theorem rhs_at (t : Fin cfg0.N) (a : Fin 2048) (b : Fin 1152) (r : Fin 4096) (s : Fin 5760) (hr : r.val = t.val % 2 * 2048 + a.val) (hs : s.val = t.val / 2 % 5 * 1152 + b.val) :
    iblk m c 1 t (ix2 a b) = V m c main_arg1 (ix2 r s) := by
  obtain ⟨-, ⟨h0, h1⟩, -⟩ := coords t
  have he : ((cfg0.win 1).blk t).view.emb (ix2 a b) = (ix2 r s : S4096x5760.Idx) := funext fun d => Fin.ext (match d with
    | ⟨0, _⟩ => by show win0_1.index t 0 * 2048 + 1 * a.val = r.val; rw [h0, hr, Nat.one_mul]
    | ⟨1, _⟩ => by show win0_1.index t 1 * 1152 + 1 * b.val = s.val; rw [h1, hs, Nat.one_mul])
  show V m c main_arg1 (((cfg0.win 1).blk t).view.emb (ix2 a b)) = _
  rw [he]
/-- One entry of the product of two arrays. -/
def sums (A : FVec Ideal S4096x2048 .bf16) (B : FVec Ideal S4096x5760 .bf16) (i : Fin 2048) (j : Fin 5760) : EReal := ∑ k : Fin 4096, A (ix2 k i) * B (ix2 k j)
/-- The product of two arrays. -/
def prod (A : FVec Ideal S4096x2048 .bf16) (B : FVec Ideal S4096x5760 .bf16) : FVec Ideal S2048x5760 .bf16 := fun x =>
  sums A B (x 0) (x 1)

theorem N_val : cfg0.N = 20 := N_0

theorem out_at (t : Fin cfg0.N) (ht : t.val % 2 = 1) (i : Fin 1024) (j : Fin 1152) (r : Fin 2048) (s : Fin 5760) (hr : r.val = t.val / 10 * 1024 + i.val) (hs : s.val = t.val / 2 % 5 * 1152 + j.val) :
    (outsAt0 m c t.val t.isLt).1 (ix2 i j) = prod (V m c main_arg0) (V m c main_arg1) (ix2 r s) := by
  have hN : t.val < 20 := lt_of_lt_of_eq t.isLt N_val
  have e1 := congrArg Prod.snd (outsAt0_A m c ⟨t.val - 1, by omega⟩ (by dsimp only; omega) (by dsimp only; omega))
  have e2 := congrArg Prod.fst (outsAt0_B m c t (by omega) ht)
  dsimp only at e1 e2
  rw [e2, last_out, done_at, step_at, e1, first_acc, step_at, zero_at, zero_add]
  show _ = sums (V m c main_arg0) (V m c main_arg1) r s
  unfold sums
  refine Eq.trans ?_ (Cert.Prod.sum_two 2048 _).symm
  refine congrArg₂ (· + ·) (Finset.sum_congr rfl fun k _ => ?_) (Finset.sum_congr rfl fun k _ => ?_) <;>
    refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 20 := lt_of_lt_of_eq t.isLt N_val
  rw [Value.flushed2]
  funext y
  show (outsAt0 m c t.val t.isLt).1 y = prod (V m c main_arg0) (V m c main_arg1) (((cfg0.win 2).blk t).view.emb y)
  have y0 : (y 0).val < 1024 := (y 0).isLt
  have y1 : (y 1).val < 1152 := (y 1).isLt
  have he : ((cfg0.win 2).blk t).view.emb y = (ix2 ⟨t.val / 10 * 1024 + (y 0).val, by omega⟩ ⟨t.val / 2 % 5 * 1152 + (y 1).val, by omega⟩ : S2048x5760.Idx) := funext fun d => Fin.ext (match d with
    | ⟨0, _⟩ => by show win0_2.index t 0 * 1024 + 1 * (y 0).val = t.val / 10 * 1024 + (y 0).val; rw [h0, Nat.one_mul]
    | ⟨1, _⟩ => by show win0_2.index t 1 * 1152 + 1 * (y 1).val = t.val / 2 % 5 * 1152 + (y 1).val; rw [h1, Nat.one_mul])
  have hy : y = (ix2 ⟨(y 0).val, y0⟩ ⟨(y 1).val, y1⟩ : S1024x1152.Idx) := funext fun d => match d with
    | ⟨0, _⟩ => rfl
    | ⟨1, _⟩ => rfl
  rw [he]
  conv_lhs => rw [hy]
  exact out_at m c t ((flush0_2 t).mp hf) _ _ _ _ rfl rfl

theorem cover_out (i : S2048x5760.Idx) : ∃ t : Fin cfg0.N, (cfg0.win 2).flush t = true ∧ i ∈ ((cfg0.win 2).blk t).view.set := by
  have i0 : (i 0).val < 2048 := (i 0).isLt
  have i1 : (i 1).val < 5760 := (i 1).isLt
  have hb : 10 * ((i 0).val / 1024) + 2 * ((i 1).val / 1152) + 1 < cfg0.N := by rw [N_val]; omega
  obtain ⟨-, -, h0, h1⟩ := coords ⟨_, hb⟩
  refine ⟨⟨_, hb⟩, (flush0_2 _).mpr (by dsimp only; omega), ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1152 ≤ (i 1).val ∧ (i 1).val < win0_2.index _ 1 * 1152 + 1152
              rw [h1]; dsimp only; omega

theorem final_out : (dats m 0 c).arrAt 2 cfg0.N = prod (V m c main_arg0) (V m c main_arg1) :=
  (dats m 0 c).arrAt_eq_of_cover 2 _ (flushed_out m c) cover_out
end Array

end Cert.InProjDwIdeal.Prod

namespace Cert.InProjDwRefIdeal.Prod

open Cert.InProjDwRefIdeal Cert.InProjDwRefIdeal.Gen Idealize.ShloMosaic Idealize.ShloMosaic.TcCoe
variable (a : FVec Ideal S4096x2048 .bf16) (b : FVec Ideal S4096x5760 .bf16)

/-- The reference's result. -/
def wanted : FVec Ideal S2048x5760 .bf16 :=
  truncf .bf16 (transpose S2048x5760 [1, 0] (Host.dotGeneral dot_S4096x5760_S4096x2048_S5760x2048_0_0_1_1_n_n none (extf .f32 b bitsLt_bf16_f32) (extf .f32 a bitsLt_bf16_f32)) transposes_S5760x2048_S2048x5760_1_0) bitsLt_bf16_f32

theorem wanted_at (i : Fin 2048) (j : Fin 5760) : wanted a b (ix2 i j) = ∑ k : Fin 4096, b (ix2 k j) * a (ix2 k i) := by
  pointwise [wanted]

theorem meet : Cert.InProjDwIdeal.Prod.prod a b = wanted a b := by
  funext x
  idx_vars x
  show ∑ k : Fin 4096, a (ix2 k x0) * b (ix2 k x1) = _
  rw [wanted_at]
  exact Finset.sum_congr rfl fun k _ => mul_comm _ _

end Cert.InProjDwRefIdeal.Prod

end
-- ==== Proof.InProjDwClaims.lean ====
module

public import proofs.«01_k».proof.Defs
public import proofs.«01_k».proof.Proof.Gen.InProjDw
public import proofs.«01_k».proof.Proof.InProjDw
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.InProjDw

open Idealize.ShloMosaic Idealize.SL.Sem

/-- The kernel's body is the idealized program's, word for word. -/
theorem bodies_eq : Cert.InProjDw.defs₀ (F := Bits) = Cert.InProjDwIdeal.defs₀ (F := Bits) := by
  unfold Cert.InProjDw.defs₀ Cert.InProjDwIdeal.defs₀
  refine congrArg Defs.onTc ?_
  funext l a
  match l, a with
  | 0, (t, s) => rfl

theorem table_eq : Cert.InProjDw.defs (F := Bits) = Cert.InProjDwIdeal.defs (F := Bits) :=
  congrArg (Pipeline.defs Cert.InProjDwIdeal.pcfgs) bodies_eq

theorem main_eq : Cert.InProjDw.main (F := Bits) = Cert.InProjDwIdeal.main (F := Bits) := by rfl

theorem frame_P : Cert.quiescent_InProjDw := fun m ρ _ => by
  rw [table_eq, main_eq]
  exact Cert.InProjDwIdeal.Gen.frame (F := Bits) m ρ

theorem frame_PI : Cert.quiescent_InProjDwIdeal := fun m ρ _ => Cert.InProjDwIdeal.Gen.frame (F := Ideal) m ρ

/-- The reference declares no semaphore. -/
theorem frame_RI : Cert.quiescent_InProjDwRefIdeal := fun m ρ _ =>
  (θ_run Cert.InProjDwRefIdeal.defs _ _).mono (fun r h => ⟨fun c => (h c).2, sem_eq_zero_of_no_sems (by decide) r.2⟩)
    (Cert.InProjDwRefIdeal.Value.run (F := Ideal) m ρ)

/-- The common value is the reference's result. -/
theorem algebraic : Cert.algebraic_InProjDwIdeal_InProjDwRefIdeal := fun m ρ m' ρ' _ hagree =>
  ⟨fun c => Cert.InProjDwRefIdeal.Prod.wanted (m' (c.tc.loc Cert.InProjDwRefIdeal.main_arg0)) (m' (c.tc.loc Cert.InProjDwRefIdeal.main_arg1)),
    (θ_run Cert.InProjDwIdeal.defs _ _).mono (fun _ h c =>
      ⟨((h c).1.trans (Cert.InProjDwIdeal.Prod.final_out m c)).trans (by
          beta_reduce
          rw [Cert.InProjDwIdeal.Gen.V_main_arg0, Cert.InProjDwIdeal.Gen.V_main_arg1, (hagree c).1, (hagree c).2]
          exact Cert.InProjDwRefIdeal.Prod.meet _ _), (h c).2⟩)
      (Cert.InProjDwIdeal.Value.run_blocks (F := Ideal) m ρ),
    Cert.InProjDwRefIdeal.Value.run (F := Ideal) m' ρ'⟩

end Cert.Proof.InProjDw

end
-- ==== Proof.InProjDx.lean ====
module

public import proofs.«01_k».proof.Proof.Blocks
public import proofs.«01_k».proof.Proof.Gen.InProjDxIdeal.Value
public import proofs.«01_k».proof.Proof.Gen.InProjDxRefIdeal.Run
public import Idealize.ShloMosaic.Lib.Tactic.IndexArith
public import Idealize.ShloMosaic.Lib.StableHlo.RunRead
public import Idealize.ShloMosaic.Lib.Claim

/-! The input projection's backward product with its weights, summed over three parts of the columns. -/

@[expose] public section

set_option maxRecDepth 16384

noncomputable section

namespace Cert.InProjDxIdeal.Prod

open Cert.InProjDxIdeal Cert.InProjDxIdeal.Gen Idealize.ShloMosaic Idealize.ShloMosaic.TcCoe
open Cert.Prod (zeros zeros3)

section Cases
variable {F : FTy → Type} [FloatOps F] (c : Dev nD) (i : grid0.Coords) (arg3 : Memref sig .tc .vmem S1024x1920 .bf16) (harg3 : arg3.IsWhole) (arg4 : Memref sig .tc .vmem S1024x1920 .bf16) (harg4 : arg4.IsWhole) (arg6 : Memref sig .tc .vmem S1024x1024 .f32) (harg6 : arg6.IsWhole) (arg7 : Memref sig .tc .vmem S1024x1024 .f32) (harg7 : arg7.IsWhole)
  (x0 : Vec F S1024x1920 .bf16) (x1 : Vec F S1024x1920 .bf16) (xs : Vec F S1024x1024 .f32)

theorem first_acc (h0 : cond0_0 i) (h1 : ¬cond0_1 i) : sout0_A_0 c i arg3 harg3 arg4 harg4 arg6 harg6 arg7 harg7 h0 h1 x0 x1 = k0_pay2 k0_pay1 x0 x1 := by
  unfold sout0_A_0
  rw [View.read_writes_eq_canon _ _ _ (scover0_A_0 c i arg3 harg3 arg4 harg4 arg6 harg6 arg7 harg7 h0 h1 x0 x1)]
  unfold kernelRun0_A
  dsimp only
  sl_unfold_words
  rw [View.canon_cons_unit_zero (S := S1024x1024) zeros, View.readCov_unit_zero (S := S1024x1024) _ zeros]
  simp only [View.readAt_eq_ld, Memref.IsWhole.read_unread, View.ld_unit_zero (S := S1024x1920) zeros]

theorem next_acc (h0 : ¬cond0_0 i) (h1 : ¬cond0_1 i) : sout0_B_0 c i arg3 harg3 arg4 harg4 arg6 harg6 arg7 harg7 h0 h1 x0 x1 xs = k0_pay2 xs x0 x1 := by
  unfold sout0_B_0
  rw [View.read_writes_eq_canon _ _ _ (scover0_B_0 c i arg3 harg3 arg4 harg4 arg6 harg6 arg7 harg7 h0 h1 x0 x1 xs)]
  unfold kernelRun0_B
  dsimp only
  rw [View.canon_unit_zero zeros]
  simp only [View.readAt_eq_ld, Memref.IsWhole.read_unread, View.ld_unit_zero (S := S1024x1920) zeros, View.ld_unit_zero (S := S1024x1024) zeros]

theorem last_out (h0 : ¬cond0_0 i) (h1 : cond0_1 i) : out0_C_2 c i arg3 harg3 arg4 harg4 arg6 harg6 arg7 harg7 h0 h1 x0 x1 xs = k0_pay2 xs x0 x1 := by
  unfold out0_C_2
  refine Eq.trans (View.read_writes_eq_canon _ _ _ fun _ => cover0_C_2 ..) ?_
  unfold kernelRun0_C
  dsimp only
  sl_unfold_words
  rw [View.canon_unit_zero zeros, View.readCov_unit_zero (S := S1024x1024) _ zeros]
  simp only [View.readAt_eq_ld, Memref.IsWhole.read_unread, View.ld_unit_zero (S := S1024x1920) zeros, View.ld_unit_zero (S := S1024x1024) zeros]

end Cases

section Payloads
variable (x0 : Vec Ideal S1024x1920 .bf16) (x1 : Vec Ideal S1024x1920 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 1920, x0 (ix2 i k) * x1 (ix2 j k) := by
  pointwise [k0_pay2]
end Payloads

theorem coords : ∀ t : Fin cfg0.N, (win0_0.index t 0 = t.val / 6 ∧ win0_0.index t 1 = t.val % 3)
    ∧ (win0_1.index t 0 = t.val / 3 % 2 ∧ win0_1.index t 1 = t.val % 3)
    ∧ (win0_2.index t 0 = t.val / 6 ∧ win0_2.index t 1 = t.val / 3 % 2) := by
  decide +kernel

section Array
variable (m : (ℓ : Loc nD τ sig) → Buf (Elt Ideal) ℓ) (c : Dev nD)

theorem lhs_at (t : Fin cfg0.N) (a : Fin 1024) (b : Fin 1920) (r : Fin 4096) (s : Fin 5760) (hr : r.val = t.val / 6 * 1024 + a.val) (hs : s.val = t.val % 3 * 1920 + b.val) :
    iblk m c 0 t (ix2 a b) = V m c main_arg0 (ix2 r s) := by
  obtain ⟨⟨h0, h1⟩, -⟩ := coords t
  have he : ((cfg0.win 0).blk t).view.emb (ix2 a b) = (ix2 r s : S4096x5760.Idx) := funext fun d => Fin.ext (match d with
    | ⟨0, _⟩ => by show win0_0.index t 0 * 1024 + 1 * a.val = r.val; rw [h0, hr, Nat.one_mul]
    | ⟨1, _⟩ => by show win0_0.index t 1 * 1920 + 1 * b.val = s.val; rw [h1, hs, Nat.one_mul])
  show V m c main_arg0 (((cfg0.win 0).blk t).view.emb (ix2 a b)) = _
  rw [he]
theorem rhs_at (t : Fin cfg0.N) (a : Fin 1024) (b : Fin 1920) (r : Fin 2048) (s : Fin 5760) (hr : r.val = t.val / 3 % 2 * 1024 + a.val) (hs : s.val = t.val % 3 * 1920 + b.val) :
    iblk m c 1 t (ix2 a b) = V m c main_arg1 (ix2 r s) := by
  obtain ⟨-, ⟨h0, h1⟩, -⟩ := coords t
  have he : ((cfg0.win 1).blk t).view.emb (ix2 a b) = (ix2 r s : S2048x5760.Idx) := funext fun d => Fin.ext (match d with
    | ⟨0, _⟩ => by show win0_1.index t 0 * 1024 + 1 * a.val = r.val; rw [h0, hr, Nat.one_mul]
    | ⟨1, _⟩ => by show win0_1.index t 1 * 1920 + 1 * b.val = s.val; rw [h1, hs, Nat.one_mul])
  show V m c main_arg1 (((cfg0.win 1).blk t).view.emb (ix2 a b)) = _
  rw [he]
/-- One entry of the product of two arrays. -/
def sums (A : FVec Ideal S4096x5760 .bf16) (B : FVec Ideal S2048x5760 .bf16) (i : Fin 4096) (j : Fin 2048) : EReal := ∑ k : Fin 5760, A (ix2 i k) * B (ix2 j k)
/-- The product of two arrays. -/
def prod (A : FVec Ideal S4096x5760 .bf16) (B : FVec Ideal S2048x5760 .bf16) : FVec Ideal S4096x2048 .f32 := fun x =>
  sums A B (x 0) (x 1)

theorem N_val : cfg0.N = 24 := N_0

theorem out_at (t : Fin cfg0.N) (ht : t.val % 3 = 2) (i : Fin 1024) (j : Fin 1024) (r : Fin 4096) (s : Fin 2048) (hr : r.val = t.val / 6 * 1024 + i.val) (hs : s.val = t.val / 3 % 2 * 1024 + j.val) :
    (outsAt0 m c t.val t.isLt).1 (ix2 i j) = prod (V m c main_arg0) (V m c main_arg1) (ix2 r s) := by
  have hN : t.val < 24 := lt_of_lt_of_eq t.isLt N_val
  have e1 := congrArg Prod.snd (outsAt0_A m c ⟨t.val - 2, by omega⟩ (by dsimp only; omega) (by dsimp only; omega))
  have e2 := congrArg Prod.snd (outsAt0_B m c ⟨t.val - 1, by omega⟩ (by dsimp only; omega) (by dsimp only; omega))
  have e3 := congrArg Prod.fst (outsAt0_C m c t (by omega) ht)
  dsimp only at e1 e2 e3
  have s2 : t.val - 1 - 1 = t.val - 2 := by omega
  simp only [s2] at e2
  rw [e3, last_out, step_at, e2, next_acc, step_at, e1, first_acc, step_at, zero_at, zero_add]
  show _ = sums (V m c main_arg0) (V m c main_arg1) r s
  unfold sums
  refine Eq.trans ?_ (Cert.Prod.sum_three 1920 _).symm
  refine congrArg₂ (· + ·) (congrArg₂ (· + ·) (Finset.sum_congr rfl fun k _ => ?_) (Finset.sum_congr rfl fun k _ => ?_)) (Finset.sum_congr rfl fun k _ => ?_) <;>
    refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 24 := lt_of_lt_of_eq t.isLt N_val
  rw [Value.flushed2]
  funext y
  show (outsAt0 m c t.val t.isLt).1 y = prod (V m c main_arg0) (V m c main_arg1) (((cfg0.win 2).blk t).view.emb y)
  have y0 : (y 0).val < 1024 := (y 0).isLt
  have y1 : (y 1).val < 1024 := (y 1).isLt
  have he : ((cfg0.win 2).blk t).view.emb y = (ix2 ⟨t.val / 6 * 1024 + (y 0).val, by omega⟩ ⟨t.val / 3 % 2 * 1024 + (y 1).val, by omega⟩ : S4096x2048.Idx) := funext fun d => Fin.ext (match d with
    | ⟨0, _⟩ => by show win0_2.index t 0 * 1024 + 1 * (y 0).val = t.val / 6 * 1024 + (y 0).val; rw [h0, Nat.one_mul]
    | ⟨1, _⟩ => by show win0_2.index t 1 * 1024 + 1 * (y 1).val = t.val / 3 % 2 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t ((flush0_2 t).mp hf) _ _ _ _ rfl rfl

theorem cover_out (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hb : 6 * ((i 0).val / 1024) + 3 * ((i 1).val / 1024) + 2 < cfg0.N := by rw [N_val]; omega
  obtain ⟨-, -, h0, h1⟩ := coords ⟨_, hb⟩
  refine ⟨⟨_, hb⟩, (flush0_2 _).mpr (by dsimp only; omega), ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1024 ≤ (i 1).val ∧ (i 1).val < win0_2.index _ 1 * 1024 + 1024
              rw [h1]; dsimp only; omega

theorem final_out : (dats m 0 c).arrAt 2 cfg0.N = prod (V m c main_arg0) (V m c main_arg1) :=
  (dats m 0 c).arrAt_eq_of_cover 2 _ (flushed_out m c) cover_out
end Array

end Cert.InProjDxIdeal.Prod

namespace Cert.InProjDxRefIdeal.Prod

open Cert.InProjDxRefIdeal Cert.InProjDxRefIdeal.Gen Idealize.ShloMosaic Idealize.ShloMosaic.TcCoe
variable (a : FVec Ideal S4096x5760 .bf16) (b : FVec Ideal S2048x5760 .bf16)

/-- The reference's result. -/
def wanted : FVec Ideal S4096x2048 .f32 :=
  Host.dotGeneral dot_S4096x5760_S2048x5760_S4096x2048_1_1_0_0_n_n none (extf .f32 a bitsLt_bf16_f32) (extf .f32 b bitsLt_bf16_f32)

theorem wanted_at (i : Fin 4096) (j : Fin 2048) : wanted a b (ix2 i j) = ∑ k : Fin 5760, a (ix2 i k) * b (ix2 j k) := by
  pointwise [wanted]

theorem meet : Cert.InProjDxIdeal.Prod.prod a b = wanted a b := by
  funext x
  idx_vars x
  exact (wanted_at a b x0 x1).symm

end Cert.InProjDxRefIdeal.Prod

end
-- ==== Proof.InProjDxClaims.lean ====
module

public import proofs.«01_k».proof.Defs
public import proofs.«01_k».proof.Proof.Gen.InProjDx
public import proofs.«01_k».proof.Proof.InProjDx
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.InProjDx

open Idealize.ShloMosaic Idealize.SL.Sem

/-- The kernel's body is the idealized program's, word for word. -/
theorem bodies_eq : Cert.InProjDx.defs₀ (F := Bits) = Cert.InProjDxIdeal.defs₀ (F := Bits) := by
  unfold Cert.InProjDx.defs₀ Cert.InProjDxIdeal.defs₀
  refine congrArg Defs.onTc ?_
  funext l a
  match l, a with
  | 0, (t, s) => rfl

theorem table_eq : Cert.InProjDx.defs (F := Bits) = Cert.InProjDxIdeal.defs (F := Bits) :=
  congrArg (Pipeline.defs Cert.InProjDxIdeal.pcfgs) bodies_eq

theorem main_eq : Cert.InProjDx.main (F := Bits) = Cert.InProjDxIdeal.main (F := Bits) := by rfl

theorem frame_P : Cert.quiescent_InProjDx := fun m ρ _ => by
  rw [table_eq, main_eq]
  exact Cert.InProjDxIdeal.Gen.frame (F := Bits) m ρ

theorem frame_PI : Cert.quiescent_InProjDxIdeal := fun m ρ _ => Cert.InProjDxIdeal.Gen.frame (F := Ideal) m ρ

/-- The reference declares no semaphore. -/
theorem frame_RI : Cert.quiescent_InProjDxRefIdeal := fun m ρ _ =>
  (θ_run Cert.InProjDxRefIdeal.defs _ _).mono (fun r h => ⟨fun c => (h c).2, sem_eq_zero_of_no_sems (by decide) r.2⟩)
    (Cert.InProjDxRefIdeal.Value.run (F := Ideal) m ρ)

/-- The common value is the reference's result. -/
theorem algebraic : Cert.algebraic_InProjDxIdeal_InProjDxRefIdeal := fun m ρ m' ρ' _ hagree =>
  ⟨fun c => Cert.InProjDxRefIdeal.Prod.wanted (m' (c.tc.loc Cert.InProjDxRefIdeal.main_arg0)) (m' (c.tc.loc Cert.InProjDxRefIdeal.main_arg1)),
    (θ_run Cert.InProjDxIdeal.defs _ _).mono (fun _ h c =>
      ⟨((h c).1.trans (Cert.InProjDxIdeal.Prod.final_out m c)).trans (by
          beta_reduce
          rw [Cert.InProjDxIdeal.Gen.V_main_arg0, Cert.InProjDxIdeal.Gen.V_main_arg1, (hagree c).1, (hagree c).2.1]
          exact Cert.InProjDxRefIdeal.Prod.meet _ _), (h c).2⟩)
      (Cert.InProjDxIdeal.Value.run_blocks (F := Ideal) m ρ),
    Cert.InProjDxRefIdeal.Value.run (F := Ideal) m' ρ'⟩

end Cert.Proof.InProjDx

end
-- ==== Proof.InProjQkv.lean ====
module

public import proofs.«01_k».proof.Proof.Blocks
public import proofs.«01_k».proof.Proof.Gen.InProjQkvIdeal.Value
public import proofs.«01_k».proof.Proof.Gen.InProjQkvRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The input projection's first columns: the queries, keys and values. -/

@[expose] public section

set_option maxRecDepth 16384

noncomputable section

namespace Cert.InProjQkvIdeal.Prod

open Cert.InProjQkvIdeal Cert.InProjQkvIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec F S1024x2048 .bf16) (x1 : Vec F S2048x1024 .bf16) (xs : Vec F S1024x1024 .f32)

theorem last_out (h0 : cond0_0 i) (h1 : cond0_1 i) : out0_A_2 c i arg3 harg3 arg4 harg4 arg5 harg5 arg6 harg6 h0 h1 x0 x1 = k0_pay3 (k0_pay2 k0_pay1 x0 x1) := by
  unfold out0_A_2
  refine Eq.trans (View.read_writes_eq_canon _ _ _ fun _ => cover0_A_2 ..) ?_
  unfold kernelRun0_A
  dsimp only
  sl_unfold_words
  rw [View.canon_unit_zero zeros]
  rw [View.readCov_cons_unit_lit' (S := S1024x1024) _ _ _ _ _ (fun a => congrFun zeros a) (fun a => congrFun zeros a)]
  rw [View.readCov_unit_zero (S := S1024x1024) _ zeros]
  simp only [View.readAt_eq_ld, Memref.IsWhole.read_unread, View.ld_unit_zero (S := S1024x2048) zeros, View.ld_unit_zero (S := S2048x1024) zeros]

end Cases

section Payloads
variable (x0 : Vec Ideal S1024x2048 .bf16) (x1 : Vec Ideal S2048x1024 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix2 k j) := by
  pointwise [k0_pay2]
theorem done_at : k0_pay3 xs (ix2 i j) = xs (ix2 i j) := by
  pointwise [k0_pay3]
end Payloads

theorem coords : ∀ t : Fin cfg0.N, (win0_0.index t 0 = t.val / 3 ∧ win0_0.index t 1 = 0)
    ∧ (win0_1.index t 0 = 0 ∧ win0_1.index t 1 = t.val % 3)
    ∧ (win0_2.index t 0 = t.val / 3 ∧ win0_2.index t 1 = t.val % 3) := by
  decide +kernel

section Array
variable (m : (ℓ : Loc nD τ sig) → Buf (Elt Ideal) ℓ) (c : Dev nD)

theorem lhs_at (t : Fin cfg0.N) (a : Fin 1024) (b : Fin 2048) (r : Fin 4096) (s : Fin 2048) (hr : r.val = t.val / 3 * 1024 + a.val) (hs : s.val = 0 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 2048) (b : Fin 1024) (r : Fin 2048) (s : Fin 5760) (hr : r.val = 0 * 2048 + a.val) (hs : s.val = t.val % 3 * 1024 + b.val) :
    X0_1 m c t (ix2 a b) = V m c main_arg1 (ix2 r s) := by
  obtain ⟨-, ⟨h0, h1⟩, -⟩ := coords t
  unfold X0_1 Pipeline.Window.fill
  rw [dif_pos (moved0_1 t _)]
  refine congrArg (V m c main_arg1) (funext fun d => Fin.ext (match d with
    | ⟨0, _⟩ => by show win0_1.index t 0 * 2048 + 1 * a.val = r.val; rw [h0, hr, Nat.one_mul]
    | ⟨1, _⟩ => by show win0_1.index t 1 * 1024 + 1 * b.val = s.val; rw [h1, hs, Nat.one_mul]))
/-- One entry of the product of two arrays. -/
def sums (A : FVec Ideal S4096x2048 .bf16) (B : FVec Ideal S2048x5760 .bf16) (i : Fin 4096) (j : Fin 3072) : EReal := ∑ k : Fin 2048, A (ix2 i k) * B (ix2 k ⟨0 + j.val, by omega⟩)
/-- The product of two arrays. -/
def prod (A : FVec Ideal S4096x2048 .bf16) (B : FVec Ideal S2048x5760 .bf16) : FVec Ideal S4096x3072 .bf16 := fun x =>
  sums A B (x 0) (x 1)

theorem N_val : cfg0.N = 12 := N_0

theorem out_at (t : Fin cfg0.N) (i : Fin 1024) (j : Fin 1024) (r : Fin 4096) (s : Fin 3072) (hr : r.val = t.val / 3 * 1024 + i.val) (hs : s.val = t.val % 3 * 1024 + j.val) :
    outsAt0 m c t (ix2 i j) = prod (V m c main_arg0) (V m c main_arg1) (ix2 r s) := by
  have hN : t.val < 12 := lt_of_lt_of_eq t.isLt N_val
  unfold outsAt0
  rw [last_out, done_at, step_at, zero_at, zero_add]
  show _ = sums (V m c main_arg0) (V m c main_arg1) r s
  unfold sums
  refine Finset.sum_congr rfl fun k _ => ?_
  refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 12 := lt_of_lt_of_eq t.isLt N_val
  rw [Value.flushed2]
  funext y
  show outsAt0 m c t y = prod (V m c main_arg0) (V m c main_arg1) (((cfg0.win 2).blk t).view.emb y)
  have y0 : (y 0).val < 1024 := (y 0).isLt
  have y1 : (y 1).val < 1024 := (y 1).isLt
  have he : ((cfg0.win 2).blk t).view.emb y = (ix2 ⟨t.val / 3 * 1024 + (y 0).val, by omega⟩ ⟨t.val % 3 * 1024 + (y 1).val, by omega⟩ : S4096x3072.Idx) := funext fun d => Fin.ext (match d with
    | ⟨0, _⟩ => by show win0_2.index t 0 * 1024 + 1 * (y 0).val = t.val / 3 * 1024 + (y 0).val; rw [h0, Nat.one_mul]
    | ⟨1, _⟩ => by show win0_2.index t 1 * 1024 + 1 * (y 1).val = t.val % 3 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t _ _ _ _ rfl rfl

theorem cover_out (i : S4096x3072.Idx) : ∃ t : Fin cfg0.N, (cfg0.win 2).flush t = true ∧ i ∈ ((cfg0.win 2).blk t).view.set := by
  have i0 : (i 0).val < 4096 := (i 0).isLt
  have i1 : (i 1).val < 3072 := (i 1).isLt
  have hb : 3 * ((i 0).val / 1024) + 1 * ((i 1).val / 1024) + 0 < cfg0.N := by rw [N_val]; omega
  obtain ⟨-, -, h0, h1⟩ := coords ⟨_, hb⟩
  refine ⟨⟨_, hb⟩, flush0_2 _, ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1024 ≤ (i 1).val ∧ (i 1).val < win0_2.index _ 1 * 1024 + 1024
              rw [h1]; dsimp only; omega

theorem final_out : (dats m 0 c).arrAt 2 cfg0.N = prod (V m c main_arg0) (V m c main_arg1) :=
  (dats m 0 c).arrAt_eq_of_cover 2 _ (flushed_out m c) cover_out
end Array

end Cert.InProjQkvIdeal.Prod

namespace Cert.InProjQkvRefIdeal.Prod

open Cert.InProjQkvRefIdeal Cert.InProjQkvRefIdeal.Gen Idealize.ShloMosaic Idealize.ShloMosaic.TcCoe
variable (a : FVec Ideal S4096x2048 .bf16) (b : FVec Ideal S2048x5760 .bf16)

/-- The reference's result. -/
def wanted : FVec Ideal S4096x3072 .bf16 :=
  truncf .bf16 (extractStridedSlice S4096x3072 ![0, 0] (Host.dotGeneral dot_S4096x2048_S2048x5760_S4096x5760_1_0_0_1_n_n none (extf .f32 a bitsLt_bf16_f32) (extf .f32 b bitsLt_bf16_f32)) slices_S4096x5760_S4096x3072_0_0) bitsLt_bf16_f32

theorem wanted_at (i : Fin 4096) (j : Fin 3072) : wanted a b (ix2 i j) = ∑ k : Fin 2048, a (ix2 i k) * b (ix2 k ⟨0 + j.val, by omega⟩) := by
  pointwise [wanted]

theorem meet : Cert.InProjQkvIdeal.Prod.prod a b = wanted a b := by
  funext x
  idx_vars x
  exact (wanted_at a b x0 x1).symm

end Cert.InProjQkvRefIdeal.Prod

end
-- ==== Proof.InProjQkvClaims.lean ====
module

public import proofs.«01_k».proof.Defs
public import proofs.«01_k».proof.Proof.Gen.InProjQkv
public import proofs.«01_k».proof.Proof.InProjQkv
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.InProjQkv

open Idealize.ShloMosaic Idealize.SL.Sem

/-- The kernel's body is the idealized program's, word for word. -/
theorem bodies_eq : Cert.InProjQkv.defs₀ (F := Bits) = Cert.InProjQkvIdeal.defs₀ (F := Bits) := by
  unfold Cert.InProjQkv.defs₀ Cert.InProjQkvIdeal.defs₀
  refine congrArg Defs.onTc ?_
  funext l a
  match l, a with
  | 0, (t, s) => rfl

theorem table_eq : Cert.InProjQkv.defs (F := Bits) = Cert.InProjQkvIdeal.defs (F := Bits) :=
  congrArg (Pipeline.defs Cert.InProjQkvIdeal.pcfgs) bodies_eq

theorem main_eq : Cert.InProjQkv.main (F := Bits) = Cert.InProjQkvIdeal.main (F := Bits) := by rfl

theorem frame_P : Cert.quiescent_InProjQkv := fun m ρ _ => by
  rw [table_eq, main_eq]
  exact Cert.InProjQkvIdeal.Gen.frame (F := Bits) m ρ

theorem frame_PI : Cert.quiescent_InProjQkvIdeal := fun m ρ _ => Cert.InProjQkvIdeal.Gen.frame (F := Ideal) m ρ

/-- The reference declares no semaphore. -/
theorem frame_RI : Cert.quiescent_InProjQkvRefIdeal := fun m ρ _ =>
  (θ_run Cert.InProjQkvRefIdeal.defs _ _).mono (fun r h => ⟨fun c => (h c).2, sem_eq_zero_of_no_sems (by decide) r.2⟩)
    (Cert.InProjQkvRefIdeal.Value.run (F := Ideal) m ρ)

/-- The common value is the reference's result. -/
theorem algebraic : Cert.algebraic_InProjQkvIdeal_InProjQkvRefIdeal := fun m ρ m' ρ' _ hagree =>
  ⟨fun c => Cert.InProjQkvRefIdeal.Prod.wanted (m' (c.tc.loc Cert.InProjQkvRefIdeal.main_arg0)) (m' (c.tc.loc Cert.InProjQkvRefIdeal.main_arg1)),
    (θ_run Cert.InProjQkvIdeal.defs _ _).mono (fun _ h c =>
      ⟨((h c).1.trans (Cert.InProjQkvIdeal.Prod.final_out m c)).trans (by
          beta_reduce
          rw [Cert.InProjQkvIdeal.Gen.V_main_arg0, Cert.InProjQkvIdeal.Gen.V_main_arg1, (hagree c).1, (hagree c).2]
          exact Cert.InProjQkvRefIdeal.Prod.meet _ _), (h c).2⟩)
      (Cert.InProjQkvIdeal.Value.run_blocks (F := Ideal) m ρ),
    Cert.InProjQkvRefIdeal.Value.run (F := Ideal) m' ρ'⟩

end Cert.Proof.InProjQkv

end
-- ==== Proof.InProjXbc.lean ====
module

public import proofs.«01_k».proof.Proof.Blocks
public import proofs.«01_k».proof.Proof.Gen.InProjXbcIdeal.Value
public import proofs.«01_k».proof.Proof.Gen.InProjXbcRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The input projection's middle columns. -/

@[expose] public section

set_option maxRecDepth 16384

noncomputable section

namespace Cert.InProjXbcIdeal.Prod

open Cert.InProjXbcIdeal Cert.InProjXbcIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole)
  (x0 : Vec F S1024x2048 .bf16) (x1 : Vec F S2048x512 .bf16) (xs : Vec F S1024x512 .f32)

theorem last_out (h0 : cond0_0 i) (h1 : cond0_1 i) : out0_A_2 c i arg3 harg3 arg4 harg4 arg5 harg5 arg6 harg6 h0 h1 x0 x1 = k0_pay2 k0_pay1 x0 x1 := by
  unfold out0_A_2
  refine Eq.trans (View.read_writes_eq_canon _ _ _ fun _ => cover0_A_2 ..) ?_
  unfold kernelRun0_A
  dsimp only
  sl_unfold_words
  rw [View.canon_unit_zero zeros]
  rw [View.readCov_cons_unit_lit' (S := S1024x512) _ _ _ _ _ (fun a => congrFun zeros a) (fun a => congrFun zeros a)]
  rw [View.readCov_unit_zero (S := S1024x512) _ zeros]
  simp only [View.readAt_eq_ld, Memref.IsWhole.read_unread, View.ld_unit_zero (S := S1024x2048) zeros, View.ld_unit_zero (S := S2048x512) zeros]

end Cases

section Payloads
variable (x0 : Vec Ideal S1024x2048 .bf16) (x1 : Vec Ideal S2048x512 .bf16) (xs : Vec Ideal S1024x512 .f32) (i : Fin 1024) (j : Fin 512)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix2 k j) := by
  pointwise [k0_pay2]
end Payloads

theorem coords : ∀ t : Fin cfg0.N, (win0_0.index t 0 = t.val / 3 ∧ win0_0.index t 1 = 0)
    ∧ (win0_1.index t 0 = 0 ∧ win0_1.index t 1 = t.val % 3 + 6)
    ∧ (win0_2.index t 0 = t.val / 3 ∧ win0_2.index t 1 = t.val % 3) := by
  decide +kernel

section Array
variable (m : (ℓ : Loc nD τ sig) → Buf (Elt Ideal) ℓ) (c : Dev nD)

theorem lhs_at (t : Fin cfg0.N) (a : Fin 1024) (b : Fin 2048) (r : Fin 4096) (s : Fin 2048) (hr : r.val = t.val / 3 * 1024 + a.val) (hs : s.val = 0 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 2048) (b : Fin 512) (r : Fin 2048) (s : Fin 5760) (hr : r.val = 0 * 2048 + a.val) (hs : s.val = (t.val % 3 + 6) * 512 + b.val) :
    X0_1 m c t (ix2 a b) = V m c main_arg1 (ix2 r s) := by
  obtain ⟨-, ⟨h0, h1⟩, -⟩ := coords t
  unfold X0_1 Pipeline.Window.fill
  rw [dif_pos (moved0_1 t _)]
  refine congrArg (V m c main_arg1) (funext fun d => Fin.ext (match d with
    | ⟨0, _⟩ => by show win0_1.index t 0 * 2048 + 1 * a.val = r.val; rw [h0, hr, Nat.one_mul]
    | ⟨1, _⟩ => by show win0_1.index t 1 * 512 + 1 * b.val = s.val; rw [h1, hs, Nat.one_mul]))
/-- One entry of the product of two arrays. -/
def sums (A : FVec Ideal S4096x2048 .bf16) (B : FVec Ideal S2048x5760 .bf16) (i : Fin 4096) (j : Fin 1536) : EReal := ∑ k : Fin 2048, A (ix2 i k) * B (ix2 k ⟨3072 + j.val, by omega⟩)
/-- The product of two arrays. -/
def prod (A : FVec Ideal S4096x2048 .bf16) (B : FVec Ideal S2048x5760 .bf16) : FVec Ideal S4096x1536 .f32 := fun x =>
  sums A B (x 0) (⟨(x 1).val, (x 1).isLt⟩)

theorem N_val : cfg0.N = 12 := N_0

theorem out_at (t : Fin cfg0.N) (i : Fin 1024) (j : Fin 512) (r : Fin 4096) (s : Fin 1536) (hr : r.val = t.val / 3 * 1024 + i.val) (hs : s.val = t.val % 3 * 512 + j.val) :
    outsAt0 m c t (ix2 i j) = prod (V m c main_arg0) (V m c main_arg1) (ix2 r s) := by
  have hN : t.val < 12 := lt_of_lt_of_eq t.isLt N_val
  unfold outsAt0
  rw [last_out, step_at, zero_at, zero_add]
  show _ = sums (V m c main_arg0) (V m c main_arg1) r s
  unfold sums
  refine Finset.sum_congr rfl fun k _ => ?_
  refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 12 := lt_of_lt_of_eq t.isLt N_val
  rw [Value.flushed2]
  funext y
  show outsAt0 m c t y = prod (V m c main_arg0) (V m c main_arg1) (((cfg0.win 2).blk t).view.emb y)
  have y0 : (y 0).val < 1024 := (y 0).isLt
  have y1 : (y 1).val < 512 := (y 1).isLt
  have he : ((cfg0.win 2).blk t).view.emb y = (ix2 ⟨t.val / 3 * 1024 + (y 0).val, by omega⟩ ⟨t.val % 3 * 512 + (y 1).val, by omega⟩ : S4096x1536.Idx) := funext fun d => Fin.ext (match d with
    | ⟨0, _⟩ => by show win0_2.index t 0 * 1024 + 1 * (y 0).val = t.val / 3 * 1024 + (y 0).val; rw [h0, Nat.one_mul]
    | ⟨1, _⟩ => by show win0_2.index t 1 * 512 + 1 * (y 1).val = t.val % 3 * 512 + (y 1).val; rw [h1, Nat.one_mul])
  have hy : y = (ix2 ⟨(y 0).val, y0⟩ ⟨(y 1).val, y1⟩ : S1024x512.Idx) := funext fun d => match d with
    | ⟨0, _⟩ => rfl
    | ⟨1, _⟩ => rfl
  rw [he]
  conv_lhs => rw [hy]
  exact out_at m c t _ _ _ _ rfl rfl

theorem cover_out (i : S4096x1536.Idx) : ∃ t : Fin cfg0.N, (cfg0.win 2).flush t = true ∧ i ∈ ((cfg0.win 2).blk t).view.set := by
  have i0 : (i 0).val < 4096 := (i 0).isLt
  have i1 : (i 1).val < 1536 := (i 1).isLt
  have hb : 3 * ((i 0).val / 1024) + 1 * ((i 1).val / 512) + 0 < cfg0.N := by rw [N_val]; omega
  obtain ⟨-, -, h0, h1⟩ := coords ⟨_, hb⟩
  refine ⟨⟨_, hb⟩, flush0_2 _, ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 512 ≤ (i 1).val ∧ (i 1).val < win0_2.index _ 1 * 512 + 512
              rw [h1]; dsimp only; omega

theorem final_out : (dats m 0 c).arrAt 2 cfg0.N = prod (V m c main_arg0) (V m c main_arg1) :=
  (dats m 0 c).arrAt_eq_of_cover 2 _ (flushed_out m c) cover_out
end Array

end Cert.InProjXbcIdeal.Prod

namespace Cert.InProjXbcRefIdeal.Prod

open Cert.InProjXbcRefIdeal Cert.InProjXbcRefIdeal.Gen Idealize.ShloMosaic Idealize.ShloMosaic.TcCoe
variable (a : FVec Ideal S4096x2048 .bf16) (b : FVec Ideal S2048x5760 .bf16)

/-- The reference's result. -/
def wanted : FVec Ideal S4096x1536 .f32 :=
  extractStridedSlice S4096x1536 ![0, 3072] (Host.dotGeneral dot_S4096x2048_S2048x5760_S4096x5760_1_0_0_1_n_n none (extf .f32 a bitsLt_bf16_f32) (extf .f32 b bitsLt_bf16_f32)) slices_S4096x5760_S4096x1536_0_3072

theorem wanted_at (i : Fin 4096) (j : Fin 1536) : wanted a b (ix2 i j) = ∑ k : Fin 2048, a (ix2 i k) * b (ix2 k ⟨3072 + j.val, by omega⟩) := by
  pointwise [wanted]

theorem meet : Cert.InProjXbcIdeal.Prod.prod a b = wanted a b := by
  funext x
  idx_vars x
  exact (wanted_at a b x0 x1).symm

end Cert.InProjXbcRefIdeal.Prod

end
-- ==== Proof.InProjXbcClaims.lean ====
module

public import proofs.«01_k».proof.Defs
public import proofs.«01_k».proof.Proof.Gen.InProjXbc
public import proofs.«01_k».proof.Proof.InProjXbc
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.InProjXbc

open Idealize.ShloMosaic Idealize.SL.Sem

/-- The kernel's body is the idealized program's, word for word. -/
theorem bodies_eq : Cert.InProjXbc.defs₀ (F := Bits) = Cert.InProjXbcIdeal.defs₀ (F := Bits) := by
  unfold Cert.InProjXbc.defs₀ Cert.InProjXbcIdeal.defs₀
  refine congrArg Defs.onTc ?_
  funext l a
  match l, a with
  | 0, (t, s) => rfl

theorem table_eq : Cert.InProjXbc.defs (F := Bits) = Cert.InProjXbcIdeal.defs (F := Bits) :=
  congrArg (Pipeline.defs Cert.InProjXbcIdeal.pcfgs) bodies_eq

theorem main_eq : Cert.InProjXbc.main (F := Bits) = Cert.InProjXbcIdeal.main (F := Bits) := by rfl

theorem frame_P : Cert.quiescent_InProjXbc := fun m ρ _ => by
  rw [table_eq, main_eq]
  exact Cert.InProjXbcIdeal.Gen.frame (F := Bits) m ρ

theorem frame_PI : Cert.quiescent_InProjXbcIdeal := fun m ρ _ => Cert.InProjXbcIdeal.Gen.frame (F := Ideal) m ρ

/-- The reference declares no semaphore. -/
theorem frame_RI : Cert.quiescent_InProjXbcRefIdeal := fun m ρ _ =>
  (θ_run Cert.InProjXbcRefIdeal.defs _ _).mono (fun r h => ⟨fun c => (h c).2, sem_eq_zero_of_no_sems (by decide) r.2⟩)
    (Cert.InProjXbcRefIdeal.Value.run (F := Ideal) m ρ)

/-- The common value is the reference's result. -/
theorem algebraic : Cert.algebraic_InProjXbcIdeal_InProjXbcRefIdeal := fun m ρ m' ρ' _ hagree =>
  ⟨fun c => Cert.InProjXbcRefIdeal.Prod.wanted (m' (c.tc.loc Cert.InProjXbcRefIdeal.main_arg0)) (m' (c.tc.loc Cert.InProjXbcRefIdeal.main_arg1)),
    (θ_run Cert.InProjXbcIdeal.defs _ _).mono (fun _ h c =>
      ⟨((h c).1.trans (Cert.InProjXbcIdeal.Prod.final_out m c)).trans (by
          beta_reduce
          rw [Cert.InProjXbcIdeal.Gen.V_main_arg0, Cert.InProjXbcIdeal.Gen.V_main_arg1, (hagree c).1, (hagree c).2]
          exact Cert.InProjXbcRefIdeal.Prod.meet _ _), (h c).2⟩)
      (Cert.InProjXbcIdeal.Value.run_blocks (F := Ideal) m ρ),
    Cert.InProjXbcRefIdeal.Value.run (F := Ideal) m' ρ'⟩

end Cert.Proof.InProjXbc

end
-- ==== Proof.InProjZdt.lean ====
module

public import proofs.«01_k».proof.Proof.Blocks
public import proofs.«01_k».proof.Proof.Gen.InProjZdtIdeal.Value
public import proofs.«01_k».proof.Proof.Gen.InProjZdtRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The input projection's last columns. -/

@[expose] public section

set_option maxRecDepth 16384

noncomputable section

namespace Cert.InProjZdtIdeal.Prod

open Cert.InProjZdtIdeal Cert.InProjZdtIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S2048x1152 .bf16) (harg4 : arg4.IsWhole) (arg5 : Memref sig .tc .vmem S1024x1152 .f32) (harg5 : arg5.IsWhole) (arg6 : Memref sig .tc .vmem S1024x1152 .f32) (harg6 : arg6.IsWhole)
  (x0 : Vec F S1024x2048 .bf16) (x1 : Vec F S2048x1152 .bf16) (xs : Vec F S1024x1152 .f32)

theorem last_out (h0 : cond0_0 i) (h1 : cond0_1 i) : out0_A_2 c i arg3 harg3 arg4 harg4 arg5 harg5 arg6 harg6 h0 h1 x0 x1 = k0_pay2 k0_pay1 x0 x1 := by
  unfold out0_A_2
  refine Eq.trans (View.read_writes_eq_canon _ _ _ fun _ => cover0_A_2 ..) ?_
  unfold kernelRun0_A
  dsimp only
  sl_unfold_words
  rw [View.canon_unit_zero zeros]
  rw [View.readCov_cons_unit_lit' (S := S1024x1152) _ _ _ _ _ (fun a => congrFun zeros a) (fun a => congrFun zeros a)]
  rw [View.readCov_unit_zero (S := S1024x1152) _ zeros]
  simp only [View.readAt_eq_ld, Memref.IsWhole.read_unread, View.ld_unit_zero (S := S1024x2048) zeros, View.ld_unit_zero (S := S2048x1152) zeros]

end Cases

section Payloads
variable (x0 : Vec Ideal S1024x2048 .bf16) (x1 : Vec Ideal S2048x1152 .bf16) (xs : Vec Ideal S1024x1152 .f32) (i : Fin 1024) (j : Fin 1152)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix2 k j) := by
  pointwise [k0_pay2]
end Payloads

theorem coords : ∀ t : Fin cfg0.N, (win0_0.index t 0 = t.val ∧ win0_0.index t 1 = 0)
    ∧ (win0_1.index t 0 = 0 ∧ win0_1.index t 1 = 0 + 4)
    ∧ (win0_2.index t 0 = t.val ∧ win0_2.index t 1 = 0) := by
  decide +kernel

section Array
variable (m : (ℓ : Loc nD τ sig) → Buf (Elt Ideal) ℓ) (c : Dev nD)

theorem lhs_at (t : Fin cfg0.N) (a : Fin 1024) (b : Fin 2048) (r : Fin 4096) (s : Fin 2048) (hr : r.val = t.val * 1024 + a.val) (hs : s.val = 0 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 2048) (b : Fin 1152) (r : Fin 2048) (s : Fin 5760) (hr : r.val = 0 * 2048 + a.val) (hs : s.val = (0 + 4) * 1152 + b.val) :
    iblk m c 1 t (ix2 a b) = V m c main_arg1 (ix2 r s) := by
  obtain ⟨-, ⟨h0, h1⟩, -⟩ := coords t
  have he : ((cfg0.win 1).blk t).view.emb (ix2 a b) = (ix2 r s : S2048x5760.Idx) := funext fun d => Fin.ext (match d with
    | ⟨0, _⟩ => by show win0_1.index t 0 * 2048 + 1 * a.val = r.val; rw [h0, hr, Nat.one_mul]
    | ⟨1, _⟩ => by show win0_1.index t 1 * 1152 + 1 * b.val = s.val; rw [h1, hs, Nat.one_mul])
  show V m c main_arg1 (((cfg0.win 1).blk t).view.emb (ix2 a b)) = _
  rw [he]
/-- One entry of the product of two arrays. -/
def sums (A : FVec Ideal S4096x2048 .bf16) (B : FVec Ideal S2048x5760 .bf16) (i : Fin 4096) (j : Fin 1152) : EReal := ∑ k : Fin 2048, A (ix2 i k) * B (ix2 k ⟨4608 + j.val, by omega⟩)
/-- The product of two arrays. -/
def prod (A : FVec Ideal S4096x2048 .bf16) (B : FVec Ideal S2048x5760 .bf16) : FVec Ideal S4096x1152 .f32 := fun x =>
  sums A B (x 0) (⟨(x 1).val, (x 1).isLt⟩)

theorem N_val : cfg0.N = 4 := N_0

theorem out_at (t : Fin cfg0.N) (i : Fin 1024) (j : Fin 1152) (r : Fin 4096) (s : Fin 1152) (hr : r.val = t.val * 1024 + i.val) (hs : s.val = 0 * 1152 + j.val) :
    outsAt0 m c t (ix2 i j) = prod (V m c main_arg0) (V m c main_arg1) (ix2 r s) := by
  have hN : t.val < 4 := lt_of_lt_of_eq t.isLt N_val
  unfold outsAt0
  rw [last_out, step_at, zero_at, zero_add]
  show _ = sums (V m c main_arg0) (V m c main_arg1) r s
  unfold sums
  refine Finset.sum_congr rfl fun k _ => ?_
  refine congrArg₂ (· * ·) (lhs_at m c _ _ _ _ _ ?_ ?_) (rhs_at m c _ _ _ _ _ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 4 := lt_of_lt_of_eq t.isLt N_val
  rw [Value.flushed2]
  funext y
  show outsAt0 m c t y = prod (V m c main_arg0) (V m c main_arg1) (((cfg0.win 2).blk t).view.emb y)
  have y0 : (y 0).val < 1024 := (y 0).isLt
  have y1 : (y 1).val < 1152 := (y 1).isLt
  have he : ((cfg0.win 2).blk t).view.emb y = (ix2 ⟨t.val * 1024 + (y 0).val, by omega⟩ ⟨0 * 1152 + (y 1).val, by omega⟩ : S4096x1152.Idx) := funext fun d => Fin.ext (match d with
    | ⟨0, _⟩ => by show win0_2.index t 0 * 1024 + 1 * (y 0).val = t.val * 1024 + (y 0).val; rw [h0, Nat.one_mul]
    | ⟨1, _⟩ => by show win0_2.index t 1 * 1152 + 1 * (y 1).val = 0 * 1152 + (y 1).val; rw [h1, Nat.one_mul])
  have hy : y = (ix2 ⟨(y 0).val, y0⟩ ⟨(y 1).val, y1⟩ : S1024x1152.Idx) := funext fun d => match d with
    | ⟨0, _⟩ => rfl
    | ⟨1, _⟩ => rfl
  rw [he]
  conv_lhs => rw [hy]
  exact out_at m c t _ _ _ _ rfl rfl

theorem cover_out (i : S4096x1152.Idx) : ∃ t : Fin cfg0.N, (cfg0.win 2).flush t = true ∧ i ∈ ((cfg0.win 2).blk t).view.set := by
  have i0 : (i 0).val < 4096 := (i 0).isLt
  have i1 : (i 1).val < 1152 := (i 1).isLt
  have hb : 1 * ((i 0).val / 1024) + 1 * ((i 1).val / 1152) + 0 < cfg0.N := by rw [N_val]; omega
  obtain ⟨-, -, h0, h1⟩ := coords ⟨_, hb⟩
  refine ⟨⟨_, hb⟩, flush0_2 _, ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1152 ≤ (i 1).val ∧ (i 1).val < win0_2.index _ 1 * 1152 + 1152
              rw [h1]; dsimp only; omega

theorem final_out : (dats m 0 c).arrAt 2 cfg0.N = prod (V m c main_arg0) (V m c main_arg1) :=
  (dats m 0 c).arrAt_eq_of_cover 2 _ (flushed_out m c) cover_out
end Array

end Cert.InProjZdtIdeal.Prod

namespace Cert.InProjZdtRefIdeal.Prod

open Cert.InProjZdtRefIdeal Cert.InProjZdtRefIdeal.Gen Idealize.ShloMosaic Idealize.ShloMosaic.TcCoe
variable (a : FVec Ideal S4096x2048 .bf16) (b : FVec Ideal S2048x5760 .bf16)

/-- The reference's result. -/
def wanted : FVec Ideal S4096x1152 .f32 :=
  extractStridedSlice S4096x1152 ![0, 4608] (Host.dotGeneral dot_S4096x2048_S2048x5760_S4096x5760_1_0_0_1_n_n none (extf .f32 a bitsLt_bf16_f32) (extf .f32 b bitsLt_bf16_f32)) slices_S4096x5760_S4096x1152_0_4608

theorem wanted_at (i : Fin 4096) (j : Fin 1152) : wanted a b (ix2 i j) = ∑ k : Fin 2048, a (ix2 i k) * b (ix2 k ⟨4608 + j.val, by omega⟩) := by
  pointwise [wanted]

theorem meet : Cert.InProjZdtIdeal.Prod.prod a b = wanted a b := by
  funext x
  idx_vars x
  exact (wanted_at a b x0 x1).symm

end Cert.InProjZdtRefIdeal.Prod

end
-- ==== Proof.InProjZdtClaims.lean ====
module

public import proofs.«01_k».proof.Defs
public import proofs.«01_k».proof.Proof.Gen.InProjZdt
public import proofs.«01_k».proof.Proof.InProjZdt
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.InProjZdt

open Idealize.ShloMosaic Idealize.SL.Sem

/-- The kernel's body is the idealized program's, word for word. -/
theorem bodies_eq : Cert.InProjZdt.defs₀ (F := Bits) = Cert.InProjZdtIdeal.defs₀ (F := Bits) := by
  unfold Cert.InProjZdt.defs₀ Cert.InProjZdtIdeal.defs₀
  refine congrArg Defs.onTc ?_
  funext l a
  match l, a with
  | 0, (t, s) => rfl

theorem table_eq : Cert.InProjZdt.defs (F := Bits) = Cert.InProjZdtIdeal.defs (F := Bits) :=
  congrArg (Pipeline.defs Cert.InProjZdtIdeal.pcfgs) bodies_eq

theorem main_eq : Cert.InProjZdt.main (F := Bits) = Cert.InProjZdtIdeal.main (F := Bits) := by rfl

theorem frame_P : Cert.quiescent_InProjZdt := fun m ρ _ => by
  rw [table_eq, main_eq]
  exact Cert.InProjZdtIdeal.Gen.frame (F := Bits) m ρ

theorem frame_PI : Cert.quiescent_InProjZdtIdeal := fun m ρ _ => Cert.InProjZdtIdeal.Gen.frame (F := Ideal) m ρ

/-- The reference declares no semaphore. -/
theorem frame_RI : Cert.quiescent_InProjZdtRefIdeal := fun m ρ _ =>
  (θ_run Cert.InProjZdtRefIdeal.defs _ _).mono (fun r h => ⟨fun c => (h c).2, sem_eq_zero_of_no_sems (by decide) r.2⟩)
    (Cert.InProjZdtRefIdeal.Value.run (F := Ideal) m ρ)

/-- The common value is the reference's result. -/
theorem algebraic : Cert.algebraic_InProjZdtIdeal_InProjZdtRefIdeal := fun m ρ m' ρ' _ hagree =>
  ⟨fun c => Cert.InProjZdtRefIdeal.Prod.wanted (m' (c.tc.loc Cert.InProjZdtRefIdeal.main_arg0)) (m' (c.tc.loc Cert.InProjZdtRefIdeal.main_arg1)),
    (θ_run Cert.InProjZdtIdeal.defs _ _).mono (fun _ h c =>
      ⟨((h c).1.trans (Cert.InProjZdtIdeal.Prod.final_out m c)).trans (by
          beta_reduce
          rw [Cert.InProjZdtIdeal.Gen.V_main_arg0, Cert.InProjZdtIdeal.Gen.V_main_arg1, (hagree c).1, (hagree c).2]
          exact Cert.InProjZdtRefIdeal.Prod.meet _ _), (h c).2⟩)
      (Cert.InProjZdtIdeal.Value.run_blocks (F := Ideal) m ρ),
    Cert.InProjZdtRefIdeal.Value.run (F := Ideal) m' ρ'⟩

end Cert.Proof.InProjZdt

end
-- ==== Proof.OutProj.lean ====
module

public import proofs.«01_k».proof.Proof.Blocks
public import proofs.«01_k».proof.Proof.Gen.OutProjIdeal.Value
public import proofs.«01_k».proof.Proof.Gen.OutProjRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The output projection, added to the residual. -/

@[expose] public section

set_option maxRecDepth 16384

noncomputable section

namespace Cert.OutProjIdeal.Prod

open Cert.OutProjIdeal Cert.OutProjIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec F S1024x2048 .bf16) (x1 : Vec F S2048x1024 .bf16) (x2 : Vec F S1024x1024 .f32) (xs : Vec F S1024x1024 .f32)

theorem last_out (h0 : cond0_0 i) (h1 : cond0_1 i) : out0_A_3 c i arg3 harg3 arg4 harg4 arg5 harg5 arg6 harg6 arg7 harg7 h0 h1 x0 x1 x2 = k0_pay3 (k0_pay2 k0_pay1 x0 x1) x2 := by
  unfold out0_A_3
  refine Eq.trans (View.read_writes_eq_canon _ _ _ fun _ => cover0_A_3 ..) ?_
  unfold kernelRun0_A
  dsimp only
  sl_unfold_words
  rw [View.canon_unit_zero zeros]
  rw [View.readCov_cons_unit_lit' (S := S1024x1024) _ _ _ _ _ (fun a => congrFun zeros a) (fun a => congrFun zeros a)]
  rw [View.readCov_unit_zero (S := S1024x1024) _ zeros]
  simp only [View.readAt_eq_ld, Memref.IsWhole.read_unread, View.ld_unit_zero (S := S1024x2048) zeros, View.ld_unit_zero (S := S2048x1024) zeros, View.ld_unit_zero (S := S1024x1024) zeros]

end Cases

section Payloads
variable (x0 : Vec Ideal S1024x2048 .bf16) (x1 : Vec Ideal S2048x1024 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix2 k j) := by
  pointwise [k0_pay2]
theorem done_at (x2 : Vec Ideal S1024x1024 .f32) : k0_pay3 xs x2 (ix2 i j) = xs (ix2 i j) + x2 (ix2 i j) := by
  pointwise [k0_pay3]
end Payloads

theorem coords : ∀ t : Fin cfg0.N, (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2)
    ∧ (win0_3.index t 0 = t.val / 2 ∧ win0_3.index t 1 = t.val % 2) := by
  decide +kernel

section Array
variable (m : (ℓ : Loc nD τ sig) → Buf (Elt Ideal) ℓ) (c : Dev nD)

theorem lhs_at (t : Fin cfg0.N) (a : Fin 1024) (b : Fin 2048) (r : Fin 4096) (s : Fin 2048) (hr : r.val = t.val / 2 * 1024 + a.val) (hs : s.val = 0 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 2048) (b : Fin 1024) (r : Fin 2048) (s : Fin 2048) (hr : r.val = 0 * 2048 + a.val) (hs : s.val = t.val % 2 * 1024 + b.val) :
    iblk m c 1 t (ix2 a b) = V m c main_arg1 (ix2 r s) := by
  obtain ⟨-, ⟨h0, h1⟩, -⟩ := coords t
  have he : ((cfg0.win 1).blk t).view.emb (ix2 a b) = (ix2 r s : S2048x2048.Idx) := funext fun d => Fin.ext (match d with
    | ⟨0, _⟩ => by show win0_1.index t 0 * 2048 + 1 * a.val = r.val; rw [h0, hr, Nat.one_mul]
    | ⟨1, _⟩ => by show win0_1.index t 1 * 1024 + 1 * b.val = s.val; rw [h1, hs, Nat.one_mul])
  show V m c main_arg1 (((cfg0.win 1).blk t).view.emb (ix2 a b)) = _
  rw [he]
theorem epi_at (t : Fin cfg0.N) (a : Fin 1024) (b : Fin 1024) (r : Fin 4096) (s : Fin 2048) (hr : r.val = t.val / 2 * 1024 + a.val) (hs : s.val = t.val % 2 * 1024 + b.val) :
    iblk m c 2 t (ix2 a b) = V m c main_arg2 (ix2 r s) := by
  obtain ⟨-, -, ⟨h0, h1⟩, -⟩ := coords t
  have he : ((cfg0.win 2).blk t).view.emb (ix2 a b) = (ix2 r s : S4096x2048.Idx) := funext fun d => Fin.ext (match d with
    | ⟨0, _⟩ => by show win0_2.index t 0 * 1024 + 1 * a.val = r.val; rw [h0, hr, Nat.one_mul]
    | ⟨1, _⟩ => by show win0_2.index t 1 * 1024 + 1 * b.val = s.val; rw [h1, hs, Nat.one_mul])
  show V m c main_arg2 (((cfg0.win 2).blk t).view.emb (ix2 a b)) = _
  rw [he]
/-- One entry of the product of two arrays. -/
def sums (A : FVec Ideal S4096x2048 .bf16) (B : FVec Ideal S2048x2048 .bf16) (i : Fin 4096) (j : Fin 2048) : EReal := ∑ k : Fin 2048, A (ix2 i k) * B (ix2 k j)
/-- What the launch leaves. -/
def prod (A : FVec Ideal S4096x2048 .bf16) (B : FVec Ideal S2048x2048 .bf16) (C : FVec Ideal S4096x2048 .f32) : FVec Ideal S4096x2048 .f32 := fun x =>
  sums A B (x 0) (x 1) + C (ix2 (x 0) (x 1))

theorem N_val : cfg0.N = 8 := N_0

theorem out_at (t : Fin cfg0.N) (i : Fin 1024) (j : Fin 1024) (r : Fin 4096) (s : Fin 2048) (hr : r.val = t.val / 2 * 1024 + i.val) (hs : s.val = t.val % 2 * 1024 + j.val) :
    outsAt0 m c t (ix2 i j) = prod (V m c main_arg0) (V m c main_arg1) (V m c main_arg2) (ix2 r s) := by
  have hN : t.val < 8 := lt_of_lt_of_eq t.isLt N_val
  unfold outsAt0
  rw [last_out, done_at, step_at, zero_at, zero_add]
  show _ = sums (V m c main_arg0) (V m c main_arg1) r s + V m c main_arg2 (ix2 r s)
  rw [epi_at m c t i j r s hr hs]
  refine congrArg (· + V m c main_arg2 (ix2 r s)) ?_
  unfold sums
  refine Finset.sum_congr rfl fun k _ => ?_
  refine congrArg₂ (· * ·) (lhs_at m c _ _ _ _ _ ?_ ?_) (rhs_at m c _ _ _ _ _ ?_ ?_) <;> (try dsimp only) <;> omega

theorem flushed_out (t : Fin cfg0.N) (hf : (cfg0.win 3).flush t = true) : (dats m 0 c).flushed 3 t = ((cfg0.win 3).blk t).view.read (Elt Ideal) (prod (V m c main_arg0) (V m c main_arg1) (V m c main_arg2)) := by
  obtain ⟨-, -, -, h0, h1⟩ := coords t
  have hN : t.val < 8 := lt_of_lt_of_eq t.isLt N_val
  rw [Value.flushed3]
  funext y
  show outsAt0 m c t y = prod (V m c main_arg0) (V m c main_arg1) (V m c main_arg2) (((cfg0.win 3).blk t).view.emb y)
  have y0 : (y 0).val < 1024 := (y 0).isLt
  have y1 : (y 1).val < 1024 := (y 1).isLt
  have he : ((cfg0.win 3).blk t).view.emb y = (ix2 ⟨t.val / 2 * 1024 + (y 0).val, by omega⟩ ⟨t.val % 2 * 1024 + (y 1).val, by omega⟩ : S4096x2048.Idx) := funext fun d => Fin.ext (match d with
    | ⟨0, _⟩ => by show win0_3.index t 0 * 1024 + 1 * (y 0).val = t.val / 2 * 1024 + (y 0).val; rw [h0, Nat.one_mul]
    | ⟨1, _⟩ => by show win0_3.index t 1 * 1024 + 1 * (y 1).val = t.val % 2 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t _ _ _ _ rfl rfl

theorem cover_out (i : S4096x2048.Idx) : ∃ t : Fin cfg0.N, (cfg0.win 3).flush t = true ∧ i ∈ ((cfg0.win 3).blk t).view.set := by
  have i0 : (i 0).val < 4096 := (i 0).isLt
  have i1 : (i 1).val < 2048 := (i 1).isLt
  have hb : 2 * ((i 0).val / 1024) + 1 * ((i 1).val / 1024) + 0 < cfg0.N := by rw [N_val]; omega
  obtain ⟨-, -, -, h0, h1⟩ := coords ⟨_, hb⟩
  refine ⟨⟨_, hb⟩, flush0_3 _, ?_⟩
  show (show ((View.whole main_v0).slice (win0_3.rect ⟨_, hb⟩)).ty.Idx from i) ∈ ((View.whole main_v0).slice (win0_3.rect ⟨_, hb⟩)).set
  rw [View.set_slice_whole, Rect.mem_set_unit]
  intro a
  match a with
  | ⟨0, _⟩ => show win0_3.index _ 0 * 1024 ≤ (i 0).val ∧ (i 0).val < win0_3.index _ 0 * 1024 + 1024
              rw [h0]; dsimp only; omega
  | ⟨1, _⟩ => show win0_3.index _ 1 * 1024 ≤ (i 1).val ∧ (i 1).val < win0_3.index _ 1 * 1024 + 1024
              rw [h1]; dsimp only; omega

theorem final_out : (dats m 0 c).arrAt 3 cfg0.N = prod (V m c main_arg0) (V m c main_arg1) (V m c main_arg2) :=
  (dats m 0 c).arrAt_eq_of_cover 3 _ (flushed_out m c) cover_out
end Array

end Cert.OutProjIdeal.Prod

namespace Cert.OutProjRefIdeal.Prod

open Cert.OutProjRefIdeal Cert.OutProjRefIdeal.Gen Idealize.ShloMosaic Idealize.ShloMosaic.TcCoe
variable (a : FVec Ideal S4096x2048 .bf16) (b : FVec Ideal S2048x2048 .bf16) (x : FVec Ideal S4096x2048 .f32)

/-- The reference's result. -/
def wanted : FVec Ideal S4096x2048 .f32 :=
  addf x (Host.dotGeneral dot_S4096x2048_S2048x2048_S4096x2048_1_0_0_1_n_n none (extf .f32 a bitsLt_bf16_f32) (extf .f32 b bitsLt_bf16_f32))

theorem wanted_at (i : Fin 4096) (j : Fin 2048) : wanted a b x (ix2 i j) = x (ix2 i j) + ∑ k : Fin 2048, a (ix2 i k) * b (ix2 k j) := by
  pointwise [wanted]

theorem meet : Cert.OutProjIdeal.Prod.prod a b x = wanted a b x := by
  funext y
  idx_vars y
  show (∑ k : Fin 2048, a (ix2 y0 k) * b (ix2 k y1)) + x (ix2 y0 y1) = _
  rw [wanted_at]
  exact add_comm _ _

end Cert.OutProjRefIdeal.Prod

end
-- ==== Proof.OutProjClaims.lean ====
module

public import proofs.«01_k».proof.Defs
public import proofs.«01_k».proof.Proof.Gen.OutProj
public import proofs.«01_k».proof.Proof.OutProj
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.OutProj

open Idealize.ShloMosaic Idealize.SL.Sem

/-- The kernel's body is the idealized program's, word for word. -/
theorem bodies_eq : Cert.OutProj.defs₀ (F := Bits) = Cert.OutProjIdeal.defs₀ (F := Bits) := by
  unfold Cert.OutProj.defs₀ Cert.OutProjIdeal.defs₀
  refine congrArg Defs.onTc ?_
  funext l a
  match l, a with
  | 0, (t, s) => rfl

theorem table_eq : Cert.OutProj.defs (F := Bits) = Cert.OutProjIdeal.defs (F := Bits) :=
  congrArg (Pipeline.defs Cert.OutProjIdeal.pcfgs) bodies_eq

theorem main_eq : Cert.OutProj.main (F := Bits) = Cert.OutProjIdeal.main (F := Bits) := by rfl

theorem frame_P : Cert.quiescent_OutProj := fun m ρ _ => by
  rw [table_eq, main_eq]
  exact Cert.OutProjIdeal.Gen.frame (F := Bits) m ρ

theorem frame_PI : Cert.quiescent_OutProjIdeal := fun m ρ _ => Cert.OutProjIdeal.Gen.frame (F := Ideal) m ρ

/-- The reference declares no semaphore. -/
theorem frame_RI : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The common value is the reference's result. -/
theorem algebraic : Cert.algebraic_OutProjIdeal_OutProjRefIdeal := fun m ρ m' ρ' _ hagree =>
  ⟨fun c => Cert.OutProjRefIdeal.Prod.wanted (m' (c.tc.loc Cert.OutProjRefIdeal.main_arg0)) (m' (c.tc.loc Cert.OutProjRefIdeal.main_arg1)) (m' (c.tc.loc Cert.OutProjRefIdeal.main_arg2)),
    (θ_run Cert.OutProjIdeal.defs _ _).mono (fun _ h c =>
      ⟨((h c).1.trans (Cert.OutProjIdeal.Prod.final_out m c)).trans (by
          beta_reduce
          rw [Cert.OutProjIdeal.Gen.V_main_arg0, Cert.OutProjIdeal.Gen.V_main_arg1, Cert.OutProjIdeal.Gen.V_main_arg2, (hagree c).1, (hagree c).2.1, (hagree c).2.2]
          exact Cert.OutProjRefIdeal.Prod.meet _ _ _), (h c).2⟩)
      (Cert.OutProjIdeal.Value.run_blocks (F := Ideal) m ρ),
    Cert.OutProjRefIdeal.Value.run (F := Ideal) m' ρ'⟩

end Cert.Proof.OutProj

end
-- ==== Proof.MlpIn.lean ====
module

public import proofs.«01_k».proof.Proof.Blocks
public import proofs.«01_k».proof.Proof.Gen.MlpInIdeal.Value
public import proofs.«01_k».proof.Proof.Gen.MlpInRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The MLP's first product and its squared ReLU, the weights in the four parts the devices hold. -/

@[expose] public section

set_option maxRecDepth 16384

noncomputable section

namespace Cert.MlpInIdeal.Prod

open Cert.MlpInIdeal Cert.MlpInIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec F S1024x2048 .bf16) (x1 : Vec F S1x2048x1024 .bf16) (xs : Vec F S1024x1024 .f32)

theorem last_out (h0 : cond0_0 i) (h1 : cond0_1 i) : out0_A_2 c i arg3 harg3 arg4 harg4 arg5 harg5 arg6 harg6 h0 h1 x0 x1 = k0_pay3 (k0_pay2 k0_pay1 x0 x1) := by
  unfold out0_A_2
  refine Eq.trans (View.read_writes_eq_canon _ _ _ fun _ => cover0_A_2 ..) ?_
  unfold kernelRun0_A
  dsimp only
  sl_unfold_words
  rw [View.canon_unit_zero zeros]
  rw [View.readCov_cons_unit_lit' (S := S1024x1024) _ _ _ _ _ (fun a => congrFun zeros a) (fun a => congrFun zeros a)]
  rw [View.readCov_unit_zero (S := S1024x1024) _ zeros]
  simp only [View.readAt_eq_ld, Memref.IsWhole.read_unread, View.ld_unit_zero (S := S1024x2048) zeros, View.ld_unit_zero (S := S1x2048x1024) zeros3]

end Cases

section Payloads
variable (x0 : Vec Ideal S1024x2048 .bf16) (x1 : Vec Ideal S1x2048x1024 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix3 0 k j) := by
  pointwise [k0_pay2]
theorem done_at : k0_pay3 xs (ix2 i j) = max (xs (ix2 i j)) 0 * max (xs (ix2 i j)) 0 := by
  pointwise [k0_pay3]
end Payloads

theorem coords : ∀ t : Fin cfg0.N, (win0_0.index t 0 = t.val / 8 ∧ win0_0.index t 1 = 0)
    ∧ (win0_1.index t 0 = t.val % 8 / 2 ∧ win0_1.index t 1 = 0 ∧ win0_1.index t 2 = t.val % 8 % 2)
    ∧ (win0_2.index t 0 = t.val / 8 ∧ win0_2.index t 1 = t.val % 8) := by
  decide +kernel

section Array
variable (m : (ℓ : Loc nD τ sig) → Buf (Elt Ideal) ℓ) (c : Dev nD)

theorem lhs_at (t : Fin cfg0.N) (a : Fin 1024) (b : Fin 2048) (r : Fin 4096) (s : Fin 2048) (hr : r.val = t.val / 8 * 1024 + a.val) (hs : s.val = 0 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x2048.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 1) (b : Fin 2048) (e : Fin 1024) (p : Fin 4) (r : Fin 2048) (s : Fin 2048) (hp : p.val = t.val % 8 / 2 * 1 + a.val) (hr : r.val = 0 * 2048 + b.val) (hs : s.val = t.val % 8 % 2 * 1024 + e.val) :
    iblk m c 1 t (ix3 a b e) = V m c main_arg1 (ix3 p r s) := by
  obtain ⟨-, ⟨h0, h1, h2⟩, -⟩ := coords t
  have he : ((cfg0.win 1).blk t).view.emb (ix3 a b e) = (ix3 p r s : S4x2048x2048.Idx) := funext fun d => Fin.ext (match d with
    | ⟨0, _⟩ => by show win0_1.index t 0 * 1 + 1 * a.val = p.val; rw [h0, hp, Nat.one_mul]
    | ⟨1, _⟩ => by show win0_1.index t 1 * 2048 + 1 * b.val = r.val; rw [h1, hr, Nat.one_mul]
    | ⟨2, _⟩ => by show win0_1.index t 2 * 1024 + 1 * e.val = s.val; rw [h2, hs, Nat.one_mul])
  show V m c main_arg1 (((cfg0.win 1).blk t).view.emb (ix3 a b e)) = _
  rw [he]
/-- One entry of the product of two arrays. -/
def sums (A : FVec Ideal S4096x2048 .bf16) (B : FVec Ideal S4x2048x2048 .bf16) (i : Fin 4096) (j : Fin 8192) : EReal := ∑ k : Fin 2048, A (ix2 i k) * B (ix3 ⟨j.val / 2048, by omega⟩ k ⟨j.val % 2048, by omega⟩)
/-- What the launch leaves. -/
def prod (A : FVec Ideal S4096x2048 .bf16) (B : FVec Ideal S4x2048x2048 .bf16) : FVec Ideal S4096x8192 .bf16 := fun x =>
  max (sums A B (x 0) (x 1)) 0 * max (sums A B (x 0) (x 1)) 0

theorem N_val : cfg0.N = 32 := N_0

theorem out_at (t : Fin cfg0.N) (i : Fin 1024) (j : Fin 1024) (r : Fin 4096) (s : Fin 8192) (hr : r.val = t.val / 8 * 1024 + i.val) (hs : s.val = t.val % 8 * 1024 + j.val) :
    outsAt0 m c t (ix2 i j) = prod (V m c main_arg0) (V m c main_arg1) (ix2 r s) := by
  have hN : t.val < 32 := lt_of_lt_of_eq t.isLt N_val
  unfold outsAt0
  rw [last_out, done_at, step_at, zero_at, zero_add]
  show _ = max (sums (V m c main_arg0) (V m c main_arg1) r s) 0 * max (sums (V m c main_arg0) (V m c main_arg1) r s) 0
  refine congrArg (fun y : EReal => max y 0 * max y 0) ?_
  unfold sums
  refine Finset.sum_congr rfl fun k _ => ?_
  refine congrArg₂ (· * ·) (lhs_at m c _ _ _ _ _ ?_ ?_) (rhs_at m c _ _ _ _ _ _ _ ?_ ?_ ?_) <;> (try dsimp only) <;> omega

theorem flushed_out (t : Fin cfg0.N) (hf : (cfg0.win 2).flush t = true) : (dats m 0 c).flushed 2 t = ((cfg0.win 2).blk t).view.read (Elt Ideal) (prod (V m c main_arg0) (V m c main_arg1)) := by
  obtain ⟨-, -, h0, h1⟩ := coords t
  have hN : t.val < 32 := lt_of_lt_of_eq t.isLt N_val
  rw [Value.flushed2]
  funext y
  show outsAt0 m c t y = prod (V m c main_arg0) (V m c main_arg1) (((cfg0.win 2).blk t).view.emb y)
  have y0 : (y 0).val < 1024 := (y 0).isLt
  have y1 : (y 1).val < 1024 := (y 1).isLt
  have he : ((cfg0.win 2).blk t).view.emb y = (ix2 ⟨t.val / 8 * 1024 + (y 0).val, by omega⟩ ⟨t.val % 8 * 1024 + (y 1).val, by omega⟩ : S4096x8192.Idx) := funext fun d => Fin.ext (match d with
    | ⟨0, _⟩ => by show win0_2.index t 0 * 1024 + 1 * (y 0).val = t.val / 8 * 1024 + (y 0).val; rw [h0, Nat.one_mul]
    | ⟨1, _⟩ => by show win0_2.index t 1 * 1024 + 1 * (y 1).val = t.val % 8 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t _ _ _ _ rfl rfl

theorem cover_out (i : S4096x8192.Idx) : ∃ t : Fin cfg0.N, (cfg0.win 2).flush t = true ∧ i ∈ ((cfg0.win 2).blk t).view.set := by
  have i0 : (i 0).val < 4096 := (i 0).isLt
  have i1 : (i 1).val < 8192 := (i 1).isLt
  have hb : 8 * ((i 0).val / 1024) + 1 * ((i 1).val / 1024) + 0 < cfg0.N := by rw [N_val]; omega
  obtain ⟨-, -, h0, h1⟩ := coords ⟨_, hb⟩
  refine ⟨⟨_, hb⟩, flush0_2 _, ?_⟩
  show (show ((View.whole main_v0).slice (win0_2.rect ⟨_, hb⟩)).ty.Idx from i) ∈ ((View.whole main_v0).slice (win0_2.rect ⟨_, hb⟩)).set
  rw [View.set_slice_whole, Rect.mem_set_unit]
  intro a
  match a with
  | ⟨0, _⟩ => show win0_2.index _ 0 * 1024 ≤ (i 0).val ∧ (i 0).val < win0_2.index _ 0 * 1024 + 1024
              rw [h0]; dsimp only; omega
  | ⟨1, _⟩ => show win0_2.index _ 1 * 1024 ≤ (i 1).val ∧ (i 1).val < win0_2.index _ 1 * 1024 + 1024
              rw [h1]; dsimp only; omega

theorem final_out : (dats m 0 c).arrAt 2 cfg0.N = prod (V m c main_arg0) (V m c main_arg1) :=
  (dats m 0 c).arrAt_eq_of_cover 2 _ (flushed_out m c) cover_out
end Array

end Cert.MlpInIdeal.Prod

namespace Cert.MlpInRefIdeal.Prod

open Cert.MlpInRefIdeal Cert.MlpInRefIdeal.Gen Idealize.ShloMosaic Idealize.ShloMosaic.TcCoe
variable (a : FVec Ideal S4096x2048 .bf16) (b : FVec Ideal S4x2048x2048 .bf16)

/-- The whole matrix, its four parts side by side. -/
def flat : FVec Ideal S2048x8192 .bf16 :=
  concatenate S2048x8192 1 [⟨S2048x2048, shapeCast _ (extractStridedSlice S1x2048x2048 ![0, 0, 0] b slices_S4x2048x2048_S1x2048x2048_0_0_0) shapeCasts_S1x2048x2048_S2048x2048⟩, ⟨S2048x2048, shapeCast _ (extractStridedSlice S1x2048x2048 ![1, 0, 0] b slices_S4x2048x2048_S1x2048x2048_1_0_0) shapeCasts_S1x2048x2048_S2048x2048⟩, ⟨S2048x2048, shapeCast _ (extractStridedSlice S1x2048x2048 ![2, 0, 0] b slices_S4x2048x2048_S1x2048x2048_2_0_0) shapeCasts_S1x2048x2048_S2048x2048⟩, ⟨S2048x2048, shapeCast _ (extractStridedSlice S1x2048x2048 ![3, 0, 0] b slices_S4x2048x2048_S1x2048x2048_3_0_0) shapeCasts_S1x2048x2048_S2048x2048⟩] concatenates_S2048x2048_S2048x2048_S2048x2048_S2048x2048_S2048x8192_d1
/-- The reference's result. -/
def wanted : FVec Ideal S4096x8192 .bf16 :=
  truncf .bf16 (mulf (maximumf (Host.dotGeneral dot_S4096x2048_S2048x8192_S4096x8192_1_0_0_1_n_n none (extf .f32 a bitsLt_bf16_f32) (extf .f32 (flat b) bitsLt_bf16_f32)) (broadcastInDim S4096x8192 ![] bcast_S_S4096x8192 (constant S_ .f32 0x00000000#32))) (maximumf (Host.dotGeneral dot_S4096x2048_S2048x8192_S4096x8192_1_0_0_1_n_n none (extf .f32 a bitsLt_bf16_f32) (extf .f32 (flat b) bitsLt_bf16_f32)) (broadcastInDim S4096x8192 ![] bcast_S_S4096x8192 (constant S_ .f32 0x00000000#32)))) bitsLt_bf16_f32

theorem flat_parts (i : Fin 2048) (k : Fin 8192) : flat b (ix2 i k) = if h : k.val < 2048 then b (ix3 0 i ⟨k.val, by omega⟩) else if h1 : k.val - 2048 < 2048 then b (ix3 1 i ⟨k.val - 2048, h1⟩)
    else if h2 : k.val - 2048 - 2048 < 2048 then b (ix3 2 i ⟨k.val - 2048 - 2048, h2⟩) else b (ix3 3 i ⟨k.val - 2048 - 2048 - 2048, by omega⟩) := by
  pointwise [flat]
theorem flat_at (i : Fin 2048) (k : Fin 8192) : flat b (ix2 i k) = b (ix3 ⟨k.val / 2048, by omega⟩ i ⟨k.val % 2048, by omega⟩) := by
  rw [flat_parts]
  split_ifs <;> refine congrArg b (congr (congrArg (fun p q => ix3 p i q) (Fin.ext ?_)) (Fin.ext ?_)) <;> simp <;> omega
theorem wanted_at (i : Fin 4096) (j : Fin 8192) : wanted a b (ix2 i j) = max (∑ k : Fin 2048, a (ix2 i k) * flat b (ix2 k j)) 0 * max (∑ k : Fin 2048, a (ix2 i k) * flat b (ix2 k j)) 0 := by
  pointwise [wanted]
theorem meet : Cert.MlpInIdeal.Prod.prod a b = wanted a b := by
  funext x
  idx_vars x
  show (fun y : EReal => max y 0 * max y 0) (∑ k : Fin 2048, a (ix2 x0 k) * b (ix3 ⟨x1.val / 2048, by omega⟩ k ⟨x1.val % 2048, by omega⟩)) = _
  rw [wanted_at]
  exact congrArg (fun y : EReal => max y 0 * max y 0) (Finset.sum_congr rfl fun k _ => by rw [flat_at])
end Cert.MlpInRefIdeal.Prod

end
-- ==== Proof.MlpInClaims.lean ====
module

public import proofs.«01_k».proof.Defs
public import proofs.«01_k».proof.Proof.Gen.MlpIn
public import proofs.«01_k».proof.Proof.MlpIn
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.MlpIn

open Idealize.ShloMosaic Idealize.SL.Sem

/-- The kernel's body is the idealized program's, word for word. -/
theorem bodies_eq : Cert.MlpIn.defs₀ (F := Bits) = Cert.MlpInIdeal.defs₀ (F := Bits) := by
  unfold Cert.MlpIn.defs₀ Cert.MlpInIdeal.defs₀
  refine congrArg Defs.onTc ?_
  funext l a
  match l, a with
  | 0, (t, s) => rfl

theorem table_eq : Cert.MlpIn.defs (F := Bits) = Cert.MlpInIdeal.defs (F := Bits) :=
  congrArg (Pipeline.defs Cert.MlpInIdeal.pcfgs) bodies_eq

theorem main_eq : Cert.MlpIn.main (F := Bits) = Cert.MlpInIdeal.main (F := Bits) := by rfl

theorem frame_P : Cert.quiescent_MlpIn := fun m ρ _ => by
  rw [table_eq, main_eq]
  exact Cert.MlpInIdeal.Gen.frame (F := Bits) m ρ

theorem frame_PI : Cert.quiescent_MlpInIdeal := fun m ρ _ => Cert.MlpInIdeal.Gen.frame (F := Ideal) m ρ

/-- The reference declares no semaphore. -/
theorem frame_RI : Cert.quiescent_MlpInRefIdeal := fun m ρ _ =>
  (θ_run Cert.MlpInRefIdeal.defs _ _).mono (fun r h => ⟨fun c => (h c).2, sem_eq_zero_of_no_sems (by decide) r.2⟩)
    (Cert.MlpInRefIdeal.Value.run (F := Ideal) m ρ)

/-- The common value is the reference's result. -/
theorem algebraic : Cert.algebraic_MlpInIdeal_MlpInRefIdeal := fun m ρ m' ρ' _ hagree =>
  ⟨fun c => Cert.MlpInRefIdeal.Prod.wanted (m' (c.tc.loc Cert.MlpInRefIdeal.main_arg0)) (m' (c.tc.loc Cert.MlpInRefIdeal.main_arg1)),
    (θ_run Cert.MlpInIdeal.defs _ _).mono (fun _ h c =>
      ⟨((h c).1.trans (Cert.MlpInIdeal.Prod.final_out m c)).trans (by
          beta_reduce
          rw [Cert.MlpInIdeal.Gen.V_main_arg0, Cert.MlpInIdeal.Gen.V_main_arg1, (hagree c).1, (hagree c).2]
          exact Cert.MlpInRefIdeal.Prod.meet _ _), (h c).2⟩)
      (Cert.MlpInIdeal.Value.run_blocks (F := Ideal) m ρ),
    Cert.MlpInRefIdeal.Value.run (F := Ideal) m' ρ'⟩

end Cert.Proof.MlpIn

end
-- ==== Proof.MlpOut.lean ====
module

public import proofs.«01_k».proof.Proof.Blocks
public import proofs.«01_k».proof.Proof.Gen.MlpOutIdeal.Value
public import proofs.«01_k».proof.Proof.Gen.MlpOutRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The MLP's second product, added to the residual. -/

@[expose] public section

set_option maxRecDepth 16384

noncomputable section

namespace Cert.MlpOutIdeal.Prod

open Cert.MlpOutIdeal Cert.MlpOutIdeal.Gen Idealize.ShloMosaic Idealize.ShloMosaic.TcCoe
open Cert.Prod (zeros zeros3)

section Cases
variable {F : FTy → Type} [FloatOps F] (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec F S1024x2048 .bf16) (x1 : Vec F S2048x1024 .bf16) (x2 : Vec F S1024x1024 .f32) (xs : Vec F S1024x1024 .f32)

theorem first_acc (h0 : cond0_0 i) (h1 : ¬cond0_1 i) : sout0_A_0 c i arg3 harg3 arg4 harg4 arg5 harg5 arg6 harg6 arg7 harg7 h0 h1 x0 x1 x2 = k0_pay2 k0_pay1 x0 x1 := by
  unfold sout0_A_0
  rw [View.read_writes_eq_canon _ _ _ (scover0_A_0 c i arg3 harg3 arg4 harg4 arg5 harg5 arg6 harg6 arg7 harg7 h0 h1 x0 x1 x2)]
  unfold kernelRun0_A
  dsimp only
  sl_unfold_words
  rw [View.canon_cons_unit_zero (S := S1024x1024) zeros, View.readCov_unit_zero (S := S1024x1024) _ zeros]
  simp only [View.readAt_eq_ld, Memref.IsWhole.read_unread, View.ld_unit_zero (S := S1024x2048) zeros, View.ld_unit_zero (S := S2048x1024) zeros, View.ld_unit_zero (S := S1024x1024) zeros]

theorem next_acc (h0 : ¬cond0_0 i) (h1 : ¬cond0_1 i) : sout0_B_0 c i arg3 harg3 arg4 harg4 arg5 harg5 arg6 harg6 arg7 harg7 h0 h1 x0 x1 x2 xs = k0_pay2 xs x0 x1 := by
  unfold sout0_B_0
  rw [View.read_writes_eq_canon _ _ _ (scover0_B_0 c i arg3 harg3 arg4 harg4 arg5 harg5 arg6 harg6 arg7 harg7 h0 h1 x0 x1 x2 xs)]
  unfold kernelRun0_B
  dsimp only
  rw [View.canon_unit_zero zeros]
  simp only [View.readAt_eq_ld, Memref.IsWhole.read_unread, View.ld_unit_zero (S := S1024x2048) zeros, View.ld_unit_zero (S := S2048x1024) zeros, View.ld_unit_zero (S := S1024x1024) zeros]

theorem last_out (h0 : ¬cond0_0 i) (h1 : cond0_1 i) : out0_C_3 c i arg3 harg3 arg4 harg4 arg5 harg5 arg6 harg6 arg7 harg7 h0 h1 x0 x1 x2 xs = k0_pay3 (k0_pay2 xs x0 x1) x2 := by
  unfold out0_C_3
  refine Eq.trans (View.read_writes_eq_canon _ _ _ fun _ => cover0_C_3 ..) ?_
  unfold kernelRun0_C
  dsimp only
  sl_unfold_words
  rw [View.canon_unit_zero zeros, View.readCov_unit_zero (S := S1024x1024) _ zeros]
  simp only [View.readAt_eq_ld, Memref.IsWhole.read_unread, View.ld_unit_zero (S := S1024x2048) zeros, View.ld_unit_zero (S := S2048x1024) zeros, View.ld_unit_zero (S := S1024x1024) zeros]

end Cases

section Payloads
variable (x0 : Vec Ideal S1024x2048 .bf16) (x1 : Vec Ideal S2048x1024 .bf16) (xs : Vec Ideal S1024x1024 .f32) (i : Fin 1024) (j : Fin 1024)

theorem zero_at : (k0_pay1 (F := Ideal)) (ix2 i j) = 0 := by
  pointwise [k0_pay1]
theorem step_at : k0_pay2 xs x0 x1 (ix2 i j) = xs (ix2 i j) + ∑ k : Fin 2048, x0 (ix2 i k) * x1 (ix2 k j) := by
  pointwise [k0_pay2]
theorem done_at (x2 : Vec Ideal S1024x1024 .f32) : k0_pay3 xs x2 (ix2 i j) = xs (ix2 i j) + x2 (ix2 i j) := by
  pointwise [k0_pay3]
end Payloads

theorem coords : ∀ t : Fin cfg0.N, (win0_0.index t 0 = t.val / 8 ∧ win0_0.index t 1 = t.val % 4)
    ∧ (win0_1.index t 0 = t.val % 4 ∧ win0_1.index t 1 = t.val / 4 % 2)
    ∧ (win0_2.index t 0 = t.val / 8 ∧ win0_2.index t 1 = t.val / 4 % 2)
    ∧ (win0_3.index t 0 = t.val / 8 ∧ win0_3.index t 1 = t.val / 4 % 2) := by
  decide +kernel

section Array
variable (m : (ℓ : Loc nD τ sig) → Buf (Elt Ideal) ℓ) (c : Dev nD)

theorem lhs_at (t : Fin cfg0.N) (a : Fin 1024) (b : Fin 2048) (r : Fin 4096) (s : Fin 8192) (hr : r.val = t.val / 8 * 1024 + a.val) (hs : s.val = t.val % 4 * 2048 + b.val) :
    iblk m c 0 t (ix2 a b) = V m c main_arg0 (ix2 r s) := by
  obtain ⟨⟨h0, h1⟩, -⟩ := coords t
  have he : ((cfg0.win 0).blk t).view.emb (ix2 a b) = (ix2 r s : S4096x8192.Idx) := funext fun d => Fin.ext (match d with
    | ⟨0, _⟩ => by show win0_0.index t 0 * 1024 + 1 * a.val = r.val; rw [h0, hr, Nat.one_mul]
    | ⟨1, _⟩ => by show win0_0.index t 1 * 2048 + 1 * b.val = s.val; rw [h1, hs, Nat.one_mul])
  show V m c main_arg0 (((cfg0.win 0).blk t).view.emb (ix2 a b)) = _
  rw [he]
theorem rhs_at (t : Fin cfg0.N) (a : Fin 2048) (b : Fin 1024) (r : Fin 8192) (s : Fin 2048) (hr : r.val = t.val % 4 * 2048 + a.val) (hs : s.val = t.val / 4 % 2 * 1024 + b.val) :
    iblk m c 1 t (ix2 a b) = V m c main_arg1 (ix2 r s) := by
  obtain ⟨-, ⟨h0, h1⟩, -⟩ := coords t
  have he : ((cfg0.win 1).blk t).view.emb (ix2 a b) = (ix2 r s : S8192x2048.Idx) := funext fun d => Fin.ext (match d with
    | ⟨0, _⟩ => by show win0_1.index t 0 * 2048 + 1 * a.val = r.val; rw [h0, hr, Nat.one_mul]
    | ⟨1, _⟩ => by show win0_1.index t 1 * 1024 + 1 * b.val = s.val; rw [h1, hs, Nat.one_mul])
  show V m c main_arg1 (((cfg0.win 1).blk t).view.emb (ix2 a b)) = _
  rw [he]
theorem epi_at (t : Fin cfg0.N) (a : Fin 1024) (b : Fin 1024) (r : Fin 4096) (s : Fin 2048) (hr : r.val = t.val / 8 * 1024 + a.val) (hs : s.val = t.val / 4 % 2 * 1024 + b.val) :
    iblk m c 2 t (ix2 a b) = V m c main_arg2 (ix2 r s) := by
  obtain ⟨-, -, ⟨h0, h1⟩, -⟩ := coords t
  have he : ((cfg0.win 2).blk t).view.emb (ix2 a b) = (ix2 r s : S4096x2048.Idx) := funext fun d => Fin.ext (match d with
    | ⟨0, _⟩ => by show win0_2.index t 0 * 1024 + 1 * a.val = r.val; rw [h0, hr, Nat.one_mul]
    | ⟨1, _⟩ => by show win0_2.index t 1 * 1024 + 1 * b.val = s.val; rw [h1, hs, Nat.one_mul])
  show V m c main_arg2 (((cfg0.win 2).blk t).view.emb (ix2 a b)) = _
  rw [he]
/-- One entry of the product of two arrays. -/
def sums (A : FVec Ideal S4096x8192 .bf16) (B : FVec Ideal S8192x2048 .bf16) (i : Fin 4096) (j : Fin 2048) : EReal := ∑ k : Fin 8192, A (ix2 i k) * B (ix2 k j)
/-- What the launch leaves. -/
def prod (A : FVec Ideal S4096x8192 .bf16) (B : FVec Ideal S8192x2048 .bf16) (C : FVec Ideal S4096x2048 .f32) : FVec Ideal S4096x2048 .f32 := fun x =>
  sums A B (x 0) (x 1) + C (ix2 (x 0) (x 1))

theorem N_val : cfg0.N = 32 := N_0

theorem out_at (t : Fin cfg0.N) (ht : t.val % 4 = 3) (i : Fin 1024) (j : Fin 1024) (r : Fin 4096) (s : Fin 2048) (hr : r.val = t.val / 8 * 1024 + i.val) (hs : s.val = t.val / 4 % 2 * 1024 + j.val) :
    (outsAt0 m c t.val t.isLt).1 (ix2 i j) = prod (V m c main_arg0) (V m c main_arg1) (V m c main_arg2) (ix2 r s) := by
  have hN : t.val < 32 := lt_of_lt_of_eq t.isLt N_val
  have e1 := congrArg Prod.snd (outsAt0_A m c ⟨t.val - 3, by omega⟩ (by dsimp only; omega) (by dsimp only; omega))
  have e2 := congrArg Prod.snd (outsAt0_B m c ⟨t.val - 2, by omega⟩ (by dsimp only; omega) (by dsimp only; omega))
  have e3 := congrArg Prod.snd (outsAt0_B m c ⟨t.val - 1, by omega⟩ (by dsimp only; omega) (by dsimp only; omega))
  have e4 := congrArg Prod.fst (outsAt0_C m c t (by omega) ht)
  dsimp only at e1 e2 e3 e4
  have s2 : t.val - 2 - 1 = t.val - 3 := by omega
  have s3 : t.val - 1 - 1 = t.val - 2 := by omega
  simp only [s2] at e2
  simp only [s3] at e3
  rw [e4, last_out, done_at, step_at, e3, next_acc, step_at, e2, next_acc, step_at, e1, first_acc, step_at, zero_at, zero_add]
  show _ = sums (V m c main_arg0) (V m c main_arg1) r s + V m c main_arg2 (ix2 r s)
  rw [epi_at m c t i j r s hr hs]
  refine congrArg (· + V m c main_arg2 (ix2 r s)) ?_
  unfold sums
  refine Eq.trans ?_ (Cert.Prod.sum_four 2048 _).symm
  refine congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_) <;>
    refine congrArg₂ (· * ·) (lhs_at m c _ _ _ _ _ ?_ ?_) (rhs_at m c _ _ _ _ _ ?_ ?_) <;> (try dsimp only) <;> omega

theorem flushed_out (t : Fin cfg0.N) (hf : (cfg0.win 3).flush t = true) : (dats m 0 c).flushed 3 t = ((cfg0.win 3).blk t).view.read (Elt Ideal) (prod (V m c main_arg0) (V m c main_arg1) (V m c main_arg2)) := by
  obtain ⟨-, -, -, h0, h1⟩ := coords t
  have hN : t.val < 32 := lt_of_lt_of_eq t.isLt N_val
  rw [Value.flushed3]
  funext y
  show (outsAt0 m c t.val t.isLt).1 y = prod (V m c main_arg0) (V m c main_arg1) (V m c main_arg2) (((cfg0.win 3).blk t).view.emb y)
  have y0 : (y 0).val < 1024 := (y 0).isLt
  have y1 : (y 1).val < 1024 := (y 1).isLt
  have he : ((cfg0.win 3).blk t).view.emb y = (ix2 ⟨t.val / 8 * 1024 + (y 0).val, by omega⟩ ⟨t.val / 4 % 2 * 1024 + (y 1).val, by omega⟩ : S4096x2048.Idx) := funext fun d => Fin.ext (match d with
    | ⟨0, _⟩ => by show win0_3.index t 0 * 1024 + 1 * (y 0).val = t.val / 8 * 1024 + (y 0).val; rw [h0, Nat.one_mul]
    | ⟨1, _⟩ => by show win0_3.index t 1 * 1024 + 1 * (y 1).val = t.val / 4 % 2 * 1024 + (y 1).val; rw [h1, Nat.one_mul])
  have hy : y = (ix2 ⟨(y 0).val, y0⟩ ⟨(y 1).val, y1⟩ : S1024x1024.Idx) := funext fun d => match d with
    | ⟨0, _⟩ => rfl
    | ⟨1, _⟩ => rfl
  rw [he]
  conv_lhs => rw [hy]
  exact out_at m c t ((flush0_3 t).mp hf) _ _ _ _ rfl rfl

theorem cover_out (i : S4096x2048.Idx) : ∃ t : Fin cfg0.N, (cfg0.win 3).flush t = true ∧ i ∈ ((cfg0.win 3).blk t).view.set := by
  have i0 : (i 0).val < 4096 := (i 0).isLt
  have i1 : (i 1).val < 2048 := (i 1).isLt
  have hb : 8 * ((i 0).val / 1024) + 4 * ((i 1).val / 1024) + 3 < cfg0.N := by rw [N_val]; omega
  obtain ⟨-, -, -, h0, h1⟩ := coords ⟨_, hb⟩
  refine ⟨⟨_, hb⟩, (flush0_3 _).mpr (by dsimp only; omega), ?_⟩
  show (show ((View.whole main_v0).slice (win0_3.rect ⟨_, hb⟩)).ty.Idx from i) ∈ ((View.whole main_v0).slice (win0_3.rect ⟨_, hb⟩)).set
  rw [View.set_slice_whole, Rect.mem_set_unit]
  intro a
  match a with
  | ⟨0, _⟩ => show win0_3.index _ 0 * 1024 ≤ (i 0).val ∧ (i 0).val < win0_3.index _ 0 * 1024 + 1024
              rw [h0]; dsimp only; omega
  | ⟨1, _⟩ => show win0_3.index _ 1 * 1024 ≤ (i 1).val ∧ (i 1).val < win0_3.index _ 1 * 1024 + 1024
              rw [h1]; dsimp only; omega

theorem final_out : (dats m 0 c).arrAt 3 cfg0.N = prod (V m c main_arg0) (V m c main_arg1) (V m c main_arg2) :=
  (dats m 0 c).arrAt_eq_of_cover 3 _ (flushed_out m c) cover_out
end Array

end Cert.MlpOutIdeal.Prod

namespace Cert.MlpOutRefIdeal.Prod

open Cert.MlpOutRefIdeal Cert.MlpOutRefIdeal.Gen Idealize.ShloMosaic Idealize.ShloMosaic.TcCoe
variable (a : FVec Ideal S4096x8192 .bf16) (b : FVec Ideal S8192x2048 .bf16) (x : FVec Ideal S4096x2048 .f32)

/-- The reference's result. -/
def wanted : FVec Ideal S4096x2048 .f32 :=
  addf x (Host.dotGeneral dot_S4096x8192_S8192x2048_S4096x2048_1_0_0_1_n_n none (extf .f32 a bitsLt_bf16_f32) (extf .f32 b bitsLt_bf16_f32))

theorem wanted_at (i : Fin 4096) (j : Fin 2048) : wanted a b x (ix2 i j) = x (ix2 i j) + ∑ k : Fin 8192, a (ix2 i k) * b (ix2 k j) := by
  pointwise [wanted]

theorem meet : Cert.MlpOutIdeal.Prod.prod a b x = wanted a b x := by
  funext y
  idx_vars y
  show (∑ k : Fin 8192, a (ix2 y0 k) * b (ix2 k y1)) + x (ix2 y0 y1) = _
  rw [wanted_at]
  exact add_comm _ _

end Cert.MlpOutRefIdeal.Prod

end
-- ==== Proof.MlpOutClaims.lean ====
module

public import proofs.«01_k».proof.Defs
public import proofs.«01_k».proof.Proof.Gen.MlpOut
public import proofs.«01_k».proof.Proof.MlpOut
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.MlpOut

open Idealize.ShloMosaic Idealize.SL.Sem

/-- The kernel's body is the idealized program's, word for word. -/
theorem bodies_eq : Cert.MlpOut.defs₀ (F := Bits) = Cert.MlpOutIdeal.defs₀ (F := Bits) := by
  unfold Cert.MlpOut.defs₀ Cert.MlpOutIdeal.defs₀
  refine congrArg Defs.onTc ?_
  funext l a
  match l, a with
  | 0, (t, s) => rfl

theorem table_eq : Cert.MlpOut.defs (F := Bits) = Cert.MlpOutIdeal.defs (F := Bits) :=
  congrArg (Pipeline.defs Cert.MlpOutIdeal.pcfgs) bodies_eq

theorem main_eq : Cert.MlpOut.main (F := Bits) = Cert.MlpOutIdeal.main (F := Bits) := by rfl

theorem frame_P : Cert.quiescent_MlpOut := fun m ρ _ => by
  rw [table_eq, main_eq]
  exact Cert.MlpOutIdeal.Gen.frame (F := Bits) m ρ

theorem frame_PI : Cert.quiescent_MlpOutIdeal := fun m ρ _ => Cert.MlpOutIdeal.Gen.frame (F := Ideal) m ρ

/-- The reference declares no semaphore. -/
theorem frame_RI : Cert.quiescent_MlpOutRefIdeal := fun m ρ _ =>
  (θ_run Cert.MlpOutRefIdeal.defs _ _).mono (fun r h => ⟨fun c => (h c).2, sem_eq_zero_of_no_sems (by decide) r.2⟩)
    (Cert.MlpOutRefIdeal.Value.run (F := Ideal) m ρ)

/-- The common value is the reference's result. -/
theorem algebraic : Cert.algebraic_MlpOutIdeal_MlpOutRefIdeal := fun m ρ m' ρ' _ hagree =>
  ⟨fun c => Cert.MlpOutRefIdeal.Prod.wanted (m' (c.tc.loc Cert.MlpOutRefIdeal.main_arg0)) (m' (c.tc.loc Cert.MlpOutRefIdeal.main_arg1)) (m' (c.tc.loc Cert.MlpOutRefIdeal.main_arg2)),
    (θ_run Cert.MlpOutIdeal.defs _ _).mono (fun _ h c =>
      ⟨((h c).1.trans (Cert.MlpOutIdeal.Prod.final_out m c)).trans (by
          beta_reduce
          rw [Cert.MlpOutIdeal.Gen.V_main_arg0, Cert.MlpOutIdeal.Gen.V_main_arg1, Cert.MlpOutIdeal.Gen.V_main_arg2, (hagree c).1, (hagree c).2.1, (hagree c).2.2]
          exact Cert.MlpOutRefIdeal.Prod.meet _ _ _), (h c).2⟩)
      (Cert.MlpOutIdeal.Value.run_blocks (F := Ideal) m ρ),
    Cert.MlpOutRefIdeal.Value.run (F := Ideal) m' ρ'⟩

end Cert.Proof.MlpOut

end
-- ==== Proof.ConvBwdIn.lean ====
module

public import proofs.«01_k».proof.Proof.Blocks
public import proofs.«01_k».proof.Proof.Gen.ConvBwdInIdeal.Value
public import proofs.«01_k».proof.Proof.Gen.ConvBwdInRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The gradient of the causal convolution's input: four rows ahead, weighted, written into its columns of the array of
    the projection's gradients, which keeps its other columns. -/

@[expose] public section

set_option maxRecDepth 16384

noncomputable section

namespace Cert.ConvBwdInIdeal.Prod

open Cert.ConvBwdInIdeal Cert.ConvBwdInIdeal.Gen Idealize.ShloMosaic Idealize.ShloMosaic.TcCoe
open Cert.Prod (zeros zeros3)

section Cases
variable {F : FTy → Type} [FloatOps F] (c : Dev nD) (i : grid0.Coords) (arg1 : Memref sig .tc .vmem S128x1536 .f32) (harg1 : arg1.IsWhole) (arg2 : Memref sig .tc .vmem S8x1536 .f32) (harg2 : arg2.IsWhole) (arg3 : Memref sig .tc .vmem S4x1536 .f32) (harg3 : arg3.IsWhole) (arg5 : Memref sig .tc .vmem S128x1536 .bf16) (harg5 : arg5.IsWhole)
    (x0 : Vec F S128x1536 .f32) (x1 : Vec F S8x1536 .f32) (x2 : Vec F S4x1536 .f32)

theorem out_eq : out0_A_3 c i arg1 harg1 arg2 harg2 arg3 harg3 arg5 harg5 x0 x1 x2 = k0_pay1 i x0 x1 x2 := by
  unfold out0_A_3
  refine Eq.trans (View.read_writes_eq_canon _ _ _ fun _ => cover0_A_3 ..) ?_
  unfold kernelRun0_A
  dsimp only
  sl_unfold_words
  rw [View.canon_unit_zero zeros]
  simp only [View.readAt_eq_ld, Memref.IsWhole.read_unread, View.ld_unit_zero (S := S128x1536) zeros, View.ld_unit_zero (S := S8x1536) zeros, View.ld_unit_zero (S := S4x1536) zeros]

end Cases

section Payload
variable (i : grid0.Coords) (x0 : Vec Ideal S128x1536 .f32) (x1 : Vec Ideal S8x1536 .f32) (x2 : Vec Ideal S4x1536 .f32)

/-- One entry of the block, the rows after it read past the block's end in the next block's first rows. -/
theorem pay_at (a : Fin 128) (b : Fin 1536) (n : ℕ) (f : ℕ → EReal) (h0 : x0 (ix2 a b) = f n)
    (hf : ∀ (q : ℕ) (hq : q < 136), (if h : q < 128 then x0 (ix2 ⟨q, h⟩ b) else Scalar.select (Scalar.cmpi CmpIPredicate.eq (BitVec.ofNat 32 (i 0).val) 31#32) 0 (x1 (ix2 ⟨q - 128, by omega⟩ b))) = f (n - a.val + q))
    (hn : a.val ≤ n) : k0_pay1 i x0 x1 x2 (ix2 a b) = x2 (ix2 3 b) * f n + x2 (ix2 2 b) * f (n + 1) + x2 (ix2 1 b) * f (n + 2) + x2 (ix2 0 b) * f (n + 3) := by
  have q1 : (a.val + 136 - 135) % 136 = a.val + 1 := by omega
  have q2 : (a.val + 136 - 134) % 136 = a.val + 2 := by omega
  have q3 : (a.val + 136 - 133) % 136 = a.val + 3 := by omega
  have e1 := hf ((a.val + 136 - 135) % 136) (by omega)
  have e2 := hf ((a.val + 136 - 134) % 136) (by omega)
  have e3 := hf ((a.val + 136 - 133) % 136) (by omega)
  rw [show n - a.val + (a.val + 136 - 135) % 136 = n + 1 by omega] at e1
  rw [show n - a.val + (a.val + 136 - 134) % 136 = n + 2 by omega] at e2
  rw [show n - a.val + (a.val + 136 - 133) % 136 = n + 3 by omega] at e3
  rw [← h0, ← e1, ← e2, ← e3]
  pointwise [k0_pay1]
end Payload

theorem coords : ∀ t : Fin cfg0.N, (win0_0.index t 0 = t.val ∧ win0_0.index t 1 = 0)
    ∧ (win0_1.index t 0 = min ((t.val + 1) * 16) 511 ∧ win0_1.index t 1 = 0)
    ∧ (win0_2.index t 0 = 0 ∧ win0_2.index t 1 = 0)
    ∧ (win0_3.index t 0 = t.val ∧ win0_3.index t 1 = 2) := by
  decide +kernel
theorem is_last : ∀ t : Fin cfg0.N, Scalar.cmpi CmpIPredicate.eq (BitVec.ofNat 32 (grid0.coords t 0).val) 31#32 = if t.val = 31 then 1#1 else 0#1 := by
  decide +kernel
theorem sizes : ∀ t : Fin cfg0.N, win0_3.xsize (grid0.coords t) 0 = 128 ∧ win0_3.xsize (grid0.coords t) 1 = 1536 := by
  decide +kernel
theorem N_val : cfg0.N = 32 := N_0

/-- Row `n` of an array, zero past its end. -/
def row (A : FVec Ideal S4096x1536 .f32) (s : Fin 1536) (n : ℕ) : EReal := if h : n < 4096 then A (ix2 ⟨n, h⟩ s) else 0
/-- The gradient of the convolution's input. -/
def grad (A : FVec Ideal S4096x1536 .f32) (W : FVec Ideal S4x1536 .f32) (r : Fin 4096) (s : Fin 1536) : EReal :=
  W (ix2 3 s) * row A s r.val + W (ix2 2 s) * row A s (r.val + 1) + W (ix2 1 s) * row A s (r.val + 2) + W (ix2 0 s) * row A s (r.val + 3)
/-- The result: the gradient in its columns, the other columns kept. -/
def result (A : FVec Ideal S4096x1536 .f32) (B : FVec Ideal S4096x5760 .bf16) (W : FVec Ideal S4x1536 .f32) : FVec Ideal S4096x5760 .bf16 := fun x =>
  if h : 3072 ≤ (x 1).val ∧ (x 1).val < 4608 then grad A W (x 0) ⟨(x 1).val - 3072, by omega⟩ else B x

section Array
variable (m : (ℓ : Loc nD τ sig) → Buf (Elt Ideal) ℓ) (c : Dev nD)

theorem own_at (t : Fin cfg0.N) (a : Fin 128) (b : Fin 1536) (r : Fin 4096) (hr : r.val = t.val * 128 + a.val) :
    iblk m c 0 t (ix2 a b) = V m c main_arg0 (ix2 r b) := by
  obtain ⟨⟨h0, h1⟩, -⟩ := coords t
  have he : ((cfg0.win 0).blk t).view.emb (ix2 a b) = (ix2 r b : S4096x1536.Idx) := funext fun d => Fin.ext (match d with
    | ⟨0, _⟩ => by show win0_0.index t 0 * 128 + 1 * a.val = r.val; rw [h0, hr, Nat.one_mul]
    | ⟨1, _⟩ => by show win0_0.index t 1 * 1536 + 1 * b.val = b.val; rw [h1, Nat.one_mul, Nat.zero_mul, Nat.zero_add])
  show V m c main_arg0 (((cfg0.win 0).blk t).view.emb (ix2 a b)) = _
  rw [he]
theorem next_at (t : Fin cfg0.N) (a : Fin 8) (b : Fin 1536) (r : Fin 4096) (hr : r.val = min ((t.val + 1) * 16) 511 * 8 + a.val) :
    iblk m c 1 t (ix2 a b) = V m c main_arg0 (ix2 r b) := by
  obtain ⟨-, ⟨h0, h1⟩, -⟩ := coords t
  have he : ((cfg0.win 1).blk t).view.emb (ix2 a b) = (ix2 r b : S4096x1536.Idx) := funext fun d => Fin.ext (match d with
    | ⟨0, _⟩ => by show win0_1.index t 0 * 8 + 1 * a.val = r.val; rw [h0, hr, Nat.one_mul]
    | ⟨1, _⟩ => by show win0_1.index t 1 * 1536 + 1 * b.val = b.val; rw [h1, Nat.one_mul, Nat.zero_mul, Nat.zero_add])
  show V m c main_arg0 (((cfg0.win 1).blk t).view.emb (ix2 a b)) = _
  rw [he]
theorem taps_at (t : Fin cfg0.N) (a : Fin 4) (b : Fin 1536) :
    iblk m c 2 t (ix2 a b) = V m c main_arg2 (ix2 a b) := by
  obtain ⟨-, -, ⟨h0, h1⟩, -⟩ := coords t
  have he : ((cfg0.win 2).blk t).view.emb (ix2 a b) = (ix2 a b : S4x1536.Idx) := funext fun d => Fin.ext (match d with
    | ⟨0, _⟩ => by show win0_2.index t 0 * 4 + 1 * a.val = a.val; rw [h0, Nat.one_mul, Nat.zero_mul, Nat.zero_add]
    | ⟨1, _⟩ => by show win0_2.index t 1 * 1536 + 1 * b.val = b.val; rw [h1, Nat.one_mul, Nat.zero_mul, Nat.zero_add])
  show V m c main_arg2 (((cfg0.win 2).blk t).view.emb (ix2 a b)) = _
  rw [he]

theorem halo_at (t : Fin cfg0.N) (b : Fin 1536) (q : ℕ) (hq : q < 136) :
    (if h : q < 128 then iblk m c 0 t (ix2 ⟨q, h⟩ b) else Scalar.select (Scalar.cmpi CmpIPredicate.eq (BitVec.ofNat 32 (grid0.coords t 0).val) 31#32) (0 : EReal) (iblk m c 1 t (ix2 ⟨q - 128, by omega⟩ b)))
      = row (V m c main_arg0) b (t.val * 128 + q) := by
  have hN : t.val < 32 := lt_of_lt_of_eq t.isLt N_val
  unfold row
  split
  · rw [dif_pos (by omega)]
    exact own_at m c t _ _ _ rfl
  · rw [is_last]
    by_cases h : t.val = 31
    · rw [if_pos h, dif_neg (by omega)]
      rfl
    · rw [if_neg h, dif_pos (by omega)]
      refine (next_at m c t _ _ _ ?_)
      dsimp only
      omega

theorem out_at (t : Fin cfg0.N) (a : Fin 128) (b : Fin 1536) (r : Fin 4096) (hr : r.val = t.val * 128 + a.val) :
    outsAt0 m c t (ix2 a b) = grad (V m c main_arg0) (V m c main_arg2) r b := by
  unfold outsAt0
  rw [out_eq, pay_at _ _ _ _ a b r.val (row (V m c main_arg0) b) ?_ ?_ (by omega)]
  · rw [taps_at, taps_at, taps_at, taps_at]
    rfl
  · rw [own_at m c t a b r hr]
    unfold row
    rw [dif_pos r.isLt]
  · intro q hq
    rw [halo_at m c t b q hq]
    exact congrArg _ (by omega)

theorem flushed_out (t : Fin cfg0.N) (hf : (cfg0.win 3).flush t = true) : (dats m 0 c).flushed 3 t = ((cfg0.win 3).blk t).view.read (Elt Ideal) (result (V m c main_arg0) (V m c main_arg1) (V m c main_arg2)) := by
  obtain ⟨-, -, -, h0, h1⟩ := coords t
  have hN : t.val < 32 := lt_of_lt_of_eq t.isLt N_val
  rw [Value.flushed3]
  funext y
  show outsAt0 m c t ((cfg0.win 3).xinj (cfg0.grid.coords t) y) = result (V m c main_arg0) (V m c main_arg1) (V m c main_arg2) (((cfg0.win 3).blk t).view.emb y)
  have y0 : (y 0).val < 128 := ((cfg0.win 3).xinj (cfg0.grid.coords t) y 0).isLt
  have y1 : (y 1).val < 1536 := ((cfg0.win 3).xinj (cfg0.grid.coords t) y 1).isLt
  have he : ((cfg0.win 3).blk t).view.emb y = (ix2 ⟨t.val * 128 + (y 0).val, by omega⟩ ⟨3072 + (y 1).val, by omega⟩ : S4096x5760.Idx) := funext fun d => Fin.ext (match d with
    | ⟨0, _⟩ => by show win0_3.index t 0 * 128 + 1 * (y 0).val = t.val * 128 + (y 0).val; rw [h0, Nat.one_mul]
    | ⟨1, _⟩ => by show win0_3.index t 1 * 1536 + 1 * (y 1).val = 3072 + (y 1).val; rw [h1, Nat.one_mul])
  have hy : (cfg0.win 3).xinj (cfg0.grid.coords t) y = (ix2 ⟨(y 0).val, y0⟩ ⟨(y 1).val, y1⟩ : S128x1536.Idx) := funext fun d => match d with
    | ⟨0, _⟩ => rfl
    | ⟨1, _⟩ => rfl
  rw [he]
  conv_lhs => rw [hy]
  rw [out_at m c t _ _ ⟨t.val * 128 + (y 0).val, by omega⟩ rfl]
  refine Eq.trans ?_ (dif_pos (show 3072 ≤ 3072 + (y 1).val ∧ 3072 + (y 1).val < 4608 by omega)).symm
  exact congrArg _ (Fin.ext (by show (y 1).val = 3072 + (y 1).val - 3072; omega))

theorem cover_out (i : S4096x5760.Idx) (hi : 3072 ≤ (i 1).val ∧ (i 1).val < 4608) : ∃ t : Fin cfg0.N, (cfg0.win 3).flush t = true ∧ i ∈ ((cfg0.win 3).blk t).view.set := by
  have i0 : (i 0).val < 4096 := (i 0).isLt
  have hb : (i 0).val / 128 < cfg0.N := by rw [N_val]; omega
  obtain ⟨-, -, -, h0, h1⟩ := coords ⟨_, hb⟩
  refine ⟨⟨_, hb⟩, flush0_3 _, ?_⟩
  show (show ((View.whole main_v0).slice (win0_3.rect ⟨_, hb⟩)).ty.Idx from i) ∈ ((View.whole main_v0).slice (win0_3.rect ⟨_, hb⟩)).set
  rw [View.set_slice_whole, Rect.mem_set_unit]
  obtain ⟨s0, s1⟩ := sizes ⟨_, hb⟩
  intro a
  match a with
  | ⟨0, _⟩ => show win0_3.index ⟨_, hb⟩ 0 * 128 ≤ (i 0).val ∧ (i 0).val < win0_3.index ⟨_, hb⟩ 0 * 128 + win0_3.xsize (grid0.coords ⟨_, hb⟩) 0
              rw [h0, s0]; dsimp only; omega
  | ⟨1, _⟩ => show win0_3.index ⟨_, hb⟩ 1 * 1536 ≤ (i 1).val ∧ (i 1).val < win0_3.index ⟨_, hb⟩ 1 * 1536 + win0_3.xsize (grid0.coords ⟨_, hb⟩) 1
              rw [h1, s1]; omega

theorem V_out : V m c main_v0 = V m c main_arg1 := by
  rfl

theorem final_out : (dats m 0 c).arrAt 3 cfg0.N = result (V m c main_arg0) (V m c main_arg1) (V m c main_arg2) := by
  funext i
  rw [(dats m 0 c).arrAt_eq_piecewise 3 _ (flushed_out m c) i]
  split
  · rfl
  · rename_i h
    rw [A_eq]
    unfold result
    rw [dif_neg fun hi => h (cover_out i hi)]
    exact congrFun (V_out m c) i
end Array

end Cert.ConvBwdInIdeal.Prod

namespace Cert.ConvBwdInRefIdeal.Prod
open Cert.ConvBwdInRefIdeal Cert.ConvBwdInRefIdeal.Gen Idealize.ShloMosaic Idealize.ShloMosaic.TcCoe
variable (a : FVec Ideal S4096x1536 .f32) (b : FVec Ideal S4096x5760 .bf16) (w : FVec Ideal S4x1536 .f32)

/-- The convolution's part. -/
def part : FVec Ideal S4096x1536 .f32 := addf (addf (addf (mulf (broadcastInDim S4096x1536 ![0, 1] bcast_S1x1536_S4096x1536_0_1 (broadcastInDim S1x1536 ![1] bcast_S1536_S1x1536_1 (shapeCast _ (extractStridedSlice S1x1536 ![3, 0] w slices_S4x1536_S1x1536_3_0) shapeCasts_S1x1536_S1536))) (shapeCast _ a shapeCasts_S4096x1536_S4096x1536)) (pad S4096x1536 ![0, 0] ![3, 0] ![0, 0] (extractStridedSlice S4093x1536 ![3, 0] (mulf (broadcastInDim S4096x1536 ![0, 1] bcast_S1x1536_S4096x1536_0_1 (broadcastInDim S1x1536 ![1] bcast_S1536_S1x1536_1 (shapeCast _ (extractStridedSlice S1x1536 ![0, 0] w slices_S4x1536_S1x1536_0_0) shapeCasts_S1x1536_S1536))) (shapeCast _ a shapeCasts_S4096x1536_S4096x1536)) slices_S4096x1536_S4093x1536_3_0) (constant S_ .f32 0x00000000#32) pads_S4093x1536_S4096x1536_030_000 h_S_)) (pad S4096x1536 ![0, 0] ![2, 0] ![0, 0] (extractStridedSlice S4094x1536 ![2, 0] (mulf (broadcastInDim S4096x1536 ![0, 1] bcast_S1x1536_S4096x1536_0_1 (broadcastInDim S1x1536 ![1] bcast_S1536_S1x1536_1 (shapeCast _ (extractStridedSlice S1x1536 ![1, 0] w slices_S4x1536_S1x1536_1_0) shapeCasts_S1x1536_S1536))) (shapeCast _ a shapeCasts_S4096x1536_S4096x1536)) slices_S4096x1536_S4094x1536_2_0) (constant S_ .f32 0x00000000#32) pads_S4094x1536_S4096x1536_020_000 h_S_)) (pad S4096x1536 ![0, 0] ![1, 0] ![0, 0] (extractStridedSlice S4095x1536 ![1, 0] (mulf (broadcastInDim S4096x1536 ![0, 1] bcast_S1x1536_S4096x1536_0_1 (broadcastInDim S1x1536 ![1] bcast_S1536_S1x1536_1 (shapeCast _ (extractStridedSlice S1x1536 ![2, 0] w slices_S4x1536_S1x1536_2_0) shapeCasts_S1x1536_S1536))) (shapeCast _ a shapeCasts_S4096x1536_S4096x1536)) slices_S4096x1536_S4095x1536_1_0) (constant S_ .f32 0x00000000#32) pads_S4095x1536_S4096x1536_010_000 h_S_)

/-- The reference's result. -/
def wanted : FVec Ideal S4096x5760 .bf16 :=
  concatenate S4096x5760 1 [⟨S4096x3072, extractStridedSlice S4096x3072 ![0, 0] b slices_S4096x5760_S4096x3072_0_0⟩, ⟨S4096x1536, truncf .bf16 (part a w) bitsLt_bf16_f32⟩, ⟨S4096x1152, extractStridedSlice S4096x1152 ![0, 4608] b slices_S4096x5760_S4096x1152_0_4608⟩] concatenates_S4096x3072_S4096x1536_S4096x1152_S4096x5760_d1

theorem part_at (r : Fin 4096) (s : Fin 1536) : part a w (ix2 r s) = Cert.ConvBwdInIdeal.Prod.grad a w r s := by
  have h : part a w (ix2 r s) = w (ix2 3 s) * a (ix2 r s) + (if h : r.val < 4093 then w (ix2 0 s) * a (ix2 ⟨3 + r.val, by omega⟩ s) else 0)
      + (if h : r.val < 4094 then w (ix2 1 s) * a (ix2 ⟨2 + r.val, by omega⟩ s) else 0) + (if h : r.val < 4095 then w (ix2 2 s) * a (ix2 ⟨1 + r.val, by omega⟩ s) else 0) := by
    pointwise [part]
  have e (k n : ℕ) (y : EReal) (hk : n + k = 4096) : y * Cert.ConvBwdInIdeal.Prod.row a s (r.val + k) = if h : r.val < n then y * a (ix2 ⟨k + r.val, by omega⟩ s) else 0 := by
    unfold Cert.ConvBwdInIdeal.Prod.row
    by_cases hr : r.val < n
    · rw [dif_pos hr, dif_pos (by omega)]
      exact congrArg (fun z => y * a (ix2 z s)) (Fin.ext (Nat.add_comm _ _))
    · rw [dif_neg hr, dif_neg (by omega), mul_zero]
  rw [h]
  unfold Cert.ConvBwdInIdeal.Prod.grad
  rw [e 1 4095 _ rfl, e 2 4094 _ rfl, e 3 4093 _ rfl, show Cert.ConvBwdInIdeal.Prod.row a s r.val = a (ix2 r s) from dif_pos r.isLt]
  ac_rfl
theorem wanted_at (r : Fin 4096) (s : Fin 5760) : wanted a b w (ix2 r s) = if h : s.val < 3072 then b (ix2 r s)
    else if h : s.val - 3072 < 1536 then part a w (ix2 r ⟨s.val - 3072, h⟩) else b (ix2 r ⟨4608 + (s.val - 3072 - 1536), by omega⟩) := by
  pointwise [wanted]

theorem meet : Cert.ConvBwdInIdeal.Prod.result a b w = wanted a b w := by
  funext x
  idx_vars x
  rw [wanted_at]
  unfold Cert.ConvBwdInIdeal.Prod.result
  show (if h : 3072 ≤ x1.val ∧ x1.val < 4608 then Cert.ConvBwdInIdeal.Prod.grad a w x0 ⟨x1.val - 3072, by omega⟩ else b (ix2 x0 x1)) = _
  split_ifs with h1 h2 h3 h4 h5
  · omega
  · exact (part_at a w _ _).symm
  · omega
  · rfl
  · omega
  · exact congrArg (fun z => b (ix2 x0 z)) (Fin.ext (by show x1.val = 4608 + (x1.val - 3072 - 1536); omega))
end Cert.ConvBwdInRefIdeal.Prod
end
-- ==== Proof.ConvBwdInClaims.lean ====
module

public import proofs.«01_k».proof.Defs
public import proofs.«01_k».proof.Proof.Gen.ConvBwdIn
public import proofs.«01_k».proof.Proof.ConvBwdIn
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.ConvBwdIn

open Idealize.ShloMosaic Idealize.SL.Sem

/-- The kernel's body is the idealized program's, word for word. -/
theorem bodies_eq : Cert.ConvBwdIn.defs₀ (F := Bits) = Cert.ConvBwdInIdeal.defs₀ (F := Bits) := by
  unfold Cert.ConvBwdIn.defs₀ Cert.ConvBwdInIdeal.defs₀
  refine congrArg Defs.onTc ?_
  funext l a
  match l, a with
  | 0, (t, s) => rfl

theorem table_eq : Cert.ConvBwdIn.defs (F := Bits) = Cert.ConvBwdInIdeal.defs (F := Bits) :=
  congrArg (Pipeline.defs Cert.ConvBwdInIdeal.pcfgs) bodies_eq

theorem main_eq : Cert.ConvBwdIn.main (F := Bits) = Cert.ConvBwdInIdeal.main (F := Bits) := by rfl

theorem frame_P : Cert.quiescent_ConvBwdIn := fun m ρ _ => by
  rw [table_eq, main_eq]
  exact Cert.ConvBwdInIdeal.Gen.frame (F := Bits) m ρ

theorem frame_PI : Cert.quiescent_ConvBwdInIdeal := fun m ρ _ => Cert.ConvBwdInIdeal.Gen.frame (F := Ideal) m ρ

/-- The reference declares no semaphore. -/
theorem frame_RI : Cert.quiescent_ConvBwdInRefIdeal := fun m ρ _ =>
  (θ_run Cert.ConvBwdInRefIdeal.defs _ _).mono (fun r h => ⟨fun c => (h c).2, sem_eq_zero_of_no_sems (by decide) r.2⟩)
    (Cert.ConvBwdInRefIdeal.Value.run (F := Ideal) m ρ)

/-- The common value is the reference's result. -/
theorem algebraic : Cert.algebraic_ConvBwdInIdeal_ConvBwdInRefIdeal := fun m ρ m' ρ' _ hagree =>
  ⟨fun c => Cert.ConvBwdInRefIdeal.Prod.wanted (m' (c.tc.loc Cert.ConvBwdInRefIdeal.main_arg0)) (m' (c.tc.loc Cert.ConvBwdInRefIdeal.main_arg1)) (m' (c.tc.loc Cert.ConvBwdInRefIdeal.main_arg2)),
    (θ_run Cert.ConvBwdInIdeal.defs _ _).mono (fun _ h c =>
      ⟨((h c).1.trans (Cert.ConvBwdInIdeal.Prod.final_out m c)).trans (by
          beta_reduce
          rw [Cert.ConvBwdInIdeal.Gen.V_main_arg0, Cert.ConvBwdInIdeal.Gen.V_main_arg1, Cert.ConvBwdInIdeal.Gen.V_main_arg2, (hagree c).1, (hagree c).2.1, (hagree c).2.2]
          exact Cert.ConvBwdInRefIdeal.Prod.meet _ _ _), (h c).2⟩)
      (Cert.ConvBwdInIdeal.Value.run_blocks (F := Ideal) m ρ),
    Cert.ConvBwdInRefIdeal.Value.run (F := Ideal) m' ρ'⟩

end Cert.Proof.ConvBwdIn

end
-- ==== Proof.Rows.lean ====
module

public import proofs.«01_k».proof.Proof.Blocks
public import Mathlib.Data.EReal.Inv

/-! Sums over the rows of an array taken block by block, and the derivative of a norm of one row. -/

@[expose] public section

noncomputable section

namespace Cert.Prod

open Idealize.ShloMosaic

/-- A sum over blocks of equal length. -/
theorem sum_blocks (a b : ℕ) (f : ℕ → EReal) : ∑ r : Fin (a * b), f r.val = ∑ i : Fin a, ∑ j : Fin b, f (i.val * b + j.val) := by
  rw [← Equiv.sum_comp finProdFinEquiv (fun r : Fin (a * b) => f r.val), Fintype.sum_prod_type]
  refine Finset.sum_congr rfl fun i _ => Finset.sum_congr rfl fun j _ => congrArg f ?_
  show j.val + b * i.val = _
  rw [Nat.mul_comm, Nat.add_comm]

/-- A value that grows by one term a step. -/
theorem sum_steps (N : ℕ) (g f : ℕ → EReal) (h0 : g 0 = f 0) (hs : ∀ n, n + 1 < N → g (n + 1) = g n + f (n + 1)) :
    ∀ n, n < N → g n = ∑ t : Fin (n + 1), f t.val := by
  intro n
  induction n with
  | zero => intro _; rw [h0, Fin.sum_univ_one]; rfl
  | succ n ih =>
    intro h
    rw [hs n h, ih (by omega), Fin.sum_univ_castSucc (n := n + 1)]
    rfl

/-- All rows, summed tile by tile into eight partial sums. -/
theorem sum_tiles (f : ℕ → EReal) : ∑ q : Fin 8, ∑ t : Fin 16, ∑ k : Fin 32, f (t.val * 256 + (k.val * 8 + q.val)) = ∑ r : Fin 4096, f r.val := by
  rw [show (∑ r : Fin 4096, f r.val) = ∑ t : Fin 16, ∑ y : Fin 256, f (t.val * 256 + y.val) from sum_blocks 16 256 f, Finset.sum_comm]
  refine Finset.sum_congr rfl fun t _ => ?_
  rw [show (∑ y : Fin 256, f (t.val * 256 + y.val)) = ∑ k : Fin 32, ∑ q : Fin 8, f (t.val * 256 + (k.val * 8 + q.val)) from
    sum_blocks 32 8 (fun y => f (t.val * 256 + y)), Finset.sum_comm]

/-- A sum times a number that is not negative. -/
theorem sum_mul_real {ι : Type} (s : Finset ι) (f : ι → EReal) (r : ℝ) (hr : 0 ≤ r) : ∑ k ∈ s, f k * (r : EReal) = (∑ k ∈ s, f k) * (r : EReal) := by
  classical
  induction s using Finset.induction_on with
  | empty => rw [Finset.sum_empty, Finset.sum_empty, zero_mul]
  | insert a s ha ih =>
    rw [Finset.sum_insert ha, Finset.sum_insert ha, ih, mul_comm _ (r : EReal), mul_comm _ (r : EReal), mul_comm _ (r : EReal)]
    exact (EReal.left_distrib_of_nonneg_of_ne_top (EReal.coe_nonneg.mpr hr) (EReal.coe_ne_top r) _ _).symm

theorem square_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- The inverse root of a positive number is a number, and over that number it is its cube. -/
theorem inv_root (v : EReal) (h : 0 < v) : ∃ ρ : ℝ, 0 ≤ ρ ∧ Ideal.rsqrt v = (ρ : EReal) ∧ Ideal.div (Ideal.rsqrt v) v = ((ρ * ρ * ρ : ℝ) : EReal) := by
  induction v using EReal.rec with
  | bot => exact absurd h (by simp)
  | top => exact ⟨0, le_refl _, by rw [Ideal.rsqrt_top]; rfl, by rw [Ideal.rsqrt_top, Ideal.div, if_neg (by simp), zero_mul]; simp⟩
  | coe v =>
    have hv : 0 < v := EReal.coe_pos.mp h
    refine ⟨(Real.sqrt v)⁻¹, inv_nonneg.mpr (Real.sqrt_nonneg v), ?_, ?_⟩
    · rw [Ideal.rsqrt_coe, if_neg (not_lt.mpr hv.le), if_neg hv.ne']
    · rw [Ideal.rsqrt_coe, if_neg (not_lt.mpr hv.le), if_neg hv.ne', Ideal.div_coe hv.ne', ← EReal.coe_mul]
      refine congrArg _ ?_
      have hs : Real.sqrt v ≠ 0 := (Real.sqrt_pos.mpr hv).ne'
      have hq : Real.sqrt v * Real.sqrt v = v := Real.mul_self_sqrt hv.le
      rw [mul_assoc, ← mul_inv, hq, one_div]

theorem twice (a b : EReal) : a * b + b * a = a * (2 * b) := by
  rw [mul_comm b a, ← mul_left_comm, show (2 : EReal) = 1 + 1 by norm_num, EReal.right_distrib_of_nonneg zero_le_one zero_le_one, one_mul]

/-- The gradient of one row through `x / √v`, at the entry `X` of the row `x`, whose gradient is `p` there and `q` along
    the row: as a correction of `p` before the scaling, and as the two equal halves of the derivative of the square. -/
theorem norm_grad {n : ℕ} (x q : Fin n → EReal) (X p v D H : EReal) (N : ℝ) (hN : 0 < N) (hD : D = (N : EReal)) (hH : H = ((-1 / 2 : ℝ) : EReal)) (hv : 0 < v) :
    Ideal.rsqrt v * (p - X * Ideal.rsqrt v * Ideal.div (∑ k, q k * (x k * Ideal.rsqrt v)) D)
      = p * Ideal.rsqrt v + X * Ideal.div ((∑ k, x k * q k) * (H * Ideal.div (Ideal.rsqrt v) v)) D
        + Ideal.div ((∑ k, x k * q k) * (H * Ideal.div (Ideal.rsqrt v) v)) D * X := by
  obtain ⟨ρ, h0, e1, e2⟩ := inv_root v hv
  have hS : ∑ k, q k * (x k * (ρ : EReal)) = (∑ k, x k * q k) * (ρ : EReal) := by
    rw [← sum_mul_real _ _ ρ h0]
    exact Finset.sum_congr rfl fun k _ => by rw [← mul_assoc, mul_comm (q k)]
  rw [e2, e1, hS, hD, hH, Ideal.div_coe hN.ne', Ideal.div_coe hN.ne', add_assoc, twice, sub_eq_add_neg,
    EReal.left_distrib_of_nonneg_of_ne_top (EReal.coe_nonneg.mpr h0) (EReal.coe_ne_top ρ), mul_comm p]
  refine congrArg _ ?_
  generalize (∑ k, x k * q k) = S
  have l : (ρ : EReal) * -(X * (ρ : EReal) * (S * (ρ : EReal) * ((1 / N : ℝ) : EReal))) = X * S * ((-(ρ * ρ * ρ * (1 / N)) : ℝ) : EReal) := by
    rw [EReal.coe_neg, EReal.coe_mul, EReal.coe_mul, EReal.coe_mul, mul_neg, mul_neg]
    exact congrArg _ (by ac_rfl)
  have r : X * (2 * (S * (((-1 / 2 : ℝ) : EReal) * ((ρ * ρ * ρ : ℝ) : EReal)) * ((1 / N : ℝ) : EReal))) = X * S * ((2 * (-1 / 2) * (ρ * ρ * ρ) * (1 / N) : ℝ) : EReal) := by
    rw [EReal.coe_mul (2 * (-1 / 2) * (ρ * ρ * ρ)), EReal.coe_mul (2 * (-1 / 2)), EReal.coe_mul 2, show ((2 : ℝ) : EReal) = 2 from rfl]
    ac_rfl
  rw [l, r]
  exact congrArg _ (congrArg _ (by ring))

end Cert.Prod

end
-- ==== Proof.LnBwd.lean ====
module

public import proofs.«01_k».proof.Proof.Rows
public import proofs.«01_k».proof.Proof.Gen.LnBwdIdeal.Frame
public import proofs.«01_k».proof.Proof.Gen.LnBwdRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The gradients through the norm before the MLP: of its input, with what the residual path brings, and of its gain. -/

@[expose] public section

set_option maxRecDepth 16384

noncomputable section

namespace Cert.LnBwdIdeal.Norm

open Cert.LnBwdIdeal Cert.LnBwdIdeal.Gen Idealize.ShloMosaic Idealize.ShloMosaic.TcCoe
open Cert.Prod (zeros)

section Cases
variable {F : FTy → Type} [FloatOps F] (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S8x2048 .f32) (harg7 : arg7.IsWhole)
  (x0 : Vec F S256x2048 .f32) (x1 : Vec F S256x2048 .f32) (x2 : Vec F S256x2048 .f32) (x3 : Vec F S1x2048 .f32) (xs : Vec F S8x2048 .f32)

theorem first_dx (hc : cond0_0 i) : out0_A_4 c i arg1 harg1 arg2 harg2 arg3 harg3 arg4 harg4 arg5 harg5 arg6 harg6 arg7 harg7 hc x0 x1 x2 x3 = k0_pay6 x0 x1 x2 x3 := by
  unfold out0_A_4
  refine Eq.trans (View.read_writes_eq_canon _ _ _ fun _ => cover0_A_4 ..) ?_
  unfold kernelRun0_A
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros]

theorem first_dxb (hc : cond0_0 i) : out0_A_5 c i arg1 harg1 arg2 harg2 arg3 harg3 arg4 harg4 arg5 harg5 arg6 harg6 arg7 harg7 hc x0 x1 x2 x3 = k0_pay7 x0 x1 x2 x3 := by
  unfold out0_A_5
  refine Eq.trans (View.read_writes_eq_canon _ _ _ fun _ => cover0_A_5 ..) ?_
  unfold kernelRun0_A
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros]

theorem first_sum (hc : cond0_0 i) : out0_A_6 c i arg1 harg1 arg2 harg2 arg3 harg3 arg4 harg4 arg5 harg5 arg6 harg6 arg7 harg7 hc x0 x1 x2 x3 = k0_pay1 (k0_pay5 x0 x1) k0_pay8 := by
  unfold out0_A_6
  refine Eq.trans (View.read_writes_eq_canon _ _ _ fun _ => cover0_A_6 ..) ?_
  unfold kernelRun0_A
  dsimp only
  sl_unfold_words
  rw [View.canon_cons_unit_zero (S := S8x2048) zeros, View.readCov_unit_zero (S := S8x2048) _ zeros]
  simp only [View.readAt_eq_ld, Memref.IsWhole.read_unread, View.ld_unit_zero (S := S256x2048) zeros, View.ld_unit_zero (S := S1x2048) zeros, View.ld_unit_zero (S := S8x2048) zeros]

theorem next_dx (hc : ¬cond0_0 i) : out0_B_4 c i arg1 harg1 arg2 harg2 arg3 harg3 arg4 harg4 arg5 harg5 arg6 harg6 arg7 harg7 hc x0 x1 x2 x3 xs = k0_pay6 x0 x1 x2 x3 := by
  unfold out0_B_4
  refine Eq.trans (View.read_writes_eq_canon _ _ _ fun _ => cover0_B_4 ..) ?_
  unfold kernelRun0_B
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros]

theorem next_dxb (hc : ¬cond0_0 i) : out0_B_5 c i arg1 harg1 arg2 harg2 arg3 harg3 arg4 harg4 arg5 harg5 arg6 harg6 arg7 harg7 hc x0 x1 x2 x3 xs = k0_pay7 x0 x1 x2 x3 := by
  unfold out0_B_5
  refine Eq.trans (View.read_writes_eq_canon _ _ _ fun _ => cover0_B_5 ..) ?_
  unfold kernelRun0_B
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros]

theorem next_sum (hc : ¬cond0_0 i) : out0_B_6 c i arg1 harg1 arg2 harg2 arg3 harg3 arg4 harg4 arg5 harg5 arg6 harg6 arg7 harg7 hc x0 x1 x2 x3 xs = k0_pay1 (k0_pay5 x0 x1) xs := by
  unfold out0_B_6
  refine Eq.trans (View.read_writes_eq_canon _ _ _ fun _ => cover0_B_6 ..) ?_
  unfold kernelRun0_B
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros]

end Cases

/-- A row's mean square, with the norm's small number. -/
def square (x : Fin 2048 → EReal) : EReal := Ideal.div (∑ k, x k * x k) (Ideal.ofBits FTy.f32 0x45000000#32) + Ideal.ofBits FTy.f32 0x3727C5AC#32
/-- A row's gradient through the norm. -/
def grad (x d g : Fin 2048 → EReal) (j : Fin 2048) : EReal :=
  Ideal.rsqrt (square x) * (d j * g j - x j * Ideal.rsqrt (square x) * Ideal.div (∑ k, d k * g k * (x k * Ideal.rsqrt (square x))) (Ideal.ofBits FTy.f32 0x45000000#32))

section Payloads
variable (x0 : Vec Ideal S256x2048 .f32) (x1 : Vec Ideal S256x2048 .f32) (x2 : Vec Ideal S256x2048 .f32) (x3 : Vec Ideal S1x2048 .f32) (xs : Vec Ideal S8x2048 .f32) (i : Fin 256) (q : Fin 8) (j : Fin 2048)

theorem inv_at : k0_pay2 x0 (ix2 i 0) = Ideal.rsqrt (square (fun k => x0 (ix2 i k))) := by
  pointwise [k0_pay2, square]
theorem zero_at : (k0_pay8 (F := Ideal)) (ix2 q j) = 0 := by
  pointwise [k0_pay8]
theorem xh_at : k0_pay3 x0 (ix2 i j) = x0 (ix2 i j) * k0_pay2 x0 (ix2 i 0) := by
  pointwise [k0_pay3]
theorem dxn_at : k0_pay4 x0 x1 x3 (ix2 i j) = grad (fun k => x0 (ix2 i k)) (fun k => x1 (ix2 i k)) (fun k => x3 (ix2 0 k)) j := by
  have h : k0_pay4 x0 x1 x3 (ix2 i j) = k0_pay2 x0 (ix2 i 0) * (x1 (ix2 i j) * x3 (ix2 0 j) - k0_pay3 x0 (ix2 i j)
      * Ideal.div (∑ k, x1 (ix2 i k) * x3 (ix2 0 k) * k0_pay3 x0 (ix2 i k)) (Ideal.ofBits FTy.f32 0x45000000#32)) := by
    pointwise [k0_pay4]
  rw [h]
  simp only [xh_at, inv_at]
  rfl
theorem dx_at : k0_pay6 x0 x1 x2 x3 (ix2 i j) = k0_pay4 x0 x1 x3 (ix2 i j) + x2 (ix2 i j) := by
  pointwise [k0_pay6]
theorem dxb_at : k0_pay7 x0 x1 x2 x3 (ix2 i j) = k0_pay4 x0 x1 x3 (ix2 i j) + x2 (ix2 i j) := by
  pointwise [k0_pay7]
theorem dg_at : k0_pay5 x0 x1 (ix2 i j) = x1 (ix2 i j) * k0_pay3 x0 (ix2 i j) := by
  pointwise [k0_pay5]
theorem sum_at (v : Vec Ideal S256x2048 .f32) : k0_pay1 v xs (ix2 q j) = xs (ix2 q j) + ∑ k : Fin 32, v (ix2 ⟨k.val * 8 + q.val, by omega⟩ j) := by
  pointwise [k0_pay1]
end Payloads

theorem coords : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0) := by
  decide +kernel
theorem N_val : cfg0.N = 16 := N_0

/-- The gradient of the input, with the residual's. -/
def result (X D : FVec Ideal S4096x2048 .f32) (G : FVec Ideal S2048 .f32) (E : FVec Ideal S4096x2048 .f32) : FVec Ideal S4096x2048 .f32 := fun x =>
  grad (fun k => X (ix2 (x 0) k)) (fun k => D (ix2 (x 0) k)) (fun k => G (ix1 k)) (x 1) + E x
/-- What row `n` adds to the gradient of the gain. -/
def term (X D : FVec Ideal S4096x2048 .f32) (s : Fin 2048) (n : ℕ) : EReal :=
  if h : n < 4096 then D (ix2 ⟨n, h⟩ s) * (X (ix2 ⟨n, h⟩ s) * Ideal.rsqrt (square (fun k => X (ix2 ⟨n, h⟩ k)))) else 0
/-- The eight partial sums. -/
def parts (X D : FVec Ideal S4096x2048 .f32) : FVec Ideal S8x2048 .f32 := fun x =>
  ∑ t : Fin 16, ∑ k : Fin 32, term X D (x 1) (t.val * 256 + (k.val * 8 + (x 0).val))

section Array
variable (m : (ℓ : Loc nD τ sig) → Buf (Elt Ideal) ℓ) (c : Dev nD)

theorem x_at (t : Fin cfg0.N) (a : Fin 256) (b : Fin 2048) (r : Fin 4096) (hr : r.val = t.val * 256 + a.val) :
    iblk m c 0 t (ix2 a b) = V m c main_arg0 (ix2 r b) := by
  obtain ⟨⟨h0, h1⟩, -⟩ := coords t
  have he : ((cfg0.win 0).blk t).view.emb (ix2 a b) = (ix2 r b : S4096x2048.Idx) := funext fun d => Fin.ext (match d with
    | ⟨0, _⟩ => by show win0_0.index t 0 * 256 + 1 * a.val = r.val; rw [h0, hr, Nat.one_mul]
    | ⟨1, _⟩ => by show win0_0.index t 1 * 2048 + 1 * b.val = b.val; rw [h1, Nat.one_mul, Nat.zero_mul, Nat.zero_add])
  show V m c main_arg0 (((cfg0.win 0).blk t).view.emb (ix2 a b)) = _
  rw [he]
theorem d_at (t : Fin cfg0.N) (a : Fin 256) (b : Fin 2048) (r : Fin 4096) (hr : r.val = t.val * 256 + a.val) :
    iblk m c 1 t (ix2 a b) = V m c main_arg1 (ix2 r b) := by
  obtain ⟨-, ⟨h0, h1⟩, -⟩ := coords t
  have he : ((cfg0.win 1).blk t).view.emb (ix2 a b) = (ix2 r b : S4096x2048.Idx) := funext fun d => Fin.ext (match d with
    | ⟨0, _⟩ => by show win0_1.index t 0 * 256 + 1 * a.val = r.val; rw [h0, hr, Nat.one_mul]
    | ⟨1, _⟩ => by show win0_1.index t 1 * 2048 + 1 * b.val = b.val; rw [h1, Nat.one_mul, Nat.zero_mul, Nat.zero_add])
  show V m c main_arg1 (((cfg0.win 1).blk t).view.emb (ix2 a b)) = _
  rw [he]
theorem e_at (t : Fin cfg0.N) (a : Fin 256) (b : Fin 2048) (r : Fin 4096) (hr : r.val = t.val * 256 + a.val) :
    iblk m c 2 t (ix2 a b) = V m c main_arg3 (ix2 r b) := by
  obtain ⟨-, -, ⟨h0, h1⟩, -⟩ := coords t
  have he : ((cfg0.win 2).blk t).view.emb (ix2 a b) = (ix2 r b : S4096x2048.Idx) := funext fun d => Fin.ext (match d with
    | ⟨0, _⟩ => by show win0_2.index t 0 * 256 + 1 * a.val = r.val; rw [h0, hr, Nat.one_mul]
    | ⟨1, _⟩ => by show win0_2.index t 1 * 2048 + 1 * b.val = b.val; rw [h1, Nat.one_mul, Nat.zero_mul, Nat.zero_add])
  show V m c main_arg3 (((cfg0.win 2).blk t).view.emb (ix2 a b)) = _
  rw [he]
theorem gain_row (t : Fin cfg0.N) (a : Fin 1) (b : Fin 2048) :
    iblk m c 3 t (ix2 a b) = V m c main_v0 (ix2 a b) := by
  obtain ⟨-, -, -, ⟨h0, h1⟩, -⟩ := coords t
  have he : ((cfg0.win 3).blk t).view.emb (ix2 a b) = (ix2 a b : S1x2048.Idx) := funext fun d => Fin.ext (match d with
    | ⟨0, _⟩ => by show win0_3.index t 0 * 1 + 1 * a.val = a.val; rw [h0, Nat.one_mul, Nat.zero_mul, Nat.zero_add]
    | ⟨1, _⟩ => by show win0_3.index t 1 * 2048 + 1 * b.val = b.val; rw [h1, Nat.one_mul, Nat.zero_mul, Nat.zero_add])
  show V m c main_v0 (((cfg0.win 3).blk t).view.emb (ix2 a b)) = _
  rw [he]

theorem g_at (t : Fin cfg0.N) (b : Fin 2048) : iblk m c 3 t (ix2 0 b) = V m c main_arg2 (ix1 b) := by
  rw [gain_row]
  have h : V m c main_v0 = (shapeCast S1x2048 (V m c main_arg2 : FVec Ideal S2048 .f32) shapeCasts_S2048_S1x2048 : FVec Ideal S1x2048 .f32) := by
    rfl
  rw [h]
  pointwise

theorem pay_at (t : Fin cfg0.N) (a : Fin 256) (b : Fin 2048) (r : Fin 4096) (hr : r.val = t.val * 256 + a.val) :
    k0_pay4 (iblk m c 0 t) (iblk m c 1 t) (iblk m c 3 t) (ix2 a b) + iblk m c 2 t (ix2 a b) = result (V m c main_arg0) (V m c main_arg1) (V m c main_arg2) (V m c main_arg3) (ix2 r b) := by
  rw [dxn_at, e_at m c t a b r hr]
  show _ = grad (fun k => V m c main_arg0 (ix2 r k)) (fun k => V m c main_arg1 (ix2 r k)) (fun k => V m c main_arg2 (ix1 k)) b + V m c main_arg3 (ix2 r b)
  simp only [x_at m c t a _ r hr, d_at m c t a _ r hr, g_at m c t]

theorem dx_out (t : Fin cfg0.N) (a : Fin 256) (b : Fin 2048) (r : Fin 4096) (hr : r.val = t.val * 256 + a.val) :
    (outsAt0 m c t.val t.isLt).1 (ix2 a b) = result (V m c main_arg0) (V m c main_arg1) (V m c main_arg2) (V m c main_arg3) (ix2 r b) := by
  by_cases h : t.val % 16 = 0
  · rw [outsAt0_A m c t h]
    dsimp only
    rw [first_dx, dx_at]
    exact pay_at m c t a b r hr
  · rw [outsAt0_B m c t h]
    dsimp only
    rw [next_dx, dx_at]
    exact pay_at m c t a b r hr
theorem dxb_out (t : Fin cfg0.N) (a : Fin 256) (b : Fin 2048) (r : Fin 4096) (hr : r.val = t.val * 256 + a.val) :
    (outsAt0 m c t.val t.isLt).2.1 (ix2 a b) = result (V m c main_arg0) (V m c main_arg1) (V m c main_arg2) (V m c main_arg3) (ix2 r b) := by
  by_cases h : t.val % 16 = 0
  · rw [outsAt0_A m c t h]
    dsimp only
    rw [first_dxb, dxb_at]
    exact pay_at m c t a b r hr
  · rw [outsAt0_B m c t h]
    dsimp only
    rw [next_dxb, dxb_at]
    exact pay_at m c t a b r hr

theorem term_at (t : Fin cfg0.N) (q : Fin 8) (s : Fin 2048) :
    ∑ k : Fin 32, k0_pay5 (iblk m c 0 t) (iblk m c 1 t) (ix2 ⟨k.val * 8 + q.val, by omega⟩ s)
      = ∑ k : Fin 32, term (V m c main_arg0) (V m c main_arg1) s (t.val * 256 + (k.val * 8 + q.val)) := by
  have hN : t.val < 16 := lt_of_lt_of_eq t.isLt N_val
  refine Finset.sum_congr rfl fun k _ => ?_
  rw [dg_at, xh_at, inv_at]
  unfold term
  rw [dif_pos (by omega)]
  have hx := fun b : Fin 2048 => x_at m c t ⟨k.val * 8 + q.val, by omega⟩ b ⟨t.val * 256 + (k.val * 8 + q.val), by omega⟩ rfl
  have hd := fun b : Fin 2048 => d_at m c t ⟨k.val * 8 + q.val, by omega⟩ b ⟨t.val * 256 + (k.val * 8 + q.val), by omega⟩ rfl
  simp only [hx, hd]

/-- The partial sums after each tile. -/
theorem sums_at (q : Fin 8) (s : Fin 2048) (n : ℕ) (hn : n < 16) (h : n < cfg0.N) : (outsAt0 m c n h).2.2 (ix2 q s)
    = ∑ t : Fin (n + 1), ∑ k : Fin 32, term (V m c main_arg0) (V m c main_arg1) s (t.val * 256 + (k.val * 8 + q.val)) := by
  have e := Cert.Prod.sum_steps 16 (fun n => if h : n < cfg0.N then (outsAt0 m c n h).2.2 (ix2 q s) else 0)
    (fun n => ∑ k : Fin 32, term (V m c main_arg0) (V m c main_arg1) s (n * 256 + (k.val * 8 + q.val))) ?_ ?_ n hn
  · rw [dif_pos h] at e
    exact e
  · have h0 : 0 < cfg0.N := by rw [N_val]; omega
    rw [dif_pos h0, outsAt0_A m c ⟨0, h0⟩ rfl]
    dsimp only
    rw [first_sum, sum_at, zero_at, zero_add, term_at]
  · intro n hn
    have h0 : n < cfg0.N := by rw [N_val]; omega
    have h1 : n + 1 < cfg0.N := by rw [N_val]; omega
    rw [dif_pos h1, dif_pos h0, outsAt0_B m c ⟨n + 1, h1⟩ (by dsimp only; omega)]
    dsimp only
    rw [next_sum, sum_at, term_at]
    rfl

theorem flushed_dx (t : Fin cfg0.N) (hf : (cfg0.win 4).flush t = true) : (dats m 0 c).flushed 4 t = ((cfg0.win 4).blk t).view.read (Elt Ideal) (result (V m c main_arg0) (V m c main_arg1) (V m c main_arg2) (V m c main_arg3)) := by
  obtain ⟨-, -, -, -, ⟨h0, h1⟩, -⟩ := coords t
  have hN : t.val < 16 := lt_of_lt_of_eq t.isLt N_val
  show (cfg0.win 4).cut (grid0.coords t) ((dats m 0 c).after 4 t) = _
  rw [after0_4]
  funext y
  show (outsAt0 m c t.val t.isLt).1 y = result (V m c main_arg0) (V m c main_arg1) (V m c main_arg2) (V m c main_arg3) (((cfg0.win 4).blk t).view.emb y)
  have y0 : (y 0).val < 256 := (y 0).isLt
  have y1 : (y 1).val < 2048 := (y 1).isLt
  have he : ((cfg0.win 4).blk t).view.emb y = (ix2 ⟨t.val * 256 + (y 0).val, by omega⟩ ⟨(y 1).val, y1⟩ : S4096x2048.Idx) := funext fun d => Fin.ext (match d with
    | ⟨0, _⟩ => by show win0_4.index t 0 * 256 + 1 * (y 0).val = t.val * 256 + (y 0).val; rw [h0, Nat.one_mul]
    | ⟨1, _⟩ => by show win0_4.index t 1 * 2048 + 1 * (y 1).val = (y 1).val; rw [h1, Nat.one_mul, Nat.zero_mul, Nat.zero_add])
  have hy : y = (ix2 ⟨(y 0).val, y0⟩ ⟨(y 1).val, y1⟩ : S256x2048.Idx) := funext fun d => match d with
    | ⟨0, _⟩ => rfl
    | ⟨1, _⟩ => rfl
  rw [he]
  conv_lhs => rw [hy]
  exact dx_out m c t _ _ _ rfl

theorem cover_dx (i : S4096x2048.Idx) : ∃ t : Fin cfg0.N, (cfg0.win 4).flush t = true ∧ i ∈ ((cfg0.win 4).blk t).view.set := by
  have i0 : (i 0).val < 4096 := (i 0).isLt
  have i1 : (i 1).val < 2048 := (i 1).isLt
  have hb : (i 0).val / 256 < cfg0.N := by rw [N_val]; omega
  obtain ⟨-, -, -, -, ⟨h0, h1⟩, -⟩ := coords ⟨_, hb⟩
  refine ⟨⟨_, hb⟩, flush0_4 _, ?_⟩
  show (show ((View.whole (Pipeline.arrRef spec0 4)).slice (win0_4.rect ⟨_, hb⟩)).ty.Idx from i) ∈ ((View.whole (Pipeline.arrRef spec0 4)).slice (win0_4.rect ⟨_, hb⟩)).set
  rw [View.set_slice_whole, Rect.mem_set_unit]
  intro a
  match a with
  | ⟨0, _⟩ => show win0_4.index _ 0 * 256 ≤ (i 0).val ∧ (i 0).val < win0_4.index _ 0 * 256 + 256
              rw [h0]; dsimp only; omega
  | ⟨1, _⟩ => show win0_4.index _ 1 * 2048 ≤ (i 1).val ∧ (i 1).val < win0_4.index _ 1 * 2048 + 2048
              rw [h1]; omega

theorem final_dx : (dats m 0 c).arrAt 4 cfg0.N = result (V m c main_arg0) (V m c main_arg1) (V m c main_arg2) (V m c main_arg3) :=
  (dats m 0 c).arrAt_eq_of_cover 4 _ (flushed_dx m c) cover_dx

theorem flushed_dxb (t : Fin cfg0.N) (hf : (cfg0.win 5).flush t = true) : (dats m 0 c).flushed 5 t = ((cfg0.win 5).blk t).view.read (Elt Ideal) (result (V m c main_arg0) (V m c main_arg1) (V m c main_arg2) (V m c main_arg3)) := by
  obtain ⟨-, -, -, -, -, ⟨h0, h1⟩, -⟩ := coords t
  have hN : t.val < 16 := lt_of_lt_of_eq t.isLt N_val
  show (cfg0.win 5).cut (grid0.coords t) ((dats m 0 c).after 5 t) = _
  rw [after0_5]
  funext y
  show (outsAt0 m c t.val t.isLt).2.1 y = result (V m c main_arg0) (V m c main_arg1) (V m c main_arg2) (V m c main_arg3) (((cfg0.win 5).blk t).view.emb y)
  have y0 : (y 0).val < 256 := (y 0).isLt
  have y1 : (y 1).val < 2048 := (y 1).isLt
  have he : ((cfg0.win 5).blk t).view.emb y = (ix2 ⟨t.val * 256 + (y 0).val, by omega⟩ ⟨(y 1).val, y1⟩ : S4096x2048.Idx) := funext fun d => Fin.ext (match d with
    | ⟨0, _⟩ => by show win0_5.index t 0 * 256 + 1 * (y 0).val = t.val * 256 + (y 0).val; rw [h0, Nat.one_mul]
    | ⟨1, _⟩ => by show win0_5.index t 1 * 2048 + 1 * (y 1).val = (y 1).val; rw [h1, Nat.one_mul, Nat.zero_mul, Nat.zero_add])
  have hy : y = (ix2 ⟨(y 0).val, y0⟩ ⟨(y 1).val, y1⟩ : S256x2048.Idx) := funext fun d => match d with
    | ⟨0, _⟩ => rfl
    | ⟨1, _⟩ => rfl
  rw [he]
  conv_lhs => rw [hy]
  exact dxb_out m c t _ _ _ rfl

theorem cover_dxb (i : S4096x2048.Idx) : ∃ t : Fin cfg0.N, (cfg0.win 5).flush t = true ∧ i ∈ ((cfg0.win 5).blk t).view.set := by
  have i0 : (i 0).val < 4096 := (i 0).isLt
  have i1 : (i 1).val < 2048 := (i 1).isLt
  have hb : (i 0).val / 256 < cfg0.N := by rw [N_val]; omega
  obtain ⟨-, -, -, -, -, ⟨h0, h1⟩, -⟩ := coords ⟨_, hb⟩
  refine ⟨⟨_, hb⟩, flush0_5 _, ?_⟩
  show (show ((View.whole (Pipeline.arrRef spec0 5)).slice (win0_5.rect ⟨_, hb⟩)).ty.Idx from i) ∈ ((View.whole (Pipeline.arrRef spec0 5)).slice (win0_5.rect ⟨_, hb⟩)).set
  rw [View.set_slice_whole, Rect.mem_set_unit]
  intro a
  match a with
  | ⟨0, _⟩ => show win0_5.index _ 0 * 256 ≤ (i 0).val ∧ (i 0).val < win0_5.index _ 0 * 256 + 256
              rw [h0]; dsimp only; omega
  | ⟨1, _⟩ => show win0_5.index _ 1 * 2048 ≤ (i 1).val ∧ (i 1).val < win0_5.index _ 1 * 2048 + 2048
              rw [h1]; omega

theorem final_dxb : (dats m 0 c).arrAt 5 cfg0.N = result (V m c main_arg0) (V m c main_arg1) (V m c main_arg2) (V m c main_arg3) :=
  (dats m 0 c).arrAt_eq_of_cover 5 _ (flushed_dxb m c) cover_dxb

theorem flushed_sum (t : Fin cfg0.N) (hf : (cfg0.win 6).flush t = true) : (dats m 0 c).flushed 6 t = ((cfg0.win 6).blk t).view.read (Elt Ideal) (parts (V m c main_arg0) (V m c main_arg1)) := by
  obtain ⟨-, -, -, -, -, -, h0, h1⟩ := coords t
  have hN : t.val < 16 := lt_of_lt_of_eq t.isLt N_val
  show (cfg0.win 6).cut (grid0.coords t) ((dats m 0 c).after 6 t) = _
  rw [after0_6]
  funext y
  show (outsAt0 m c t.val t.isLt).2.2 y = parts (V m c main_arg0) (V m c main_arg1) (((cfg0.win 6).blk t).view.emb y)
  have y0 : (y 0).val < 8 := (y 0).isLt
  have y1 : (y 1).val < 2048 := (y 1).isLt
  have he : ((cfg0.win 6).blk t).view.emb y = (ix2 ⟨(y 0).val, y0⟩ ⟨(y 1).val, y1⟩ : S8x2048.Idx) := funext fun d => Fin.ext (match d with
    | ⟨0, _⟩ => by show win0_6.index t 0 * 8 + 1 * (y 0).val = (y 0).val; rw [h0, Nat.one_mul, Nat.zero_mul, Nat.zero_add]
    | ⟨1, _⟩ => by show win0_6.index t 1 * 2048 + 1 * (y 1).val = (y 1).val; rw [h1, Nat.one_mul, Nat.zero_mul, Nat.zero_add])
  have hy : y = (ix2 ⟨(y 0).val, y0⟩ ⟨(y 1).val, y1⟩ : S8x2048.Idx) := funext fun d => match d with
    | ⟨0, _⟩ => rfl
    | ⟨1, _⟩ => rfl
  rw [he]
  conv_lhs => rw [hy]
  exact (sums_at m c _ _ t.val hN t.isLt).trans (by have h15 := (flush0_6 t).mp hf; rw [show t.val = 15 by omega]; rfl)

theorem cover_sum (i : S8x2048.Idx) : ∃ t : Fin cfg0.N, (cfg0.win 6).flush t = true ∧ i ∈ ((cfg0.win 6).blk t).view.set := by
  have i0 : (i 0).val < 8 := (i 0).isLt
  have i1 : (i 1).val < 2048 := (i 1).isLt
  have hb : 15 < cfg0.N := by rw [N_val]; omega
  obtain ⟨-, -, -, -, -, -, h0, h1⟩ := coords ⟨_, hb⟩
  refine ⟨⟨_, hb⟩, (flush0_6 _).mpr rfl, ?_⟩
  show (show ((View.whole (Pipeline.arrRef spec0 6)).slice (win0_6.rect ⟨_, hb⟩)).ty.Idx from i) ∈ ((View.whole (Pipeline.arrRef spec0 6)).slice (win0_6.rect ⟨_, hb⟩)).set
  rw [View.set_slice_whole, Rect.mem_set_unit]
  intro a
  match a with
  | ⟨0, _⟩ => show win0_6.index _ 0 * 8 ≤ (i 0).val ∧ (i 0).val < win0_6.index _ 0 * 8 + 8
              rw [h0]; omega
  | ⟨1, _⟩ => show win0_6.index _ 1 * 2048 ≤ (i 1).val ∧ (i 1).val < win0_6.index _ 1 * 2048 + 2048
              rw [h1]; omega

theorem final_sum : (dats m 0 c).arrAt 6 cfg0.N = parts (V m c main_arg0) (V m c main_arg1) :=
  (dats m 0 c).arrAt_eq_of_cover 6 _ (flushed_sum m c) cover_sum

/-- The sum over the eight rows, taken after the call. -/
def total (p : FVec Ideal S8x2048 .f32) : FVec Ideal S2048 .f32 := Host.reduceAdd p (constant S_ .f32 0x00000000#32) reducesTo_S8x2048_S2048_d0 h_S_
theorem total_at (p : FVec Ideal S8x2048 .f32) (j : Fin 2048) : total p (ix1 j) = ∑ q : Fin 8, p (ix2 q j) := by
  pointwise [total]

theorem after_call : Pipeline.afterTail₀ cfgs (dats m) 0 (V0 m) [hostOps1] c main_v2 = total (parts (V m c main_arg0) (V m c main_arg1)) := by
  have h := Pipeline.withArrays_arr cfg0.spec winFacts0.arr_inj c (V0 m c) (fun w => (dats m 0 c).arrAt w cfg0.N) 6
  unfold Pipeline.afterTail₀
  rw [show ([hostOps1] : List (List (HloOp τ sig (Elt Ideal)))).flatten = hostOps1 from rfl]
  unfold hostOps1
  after_results_simp
  exact congrArg total (h.trans (final_sum m c))

/-- The call and the sum after it. -/
theorem run (ρ : Dev nD → PrngReg) : θ_run defs (onTc (τ := τ) (main (F := Ideal))) ⟨m, fun _ => 0, ρ⟩ (fun r => ∀ c : Dev nD,
    r.2.mem ((c.tc : Thread nD τ).loc main_v1_0) = result (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v1_1) = result (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v2) = total (parts (m ((c.tc : Thread nD τ).loc main_arg0)) (m ((c.tc : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h.1 c).1 4).trans (final_dx m c), ((h.1 c).1 5).trans (final_dxb m c),
      ((h.1 c).2 main_v2 (Pipeline.mem_restRefs_of main_v2 (by decide) (by decide))).trans (after_call m c), h.2 c⟩)
    (θ_run_and (run_main m ρ) (unchanged m ρ))
end Array

end Cert.LnBwdIdeal.Norm

namespace Cert.LnBwdRefIdeal.Norm

open Cert.LnBwdRefIdeal Cert.LnBwdRefIdeal.Gen Idealize.ShloMosaic Idealize.ShloMosaic.TcCoe
variable (x d : FVec Ideal S4096x2048 .f32) (g : FVec Ideal S2048 .f32) (e : FVec Ideal S4096x2048 .f32)

/-- The mean square of each row, with the norm's small number. -/
def mean : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x3727C5AC#32))
/-- The gradient scaled by the gain. -/
def scaled : FVec Ideal S4096x2048 .f32 := mulf d (broadcastInDim S4096x2048 ![0, 1] bcast_S1x2048_S4096x2048_0_1 (broadcastInDim S1x2048 ![1] bcast_S2048_S1x2048_1 g))
/-- The gradient of each row's mean square, per entry. -/
def through : FVec Ideal S4096x2048 .f32 :=
  broadcastInDim S4096x2048 ![0] bcast_S4096_S4096x2048_0 (Host.reduceAdd (Host.divf (mulf (shapeCast _ (Host.reduceAdd (mulf x (scaled d g)) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (mean x)) (mean x)))) (broadcastInDim S4096x1 ![] bcast_S_S4096x1 (constant S_ .f32 0x45000000#32))) (constant S_ .f32 0x00000000#32) reducesTo_S4096x1_S4096_d1 h_S_)
/-- The reference's gradient of the input, with the residual's. -/
def wanted : FVec Ideal S4096x2048 .f32 :=
  addf e (addf (addf (mulf (scaled d g) (broadcastInDim S4096x2048 ![0, 1] bcast_S4096x1_S4096x2048_0_1 (Host.rsqrt (mean x)))) (mulf x (through x d g))) (mulf (through x d g) x))
/-- The reference's gradient of the gain. -/
def gain : FVec Ideal S2048 .f32 :=
  Host.reduceAdd (shapeCast _ (Host.reduceAdd (mulf (mulf x (broadcastInDim S4096x2048 ![0, 1] bcast_S4096x1_S4096x2048_0_1 (Host.rsqrt (mean x)))) d) (constant S_ .f32 0x00000000#32) reducesTo_S4096x2048_S2048_d0 h_S_) shapeCasts_S2048_S1x2048) (constant S_ .f32 0x00000000#32) reducesTo_S1x2048_S2048_d0 h_S_

open Cert.LnBwdIdeal.Norm (square grad result term parts total total_at)

theorem mean_at (i : Fin 4096) : mean x (ix2 i 0) = square (fun k => x (ix2 i k)) := by
  pointwise [mean, square]
theorem scaled_at (i : Fin 4096) (j : Fin 2048) : scaled d g (ix2 i j) = d (ix2 i j) * g (ix1 j) := by
  pointwise [scaled]
theorem through_at (i : Fin 4096) (j : Fin 2048) : through x d g (ix2 i j) = Ideal.div ((∑ k, x (ix2 i k) * (d (ix2 i k) * g (ix1 k)))
    * (Ideal.ofBits FTy.f32 0xBF000000#32 * Ideal.div (Ideal.rsqrt (square (fun k => x (ix2 i k)))) (square (fun k => x (ix2 i k))))) (Ideal.ofBits FTy.f32 0x45000000#32) := by
  have h : through x d g (ix2 i j) = ∑ y : Fin 1, Ideal.div ((∑ k, x (ix2 i k) * scaled d g (ix2 i k))
      * (Ideal.ofBits FTy.f32 0xBF000000#32 * Ideal.div (Ideal.rsqrt (mean x (ix2 i y))) (mean x (ix2 i y)))) (Ideal.ofBits FTy.f32 0x45000000#32) := by
    pointwise [through]
  rw [h, Fin.sum_univ_one, mean_at]
  simp only [scaled_at]
theorem wanted_at (i : Fin 4096) (j : Fin 2048) : wanted x d g e (ix2 i j) = e (ix2 i j) +
      (scaled d g (ix2 i j) * Ideal.rsqrt (mean x (ix2 i 0)) + x (ix2 i j) * through x d g (ix2 i j) + through x d g (ix2 i j) * x (ix2 i j)) := by
  pointwise [wanted]
theorem gain_at (j : Fin 2048) : gain x d (ix1 j) = ∑ r, x (ix2 r j) * Ideal.rsqrt (mean x (ix2 r 0)) * d (ix2 r j) := by
  have h : gain x d (ix1 j) = ∑ y : Fin 1, ∑ r, x (ix2 r j) * Ideal.rsqrt (mean x (ix2 r 0)) * d (ix2 r j) := by
    pointwise [gain]
  rw [h, Fin.sum_univ_one]

theorem width : Ideal.ofBits FTy.f32 0x45000000#32 = ((2048 : ℝ) : EReal) := by
  simp [Ideal.ofBits, Ideal.ieee, -EReal.coe_mul]; norm_num
theorem half : Ideal.ofBits FTy.f32 0xBF000000#32 = ((-1 / 2 : ℝ) : EReal) := by
  simp [Ideal.ofBits, Ideal.ieee, -EReal.coe_mul]; norm_num
theorem small : (0 : EReal) < Ideal.ofBits FTy.f32 0x3727C5AC#32 := by
  simp [Ideal.ofBits, Ideal.ieee, -EReal.coe_mul]
theorem square_pos (y : Fin 2048 → EReal) : 0 < square y := by
  unfold square
  rw [width, Ideal.div_coe (by norm_num)]
  refine lt_of_lt_of_le small (le_add_of_nonneg_left (mul_nonneg (Finset.sum_nonneg fun k _ => Cert.Prod.square_nonneg _) (EReal.coe_nonneg.mpr (by norm_num))))

theorem meet : result x d g e = wanted x d g e := by
  funext y
  idx_vars y
  rw [wanted_at, through_at, mean_at, scaled_at]
  show grad (fun k => x (ix2 y0 k)) (fun k => d (ix2 y0 k)) (fun k => g (ix1 k)) y1 + e (ix2 y0 y1) = _
  rw [add_comm]
  exact congrArg (e (ix2 y0 y1) + ·) (Cert.Prod.norm_grad (fun k => x (ix2 y0 k)) (fun k => d (ix2 y0 k) * g (ix1 k)) (x (ix2 y0 y1)) (d (ix2 y0 y1) * g (ix1 y1)) _ _ _ 2048 (by norm_num) width half (square_pos _))

theorem meet_gain : total (parts x d) = gain x d := by
  funext y
  idx_vars y
  rw [total_at, gain_at]
  refine Eq.trans (Cert.Prod.sum_tiles (term x d y0)) (Finset.sum_congr rfl fun r _ => ?_)
  unfold term
  rw [dif_pos r.isLt, mean_at, mul_comm]
end Cert.LnBwdRefIdeal.Norm

end
-- ==== Proof.LnBwdClaims.lean ====
module

public import proofs.«01_k».proof.Defs
public import proofs.«01_k».proof.Proof.Gen.LnBwd
public import proofs.«01_k».proof.Proof.LnBwd
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.LnBwd

open Idealize.ShloMosaic Idealize.SL.Sem

/-- The kernel's body is the idealized program's, word for word. -/
theorem bodies_eq : Cert.LnBwd.defs₀ (F := Bits) = Cert.LnBwdIdeal.defs₀ (F := Bits) := by
  unfold Cert.LnBwd.defs₀ Cert.LnBwdIdeal.defs₀
  refine congrArg Defs.onTc ?_
  funext l a
  match l, a with
  | 0, (t, s) => rfl

theorem table_eq : Cert.LnBwd.defs (F := Bits) = Cert.LnBwdIdeal.defs (F := Bits) :=
  congrArg (Pipeline.defs Cert.LnBwdIdeal.pcfgs) bodies_eq

theorem main_eq : Cert.LnBwd.main (F := Bits) = Cert.LnBwdIdeal.main (F := Bits) := by rfl

theorem frame_P : Cert.quiescent_LnBwd := fun m ρ _ => by
  rw [table_eq, main_eq]
  exact Cert.LnBwdIdeal.Gen.frame (F := Bits) m ρ

theorem frame_PI : Cert.quiescent_LnBwdIdeal := fun m ρ _ => Cert.LnBwdIdeal.Gen.frame (F := Ideal) m ρ

/-- The reference declares no semaphore. -/
theorem frame_RI : Cert.quiescent_LnBwdRefIdeal := fun m ρ _ =>
  (θ_run Cert.LnBwdRefIdeal.defs _ _).mono (fun r h => ⟨fun c => (h c).2.2.2, sem_eq_zero_of_no_sems (by decide) r.2⟩)
    (Cert.LnBwdRefIdeal.Value.run (F := Ideal) m ρ)

/-- The common values are the reference's results. -/
theorem algebraic : Cert.algebraic_LnBwdIdeal_LnBwdRefIdeal := fun m ρ m' ρ' _ hagree =>
  ⟨fun c => Cert.LnBwdRefIdeal.Norm.wanted (m' (c.tc.loc Cert.LnBwdRefIdeal.main_arg0)) (m' (c.tc.loc Cert.LnBwdRefIdeal.main_arg1)) (m' (c.tc.loc Cert.LnBwdRefIdeal.main_arg2)) (m' (c.tc.loc Cert.LnBwdRefIdeal.main_arg3)),
    fun c => Cert.LnBwdRefIdeal.Norm.wanted (m' (c.tc.loc Cert.LnBwdRefIdeal.main_arg0)) (m' (c.tc.loc Cert.LnBwdRefIdeal.main_arg1)) (m' (c.tc.loc Cert.LnBwdRefIdeal.main_arg2)) (m' (c.tc.loc Cert.LnBwdRefIdeal.main_arg3)),
    fun c => Cert.LnBwdRefIdeal.Norm.gain (m' (c.tc.loc Cert.LnBwdRefIdeal.main_arg0)) (m' (c.tc.loc Cert.LnBwdRefIdeal.main_arg1)),
    (θ_run Cert.LnBwdIdeal.defs _ _).mono (fun _ h c => by
      obtain ⟨h0, h1, h2, h3⟩ := hagree c
      beta_reduce
      rw [h0, h1, h2, h3]
      exact ⟨(h c).1.trans (Cert.LnBwdRefIdeal.Norm.meet _ _ _ _), (h c).2.1.trans (Cert.LnBwdRefIdeal.Norm.meet _ _ _ _),
        (h c).2.2.1.trans (Cert.LnBwdRefIdeal.Norm.meet_gain _ _), (h c).2.2.2⟩)
      (Cert.LnBwdIdeal.Norm.run m ρ),
    Cert.LnBwdRefIdeal.Value.run (F := Ideal) m' ρ'⟩

end Cert.Proof.LnBwd

end
-- ==== Proof.ConvBwdPre.lean ====
module

public import proofs.«01_k».proof.Proof.Rows
public import proofs.«01_k».proof.Proof.Gen.ConvBwdPreIdeal.Frame
public import proofs.«01_k».proof.Proof.Gen.ConvBwdPreRefIdeal.Run
public import proofs.«01_k».proof.Proof.Gen.Pre_finite
public import Idealize.ShloMosaic.Lib.Pipeline.ValueKit.Acc
public import Idealize.ShloMosaic.Lib.Tactic.IndexArith
public import Idealize.ShloMosaic.Lib.StableHlo.RunRead
public import Idealize.ShloMosaic.Lib.Claim

/-! The gradients through the convolution's activation: of what the activation is given, of the convolution's weights and of
    its bias. -/

@[expose] public section

set_option maxRecDepth 16384

noncomputable section

namespace Cert.ConvBwdPreIdeal.Conv

open Cert.ConvBwdPreIdeal Cert.ConvBwdPreIdeal.Gen Idealize.ShloMosaic Idealize.ShloMosaic.TcCoe
open Cert.Prod (zeros)

section Cases
variable {F : FTy → Type} [FloatOps F] (c : Dev nD) (i : grid0.Coords) (arg1 : Memref sig .tc .vmem S256x1536 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S8x1536 .f32) (harg5 : arg5.IsWhole) (arg6 : Memref sig .tc .vmem S4x1536 .f32) (harg6 : arg6.IsWhole) (arg7 : Memref sig .tc .vmem S1x1536 .f32) (harg7 : arg7.IsWhole) (arg8 : Memref sig .tc .vmem S256x1536 .f32) (harg8 : arg8.IsWhole) (arg9 : Memref sig .tc .vmem S8x1536 .f32) (harg9 : arg9.IsWhole) (arg10 : Memref sig .tc .vmem S8x1536 .f32) (harg10 : arg10.IsWhole) (arg11 : Memref sig .tc .vmem S8x1536 .f32) (harg11 : arg11.IsWhole) (arg12 : Memref sig .tc .vmem S8x1536 .f32) (harg12 : arg12.IsWhole) (arg13 : Memref sig .tc .vmem S8x1536 .f32) (harg13 : arg13.IsWhole)
  (x0 : Vec F S256x1536 .f32) (x1 : Vec F S256x1024 .f32) (x2 : Vec F S256x512 .f32) (x3 : Vec F S256x1024 .f32) (x4 : Vec F S8x1536 .f32) (x5 : Vec F S4x1536 .f32) (x6 : Vec F S1x1536 .f32) (xo8 xo9 xo10 xo11 xo12 : Vec F S8x1536 .f32)

theorem first_dpre (hc : cond0_0 i) : out0_A_7 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 = k0_pay11 (k0_pay8 i x0 x4 x5 x6) (k0_pay9 x1 x2 x3) (k0_pay10 i x0 x4 x5 x6) := by
  unfold out0_A_7
  refine Eq.trans (View.read_writes_eq_canon _ _ _ fun _ => cover0_A_7 ..) ?_
  unfold kernelRun0_A
  dsimp only
  sl_unfold_words
  rw [View.canon_unit_zero zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem next_dpre (hc : ¬cond0_0 i) : out0_B_7 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xo10 xo11 xo12 = k0_pay11 (k0_pay8 i x0 x4 x5 x6) (k0_pay9 x1 x2 x3) (k0_pay10 i x0 x4 x5 x6) := by
  unfold out0_B_7
  refine Eq.trans (View.read_writes_eq_canon _ _ _ fun _ => cover0_B_7 ..) ?_
  unfold kernelRun0_B
  dsimp only
  sl_unfold_words
  rw [View.canon_unit_zero zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem first_tap0 (hc : cond0_0 i) : out0_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 = k0_pay18 (k0_pay7 i x0 x4) (k0_pay8 i x0 x4 x5 x6) (k0_pay9 x1 x2 x3) (k0_pay10 i x0 x4 x5 x6) k0_pay13 := by
  unfold out0_A_8
  refine Eq.trans (View.read_writes_eq_canon _ _ _ fun _ => cover0_A_8 ..) ?_
  unfold kernelRun0_A
  dsimp only
  sl_unfold_words
  rw [View.canon_cons_unit_zero (S := S8x1536) zeros, View.readCov_unit_zero (S := S8x1536) _ zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem next_tap0 (hc : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xo10 xo11 xo12 = k0_pay18 (k0_pay7 i x0 x4) (k0_pay8 i x0 x4 x5 x6) (k0_pay9 x1 x2 x3) (k0_pay10 i x0 x4 x5 x6) xo8 := by
  unfold out0_B_8
  refine Eq.trans (View.read_writes_eq_canon _ _ _ fun _ => cover0_B_8 ..) ?_
  unfold kernelRun0_B
  dsimp only
  sl_unfold_words
  rw [View.canon_unit_zero zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem first_tap1 (hc : cond0_0 i) : out0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 = k0_pay19 (k0_pay6 i x0 x4) (k0_pay8 i x0 x4 x5 x6) (k0_pay9 x1 x2 x3) (k0_pay10 i x0 x4 x5 x6) k0_pay14 := by
  unfold out0_A_9
  refine Eq.trans (View.read_writes_eq_canon _ _ _ fun _ => cover0_A_9 ..) ?_
  unfold kernelRun0_A
  dsimp only
  sl_unfold_words
  rw [View.canon_cons_unit_zero (S := S8x1536) zeros, View.readCov_unit_zero (S := S8x1536) _ zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem next_tap1 (hc : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xo10 xo11 xo12 = k0_pay19 (k0_pay6 i x0 x4) (k0_pay8 i x0 x4 x5 x6) (k0_pay9 x1 x2 x3) (k0_pay10 i x0 x4 x5 x6) xo9 := by
  unfold out0_B_9
  refine Eq.trans (View.read_writes_eq_canon _ _ _ fun _ => cover0_B_9 ..) ?_
  unfold kernelRun0_B
  dsimp only
  sl_unfold_words
  rw [View.canon_unit_zero zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem first_tap2 (hc : cond0_0 i) : out0_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 = k0_pay1 (k0_pay20 k0_pay15) (k0_pay21 (k0_pay5 i x0 x4) (k0_pay8 i x0 x4 x5 x6) (k0_pay9 x1 x2 x3) (k0_pay10 i x0 x4 x5 x6)) := by
  unfold out0_A_10
  refine Eq.trans (View.read_writes_eq_canon _ _ _ fun _ => cover0_A_10 ..) ?_
  unfold kernelRun0_A
  dsimp only
  sl_unfold_words
  rw [View.canon_cons_unit_zero (S := S8x1536) zeros, View.readCov_unit_zero (S := S8x1536) _ zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem next_tap2 (hc : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xo10 xo11 xo12 = k0_pay1 (k0_pay20 xo10) (k0_pay21 (k0_pay5 i x0 x4) (k0_pay8 i x0 x4 x5 x6) (k0_pay9 x1 x2 x3) (k0_pay10 i x0 x4 x5 x6)) := by
  unfold out0_B_10
  refine Eq.trans (View.read_writes_eq_canon _ _ _ fun _ => cover0_B_10 ..) ?_
  unfold kernelRun0_B
  dsimp only
  sl_unfold_words
  rw [View.canon_unit_zero zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem first_tap3 (hc : cond0_0 i) : out0_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 = k0_pay2 (k0_pay12 x0 (k0_pay8 i x0 x4 x5 x6) (k0_pay9 x1 x2 x3) (k0_pay10 i x0 x4 x5 x6)) k0_pay16 := by
  unfold out0_A_11
  refine Eq.trans (View.read_writes_eq_canon _ _ _ fun _ => cover0_A_11 ..) ?_
  unfold kernelRun0_A
  dsimp only
  sl_unfold_words
  rw [View.canon_cons_unit_zero (S := S8x1536) zeros, View.readCov_unit_zero (S := S8x1536) _ zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem next_tap3 (hc : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xo10 xo11 xo12 = k0_pay2 (k0_pay12 x0 (k0_pay8 i x0 x4 x5 x6) (k0_pay9 x1 x2 x3) (k0_pay10 i x0 x4 x5 x6)) xo11 := by
  unfold out0_B_11
  refine Eq.trans (View.read_writes_eq_canon _ _ _ fun _ => cover0_B_11 ..) ?_
  unfold kernelRun0_B
  dsimp only
  sl_unfold_words
  rw [View.canon_unit_zero zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem first_bias (hc : cond0_0 i) : out0_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 = k0_pay3 (k0_pay11 (k0_pay8 i x0 x4 x5 x6) (k0_pay9 x1 x2 x3) (k0_pay10 i x0 x4 x5 x6)) k0_pay17 := by
  unfold out0_A_12
  refine Eq.trans (View.read_writes_eq_canon _ _ _ fun _ => cover0_A_12 ..) ?_
  unfold kernelRun0_A
  dsimp only
  sl_unfold_words
  rw [View.canon_cons_unit_zero (S := S8x1536) zeros, View.readCov_unit_zero (S := S8x1536) _ zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

theorem next_bias (hc : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo8 xo9 xo10 xo11 xo12 = k0_pay3 (k0_pay11 (k0_pay8 i x0 x4 x5 x6) (k0_pay9 x1 x2 x3) (k0_pay10 i x0 x4 x5 x6)) xo12 := by
  unfold out0_B_12
  refine Eq.trans (View.read_writes_eq_canon _ _ _ fun _ => cover0_B_12 ..) ?_
  unfold kernelRun0_B
  dsimp only
  sl_unfold_words
  rw [View.canon_unit_zero zeros]
  simp only [View.readAt_eq_ld, Memref.IsWhole.read_unread, View.ld_unit_zero (S := S256x1536) zeros, View.ld_unit_zero (S := S256x1024) zeros, View.ld_unit_zero (S := S256x512) zeros, View.ld_unit_zero (S := S8x1536) zeros, View.ld_unit_zero (S := S4x1536) zeros, View.ld_unit_zero (S := S1x1536) zeros]

end Cases

/-- The activation's share of the gradient, and its derivative, from what it is given. -/
def gate (x : EReal) : EReal := Ideal.div (Ideal.ofBits FTy.f32 0x3F800000#32) (Ideal.ofBits FTy.f32 0x3F800000#32 + Ideal.exp (0 - x))
def slope (x : EReal) : EReal := gate x * (Ideal.ofBits FTy.f32 0x3F800000#32 + x * (Ideal.ofBits FTy.f32 0x3F800000#32 - gate x))

section Payloads
variable (i : grid0.Coords) (v0 : Vec Ideal S256x1536 .f32) (v5 : Vec Ideal S8x1536 .f32) (v8 : Vec Ideal S4x1536 .f32) (v9 : Vec Ideal S1x1536 .f32)
  (v1 v3 : Vec Ideal S256x1024 .f32) (v2 : Vec Ideal S256x512 .f32) (a : Fin 256) (q : Fin 8) (b : Fin 1536)
  (x d n v : FVec Ideal S256x1536 .f32) (acc : Vec Ideal S8x1536 .f32)

theorem halo_at (r : Fin 264) : k0_pay4 i v0 v5 (ix2 r b) = if h : r.val < 8 then Scalar.select (Scalar.cmpi CmpIPredicate.eq (BitVec.ofNat 32 (i 0).val) 0#32) 0 (v5 (ix2 ⟨r.val, h⟩ b)) else v0 (ix2 ⟨r.val - 8, by omega⟩ b) := by
  pointwise [k0_pay4]
theorem back1_at : k0_pay5 i v0 v5 (ix2 a b) = k0_pay4 i v0 v5 (ix2 ⟨a.val + 7, by omega⟩ b) := by
  have h : k0_pay5 i v0 v5 (ix2 a b) = k0_pay4 i v0 v5 (ix2 ⟨(8 + a.val + 264 - 1) % 264, by omega⟩ b) := by
    pointwise [k0_pay5]
  rw [h]
  exact congrArg (fun z => k0_pay4 i v0 v5 (ix2 z b)) (Fin.ext (by show (8 + a.val + 264 - 1) % 264 = a.val + 7; omega))
theorem back2_at : k0_pay6 i v0 v5 (ix2 a b) = k0_pay4 i v0 v5 (ix2 ⟨a.val + 6, by omega⟩ b) := by
  have h : k0_pay6 i v0 v5 (ix2 a b) = k0_pay4 i v0 v5 (ix2 ⟨(8 + a.val + 264 - 2) % 264, by omega⟩ b) := by
    pointwise [k0_pay6]
  rw [h]
  exact congrArg (fun z => k0_pay4 i v0 v5 (ix2 z b)) (Fin.ext (by show (8 + a.val + 264 - 2) % 264 = a.val + 6; omega))
theorem back3_at : k0_pay7 i v0 v5 (ix2 a b) = k0_pay4 i v0 v5 (ix2 ⟨a.val + 5, by omega⟩ b) := by
  have h : k0_pay7 i v0 v5 (ix2 a b) = k0_pay4 i v0 v5 (ix2 ⟨(8 + a.val + 264 - 3) % 264, by omega⟩ b) := by
    pointwise [k0_pay7]
  rw [h]
  exact congrArg (fun z => k0_pay4 i v0 v5 (ix2 z b)) (Fin.ext (by show (8 + a.val + 264 - 3) % 264 = a.val + 5; omega))
theorem pre_at : k0_pay8 i v0 v5 v8 v9 (ix2 a b) = v8 (ix2 0 b) * k0_pay7 i v0 v5 (ix2 a b) + v8 (ix2 1 b) * k0_pay6 i v0 v5 (ix2 a b)
    + v8 (ix2 2 b) * k0_pay5 i v0 v5 (ix2 a b) + v8 (ix2 3 b) * v0 (ix2 a b) + v9 (ix2 0 b) := by
  pointwise [k0_pay8]
theorem dact_at : k0_pay9 v1 v2 v3 (ix2 a b) = if h : b.val < 1024 then v1 (ix2 a ⟨b.val, h⟩) + v3 (ix2 a ⟨b.val, h⟩) else v2 (ix2 a ⟨b.val - 1024, by omega⟩) := by
  pointwise [k0_pay9]
theorem neg_at : k0_pay10 i v0 v5 v8 v9 (ix2 a b) = 0 - k0_pay8 i v0 v5 v8 v9 (ix2 a b) := by
  pointwise [k0_pay10]
theorem dp_at (h : n (ix2 a b) = 0 - x (ix2 a b)) : k0_pay11 x d n (ix2 a b) = d (ix2 a b) * slope (x (ix2 a b)) := by
  unfold slope gate
  rw [← h]
  pointwise [k0_pay11]
theorem sum18_at : k0_pay18 v x d n acc (ix2 q b) = acc (ix2 q b) + ∑ k : Fin 32, k0_pay11 x d n (ix2 ⟨k.val * 8 + q.val, by omega⟩ b) * v (ix2 ⟨k.val * 8 + q.val, by omega⟩ b) := by
  pointwise [k0_pay18]
theorem sum19_at : k0_pay19 v x d n acc (ix2 q b) = acc (ix2 q b) + ∑ k : Fin 32, k0_pay11 x d n (ix2 ⟨k.val * 8 + q.val, by omega⟩ b) * v (ix2 ⟨k.val * 8 + q.val, by omega⟩ b) := by
  pointwise [k0_pay19]
theorem sum1_at : k0_pay1 (k0_pay20 acc) (k0_pay21 v x d n) (ix2 q b) = acc (ix2 q b) + ∑ k : Fin 32, k0_pay11 x d n (ix2 ⟨k.val * 8 + q.val, by omega⟩ b) * v (ix2 ⟨k.val * 8 + q.val, by omega⟩ b) := by
  pointwise [k0_pay1, k0_pay20, k0_pay21]
theorem sum2_at : k0_pay2 (k0_pay12 v x d n) acc (ix2 q b) = acc (ix2 q b) + ∑ k : Fin 32, k0_pay11 x d n (ix2 ⟨k.val * 8 + q.val, by omega⟩ b) * v (ix2 ⟨k.val * 8 + q.val, by omega⟩ b) := by
  pointwise [k0_pay2, k0_pay12]
theorem sum3_at : k0_pay3 v acc (ix2 q b) = acc (ix2 q b) + ∑ k : Fin 32, v (ix2 ⟨k.val * 8 + q.val, by omega⟩ b) := by
  pointwise [k0_pay3]
theorem zeros_at : (k0_pay13 (F := Ideal)) (ix2 q b) = 0 ∧ (k0_pay14 (F := Ideal)) (ix2 q b) = 0 ∧ (k0_pay15 (F := Ideal)) (ix2 q b) = 0
    ∧ (k0_pay16 (F := Ideal)) (ix2 q b) = 0 ∧ (k0_pay17 (F := Ideal)) (ix2 q b) = 0 := by
  refine ⟨?_, ?_, ?_, ?_, ?_⟩ <;> pointwise [k0_pay13, k0_pay14, k0_pay15, k0_pay16, k0_pay17]
end Payloads

theorem coords : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val * 32 - 1 ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0) := by
  decide +kernel
theorem is_first : ∀ t : Fin cfg0.N, Scalar.cmpi CmpIPredicate.eq (BitVec.ofNat 32 (grid0.coords t 0).val) 0#32 = if t.val = 0 then 1#1 else 0#1 := by
  decide +kernel
theorem N_val : cfg0.N = 16 := N_0
theorem last : 15 < cfg0.N := by rw [N_val]; omega

/-- The entry `k` rows before row `n`, zero before the first row. -/
def lag (X : FVec Ideal S4096x1536 .f32) (s : Fin 1536) (k n : ℕ) : EReal := if h : k ≤ n ∧ n < 4096 then X (ix2 ⟨n - k, by omega⟩ s) else 0
/-- What the activation is given. -/
def before (X : FVec Ideal S4096x1536 .f32) (W : FVec Ideal S4x1536 .f32) (B : FVec Ideal S1536 .f32) (s : Fin 1536) (n : ℕ) : EReal :=
  W (ix2 0 s) * lag X s 3 n + W (ix2 1 s) * lag X s 2 n + W (ix2 2 s) * lag X s 1 n + W (ix2 3 s) * lag X s 0 n + B (ix1 s)
/-- The gradient of what the activation gives. -/
def after (D1 : FVec Ideal S4096x1024 .f32) (D2 : FVec Ideal S4096x512 .f32) (D3 : FVec Ideal S4096x1024 .f32) (r : Fin 4096) (s : Fin 1536) : EReal :=
  if h : s.val < 1024 then D1 (ix2 r ⟨s.val, h⟩) + D3 (ix2 r ⟨s.val, h⟩) else D2 (ix2 r ⟨s.val - 1024, by omega⟩)

section Results
variable (X : FVec Ideal S4096x1536 .f32) (D1 : FVec Ideal S4096x1024 .f32) (D2 : FVec Ideal S4096x512 .f32) (D3 : FVec Ideal S4096x1024 .f32) (W : FVec Ideal S4x1536 .f32) (B : FVec Ideal S1536 .f32)

/-- The gradient of what the activation is given. -/
def result : FVec Ideal S4096x1536 .f32 := fun x => after D1 D2 D3 (x 0) (x 1) * slope (before X W B (x 1) (x 0).val)
/-- What row `n` adds to a sum of that gradient times the entries `u`. -/
def term (u : Fin 1536 → ℕ → EReal) (s : Fin 1536) (n : ℕ) : EReal := if h : n < 4096 then result X D1 D2 D3 W B (ix2 ⟨n, h⟩ s) * u s n else 0
/-- The eight partial sums. -/
def parts (u : Fin 1536 → ℕ → EReal) : FVec Ideal S8x1536 .f32 := fun x =>
  ∑ t : Fin 16, ∑ k : Fin 32, term X D1 D2 D3 W B u (x 1) (t.val * 256 + (k.val * 8 + (x 0).val))
end Results

section Array
variable (m : (ℓ : Loc nD τ sig) → Buf (Elt Ideal) ℓ) (c : Dev nD)

theorem x_at (t : Fin cfg0.N) (a : Fin 256) (b : Fin 1536) (r : Fin 4096) (hr : r.val = t.val * 256 + a.val) :
    iblk m c 0 t (ix2 a b) = V m c main_arg0 (ix2 r b) := by
  obtain ⟨⟨h0, h1⟩, -⟩ := coords t
  have he : ((cfg0.win 0).blk t).view.emb (ix2 a b) = (ix2 r b : S4096x1536.Idx) := funext fun d => Fin.ext (match d with
    | ⟨0, _⟩ => by show win0_0.index t 0 * 256 + 1 * a.val = r.val; rw [h0, hr, Nat.one_mul]
    | ⟨1, _⟩ => by show win0_0.index t 1 * 1536 + 1 * b.val = b.val; rw [h1, Nat.one_mul, Nat.zero_mul, Nat.zero_add])
  show V m c main_arg0 (((cfg0.win 0).blk t).view.emb (ix2 a b)) = _
  rw [he]
theorem dxs_at (t : Fin cfg0.N) (a : Fin 256) (b : Fin 1024) (r : Fin 4096) (hr : r.val = t.val * 256 + a.val) :
    iblk m c 1 t (ix2 a b) = V m c main_arg1 (ix2 r b) := by
  obtain ⟨-, ⟨h0, h1⟩, -⟩ := coords t
  have he : ((cfg0.win 1).blk t).view.emb (ix2 a b) = (ix2 r b : S4096x1024.Idx) := funext fun d => Fin.ext (match d with
    | ⟨0, _⟩ => by show win0_1.index t 0 * 256 + 1 * a.val = r.val; rw [h0, hr, Nat.one_mul]
    | ⟨1, _⟩ => by show win0_1.index t 1 * 1024 + 1 * b.val = b.val; rw [h1, Nat.one_mul, Nat.zero_mul, Nat.zero_add])
  show V m c main_arg1 (((cfg0.win 1).blk t).view.emb (ix2 a b)) = _
  rw [he]
theorem dbc_at (t : Fin cfg0.N) (a : Fin 256) (b : Fin 512) (r : Fin 4096) (hr : r.val = t.val * 256 + a.val) :
    iblk m c 2 t (ix2 a b) = V m c main_arg2 (ix2 r b) := by
  obtain ⟨-, -, ⟨h0, h1⟩, -⟩ := coords t
  have he : ((cfg0.win 2).blk t).view.emb (ix2 a b) = (ix2 r b : S4096x512.Idx) := funext fun d => Fin.ext (match d with
    | ⟨0, _⟩ => by show win0_2.index t 0 * 256 + 1 * a.val = r.val; rw [h0, hr, Nat.one_mul]
    | ⟨1, _⟩ => by show win0_2.index t 1 * 512 + 1 * b.val = b.val; rw [h1, Nat.one_mul, Nat.zero_mul, Nat.zero_add])
  show V m c main_arg2 (((cfg0.win 2).blk t).view.emb (ix2 a b)) = _
  rw [he]
theorem dxk_at (t : Fin cfg0.N) (a : Fin 256) (b : Fin 1024) (r : Fin 4096) (hr : r.val = t.val * 256 + a.val) :
    iblk m c 3 t (ix2 a b) = V m c main_arg3 (ix2 r b) := by
  obtain ⟨-, -, -, ⟨h0, h1⟩, -⟩ := coords t
  have he : ((cfg0.win 3).blk t).view.emb (ix2 a b) = (ix2 r b : S4096x1024.Idx) := funext fun d => Fin.ext (match d with
    | ⟨0, _⟩ => by show win0_3.index t 0 * 256 + 1 * a.val = r.val; rw [h0, hr, Nat.one_mul]
    | ⟨1, _⟩ => by show win0_3.index t 1 * 1024 + 1 * b.val = b.val; rw [h1, Nat.one_mul, Nat.zero_mul, Nat.zero_add])
  show V m c main_arg3 (((cfg0.win 3).blk t).view.emb (ix2 a b)) = _
  rw [he]
theorem before_at (t : Fin cfg0.N) (a : Fin 8) (b : Fin 1536) (r : Fin 4096) (hr : r.val = (t.val * 32 - 1) * 8 + a.val) :
    iblk m c 4 t (ix2 a b) = V m c main_arg0 (ix2 r b) := by
  obtain ⟨-, -, -, -, ⟨h0, h1⟩, -⟩ := coords t
  have he : ((cfg0.win 4).blk t).view.emb (ix2 a b) = (ix2 r b : S4096x1536.Idx) := funext fun d => Fin.ext (match d with
    | ⟨0, _⟩ => by show win0_4.index t 0 * 8 + 1 * a.val = r.val; rw [h0, hr, Nat.one_mul]
    | ⟨1, _⟩ => by show win0_4.index t 1 * 1536 + 1 * b.val = b.val; rw [h1, Nat.one_mul, Nat.zero_mul, Nat.zero_add])
  show V m c main_arg0 (((cfg0.win 4).blk t).view.emb (ix2 a b)) = _
  rw [he]
theorem taps_at (t : Fin cfg0.N) (a : Fin 4) (b : Fin 1536) :
    iblk m c 5 t (ix2 a b) = V m c main_arg4 (ix2 a b) := by
  obtain ⟨-, -, -, -, -, ⟨h0, h1⟩, -⟩ := coords t
  have he : ((cfg0.win 5).blk t).view.emb (ix2 a b) = (ix2 a b : S4x1536.Idx) := funext fun d => Fin.ext (match d with
    | ⟨0, _⟩ => by show win0_5.index t 0 * 4 + 1 * a.val = a.val; rw [h0, Nat.one_mul, Nat.zero_mul, Nat.zero_add]
    | ⟨1, _⟩ => by show win0_5.index t 1 * 1536 + 1 * b.val = b.val; rw [h1, Nat.one_mul, Nat.zero_mul, Nat.zero_add])
  show V m c main_arg4 (((cfg0.win 5).blk t).view.emb (ix2 a b)) = _
  rw [he]
theorem bias_row (t : Fin cfg0.N) (a : Fin 1) (b : Fin 1536) :
    iblk m c 6 t (ix2 a b) = V m c main_v0 (ix2 a b) := by
  obtain ⟨-, -, -, -, -, -, ⟨h0, h1⟩, -⟩ := coords t
  have he : ((cfg0.win 6).blk t).view.emb (ix2 a b) = (ix2 a b : S1x1536.Idx) := funext fun d => Fin.ext (match d with
    | ⟨0, _⟩ => by show win0_6.index t 0 * 1 + 1 * a.val = a.val; rw [h0, Nat.one_mul, Nat.zero_mul, Nat.zero_add]
    | ⟨1, _⟩ => by show win0_6.index t 1 * 1536 + 1 * b.val = b.val; rw [h1, Nat.one_mul, Nat.zero_mul, Nat.zero_add])
  show V m c main_v0 (((cfg0.win 6).blk t).view.emb (ix2 a b)) = _
  rw [he]

theorem b_at (t : Fin cfg0.N) (b : Fin 1536) : iblk m c 6 t (ix2 0 b) = V m c main_arg5 (ix1 b) := by
  rw [bias_row]
  have h : V m c main_v0 = (shapeCast S1x1536 (V m c main_arg5 : FVec Ideal S1536 .f32) shapeCasts_S1536_S1x1536 : FVec Ideal S1x1536 .f32) := by
    rfl
  rw [h]
  pointwise

/-- The tile with the eight rows before it holds the rows before each row. -/
theorem lag_out (t : Fin cfg0.N) (a : Fin 256) (b : Fin 1536) (k : ℕ) (hk : k ≤ 8) (z : Fin 264) (hz : z.val + k = a.val + 8) :
    k0_pay4 (grid0.coords t) (iblk m c 0 t) (iblk m c 4 t) (ix2 z b) = lag (V m c main_arg0) b k (t.val * 256 + a.val) := by
  have hN : t.val < 16 := lt_of_lt_of_eq t.isLt N_val
  rw [halo_at]
  unfold lag
  split
  · rw [is_first]
    by_cases h : t.val = 0
    · rw [if_pos h, dif_neg (by omega)]
      rfl
    · rw [if_neg h, dif_pos (by omega)]
      refine before_at m c t _ _ _ ?_
      dsimp only
      omega
  · rw [dif_pos (by omega)]
    refine x_at m c t _ _ _ ?_
    dsimp only
    omega

theorem lags_out (t : Fin cfg0.N) (a : Fin 256) (b : Fin 1536) :
    k0_pay7 (grid0.coords t) (iblk m c 0 t) (iblk m c 4 t) (ix2 a b) = lag (V m c main_arg0) b 3 (t.val * 256 + a.val)
    ∧ k0_pay6 (grid0.coords t) (iblk m c 0 t) (iblk m c 4 t) (ix2 a b) = lag (V m c main_arg0) b 2 (t.val * 256 + a.val)
    ∧ k0_pay5 (grid0.coords t) (iblk m c 0 t) (iblk m c 4 t) (ix2 a b) = lag (V m c main_arg0) b 1 (t.val * 256 + a.val)
    ∧ iblk m c 0 t (ix2 a b) = lag (V m c main_arg0) b 0 (t.val * 256 + a.val) := by
  have hN : t.val < 16 := lt_of_lt_of_eq t.isLt N_val
  refine ⟨(back3_at _ _ _ a b).trans (lag_out m c t a b 3 (by omega) _ rfl), (back2_at _ _ _ a b).trans (lag_out m c t a b 2 (by omega) _ rfl),
    (back1_at _ _ _ a b).trans (lag_out m c t a b 1 (by omega) _ rfl), ?_⟩
  unfold lag
  rw [dif_pos (by omega)]
  exact x_at m c t a b _ rfl

theorem pay_at (t : Fin cfg0.N) (a : Fin 256) (b : Fin 1536) (r : Fin 4096) (hr : r.val = t.val * 256 + a.val) :
    k0_pay11 (k0_pay8 (grid0.coords t) (iblk m c 0 t) (iblk m c 4 t) (iblk m c 5 t) (iblk m c 6 t)) (k0_pay9 (iblk m c 1 t) (iblk m c 2 t) (iblk m c 3 t)) (k0_pay10 (grid0.coords t) (iblk m c 0 t) (iblk m c 4 t) (iblk m c 5 t) (iblk m c 6 t)) (ix2 a b)
      = result (V m c main_arg0) (V m c main_arg1) (V m c main_arg2) (V m c main_arg3) (V m c main_arg4) (V m c main_arg5) (ix2 r b) := by
  obtain ⟨e3, e2, e1, e0⟩ := lags_out m c t a b
  rw [dp_at _ _ _ _ _ (neg_at _ _ _ _ _ _ _), pre_at, dact_at, e3, e2, e1, e0, taps_at, taps_at, taps_at, taps_at, b_at]
  show _ = after (V m c main_arg1) (V m c main_arg2) (V m c main_arg3) r b * slope (before (V m c main_arg0) (V m c main_arg4) (V m c main_arg5) b r.val)
  rw [hr]
  unfold after before
  have h1 := fun b : Fin 1024 => dxs_at m c t a b r hr
  have h2 := fun b : Fin 512 => dbc_at m c t a b r hr
  have h3 := fun b : Fin 1024 => dxk_at m c t a b r hr
  simp only [h1, h2, h3]

theorem dpre_out (t : Fin cfg0.N) (a : Fin 256) (b : Fin 1536) (r : Fin 4096) (hr : r.val = t.val * 256 + a.val) :
    (outsAt0 m c t.val t.isLt).1 (ix2 a b) = result (V m c main_arg0) (V m c main_arg1) (V m c main_arg2) (V m c main_arg3) (V m c main_arg4) (V m c main_arg5) (ix2 r b) := by
  by_cases h : t.val % 16 = 0
  · rw [outsAt0_A m c t h]
    dsimp only
    rw [first_dpre]
    exact pay_at m c t a b r hr
  · rw [outsAt0_B m c t h]
    dsimp only
    rw [next_dpre]
    exact pay_at m c t a b r hr

/-- What a tile adds to one of the eight partial sums of the gradient times the entries `v`. -/
theorem terms_at (t : Fin cfg0.N) (q : Fin 8) (s : Fin 1536) (v : Fin 256 → EReal) (u : Fin 1536 → ℕ → EReal) (hv : ∀ a : Fin 256, v a = u s (t.val * 256 + a.val)) :
    ∑ k : Fin 32, k0_pay11 (k0_pay8 (grid0.coords t) (iblk m c 0 t) (iblk m c 4 t) (iblk m c 5 t) (iblk m c 6 t)) (k0_pay9 (iblk m c 1 t) (iblk m c 2 t) (iblk m c 3 t)) (k0_pay10 (grid0.coords t) (iblk m c 0 t) (iblk m c 4 t) (iblk m c 5 t) (iblk m c 6 t)) (ix2 ⟨k.val * 8 + q.val, by omega⟩ s) * v ⟨k.val * 8 + q.val, by omega⟩
      = ∑ k : Fin 32, term (V m c main_arg0) (V m c main_arg1) (V m c main_arg2) (V m c main_arg3) (V m c main_arg4) (V m c main_arg5) u s (t.val * 256 + (k.val * 8 + q.val)) := by
  have hN : t.val < 16 := lt_of_lt_of_eq t.isLt N_val
  refine Finset.sum_congr rfl fun k _ => ?_
  unfold term
  rw [dif_pos (by omega), hv, pay_at m c t ⟨k.val * 8 + q.val, by omega⟩ s ⟨t.val * 256 + (k.val * 8 + q.val), by omega⟩ rfl]

/-- A block that starts at zero and gains a tile's terms at each tile holds the partial sums after the last. -/
theorem sums_of (o : (n : ℕ) → n < cfg0.N → EReal) (u : Fin 1536 → ℕ → EReal) (q : Fin 8) (s : Fin 1536)
    (h0 : ∀ h : 0 < cfg0.N, o 0 h = ∑ k : Fin 32, term (V m c main_arg0) (V m c main_arg1) (V m c main_arg2) (V m c main_arg3) (V m c main_arg4) (V m c main_arg5) u s (0 * 256 + (k.val * 8 + q.val)))
    (hs : ∀ (n : ℕ) (h : n + 1 < cfg0.N) (h' : n < cfg0.N), o (n + 1) h = o n h' + ∑ k : Fin 32, term (V m c main_arg0) (V m c main_arg1) (V m c main_arg2) (V m c main_arg3) (V m c main_arg4) (V m c main_arg5) u s ((n + 1) * 256 + (k.val * 8 + q.val)))
    (h : 15 < cfg0.N) : o 15 h = parts (V m c main_arg0) (V m c main_arg1) (V m c main_arg2) (V m c main_arg3) (V m c main_arg4) (V m c main_arg5) u (ix2 q s) := by
  have e := Cert.Prod.sum_steps 16 (fun n => if h : n < cfg0.N then o n h else 0)
    (fun n => ∑ k : Fin 32, term (V m c main_arg0) (V m c main_arg1) (V m c main_arg2) (V m c main_arg3) (V m c main_arg4) (V m c main_arg5) u s (n * 256 + (k.val * 8 + q.val))) ?_ ?_ 15 (by omega)
  · rw [dif_pos h] at e
    exact e
  · have h0' : 0 < cfg0.N := by rw [N_val]; omega
    rw [dif_pos h0']
    exact h0 h0'
  · intro n hn
    have h0' : n < cfg0.N := by rw [N_val]; omega
    have h1 : n + 1 < cfg0.N := by rw [N_val]; omega
    rw [dif_pos h1, dif_pos h0']
    exact hs n h1 h0'

theorem tap0_out (q : Fin 8) (s : Fin 1536) (h : 15 < cfg0.N) : (outsAt0 m c 15 h).2.1 (ix2 q s) = parts (V m c main_arg0) (V m c main_arg1) (V m c main_arg2) (V m c main_arg3) (V m c main_arg4) (V m c main_arg5) (fun s n => lag (V m c main_arg0) s 3 n) (ix2 q s) := by
  refine sums_of m c (fun n h => (outsAt0 m c n h).2.1 (ix2 q s)) _ q s ?_ ?_ h
  · intro h
    rw [outsAt0_A m c ⟨0, h⟩ rfl]
    dsimp only
    rw [first_tap0, sum18_at, (zeros_at q s).1, zero_add]
    exact terms_at m c ⟨0, h⟩ q s (fun a => k0_pay7 (grid0.coords ⟨0, h⟩) (iblk m c 0 ⟨0, h⟩) (iblk m c 4 ⟨0, h⟩) (ix2 a s)) (fun s n => lag (V m c main_arg0) s 3 n) (fun a => (lags_out m c _ a s).1)
  · intro n h h'
    have hN : n + 1 < 16 := lt_of_lt_of_eq h N_val
    rw [outsAt0_B m c ⟨n + 1, h⟩ (by dsimp only; omega)]
    dsimp only
    rw [next_tap0, sum18_at]
    exact congrArg _ (terms_at m c ⟨n + 1, h⟩ q s (fun a => k0_pay7 (grid0.coords ⟨n + 1, h⟩) (iblk m c 0 ⟨n + 1, h⟩) (iblk m c 4 ⟨n + 1, h⟩) (ix2 a s)) (fun s n => lag (V m c main_arg0) s 3 n) (fun a => (lags_out m c _ a s).1))

theorem tap1_out (q : Fin 8) (s : Fin 1536) (h : 15 < cfg0.N) : (outsAt0 m c 15 h).2.2.1 (ix2 q s) = parts (V m c main_arg0) (V m c main_arg1) (V m c main_arg2) (V m c main_arg3) (V m c main_arg4) (V m c main_arg5) (fun s n => lag (V m c main_arg0) s 2 n) (ix2 q s) := by
  refine sums_of m c (fun n h => (outsAt0 m c n h).2.2.1 (ix2 q s)) _ q s ?_ ?_ h
  · intro h
    rw [outsAt0_A m c ⟨0, h⟩ rfl]
    dsimp only
    rw [first_tap1, sum19_at, (zeros_at q s).2.1, zero_add]
    exact terms_at m c ⟨0, h⟩ q s (fun a => k0_pay6 (grid0.coords ⟨0, h⟩) (iblk m c 0 ⟨0, h⟩) (iblk m c 4 ⟨0, h⟩) (ix2 a s)) (fun s n => lag (V m c main_arg0) s 2 n) (fun a => (lags_out m c _ a s).2.1)
  · intro n h h'
    have hN : n + 1 < 16 := lt_of_lt_of_eq h N_val
    rw [outsAt0_B m c ⟨n + 1, h⟩ (by dsimp only; omega)]
    dsimp only
    rw [next_tap1, sum19_at]
    exact congrArg _ (terms_at m c ⟨n + 1, h⟩ q s (fun a => k0_pay6 (grid0.coords ⟨n + 1, h⟩) (iblk m c 0 ⟨n + 1, h⟩) (iblk m c 4 ⟨n + 1, h⟩) (ix2 a s)) (fun s n => lag (V m c main_arg0) s 2 n) (fun a => (lags_out m c _ a s).2.1))

theorem tap2_out (q : Fin 8) (s : Fin 1536) (h : 15 < cfg0.N) : (outsAt0 m c 15 h).2.2.2.1 (ix2 q s) = parts (V m c main_arg0) (V m c main_arg1) (V m c main_arg2) (V m c main_arg3) (V m c main_arg4) (V m c main_arg5) (fun s n => lag (V m c main_arg0) s 1 n) (ix2 q s) := by
  refine sums_of m c (fun n h => (outsAt0 m c n h).2.2.2.1 (ix2 q s)) _ q s ?_ ?_ h
  · intro h
    rw [outsAt0_A m c ⟨0, h⟩ rfl]
    dsimp only
    rw [first_tap2, sum1_at, (zeros_at q s).2.2.1, zero_add]
    exact terms_at m c ⟨0, h⟩ q s (fun a => k0_pay5 (grid0.coords ⟨0, h⟩) (iblk m c 0 ⟨0, h⟩) (iblk m c 4 ⟨0, h⟩) (ix2 a s)) (fun s n => lag (V m c main_arg0) s 1 n) (fun a => (lags_out m c _ a s).2.2.1)
  · intro n h h'
    have hN : n + 1 < 16 := lt_of_lt_of_eq h N_val
    rw [outsAt0_B m c ⟨n + 1, h⟩ (by dsimp only; omega)]
    dsimp only
    rw [next_tap2, sum1_at]
    exact congrArg _ (terms_at m c ⟨n + 1, h⟩ q s (fun a => k0_pay5 (grid0.coords ⟨n + 1, h⟩) (iblk m c 0 ⟨n + 1, h⟩) (iblk m c 4 ⟨n + 1, h⟩) (ix2 a s)) (fun s n => lag (V m c main_arg0) s 1 n) (fun a => (lags_out m c _ a s).2.2.1))

theorem tap3_out (q : Fin 8) (s : Fin 1536) (h : 15 < cfg0.N) : (outsAt0 m c 15 h).2.2.2.2.1 (ix2 q s) = parts (V m c main_arg0) (V m c main_arg1) (V m c main_arg2) (V m c main_arg3) (V m c main_arg4) (V m c main_arg5) (fun s n => lag (V m c main_arg0) s 0 n) (ix2 q s) := by
  refine sums_of m c (fun n h => (outsAt0 m c n h).2.2.2.2.1 (ix2 q s)) _ q s ?_ ?_ h
  · intro h
    rw [outsAt0_A m c ⟨0, h⟩ rfl]
    dsimp only
    rw [first_tap3, sum2_at, (zeros_at q s).2.2.2.1, zero_add]
    exact terms_at m c ⟨0, h⟩ q s (fun a => iblk m c 0 ⟨0, h⟩ (ix2 a s)) (fun s n => lag (V m c main_arg0) s 0 n) (fun a => (lags_out m c _ a s).2.2.2)
  · intro n h h'
    have hN : n + 1 < 16 := lt_of_lt_of_eq h N_val
    rw [outsAt0_B m c ⟨n + 1, h⟩ (by dsimp only; omega)]
    dsimp only
    rw [next_tap3, sum2_at]
    exact congrArg _ (terms_at m c ⟨n + 1, h⟩ q s (fun a => iblk m c 0 ⟨n + 1, h⟩ (ix2 a s)) (fun s n => lag (V m c main_arg0) s 0 n) (fun a => (lags_out m c _ a s).2.2.2))

theorem bias_out (q : Fin 8) (s : Fin 1536) (h : 15 < cfg0.N) : (outsAt0 m c 15 h).2.2.2.2.2 (ix2 q s) = parts (V m c main_arg0) (V m c main_arg1) (V m c main_arg2) (V m c main_arg3) (V m c main_arg4) (V m c main_arg5) (fun _ _ => 1) (ix2 q s) := by
  refine sums_of m c (fun n h => (outsAt0 m c n h).2.2.2.2.2 (ix2 q s)) _ q s ?_ ?_ h
  · intro h
    rw [outsAt0_A m c ⟨0, h⟩ rfl]
    dsimp only
    rw [first_bias, sum3_at, (zeros_at q s).2.2.2.2, zero_add]
    exact (Finset.sum_congr rfl fun k _ => (mul_one _).symm).trans (terms_at m c ⟨0, h⟩ q s (fun _ => 1) (fun _ _ => 1) (fun _ => rfl))
  · intro n h h'
    have hN : n + 1 < 16 := lt_of_lt_of_eq h N_val
    rw [outsAt0_B m c ⟨n + 1, h⟩ (by dsimp only; omega)]
    dsimp only
    rw [next_bias, sum3_at]
    exact congrArg _ ((Finset.sum_congr rfl fun k _ => (mul_one _).symm).trans (terms_at m c ⟨n + 1, h⟩ q s (fun _ => 1) (fun _ _ => 1) (fun _ => rfl)))

theorem flushed_dpre (t : Fin cfg0.N) (hf : (cfg0.win 7).flush t = true) : (dats m 0 c).flushed 7 t = ((cfg0.win 7).blk t).view.read (Elt Ideal) (result (V m c main_arg0) (V m c main_arg1) (V m c main_arg2) (V m c main_arg3) (V m c main_arg4) (V m c main_arg5)) := by
  obtain ⟨-, -, -, -, -, -, -, ⟨h0, h1⟩, -⟩ := coords t
  have hN : t.val < 16 := lt_of_lt_of_eq t.isLt N_val
  show (cfg0.win 7).cut (grid0.coords t) ((dats m 0 c).after 7 t) = _
  rw [after0_7]
  funext y
  show (outsAt0 m c t.val t.isLt).1 y = result (V m c main_arg0) (V m c main_arg1) (V m c main_arg2) (V m c main_arg3) (V m c main_arg4) (V m c main_arg5) (((cfg0.win 7).blk t).view.emb y)
  have y0 : (y 0).val < 256 := (y 0).isLt
  have y1 : (y 1).val < 1536 := (y 1).isLt
  have he : ((cfg0.win 7).blk t).view.emb y = (ix2 ⟨t.val * 256 + (y 0).val, by omega⟩ ⟨(y 1).val, y1⟩ : S4096x1536.Idx) := funext fun d => Fin.ext (match d with
    | ⟨0, _⟩ => by show win0_7.index t 0 * 256 + 1 * (y 0).val = t.val * 256 + (y 0).val; rw [h0, Nat.one_mul]
    | ⟨1, _⟩ => by show win0_7.index t 1 * 1536 + 1 * (y 1).val = (y 1).val; rw [h1, Nat.one_mul, Nat.zero_mul, Nat.zero_add])
  have hy : y = (ix2 ⟨(y 0).val, y0⟩ ⟨(y 1).val, y1⟩ : S256x1536.Idx) := funext fun d => match d with
    | ⟨0, _⟩ => rfl
    | ⟨1, _⟩ => rfl
  rw [he]
  conv_lhs => rw [hy]
  exact dpre_out m c t _ _ _ rfl

theorem cover_dpre (i : S4096x1536.Idx) : ∃ t : Fin cfg0.N, (cfg0.win 7).flush t = true ∧ i ∈ ((cfg0.win 7).blk t).view.set := by
  have i0 : (i 0).val < 4096 := (i 0).isLt
  have i1 : (i 1).val < 1536 := (i 1).isLt
  have hb : (i 0).val / 256 < cfg0.N := by rw [N_val]; omega
  obtain ⟨-, -, -, -, -, -, -, ⟨h0, h1⟩, -⟩ := coords ⟨_, hb⟩
  refine ⟨⟨_, hb⟩, flush0_7 _, ?_⟩
  show (show ((View.whole (Pipeline.arrRef spec0 7)).slice (win0_7.rect ⟨_, hb⟩)).ty.Idx from i) ∈ ((View.whole (Pipeline.arrRef spec0 7)).slice (win0_7.rect ⟨_, hb⟩)).set
  rw [View.set_slice_whole, Rect.mem_set_unit]
  intro a
  match a with
  | ⟨0, _⟩ => show win0_7.index _ 0 * 256 ≤ (i 0).val ∧ (i 0).val < win0_7.index _ 0 * 256 + 256
              rw [h0]; dsimp only; omega
  | ⟨1, _⟩ => show win0_7.index _ 1 * 1536 ≤ (i 1).val ∧ (i 1).val < win0_7.index _ 1 * 1536 + 1536
              rw [h1]; omega

theorem final_dpre : (dats m 0 c).arrAt 7 cfg0.N = result (V m c main_arg0) (V m c main_arg1) (V m c main_arg2) (V m c main_arg3) (V m c main_arg4) (V m c main_arg5) :=
  (dats m 0 c).arrAt_eq_of_cover 7 _ (flushed_dpre m c) cover_dpre

theorem whole_tap0 (t : Fin cfg0.N) (y : S8x1536.Idx) : ((cfg0.win 8).blk t).view.emb y = y := by
  obtain ⟨-, -, -, -, -, -, -, -, ⟨h0, h1⟩, -⟩ := coords t
  exact funext fun d => Fin.ext (match d with
    | ⟨0, _⟩ => by show win0_8.index t 0 * 8 + 1 * (y 0).val = (y 0).val; rw [h0, Nat.one_mul, Nat.zero_mul, Nat.zero_add]
    | ⟨1, _⟩ => by show win0_8.index t 1 * 1536 + 1 * (y 1).val = (y 1).val; rw [h1, Nat.one_mul, Nat.zero_mul, Nat.zero_add])
theorem final_tap0 : (dats m 0 c).arrAt 8 cfg0.N = parts (V m c main_arg0) (V m c main_arg1) (V m c main_arg2) (V m c main_arg3) (V m c main_arg4) (V m c main_arg5) (fun s n => lag (V m c main_arg0) s 3 n) := by
  refine (dats m 0 c).arrAt_eq_of_cover 8 _ (fun t hf => ?_) (fun i => ?_)
  · show (cfg0.win 8).cut (grid0.coords t) ((dats m 0 c).after 8 t) = _
    rw [after0_8]
    funext y
    show (outsAt0 m c t.val t.isLt).2.1 y = parts (V m c main_arg0) (V m c main_arg1) (V m c main_arg2) (V m c main_arg3) (V m c main_arg4) (V m c main_arg5) (fun s n => lag (V m c main_arg0) s 3 n) (((cfg0.win 8).blk t).view.emb y)
    rw [whole_tap0]
    have ht : t.val < 16 := lt_of_lt_of_eq t.isLt N_val
    have h15 := (flush0_8 t).mp hf
    have e : t = ⟨15, last⟩ := Fin.ext (by show t.val = 15; omega)
    subst e
    have hy : y = (ix2 (y 0) (y 1) : S8x1536.Idx) := funext fun d => match d with
      | ⟨0, _⟩ => rfl
      | ⟨1, _⟩ => rfl
    rw [hy]
    exact tap0_out m c _ _ _
  · refine ⟨⟨15, last⟩, (flush0_8 _).mpr rfl, ?_⟩
    exact (whole_tap0 ⟨15, last⟩ i) ▸ View.emb_mem_set _ _

theorem whole_tap1 (t : Fin cfg0.N) (y : S8x1536.Idx) : ((cfg0.win 9).blk t).view.emb y = y := by
  obtain ⟨-, -, -, -, -, -, -, -, -, ⟨h0, h1⟩, -⟩ := coords t
  exact funext fun d => Fin.ext (match d with
    | ⟨0, _⟩ => by show win0_9.index t 0 * 8 + 1 * (y 0).val = (y 0).val; rw [h0, Nat.one_mul, Nat.zero_mul, Nat.zero_add]
    | ⟨1, _⟩ => by show win0_9.index t 1 * 1536 + 1 * (y 1).val = (y 1).val; rw [h1, Nat.one_mul, Nat.zero_mul, Nat.zero_add])
theorem final_tap1 : (dats m 0 c).arrAt 9 cfg0.N = parts (V m c main_arg0) (V m c main_arg1) (V m c main_arg2) (V m c main_arg3) (V m c main_arg4) (V m c main_arg5) (fun s n => lag (V m c main_arg0) s 2 n) := by
  refine (dats m 0 c).arrAt_eq_of_cover 9 _ (fun t hf => ?_) (fun i => ?_)
  · show (cfg0.win 9).cut (grid0.coords t) ((dats m 0 c).after 9 t) = _
    rw [after0_9]
    funext y
    show (outsAt0 m c t.val t.isLt).2.2.1 y = parts (V m c main_arg0) (V m c main_arg1) (V m c main_arg2) (V m c main_arg3) (V m c main_arg4) (V m c main_arg5) (fun s n => lag (V m c main_arg0) s 2 n) (((cfg0.win 9).blk t).view.emb y)
    rw [whole_tap1]
    have ht : t.val < 16 := lt_of_lt_of_eq t.isLt N_val
    have h15 := (flush0_9 t).mp hf
    have e : t = ⟨15, last⟩ := Fin.ext (by show t.val = 15; omega)
    subst e
    have hy : y = (ix2 (y 0) (y 1) : S8x1536.Idx) := funext fun d => match d with
      | ⟨0, _⟩ => rfl
      | ⟨1, _⟩ => rfl
    rw [hy]
    exact tap1_out m c _ _ _
  · refine ⟨⟨15, last⟩, (flush0_9 _).mpr rfl, ?_⟩
    exact (whole_tap1 ⟨15, last⟩ i) ▸ View.emb_mem_set _ _

theorem whole_tap2 (t : Fin cfg0.N) (y : S8x1536.Idx) : ((cfg0.win 10).blk t).view.emb y = y := by
  obtain ⟨-, -, -, -, -, -, -, -, -, -, ⟨h0, h1⟩, -⟩ := coords t
  exact funext fun d => Fin.ext (match d with
    | ⟨0, _⟩ => by show win0_10.index t 0 * 8 + 1 * (y 0).val = (y 0).val; rw [h0, Nat.one_mul, Nat.zero_mul, Nat.zero_add]
    | ⟨1, _⟩ => by show win0_10.index t 1 * 1536 + 1 * (y 1).val = (y 1).val; rw [h1, Nat.one_mul, Nat.zero_mul, Nat.zero_add])
theorem final_tap2 : (dats m 0 c).arrAt 10 cfg0.N = parts (V m c main_arg0) (V m c main_arg1) (V m c main_arg2) (V m c main_arg3) (V m c main_arg4) (V m c main_arg5) (fun s n => lag (V m c main_arg0) s 1 n) := by
  refine (dats m 0 c).arrAt_eq_of_cover 10 _ (fun t hf => ?_) (fun i => ?_)
  · show (cfg0.win 10).cut (grid0.coords t) ((dats m 0 c).after 10 t) = _
    rw [after0_10]
    funext y
    show (outsAt0 m c t.val t.isLt).2.2.2.1 y = parts (V m c main_arg0) (V m c main_arg1) (V m c main_arg2) (V m c main_arg3) (V m c main_arg4) (V m c main_arg5) (fun s n => lag (V m c main_arg0) s 1 n) (((cfg0.win 10).blk t).view.emb y)
    rw [whole_tap2]
    have ht : t.val < 16 := lt_of_lt_of_eq t.isLt N_val
    have h15 := (flush0_10 t).mp hf
    have e : t = ⟨15, last⟩ := Fin.ext (by show t.val = 15; omega)
    subst e
    have hy : y = (ix2 (y 0) (y 1) : S8x1536.Idx) := funext fun d => match d with
      | ⟨0, _⟩ => rfl
      | ⟨1, _⟩ => rfl
    rw [hy]
    exact tap2_out m c _ _ _
  · refine ⟨⟨15, last⟩, (flush0_10 _).mpr rfl, ?_⟩
    exact (whole_tap2 ⟨15, last⟩ i) ▸ View.emb_mem_set _ _

theorem whole_tap3 (t : Fin cfg0.N) (y : S8x1536.Idx) : ((cfg0.win 11).blk t).view.emb y = y := by
  obtain ⟨-, -, -, -, -, -, -, -, -, -, -, ⟨h0, h1⟩, -⟩ := coords t
  exact funext fun d => Fin.ext (match d with
    | ⟨0, _⟩ => by show win0_11.index t 0 * 8 + 1 * (y 0).val = (y 0).val; rw [h0, Nat.one_mul, Nat.zero_mul, Nat.zero_add]
    | ⟨1, _⟩ => by show win0_11.index t 1 * 1536 + 1 * (y 1).val = (y 1).val; rw [h1, Nat.one_mul, Nat.zero_mul, Nat.zero_add])
theorem final_tap3 : (dats m 0 c).arrAt 11 cfg0.N = parts (V m c main_arg0) (V m c main_arg1) (V m c main_arg2) (V m c main_arg3) (V m c main_arg4) (V m c main_arg5) (fun s n => lag (V m c main_arg0) s 0 n) := by
  refine (dats m 0 c).arrAt_eq_of_cover 11 _ (fun t hf => ?_) (fun i => ?_)
  · show (cfg0.win 11).cut (grid0.coords t) ((dats m 0 c).after 11 t) = _
    rw [after0_11]
    funext y
    show (outsAt0 m c t.val t.isLt).2.2.2.2.1 y = parts (V m c main_arg0) (V m c main_arg1) (V m c main_arg2) (V m c main_arg3) (V m c main_arg4) (V m c main_arg5) (fun s n => lag (V m c main_arg0) s 0 n) (((cfg0.win 11).blk t).view.emb y)
    rw [whole_tap3]
    have ht : t.val < 16 := lt_of_lt_of_eq t.isLt N_val
    have h15 := (flush0_11 t).mp hf
    have e : t = ⟨15, last⟩ := Fin.ext (by show t.val = 15; omega)
    subst e
    have hy : y = (ix2 (y 0) (y 1) : S8x1536.Idx) := funext fun d => match d with
      | ⟨0, _⟩ => rfl
      | ⟨1, _⟩ => rfl
    rw [hy]
    exact tap3_out m c _ _ _
  · refine ⟨⟨15, last⟩, (flush0_11 _).mpr rfl, ?_⟩
    exact (whole_tap3 ⟨15, last⟩ i) ▸ View.emb_mem_set _ _

theorem whole_bias (t : Fin cfg0.N) (y : S8x1536.Idx) : ((cfg0.win 12).blk t).view.emb y = y := by
  obtain ⟨-, -, -, -, -, -, -, -, -, -, -, -, h0, h1⟩ := coords t
  exact funext fun d => Fin.ext (match d with
    | ⟨0, _⟩ => by show win0_12.index t 0 * 8 + 1 * (y 0).val = (y 0).val; rw [h0, Nat.one_mul, Nat.zero_mul, Nat.zero_add]
    | ⟨1, _⟩ => by show win0_12.index t 1 * 1536 + 1 * (y 1).val = (y 1).val; rw [h1, Nat.one_mul, Nat.zero_mul, Nat.zero_add])
theorem final_bias : (dats m 0 c).arrAt 12 cfg0.N = parts (V m c main_arg0) (V m c main_arg1) (V m c main_arg2) (V m c main_arg3) (V m c main_arg4) (V m c main_arg5) (fun _ _ => 1) := by
  refine (dats m 0 c).arrAt_eq_of_cover 12 _ (fun t hf => ?_) (fun i => ?_)
  · show (cfg0.win 12).cut (grid0.coords t) ((dats m 0 c).after 12 t) = _
    rw [after0_12]
    funext y
    show (outsAt0 m c t.val t.isLt).2.2.2.2.2 y = parts (V m c main_arg0) (V m c main_arg1) (V m c main_arg2) (V m c main_arg3) (V m c main_arg4) (V m c main_arg5) (fun _ _ => 1) (((cfg0.win 12).blk t).view.emb y)
    rw [whole_bias]
    have ht : t.val < 16 := lt_of_lt_of_eq t.isLt N_val
    have h15 := (flush0_12 t).mp hf
    have e : t = ⟨15, last⟩ := Fin.ext (by show t.val = 15; omega)
    subst e
    have hy : y = (ix2 (y 0) (y 1) : S8x1536.Idx) := funext fun d => match d with
      | ⟨0, _⟩ => rfl
      | ⟨1, _⟩ => rfl
    rw [hy]
    exact bias_out m c _ _ _
  · refine ⟨⟨15, last⟩, (flush0_12 _).mpr rfl, ?_⟩
    exact (whole_bias ⟨15, last⟩ i) ▸ View.emb_mem_set _ _

/-- The sum over the eight rows, taken after the call. -/
def total (p : FVec Ideal S8x1536 .f32) : FVec Ideal S1536 .f32 := Host.reduceAdd p (constant S_ .f32 0x00000000#32) reducesTo_S8x1536_S1536_d0 h_S_
/-- Four rows, one under another. -/
def rows (q0 q1 q2 q3 : FVec Ideal S1x1536 .f32) : FVec Ideal S4x1536 .f32 := concatenate S4x1536 0 [⟨S1x1536, q0⟩, ⟨S1x1536, q1⟩, ⟨S1x1536, q2⟩, ⟨S1x1536, q3⟩] concatenates_S1x1536_S1x1536_S1x1536_S1x1536_S4x1536_d0
theorem rows_eq {a0 a1 a2 a3 q0 q1 q2 q3 : FVec Ideal S1x1536 .f32} (h0 : a0 = q0) (h1 : a1 = q1) (h2 : a2 = q2) (h3 : a3 = q3) :
    concatenate S4x1536 0 [⟨S1x1536, a0⟩, ⟨S1x1536, a1⟩, ⟨S1x1536, a2⟩, ⟨S1x1536, a3⟩] concatenates_S1x1536_S1x1536_S1x1536_S1x1536_S4x1536_d0 = rows q0 q1 q2 q3 := by
  subst h0 h1 h2 h3
  rfl
theorem row_eq {p q : FVec Ideal S8x1536 .f32} (h : p = q) :
    broadcastInDim S1x1536 ![1] bcast_S1536_S1x1536_1 (Host.reduceAdd p (constant S_ .f32 0x00000000#32) reducesTo_S8x1536_S1536_d0 h_S_) = broadcastInDim S1x1536 ![1] bcast_S1536_S1x1536_1 (total q) := by
  subst h
  rfl
/-- The four weights' sums, one a row. -/
def stacked (p0 p1 p2 p3 : FVec Ideal S1536 .f32) : FVec Ideal S4x1536 .f32 :=
  rows (broadcastInDim S1x1536 ![1] bcast_S1536_S1x1536_1 p0) (broadcastInDim S1x1536 ![1] bcast_S1536_S1x1536_1 p1) (broadcastInDim S1x1536 ![1] bcast_S1536_S1x1536_1 p2) (broadcastInDim S1x1536 ![1] bcast_S1536_S1x1536_1 p3)
theorem total_at (p : FVec Ideal S8x1536 .f32) (j : Fin 1536) : total p (ix1 j) = ∑ q : Fin 8, p (ix2 q j) := by
  pointwise [total]
theorem stacked_at (p0 p1 p2 p3 : FVec Ideal S1536 .f32) (k : Fin 4) (j : Fin 1536) : stacked p0 p1 p2 p3 (ix2 k j)
    = if _ : k.val < 1 then p0 (ix1 j) else if _ : k.val - 1 < 1 then p1 (ix1 j) else if _ : k.val - 1 - 1 < 1 then p2 (ix1 j) else p3 (ix1 j) := by
  pointwise [stacked, rows]

/-- The gradient of the convolution's weights. -/
def weights (X : FVec Ideal S4096x1536 .f32) (D1 : FVec Ideal S4096x1024 .f32) (D2 : FVec Ideal S4096x512 .f32) (D3 : FVec Ideal S4096x1024 .f32) (W : FVec Ideal S4x1536 .f32) (B : FVec Ideal S1536 .f32) : FVec Ideal S4x1536 .f32 :=
  stacked (total (parts X D1 D2 D3 W B fun s n => lag X s 3 n)) (total (parts X D1 D2 D3 W B fun s n => lag X s 2 n)) (total (parts X D1 D2 D3 W B fun s n => lag X s 1 n)) (total (parts X D1 D2 D3 W B fun s n => lag X s 0 n))
/-- The gradient of the convolution's bias. -/
def bias (X : FVec Ideal S4096x1536 .f32) (D1 : FVec Ideal S4096x1024 .f32) (D2 : FVec Ideal S4096x512 .f32) (D3 : FVec Ideal S4096x1024 .f32) (W : FVec Ideal S4x1536 .f32) (B : FVec Ideal S1536 .f32) : FVec Ideal S1536 .f32 :=
  total (parts X D1 D2 D3 W B fun _ _ => 1)

/-- What the operations after the call read of its results. -/
theorem out_after (w : Fin cfg0.W) : Pipeline.withArrays cfg0.spec c (V0 m c) (fun w => (dats m 0 c).arrAt w cfg0.N) (Proc.devRef .tc (Pipeline.arrRef cfg0.spec w)) = (dats m 0 c).arrAt w cfg0.N :=
  (dats m 0 c).withArrays_arrAt sharedIn0 (V0 m c) (A_eq m c) w

set_option maxHeartbeats 2000000 in
theorem weights_after : Pipeline.afterTail₀ cfgs (dats m) 0 (V0 m) [hostOps1] c main_v10 = weights (V m c main_arg0) (V m c main_arg1) (V m c main_arg2) (V m c main_arg3) (V m c main_arg4) (V m c main_arg5) := by
  unfold Pipeline.afterTail₀
  rw [show ([hostOps1] : List (List (HloOp τ sig (Elt Ideal)))).flatten = hostOps1 from rfl]
  unfold hostOps1
  after_results_simp
  refine rows_eq ?_ ?_ ?_ ?_
  · change (_ : Valuation τ sig (Elt Ideal)) (Proc.devRef .tc main_v6) = _
    after_results_simp
    exact row_eq ((out_after m c 8).trans (final_tap0 m c))
  · change (_ : Valuation τ sig (Elt Ideal)) (Proc.devRef .tc main_v7) = _
    after_results_simp
    exact row_eq ((out_after m c 9).trans (final_tap1 m c))
  · change (_ : Valuation τ sig (Elt Ideal)) (Proc.devRef .tc main_v8) = _
    after_results_simp
    exact row_eq ((out_after m c 10).trans (final_tap2 m c))
  · change (_ : Valuation τ sig (Elt Ideal)) (Proc.devRef .tc main_v9) = _
    after_results_simp
    exact row_eq ((out_after m c 11).trans (final_tap3 m c))
theorem bias_after : Pipeline.afterTail₀ cfgs (dats m) 0 (V0 m) [hostOps1] c main_v11 = bias (V m c main_arg0) (V m c main_arg1) (V m c main_arg2) (V m c main_arg3) (V m c main_arg4) (V m c main_arg5) := by
  unfold Pipeline.afterTail₀
  rw [show ([hostOps1] : List (List (HloOp τ sig (Elt Ideal)))).flatten = hostOps1 from rfl]
  unfold hostOps1
  after_results_simp
  exact congrArg total ((out_after m c 12).trans (final_bias m c))

/-- The call and the sums after it. -/
theorem run (ρ : Dev nD → PrngReg) : θ_run defs (onTc (τ := τ) (main (F := Ideal))) ⟨m, fun _ => 0, ρ⟩ (fun r => ∀ c : Dev nD,
    r.2.mem ((c.tc : Thread nD τ).loc main_v1_0) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_v10) = weights (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_v11) = bias (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨((h.1 c).1 7).trans (final_dpre m c),
      ((h.1 c).2 main_v10 (Pipeline.mem_restRefs_of main_v10 (by decide) (by decide))).trans (weights_after m c),
      ((h.1 c).2 main_v11 (Pipeline.mem_restRefs_of main_v11 (by decide) (by decide))).trans (bias_after m c), h.2 c⟩)
    (θ_run_and (run_main m ρ) (unchanged m ρ))

end Array

end Cert.ConvBwdPreIdeal.Conv

namespace Cert.ConvBwdPreRefIdeal.Conv
open Cert.ConvBwdPreRefIdeal Cert.ConvBwdPreRefIdeal.Gen Idealize.ShloMosaic Idealize.ShloMosaic.TcCoe
open Cert.ConvBwdPreIdeal.Conv (gate slope lag before after result term parts total total_at stacked stacked_at weights bias)

/-- The two ways of writing the gradient through the activation, for a gradient that is a number. -/
theorem through (one x : EReal) (d : ℝ) (h1 : one = 1) : (d : EReal) * (Ideal.div one (one + Ideal.exp (0 - x)) * (one + x * (one - Ideal.div one (one + Ideal.exp (0 - x)))))
    = d * Ideal.div one (one + Ideal.exp (-x)) + x * d * (Ideal.div one (one + Ideal.exp (-x)) * (one - Ideal.div one (one + Ideal.exp (-x)))) := by
  rw [h1, zero_sub]
  show (d : EReal) * (Ideal.logistic x * (1 + x * (1 - Ideal.logistic x))) = d * Ideal.logistic x + x * d * (Ideal.logistic x * (1 - Ideal.logistic x))
  induction x using EReal.rec with
  | bot => simp
  | top =>
    have h : (1 : EReal) - 1 = 0 := by rw [← EReal.coe_one, ← EReal.coe_sub, sub_self, EReal.coe_zero]
    simp [h]
  | coe r =>
    rw [Ideal.logistic_coe]
    norm_cast
    ring

variable (x : FVec Ideal S4096x1536 .f32) (d1 : FVec Ideal S4096x1024 .f32) (d2 : FVec Ideal S4096x512 .f32) (d3 : FVec Ideal S4096x1024 .f32) (w : FVec Ideal S4x1536 .f32) (b : FVec Ideal S1536 .f32)

/-- The rows 1 before. -/
def shift1 : FVec Ideal S4096x1536 .f32 := concatenate S4096x1536 0 [⟨S1x1536, broadcastInDim S1x1536 ![] bcast_S_S1x1536 (constant S_ .f32 0x00000000#32)⟩, ⟨S4095x1536, extractStridedSlice S4095x1536 ![0, 0] x slices_S4096x1536_S4095x1536_0_0⟩] concatenates_S1x1536_S4095x1536_S4096x1536_d0
/-- The rows 2 before. -/
def shift2 : FVec Ideal S4096x1536 .f32 := concatenate S4096x1536 0 [⟨S2x1536, broadcastInDim S2x1536 ![] bcast_S_S2x1536 (constant S_ .f32 0x00000000#32)⟩, ⟨S4094x1536, extractStridedSlice S4094x1536 ![0, 0] x slices_S4096x1536_S4094x1536_0_0⟩] concatenates_S2x1536_S4094x1536_S4096x1536_d0
/-- The rows 3 before. -/
def shift3 : FVec Ideal S4096x1536 .f32 := concatenate S4096x1536 0 [⟨S3x1536, broadcastInDim S3x1536 ![] bcast_S_S3x1536 (constant S_ .f32 0x00000000#32)⟩, ⟨S4093x1536, extractStridedSlice S4093x1536 ![0, 0] x slices_S4096x1536_S4093x1536_0_0⟩] concatenates_S3x1536_S4093x1536_S4096x1536_d0
/-- What the activation is given. -/
def given : FVec Ideal S4096x1536 .f32 :=
  addf (addf (addf (addf (mulf (broadcastInDim S4096x1536 ![0, 1] bcast_S1x1536_S4096x1536_0_1 (broadcastInDim S1x1536 ![1] bcast_S1536_S1x1536_1 (shapeCast _ (extractStridedSlice S1x1536 ![0, 0] w slices_S4x1536_S1x1536_0_0) shapeCasts_S1x1536_S1536))) (shift3 x)) (mulf (broadcastInDim S4096x1536 ![0, 1] bcast_S1x1536_S4096x1536_0_1 (broadcastInDim S1x1536 ![1] bcast_S1536_S1x1536_1 (shapeCast _ (extractStridedSlice S1x1536 ![1, 0] w slices_S4x1536_S1x1536_1_0) shapeCasts_S1x1536_S1536))) (shift2 x))) (mulf (broadcastInDim S4096x1536 ![0, 1] bcast_S1x1536_S4096x1536_0_1 (broadcastInDim S1x1536 ![1] bcast_S1536_S1x1536_1 (shapeCast _ (extractStridedSlice S1x1536 ![2, 0] w slices_S4x1536_S1x1536_2_0) shapeCasts_S1x1536_S1536))) (shift1 x))) (mulf (broadcastInDim S4096x1536 ![0, 1] bcast_S1x1536_S4096x1536_0_1 (broadcastInDim S1x1536 ![1] bcast_S1536_S1x1536_1 (shapeCast _ (extractStridedSlice S1x1536 ![3, 0] w slices_S4x1536_S1x1536_3_0) shapeCasts_S1x1536_S1536))) x)) (broadcastInDim S4096x1536 ![0, 1] bcast_S1x1536_S4096x1536_0_1 (broadcastInDim S1x1536 ![1] bcast_S1536_S1x1536_1 b))
/-- The gradient of what the activation gives. -/
def brought : FVec Ideal S4096x1536 .f32 := concatenate S4096x1536 1 [⟨S4096x1024, addf d1 d3⟩, ⟨S4096x512, d2⟩] concatenates_S4096x1024_S4096x512_S4096x1536_d1
/-- The activation's share. -/
def share : FVec Ideal S4096x1536 .f32 := Host.divf (broadcastInDim S4096x1536 ![] bcast_S_S4096x1536 (constant S_ .f32 0x3F800000#32)) (addf (broadcastInDim S4096x1536 ![] bcast_S_S4096x1536 (constant S_ .f32 0x3F800000#32)) (Host.exp (Host.negf (given x w b))))
/-- The reference's gradient of what the activation is given. -/
def wanted : FVec Ideal S4096x1536 .f32 :=
  addf (mulf (brought d1 d2 d3) (share x w b)) (mulf (mulf (given x w b) (brought d1 d2 d3)) (mulf (share x w b) (subf (broadcastInDim S4096x1536 ![] bcast_S_S4096x1536 (constant S_ .f32 0x3F800000#32)) (share x w b))))
/-- A sum over all rows. -/
def summed (y : FVec Ideal S4096x1536 .f32) : FVec Ideal S1536 .f32 :=
  Host.reduceAdd (shapeCast _ (Host.reduceAdd y (constant S_ .f32 0x00000000#32) reducesTo_S4096x1536_S1536_d0 h_S_) shapeCasts_S1536_S1x1536) (constant S_ .f32 0x00000000#32) reducesTo_S1x1536_S1536_d0 h_S_
/-- The reference's gradient of the convolution's bias. -/
def wanted_bias : FVec Ideal S1536 .f32 := summed (wanted x d1 d2 d3 w b)
/-- The reference's gradient of the convolution's weights. -/
def wanted_weights : FVec Ideal S4x1536 .f32 :=
  addf (addf (addf (pad S4x1536 ![3, 0] ![0, 0] ![0, 0] (broadcastInDim S1x1536 ![1] bcast_S1536_S1x1536_1 (summed (mulf (wanted x d1 d2 d3 w b) x))) (constant S_ .f32 0x00000000#32) pads_S1x1536_S4x1536_300_000 h_S_) (pad S4x1536 ![2, 0] ![1, 0] ![0, 0] (broadcastInDim S1x1536 ![1] bcast_S1536_S1x1536_1 (summed (mulf (wanted x d1 d2 d3 w b) (shift1 x)))) (constant S_ .f32 0x00000000#32) pads_S1x1536_S4x1536_210_000 h_S_)) (pad S4x1536 ![1, 0] ![2, 0] ![0, 0] (broadcastInDim S1x1536 ![1] bcast_S1536_S1x1536_1 (summed (mulf (wanted x d1 d2 d3 w b) (shift2 x)))) (constant S_ .f32 0x00000000#32) pads_S1x1536_S4x1536_120_000 h_S_)) (pad S4x1536 ![0, 0] ![3, 0] ![0, 0] (broadcastInDim S1x1536 ![1] bcast_S1536_S1x1536_1 (summed (mulf (wanted x d1 d2 d3 w b) (shift3 x)))) (constant S_ .f32 0x00000000#32) pads_S1x1536_S4x1536_030_000 h_S_)

theorem shift_at (r : Fin 4096) (s : Fin 1536) : shift1 x (ix2 r s) = lag x s 1 r.val ∧ shift2 x (ix2 r s) = lag x s 2 r.val ∧ shift3 x (ix2 r s) = lag x s 3 r.val := by
  have e1 : shift1 x (ix2 r s) = if h : r.val < 1 then 0 else x (ix2 ⟨r.val - 1, by omega⟩ s) := by
    pointwise [shift1]
  have e2 : shift2 x (ix2 r s) = if h : r.val < 2 then 0 else x (ix2 ⟨r.val - 2, by omega⟩ s) := by
    pointwise [shift2]
  have e3 : shift3 x (ix2 r s) = if h : r.val < 3 then 0 else x (ix2 ⟨r.val - 3, by omega⟩ s) := by
    pointwise [shift3]
  have e (k : ℕ) : (if h : r.val < k then (0 : EReal) else x (ix2 ⟨r.val - k, by omega⟩ s)) = lag x s k r.val := by
    unfold lag
    split
    · rw [dif_neg (by omega)]
    · rw [dif_pos (by omega)]
  exact ⟨e1.trans (e 1), e2.trans (e 2), e3.trans (e 3)⟩
theorem lag_zero (r : Fin 4096) (s : Fin 1536) : lag x s 0 r.val = x (ix2 r s) := dif_pos ⟨Nat.zero_le _, r.isLt⟩
theorem given_at (r : Fin 4096) (s : Fin 1536) : given x w b (ix2 r s) = before x w b s r.val := by
  have h : given x w b (ix2 r s) = w (ix2 0 s) * shift3 x (ix2 r s) + w (ix2 1 s) * shift2 x (ix2 r s) + w (ix2 2 s) * shift1 x (ix2 r s) + w (ix2 3 s) * x (ix2 r s) + b (ix1 s) := by
    pointwise [given]
  rw [h, (shift_at x r s).1, (shift_at x r s).2.1, (shift_at x r s).2.2, ← lag_zero x r s]
  rfl
theorem brought_at (r : Fin 4096) (s : Fin 1536) : brought d1 d2 d3 (ix2 r s) = after d1 d2 d3 r s := by
  unfold after
  pointwise [brought]
theorem share_at (r : Fin 4096) (s : Fin 1536) : share x w b (ix2 r s) = Ideal.div (Ideal.ofBits FTy.f32 0x3F800000#32) (Ideal.ofBits FTy.f32 0x3F800000#32 + Ideal.exp (-given x w b (ix2 r s))) := by
  pointwise [share]
theorem wanted_at (r : Fin 4096) (s : Fin 1536) : wanted x d1 d2 d3 w b (ix2 r s) = brought d1 d2 d3 (ix2 r s) * share x w b (ix2 r s)
    + given x w b (ix2 r s) * brought d1 d2 d3 (ix2 r s) * (share x w b (ix2 r s) * (Ideal.ofBits FTy.f32 0x3F800000#32 - share x w b (ix2 r s))) := by
  pointwise [wanted]
theorem one_val : Ideal.ofBits FTy.f32 0x3F800000#32 = 1 := by
  simp [Ideal.ofBits, Ideal.ieee, -EReal.coe_mul]
  norm_num
theorem summed_at (y : FVec Ideal S4096x1536 .f32) (s : Fin 1536) : summed y (ix1 s) = ∑ r, y (ix2 r s) := by
  have h : summed y (ix1 s) = ∑ z : Fin 1, ∑ r, y (ix2 r s) := by
    pointwise [summed]
  rw [h, Fin.sum_univ_one]
theorem wanted_weights_at (k : Fin 4) (s : Fin 1536) : wanted_weights x d1 d2 d3 w b (ix2 k s)
    = (((if _ : 3 ≤ k.val ∧ k.val - 3 < 1 then summed (mulf (wanted x d1 d2 d3 w b) x) (ix1 s) else 0)
      + if _ : 2 ≤ k.val ∧ k.val - 2 < 1 then summed (mulf (wanted x d1 d2 d3 w b) (shift1 x)) (ix1 s) else 0)
      + if _ : 1 ≤ k.val ∧ k.val - 1 < 1 then summed (mulf (wanted x d1 d2 d3 w b) (shift2 x)) (ix1 s) else 0)
      + if _ : k.val < 1 then summed (mulf (wanted x d1 d2 d3 w b) (shift3 x)) (ix1 s) else 0 := by
  pointwise [wanted_weights]

theorem inf_val : Ideal.ofBits FTy.f32 0x7F800000#32 = ⊤ := by
  simp [Ideal.ofBits, Ideal.ieee]
/-- The precondition: the gradient brought to the activation is a number everywhere. -/
theorem number_at (h : Cert.Pre_finite.fn x d1 d2 d3 w b = fun _ => 1#1) (r : Fin 4096) (s : Fin 1536) : ∃ d : ℝ, after d1 d2 d3 r s = (d : EReal) := by
  have e := congrFun h (ix2 r s)
  have e' : Cert.Pre_finite.fn x d1 d2 d3 w b (ix2 r s) = BitVec.ofBool (decide (max (after d1 d2 d3 r s) (-after d1 d2 d3 r s) < Ideal.ofBits FTy.f32 0x7F800000#32)) := by
    unfold after
    pointwise [Cert.Pre_finite.fn]
    rfl
  rw [e', inf_val] at e
  generalize after d1 d2 d3 r s = z at e ⊢
  induction z using EReal.rec with
  | bot => simp at e
  | top => simp at e
  | coe d => exact ⟨d, rfl⟩

theorem meet (h : Cert.Pre_finite.fn x d1 d2 d3 w b = fun _ => 1#1) : result x d1 d2 d3 w b = wanted x d1 d2 d3 w b := by
  funext y
  idx_vars y
  obtain ⟨d, hd⟩ := number_at x d1 d2 d3 w b h y0 y1
  rw [wanted_at, share_at, brought_at, given_at, hd]
  show after d1 d2 d3 y0 y1 * slope (before x w b y1 y0.val) = _
  rw [hd]
  exact through _ _ d one_val

theorem sum_meet (h : Cert.Pre_finite.fn x d1 d2 d3 w b = fun _ => 1#1) (u : Fin 1536 → ℕ → EReal) (s : Fin 1536) :
    total (parts x d1 d2 d3 w b u) (ix1 s) = ∑ r : Fin 4096, wanted x d1 d2 d3 w b (ix2 r s) * u s r.val := by
  rw [total_at, ← meet x d1 d2 d3 w b h]
  refine Eq.trans (Cert.Prod.sum_tiles (term x d1 d2 d3 w b u s)) (Finset.sum_congr rfl fun r _ => ?_)
  unfold term
  rw [dif_pos r.isLt]

theorem meet_bias (h : Cert.Pre_finite.fn x d1 d2 d3 w b = fun _ => 1#1) : bias x d1 d2 d3 w b = wanted_bias x d1 d2 d3 w b := by
  funext y
  idx_vars y
  unfold bias wanted_bias
  rw [sum_meet x d1 d2 d3 w b h, summed_at]
  exact Finset.sum_congr rfl fun r _ => mul_one _

theorem tap_meet (h : Cert.Pre_finite.fn x d1 d2 d3 w b = fun _ => 1#1) (k : ℕ) (y : FVec Ideal S4096x1536 .f32) (hy : ∀ r s, y (ix2 r s) = lag x s k r.val) (s : Fin 1536) :
    total (parts x d1 d2 d3 w b fun s n => lag x s k n) (ix1 s) = summed (mulf (wanted x d1 d2 d3 w b) y) (ix1 s) := by
  rw [sum_meet x d1 d2 d3 w b h, summed_at]
  exact Finset.sum_congr rfl fun r _ => congrArg (wanted x d1 d2 d3 w b (ix2 r s) * ·) (hy r s).symm

theorem meet_weights (h : Cert.Pre_finite.fn x d1 d2 d3 w b = fun _ => 1#1) : weights x d1 d2 d3 w b = wanted_weights x d1 d2 d3 w b := by
  funext y
  idx_vars y
  unfold weights
  rw [stacked_at, wanted_weights_at, tap_meet x d1 d2 d3 w b h 3 (shift3 x) fun r s => (shift_at x r s).2.2, tap_meet x d1 d2 d3 w b h 2 (shift2 x) fun r s => (shift_at x r s).2.1,
    tap_meet x d1 d2 d3 w b h 1 (shift1 x) fun r s => (shift_at x r s).1, tap_meet x d1 d2 d3 w b h 0 x fun r s => (lag_zero x r s).symm]
  fin_cases y0 <;> simp
end Cert.ConvBwdPreRefIdeal.Conv

end
-- ==== Proof.ConvBwdPreClaims.lean ====
module

public import proofs.«01_k».proof.Defs
public import proofs.«01_k».proof.Proof.Gen.ConvBwdPre
public import proofs.«01_k».proof.Proof.ConvBwdPre
public import proofs.«01_k».proof.Proof.Gen.Pre_finite
public import Idealize.ShloMosaic.Adequacy
public import Idealize.ShloMosaic.Init

/-! The claims of one call: the frames, and the equality of its results with the reference's where the gradient brought to the activation is finite. -/

@[expose] public section

set_option maxRecDepth 16384
set_option maxHeartbeats 1000000

noncomputable section

namespace Cert.Proof.ConvBwdPre

open Idealize.ShloMosaic Idealize.SL.Sem

/-- The kernel's body is the idealized program's, word for word. -/
theorem bodies_eq : Cert.ConvBwdPre.defs₀ (F := Bits) = Cert.ConvBwdPreIdeal.defs₀ (F := Bits) := by
  unfold Cert.ConvBwdPre.defs₀ Cert.ConvBwdPreIdeal.defs₀
  refine congrArg Defs.onTc ?_
  funext l a
  match l, a with
  | 0, (t, s) => rfl

theorem table_eq : Cert.ConvBwdPre.defs (F := Bits) = Cert.ConvBwdPreIdeal.defs (F := Bits) :=
  congrArg (Pipeline.defs Cert.ConvBwdPreIdeal.pcfgs) bodies_eq

theorem main_eq : Cert.ConvBwdPre.main (F := Bits) = Cert.ConvBwdPreIdeal.main (F := Bits) := by rfl

theorem frame_P : Cert.quiescent_ConvBwdPre := fun m ρ _ => by
  rw [table_eq, main_eq]
  exact Cert.ConvBwdPreIdeal.Gen.frame (F := Bits) m ρ

theorem frame_PI : Cert.quiescent_ConvBwdPreIdeal := fun m ρ _ => Cert.ConvBwdPreIdeal.Gen.frame (F := Ideal) m ρ

theorem frame_PI_finite : Cert.quiescent_ConvBwdPreIdeal_pre_finite := fun m ρ _ => Cert.ConvBwdPreIdeal.Gen.frame (F := Ideal) m ρ

/-- The reference declares no semaphore. -/
theorem frame_RI : Cert.quiescent_ConvBwdPreRefIdeal := fun m ρ _ =>
  (θ_run Cert.ConvBwdPreRefIdeal.defs _ _).mono (fun r h => ⟨fun c => (h c).2.2.2, sem_eq_zero_of_no_sems (by decide) r.2⟩)
    (Cert.ConvBwdPreRefIdeal.Value.run (F := Ideal) m ρ)

theorem frame_RI_finite : Cert.quiescent_ConvBwdPreRefIdeal_pre_finite := fun m ρ _ => frame_RI m ρ trivial

/-- The common values are the reference's results. -/
theorem algebraic : Cert.algebraic_ConvBwdPreIdeal_ConvBwdPreRefIdeal_pre_finite := fun m ρ m' ρ' hfin hagree =>
  ⟨fun c => Cert.ConvBwdPreRefIdeal.Conv.wanted (m' (c.tc.loc Cert.ConvBwdPreRefIdeal.main_arg0)) (m' (c.tc.loc Cert.ConvBwdPreRefIdeal.main_arg1)) (m' (c.tc.loc Cert.ConvBwdPreRefIdeal.main_arg2)) (m' (c.tc.loc Cert.ConvBwdPreRefIdeal.main_arg3)) (m' (c.tc.loc Cert.ConvBwdPreRefIdeal.main_arg4)) (m' (c.tc.loc Cert.ConvBwdPreRefIdeal.main_arg5)),
    fun c => Cert.ConvBwdPreRefIdeal.Conv.wanted_weights (m' (c.tc.loc Cert.ConvBwdPreRefIdeal.main_arg0)) (m' (c.tc.loc Cert.ConvBwdPreRefIdeal.main_arg1)) (m' (c.tc.loc Cert.ConvBwdPreRefIdeal.main_arg2)) (m' (c.tc.loc Cert.ConvBwdPreRefIdeal.main_arg3)) (m' (c.tc.loc Cert.ConvBwdPreRefIdeal.main_arg4)) (m' (c.tc.loc Cert.ConvBwdPreRefIdeal.main_arg5)),
    fun c => Cert.ConvBwdPreRefIdeal.Conv.wanted_bias (m' (c.tc.loc Cert.ConvBwdPreRefIdeal.main_arg0)) (m' (c.tc.loc Cert.ConvBwdPreRefIdeal.main_arg1)) (m' (c.tc.loc Cert.ConvBwdPreRefIdeal.main_arg2)) (m' (c.tc.loc Cert.ConvBwdPreRefIdeal.main_arg3)) (m' (c.tc.loc Cert.ConvBwdPreRefIdeal.main_arg4)) (m' (c.tc.loc Cert.ConvBwdPreRefIdeal.main_arg5)),
    (θ_run Cert.ConvBwdPreIdeal.defs _ _).mono (fun _ h c => by
      obtain ⟨h0, h1, h2, h3, h4, h5⟩ := hagree c
      beta_reduce
      rw [h0, h1, h2, h3, h4, h5]
      exact ⟨(h c).1.trans (Cert.ConvBwdPreRefIdeal.Conv.meet _ _ _ _ _ _ (hfin c)), (h c).2.1.trans (Cert.ConvBwdPreRefIdeal.Conv.meet_weights _ _ _ _ _ _ (hfin c)),
        (h c).2.2.1.trans (Cert.ConvBwdPreRefIdeal.Conv.meet_bias _ _ _ _ _ _ (hfin c)), (h c).2.2.2⟩)
      (Cert.ConvBwdPreIdeal.Conv.run m ρ),
    Cert.ConvBwdPreRefIdeal.Value.run (F := Ideal) m' ρ'⟩

end Cert.Proof.ConvBwdPre

end
-- ==== Proof.LossHead.lean ====
module

public import proofs.«01_k».proof.Proof.LnBwd
public import proofs.«01_k».proof.Proof.Gen.LossHeadIdeal.Frame
public import proofs.«01_k».proof.Proof.Gen.LossHeadRefIdeal.Run
public import Idealize.ShloMosaic.Lib.Pipeline.ValueKit.Acc
public import Idealize.ShloMosaic.Lib.Tactic.IndexArith
public import Idealize.ShloMosaic.Lib.StableHlo.RunRead
public import Idealize.ShloMosaic.Lib.Claim

/-! The loss of one sequence after the final norm, and its gradients in the norm's input and gain. -/

@[expose] public section

set_option maxRecDepth 16384

noncomputable section

namespace Cert.LossHeadIdeal.Head

open Cert.LossHeadIdeal Cert.LossHeadIdeal.Gen Idealize.ShloMosaic Idealize.ShloMosaic.TcCoe
open Cert.Prod (zeros)
open Cert.LnBwdIdeal.Norm (square)

section Cases
variable {F : FTy → Type} [FloatOps F] (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S8x2048 .f32) (harg6 : arg6.IsWhole) (arg7 : Memref sig .tc .vmem S8x128 .f32) (harg7 : arg7.IsWhole)
  (x0 : Vec F S256x2048 .f32) (x1 : Vec F S256x2048 .f32) (x2 : Vec F S1x2048 .f32) (xs : Vec F S8x2048 .f32) (ys : Vec F S8x128 .f32)

theorem first_dx (hc : cond0_0 i) : out0_A_3 c i arg1 harg1 arg2 harg2 arg3 harg3 arg4 harg4 arg5 harg5 arg6 harg6 arg7 harg7 hc x0 x1 x2 = k0_pay10 x0 x1 x2 := by
  unfold out0_A_3
  refine Eq.trans (View.read_writes_eq_canon _ _ _ fun _ => cover0_A_3 ..) ?_
  unfold kernelRun0_A
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

theorem first_dxb (hc : cond0_0 i) : out0_A_4 c i arg1 harg1 arg2 harg2 arg3 harg3 arg4 harg4 arg5 harg5 arg6 harg6 arg7 harg7 hc x0 x1 x2 = k0_pay1 (k0_pay10 x0 x1 x2) := by
  unfold out0_A_4
  refine Eq.trans (View.read_writes_eq_canon _ _ _ fun _ => cover0_A_4 ..) ?_
  unfold kernelRun0_A
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

theorem first_sum (hc : cond0_0 i) : out0_A_5 c i arg1 harg1 arg2 harg2 arg3 harg3 arg4 harg4 arg5 harg5 arg6 harg6 arg7 harg7 hc x0 x1 x2 = k0_pay4 (k0_pay11 x0 x1 x2) k0_pay2 := by
  unfold out0_A_5
  refine Eq.trans (View.read_writes_eq_canon _ _ _ fun _ => cover0_A_5 ..) ?_
  unfold kernelRun0_A
  dsimp only
  sl_unfold_words
  rw [View.canon_cons_unit_zero (S := S8x2048) zeros, View.readCov_unit_zero (S := S8x2048) _ zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

theorem first_loss (hc : cond0_0 i) : out0_A_6 c i arg1 harg1 arg2 harg2 arg3 harg3 arg4 harg4 arg5 harg5 arg6 harg6 arg7 harg7 hc x0 x1 x2 = k0_pay5 (k0_pay12 x0 x1 x2) k0_pay3 := by
  unfold out0_A_6
  refine Eq.trans (View.read_writes_eq_canon _ _ _ fun _ => cover0_A_6 ..) ?_
  unfold kernelRun0_A
  dsimp only
  sl_unfold_words
  rw [View.canon_cons_unit_zero (S := S8x128) zeros, View.readCov_unit_zero (S := S8x128) _ zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

theorem next_dx (hc : ¬cond0_0 i) : out0_B_3 c i arg1 harg1 arg2 harg2 arg3 harg3 arg4 harg4 arg5 harg5 arg6 harg6 arg7 harg7 hc x0 x1 x2 xs ys = k0_pay10 x0 x1 x2 := by
  unfold out0_B_3
  refine Eq.trans (View.read_writes_eq_canon _ _ _ fun _ => cover0_B_3 ..) ?_
  unfold kernelRun0_B
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

theorem next_dxb (hc : ¬cond0_0 i) : out0_B_4 c i arg1 harg1 arg2 harg2 arg3 harg3 arg4 harg4 arg5 harg5 arg6 harg6 arg7 harg7 hc x0 x1 x2 xs ys = k0_pay1 (k0_pay10 x0 x1 x2) := by
  unfold out0_B_4
  refine Eq.trans (View.read_writes_eq_canon _ _ _ fun _ => cover0_B_4 ..) ?_
  unfold kernelRun0_B
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

theorem next_sum (hc : ¬cond0_0 i) : out0_B_5 c i arg1 harg1 arg2 harg2 arg3 harg3 arg4 harg4 arg5 harg5 arg6 harg6 arg7 harg7 hc x0 x1 x2 xs ys = k0_pay4 (k0_pay11 x0 x1 x2) xs := by
  unfold out0_B_5
  refine Eq.trans (View.read_writes_eq_canon _ _ _ fun _ => cover0_B_5 ..) ?_
  unfold kernelRun0_B
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

theorem next_loss (hc : ¬cond0_0 i) : out0_B_6 c i arg1 harg1 arg2 harg2 arg3 harg3 arg4 harg4 arg5 harg5 arg6 harg6 arg7 harg7 hc x0 x1 x2 xs ys = k0_pay5 (k0_pay12 x0 x1 x2) ys := by
  unfold out0_B_6
  refine Eq.trans (View.read_writes_eq_canon _ _ _ fun _ => cover0_B_6 ..) ?_
  unfold kernelRun0_B
  dsimp only
  sl_unfold_words
  rw [View.canon_unit_zero zeros]
  simp only [View.readAt_eq_ld, Memref.IsWhole.read_unread, View.ld_unit_zero (S := S256x2048) zeros, View.ld_unit_zero (S := S1x2048) zeros, View.ld_unit_zero (S := S8x2048) zeros, View.ld_unit_zero (S := S8x128) zeros]

end Cases

/-- The width of a row, as the programs write it. -/
abbrev W : EReal := Ideal.ofBits FTy.f32 0x45000000#32
/-- What a row's normed entry misses its target by. -/
def err (x t g : Fin 2048 → EReal) (j : Fin 2048) : EReal := x j * Ideal.rsqrt (square x) * g j - t j
/-- A row's gradient through the norm, of the gradient `q` of its normed entries. -/
def grad (x q : Fin 2048 → EReal) (j : Fin 2048) : EReal :=
  Ideal.rsqrt (square x) * (q j - x j * Ideal.rsqrt (square x) * Ideal.div (∑ k, q k * (x k * Ideal.rsqrt (square x))) W)
/-- A row's loss. -/
def loss (x t g : Fin 2048 → EReal) : EReal := Ideal.ofBits FTy.f32 0x3F000000#32 * Ideal.div (∑ k, err x t g k * err x t g k) W

section Payloads
variable (x0 : Vec Ideal S256x2048 .f32) (x1 : Vec Ideal S256x2048 .f32) (x2 : Vec Ideal S1x2048 .f32) (xs : Vec Ideal S8x2048 .f32) (ys : Vec Ideal S8x128 .f32) (i : Fin 256) (q : Fin 8) (j : Fin 2048) (l : Fin 128)

theorem inv_at : k0_pay7 x0 (ix2 i 0) = Ideal.rsqrt (square (fun k => x0 (ix2 i k))) := by
  pointwise [k0_pay7, square]
theorem zero_at : (k0_pay2 (F := Ideal)) (ix2 q j) = 0 := by
  pointwise [k0_pay2]
theorem none_at : (k0_pay3 (F := Ideal)) (ix2 q l) = 0 := by
  pointwise [k0_pay3]
theorem xh_at : k0_pay8 x0 (ix2 i j) = x0 (ix2 i j) * k0_pay7 x0 (ix2 i 0) := by
  pointwise [k0_pay8]
theorem err_at : k0_pay9 x0 x1 x2 (ix2 i j) = err (fun k => x0 (ix2 i k)) (fun k => x1 (ix2 i k)) (fun k => x2 (ix2 0 k)) j := by
  have h : k0_pay9 x0 x1 x2 (ix2 i j) = k0_pay8 x0 (ix2 i j) * x2 (ix2 0 j) - x1 (ix2 i j) := by
    pointwise [k0_pay9, k0_pay6]
  rw [h, xh_at, inv_at]
  rfl
theorem dx_at : k0_pay10 x0 x1 x2 (ix2 i j) = grad (fun k => x0 (ix2 i k))
    (fun k => err (fun k => x0 (ix2 i k)) (fun k => x1 (ix2 i k)) (fun k => x2 (ix2 0 k)) k * Ideal.div (x2 (ix2 0 k)) W) j := by
  have h : k0_pay10 x0 x1 x2 (ix2 i j) = k0_pay7 x0 (ix2 i 0) * (k0_pay9 x0 x1 x2 (ix2 i j) * Ideal.div (x2 (ix2 0 j)) W - k0_pay8 x0 (ix2 i j)
      * Ideal.div (∑ k, k0_pay9 x0 x1 x2 (ix2 i k) * Ideal.div (x2 (ix2 0 k)) W * k0_pay8 x0 (ix2 i k)) W) := by
    pointwise [k0_pay10, k0_pay6]
  rw [h]
  simp only [err_at, xh_at, inv_at]
  rfl
theorem dxb_at : k0_pay1 (k0_pay10 x0 x1 x2) (ix2 i j) = k0_pay10 x0 x1 x2 (ix2 i j) := by
  pointwise [k0_pay1]
theorem dg_at : k0_pay11 x0 x1 x2 (ix2 i j) = Ideal.div (k0_pay9 x0 x1 x2 (ix2 i j)) W * k0_pay8 x0 (ix2 i j) := by
  pointwise [k0_pay11]
theorem loss_at : k0_pay12 x0 x1 x2 (ix2 i l) = loss (fun k => x0 (ix2 i k)) (fun k => x1 (ix2 i k)) (fun k => x2 (ix2 0 k)) := by
  have h : k0_pay12 x0 x1 x2 (ix2 i l) = Ideal.ofBits FTy.f32 0x3F000000#32 * Ideal.div (∑ k, k0_pay9 x0 x1 x2 (ix2 i k) * k0_pay9 x0 x1 x2 (ix2 i k)) W := by
    pointwise [k0_pay12]
  rw [h]
  simp only [err_at]
  rfl
theorem sum_at (v : Vec Ideal S256x2048 .f32) : k0_pay4 v xs (ix2 q j) = xs (ix2 q j) + ∑ k : Fin 32, v (ix2 ⟨k.val * 8 + q.val, by omega⟩ j) := by
  pointwise [k0_pay4]
theorem add_at (v : Vec Ideal S256x128 .f32) : k0_pay5 v ys (ix2 q l) = ys (ix2 q l) + ∑ k : Fin 32, v (ix2 ⟨k.val * 8 + q.val, by omega⟩ l) := by
  pointwise [k0_pay5]
end Payloads

theorem coords : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0) := by
  decide +kernel
theorem N_val : cfg0.N = 16 := N_0

section Rows
variable (X : FVec Ideal S4096x2048 .f32) (G : FVec Ideal S2048 .f32) (T : FVec Ideal S4096x2048 .f32)

/-- Row `r` of an array. -/
abbrev row (X : FVec Ideal S4096x2048 .f32) (r : Fin 4096) : Fin 2048 → EReal := fun k => X (ix2 r k)
/-- The gain's entries. -/
abbrev ent (G : FVec Ideal S2048 .f32) : Fin 2048 → EReal := fun k => G (ix1 k)
/-- The gradient of the input. -/
def result : FVec Ideal S4096x2048 .f32 := fun x =>
  grad (row X (x 0)) (fun k => err (row X (x 0)) (row T (x 0)) (ent G) k * Ideal.div (ent G k) W) (x 1)
/-- What row `n` adds to the gradient of the gain. -/
def term (s : Fin 2048) (n : ℕ) : EReal :=
  if h : n < 4096 then Ideal.div (err (row X ⟨n, h⟩) (row T ⟨n, h⟩) (ent G) s) W * (X (ix2 ⟨n, h⟩ s) * Ideal.rsqrt (square (row X ⟨n, h⟩))) else 0
/-- What row `n` adds to the loss. -/
def share (n : ℕ) : EReal := if h : n < 4096 then loss (row X ⟨n, h⟩) (row T ⟨n, h⟩) (ent G) else 0
/-- The eight partial sums of the gain's gradient. -/
def parts : FVec Ideal S8x2048 .f32 := fun x => ∑ t : Fin 16, ∑ k : Fin 32, term X G T (x 1) (t.val * 256 + (k.val * 8 + (x 0).val))
/-- The eight partial sums of the loss, each in every lane. -/
def shares : FVec Ideal S8x128 .f32 := fun x => ∑ t : Fin 16, ∑ k : Fin 32, share X G T (t.val * 256 + (k.val * 8 + (x 0).val))
end Rows

section Array
variable (m : (ℓ : Loc nD τ sig) → Buf (Elt Ideal) ℓ) (c : Dev nD)

theorem x_at (t : Fin cfg0.N) (a : Fin 256) (b : Fin 2048) (r : Fin 4096) (hr : r.val = t.val * 256 + a.val) :
    iblk m c 0 t (ix2 a b) = V m c main_arg0 (ix2 r b) := by
  obtain ⟨⟨h0, h1⟩, -⟩ := coords t
  have he : ((cfg0.win 0).blk t).view.emb (ix2 a b) = (ix2 r b : S4096x2048.Idx) := funext fun d => Fin.ext (match d with
    | ⟨0, _⟩ => by show win0_0.index t 0 * 256 + 1 * a.val = r.val; rw [h0, hr, Nat.one_mul]
    | ⟨1, _⟩ => by show win0_0.index t 1 * 2048 + 1 * b.val = b.val; rw [h1, Nat.one_mul, Nat.zero_mul, Nat.zero_add])
  show V m c main_arg0 (((cfg0.win 0).blk t).view.emb (ix2 a b)) = _
  rw [he]
theorem t_at (t : Fin cfg0.N) (a : Fin 256) (b : Fin 2048) (r : Fin 4096) (hr : r.val = t.val * 256 + a.val) :
    iblk m c 1 t (ix2 a b) = V m c main_arg2 (ix2 r b) := by
  obtain ⟨-, ⟨h0, h1⟩, -⟩ := coords t
  have he : ((cfg0.win 1).blk t).view.emb (ix2 a b) = (ix2 r b : S4096x2048.Idx) := funext fun d => Fin.ext (match d with
    | ⟨0, _⟩ => by show win0_1.index t 0 * 256 + 1 * a.val = r.val; rw [h0, hr, Nat.one_mul]
    | ⟨1, _⟩ => by show win0_1.index t 1 * 2048 + 1 * b.val = b.val; rw [h1, Nat.one_mul, Nat.zero_mul, Nat.zero_add])
  show V m c main_arg2 (((cfg0.win 1).blk t).view.emb (ix2 a b)) = _
  rw [he]
theorem gain_row (t : Fin cfg0.N) (a : Fin 1) (b : Fin 2048) :
    iblk m c 2 t (ix2 a b) = V m c main_v0 (ix2 a b) := by
  obtain ⟨-, -, ⟨h0, h1⟩, -⟩ := coords t
  have he : ((cfg0.win 2).blk t).view.emb (ix2 a b) = (ix2 a b : S1x2048.Idx) := funext fun d => Fin.ext (match d with
    | ⟨0, _⟩ => by show win0_2.index t 0 * 1 + 1 * a.val = a.val; rw [h0, Nat.one_mul, Nat.zero_mul, Nat.zero_add]
    | ⟨1, _⟩ => by show win0_2.index t 1 * 2048 + 1 * b.val = b.val; rw [h1, Nat.one_mul, Nat.zero_mul, Nat.zero_add])
  show V m c main_v0 (((cfg0.win 2).blk t).view.emb (ix2 a b)) = _
  rw [he]

theorem g_at (t : Fin cfg0.N) (b : Fin 2048) : iblk m c 2 t (ix2 0 b) = V m c main_arg1 (ix1 b) := by
  rw [gain_row]
  have h : V m c main_v0 = (shapeCast S1x2048 (V m c main_arg1 : FVec Ideal S2048 .f32) shapeCasts_S2048_S1x2048 : FVec Ideal S1x2048 .f32) := by
    rfl
  rw [h]
  pointwise

theorem pay_at (t : Fin cfg0.N) (a : Fin 256) (b : Fin 2048) (r : Fin 4096) (hr : r.val = t.val * 256 + a.val) :
    k0_pay10 (iblk m c 0 t) (iblk m c 1 t) (iblk m c 2 t) (ix2 a b) = result (V m c main_arg0) (V m c main_arg1) (V m c main_arg2) (ix2 r b) := by
  rw [dx_at]
  show _ = grad (fun k => V m c main_arg0 (ix2 r k)) (fun k => err (fun k => V m c main_arg0 (ix2 r k)) (fun k => V m c main_arg2 (ix2 r k)) (fun k => V m c main_arg1 (ix1 k)) k * Ideal.div (V m c main_arg1 (ix1 k)) W) b
  simp only [x_at m c t a _ r hr, t_at m c t a _ r hr, g_at m c t]

theorem dx_out (t : Fin cfg0.N) (a : Fin 256) (b : Fin 2048) (r : Fin 4096) (hr : r.val = t.val * 256 + a.val) :
    (outsAt0 m c t.val t.isLt).1 (ix2 a b) = result (V m c main_arg0) (V m c main_arg1) (V m c main_arg2) (ix2 r b) := by
  by_cases h : t.val % 16 = 0
  · rw [outsAt0_A m c t h]
    dsimp only
    rw [first_dx]
    exact pay_at m c t a b r hr
  · rw [outsAt0_B m c t h]
    dsimp only
    rw [next_dx]
    exact pay_at m c t a b r hr
theorem dxb_out (t : Fin cfg0.N) (a : Fin 256) (b : Fin 2048) (r : Fin 4096) (hr : r.val = t.val * 256 + a.val) :
    (outsAt0 m c t.val t.isLt).2.1 (ix2 a b) = result (V m c main_arg0) (V m c main_arg1) (V m c main_arg2) (ix2 r b) := by
  by_cases h : t.val % 16 = 0
  · rw [outsAt0_A m c t h]
    dsimp only
    rw [first_dxb, dxb_at]
    exact pay_at m c t a b r hr
  · rw [outsAt0_B m c t h]
    dsimp only
    rw [next_dxb, dxb_at]
    exact pay_at m c t a b r hr

theorem term_at (t : Fin cfg0.N) (q : Fin 8) (s : Fin 2048) :
    ∑ k : Fin 32, k0_pay11 (iblk m c 0 t) (iblk m c 1 t) (iblk m c 2 t) (ix2 ⟨k.val * 8 + q.val, by omega⟩ s)
      = ∑ k : Fin 32, term (V m c main_arg0) (V m c main_arg1) (V m c main_arg2) s (t.val * 256 + (k.val * 8 + q.val)) := by
  have hN : t.val < 16 := lt_of_lt_of_eq t.isLt N_val
  refine Finset.sum_congr rfl fun k _ => ?_
  rw [dg_at, err_at, xh_at, inv_at]
  unfold term
  rw [dif_pos (by omega)]
  have hx := fun b : Fin 2048 => x_at m c t ⟨k.val * 8 + q.val, by omega⟩ b ⟨t.val * 256 + (k.val * 8 + q.val), by omega⟩ rfl
  have ht := fun b : Fin 2048 => t_at m c t ⟨k.val * 8 + q.val, by omega⟩ b ⟨t.val * 256 + (k.val * 8 + q.val), by omega⟩ rfl
  simp only [hx, ht, g_at]

theorem share_at (t : Fin cfg0.N) (q : Fin 8) (l : Fin 128) :
    ∑ k : Fin 32, k0_pay12 (iblk m c 0 t) (iblk m c 1 t) (iblk m c 2 t) (ix2 ⟨k.val * 8 + q.val, by omega⟩ l)
      = ∑ k : Fin 32, share (V m c main_arg0) (V m c main_arg1) (V m c main_arg2) (t.val * 256 + (k.val * 8 + q.val)) := by
  have hN : t.val < 16 := lt_of_lt_of_eq t.isLt N_val
  refine Finset.sum_congr rfl fun k _ => ?_
  rw [loss_at]
  unfold share
  rw [dif_pos (by omega)]
  have hx := fun b : Fin 2048 => x_at m c t ⟨k.val * 8 + q.val, by omega⟩ b ⟨t.val * 256 + (k.val * 8 + q.val), by omega⟩ rfl
  have ht := fun b : Fin 2048 => t_at m c t ⟨k.val * 8 + q.val, by omega⟩ b ⟨t.val * 256 + (k.val * 8 + q.val), by omega⟩ rfl
  simp only [hx, ht, g_at]

/-- The partial sums after each tile. -/
theorem sums_at (q : Fin 8) (s : Fin 2048) (n : ℕ) (hn : n < 16) (h : n < cfg0.N) : (outsAt0 m c n h).2.2.1 (ix2 q s)
    = ∑ t : Fin (n + 1), ∑ k : Fin 32, term (V m c main_arg0) (V m c main_arg1) (V m c main_arg2) s (t.val * 256 + (k.val * 8 + q.val)) := by
  have e := Cert.Prod.sum_steps 16 (fun n => if h : n < cfg0.N then (outsAt0 m c n h).2.2.1 (ix2 q s) else 0)
    (fun n => ∑ k : Fin 32, term (V m c main_arg0) (V m c main_arg1) (V m c main_arg2) s (n * 256 + (k.val * 8 + q.val))) ?_ ?_ n hn
  · rw [dif_pos h] at e
    exact e
  · have h0 : 0 < cfg0.N := by rw [N_val]; omega
    rw [dif_pos h0, outsAt0_A m c ⟨0, h0⟩ rfl]
    dsimp only
    rw [first_sum, sum_at, zero_at, zero_add, term_at]
  · intro n hn
    have h0 : n < cfg0.N := by rw [N_val]; omega
    have h1 : n + 1 < cfg0.N := by rw [N_val]; omega
    rw [dif_pos h1, dif_pos h0, outsAt0_B m c ⟨n + 1, h1⟩ (by dsimp only; omega)]
    dsimp only
    rw [next_sum, sum_at, term_at]
    rfl

theorem losses_at (q : Fin 8) (l : Fin 128) (n : ℕ) (hn : n < 16) (h : n < cfg0.N) : (outsAt0 m c n h).2.2.2 (ix2 q l)
    = ∑ t : Fin (n + 1), ∑ k : Fin 32, share (V m c main_arg0) (V m c main_arg1) (V m c main_arg2) (t.val * 256 + (k.val * 8 + q.val)) := by
  have e := Cert.Prod.sum_steps 16 (fun n => if h : n < cfg0.N then (outsAt0 m c n h).2.2.2 (ix2 q l) else 0)
    (fun n => ∑ k : Fin 32, share (V m c main_arg0) (V m c main_arg1) (V m c main_arg2) (n * 256 + (k.val * 8 + q.val))) ?_ ?_ n hn
  · rw [dif_pos h] at e
    exact e
  · have h0 : 0 < cfg0.N := by rw [N_val]; omega
    rw [dif_pos h0, outsAt0_A m c ⟨0, h0⟩ rfl]
    dsimp only
    rw [first_loss, add_at, none_at, zero_add, share_at]
  · intro n hn
    have h0 : n < cfg0.N := by rw [N_val]; omega
    have h1 : n + 1 < cfg0.N := by rw [N_val]; omega
    rw [dif_pos h1, dif_pos h0, outsAt0_B m c ⟨n + 1, h1⟩ (by dsimp only; omega)]
    dsimp only
    rw [next_loss, add_at, share_at]
    rfl

theorem flushed_dx (t : Fin cfg0.N) (hf : (cfg0.win 3).flush t = true) : (dats m 0 c).flushed 3 t = ((cfg0.win 3).blk t).view.read (Elt Ideal) (result (V m c main_arg0) (V m c main_arg1) (V m c main_arg2)) := by
  obtain ⟨-, -, -, ⟨h0, h1⟩, -⟩ := coords t
  have hN : t.val < 16 := lt_of_lt_of_eq t.isLt N_val
  show (cfg0.win 3).cut (grid0.coords t) ((dats m 0 c).after 3 t) = _
  rw [after0_3]
  funext y
  show (outsAt0 m c t.val t.isLt).1 y = result (V m c main_arg0) (V m c main_arg1) (V m c main_arg2) (((cfg0.win 3).blk t).view.emb y)
  have y0 : (y 0).val < 256 := (y 0).isLt
  have y1 : (y 1).val < 2048 := (y 1).isLt
  have he : ((cfg0.win 3).blk t).view.emb y = (ix2 ⟨t.val * 256 + (y 0).val, by omega⟩ ⟨(y 1).val, y1⟩ : S4096x2048.Idx) := funext fun d => Fin.ext (match d with
    | ⟨0, _⟩ => by show win0_3.index t 0 * 256 + 1 * (y 0).val = t.val * 256 + (y 0).val; rw [h0, Nat.one_mul]
    | ⟨1, _⟩ => by show win0_3.index t 1 * 2048 + 1 * (y 1).val = (y 1).val; rw [h1, Nat.one_mul, Nat.zero_mul, Nat.zero_add])
  have hy : y = (ix2 ⟨(y 0).val, y0⟩ ⟨(y 1).val, y1⟩ : S256x2048.Idx) := funext fun d => match d with
    | ⟨0, _⟩ => rfl
    | ⟨1, _⟩ => rfl
  rw [he]
  conv_lhs => rw [hy]
  exact dx_out m c t _ _ _ rfl

theorem cover_dx (i : S4096x2048.Idx) : ∃ t : Fin cfg0.N, (cfg0.win 3).flush t = true ∧ i ∈ ((cfg0.win 3).blk t).view.set := by
  have i0 : (i 0).val < 4096 := (i 0).isLt
  have i1 : (i 1).val < 2048 := (i 1).isLt
  have hb : (i 0).val / 256 < cfg0.N := by rw [N_val]; omega
  obtain ⟨-, -, -, ⟨h0, h1⟩, -⟩ := coords ⟨_, hb⟩
  refine ⟨⟨_, hb⟩, flush0_3 _, ?_⟩
  show (show ((View.whole (Pipeline.arrRef spec0 3)).slice (win0_3.rect ⟨_, hb⟩)).ty.Idx from i) ∈ ((View.whole (Pipeline.arrRef spec0 3)).slice (win0_3.rect ⟨_, hb⟩)).set
  rw [View.set_slice_whole, Rect.mem_set_unit]
  intro a
  match a with
  | ⟨0, _⟩ => show win0_3.index _ 0 * 256 ≤ (i 0).val ∧ (i 0).val < win0_3.index _ 0 * 256 + 256
              rw [h0]; dsimp only; omega
  | ⟨1, _⟩ => show win0_3.index _ 1 * 2048 ≤ (i 1).val ∧ (i 1).val < win0_3.index _ 1 * 2048 + 2048
              rw [h1]; omega

theorem final_dx : (dats m 0 c).arrAt 3 cfg0.N = result (V m c main_arg0) (V m c main_arg1) (V m c main_arg2) :=
  (dats m 0 c).arrAt_eq_of_cover 3 _ (flushed_dx m c) cover_dx

theorem flushed_dxb (t : Fin cfg0.N) (hf : (cfg0.win 4).flush t = true) : (dats m 0 c).flushed 4 t = ((cfg0.win 4).blk t).view.read (Elt Ideal) (result (V m c main_arg0) (V m c main_arg1) (V m c main_arg2)) := by
  obtain ⟨-, -, -, -, ⟨h0, h1⟩, -⟩ := coords t
  have hN : t.val < 16 := lt_of_lt_of_eq t.isLt N_val
  show (cfg0.win 4).cut (grid0.coords t) ((dats m 0 c).after 4 t) = _
  rw [after0_4]
  funext y
  show (outsAt0 m c t.val t.isLt).2.1 y = result (V m c main_arg0) (V m c main_arg1) (V m c main_arg2) (((cfg0.win 4).blk t).view.emb y)
  have y0 : (y 0).val < 256 := (y 0).isLt
  have y1 : (y 1).val < 2048 := (y 1).isLt
  have he : ((cfg0.win 4).blk t).view.emb y = (ix2 ⟨t.val * 256 + (y 0).val, by omega⟩ ⟨(y 1).val, y1⟩ : S4096x2048.Idx) := funext fun d => Fin.ext (match d with
    | ⟨0, _⟩ => by show win0_4.index t 0 * 256 + 1 * (y 0).val = t.val * 256 + (y 0).val; rw [h0, Nat.one_mul]
    | ⟨1, _⟩ => by show win0_4.index t 1 * 2048 + 1 * (y 1).val = (y 1).val; rw [h1, Nat.one_mul, Nat.zero_mul, Nat.zero_add])
  have hy : y = (ix2 ⟨(y 0).val, y0⟩ ⟨(y 1).val, y1⟩ : S256x2048.Idx) := funext fun d => match d with
    | ⟨0, _⟩ => rfl
    | ⟨1, _⟩ => rfl
  rw [he]
  conv_lhs => rw [hy]
  exact dxb_out m c t _ _ _ rfl

theorem cover_dxb (i : S4096x2048.Idx) : ∃ t : Fin cfg0.N, (cfg0.win 4).flush t = true ∧ i ∈ ((cfg0.win 4).blk t).view.set := by
  have i0 : (i 0).val < 4096 := (i 0).isLt
  have i1 : (i 1).val < 2048 := (i 1).isLt
  have hb : (i 0).val / 256 < cfg0.N := by rw [N_val]; omega
  obtain ⟨-, -, -, -, ⟨h0, h1⟩, -⟩ := coords ⟨_, hb⟩
  refine ⟨⟨_, hb⟩, flush0_4 _, ?_⟩
  show (show ((View.whole (Pipeline.arrRef spec0 4)).slice (win0_4.rect ⟨_, hb⟩)).ty.Idx from i) ∈ ((View.whole (Pipeline.arrRef spec0 4)).slice (win0_4.rect ⟨_, hb⟩)).set
  rw [View.set_slice_whole, Rect.mem_set_unit]
  intro a
  match a with
  | ⟨0, _⟩ => show win0_4.index _ 0 * 256 ≤ (i 0).val ∧ (i 0).val < win0_4.index _ 0 * 256 + 256
              rw [h0]; dsimp only; omega
  | ⟨1, _⟩ => show win0_4.index _ 1 * 2048 ≤ (i 1).val ∧ (i 1).val < win0_4.index _ 1 * 2048 + 2048
              rw [h1]; omega

theorem final_dxb : (dats m 0 c).arrAt 4 cfg0.N = result (V m c main_arg0) (V m c main_arg1) (V m c main_arg2) :=
  (dats m 0 c).arrAt_eq_of_cover 4 _ (flushed_dxb m c) cover_dxb

theorem flushed_sum (t : Fin cfg0.N) (hf : (cfg0.win 5).flush t = true) : (dats m 0 c).flushed 5 t = ((cfg0.win 5).blk t).view.read (Elt Ideal) (parts (V m c main_arg0) (V m c main_arg1) (V m c main_arg2)) := by
  obtain ⟨-, -, -, -, -, ⟨h0, h1⟩, -⟩ := coords t
  have hN : t.val < 16 := lt_of_lt_of_eq t.isLt N_val
  show (cfg0.win 5).cut (grid0.coords t) ((dats m 0 c).after 5 t) = _
  rw [after0_5]
  funext y
  show (outsAt0 m c t.val t.isLt).2.2.1 y = parts (V m c main_arg0) (V m c main_arg1) (V m c main_arg2) (((cfg0.win 5).blk t).view.emb y)
  have y0 : (y 0).val < 8 := (y 0).isLt
  have y1 : (y 1).val < 2048 := (y 1).isLt
  have he : ((cfg0.win 5).blk t).view.emb y = (ix2 ⟨(y 0).val, y0⟩ ⟨(y 1).val, y1⟩ : S8x2048.Idx) := funext fun d => Fin.ext (match d with
    | ⟨0, _⟩ => by show win0_5.index t 0 * 8 + 1 * (y 0).val = (y 0).val; rw [h0, Nat.one_mul, Nat.zero_mul, Nat.zero_add]
    | ⟨1, _⟩ => by show win0_5.index t 1 * 2048 + 1 * (y 1).val = (y 1).val; rw [h1, Nat.one_mul, Nat.zero_mul, Nat.zero_add])
  have hy : y = (ix2 ⟨(y 0).val, y0⟩ ⟨(y 1).val, y1⟩ : S8x2048.Idx) := funext fun d => match d with
    | ⟨0, _⟩ => rfl
    | ⟨1, _⟩ => rfl
  rw [he]
  conv_lhs => rw [hy]
  exact (sums_at m c _ _ t.val hN t.isLt).trans (by have h15 := (flush0_5 t).mp hf; rw [show t.val = 15 by omega]; rfl)

theorem cover_sum (i : S8x2048.Idx) : ∃ t : Fin cfg0.N, (cfg0.win 5).flush t = true ∧ i ∈ ((cfg0.win 5).blk t).view.set := by
  have i0 : (i 0).val < 8 := (i 0).isLt
  have i1 : (i 1).val < 2048 := (i 1).isLt
  have hb : 15 < cfg0.N := by rw [N_val]; omega
  obtain ⟨-, -, -, -, -, ⟨h0, h1⟩, -⟩ := coords ⟨_, hb⟩
  refine ⟨⟨_, hb⟩, (flush0_5 _).mpr rfl, ?_⟩
  show (show ((View.whole (Pipeline.arrRef spec0 5)).slice (win0_5.rect ⟨_, hb⟩)).ty.Idx from i) ∈ ((View.whole (Pipeline.arrRef spec0 5)).slice (win0_5.rect ⟨_, hb⟩)).set
  rw [View.set_slice_whole, Rect.mem_set_unit]
  intro a
  match a with
  | ⟨0, _⟩ => show win0_5.index _ 0 * 8 ≤ (i 0).val ∧ (i 0).val < win0_5.index _ 0 * 8 + 8
              rw [h0]; omega
  | ⟨1, _⟩ => show win0_5.index _ 1 * 2048 ≤ (i 1).val ∧ (i 1).val < win0_5.index _ 1 * 2048 + 2048
              rw [h1]; omega

theorem final_sum : (dats m 0 c).arrAt 5 cfg0.N = parts (V m c main_arg0) (V m c main_arg1) (V m c main_arg2) :=
  (dats m 0 c).arrAt_eq_of_cover 5 _ (flushed_sum m c) cover_sum

theorem flushed_loss (t : Fin cfg0.N) (hf : (cfg0.win 6).flush t = true) : (dats m 0 c).flushed 6 t = ((cfg0.win 6).blk t).view.read (Elt Ideal) (shares (V m c main_arg0) (V m c main_arg1) (V m c main_arg2)) := by
  obtain ⟨-, -, -, -, -, -, h0, h1⟩ := coords t
  have hN : t.val < 16 := lt_of_lt_of_eq t.isLt N_val
  show (cfg0.win 6).cut (grid0.coords t) ((dats m 0 c).after 6 t) = _
  rw [after0_6]
  funext y
  show (outsAt0 m c t.val t.isLt).2.2.2 y = shares (V m c main_arg0) (V m c main_arg1) (V m c main_arg2) (((cfg0.win 6).blk t).view.emb y)
  have y0 : (y 0).val < 8 := (y 0).isLt
  have y1 : (y 1).val < 128 := (y 1).isLt
  have he : ((cfg0.win 6).blk t).view.emb y = (ix2 ⟨(y 0).val, y0⟩ ⟨(y 1).val, y1⟩ : S8x128.Idx) := funext fun d => Fin.ext (match d with
    | ⟨0, _⟩ => by show win0_6.index t 0 * 8 + 1 * (y 0).val = (y 0).val; rw [h0, Nat.one_mul, Nat.zero_mul, Nat.zero_add]
    | ⟨1, _⟩ => by show win0_6.index t 1 * 128 + 1 * (y 1).val = (y 1).val; rw [h1, Nat.one_mul, Nat.zero_mul, Nat.zero_add])
  have hy : y = (ix2 ⟨(y 0).val, y0⟩ ⟨(y 1).val, y1⟩ : S8x128.Idx) := funext fun d => match d with
    | ⟨0, _⟩ => rfl
    | ⟨1, _⟩ => rfl
  rw [he]
  conv_lhs => rw [hy]
  exact (losses_at m c _ _ t.val hN t.isLt).trans (by have h15 := (flush0_6 t).mp hf; rw [show t.val = 15 by omega]; rfl)

theorem cover_loss (i : S8x128.Idx) : ∃ t : Fin cfg0.N, (cfg0.win 6).flush t = true ∧ i ∈ ((cfg0.win 6).blk t).view.set := by
  have i0 : (i 0).val < 8 := (i 0).isLt
  have i1 : (i 1).val < 128 := (i 1).isLt
  have hb : 15 < cfg0.N := by rw [N_val]; omega
  obtain ⟨-, -, -, -, -, -, h0, h1⟩ := coords ⟨_, hb⟩
  refine ⟨⟨_, hb⟩, (flush0_6 _).mpr rfl, ?_⟩
  show (show ((View.whole (Pipeline.arrRef spec0 6)).slice (win0_6.rect ⟨_, hb⟩)).ty.Idx from i) ∈ ((View.whole (Pipeline.arrRef spec0 6)).slice (win0_6.rect ⟨_, hb⟩)).set
  rw [View.set_slice_whole, Rect.mem_set_unit]
  intro a
  match a with
  | ⟨0, _⟩ => show win0_6.index _ 0 * 8 ≤ (i 0).val ∧ (i 0).val < win0_6.index _ 0 * 8 + 8
              rw [h0]; omega
  | ⟨1, _⟩ => show win0_6.index _ 1 * 128 ≤ (i 1).val ∧ (i 1).val < win0_6.index _ 1 * 128 + 128
              rw [h1]; omega

theorem final_loss : (dats m 0 c).arrAt 6 cfg0.N = shares (V m c main_arg0) (V m c main_arg1) (V m c main_arg2) :=
  (dats m 0 c).arrAt_eq_of_cover 6 _ (flushed_loss m c) cover_loss

/-- The sum over the eight rows, taken after the call. -/
def total (p : FVec Ideal S8x2048 .f32) : FVec Ideal S2048 .f32 := Host.reduceAdd p (constant S_ .f32 0x00000000#32) reducesTo_S8x2048_S2048_d0 h_S_
theorem total_at (p : FVec Ideal S8x2048 .f32) (j : Fin 2048) : total p (ix1 j) = ∑ q : Fin 8, p (ix2 q j) := by
  pointwise [total]
/-- The sum of the first lane's eight entries, taken after the call. -/
def whole (p : FVec Ideal S8x128 .f32) : FVec Ideal S_ .f32 :=
  Host.reduceAdd (shapeCast S8 (extractStridedSlice S8x1 ![0, 0] p slices_S8x128_S8x1_0_0 : FVec Ideal S8x1 .f32) shapeCasts_S8x1_S8 : FVec Ideal S8 .f32) (constant S_ .f32 0x00000000#32) reducesTo_S8_S_d0 h_S_
theorem whole_at (p : FVec Ideal S8x128 .f32) (y : S_.Idx) : whole p y = ∑ q : Fin 8, p (ix2 q 0) := by
  pointwise [whole]

theorem after_call : Pipeline.afterTail₀ cfgs (dats m) 0 (V0 m) [hostOps1] c main_v2 = total (parts (V m c main_arg0) (V m c main_arg1) (V m c main_arg2)) := by
  have h := Pipeline.withArrays_arr cfg0.spec winFacts0.arr_inj c (V0 m c) (fun w => (dats m 0 c).arrAt w cfg0.N) 5
  unfold Pipeline.afterTail₀
  rw [show ([hostOps1] : List (List (HloOp τ sig (Elt Ideal)))).flatten = hostOps1 from rfl]
  unfold hostOps1
  after_results_simp
  exact congrArg total (h.trans (final_sum m c))

theorem after_loss : Pipeline.afterTail₀ cfgs (dats m) 0 (V0 m) [hostOps1] c main_v5 = whole (shares (V m c main_arg0) (V m c main_arg1) (V m c main_arg2)) := by
  have h := Pipeline.withArrays_arr cfg0.spec winFacts0.arr_inj c (V0 m c) (fun w => (dats m 0 c).arrAt w cfg0.N) 6
  unfold Pipeline.afterTail₀
  rw [show ([hostOps1] : List (List (HloOp τ sig (Elt Ideal)))).flatten = hostOps1 from rfl]
  unfold hostOps1
  after_results_simp
  exact congrArg whole (h.trans (final_loss m c))

/-- The call and the sums after it. -/
theorem run (ρ : Dev nD → PrngReg) : θ_run defs (onTc (τ := τ) (main (F := Ideal))) ⟨m, fun _ => 0, ρ⟩ (fun r => ∀ c : Dev nD,
    r.2.mem ((c.tc : Thread nD τ).loc main_v1_0) = result (m ((c.tc : Thread nD τ).loc main_arg0)) (m ((c.tc : Thread nD τ).loc main_arg1)) (m ((c.tc : Thread nD τ).loc main_arg2))
    ∧ r.2.mem ((c.tc : Thread nD τ).loc main_v1_1) = result (m ((c.tc : Thread nD τ).loc main_arg0)) (m ((c.tc : Thread nD τ).loc main_arg1)) (m ((c.tc : Thread nD τ).loc main_arg2))
    ∧ r.2.mem ((c.tc : Thread nD τ).loc main_v2) = total (parts (m ((c.tc : Thread nD τ).loc main_arg0)) (m ((c.tc : Thread nD τ).loc main_arg1)) (m ((c.tc : Thread nD τ).loc main_arg2)))
    ∧ r.2.mem ((c.tc : Thread nD τ).loc main_v5) = whole (shares (m ((c.tc : Thread nD τ).loc main_arg0)) (m ((c.tc : Thread nD τ).loc main_arg1)) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h.1 c).1 3).trans (final_dx m c), ((h.1 c).1 4).trans (final_dxb m c),
      ((h.1 c).2 main_v2 (Pipeline.mem_restRefs_of main_v2 (by decide) (by decide))).trans (after_call m c),
      ((h.1 c).2 main_v5 (Pipeline.mem_restRefs_of main_v5 (by decide) (by decide))).trans (after_loss m c), h.2 c⟩)
    (θ_run_and (run_main m ρ) (unchanged m ρ))
end Array

end Cert.LossHeadIdeal.Head

namespace Cert.LossHeadRefIdeal.Head

open Cert.LossHeadRefIdeal Cert.LossHeadRefIdeal.Gen Idealize.ShloMosaic Idealize.ShloMosaic.TcCoe
open Cert.LossHeadIdeal.Head (W err grad loss row ent result term share parts shares total total_at whole whole_at)
open Cert.LnBwdIdeal.Norm (square)
open Cert.LnBwdRefIdeal.Norm (mean scaled through gain mean_at scaled_at through_at gain_at width half square_pos)
variable (x : FVec Ideal S4096x2048 .f32) (g : FVec Ideal S2048 .f32) (t : FVec Ideal S4096x2048 .f32)

/-- The reference's normed entries less their targets. -/
def miss : FVec Ideal S4096x2048 .f32 :=
  subf (mulf (mulf x (broadcastInDim S4096x2048 ![0, 1] bcast_S4096x1_S4096x2048_0_1 (Host.rsqrt (mean x)))) (broadcastInDim S4096x2048 ![0, 1] bcast_S1x2048_S4096x2048_0_1 (broadcastInDim S1x2048 ![1] bcast_S2048_S1x2048_1 g))) t
/-- The gradient of the reference's normed entries. -/
def pull : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (miss x g t))
/-- The reference's gradient of the input. -/
def wanted : FVec Ideal S4096x2048 .f32 :=
  addf (addf (mulf (scaled (pull x g t) g) (broadcastInDim S4096x2048 ![0, 1] bcast_S4096x1_S4096x2048_0_1 (Host.rsqrt (mean x)))) (mulf x (through x (pull x g t) g))) (mulf (through x (pull x g t) g) x)
/-- The reference's loss. -/
def cost : FVec Ideal S_ .f32 :=
  mulf (constant S_ .f32 0x3F000000#32) (Host.reduceAdd (Host.divf (Host.reduceAdd (mulf (miss x g t) (miss x g t)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_)

theorem miss_at (i : Fin 4096) (j : Fin 2048) : miss x g t (ix2 i j) = err (row x i) (row t i) (ent g) j := by
  have h : miss x g t (ix2 i j) = x (ix2 i j) * Ideal.rsqrt (mean x (ix2 i 0)) * g (ix1 j) - t (ix2 i j) := by
    pointwise [miss]
  rw [h, mean_at]
  rfl
/-- One half of twice a number is the number. -/
theorem halves (a : EReal) : Ideal.div (Ideal.ofBits FTy.f32 0x3F000000#32 * Ideal.ofBits FTy.f32 0x3F800000#32) W * (Ideal.ofBits FTy.f32 0x40000000#32 * a) = Ideal.div a W := by
  have h1 : Ideal.ofBits FTy.f32 0x3F000000#32 = ((1 / 2 : ℝ) : EReal) := by
    simp [Ideal.ofBits, Ideal.ieee, -EReal.coe_mul]; norm_num
  have h2 : Ideal.ofBits FTy.f32 0x3F800000#32 = ((1 : ℝ) : EReal) := by
    simp [Ideal.ofBits, Ideal.ieee, -EReal.coe_mul]; norm_num
  have h3 : Ideal.ofBits FTy.f32 0x40000000#32 = ((2 : ℝ) : EReal) := by
    simp [Ideal.ofBits, Ideal.ieee, -EReal.coe_mul]; norm_num
  rw [h1, h2, h3, show W = ((2048 : ℝ) : EReal) from width, Ideal.div_coe (by norm_num), Ideal.div_coe (by norm_num), ← mul_assoc, ← EReal.coe_mul, ← EReal.coe_mul, ← EReal.coe_mul, mul_comm]
  norm_num
theorem pull_at (i : Fin 4096) (j : Fin 2048) : pull x g t (ix2 i j) = Ideal.div (err (row x i) (row t i) (ent g) j) W := by
  have h : pull x g t (ix2 i j) = Ideal.div (Ideal.ofBits FTy.f32 0x3F000000#32 * Ideal.ofBits FTy.f32 0x3F800000#32) W * (Ideal.ofBits FTy.f32 0x40000000#32 * miss x g t (ix2 i j)) := by
    pointwise [pull]
  rw [h, halves, miss_at]
theorem wanted_at (i : Fin 4096) (j : Fin 2048) : wanted x g t (ix2 i j) =
      scaled (pull x g t) g (ix2 i j) * Ideal.rsqrt (mean x (ix2 i 0)) + x (ix2 i j) * through x (pull x g t) g (ix2 i j) + through x (pull x g t) g (ix2 i j) * x (ix2 i j) := by
  pointwise [wanted]
theorem cost_at (y : S_.Idx) : cost x g t y = Ideal.ofBits FTy.f32 0x3F000000#32 * ∑ r, Ideal.div (∑ k, miss x g t (ix2 r k) * miss x g t (ix2 r k)) W := by
  pointwise [cost]

/-- Dividing by the width before or after the gain. -/
theorem over (a b : EReal) : a * Ideal.div b W = Ideal.div a W * b := by
  rw [show W = ((2048 : ℝ) : EReal) from width, Ideal.div_coe (by norm_num), Ideal.div_coe (by norm_num)]
  ac_rfl

theorem meet : result x g t = wanted x g t := by
  funext y
  idx_vars y
  rw [wanted_at, through_at, mean_at, scaled_at]
  show grad (row x y0) (fun k => err (row x y0) (row t y0) (ent g) k * Ideal.div (ent g k) W) y1 = _
  rw [show (fun k => err (row x y0) (row t y0) (ent g) k * Ideal.div (ent g k) W) = fun k => Ideal.div (err (row x y0) (row t y0) (ent g) k) W * ent g k from funext fun k => over _ _]
  simp only [pull_at]
  exact Cert.Prod.norm_grad (row x y0) (fun k => Ideal.div (err (row x y0) (row t y0) (ent g) k) W * g (ix1 k)) (x (ix2 y0 y1)) (Ideal.div (err (row x y0) (row t y0) (ent g) y1) W * g (ix1 y1)) _ _ _ 2048 (by norm_num) width half (square_pos _)

theorem meet_gain : total (parts x g t) = gain x (pull x g t) := by
  funext y
  idx_vars y
  rw [total_at, gain_at]
  refine Eq.trans (Cert.Prod.sum_tiles (term x g t y0)) (Finset.sum_congr rfl fun r _ => ?_)
  unfold term
  rw [dif_pos r.isLt, mean_at, pull_at, mul_comm]

theorem meet_cost : whole (shares x g t) = cost x g t := by
  funext y
  rw [whole_at, cost_at]
  refine Eq.trans (Cert.Prod.sum_tiles (share x g t)) ?_
  have h1 : Ideal.ofBits FTy.f32 0x3F000000#32 = ((1 / 2 : ℝ) : EReal) := by
    simp [Ideal.ofBits, Ideal.ieee, -EReal.coe_mul]; norm_num
  rw [h1, mul_comm, ← Cert.Prod.sum_mul_real _ _ (1 / 2) (by norm_num)]
  refine Finset.sum_congr rfl fun r _ => ?_
  unfold share
  rw [dif_pos r.isLt, mul_comm]
  simp only [miss_at]
  rw [← h1]
  rfl
end Cert.LossHeadRefIdeal.Head

end
-- ==== Proof.LossHeadClaims.lean ====
module

public import proofs.«01_k».proof.Defs
public import proofs.«01_k».proof.Proof.Gen.LossHead
public import proofs.«01_k».proof.Proof.LossHead
public import Idealize.ShloMosaic.Adequacy
public import Idealize.ShloMosaic.Init

/-! The claims of one call: the three frames, and the equality of its results with the reference's. -/

@[expose] public section

set_option maxRecDepth 16384
set_option maxHeartbeats 1000000

noncomputable section

namespace Cert.Proof.LossHead

open Idealize.ShloMosaic Idealize.SL.Sem

/-- The kernel's body is the idealized program's, word for word. -/
theorem bodies_eq : Cert.LossHead.defs₀ (F := Bits) = Cert.LossHeadIdeal.defs₀ (F := Bits) := by
  unfold Cert.LossHead.defs₀ Cert.LossHeadIdeal.defs₀
  refine congrArg Defs.onTc ?_
  funext l a
  match l, a with
  | 0, (t, s) => rfl

theorem table_eq : Cert.LossHead.defs (F := Bits) = Cert.LossHeadIdeal.defs (F := Bits) :=
  congrArg (Pipeline.defs Cert.LossHeadIdeal.pcfgs) bodies_eq

theorem main_eq : Cert.LossHead.main (F := Bits) = Cert.LossHeadIdeal.main (F := Bits) := by rfl

theorem frame_P : Cert.quiescent_LossHead := fun m ρ _ => by
  rw [table_eq, main_eq]
  exact Cert.LossHeadIdeal.Gen.frame (F := Bits) m ρ

theorem frame_PI : Cert.quiescent_LossHeadIdeal := fun m ρ _ => Cert.LossHeadIdeal.Gen.frame (F := Ideal) m ρ

/-- The reference declares no semaphore. -/
theorem frame_RI : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

/-- The common values are the reference's results. -/
theorem algebraic : Cert.algebraic_LossHeadIdeal_LossHeadRefIdeal := fun m ρ m' ρ' _ hagree =>
  ⟨fun c => Cert.LossHeadRefIdeal.Head.wanted (m' (c.tc.loc Cert.LossHeadRefIdeal.main_arg0)) (m' (c.tc.loc Cert.LossHeadRefIdeal.main_arg1)) (m' (c.tc.loc Cert.LossHeadRefIdeal.main_arg2)),
    fun c => Cert.LossHeadRefIdeal.Head.wanted (m' (c.tc.loc Cert.LossHeadRefIdeal.main_arg0)) (m' (c.tc.loc Cert.LossHeadRefIdeal.main_arg1)) (m' (c.tc.loc Cert.LossHeadRefIdeal.main_arg2)),
    fun c => Cert.LnBwdRefIdeal.Norm.gain (m' (c.tc.loc Cert.LossHeadRefIdeal.main_arg0)) (Cert.LossHeadRefIdeal.Head.pull (m' (c.tc.loc Cert.LossHeadRefIdeal.main_arg0)) (m' (c.tc.loc Cert.LossHeadRefIdeal.main_arg1)) (m' (c.tc.loc Cert.LossHeadRefIdeal.main_arg2))),
    fun c => Cert.LossHeadRefIdeal.Head.cost (m' (c.tc.loc Cert.LossHeadRefIdeal.main_arg0)) (m' (c.tc.loc Cert.LossHeadRefIdeal.main_arg1)) (m' (c.tc.loc Cert.LossHeadRefIdeal.main_arg2)),
    (θ_run Cert.LossHeadIdeal.defs _ _).mono (fun _ h c => by
      obtain ⟨h0, h1, h2⟩ := hagree c
      beta_reduce
      rw [h0, h1, h2]
      exact ⟨(h c).1.trans (Cert.LossHeadRefIdeal.Head.meet _ _ _), (h c).2.1.trans (Cert.LossHeadRefIdeal.Head.meet _ _ _), (h c).2.2.1.trans (Cert.LossHeadRefIdeal.Head.meet_gain _ _ _), (h c).2.2.2.1.trans (Cert.LossHeadRefIdeal.Head.meet_cost _ _ _), (h c).2.2.2.2⟩)
      (Cert.LossHeadIdeal.Head.run m ρ),
    Cert.LossHeadRefIdeal.Value.run (F := Ideal) m' ρ'⟩

end Cert.Proof.LossHead

end
-- ==== Proof.GateBwdTile.lean ====
module

public import proofs.«01_k».proof.Proof.Rows
public import proofs.«01_k».proof.Proof.Gen.GateBwdIdeal.Frame
public import Idealize.ShloMosaic.Lib.Pipeline.ValueKit.Acc
public import Idealize.ShloMosaic.Lib.Tactic.IndexArith

/-! What one tile of the gradient through the gate and its norm leaves in its outputs. -/

@[expose] public section

set_option maxRecDepth 16384

noncomputable section

namespace Cert.GateBwdIdeal.Gate

open Cert.GateBwdIdeal Cert.GateBwdIdeal.Gen Idealize.ShloMosaic Idealize.ShloMosaic.TcCoe
open Cert.Prod (zeros)

section Tile
variable {F : FTy → Type} [FloatOps F] (x0 x1 x2 x3 x4 : Vec F S256x1024 .f32) (x5 x6 : Vec F S1x1024 .f32)
/-- The gradient of the gated rows. -/
abbrev mid : FVec F S256x1024 .f32 := k0_pay21 (k0_pay10 x0) (k0_pay12 x1) (k0_pay13 x6) (k0_pay16 x0 x1 x6) (k0_pay18 x0)
/-- The gradient of what the gate multiplies. -/
abbrev inner : FVec F S256x1024 .f32 := k0_pay23 x4 (k0_pay10 x0) (k0_pay12 x1) (k0_pay13 x6) (k0_pay16 x0 x1 x6) (k0_pay18 x0)
/-- The gradient of the skipped input. -/
abbrev skip : FVec F S256x1024 .f32 := k0_pay24 x4 (k0_pay7 x5) (k0_pay10 x0) (k0_pay12 x1) (k0_pay13 x6) (k0_pay16 x0 x1 x6) (k0_pay18 x0)
/-- The gradient of the gate. -/
abbrev gating : FVec F S256x1024 .bf16 := k0_pay1 x4 (k0_pay25 x2 x3 (k0_pay7 x5) (k0_pay10 x0) (k0_pay12 x1) (k0_pay13 x6) (k0_pay16 x0 x1 x6) (k0_pay18 x0)) (k0_pay26 x4) (k0_pay27 x4)
/-- Each row's share of the gain's gradient. -/
abbrev gains : FVec F S256x1024 .f32 := k0_pay22 (k0_pay10 x0) (k0_pay12 x1) (k0_pay17 x0 x1) (k0_pay18 x0)
end Tile

section Cases
variable {F : FTy → Type} [FloatOps F] (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S8x1024 .f32) (harg11 : arg11.IsWhole) (arg12 : Memref sig .tc .vmem S8x1024 .f32) (harg12 : arg12.IsWhole)
  (x0 x1 x2 x3 x4 : Vec F S256x1024 .f32) (x5 x6 : Vec F S1x1024 .f32) (xs ys : Vec F S8x1024 .f32)

theorem first_inner (hc : cond0_0 i) : out0_A_7 c i arg1 harg1 arg2 harg2 arg3 harg3 arg4 harg4 arg5 harg5 arg6 harg6 arg7 harg7 arg8 harg8 arg9 harg9 arg10 harg10 arg11 harg11 arg12 harg12 hc x0 x1 x2 x3 x4 x5 x6 = inner x0 x1 x4 x6 := by
  unfold out0_A_7
  refine Eq.trans (View.read_writes_eq_canon _ _ _ fun _ => cover0_A_7 ..) ?_
  unfold kernelRun0_A
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

theorem first_skip (hc : cond0_0 i) : out0_A_8 c i arg1 harg1 arg2 harg2 arg3 harg3 arg4 harg4 arg5 harg5 arg6 harg6 arg7 harg7 arg8 harg8 arg9 harg9 arg10 harg10 arg11 harg11 arg12 harg12 hc x0 x1 x2 x3 x4 x5 x6 = skip x0 x1 x4 x5 x6 := by
  unfold out0_A_8
  refine Eq.trans (View.read_writes_eq_canon _ _ _ fun _ => cover0_A_8 ..) ?_
  unfold kernelRun0_A
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

theorem first_gating (hc : cond0_0 i) : out0_A_9 c i arg1 harg1 arg2 harg2 arg3 harg3 arg4 harg4 arg5 harg5 arg6 harg6 arg7 harg7 arg8 harg8 arg9 harg9 arg10 harg10 arg11 harg11 arg12 harg12 hc x0 x1 x2 x3 x4 x5 x6 = gating x0 x1 x2 x3 x4 x5 x6 := by
  unfold out0_A_9
  refine Eq.trans (View.read_writes_eq_canon _ _ _ fun _ => cover0_A_9 ..) ?_
  unfold kernelRun0_A
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

theorem first_sum (hc : cond0_0 i) : out0_A_10 c i arg1 harg1 arg2 harg2 arg3 harg3 arg4 harg4 arg5 harg5 arg6 harg6 arg7 harg7 arg8 harg8 arg9 harg9 arg10 harg10 arg11 harg11 arg12 harg12 hc x0 x1 x2 x3 x4 x5 x6 = k0_pay4 x3 (inner x0 x1 x4 x6) k0_pay2 := by
  unfold out0_A_10
  refine Eq.trans (View.read_writes_eq_canon _ _ _ fun _ => cover0_A_10 ..) ?_
  unfold kernelRun0_A
  dsimp only
  sl_unfold_words
  rw [View.canon_cons_unit_zero (S := S8x1024) zeros, View.readCov_unit_zero (S := S8x1024) _ zeros]
  simp only [View.readAt_eq_ld, Memref.IsWhole.read_unread, View.ld_unit_zero (S := S256x1024) zeros, View.ld_unit_zero (S := S1x1024) zeros, View.ld_unit_zero (S := S8x1024) zeros]

theorem first_gain (hc : cond0_0 i) : out0_A_11 c i arg1 harg1 arg2 harg2 arg3 harg3 arg4 harg4 arg5 harg5 arg6 harg6 arg7 harg7 arg8 harg8 arg9 harg9 arg10 harg10 arg11 harg11 arg12 harg12 hc x0 x1 x2 x3 x4 x5 x6 = k0_pay5 (gains x0 x1) k0_pay3 := by
  unfold out0_A_11
  refine Eq.trans (View.read_writes_eq_canon _ _ _ fun _ => cover0_A_11 ..) ?_
  unfold kernelRun0_A
  dsimp only
  sl_unfold_words
  rw [View.canon_cons_unit_zero (S := S8x1024) zeros, View.readCov_unit_zero (S := S8x1024) _ zeros]
  simp only [View.readAt_eq_ld, Memref.IsWhole.read_unread, View.ld_unit_zero (S := S256x1024) zeros, View.ld_unit_zero (S := S1x1024) zeros, View.ld_unit_zero (S := S8x1024) zeros]

theorem next_inner (hc : ¬cond0_0 i) : out0_B_7 c i arg1 harg1 arg2 harg2 arg3 harg3 arg4 harg4 arg5 harg5 arg6 harg6 arg7 harg7 arg8 harg8 arg9 harg9 arg10 harg10 arg11 harg11 arg12 harg12 hc x0 x1 x2 x3 x4 x5 x6 xs ys = inner x0 x1 x4 x6 := by
  unfold out0_B_7
  refine Eq.trans (View.read_writes_eq_canon _ _ _ fun _ => cover0_B_7 ..) ?_
  unfold kernelRun0_B
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

theorem next_skip (hc : ¬cond0_0 i) : out0_B_8 c i arg1 harg1 arg2 harg2 arg3 harg3 arg4 harg4 arg5 harg5 arg6 harg6 arg7 harg7 arg8 harg8 arg9 harg9 arg10 harg10 arg11 harg11 arg12 harg12 hc x0 x1 x2 x3 x4 x5 x6 xs ys = skip x0 x1 x4 x5 x6 := by
  unfold out0_B_8
  refine Eq.trans (View.read_writes_eq_canon _ _ _ fun _ => cover0_B_8 ..) ?_
  unfold kernelRun0_B
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

theorem next_gating (hc : ¬cond0_0 i) : out0_B_9 c i arg1 harg1 arg2 harg2 arg3 harg3 arg4 harg4 arg5 harg5 arg6 harg6 arg7 harg7 arg8 harg8 arg9 harg9 arg10 harg10 arg11 harg11 arg12 harg12 hc x0 x1 x2 x3 x4 x5 x6 xs ys = gating x0 x1 x2 x3 x4 x5 x6 := by
  unfold out0_B_9
  refine Eq.trans (View.read_writes_eq_canon _ _ _ fun _ => cover0_B_9 ..) ?_
  unfold kernelRun0_B
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

theorem next_sum (hc : ¬cond0_0 i) : out0_B_10 c i arg1 harg1 arg2 harg2 arg3 harg3 arg4 harg4 arg5 harg5 arg6 harg6 arg7 harg7 arg8 harg8 arg9 harg9 arg10 harg10 arg11 harg11 arg12 harg12 hc x0 x1 x2 x3 x4 x5 x6 xs ys = k0_pay4 x3 (inner x0 x1 x4 x6) xs := by
  unfold out0_B_10
  refine Eq.trans (View.read_writes_eq_canon _ _ _ fun _ => cover0_B_10 ..) ?_
  unfold kernelRun0_B
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

theorem next_gain (hc : ¬cond0_0 i) : out0_B_11 c i arg1 harg1 arg2 harg2 arg3 harg3 arg4 harg4 arg5 harg5 arg6 harg6 arg7 harg7 arg8 harg8 arg9 harg9 arg10 harg10 arg11 harg11 arg12 harg12 hc x0 x1 x2 x3 x4 x5 x6 xs ys = k0_pay5 (gains x0 x1) ys := by
  unfold out0_B_11
  refine Eq.trans (View.read_writes_eq_canon _ _ _ fun _ => cover0_B_11 ..) ?_
  unfold kernelRun0_B
  dsimp only
  sl_unfold_words
  rw [View.canon_unit_zero zeros]
  simp only [View.readAt_eq_ld, Memref.IsWhole.read_unread, View.ld_unit_zero (S := S256x1024) zeros, View.ld_unit_zero (S := S1x1024) zeros, View.ld_unit_zero (S := S8x1024) zeros]

end Cases

/-- The width of a group, as the programs write it. -/
abbrev W : EReal := Ideal.ofBits FTy.f32 0x44000000#32
/-- One, as the programs write it. -/
abbrev one : EReal := Ideal.ofBits FTy.f32 0x3F800000#32
/-- Lane `k` of the group of lane `j`. -/
abbrev near (j : Fin 1024) (k : Fin 512) : Fin 1024 := ⟨j.val / 512 * 512 + k.val, by omega⟩
/-- The mean square of the group of lane `j`, with the norm's small number. -/
def square (x : Fin 1024 → EReal) (j : Fin 1024) : EReal := Ideal.div (∑ k : Fin 512, x (near j k) * x (near j k)) W + Ideal.ofBits FTy.f32 0x3727C5AC#32
/-- A row's gradient through the norm of its two groups. -/
def grad (x d g : Fin 1024 → EReal) (j : Fin 1024) : EReal :=
  Ideal.rsqrt (square x j) * (d j * g j - x j * Ideal.rsqrt (square x j) * Ideal.div (∑ k : Fin 512, d (near j k) * g (near j k) * (x (near j k) * Ideal.rsqrt (square x j))) W)
/-- The gate's share. -/
def share (z : EReal) : EReal := Ideal.div one (one + Ideal.exp (0 - z))

section Payloads
variable (x0 x1 x2 x3 x4 : Vec Ideal S256x1024 .f32) (x5 x6 : Vec Ideal S1x1024 .f32) (xs : Vec Ideal S8x1024 .f32) (i : Fin 256) (q : Fin 8) (j : Fin 1024) (l : Fin 512)

/-- A lane of the left group. -/
abbrev lo (l : Fin 512) : Fin 1024 := ⟨l.val, by omega⟩
/-- A lane of the right group. -/
abbrev hi (l : Fin 512) : Fin 1024 := ⟨512 + l.val, by omega⟩
theorem near_lo (l k : Fin 512) : near (lo l) k = lo k := Fin.ext (by show l.val / 512 * 512 + k.val = k.val; omega)
theorem near_hi (l k : Fin 512) : near (hi l) k = hi k := Fin.ext (by show (512 + l.val) / 512 * 512 + k.val = 512 + k.val; omega)

theorem inv_lo : k0_pay14 x0 (ix2 i 0) = Ideal.rsqrt (square (fun k => x0 (ix2 i k)) (lo l)) := by
  unfold square
  simp only [near_lo]
  pointwise [k0_pay14, k0_pay9, k0_pay6]
theorem inv_hi : k0_pay19 (k0_pay18 x0) (ix2 i 0) = Ideal.rsqrt (square (fun k => x0 (ix2 i k)) (hi l)) := by
  unfold square
  simp only [near_hi]
  pointwise [k0_pay19, k0_pay18, k0_pay10, k0_pay6]
theorem xh_lo : k0_pay15 x0 (ix2 i l) = x0 (ix2 i (lo l)) * k0_pay14 x0 (ix2 i 0) := by
  pointwise [k0_pay15, k0_pay9, k0_pay6]
theorem xh_hi : k0_pay20 (k0_pay10 x0) (k0_pay18 x0) (ix2 i l) = x0 (ix2 i (hi l)) * k0_pay19 (k0_pay18 x0) (ix2 i 0) := by
  pointwise [k0_pay20, k0_pay10, k0_pay6]
theorem mid_lo : k0_pay16 x0 x1 x6 (ix2 i l) = grad (fun k => x0 (ix2 i k)) (fun k => x1 (ix2 i k)) (fun k => x6 (ix2 0 k)) (lo l) := by
  have h : k0_pay16 x0 x1 x6 (ix2 i l) = k0_pay14 x0 (ix2 i 0) * (x1 (ix2 i (lo l)) * x6 (ix2 0 (lo l)) - k0_pay15 x0 (ix2 i l)
      * Ideal.div (∑ k, x1 (ix2 i (lo k)) * x6 (ix2 0 (lo k)) * k0_pay15 x0 (ix2 i k)) W) := by
    pointwise [k0_pay16, k0_pay11, k0_pay8]
  rw [h]
  simp only [xh_lo, inv_lo x0 i l]
  unfold grad
  simp only [near_lo]
theorem mid_at : mid x0 x1 x6 (ix2 i j) = grad (fun k => x0 (ix2 i k)) (fun k => x1 (ix2 i k)) (fun k => x6 (ix2 0 k)) j := by
  by_cases hj : j.val < 512
  · have h : mid x0 x1 x6 (ix2 i j) = k0_pay16 x0 x1 x6 (ix2 i ⟨j.val, hj⟩) := by
      pointwise [k0_pay21]
      exact dif_pos hj
    rw [h, mid_lo]
  · have h : mid x0 x1 x6 (ix2 i j) = k0_pay19 (k0_pay18 x0) (ix2 i 0) * (x1 (ix2 i (hi ⟨j.val - 512, by omega⟩)) * x6 (ix2 0 (hi ⟨j.val - 512, by omega⟩))
        - k0_pay20 (k0_pay10 x0) (k0_pay18 x0) (ix2 i ⟨j.val - 512, by omega⟩)
          * Ideal.div (∑ k, x1 (ix2 i (hi k)) * x6 (ix2 0 (hi k)) * k0_pay20 (k0_pay10 x0) (k0_pay18 x0) (ix2 i k)) W) := by
      pointwise [k0_pay21, k0_pay12, k0_pay13, k0_pay8]
      exact dif_neg hj
    have e : hi ⟨j.val - 512, by omega⟩ = j := Fin.ext (by show 512 + (j.val - 512) = j.val; omega)
    have n (k : Fin 512) : near j k = hi k := by rw [← near_hi ⟨j.val - 512, by omega⟩ k, e]
    rw [h]
    simp only [xh_hi, inv_hi x0 i ⟨j.val - 512, by omega⟩, e]
    unfold grad
    simp only [n]
theorem gains_at : gains x0 x1 (ix2 i j) = x1 (ix2 i j) * (x0 (ix2 i j) * Ideal.rsqrt (square (fun k => x0 (ix2 i k)) j)) := by
  by_cases hj : j.val < 512
  · have h : gains x0 x1 (ix2 i j) = x1 (ix2 i j) * k0_pay15 x0 (ix2 i ⟨j.val, hj⟩) := by
      pointwise [k0_pay22, k0_pay17, k0_pay11]
      exact dif_pos hj
    rw [h, xh_lo, inv_lo x0 i ⟨j.val, hj⟩]
  · have h : gains x0 x1 (ix2 i j) = x1 (ix2 i (hi ⟨j.val - 512, by omega⟩)) * k0_pay20 (k0_pay10 x0) (k0_pay18 x0) (ix2 i ⟨j.val - 512, by omega⟩) := by
      pointwise [k0_pay22, k0_pay12]
      exact dif_neg hj
    have e : hi ⟨j.val - 512, by omega⟩ = j := Fin.ext (by show 512 + (j.val - 512) = j.val; omega)
    rw [h, xh_hi, inv_hi x0 i ⟨j.val - 512, by omega⟩, e]
theorem inner_at : inner x0 x1 x4 x6 (ix2 i j) = mid x0 x1 x6 (ix2 i j) * (x4 (ix2 i j) * share (x4 (ix2 i j))) := by
  unfold share
  pointwise [k0_pay23]
theorem skip_at : skip x0 x1 x4 x5 x6 (ix2 i j) = x5 (ix2 0 j) * inner x0 x1 x4 x6 (ix2 i j) := by
  pointwise [k0_pay24, k0_pay7]
theorem gating_at : gating x0 x1 x2 x3 x4 x5 x6 (ix2 i j) = mid x0 x1 x6 (ix2 i j) * (x2 (ix2 i j) + x5 (ix2 0 j) * x3 (ix2 i j))
    * (share (x4 (ix2 i j)) * (one + x4 (ix2 i j) * (one - share (x4 (ix2 i j))))) := by
  unfold share
  pointwise [k0_pay1, k0_pay25, k0_pay26, k0_pay27, k0_pay7]
theorem zero_at : (k0_pay2 (F := Ideal)) (ix2 q j) = 0 := by
  pointwise [k0_pay2]
theorem none_at : (k0_pay3 (F := Ideal)) (ix2 q j) = 0 := by
  pointwise [k0_pay3]
theorem sum_at (v : Vec Ideal S256x1024 .f32) : k0_pay4 x3 v xs (ix2 q j) = xs (ix2 q j) + ∑ k : Fin 32, v (ix2 ⟨k.val * 8 + q.val, by omega⟩ j) * x3 (ix2 ⟨k.val * 8 + q.val, by omega⟩ j) := by
  pointwise [k0_pay4]
theorem gain_sum_at (v : Vec Ideal S256x1024 .f32) : k0_pay5 v xs (ix2 q j) = xs (ix2 q j) + ∑ k : Fin 32, v (ix2 ⟨k.val * 8 + q.val, by omega⟩ j) := by
  pointwise [k0_pay5]
end Payloads

end Cert.GateBwdIdeal.Gate

end
-- ==== Proof.GateBwd.lean ====
module

public import proofs.«01_k».proof.Proof.GateBwdTile

/-! The call of the gradient through the gate and its norm, and the sums after it. -/

@[expose] public section

set_option maxRecDepth 16384

noncomputable section

namespace Cert.GateBwdIdeal.Gate

open Cert.GateBwdIdeal Cert.GateBwdIdeal.Gen Idealize.ShloMosaic Idealize.ShloMosaic.TcCoe

/-- The rows that the norm is given, made before the call. -/
def gated (Y : FVec Ideal S4096x1024 .f32) (A : FVec Ideal S4096x1536 .f32) (Z : FVec Ideal S4096x1152 .f32) (s : FVec Ideal S16 .f32) : FVec Ideal S4096x1024 .f32 :=
  mulf (shapeCast S4096x1024 (addf (shapeCast S4096x16x64 Y shapeCasts_S4096x1024_S4096x16x64) (mulf (broadcastInDim S4096x16x64 ![0, 1, 2] bcast_S1x16x1_S4096x16x64_0_1_2 (broadcastInDim S1x16x1 ![1, 2] bcast_S16x1_S1x16x1_1_2 (broadcastInDim S16x1 ![0] bcast_S16_S16x1_0 s))) (shapeCast S4096x16x64 (extractStridedSlice S4096x1024 ![0, 0] A slices_S4096x1536_S4096x1024_0_0) shapeCasts_S4096x1024_S4096x16x64)) : FVec Ideal S4096x16x64 .f32) shapeCasts_S4096x16x64_S4096x1024 : FVec Ideal S4096x1024 .f32)
    (mulf (extractStridedSlice S4096x1024 ![0, 0] Z slices_S4096x1152_S4096x1024_0_0) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 0] Z slices_S4096x1152_S4096x1024_0_0))))))
section Results
variable (X : FVec Ideal S4096x1024 .f32) (D : FVec Ideal S4096x2048 .f32) (Y : FVec Ideal S4096x1024 .f32) (A : FVec Ideal S4096x1536 .f32) (Z : FVec Ideal S4096x1152 .f32) (s : FVec Ideal S16 .f32) (g : FVec Ideal S1024 .f32)
/-- The gradient of the gated rows at row `r` and lane `j`. -/
def through (r : Fin 4096) (j : Fin 1024) : EReal := grad (fun k => X (ix2 r k)) (fun k => D (ix2 r ⟨1024 + k.val, by omega⟩)) (fun k => g (ix1 k)) j
/-- The gate at row `r` and lane `j`. -/
abbrev zed (r : Fin 4096) (j : Fin 1024) : EReal := Z (ix2 r ⟨j.val, by omega⟩)
/-- The input of the skip at row `r` and lane `j`. -/
abbrev inp (r : Fin 4096) (j : Fin 1024) : EReal := A (ix2 r ⟨j.val, by omega⟩)
/-- The skip's factor at lane `j`. -/
abbrev fac (j : Fin 1024) : EReal := s (ix1 ⟨j.val / 64, by omega⟩)
/-- The gradient of what the gate multiplies, at row `r` and lane `j`. -/
def into (r : Fin 4096) (j : Fin 1024) : EReal := through X D g r j * (zed Z r j * share (zed Z r j))
/-- The first result. -/
def resInner : FVec Ideal S4096x1024 .f32 := fun x => into X D Z g (x 0) (x 1)
/-- The second result. -/
def resSkip : FVec Ideal S4096x1024 .f32 := fun x => fac s (x 1) * into X D Z g (x 0) (x 1)
/-- The third result. -/
def resGating : FVec Ideal S4096x1024 .bf16 := fun x => through X D g (x 0) (x 1) * (Y x + fac s (x 1) * inp A (x 0) (x 1))
  * (share (zed Z (x 0) (x 1)) * (one + zed Z (x 0) (x 1) * (one - share (zed Z (x 0) (x 1)))))
/-- What row `n` adds to the gradient of the skip's factors. -/
def termSum (j : Fin 1024) (n : ℕ) : EReal := if h : n < 4096 then into X D Z g ⟨n, h⟩ j * inp A ⟨n, h⟩ j else 0
/-- What row `n` adds to the gradient of the gain. -/
def termGain (j : Fin 1024) (n : ℕ) : EReal :=
  if h : n < 4096 then D (ix2 ⟨n, h⟩ ⟨1024 + j.val, by omega⟩) * (X (ix2 ⟨n, h⟩ j) * Ideal.rsqrt (square (fun k => X (ix2 ⟨n, h⟩ k)) j)) else 0
/-- Eight partial sums. -/
def parts (f : Fin 1024 → ℕ → EReal) : FVec Ideal S8x1024 .f32 := fun x => ∑ t : Fin 16, ∑ k : Fin 32, f (x 1) (t.val * 256 + (k.val * 8 + (x 0).val))
end Results

theorem coords : ∀ t : Fin cfg0.N, (win0_0.index t 0 = t.val ∧ win0_0.index t 1 = 0)
    ∧ (win0_1.index t 0 = t.val ∧ win0_1.index t 1 = 1)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = 0 ∧ win0_10.index t 1 = 0)
    ∧ (win0_11.index t 0 = 0 ∧ win0_11.index t 1 = 0) := by
  decide +kernel
theorem N_val : cfg0.N = 16 := N_0

section Array
variable (m : (ℓ : Loc nD τ sig) → Buf (Elt Ideal) ℓ) (c : Dev nD)

/-- Argument 0. -/
abbrev B0 : FVec Ideal S4096x2048 .f32 := m ((c.tc : Thread nD τ).loc main_arg0)
/-- Argument 1. -/
abbrev B1 : FVec Ideal S4096x1024 .f32 := m ((c.tc : Thread nD τ).loc main_arg1)
/-- Argument 2. -/
abbrev B2 : FVec Ideal S4096x1536 .f32 := m ((c.tc : Thread nD τ).loc main_arg2)
/-- Argument 3. -/
abbrev B3 : FVec Ideal S4096x1152 .f32 := m ((c.tc : Thread nD τ).loc main_arg3)
/-- Argument 4. -/
abbrev B4 : FVec Ideal S16 .f32 := m ((c.tc : Thread nD τ).loc main_arg4)
/-- Argument 5. -/
abbrev B5 : FVec Ideal S1024 .f32 := m ((c.tc : Thread nD τ).loc main_arg5)
/-- The rows that the norm is given. -/
abbrev rows : FVec Ideal S4096x1024 .f32 := gated (B1 m c) (B2 m c) (B3 m c) (B4 m c)
theorem gated_eq : V m c main_v11 = rows m c := by
  show gated (V m c main_arg1) (V m c main_arg2) (V m c main_arg3) (V m c main_arg4) = _
  rw [V_main_arg1, V_main_arg2, V_main_arg3, V_main_arg4]
theorem x_at (t : Fin cfg0.N) (a : Fin 256) (b : Fin 1024) (r : Fin 4096) (hr : r.val = t.val * 256 + a.val) : iblk m c 0 t (ix2 a b) = rows m c (ix2 r b) := by
  obtain ⟨⟨h0, h1⟩, -⟩ := coords t
  have he : ((cfg0.win 0).blk t).view.emb (ix2 a b) = (ix2 r b : S4096x1024.Idx) := funext fun d => Fin.ext (match d with
    | ⟨0, _⟩ => by show win0_0.index t 0 * 256 + 1 * a.val = r.val; rw [h0, hr, Nat.one_mul]
    | ⟨1, _⟩ => by show win0_0.index t 1 * 1024 + 1 * b.val = b.val; rw [h1, Nat.one_mul, Nat.zero_mul, Nat.zero_add])
  rw [← gated_eq]
  show V m c main_v11 (((cfg0.win 0).blk t).view.emb (ix2 a b)) = _
  rw [he]
theorem d_at (t : Fin cfg0.N) (a : Fin 256) (b : Fin 1024) (r : Fin 4096) (hr : r.val = t.val * 256 + a.val) : iblk m c 1 t (ix2 a b) = B0 m c (ix2 r ⟨1024 + b.val, by omega⟩) := by
  obtain ⟨-, ⟨h0, h1⟩, -⟩ := coords t
  have he : ((cfg0.win 1).blk t).view.emb (ix2 a b) = (ix2 r ⟨1024 + b.val, by omega⟩ : S4096x2048.Idx) := funext fun d => Fin.ext (match d with
    | ⟨0, _⟩ => by show win0_1.index t 0 * 256 + 1 * a.val = r.val; rw [h0, hr, Nat.one_mul]
    | ⟨1, _⟩ => by show win0_1.index t 1 * 1024 + 1 * b.val = 1024 + b.val; rw [h1, Nat.one_mul, Nat.one_mul])
  show V m c main_arg0 (((cfg0.win 1).blk t).view.emb (ix2 a b)) = _
  rw [he, V_main_arg0]
theorem y_at (t : Fin cfg0.N) (a : Fin 256) (b : Fin 1024) (r : Fin 4096) (hr : r.val = t.val * 256 + a.val) : iblk m c 2 t (ix2 a b) = B1 m c (ix2 r b) := by
  obtain ⟨-, -, ⟨h0, h1⟩, -⟩ := coords t
  have he : ((cfg0.win 2).blk t).view.emb (ix2 a b) = (ix2 r b : S4096x1024.Idx) := funext fun d => Fin.ext (match d with
    | ⟨0, _⟩ => by show win0_2.index t 0 * 256 + 1 * a.val = r.val; rw [h0, hr, Nat.one_mul]
    | ⟨1, _⟩ => by show win0_2.index t 1 * 1024 + 1 * b.val = b.val; rw [h1, Nat.one_mul, Nat.zero_mul, Nat.zero_add])
  show V m c main_arg1 (((cfg0.win 2).blk t).view.emb (ix2 a b)) = _
  rw [he, V_main_arg1]
theorem a_at (t : Fin cfg0.N) (a : Fin 256) (b : Fin 1024) (r : Fin 4096) (hr : r.val = t.val * 256 + a.val) : X0_3 m c t (ix2 a b) = B2 m c (ix2 r ⟨b.val, by omega⟩) := by
  obtain ⟨-, -, -, ⟨h0, h1⟩, -⟩ := coords t
  unfold X0_3 Pipeline.Window.fill
  rw [dif_pos (moved0_3 t _)]
  rw [show B2 m c = V m c main_arg2 from (V_main_arg2 m c).symm]
  refine congrArg (V m c main_arg2) (funext fun d => Fin.ext (match d with
    | ⟨0, _⟩ => by show win0_3.index t 0 * 256 + 1 * a.val = r.val; rw [h0, hr, Nat.one_mul]
    | ⟨1, _⟩ => by show win0_3.index t 1 * 1024 + 1 * b.val = b.val; rw [h1, Nat.one_mul, Nat.zero_mul, Nat.zero_add]))
theorem z_at (t : Fin cfg0.N) (a : Fin 256) (b : Fin 1024) (r : Fin 4096) (hr : r.val = t.val * 256 + a.val) : X0_4 m c t (ix2 a b) = B3 m c (ix2 r ⟨b.val, by omega⟩) := by
  obtain ⟨-, -, -, -, ⟨h0, h1⟩, -⟩ := coords t
  unfold X0_4 Pipeline.Window.fill
  rw [dif_pos (moved0_4 t _)]
  rw [show B3 m c = V m c main_arg3 from (V_main_arg3 m c).symm]
  refine congrArg (V m c main_arg3) (funext fun d => Fin.ext (match d with
    | ⟨0, _⟩ => by show win0_4.index t 0 * 256 + 1 * a.val = r.val; rw [h0, hr, Nat.one_mul]
    | ⟨1, _⟩ => by show win0_4.index t 1 * 1024 + 1 * b.val = b.val; rw [h1, Nat.one_mul, Nat.zero_mul, Nat.zero_add]))
theorem s_row (t : Fin cfg0.N) (b : Fin 1024) : iblk m c 5 t (ix2 0 b) = V m c main_v14 (ix2 0 b) := by
  obtain ⟨-, -, -, -, -, ⟨h0, h1⟩, -⟩ := coords t
  have he : ((cfg0.win 5).blk t).view.emb (ix2 0 b) = (ix2 0 b : S1x1024.Idx) := funext fun d => Fin.ext (match d with
    | ⟨0, _⟩ => by show win0_5.index t 0 * 1 + 1 * 0 = 0; rw [h0]
    | ⟨1, _⟩ => by show win0_5.index t 1 * 1024 + 1 * b.val = b.val; rw [h1, Nat.one_mul, Nat.zero_mul, Nat.zero_add])
  show V m c main_v14 (((cfg0.win 5).blk t).view.emb (ix2 0 b)) = _
  rw [he]
theorem g_row (t : Fin cfg0.N) (b : Fin 1024) : iblk m c 6 t (ix2 0 b) = V m c main_v15 (ix2 0 b) := by
  obtain ⟨-, -, -, -, -, -, ⟨h0, h1⟩, -⟩ := coords t
  have he : ((cfg0.win 6).blk t).view.emb (ix2 0 b) = (ix2 0 b : S1x1024.Idx) := funext fun d => Fin.ext (match d with
    | ⟨0, _⟩ => by show win0_6.index t 0 * 1 + 1 * 0 = 0; rw [h0]
    | ⟨1, _⟩ => by show win0_6.index t 1 * 1024 + 1 * b.val = b.val; rw [h1, Nat.one_mul, Nat.zero_mul, Nat.zero_add])
  show V m c main_v15 (((cfg0.win 6).blk t).view.emb (ix2 0 b)) = _
  rw [he]
theorem s_at (t : Fin cfg0.N) (b : Fin 1024) : iblk m c 5 t (ix2 0 b) = fac (B4 m c) b := by
  rw [s_row]
  have h : V m c main_v14 = (shapeCast S1x1024 (shapeCast S1024 (broadcastInDim S16x64 ![0] bcast_S16_S16x64_0 (V m c main_arg4 : FVec Ideal S16 .f32)) shapeCasts_S16x64_S1024 : FVec Ideal S1024 .f32) shapeCasts_S1024_S1x1024 : FVec Ideal S1x1024 .f32) := by
    rfl
  rw [h, V_main_arg4]
  pointwise
theorem g_at (t : Fin cfg0.N) (b : Fin 1024) : iblk m c 6 t (ix2 0 b) = B5 m c (ix1 b) := by
  rw [g_row]
  have h : V m c main_v15 = (shapeCast S1x1024 (V m c main_arg5 : FVec Ideal S1024 .f32) shapeCasts_S1024_S1x1024 : FVec Ideal S1x1024 .f32) := by
    rfl
  rw [h, V_main_arg5]
  pointwise

theorem mid_out (t : Fin cfg0.N) (a : Fin 256) (b : Fin 1024) (r : Fin 4096) (hr : r.val = t.val * 256 + a.val) : mid (iblk m c 0 t) (iblk m c 1 t) (iblk m c 6 t) (ix2 a b) = through (rows m c) (B0 m c) (B5 m c) r b := by
  rw [mid_at]
  unfold through
  simp only [x_at m c t a _ r hr, d_at m c t a _ r hr, g_at m c t]
theorem inner_out (t : Fin cfg0.N) (a : Fin 256) (b : Fin 1024) (r : Fin 4096) (hr : r.val = t.val * 256 + a.val) : inner (iblk m c 0 t) (iblk m c 1 t) (X0_4 m c t) (iblk m c 6 t) (ix2 a b) = into (rows m c) (B0 m c) (B3 m c) (B5 m c) r b := by
  rw [inner_at, mid_out m c t a b r hr, z_at m c t a b r hr]
  rfl
theorem skip_out (t : Fin cfg0.N) (a : Fin 256) (b : Fin 1024) (r : Fin 4096) (hr : r.val = t.val * 256 + a.val) : skip (iblk m c 0 t) (iblk m c 1 t) (X0_4 m c t) (iblk m c 5 t) (iblk m c 6 t) (ix2 a b) = resSkip (rows m c) (B0 m c) (B3 m c) (B4 m c) (B5 m c) (ix2 r b) := by
  rw [skip_at, inner_out m c t a b r hr, s_at]
  rfl
theorem gating_out (t : Fin cfg0.N) (a : Fin 256) (b : Fin 1024) (r : Fin 4096) (hr : r.val = t.val * 256 + a.val) : gating (iblk m c 0 t) (iblk m c 1 t) (iblk m c 2 t) (X0_3 m c t) (X0_4 m c t) (iblk m c 5 t) (iblk m c 6 t) (ix2 a b) = resGating (rows m c) (B0 m c) (B1 m c) (B2 m c) (B3 m c) (B4 m c) (B5 m c) (ix2 r b) := by
  rw [gating_at, mid_out m c t a b r hr, z_at m c t a b r hr, s_at, y_at m c t a b r hr, a_at m c t a b r hr]
  rfl

/-- What output 7 holds after the call. -/
abbrev R7 : FVec Ideal S4096x1024 .f32 := resInner (rows m c) (B0 m c) (B3 m c) (B5 m c)
/-- What output 8 holds after the call. -/
abbrev R8 : FVec Ideal S4096x1024 .f32 := resSkip (rows m c) (B0 m c) (B3 m c) (B4 m c) (B5 m c)
/-- What output 9 holds after the call. -/
abbrev R9 : FVec Ideal S4096x1024 .bf16 := resGating (rows m c) (B0 m c) (B1 m c) (B2 m c) (B3 m c) (B4 m c) (B5 m c)
/-- What output 10 holds after the call. -/
abbrev R10 : FVec Ideal S8x1024 .f32 := parts (termSum (rows m c) (B0 m c) (B2 m c) (B3 m c) (B5 m c))
/-- What output 11 holds after the call. -/
abbrev R11 : FVec Ideal S8x1024 .f32 := parts (termGain (rows m c) (B0 m c))
theorem inner_tile (t : Fin cfg0.N) (a : Fin 256) (b : Fin 1024) (r : Fin 4096) (hr : r.val = t.val * 256 + a.val) : (outsAt0 m c t.val t.isLt).1 (ix2 a b) = R7 m c (ix2 r b) := by
  by_cases h : t.val % 16 = 0
  · rw [outsAt0_A m c t h]
    dsimp only
    rw [first_inner]
    exact inner_out m c t a b r hr
  · rw [outsAt0_B m c t h]
    dsimp only
    rw [next_inner]
    exact inner_out m c t a b r hr
theorem skip_tile (t : Fin cfg0.N) (a : Fin 256) (b : Fin 1024) (r : Fin 4096) (hr : r.val = t.val * 256 + a.val) : (outsAt0 m c t.val t.isLt).2.1 (ix2 a b) = R8 m c (ix2 r b) := by
  by_cases h : t.val % 16 = 0
  · rw [outsAt0_A m c t h]
    dsimp only
    rw [first_skip]
    exact skip_out m c t a b r hr
  · rw [outsAt0_B m c t h]
    dsimp only
    rw [next_skip]
    exact skip_out m c t a b r hr
theorem gating_tile (t : Fin cfg0.N) (a : Fin 256) (b : Fin 1024) (r : Fin 4096) (hr : r.val = t.val * 256 + a.val) : (outsAt0 m c t.val t.isLt).2.2.1 (ix2 a b) = R9 m c (ix2 r b) := by
  by_cases h : t.val % 16 = 0
  · rw [outsAt0_A m c t h]
    dsimp only
    rw [first_gating]
    exact gating_out m c t a b r hr
  · rw [outsAt0_B m c t h]
    dsimp only
    rw [next_gating]
    exact gating_out m c t a b r hr
theorem sum_tile (t : Fin cfg0.N) (q : Fin 8) (b : Fin 1024) :
    ∑ k : Fin 32, inner (iblk m c 0 t) (iblk m c 1 t) (X0_4 m c t) (iblk m c 6 t) (ix2 ⟨k.val * 8 + q.val, by omega⟩ b) * X0_3 m c t (ix2 ⟨k.val * 8 + q.val, by omega⟩ b)
      = ∑ k : Fin 32, termSum (rows m c) (B0 m c) (B2 m c) (B3 m c) (B5 m c) b (t.val * 256 + (k.val * 8 + q.val)) := by
  have hN : t.val < 16 := lt_of_lt_of_eq t.isLt N_val
  refine Finset.sum_congr rfl fun k _ => ?_
  unfold termSum
  rw [dif_pos (by omega), inner_out m c t ⟨k.val * 8 + q.val, by omega⟩ b ⟨t.val * 256 + (k.val * 8 + q.val), by omega⟩ rfl, a_at m c t ⟨k.val * 8 + q.val, by omega⟩ b ⟨t.val * 256 + (k.val * 8 + q.val), by omega⟩ rfl]
theorem gain_tile (t : Fin cfg0.N) (q : Fin 8) (b : Fin 1024) :
    ∑ k : Fin 32, gains (iblk m c 0 t) (iblk m c 1 t) (ix2 ⟨k.val * 8 + q.val, by omega⟩ b) = ∑ k : Fin 32, termGain (rows m c) (B0 m c) b (t.val * 256 + (k.val * 8 + q.val)) := by
  have hN : t.val < 16 := lt_of_lt_of_eq t.isLt N_val
  refine Finset.sum_congr rfl fun k _ => ?_
  rw [gains_at]
  unfold termGain
  rw [dif_pos (by omega)]
  simp only [fun b => x_at m c t ⟨k.val * 8 + q.val, by omega⟩ b ⟨t.val * 256 + (k.val * 8 + q.val), by omega⟩ rfl, fun b => d_at m c t ⟨k.val * 8 + q.val, by omega⟩ b ⟨t.val * 256 + (k.val * 8 + q.val), by omega⟩ rfl]

theorem sum_steps (q : Fin 8) (s : Fin 1024) (n : ℕ) (hn : n < 16) (h : n < cfg0.N) : (outsAt0 m c n h).2.2.2.1 (ix2 q s)
    = ∑ t : Fin (n + 1), ∑ k : Fin 32, termSum (rows m c) (B0 m c) (B2 m c) (B3 m c) (B5 m c) s (t.val * 256 + (k.val * 8 + q.val)) := by
  have e := Cert.Prod.sum_steps 16 (fun n => if h : n < cfg0.N then (outsAt0 m c n h).2.2.2.1 (ix2 q s) else 0)
    (fun n => ∑ k : Fin 32, termSum (rows m c) (B0 m c) (B2 m c) (B3 m c) (B5 m c) s (n * 256 + (k.val * 8 + q.val))) ?_ ?_ n hn
  · rw [dif_pos h] at e
    exact e
  · have h0 : 0 < cfg0.N := by rw [N_val]; omega
    rw [dif_pos h0, outsAt0_A m c ⟨0, h0⟩ rfl]
    dsimp only
    rw [first_sum, sum_at, zero_at, zero_add, sum_tile]
  · intro n hn
    have h0 : n < cfg0.N := by rw [N_val]; omega
    have h1 : n + 1 < cfg0.N := by rw [N_val]; omega
    rw [dif_pos h1, dif_pos h0, outsAt0_B m c ⟨n + 1, h1⟩ (by dsimp only; omega)]
    dsimp only
    rw [next_sum, sum_at, sum_tile]
    rfl
theorem gain_steps (q : Fin 8) (s : Fin 1024) (n : ℕ) (hn : n < 16) (h : n < cfg0.N) : (outsAt0 m c n h).2.2.2.2 (ix2 q s)
    = ∑ t : Fin (n + 1), ∑ k : Fin 32, termGain (rows m c) (B0 m c) s (t.val * 256 + (k.val * 8 + q.val)) := by
  have e := Cert.Prod.sum_steps 16 (fun n => if h : n < cfg0.N then (outsAt0 m c n h).2.2.2.2 (ix2 q s) else 0)
    (fun n => ∑ k : Fin 32, termGain (rows m c) (B0 m c) s (n * 256 + (k.val * 8 + q.val))) ?_ ?_ n hn
  · rw [dif_pos h] at e
    exact e
  · have h0 : 0 < cfg0.N := by rw [N_val]; omega
    rw [dif_pos h0, outsAt0_A m c ⟨0, h0⟩ rfl]
    dsimp only
    rw [first_gain, gain_sum_at, none_at, zero_add, gain_tile]
  · intro n hn
    have h0 : n < cfg0.N := by rw [N_val]; omega
    have h1 : n + 1 < cfg0.N := by rw [N_val]; omega
    rw [dif_pos h1, dif_pos h0, outsAt0_B m c ⟨n + 1, h1⟩ (by dsimp only; omega)]
    dsimp only
    rw [next_gain, gain_sum_at, gain_tile]
    rfl

theorem flushed_inner (t : Fin cfg0.N) (hf : (cfg0.win 7).flush t = true) : (dats m 0 c).flushed 7 t = ((cfg0.win 7).blk t).view.read (Elt Ideal) (R7 m c) := by
  obtain ⟨-, -, -, -, -, -, -, ⟨h0, h1⟩, -⟩ := coords t
  have hN : t.val < 16 := lt_of_lt_of_eq t.isLt N_val
  show (cfg0.win 7).cut (grid0.coords t) ((dats m 0 c).after 7 t) = _
  rw [after0_7]
  funext y
  show (outsAt0 m c t.val t.isLt).1 y = R7 m c (((cfg0.win 7).blk t).view.emb y)
  have y0 : (y 0).val < 256 := (y 0).isLt
  have y1 : (y 1).val < 1024 := (y 1).isLt
  have he : ((cfg0.win 7).blk t).view.emb y = (ix2 ⟨t.val * 256 + (y 0).val, by omega⟩ ⟨(y 1).val, y1⟩ : S4096x1024.Idx) := funext fun d => Fin.ext (match d with
    | ⟨0, _⟩ => by show win0_7.index t 0 * 256 + 1 * (y 0).val = t.val * 256 + (y 0).val; rw [h0, Nat.one_mul]
    | ⟨1, _⟩ => by show win0_7.index t 1 * 1024 + 1 * (y 1).val = (y 1).val; rw [h1, Nat.one_mul, Nat.zero_mul, Nat.zero_add])
  have hy : y = (ix2 ⟨(y 0).val, y0⟩ ⟨(y 1).val, y1⟩ : S256x1024.Idx) := funext fun d => match d with
    | ⟨0, _⟩ => rfl
    | ⟨1, _⟩ => rfl
  rw [he]
  conv_lhs => rw [hy]
  exact inner_tile m c t _ _ _ rfl
theorem cover_inner (i : S4096x1024.Idx) : ∃ t : Fin cfg0.N, (cfg0.win 7).flush t = true ∧ i ∈ ((cfg0.win 7).blk t).view.set := by
  have i0 : (i 0).val < 4096 := (i 0).isLt
  have i1 : (i 1).val < 1024 := (i 1).isLt
  have hb : (i 0).val / 256 < cfg0.N := by rw [N_val]; omega
  obtain ⟨-, -, -, -, -, -, -, ⟨h0, h1⟩, -⟩ := coords ⟨_, hb⟩
  refine ⟨⟨_, hb⟩, flush0_7 _, ?_⟩
  show (show ((View.whole (Pipeline.arrRef spec0 7)).slice (win0_7.rect ⟨_, hb⟩)).ty.Idx from i) ∈ ((View.whole (Pipeline.arrRef spec0 7)).slice (win0_7.rect ⟨_, hb⟩)).set
  rw [View.set_slice_whole, Rect.mem_set_unit]
  intro a
  match a with
  | ⟨0, _⟩ => show win0_7.index _ 0 * 256 ≤ (i 0).val ∧ (i 0).val < win0_7.index _ 0 * 256 + 256
              rw [h0]; dsimp only; omega
  | ⟨1, _⟩ => show win0_7.index _ 1 * 1024 ≤ (i 1).val ∧ (i 1).val < win0_7.index _ 1 * 1024 + 1024
              rw [h1]; omega
theorem final_inner : (dats m 0 c).arrAt 7 cfg0.N = R7 m c :=
  (dats m 0 c).arrAt_eq_of_cover 7 _ (flushed_inner m c) cover_inner

theorem flushed_skip (t : Fin cfg0.N) (hf : (cfg0.win 8).flush t = true) : (dats m 0 c).flushed 8 t = ((cfg0.win 8).blk t).view.read (Elt Ideal) (R8 m c) := by
  obtain ⟨-, -, -, -, -, -, -, -, ⟨h0, h1⟩, -⟩ := coords t
  have hN : t.val < 16 := lt_of_lt_of_eq t.isLt N_val
  show (cfg0.win 8).cut (grid0.coords t) ((dats m 0 c).after 8 t) = _
  rw [after0_8]
  funext y
  show (outsAt0 m c t.val t.isLt).2.1 y = R8 m c (((cfg0.win 8).blk t).view.emb y)
  have y0 : (y 0).val < 256 := (y 0).isLt
  have y1 : (y 1).val < 1024 := (y 1).isLt
  have he : ((cfg0.win 8).blk t).view.emb y = (ix2 ⟨t.val * 256 + (y 0).val, by omega⟩ ⟨(y 1).val, y1⟩ : S4096x1024.Idx) := funext fun d => Fin.ext (match d with
    | ⟨0, _⟩ => by show win0_8.index t 0 * 256 + 1 * (y 0).val = t.val * 256 + (y 0).val; rw [h0, Nat.one_mul]
    | ⟨1, _⟩ => by show win0_8.index t 1 * 1024 + 1 * (y 1).val = (y 1).val; rw [h1, Nat.one_mul, Nat.zero_mul, Nat.zero_add])
  have hy : y = (ix2 ⟨(y 0).val, y0⟩ ⟨(y 1).val, y1⟩ : S256x1024.Idx) := funext fun d => match d with
    | ⟨0, _⟩ => rfl
    | ⟨1, _⟩ => rfl
  rw [he]
  conv_lhs => rw [hy]
  exact skip_tile m c t _ _ _ rfl
theorem cover_skip (i : S4096x1024.Idx) : ∃ t : Fin cfg0.N, (cfg0.win 8).flush t = true ∧ i ∈ ((cfg0.win 8).blk t).view.set := by
  have i0 : (i 0).val < 4096 := (i 0).isLt
  have i1 : (i 1).val < 1024 := (i 1).isLt
  have hb : (i 0).val / 256 < cfg0.N := by rw [N_val]; omega
  obtain ⟨-, -, -, -, -, -, -, -, ⟨h0, h1⟩, -⟩ := coords ⟨_, hb⟩
  refine ⟨⟨_, hb⟩, flush0_8 _, ?_⟩
  show (show ((View.whole (Pipeline.arrRef spec0 8)).slice (win0_8.rect ⟨_, hb⟩)).ty.Idx from i) ∈ ((View.whole (Pipeline.arrRef spec0 8)).slice (win0_8.rect ⟨_, hb⟩)).set
  rw [View.set_slice_whole, Rect.mem_set_unit]
  intro a
  match a with
  | ⟨0, _⟩ => show win0_8.index _ 0 * 256 ≤ (i 0).val ∧ (i 0).val < win0_8.index _ 0 * 256 + 256
              rw [h0]; dsimp only; omega
  | ⟨1, _⟩ => show win0_8.index _ 1 * 1024 ≤ (i 1).val ∧ (i 1).val < win0_8.index _ 1 * 1024 + 1024
              rw [h1]; omega
theorem final_skip : (dats m 0 c).arrAt 8 cfg0.N = R8 m c :=
  (dats m 0 c).arrAt_eq_of_cover 8 _ (flushed_skip m c) cover_skip

theorem flushed_gating (t : Fin cfg0.N) (hf : (cfg0.win 9).flush t = true) : (dats m 0 c).flushed 9 t = ((cfg0.win 9).blk t).view.read (Elt Ideal) (R9 m c) := by
  obtain ⟨-, -, -, -, -, -, -, -, -, ⟨h0, h1⟩, -⟩ := coords t
  have hN : t.val < 16 := lt_of_lt_of_eq t.isLt N_val
  show (cfg0.win 9).cut (grid0.coords t) ((dats m 0 c).after 9 t) = _
  rw [after0_9]
  funext y
  show (outsAt0 m c t.val t.isLt).2.2.1 y = R9 m c (((cfg0.win 9).blk t).view.emb y)
  have y0 : (y 0).val < 256 := (y 0).isLt
  have y1 : (y 1).val < 1024 := (y 1).isLt
  have he : ((cfg0.win 9).blk t).view.emb y = (ix2 ⟨t.val * 256 + (y 0).val, by omega⟩ ⟨(y 1).val, y1⟩ : S4096x1024.Idx) := funext fun d => Fin.ext (match d with
    | ⟨0, _⟩ => by show win0_9.index t 0 * 256 + 1 * (y 0).val = t.val * 256 + (y 0).val; rw [h0, Nat.one_mul]
    | ⟨1, _⟩ => by show win0_9.index t 1 * 1024 + 1 * (y 1).val = (y 1).val; rw [h1, Nat.one_mul, Nat.zero_mul, Nat.zero_add])
  have hy : y = (ix2 ⟨(y 0).val, y0⟩ ⟨(y 1).val, y1⟩ : S256x1024.Idx) := funext fun d => match d with
    | ⟨0, _⟩ => rfl
    | ⟨1, _⟩ => rfl
  rw [he]
  conv_lhs => rw [hy]
  exact gating_tile m c t _ _ _ rfl
theorem cover_gating (i : S4096x1024.Idx) : ∃ t : Fin cfg0.N, (cfg0.win 9).flush t = true ∧ i ∈ ((cfg0.win 9).blk t).view.set := by
  have i0 : (i 0).val < 4096 := (i 0).isLt
  have i1 : (i 1).val < 1024 := (i 1).isLt
  have hb : (i 0).val / 256 < cfg0.N := by rw [N_val]; omega
  obtain ⟨-, -, -, -, -, -, -, -, -, ⟨h0, h1⟩, -⟩ := coords ⟨_, hb⟩
  refine ⟨⟨_, hb⟩, flush0_9 _, ?_⟩
  show (show ((View.whole (Pipeline.arrRef spec0 9)).slice (win0_9.rect ⟨_, hb⟩)).ty.Idx from i) ∈ ((View.whole (Pipeline.arrRef spec0 9)).slice (win0_9.rect ⟨_, hb⟩)).set
  rw [View.set_slice_whole, Rect.mem_set_unit]
  intro a
  match a with
  | ⟨0, _⟩ => show win0_9.index _ 0 * 256 ≤ (i 0).val ∧ (i 0).val < win0_9.index _ 0 * 256 + 256
              rw [h0]; dsimp only; omega
  | ⟨1, _⟩ => show win0_9.index _ 1 * 1024 ≤ (i 1).val ∧ (i 1).val < win0_9.index _ 1 * 1024 + 1024
              rw [h1]; omega
theorem final_gating : (dats m 0 c).arrAt 9 cfg0.N = R9 m c :=
  (dats m 0 c).arrAt_eq_of_cover 9 _ (flushed_gating m c) cover_gating

theorem flushed_sum (t : Fin cfg0.N) (hf : (cfg0.win 10).flush t = true) : (dats m 0 c).flushed 10 t = ((cfg0.win 10).blk t).view.read (Elt Ideal) (R10 m c) := by
  obtain ⟨-, -, -, -, -, -, -, -, -, -, ⟨h0, h1⟩, -⟩ := coords t
  have hN : t.val < 16 := lt_of_lt_of_eq t.isLt N_val
  show (cfg0.win 10).cut (grid0.coords t) ((dats m 0 c).after 10 t) = _
  rw [after0_10]
  funext y
  show (outsAt0 m c t.val t.isLt).2.2.2.1 y = R10 m c (((cfg0.win 10).blk t).view.emb y)
  have y0 : (y 0).val < 8 := (y 0).isLt
  have y1 : (y 1).val < 1024 := (y 1).isLt
  have he : ((cfg0.win 10).blk t).view.emb y = (ix2 ⟨(y 0).val, y0⟩ ⟨(y 1).val, y1⟩ : S8x1024.Idx) := funext fun d => Fin.ext (match d with
    | ⟨0, _⟩ => by show win0_10.index t 0 * 8 + 1 * (y 0).val = (y 0).val; rw [h0, Nat.one_mul, Nat.zero_mul, Nat.zero_add]
    | ⟨1, _⟩ => by show win0_10.index t 1 * 1024 + 1 * (y 1).val = (y 1).val; rw [h1, Nat.one_mul, Nat.zero_mul, Nat.zero_add])
  have hy : y = (ix2 ⟨(y 0).val, y0⟩ ⟨(y 1).val, y1⟩ : S8x1024.Idx) := funext fun d => match d with
    | ⟨0, _⟩ => rfl
    | ⟨1, _⟩ => rfl
  rw [he]
  conv_lhs => rw [hy]
  exact (sum_steps m c _ _ t.val hN t.isLt).trans (by have h15 := (flush0_10 t).mp hf; rw [show t.val = 15 by omega]; rfl)
theorem cover_sum (i : S8x1024.Idx) : ∃ t : Fin cfg0.N, (cfg0.win 10).flush t = true ∧ i ∈ ((cfg0.win 10).blk t).view.set := by
  have i0 : (i 0).val < 8 := (i 0).isLt
  have i1 : (i 1).val < 1024 := (i 1).isLt
  have hb : 15 < cfg0.N := by rw [N_val]; omega
  obtain ⟨-, -, -, -, -, -, -, -, -, -, ⟨h0, h1⟩, -⟩ := coords ⟨_, hb⟩
  refine ⟨⟨_, hb⟩, (flush0_10 _).mpr rfl, ?_⟩
  show (show ((View.whole (Pipeline.arrRef spec0 10)).slice (win0_10.rect ⟨_, hb⟩)).ty.Idx from i) ∈ ((View.whole (Pipeline.arrRef spec0 10)).slice (win0_10.rect ⟨_, hb⟩)).set
  rw [View.set_slice_whole, Rect.mem_set_unit]
  intro a
  match a with
  | ⟨0, _⟩ => show win0_10.index _ 0 * 8 ≤ (i 0).val ∧ (i 0).val < win0_10.index _ 0 * 8 + 8
              rw [h0]; omega
  | ⟨1, _⟩ => show win0_10.index _ 1 * 1024 ≤ (i 1).val ∧ (i 1).val < win0_10.index _ 1 * 1024 + 1024
              rw [h1]; omega
theorem final_sum : (dats m 0 c).arrAt 10 cfg0.N = R10 m c :=
  (dats m 0 c).arrAt_eq_of_cover 10 _ (flushed_sum m c) cover_sum

theorem flushed_gain (t : Fin cfg0.N) (hf : (cfg0.win 11).flush t = true) : (dats m 0 c).flushed 11 t = ((cfg0.win 11).blk t).view.read (Elt Ideal) (R11 m c) := by
  obtain ⟨-, -, -, -, -, -, -, -, -, -, -, h0, h1⟩ := coords t
  have hN : t.val < 16 := lt_of_lt_of_eq t.isLt N_val
  show (cfg0.win 11).cut (grid0.coords t) ((dats m 0 c).after 11 t) = _
  rw [after0_11]
  funext y
  show (outsAt0 m c t.val t.isLt).2.2.2.2 y = R11 m c (((cfg0.win 11).blk t).view.emb y)
  have y0 : (y 0).val < 8 := (y 0).isLt
  have y1 : (y 1).val < 1024 := (y 1).isLt
  have he : ((cfg0.win 11).blk t).view.emb y = (ix2 ⟨(y 0).val, y0⟩ ⟨(y 1).val, y1⟩ : S8x1024.Idx) := funext fun d => Fin.ext (match d with
    | ⟨0, _⟩ => by show win0_11.index t 0 * 8 + 1 * (y 0).val = (y 0).val; rw [h0, Nat.one_mul, Nat.zero_mul, Nat.zero_add]
    | ⟨1, _⟩ => by show win0_11.index t 1 * 1024 + 1 * (y 1).val = (y 1).val; rw [h1, Nat.one_mul, Nat.zero_mul, Nat.zero_add])
  have hy : y = (ix2 ⟨(y 0).val, y0⟩ ⟨(y 1).val, y1⟩ : S8x1024.Idx) := funext fun d => match d with
    | ⟨0, _⟩ => rfl
    | ⟨1, _⟩ => rfl
  rw [he]
  conv_lhs => rw [hy]
  exact (gain_steps m c _ _ t.val hN t.isLt).trans (by have h15 := (flush0_11 t).mp hf; rw [show t.val = 15 by omega]; rfl)
theorem cover_gain (i : S8x1024.Idx) : ∃ t : Fin cfg0.N, (cfg0.win 11).flush t = true ∧ i ∈ ((cfg0.win 11).blk t).view.set := by
  have i0 : (i 0).val < 8 := (i 0).isLt
  have i1 : (i 1).val < 1024 := (i 1).isLt
  have hb : 15 < cfg0.N := by rw [N_val]; omega
  obtain ⟨-, -, -, -, -, -, -, -, -, -, -, h0, h1⟩ := coords ⟨_, hb⟩
  refine ⟨⟨_, hb⟩, (flush0_11 _).mpr rfl, ?_⟩
  show (show ((View.whole (Pipeline.arrRef spec0 11)).slice (win0_11.rect ⟨_, hb⟩)).ty.Idx from i) ∈ ((View.whole (Pipeline.arrRef spec0 11)).slice (win0_11.rect ⟨_, hb⟩)).set
  rw [View.set_slice_whole, Rect.mem_set_unit]
  intro a
  match a with
  | ⟨0, _⟩ => show win0_11.index _ 0 * 8 ≤ (i 0).val ∧ (i 0).val < win0_11.index _ 0 * 8 + 8
              rw [h0]; omega
  | ⟨1, _⟩ => show win0_11.index _ 1 * 1024 ≤ (i 1).val ∧ (i 1).val < win0_11.index _ 1 * 1024 + 1024
              rw [h1]; omega
theorem final_gain : (dats m 0 c).arrAt 11 cfg0.N = R11 m c :=
  (dats m 0 c).arrAt_eq_of_cover 11 _ (flushed_gain m c) cover_gain

/-- The sum over the eight rows, taken after the call. -/
def total (p : FVec Ideal S8x1024 .f32) : FVec Ideal S1024 .f32 := Host.reduceAdd p (constant S_ .f32 0x00000000#32) reducesTo_S8x1024_S1024_d0 h_S_
/-- Its sum over each head. -/
def heads (p : FVec Ideal S8x1024 .f32) : FVec Ideal S16 .f32 := Host.reduceAdd (shapeCast S16x64 (total p) shapeCasts_S1024_S16x64 : FVec Ideal S16x64 .f32) (constant S_ .f32 0x00000000#32) reducesTo_S16x64_S16_d1 h_S_
theorem total_at (p : FVec Ideal S8x1024 .f32) (j : Fin 1024) : total p (ix1 j) = ∑ q : Fin 8, p (ix2 q j) := by
  pointwise [total]
theorem heads_at (p : FVec Ideal S8x1024 .f32) (h : Fin 16) : heads p (ix1 h) = ∑ l : Fin 64, total p (ix1 ⟨h.val * 64 + l.val, by omega⟩) := by
  pointwise [heads]

theorem after_sum : Pipeline.afterTail₀ cfgs (dats m) 0 (V0 m) [hostOps1] c main_v19 = heads (R10 m c) := by
  have h := Pipeline.withArrays_arr cfg0.spec winFacts0.arr_inj c (V0 m c) (fun w => (dats m 0 c).arrAt w cfg0.N) 10
  unfold Pipeline.afterTail₀
  rw [show ([hostOps1] : List (List (HloOp τ sig (Elt Ideal)))).flatten = hostOps1 from rfl]
  unfold hostOps1
  after_results_simp
  exact congrArg heads (h.trans (final_sum m c))
theorem after_gain : Pipeline.afterTail₀ cfgs (dats m) 0 (V0 m) [hostOps1] c main_v20 = total (R11 m c) := by
  have h := Pipeline.withArrays_arr cfg0.spec winFacts0.arr_inj c (V0 m c) (fun w => (dats m 0 c).arrAt w cfg0.N) 11
  unfold Pipeline.afterTail₀
  rw [show ([hostOps1] : List (List (HloOp τ sig (Elt Ideal)))).flatten = hostOps1 from rfl]
  unfold hostOps1
  after_results_simp
  exact congrArg total (h.trans (final_gain m c))

/-- The call and the sums after it. -/
theorem run (ρ : Dev nD → PrngReg) : θ_run defs (onTc (τ := τ) (main (F := Ideal))) ⟨m, fun _ => 0, ρ⟩ (fun r => ∀ c : Dev nD,
    r.2.mem ((c.tc : Thread nD τ).loc main_v16_0) = R7 m c
    ∧ r.2.mem ((c.tc : Thread nD τ).loc main_v16_1) = R8 m c
    ∧ r.2.mem ((c.tc : Thread nD τ).loc main_v16_2) = R9 m c
    ∧ r.2.mem ((c.tc : Thread nD τ).loc main_v19) = heads (R10 m c)
    ∧ r.2.mem ((c.tc : Thread nD τ).loc main_v20) = total (R11 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨((h.1 c).1 7).trans (final_inner m c), ((h.1 c).1 8).trans (final_skip m c), ((h.1 c).1 9).trans (final_gating m c),
      ((h.1 c).2 main_v19 (Pipeline.mem_restRefs_of main_v19 (by decide) (by decide))).trans (after_sum m c),
      ((h.1 c).2 main_v20 (Pipeline.mem_restRefs_of main_v20 (by decide) (by decide))).trans (after_gain m c), h.2 c⟩)
    (θ_run_and (run_main m ρ) (unchanged m ρ))
end Array

end Cert.GateBwdIdeal.Gate

end
-- ==== Proof.GateBwdRef.lean ====
module

public import proofs.«01_k».proof.Proof.GateBwd
public import proofs.«01_k».proof.Proof.LnBwd
public import proofs.«01_k».proof.Proof.ConvBwdPre
public import proofs.«01_k».proof.Proof.Gen.GateBwdRefIdeal.Run
public import proofs.«01_k».proof.Proof.Gen.Pre_bounded

/-! The reference's gradients through the gate and its norm, and why the call's are the same. -/

@[expose] public section

set_option maxRecDepth 16384

noncomputable section

namespace Cert.GateBwdRefIdeal.Gate

open Cert.GateBwdRefIdeal Cert.GateBwdRefIdeal.Gen Idealize.ShloMosaic Idealize.ShloMosaic.TcCoe
open Cert.GateBwdIdeal.Gate (W one near square grad share through zed inp fac into resInner resSkip resGating termSum termGain parts total total_at heads heads_at gated)
open Cert.LnBwdRefIdeal.Norm (half small)
variable (X : FVec Ideal S4096x1024 .f32) (D : FVec Ideal S4096x2048 .f32) (Y : FVec Ideal S4096x1024 .f32) (A : FVec Ideal S4096x1536 .f32) (Z : FVec Ideal S4096x1152 .f32) (s : FVec Ideal S16 .f32) (g : FVec Ideal S1024 .f32)

/-- The norm's input in its two groups. -/
abbrev split : FVec Ideal S4096x2x512 .f32 := shapeCast S4096x2x512 X shapeCasts_S4096x1024_S4096x2x512
/-- The gradient that the norm's result is given. -/
abbrev given : FVec Ideal S4096x2x512 .f32 := shapeCast S4096x2x512 (extractStridedSlice S4096x1024 ![0, 1024] D slices_S4096x2048_S4096x1024_0_1024) shapeCasts_S4096x1024_S4096x2x512
/-- The mean square of each group, with the norm's small number. -/
def mean : FVec Ideal S4096x2x1 .f32 :=
  addf (Host.divf (broadcastInDim S4096x2x1 ![0, 1] bcast_S4096x2_S4096x2x1_0_1 (Host.reduceAdd (mulf (split X) (split X)) (constant S_ .f32 0x00000000#32) reducesTo_S4096x2x512_S4096x2_d2 h_S_)) (broadcastInDim S4096x2x1 ![] bcast_S_S4096x2x1 (constant S_ .f32 0x44000000#32))) (broadcastInDim S4096x2x1 ![] bcast_S_S4096x2x1 (constant S_ .f32 0x3727C5AC#32))
/-- The gradient scaled by the gain. -/
def scaled : FVec Ideal S4096x2x512 .f32 := mulf (given D) (broadcastInDim S4096x2x512 ![0, 1, 2] bcast_S1x2x512_S4096x2x512_0_1_2 (broadcastInDim S1x2x512 ![1, 2] bcast_S2x512_S1x2x512_1_2 (shapeCast S2x512 g shapeCasts_S1024_S2x512)))
/-- The gradient of each group's mean square, per entry. -/
def mid : FVec Ideal S4096x2x512 .f32 :=
  broadcastInDim S4096x2x512 ![0, 1] bcast_S4096x2_S4096x2x512_0_1 (Host.reduceAdd (Host.divf (mulf (shapeCast S4096x2x1 (Host.reduceAdd (mulf (split X) (scaled D g)) (constant S_ .f32 0x00000000#32) reducesTo_S4096x2x512_S4096x2_d2 h_S_) shapeCasts_S4096x2_S4096x2x1) (mulf (broadcastInDim S4096x2x1 ![] bcast_S_S4096x2x1 (constant S_ .f32 0xBF000000#32)) (Host.divf (Host.rsqrt (mean X)) (mean X)))) (broadcastInDim S4096x2x1 ![] bcast_S_S4096x2x1 (constant S_ .f32 0x44000000#32))) (constant S_ .f32 0x00000000#32) reducesTo_S4096x2x1_S4096x2_d2 h_S_)
/-- The gradient of the gated rows. -/
def back : FVec Ideal S4096x1024 .f32 :=
  shapeCast S4096x1024 (addf (addf (mulf (scaled D g) (broadcastInDim S4096x2x512 ![0, 1, 2] bcast_S4096x2x1_S4096x2x512_0_1_2 (Host.rsqrt (mean X)))) (mulf (split X) (mid X D g))) (mulf (mid X D g) (split X))) shapeCasts_S4096x2x512_S4096x1024
/-- One everywhere. -/
abbrev ones : FVec Ideal S4096x1024 .f32 := broadcastInDim S4096x1024 ![] bcast_S_S4096x1024 (constant S_ .f32 0x3F800000#32)
/-- The gate. -/
abbrev gate : FVec Ideal S4096x1024 .f32 := extractStridedSlice S4096x1024 ![0, 0] Z slices_S4096x1152_S4096x1024_0_0
/-- The gate's share. -/
abbrev part : FVec Ideal S4096x1024 .f32 := Host.divf ones (addf ones (Host.exp (Host.negf (gate Z))))
/-- The skip's factors, spread over the heads. -/
abbrev spread : FVec Ideal S4096x16x64 .f32 := broadcastInDim S4096x16x64 ![0, 1, 2] bcast_S1x16x1_S4096x16x64_0_1_2 (broadcastInDim S1x16x1 ![1, 2] bcast_S16x1_S1x16x1_1_2 (broadcastInDim S16x1 ![0] bcast_S16_S16x1_0 s))
/-- The input of the skip, by heads. -/
abbrev input : FVec Ideal S4096x16x64 .f32 := shapeCast S4096x16x64 (extractStridedSlice S4096x1024 ![0, 0] A slices_S4096x1536_S4096x1024_0_0) shapeCasts_S4096x1024_S4096x16x64
/-- What the gate multiplies. -/
def under : FVec Ideal S4096x1024 .f32 := shapeCast S4096x1024 (addf (shapeCast S4096x16x64 Y shapeCasts_S4096x1024_S4096x16x64) (mulf (spread s) (input A))) shapeCasts_S4096x16x64_S4096x1024
/-- Its gradient, by heads. -/
def headed : FVec Ideal S4096x16x64 .f32 := shapeCast S4096x16x64 (mulf (back X D g) (mulf (gate Z) (part Z))) shapeCasts_S4096x1024_S4096x16x64
/-- The reference's first result. -/
def wantInner : FVec Ideal S4096x1024 .f32 := shapeCast S4096x1024 (headed X D Z g) shapeCasts_S4096x16x64_S4096x1024
/-- The reference's second result. -/
def wantSkip : FVec Ideal S4096x1024 .f32 := shapeCast S4096x1024 (mulf (spread s) (headed X D Z g)) shapeCasts_S4096x16x64_S4096x1024
/-- The reference's third result. -/
def wantGating : FVec Ideal S4096x1024 .bf16 :=
  truncf .bf16 (addf (mulf (mulf (under Y A s) (back X D g)) (part Z)) (mulf (mulf (gate Z) (mulf (under Y A s) (back X D g))) (mulf (part Z) (subf ones (part Z)))) : FVec Ideal S4096x1024 .f32)
/-- The reference's gradient of the skip's factors. -/
def wantSum : FVec Ideal S16 .f32 :=
  Host.reduceAdd (broadcastInDim S16x1 ![0] bcast_S16_S16x1_0 (Host.reduceAdd (shapeCast S1x16x1 (Host.reduceAdd (mulf (headed X D Z g) (input A)) (constant S_ .f32 0x00000000#32) reducesTo_S4096x16x64_S16_d0_2 h_S_) shapeCasts_S16_S1x16x1) (constant S_ .f32 0x00000000#32) reducesTo_S1x16x1_S16_d0_2 h_S_)) (constant S_ .f32 0x00000000#32) reducesTo_S16x1_S16_d1 h_S_
/-- The reference's gradient of the gain. -/
def wantGain : FVec Ideal S1024 .f32 :=
  shapeCast S1024 (Host.reduceAdd (shapeCast S1x2x512 (Host.reduceAdd (mulf (mulf (split X) (broadcastInDim S4096x2x512 ![0, 1, 2] bcast_S4096x2x1_S4096x2x512_0_1_2 (Host.rsqrt (mean X)))) (given D)) (constant S_ .f32 0x00000000#32) reducesTo_S4096x2x512_S2x512_d0 h_S_) shapeCasts_S2x512_S1x2x512) (constant S_ .f32 0x00000000#32) reducesTo_S1x2x512_S2x512_d0 h_S_) shapeCasts_S2x512_S1024

section At
variable (r : Fin 4096) (j : Fin 1024) (a : Fin 2) (l : Fin 512) (h : Fin 16) (k : Fin 64)
/-- The group of a lane. -/
abbrev grp (j : Fin 1024) : Fin 2 := ⟨j.val / 512, by omega⟩
theorem split_at : split X (ix3 r a l) = X (ix2 r ⟨a.val * 512 + l.val, by omega⟩) := by
  pointwise [split]
theorem given_at : given D (ix3 r a l) = D (ix2 r ⟨1024 + (a.val * 512 + l.val), by omega⟩) := by
  pointwise [given]
theorem scaled_at : scaled D g (ix3 r a l) = given D (ix3 r a l) * g (ix1 ⟨a.val * 512 + l.val, by omega⟩) := by
  pointwise [scaled]
theorem mean_at : mean X (ix3 r (grp j) 0) = square (fun k => X (ix2 r k)) j := by
  have h : mean X (ix3 r (grp j) 0) = Ideal.div (∑ k, split X (ix3 r (grp j) k) * split X (ix3 r (grp j) k)) W + Ideal.ofBits FTy.f32 0x3727C5AC#32 := by
    pointwise [mean]
  rw [h]
  simp only [split_at]
  rfl
theorem mid_at : mid X D g (ix3 r a l) = Ideal.div ((∑ k, split X (ix3 r a k) * scaled D g (ix3 r a k))
      * (Ideal.ofBits FTy.f32 0xBF000000#32 * Ideal.div (Ideal.rsqrt (mean X (ix3 r a 0))) (mean X (ix3 r a 0)))) W := by
  have h : mid X D g (ix3 r a l) = ∑ y : Fin 1, Ideal.div ((∑ k, split X (ix3 r a k) * scaled D g (ix3 r a k))
      * (Ideal.ofBits FTy.f32 0xBF000000#32 * Ideal.div (Ideal.rsqrt (mean X (ix3 r a y))) (mean X (ix3 r a y)))) W := by
    pointwise [mid]
  rw [h, Fin.sum_univ_one]
theorem back_at : back X D g (ix2 r j) = scaled D g (ix3 r (grp j) ⟨j.val % 512, by omega⟩) * Ideal.rsqrt (mean X (ix3 r (grp j) 0))
    + X (ix2 r j) * mid X D g (ix3 r (grp j) ⟨j.val % 512, by omega⟩) + mid X D g (ix3 r (grp j) ⟨j.val % 512, by omega⟩) * X (ix2 r j) := by
  pointwise [back]
theorem under_at : under Y A s (ix2 r j) = Y (ix2 r j) + fac s j * inp A r j := by
  pointwise [under]
theorem headed_at : headed X D Z g (ix3 r h k) = back X D g (ix2 r ⟨h.val * 64 + k.val, by omega⟩) * (zed Z r ⟨h.val * 64 + k.val, by omega⟩ * part Z (ix2 r ⟨h.val * 64 + k.val, by omega⟩)) := by
  pointwise [headed]
theorem part_at : part Z (ix2 r j) = share (zed Z r j) := by
  unfold share
  rw [zero_sub]
  pointwise [part]
theorem wantInner_at : wantInner X D Z g (ix2 r j) = headed X D Z g (ix3 r ⟨j.val / 64, by omega⟩ ⟨j.val % 64, by omega⟩) := by
  pointwise [wantInner]
theorem wantSkip_at : wantSkip X D Z s g (ix2 r j) = fac s j * headed X D Z g (ix3 r ⟨j.val / 64, by omega⟩ ⟨j.val % 64, by omega⟩) := by
  pointwise [wantSkip]
theorem wantGating_at : wantGating X D Y A Z s g (ix2 r j) = under Y A s (ix2 r j) * back X D g (ix2 r j) * part Z (ix2 r j)
    + zed Z r j * (under Y A s (ix2 r j) * back X D g (ix2 r j)) * (part Z (ix2 r j) * (one - part Z (ix2 r j))) := by
  pointwise [wantGating]
/-- A sum over the outer axes. -/
theorem outer_sum {n0 n1 n2 : ℕ} (h : (⟨3, ![n0, n1, n2]⟩ : Shape).ReducesTo [0, 2] ⟨1, ![n1]⟩) (x : (⟨3, ![n0, n1, n2]⟩ : Shape).Idx → EReal) (e : EReal) (b : Fin n1) :
    Ideal.hostReduceAdd h x e (ix1 b) = e + ∑ r : Fin n0, ∑ k : Fin n2, x (ix3 r b k) := by
  refine congrArg (e + ·) (Eq.symm ?_)
  rw [← Fintype.sum_prod_type' (f := fun r k => x (ix3 r b k))]
  refine Finset.sum_bij' (fun p _ => ix3 p.1 b p.2) (fun i _ => (i 0, i 2)) ?_ ?_ ?_ ?_ ?_
  · intro p _
    refine Finset.mem_filter.mpr ⟨Finset.mem_univ _, funext fun d => ?_⟩
    match d with
    | ⟨0, _⟩ => rfl
  · intro i _
    exact Finset.mem_univ _
  · intro p _
    rfl
  · intro i hi
    have hb := congrArg Fin.val (congrFun (Finset.mem_filter.mp hi).2 0)
    exact funext fun d => Fin.ext (match d with
      | ⟨0, _⟩ => rfl
      | ⟨1, _⟩ => hb.symm
      | ⟨2, _⟩ => rfl)
  · intro p _
    rfl
theorem wantSum_at : wantSum X D A Z g (ix1 h) = ∑ r, ∑ k, headed X D Z g (ix3 r h k) * inp A r ⟨h.val * 64 + k.val, by omega⟩ := by
  have e : wantSum X D A Z g (ix1 h) = ∑ _y : Fin 1, Ideal.hostReduceAdd reducesTo_S1x16x1_S16_d0_2 (shapeCast S1x16x1 (Host.reduceAdd (mulf (headed X D Z g) (input A)) (constant S_ .f32 0x00000000#32) reducesTo_S4096x16x64_S16_d0_2 h_S_) shapeCasts_S16_S1x16x1) 0 (ix1 h) := by
    pointwise [wantSum]
  have f (a b : Fin 1) : (shapeCast S1x16x1 (Host.reduceAdd (mulf (headed X D Z g) (input A)) (constant S_ .f32 0x00000000#32) reducesTo_S4096x16x64_S16_d0_2 h_S_) shapeCasts_S16_S1x16x1 : FVec Ideal S1x16x1 .f32) (ix3 a h b)
      = Ideal.hostReduceAdd reducesTo_S4096x16x64_S16_d0_2 (mulf (headed X D Z g) (input A)) 0 (ix1 h) := by
    pointwise
  rw [e, Fin.sum_univ_one, outer_sum, Fin.sum_univ_one, Fin.sum_univ_one, f, outer_sum, zero_add, zero_add]
  refine Finset.sum_congr rfl fun r _ => Finset.sum_congr rfl fun k _ => ?_
  pointwise [input]
theorem wantGain_at : wantGain X D (ix1 j) = ∑ r, X (ix2 r j) * Ideal.rsqrt (mean X (ix3 r (grp j) 0)) * D (ix2 r ⟨1024 + j.val, by omega⟩) := by
  have e : wantGain X D (ix1 j) = ∑ _y : Fin 1, ∑ r, X (ix2 r j) * Ideal.rsqrt (mean X (ix3 r (grp j) 0)) * D (ix2 r ⟨1024 + j.val, by omega⟩) := by
    pointwise [wantGain]
  rw [e, Fin.sum_univ_one]
end At

theorem width : W = ((512 : ℝ) : EReal) := by
  simp [Ideal.ofBits, Ideal.ieee, -EReal.coe_mul]; norm_num
theorem square_pos (x : Fin 1024 → EReal) (j : Fin 1024) : 0 < square x j := by
  unfold square
  rw [width, Ideal.div_coe (by norm_num)]
  refine lt_of_lt_of_le small (le_add_of_nonneg_left (mul_nonneg (Finset.sum_nonneg fun k _ => Cert.Prod.square_nonneg _) (EReal.coe_nonneg.mpr (by norm_num))))
theorem lane (j : Fin 1024) : (⟨j.val / 512 * 512 + j.val % 512, by omega⟩ : Fin 1024) = j := Fin.ext (by show j.val / 512 * 512 + j.val % 512 = j.val; omega)
theorem lane64 (j : Fin 1024) : (⟨j.val / 64 * 64 + j.val % 64, by omega⟩ : Fin 1024) = j := Fin.ext (by show j.val / 64 * 64 + j.val % 64 = j.val; omega)
theorem slice_at (r : Fin 4096) (j : Fin 1024) : extractStridedSlice S4096x1024 ![0, 1024] D slices_S4096x2048_S4096x1024_0_1024 (ix2 r j) = D (ix2 r ⟨1024 + j.val, by omega⟩) := by
  pointwise
theorem back_eq (r : Fin 4096) (j : Fin 1024) : back X D g (ix2 r j) = through X D g r j := by
  rw [back_at, mid_at, mean_at]
  simp only [scaled_at, given_at, split_at, lane, slice_at]
  exact (Cert.Prod.norm_grad (fun k => X (ix2 r (near j k))) (fun k => D (ix2 r ⟨1024 + (near j k).val, by omega⟩) * g (ix1 (near j k))) (X (ix2 r j)) (D (ix2 r ⟨1024 + j.val, by omega⟩) * g (ix1 j)) (square (fun k => X (ix2 r k)) j) _ _ 512 (by norm_num) width half (square_pos _ _)).symm
theorem headed_eq (r : Fin 4096) (h : Fin 16) (k : Fin 64) : headed X D Z g (ix3 r h k) = into X D Z g r ⟨h.val * 64 + k.val, by omega⟩ := by
  rw [headed_at, back_eq, part_at]
  rfl

theorem meet_inner : resInner X D Z g = wantInner X D Z g := by
  funext y
  idx_vars y
  rw [wantInner_at, headed_eq]
  exact congrArg (into X D Z g y0) (lane64 y1).symm
theorem meet_skip : resSkip X D Z s g = wantSkip X D Z s g := by
  funext y
  idx_vars y
  rw [wantSkip_at, headed_eq]
  exact congrArg (fun j => fac s y1 * into X D Z g y0 j) (lane64 y1).symm
theorem meet_sum : heads (parts (termSum X D A Z g)) = wantSum X D A Z g := by
  funext y
  idx_vars y
  rw [heads_at, wantSum_at, Finset.sum_comm]
  refine Finset.sum_congr rfl fun l _ => ?_
  rw [total_at]
  refine Eq.trans (Cert.Prod.sum_tiles (termSum X D A Z g ⟨y0.val * 64 + l.val, by omega⟩)) (Finset.sum_congr rfl fun r _ => ?_)
  unfold termSum
  rw [dif_pos r.isLt, headed_eq]
theorem meet_gain : total (parts (termGain X D)) = wantGain X D := by
  funext y
  idx_vars y
  rw [total_at, wantGain_at]
  refine Eq.trans (Cert.Prod.sum_tiles (termGain X D y0)) (Finset.sum_congr rfl fun r _ => ?_)
  unfold termGain
  rw [dif_pos r.isLt, mean_at, mul_comm]

theorem square_top (x : Fin 1024 → EReal) (j : Fin 1024) (k : Fin 512) (h : x (near j k) * x (near j k) = ⊤) : square x j = ⊤ := by
  have hs : ∑ k, x (near j k) * x (near j k) = ⊤ :=
    top_le_iff.mp (h ▸ Finset.single_le_sum (f := fun k => x (near j k) * x (near j k)) (fun k _ => Cert.Prod.square_nonneg _) (Finset.mem_univ k))
  unfold square
  rw [hs, width, Ideal.div_coe (by norm_num), EReal.top_mul_coe_of_pos (by norm_num), EReal.top_add_of_ne_bot (ne_bot_of_gt small)]
/-- The normed entries are numbers, whatever the rows are. -/
theorem unit_real (x : Fin 1024 → EReal) (j : Fin 1024) (k : Fin 512) : ∃ a : ℝ, x (near j k) * Ideal.rsqrt (square x j) = (a : EReal) := by
  obtain ⟨ρ, -, e, -⟩ := Cert.Prod.inv_root (square x j) (square_pos x j)
  by_cases hv : square x j = ⊤
  · exact ⟨0, by rw [hv, Ideal.rsqrt_top]; simp⟩
  · have hx : x (near j k) * x (near j k) ≠ ⊤ := fun ht => hv (square_top x j k ht)
    rw [e]
    generalize x (near j k) = z at hx ⊢
    induction z using EReal.rec with
    | bot => simp at hx
    | top => simp at hx
    | coe a => exact ⟨a * ρ, by rw [EReal.coe_mul]⟩
theorem sum_real {n : ℕ} (f : Fin n → EReal) (h : ∀ k, ∃ a : ℝ, f k = (a : EReal)) : ∃ a : ℝ, ∑ k, f k = (a : EReal) := by
  choose a ha using h
  exact ⟨∑ k, a k, by simp only [ha]; exact (map_sum (⟨⟨Real.toEReal, rfl⟩, EReal.coe_add⟩ : ℝ →+ EReal) a Finset.univ).symm⟩
theorem grad_real (x d g : Fin 1024 → EReal) (j : Fin 1024) (h : ∀ j, ∃ a : ℝ, d j * g j = (a : EReal)) : ∃ a : ℝ, Cert.GateBwdIdeal.Gate.grad x d g j = (a : EReal) := by
  choose a ha using h
  obtain ⟨ρ, -, e, -⟩ := Cert.Prod.inv_root (square x j) (square_pos x j)
  obtain ⟨v, hv⟩ := unit_real x j ⟨j.val % 512, by omega⟩
  rw [show near j ⟨j.val % 512, by omega⟩ = j from lane j] at hv
  obtain ⟨S, hS⟩ := sum_real (fun k => d (near j k) * g (near j k) * (x (near j k) * Ideal.rsqrt (square x j))) fun k => by
    obtain ⟨u, hu⟩ := unit_real x j k
    exact ⟨a (near j k) * u, by rw [hu, ha, EReal.coe_mul]⟩
  refine ⟨ρ * (a j - v * (S * (1 / 512))), ?_⟩
  unfold Cert.GateBwdIdeal.Gate.grad
  rw [hS, hv, e, ha, width, Ideal.div_coe (by norm_num)]
  norm_cast

/-- The precondition: the gradient that the norm's scaled row is given is a number everywhere. -/
theorem number_at (h : Cert.Pre_bounded.fn D Y A Z s g = fun _ => 1#1) (r : Fin 4096) (j : Fin 1024) : ∃ d : ℝ, D (ix2 r ⟨1024 + j.val, by omega⟩) * g (ix1 j) = (d : EReal) := by
  have e := congrFun h (ix2 r j)
  have e' : Cert.Pre_bounded.fn D Y A Z s g (ix2 r j) = BitVec.ofBool (decide (max (D (ix2 r ⟨1024 + j.val, by omega⟩) * g (ix1 j)) (-(D (ix2 r ⟨1024 + j.val, by omega⟩) * g (ix1 j))) < Ideal.ofBits FTy.f32 0x7F800000#32)) := by
    pointwise [Cert.Pre_bounded.fn]
    rfl
  rw [e', Cert.ConvBwdPreRefIdeal.Conv.inf_val] at e
  generalize D (ix2 r ⟨1024 + j.val, by omega⟩) * g (ix1 j) = z at e ⊢
  induction z using EReal.rec with
  | bot => simp at e
  | top => simp at e
  | coe d => exact ⟨d, rfl⟩

theorem one_eq : one = 1 := Cert.ConvBwdPreRefIdeal.Conv.one_val
/-- The share is the logistic function. -/
theorem share_eq (z : EReal) : share z = Ideal.logistic z := by
  unfold share
  rw [one_eq, zero_sub]
  rfl
/-- Where the gated row's factor is zero. -/
theorem factor_zero (z : EReal) (h : z * share z = 0) : z = 0 ∨ z = ⊥ := by
  rw [share_eq] at h
  induction z using EReal.rec with
  | bot => exact Or.inr rfl
  | top => simp at h
  | coe r =>
    rw [Ideal.logistic_coe] at h
    norm_cast at h ⊢
    rcases mul_eq_zero.mp h with h | h
    · exact Or.inl h
    · have hp := Real.exp_pos (-r)
      exact absurd h (by positivity)
/-- The two ways of writing the gradient through the gate. -/
theorem two_ways (w z : EReal) (h : (∃ d : ℝ, w = (d : EReal)) ∨ z = 0 ∨ z = ⊥) : w * (share z * (one + z * (one - share z))) = w * share z + z * w * (share z * (one - share z)) := by
  rcases h with ⟨d, rfl⟩ | rfl | rfl
  · have e := Cert.ConvBwdPreRefIdeal.Conv.through one z d one_eq
    rw [← zero_sub z] at e
    exact e
  · rw [one_eq]
    simp
  · rw [share_eq, one_eq]
    simp
theorem gated_at (r : Fin 4096) (j : Fin 1024) : gated Y A Z s (ix2 r j) = (Y (ix2 r j) + fac s j * inp A r j) * (zed Z r j * share (zed Z r j)) := by
  unfold share
  rw [zero_sub]
  pointwise [gated]
/-- An infinite entry of the row takes the row's gradient to zero. -/
theorem infinite_at (r : Fin 4096) (j : Fin 1024) (v t : EReal) (hv : v * v = ⊤) (ht : t ≠ 0) (e : X (ix2 r j) = v * t) : through X D g r j = 0 := by
  have hs := square_top (fun k => X (ix2 r k)) j ⟨j.val % 512, by omega⟩ (by
    show X (ix2 r (near j ⟨j.val % 512, by omega⟩)) * X (ix2 r (near j ⟨j.val % 512, by omega⟩)) = ⊤
    rw [show near j ⟨j.val % 512, by omega⟩ = j from lane j, e, mul_mul_mul_comm, hv]
    exact EReal.top_mul_of_pos (lt_of_le_of_ne (Cert.Prod.square_nonneg t) (mul_ne_zero ht ht).symm))
  unfold Cert.GateBwdIdeal.Gate.through Cert.GateBwdIdeal.Gate.grad
  rw [hs, Ideal.rsqrt_top, zero_mul]
theorem meet_gating (h : Cert.Pre_bounded.fn D Y A Z s g = fun _ => 1#1) : resGating (gated Y A Z s) D Y A Z s g = wantGating (gated Y A Z s) D Y A Z s g := by
  funext y
  idx_vars y
  obtain ⟨d, hd⟩ := grad_real (fun k => gated Y A Z s (ix2 y0 k)) (fun k => D (ix2 y0 ⟨1024 + k.val, by omega⟩)) (fun k => g (ix1 k)) y1 (number_at D Y A Z s g h y0)
  have ht : through (gated Y A Z s) D g y0 y1 = (d : EReal) := hd
  have e := gated_at Y A Z s y0 y1
  have far (v : EReal) (hv : v * v = ⊤) (hu : Y (ix2 y0 y1) + fac s y1 * inp A y0 y1 = v) : (∃ d : ℝ, (v * through (gated Y A Z s) D g y0 y1) = (d : EReal)) ∨ zed Z y0 y1 = 0 ∨ zed Z y0 y1 = ⊥ := by
    by_cases h0 : zed Z y0 y1 * share (zed Z y0 y1) = 0
    · exact Or.inr (factor_zero _ h0)
    · rw [hu] at e
      exact Or.inl ⟨0, by rw [infinite_at (gated Y A Z s) D g y0 y1 v _ hv h0 e, mul_zero]; rfl⟩
  rw [wantGating_at, back_eq, part_at, under_at]
  show through (gated Y A Z s) D g y0 y1 * (Y (ix2 y0 y1) + fac s y1 * inp A y0 y1) * (share (zed Z y0 y1) * (one + zed Z y0 y1 * (one - share (zed Z y0 y1)))) = _
  rw [mul_comm (through (gated Y A Z s) D g y0 y1)]
  refine two_ways _ _ ?_
  generalize Y (ix2 y0 y1) + fac s y1 * inp A y0 y1 = u at far ⊢
  induction u using EReal.rec with
  | bot => exact far ⊥ EReal.bot_mul_bot rfl
  | top => exact far ⊤ EReal.top_mul_top rfl
  | coe u => exact Or.inl ⟨u * d, by rw [ht, EReal.coe_mul]⟩

end Cert.GateBwdRefIdeal.Gate

end
-- ==== Proof.GateBwdClaims.lean ====
module

public import proofs.«01_k».proof.Defs
public import proofs.«01_k».proof.Proof.Gen.GateBwd
public import proofs.«01_k».proof.Proof.GateBwdRef
public import proofs.«01_k».proof.Proof.Gen.Pre_bounded
public import Idealize.ShloMosaic.Adequacy
public import Idealize.ShloMosaic.Init

/-! The claims of one call: the frames, and the equality of its results with the reference's where the scaled gradient that the norm's result is given is finite. -/

@[expose] public section

set_option maxRecDepth 16384
set_option maxHeartbeats 1000000

noncomputable section

namespace Cert.Proof.GateBwd

open Idealize.ShloMosaic Idealize.SL.Sem

/-- The kernel's body is the idealized program's, word for word. -/
theorem bodies_eq : Cert.GateBwd.defs₀ (F := Bits) = Cert.GateBwdIdeal.defs₀ (F := Bits) := by
  unfold Cert.GateBwd.defs₀ Cert.GateBwdIdeal.defs₀
  refine congrArg Defs.onTc ?_
  funext l a
  match l, a with
  | 0, (t, s) => rfl

theorem table_eq : Cert.GateBwd.defs (F := Bits) = Cert.GateBwdIdeal.defs (F := Bits) :=
  congrArg (Pipeline.defs Cert.GateBwdIdeal.pcfgs) bodies_eq

theorem main_eq : Cert.GateBwd.main (F := Bits) = Cert.GateBwdIdeal.main (F := Bits) := by rfl

theorem frame_P : Cert.quiescent_GateBwd := fun m ρ _ => by
  rw [table_eq, main_eq]
  exact Cert.GateBwdIdeal.Gen.frame (F := Bits) m ρ

theorem frame_PI : Cert.quiescent_GateBwdIdeal := fun m ρ _ => Cert.GateBwdIdeal.Gen.frame (F := Ideal) m ρ

theorem frame_PI_bounded : Cert.quiescent_GateBwdIdeal_pre_bounded := fun m ρ _ => Cert.GateBwdIdeal.Gen.frame (F := Ideal) m ρ

/-- The reference declares no semaphore. -/
theorem frame_RI : Cert.quiescent_GateBwdRefIdeal := fun m ρ _ =>
  (θ_run Cert.GateBwdRefIdeal.defs _ _).mono (fun r h => ⟨fun c => (h c).2.2.2.2.2, sem_eq_zero_of_no_sems (by decide) r.2⟩)
    (Cert.GateBwdRefIdeal.Value.run (F := Ideal) m ρ)

theorem frame_RI_bounded : Cert.quiescent_GateBwdRefIdeal_pre_bounded := fun m ρ _ => frame_RI m ρ trivial

/-- The common values are the reference's results. -/
theorem algebraic : Cert.algebraic_GateBwdIdeal_GateBwdRefIdeal_pre_bounded := fun m ρ m' ρ' hfin hagree =>
  ⟨fun c => Cert.GateBwdRefIdeal.Gate.wantInner (Cert.GateBwdIdeal.Gate.gated (m' (c.tc.loc Cert.GateBwdRefIdeal.main_arg1)) (m' (c.tc.loc Cert.GateBwdRefIdeal.main_arg2)) (m' (c.tc.loc Cert.GateBwdRefIdeal.main_arg3)) (m' (c.tc.loc Cert.GateBwdRefIdeal.main_arg4))) (m' (c.tc.loc Cert.GateBwdRefIdeal.main_arg0)) (m' (c.tc.loc Cert.GateBwdRefIdeal.main_arg3)) (m' (c.tc.loc Cert.GateBwdRefIdeal.main_arg5)),
    fun c => Cert.GateBwdRefIdeal.Gate.wantSkip (Cert.GateBwdIdeal.Gate.gated (m' (c.tc.loc Cert.GateBwdRefIdeal.main_arg1)) (m' (c.tc.loc Cert.GateBwdRefIdeal.main_arg2)) (m' (c.tc.loc Cert.GateBwdRefIdeal.main_arg3)) (m' (c.tc.loc Cert.GateBwdRefIdeal.main_arg4))) (m' (c.tc.loc Cert.GateBwdRefIdeal.main_arg0)) (m' (c.tc.loc Cert.GateBwdRefIdeal.main_arg3)) (m' (c.tc.loc Cert.GateBwdRefIdeal.main_arg4)) (m' (c.tc.loc Cert.GateBwdRefIdeal.main_arg5)),
    fun c => Cert.GateBwdRefIdeal.Gate.wantGating (Cert.GateBwdIdeal.Gate.gated (m' (c.tc.loc Cert.GateBwdRefIdeal.main_arg1)) (m' (c.tc.loc Cert.GateBwdRefIdeal.main_arg2)) (m' (c.tc.loc Cert.GateBwdRefIdeal.main_arg3)) (m' (c.tc.loc Cert.GateBwdRefIdeal.main_arg4))) (m' (c.tc.loc Cert.GateBwdRefIdeal.main_arg0)) (m' (c.tc.loc Cert.GateBwdRefIdeal.main_arg1)) (m' (c.tc.loc Cert.GateBwdRefIdeal.main_arg2)) (m' (c.tc.loc Cert.GateBwdRefIdeal.main_arg3)) (m' (c.tc.loc Cert.GateBwdRefIdeal.main_arg4)) (m' (c.tc.loc Cert.GateBwdRefIdeal.main_arg5)),
    fun c => Cert.GateBwdRefIdeal.Gate.wantSum (Cert.GateBwdIdeal.Gate.gated (m' (c.tc.loc Cert.GateBwdRefIdeal.main_arg1)) (m' (c.tc.loc Cert.GateBwdRefIdeal.main_arg2)) (m' (c.tc.loc Cert.GateBwdRefIdeal.main_arg3)) (m' (c.tc.loc Cert.GateBwdRefIdeal.main_arg4))) (m' (c.tc.loc Cert.GateBwdRefIdeal.main_arg0)) (m' (c.tc.loc Cert.GateBwdRefIdeal.main_arg2)) (m' (c.tc.loc Cert.GateBwdRefIdeal.main_arg3)) (m' (c.tc.loc Cert.GateBwdRefIdeal.main_arg5)),
    fun c => Cert.GateBwdRefIdeal.Gate.wantGain (Cert.GateBwdIdeal.Gate.gated (m' (c.tc.loc Cert.GateBwdRefIdeal.main_arg1)) (m' (c.tc.loc Cert.GateBwdRefIdeal.main_arg2)) (m' (c.tc.loc Cert.GateBwdRefIdeal.main_arg3)) (m' (c.tc.loc Cert.GateBwdRefIdeal.main_arg4))) (m' (c.tc.loc Cert.GateBwdRefIdeal.main_arg0)),
    (θ_run Cert.GateBwdIdeal.defs _ _).mono (fun _ h c => by
      obtain ⟨h0, h1, h2, h3, h4, h5⟩ := hagree c
      beta_reduce
      rw [h0, h1, h2, h3, h4, h5]
      exact ⟨(h c).1.trans (Cert.GateBwdRefIdeal.Gate.meet_inner _ _ _ _),
        (h c).2.1.trans (Cert.GateBwdRefIdeal.Gate.meet_skip _ _ _ _ _),
        (h c).2.2.1.trans (Cert.GateBwdRefIdeal.Gate.meet_gating _ _ _ _ _ _ (hfin c)),
        (h c).2.2.2.1.trans (Cert.GateBwdRefIdeal.Gate.meet_sum _ _ _ _ _),
        (h c).2.2.2.2.1.trans (Cert.GateBwdRefIdeal.Gate.meet_gain _ _), (h c).2.2.2.2.2⟩)
      (Cert.GateBwdIdeal.Gate.run m ρ),
    Cert.GateBwdRefIdeal.Value.run (F := Ideal) m' ρ'⟩

end Cert.Proof.GateBwd

end
-- ==== Proof.LnFwd.lean ====
module

public import proofs.«01_k».proof.Proof.LnBwd
public import proofs.«01_k».proof.Proof.Gen.LnFwdIdeal.Value
public import proofs.«01_k».proof.Proof.Gen.LnFwdRefIdeal.Run

/-! The norm of the rows: each entry over the root of its row's mean square, times the gain. -/

@[expose] public section

set_option maxRecDepth 16384

noncomputable section

namespace Cert.LnFwdIdeal.Norm

open Cert.LnFwdIdeal Cert.LnFwdIdeal.Gen Idealize.ShloMosaic Idealize.ShloMosaic.TcCoe
open Cert.Prod (zeros)
open Cert.LnBwdIdeal.Norm (square)

theorem out_eq (x0 : Vec Ideal S256x2048 .f32) (x1 : Vec Ideal S1x2048 .f32) : out0_2 x0 x1 = k0_pay1 x0 x1 := by
  unfold out0_2
  rw [View.canon_unit_zero zeros, View.ld_unit_zero (S := S256x2048) zeros, View.ld_unit_zero (S := S1x2048) zeros]

theorem pay_at (x0 : Vec Ideal S256x2048 .f32) (x1 : Vec Ideal S1x2048 .f32) (a : Fin 256) (b : Fin 2048) :
    k0_pay1 x0 x1 (ix2 a b) = x0 (ix2 a b) * Ideal.rsqrt (square fun k => x0 (ix2 a k)) * x1 (ix2 0 b) := by
  unfold square
  pointwise [k0_pay1]

theorem coords : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) := by
  decide +kernel
theorem sizes : ∀ t : Fin cfg0.N, win0_2.xsize (grid0.coords t) 0 = 256 ∧ win0_2.xsize (grid0.coords t) 1 = 2048 := by
  decide +kernel

/-- The rows over the roots of their mean squares, times the gain. -/
def result (X : FVec Ideal S4096x2048 .f32) (g : FVec Ideal S2048 .f32) : FVec Ideal S4096x2048 .bf16 := fun y =>
  X y * Ideal.rsqrt (square fun k => X (ix2 (y 0) k)) * g (ix1 (y 1))

section Array
variable (m : (ℓ : Loc nD τ sig) → Buf (Elt Ideal) ℓ) (c : Dev nD)

theorem x_at (t : Fin cfg0.N) (a : Fin 256) (b : Fin 2048) (r : Fin 4096) (hr : r.val = t.val * 256 + a.val) : iblk m c 0 t (ix2 a b) = V m c main_arg0 (ix2 r b) := by
  obtain ⟨⟨h0, h1⟩, -⟩ := coords t
  have he : ((cfg0.win 0).blk t).view.emb (ix2 a b) = (ix2 r b : S4096x2048.Idx) := funext fun d => Fin.ext (match d with
    | ⟨0, _⟩ => by show win0_0.index t 0 * 256 + 1 * a.val = r.val; rw [h0, hr, Nat.one_mul]
    | ⟨1, _⟩ => by show win0_0.index t 1 * 2048 + 1 * b.val = b.val; rw [h1, Nat.one_mul, Nat.zero_mul, Nat.zero_add])
  show V m c main_arg0 (((cfg0.win 0).blk t).view.emb (ix2 a b)) = _
  rw [he]
theorem g_at (t : Fin cfg0.N) (b : Fin 2048) : iblk m c 1 t (ix2 0 b) = V m c main_arg1 (ix1 b) := by
  obtain ⟨-, ⟨h0, h1⟩, -⟩ := coords t
  have he : ((cfg0.win 1).blk t).view.emb (ix2 0 b) = (ix2 0 b : S1x2048.Idx) := funext fun d => Fin.ext (match d with
    | ⟨0, _⟩ => by show win0_1.index t 0 * 1 + 1 * 0 = 0; rw [h0]
    | ⟨1, _⟩ => by show win0_1.index t 1 * 2048 + 1 * b.val = b.val; rw [h1, Nat.one_mul, Nat.zero_mul, Nat.zero_add])
  show V m c main_v0 (((cfg0.win 1).blk t).view.emb (ix2 0 b)) = _
  have h : V m c main_v0 = (shapeCast S1x2048 (V m c main_arg1 : FVec Ideal S2048 .f32) shapeCasts_S2048_S1x2048 : FVec Ideal S1x2048 .f32) := by
    rfl
  rw [he, h]
  pointwise
theorem out_at (t : Fin cfg0.N) (a : Fin 256) (b : Fin 2048) (r : Fin 4096) (hr : r.val = t.val * 256 + a.val) :
    out0_2 (iblk m c 0 t) (iblk m c 1 t) (ix2 a b) = result (V m c main_arg0) (V m c main_arg1) (ix2 r b) := by
  rw [out_eq, pay_at, g_at]
  simp only [x_at m c t a _ r hr]
  rfl

theorem flushed_out (t : Fin cfg0.N) (hf : (cfg0.win 2).flush t = true) : (dats m 0 c).flushed 2 t = ((cfg0.win 2).blk t).view.read (Elt Ideal) (result (V m c main_arg0) (V m c main_arg1)) := by
  obtain ⟨-, -, h0, h1⟩ := coords t
  have hN : t.val < 16 := lt_of_lt_of_eq t.isLt N_0
  rw [Value.flushed2]
  funext y
  show out0_2 (iblk m c 0 t) (iblk m c 1 t) ((cfg0.win 2).xinj (cfg0.grid.coords t) y) = result (V m c main_arg0) (V m c main_arg1) (((cfg0.win 2).blk t).view.emb y)
  have y0 : (y 0).val < 256 := ((cfg0.win 2).xinj (cfg0.grid.coords t) y 0).isLt
  have y1 : (y 1).val < 2048 := ((cfg0.win 2).xinj (cfg0.grid.coords t) y 1).isLt
  have he : ((cfg0.win 2).blk t).view.emb y = (ix2 ⟨t.val * 256 + (y 0).val, by omega⟩ ⟨(y 1).val, y1⟩ : S4096x2048.Idx) := funext fun d => Fin.ext (match d with
    | ⟨0, _⟩ => by show win0_2.index t 0 * 256 + 1 * (y 0).val = t.val * 256 + (y 0).val; rw [h0, Nat.one_mul]
    | ⟨1, _⟩ => by show win0_2.index t 1 * 2048 + 1 * (y 1).val = (y 1).val; rw [h1, Nat.one_mul, Nat.zero_mul, Nat.zero_add])
  have hy : (cfg0.win 2).xinj (cfg0.grid.coords t) y = (ix2 ⟨(y 0).val, y0⟩ ⟨(y 1).val, y1⟩ : S256x2048.Idx) := funext fun d => match d with
    | ⟨0, _⟩ => rfl
    | ⟨1, _⟩ => rfl
  rw [he]
  conv_lhs => rw [hy]
  exact out_at m c t _ _ _ rfl

theorem cover_out (i : S4096x2048.Idx) : ∃ t : Fin cfg0.N, (cfg0.win 2).flush t = true ∧ i ∈ ((cfg0.win 2).blk t).view.set := by
  have i0 : (i 0).val < 4096 := (i 0).isLt
  have i1 : (i 1).val < 2048 := (i 1).isLt
  have hb : (i 0).val / 256 < cfg0.N := by rw [show cfg0.N = 16 from N_0]; omega
  obtain ⟨-, -, h0, h1⟩ := coords ⟨_, hb⟩
  refine ⟨⟨_, hb⟩, flush0_2 _, ?_⟩
  show (show ((View.whole main_v1).slice (win0_2.rect ⟨_, hb⟩)).ty.Idx from i) ∈ ((View.whole main_v1).slice (win0_2.rect ⟨_, hb⟩)).set
  rw [View.set_slice_whole, Rect.mem_set_unit]
  obtain ⟨s0, s1⟩ := sizes ⟨_, hb⟩
  intro a
  match a with
  | ⟨0, _⟩ => show win0_2.index ⟨_, hb⟩ 0 * 256 ≤ (i 0).val ∧ (i 0).val < win0_2.index ⟨_, hb⟩ 0 * 256 + win0_2.xsize (grid0.coords ⟨_, hb⟩) 0
              rw [h0, s0]; dsimp only; omega
  | ⟨1, _⟩ => show win0_2.index ⟨_, hb⟩ 1 * 2048 ≤ (i 1).val ∧ (i 1).val < win0_2.index ⟨_, hb⟩ 1 * 2048 + win0_2.xsize (grid0.coords ⟨_, hb⟩) 1
              rw [h1, s1]; omega

theorem final_out : (dats m 0 c).arrAt 2 cfg0.N = result (V m c main_arg0) (V m c main_arg1) := by
  funext i
  rw [(dats m 0 c).arrAt_eq_piecewise 2 _ (flushed_out m c) i, if_pos (cover_out i)]
end Array

end Cert.LnFwdIdeal.Norm

namespace Cert.LnFwdRefIdeal.Norm
open Cert.LnFwdRefIdeal Cert.LnFwdRefIdeal.Gen Idealize.ShloMosaic Idealize.ShloMosaic.TcCoe
open Cert.LnBwdRefIdeal.Norm (mean mean_at)
variable (x : FVec Ideal S4096x2048 .f32) (g : FVec Ideal S2048 .f32)

/-- The reference's result. -/
def wanted : FVec Ideal S4096x2048 .bf16 :=
  truncf .bf16 (mulf (mulf x (broadcastInDim S4096x2048 ![0, 1] bcast_S4096x1_S4096x2048_0_1 (Host.rsqrt (mean x)))) (broadcastInDim S4096x2048 ![0, 1] bcast_S1x2048_S4096x2048_0_1 (broadcastInDim S1x2048 ![1] bcast_S2048_S1x2048_1 g)) : FVec Ideal S4096x2048 .f32) bitsLt_bf16_f32

theorem meet : Cert.LnFwdIdeal.Norm.result x g = wanted x g := by
  funext y
  idx_vars y
  have h : wanted x g (ix2 y0 y1) = x (ix2 y0 y1) * Ideal.rsqrt (mean x (ix2 y0 0)) * g (ix1 y1) := by
    pointwise [wanted]
  rw [h, mean_at]
  rfl
end Cert.LnFwdRefIdeal.Norm
end
-- ==== Proof.LnFwdClaims.lean ====
module

public import proofs.«01_k».proof.Defs
public import proofs.«01_k».proof.Proof.Gen.LnFwd
public import proofs.«01_k».proof.Proof.LnFwd
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.LnFwd

open Idealize.ShloMosaic Idealize.SL.Sem

/-- The kernel's body is the idealized program's, word for word. -/
theorem bodies_eq : Cert.LnFwd.defs₀ (F := Bits) = Cert.LnFwdIdeal.defs₀ (F := Bits) := by
  unfold Cert.LnFwd.defs₀ Cert.LnFwdIdeal.defs₀
  refine congrArg Defs.onTc ?_
  funext l a
  match l, a with
  | 0, (t, s) => rfl

theorem table_eq : Cert.LnFwd.defs (F := Bits) = Cert.LnFwdIdeal.defs (F := Bits) :=
  congrArg (Pipeline.defs Cert.LnFwdIdeal.pcfgs) bodies_eq

theorem main_eq : Cert.LnFwd.main (F := Bits) = Cert.LnFwdIdeal.main (F := Bits) := by rfl

theorem frame_P : Cert.quiescent_LnFwd := fun m ρ _ => by
  rw [table_eq, main_eq]
  exact Cert.LnFwdIdeal.Gen.frame (F := Bits) m ρ

theorem frame_PI : Cert.quiescent_LnFwdIdeal := fun m ρ _ => Cert.LnFwdIdeal.Gen.frame (F := Ideal) m ρ

/-- The reference declares no semaphore. -/
theorem frame_RI : Cert.quiescent_LnFwdRefIdeal := fun m ρ _ =>
  (θ_run Cert.LnFwdRefIdeal.defs _ _).mono (fun r h => ⟨fun c => (h c).2, sem_eq_zero_of_no_sems (by decide) r.2⟩)
    (Cert.LnFwdRefIdeal.Value.run (F := Ideal) m ρ)

/-- The common value is the reference's result. -/
theorem algebraic : Cert.algebraic_LnFwdIdeal_LnFwdRefIdeal := fun m ρ m' ρ' _ hagree =>
  ⟨fun c => Cert.LnFwdRefIdeal.Norm.wanted (m' (c.tc.loc Cert.LnFwdRefIdeal.main_arg0)) (m' (c.tc.loc Cert.LnFwdRefIdeal.main_arg1)),
    (θ_run Cert.LnFwdIdeal.defs _ _).mono (fun _ h c =>
      ⟨((h c).1.trans (Cert.LnFwdIdeal.Norm.final_out m c)).trans (by
          beta_reduce
          rw [Cert.LnFwdIdeal.Gen.V_main_arg0, Cert.LnFwdIdeal.Gen.V_main_arg1, (hagree c).1, (hagree c).2]
          exact Cert.LnFwdRefIdeal.Norm.meet _ _), (h c).2⟩)
      (Cert.LnFwdIdeal.Value.run_blocks (F := Ideal) m ρ),
    Cert.LnFwdRefIdeal.Value.run (F := Ideal) m' ρ'⟩

end Cert.Proof.LnFwd

end
-- ==== Proof.GateFwd.lean ====
module

public import proofs.«01_k».proof.Proof.GateBwdRef
public import proofs.«01_k».proof.Proof.Gen.GateFwdIdeal.Value
public import proofs.«01_k».proof.Proof.Gen.GateFwdRefIdeal.Run

/-! The gate: the scan's rows with their skip, times the gate and the gate's share. -/

@[expose] public section

set_option maxRecDepth 16384

noncomputable section

namespace Cert.GateFwdIdeal.Gate

open Cert.GateFwdIdeal Cert.GateFwdIdeal.Gen Idealize.ShloMosaic Idealize.ShloMosaic.TcCoe
open Cert.Prod (zeros)
open Cert.GateBwdIdeal.Gate (share zed inp fac)

section Cases
variable {F : FTy → Type} [FloatOps F] (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole)
    (x0 x1 x2 : Vec F S256x1024 .f32) (x3 : Vec F S1x1024 .f32)

theorem out_eq : out0_A_4 c i arg1 harg1 arg2 harg2 arg3 harg3 arg4 harg4 arg5 harg5 x0 x1 x2 x3 = k0_pay1 x0 x1 x2 x3 := by
  unfold out0_A_4
  refine Eq.trans (View.read_writes_eq_canon _ _ _ fun _ => cover0_A_4 ..) ?_
  unfold kernelRun0_A
  dsimp only
  sl_unfold_words
  rw [View.canon_unit_zero zeros]
  simp only [View.readAt_eq_ld, Memref.IsWhole.read_unread, View.ld_unit_zero (S := S256x1024) zeros, View.ld_unit_zero (S := S1x1024) zeros]
end Cases

theorem pay_at (x0 x1 x2 : Vec Ideal S256x1024 .f32) (x3 : Vec Ideal S1x1024 .f32) (a : Fin 256) (b : Fin 1024) :
    k0_pay1 x0 x1 x2 x3 (ix2 a b) = (x0 (ix2 a b) + x3 (ix2 0 b) * x1 (ix2 a b)) * (x2 (ix2 a b) * share (x2 (ix2 a b))) := by
  unfold share
  pointwise [k0_pay1]

theorem coords : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = 0)
    ∧ (win0_4.index t 0 = t.val ∧ win0_4.index t 1 = 0) := by
  decide +kernel
theorem sizes : ∀ t : Fin cfg0.N, win0_4.xsize (grid0.coords t) 0 = 256 ∧ win0_4.xsize (grid0.coords t) 1 = 1024 := by
  decide +kernel

/-- The rows with their skip, times the gate and its share. -/
def result (Y : FVec Ideal S4096x1024 .f32) (A : FVec Ideal S4096x1536 .f32) (Z : FVec Ideal S4096x1152 .f32) (s : FVec Ideal S16 .f32) : FVec Ideal S4096x1024 .f32 := fun y =>
  (Y y + fac s (y 1) * inp A (y 0) (y 1)) * (zed Z (y 0) (y 1) * share (zed Z (y 0) (y 1)))

section Array
variable (m : (ℓ : Loc nD τ sig) → Buf (Elt Ideal) ℓ) (c : Dev nD)

theorem y_at (t : Fin cfg0.N) (a : Fin 256) (b : Fin 1024) (r : Fin 4096) (hr : r.val = t.val * 256 + a.val) : iblk m c 0 t (ix2 a b) = V m c main_arg0 (ix2 r b) := by
  obtain ⟨⟨h0, h1⟩, -⟩ := coords t
  have he : ((cfg0.win 0).blk t).view.emb (ix2 a b) = (ix2 r b : S4096x1024.Idx) := funext fun d => Fin.ext (match d with
    | ⟨0, _⟩ => by show win0_0.index t 0 * 256 + 1 * a.val = r.val; rw [h0, hr, Nat.one_mul]
    | ⟨1, _⟩ => by show win0_0.index t 1 * 1024 + 1 * b.val = b.val; rw [h1, Nat.one_mul, Nat.zero_mul, Nat.zero_add])
  show V m c main_arg0 (((cfg0.win 0).blk t).view.emb (ix2 a b)) = _
  rw [he]
theorem a_at (t : Fin cfg0.N) (a : Fin 256) (b : Fin 1024) (r : Fin 4096) (hr : r.val = t.val * 256 + a.val) : X0_1 m c t (ix2 a b) = inp (V m c main_arg1) r b := by
  obtain ⟨-, ⟨h0, h1⟩, -⟩ := coords t
  unfold X0_1 Pipeline.Window.fill
  rw [dif_pos (moved0_1 t _)]
  refine congrArg (V m c main_arg1) (funext fun d => Fin.ext (match d with
    | ⟨0, _⟩ => by show win0_1.index t 0 * 256 + 1 * a.val = r.val; rw [h0, hr, Nat.one_mul]
    | ⟨1, _⟩ => by show win0_1.index t 1 * 1024 + 1 * b.val = b.val; rw [h1, Nat.one_mul, Nat.zero_mul, Nat.zero_add]))
theorem z_at (t : Fin cfg0.N) (a : Fin 256) (b : Fin 1024) (r : Fin 4096) (hr : r.val = t.val * 256 + a.val) : X0_2 m c t (ix2 a b) = zed (V m c main_arg2) r b := by
  obtain ⟨-, -, ⟨h0, h1⟩, -⟩ := coords t
  unfold X0_2 Pipeline.Window.fill
  rw [dif_pos (moved0_2 t _)]
  refine congrArg (V m c main_arg2) (funext fun d => Fin.ext (match d with
    | ⟨0, _⟩ => by show win0_2.index t 0 * 256 + 1 * a.val = r.val; rw [h0, hr, Nat.one_mul]
    | ⟨1, _⟩ => by show win0_2.index t 1 * 1024 + 1 * b.val = b.val; rw [h1, Nat.one_mul, Nat.zero_mul, Nat.zero_add]))
theorem s_at (t : Fin cfg0.N) (b : Fin 1024) : iblk m c 3 t (ix2 0 b) = fac (V m c main_arg3) b := by
  obtain ⟨-, -, -, ⟨h0, h1⟩, -⟩ := coords t
  have he : ((cfg0.win 3).blk t).view.emb (ix2 0 b) = (ix2 0 b : S1x1024.Idx) := funext fun d => Fin.ext (match d with
    | ⟨0, _⟩ => by show win0_3.index t 0 * 1 + 1 * 0 = 0; rw [h0]
    | ⟨1, _⟩ => by show win0_3.index t 1 * 1024 + 1 * b.val = b.val; rw [h1, Nat.one_mul, Nat.zero_mul, Nat.zero_add])
  show V m c main_v2 (((cfg0.win 3).blk t).view.emb (ix2 0 b)) = _
  have h : V m c main_v2 = (shapeCast S1x1024 (shapeCast S1024 (broadcastInDim S16x64 ![0] bcast_S16_S16x64_0 (V m c main_arg3 : FVec Ideal S16 .f32)) shapeCasts_S16x64_S1024 : FVec Ideal S1024 .f32) shapeCasts_S1024_S1x1024 : FVec Ideal S1x1024 .f32) := by
    rfl
  rw [he, h]
  pointwise
theorem out_at (t : Fin cfg0.N) (a : Fin 256) (b : Fin 1024) (r : Fin 4096) (hr : r.val = t.val * 256 + a.val) :
    outsAt0 m c t (ix2 a b) = result (V m c main_arg0) (V m c main_arg1) (V m c main_arg2) (V m c main_arg3) (ix2 r b) := by
  unfold outsAt0
  rw [out_eq, pay_at, s_at, y_at m c t a b r hr, a_at m c t a b r hr, z_at m c t a b r hr]
  rfl

theorem flushed_out (t : Fin cfg0.N) (hf : (cfg0.win 4).flush t = true) : (dats m 0 c).flushed 4 t = ((cfg0.win 4).blk t).view.read (Elt Ideal) (result (V m c main_arg0) (V m c main_arg1) (V m c main_arg2) (V m c main_arg3)) := by
  obtain ⟨-, -, -, -, h0, h1⟩ := coords t
  have hN : t.val < 16 := lt_of_lt_of_eq t.isLt N_0
  rw [Value.flushed4]
  funext y
  show outsAt0 m c t ((cfg0.win 4).xinj (cfg0.grid.coords t) y) = result (V m c main_arg0) (V m c main_arg1) (V m c main_arg2) (V m c main_arg3) (((cfg0.win 4).blk t).view.emb y)
  have y0 : (y 0).val < 256 := ((cfg0.win 4).xinj (cfg0.grid.coords t) y 0).isLt
  have y1 : (y 1).val < 1024 := ((cfg0.win 4).xinj (cfg0.grid.coords t) y 1).isLt
  have he : ((cfg0.win 4).blk t).view.emb y = (ix2 ⟨t.val * 256 + (y 0).val, by omega⟩ ⟨(y 1).val, y1⟩ : S4096x1024.Idx) := funext fun d => Fin.ext (match d with
    | ⟨0, _⟩ => by show win0_4.index t 0 * 256 + 1 * (y 0).val = t.val * 256 + (y 0).val; rw [h0, Nat.one_mul]
    | ⟨1, _⟩ => by show win0_4.index t 1 * 1024 + 1 * (y 1).val = (y 1).val; rw [h1, Nat.one_mul, Nat.zero_mul, Nat.zero_add])
  have hy : (cfg0.win 4).xinj (cfg0.grid.coords t) y = (ix2 ⟨(y 0).val, y0⟩ ⟨(y 1).val, y1⟩ : S256x1024.Idx) := funext fun d => match d with
    | ⟨0, _⟩ => rfl
    | ⟨1, _⟩ => rfl
  rw [he]
  conv_lhs => rw [hy]
  exact out_at m c t _ _ _ rfl

theorem cover_out (i : S4096x1024.Idx) : ∃ t : Fin cfg0.N, (cfg0.win 4).flush t = true ∧ i ∈ ((cfg0.win 4).blk t).view.set := by
  have i0 : (i 0).val < 4096 := (i 0).isLt
  have i1 : (i 1).val < 1024 := (i 1).isLt
  have hb : (i 0).val / 256 < cfg0.N := by rw [show cfg0.N = 16 from N_0]; omega
  obtain ⟨-, -, -, -, h0, h1⟩ := coords ⟨_, hb⟩
  refine ⟨⟨_, hb⟩, flush0_4 _, ?_⟩
  show (show ((View.whole main_v3).slice (win0_4.rect ⟨_, hb⟩)).ty.Idx from i) ∈ ((View.whole main_v3).slice (win0_4.rect ⟨_, hb⟩)).set
  rw [View.set_slice_whole, Rect.mem_set_unit]
  obtain ⟨s0, s1⟩ := sizes ⟨_, hb⟩
  intro a
  match a with
  | ⟨0, _⟩ => show win0_4.index ⟨_, hb⟩ 0 * 256 ≤ (i 0).val ∧ (i 0).val < win0_4.index ⟨_, hb⟩ 0 * 256 + win0_4.xsize (grid0.coords ⟨_, hb⟩) 0
              rw [h0, s0]; dsimp only; omega
  | ⟨1, _⟩ => show win0_4.index ⟨_, hb⟩ 1 * 1024 ≤ (i 1).val ∧ (i 1).val < win0_4.index ⟨_, hb⟩ 1 * 1024 + win0_4.xsize (grid0.coords ⟨_, hb⟩) 1
              rw [h1, s1]; omega

theorem final_out : (dats m 0 c).arrAt 4 cfg0.N = result (V m c main_arg0) (V m c main_arg1) (V m c main_arg2) (V m c main_arg3) := by
  funext i
  rw [(dats m 0 c).arrAt_eq_piecewise 4 _ (flushed_out m c) i, if_pos (cover_out i)]
end Array

end Cert.GateFwdIdeal.Gate

namespace Cert.GateFwdRefIdeal.Gate
open Cert.GateFwdRefIdeal Cert.GateFwdRefIdeal.Gen Idealize.ShloMosaic Idealize.ShloMosaic.TcCoe
open Cert.GateBwdIdeal.Gate (gated)

theorem meet (Y : FVec Ideal S4096x1024 .f32) (A : FVec Ideal S4096x1536 .f32) (Z : FVec Ideal S4096x1152 .f32) (s : FVec Ideal S16 .f32) : Cert.GateFwdIdeal.Gate.result Y A Z s = gated Y A Z s := by
  funext y
  idx_vars y
  exact (Cert.GateBwdRefIdeal.Gate.gated_at Y A Z s y0 y1).symm
end Cert.GateFwdRefIdeal.Gate
end
-- ==== Proof.GateFwdClaims.lean ====
module

public import proofs.«01_k».proof.Defs
public import proofs.«01_k».proof.Proof.Gen.GateFwd
public import proofs.«01_k».proof.Proof.GateFwd
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.GateFwd

open Idealize.ShloMosaic Idealize.SL.Sem

/-- The kernel's body is the idealized program's, word for word. -/
theorem bodies_eq : Cert.GateFwd.defs₀ (F := Bits) = Cert.GateFwdIdeal.defs₀ (F := Bits) := by
  unfold Cert.GateFwd.defs₀ Cert.GateFwdIdeal.defs₀
  refine congrArg Defs.onTc ?_
  funext l a
  match l, a with
  | 0, (t, s) => rfl

theorem table_eq : Cert.GateFwd.defs (F := Bits) = Cert.GateFwdIdeal.defs (F := Bits) :=
  congrArg (Pipeline.defs Cert.GateFwdIdeal.pcfgs) bodies_eq

theorem main_eq : Cert.GateFwd.main (F := Bits) = Cert.GateFwdIdeal.main (F := Bits) := by rfl

theorem frame_P : Cert.quiescent_GateFwd := fun m ρ _ => by
  rw [table_eq, main_eq]
  exact Cert.GateFwdIdeal.Gen.frame (F := Bits) m ρ

theorem frame_PI : Cert.quiescent_GateFwdIdeal := fun m ρ _ => Cert.GateFwdIdeal.Gen.frame (F := Ideal) m ρ

/-- The reference declares no semaphore. -/
theorem frame_RI : Cert.quiescent_GateFwdRefIdeal := fun m ρ _ =>
  (θ_run Cert.GateFwdRefIdeal.defs _ _).mono (fun r h => ⟨fun c => (h c).2, sem_eq_zero_of_no_sems (by decide) r.2⟩)
    (Cert.GateFwdRefIdeal.Value.run (F := Ideal) m ρ)

/-- The common value is the reference's result. -/
theorem algebraic : Cert.algebraic_GateFwdIdeal_GateFwdRefIdeal := fun m ρ m' ρ' _ hagree =>
  ⟨fun c => Cert.GateBwdIdeal.Gate.gated (m' (c.tc.loc Cert.GateFwdRefIdeal.main_arg0)) (m' (c.tc.loc Cert.GateFwdRefIdeal.main_arg1)) (m' (c.tc.loc Cert.GateFwdRefIdeal.main_arg2)) (m' (c.tc.loc Cert.GateFwdRefIdeal.main_arg3)),
    (θ_run Cert.GateFwdIdeal.defs _ _).mono (fun _ h c =>
      ⟨((h c).1.trans (Cert.GateFwdIdeal.Gate.final_out m c)).trans (by
          beta_reduce
          rw [Cert.GateFwdIdeal.Gen.V_main_arg0, Cert.GateFwdIdeal.Gen.V_main_arg1, Cert.GateFwdIdeal.Gen.V_main_arg2, Cert.GateFwdIdeal.Gen.V_main_arg3, (hagree c).1, (hagree c).2.1, (hagree c).2.2.1, (hagree c).2.2.2]
          exact Cert.GateFwdRefIdeal.Gate.meet _ _ _ _), (h c).2⟩)
      (Cert.GateFwdIdeal.Value.run_blocks (F := Ideal) m ρ),
    Cert.GateFwdRefIdeal.Value.run (F := Ideal) m' ρ'⟩

end Cert.Proof.GateFwd

end
-- ==== Proof.ConvFwd.lean ====
module

public import proofs.«01_k».proof.Proof.ConvBwdPre
public import proofs.«01_k».proof.Proof.Gen.ConvFwdIdeal.Value
public import proofs.«01_k».proof.Proof.Gen.ConvFwdRefIdeal.Run

/-! The causal convolution of the rows with its activation. -/

@[expose] public section

set_option maxRecDepth 16384

noncomputable section

namespace Cert.ConvFwdIdeal.Conv

open Cert.ConvFwdIdeal Cert.ConvFwdIdeal.Gen Idealize.ShloMosaic Idealize.ShloMosaic.TcCoe
open Cert.Prod (zeros)
open Cert.ConvBwdPreIdeal.Conv (gate lag before)

theorem out_eq (i : grid0.Coords) (x0 : Vec Ideal S128x1536 .f32) (x1 : Vec Ideal S8x1536 .f32) (x2 : Vec Ideal S4x1536 .f32) (x3 : Vec Ideal S1x1536 .f32) : out0_4 i x0 x1 x2 x3 = k0_pay1 i x0 x1 x2 x3 := by
  unfold out0_4
  rw [View.canon_unit_zero zeros, View.ld_unit_zero (S := S128x1536) zeros, View.ld_unit_zero (S := S8x1536) zeros, View.ld_unit_zero (S := S4x1536) zeros, View.ld_unit_zero (S := S1x1536) zeros]

section Payload
variable (i : grid0.Coords) (x0 : Vec Ideal S128x1536 .f32) (x1 : Vec Ideal S8x1536 .f32) (x2 : Vec Ideal S4x1536 .f32) (x3 : Vec Ideal S1x1536 .f32)

/-- Row `q` of the block with the eight rows before it put in front, nothing before the array's first row. -/
def held (b : Fin 1536) (q : ℕ) (hq : q < 136) : EReal :=
  if h : q < 8 then Scalar.select (Scalar.cmpi CmpIPredicate.eq (BitVec.ofNat 32 (i 0).val) 0#32) 0 (x1 (ix2 ⟨q, h⟩ b)) else x0 (ix2 ⟨q - 8, by omega⟩ b)
/-- What the activation is given, from the block's rows. -/
def under (a : Fin 128) (b : Fin 1536) : EReal :=
  x2 (ix2 0 b) * held i x0 x1 b ((8 + a.val + 136 - 3) % 136) (by omega) + x2 (ix2 1 b) * held i x0 x1 b ((8 + a.val + 136 - 2) % 136) (by omega)
    + x2 (ix2 2 b) * held i x0 x1 b ((8 + a.val + 136 - 1) % 136) (by omega) + x2 (ix2 3 b) * x0 (ix2 a b) + x3 (ix2 0 b)
theorem pay_at (a : Fin 128) (b : Fin 1536) : k0_pay1 i x0 x1 x2 x3 (ix2 a b) = under i x0 x1 x2 x3 a b * gate (under i x0 x1 x2 x3 a b) := by
  unfold gate under held
  pointwise [k0_pay1]
end Payload

theorem coords : ∀ t : Fin cfg0.N, (win0_0.index t 0 = t.val ∧ win0_0.index t 1 = 0)
    ∧ (win0_1.index t 0 = t.val * 16 - 1 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0) := by
  decide +kernel
theorem is_first : ∀ t : Fin cfg0.N, Scalar.cmpi CmpIPredicate.eq (BitVec.ofNat 32 (grid0.coords t 0).val) 0#32 = if t.val = 0 then 1#1 else 0#1 := by
  decide +kernel
theorem sizes : ∀ t : Fin cfg0.N, win0_4.xsize (grid0.coords t) 0 = 128 ∧ win0_4.xsize (grid0.coords t) 1 = 1536 := by
  decide +kernel

/-- The convolution's activation. -/
def result (X : FVec Ideal S4096x1536 .f32) (W : FVec Ideal S4x1536 .f32) (B : FVec Ideal S1536 .f32) : FVec Ideal S4096x1536 .f32 := fun y =>
  before X W B (y 1) (y 0).val * gate (before X W B (y 1) (y 0).val)

section Array
variable (m : (ℓ : Loc nD τ sig) → Buf (Elt Ideal) ℓ) (c : Dev nD)

theorem own_at (t : Fin cfg0.N) (a : Fin 128) (b : Fin 1536) (r : Fin 4096) (hr : r.val = t.val * 128 + a.val) : iblk m c 0 t (ix2 a b) = V m c main_arg0 (ix2 r b) := by
  obtain ⟨⟨h0, h1⟩, -⟩ := coords t
  have he : ((cfg0.win 0).blk t).view.emb (ix2 a b) = (ix2 r b : S4096x1536.Idx) := funext fun d => Fin.ext (match d with
    | ⟨0, _⟩ => by show win0_0.index t 0 * 128 + 1 * a.val = r.val; rw [h0, hr, Nat.one_mul]
    | ⟨1, _⟩ => by show win0_0.index t 1 * 1536 + 1 * b.val = b.val; rw [h1, Nat.one_mul, Nat.zero_mul, Nat.zero_add])
  show V m c main_arg0 (((cfg0.win 0).blk t).view.emb (ix2 a b)) = _
  rw [he]
theorem last_at (t : Fin cfg0.N) (a : Fin 8) (b : Fin 1536) (r : Fin 4096) (hr : r.val = (t.val * 16 - 1) * 8 + a.val) : iblk m c 1 t (ix2 a b) = V m c main_arg0 (ix2 r b) := by
  obtain ⟨-, ⟨h0, h1⟩, -⟩ := coords t
  have he : ((cfg0.win 1).blk t).view.emb (ix2 a b) = (ix2 r b : S4096x1536.Idx) := funext fun d => Fin.ext (match d with
    | ⟨0, _⟩ => by show win0_1.index t 0 * 8 + 1 * a.val = r.val; rw [h0, hr, Nat.one_mul]
    | ⟨1, _⟩ => by show win0_1.index t 1 * 1536 + 1 * b.val = b.val; rw [h1, Nat.one_mul, Nat.zero_mul, Nat.zero_add])
  show V m c main_arg0 (((cfg0.win 1).blk t).view.emb (ix2 a b)) = _
  rw [he]
theorem taps_at (t : Fin cfg0.N) (a : Fin 4) (b : Fin 1536) : iblk m c 2 t (ix2 a b) = V m c main_arg1 (ix2 a b) := by
  obtain ⟨-, -, ⟨h0, h1⟩, -⟩ := coords t
  have he : ((cfg0.win 2).blk t).view.emb (ix2 a b) = (ix2 a b : S4x1536.Idx) := funext fun d => Fin.ext (match d with
    | ⟨0, _⟩ => by show win0_2.index t 0 * 4 + 1 * a.val = a.val; rw [h0, Nat.one_mul, Nat.zero_mul, Nat.zero_add]
    | ⟨1, _⟩ => by show win0_2.index t 1 * 1536 + 1 * b.val = b.val; rw [h1, Nat.one_mul, Nat.zero_mul, Nat.zero_add])
  show V m c main_arg1 (((cfg0.win 2).blk t).view.emb (ix2 a b)) = _
  rw [he]
theorem bias_at (t : Fin cfg0.N) (b : Fin 1536) : iblk m c 3 t (ix2 0 b) = V m c main_arg2 (ix1 b) := by
  obtain ⟨-, -, -, ⟨h0, h1⟩, -⟩ := coords t
  have he : ((cfg0.win 3).blk t).view.emb (ix2 0 b) = (ix2 0 b : S1x1536.Idx) := funext fun d => Fin.ext (match d with
    | ⟨0, _⟩ => by show win0_3.index t 0 * 1 + 1 * 0 = 0; rw [h0]
    | ⟨1, _⟩ => by show win0_3.index t 1 * 1536 + 1 * b.val = b.val; rw [h1, Nat.one_mul, Nat.zero_mul, Nat.zero_add])
  show V m c main_v0 (((cfg0.win 3).blk t).view.emb (ix2 0 b)) = _
  have h : V m c main_v0 = (shapeCast S1x1536 (V m c main_arg2 : FVec Ideal S1536 .f32) shapeCasts_S1536_S1x1536 : FVec Ideal S1x1536 .f32) := by
    rfl
  rw [he, h]
  pointwise
theorem held_at (t : Fin cfg0.N) (a : Fin 128) (b : Fin 1536) (k q : ℕ) (hk : k ≤ 3) (hq : q < 136) (e : q = 8 + a.val - k) :
    held (grid0.coords t) (iblk m c 0 t) (iblk m c 1 t) b q hq = lag (V m c main_arg0) b k (t.val * 128 + a.val) := by
  have hN : t.val < 32 := lt_of_lt_of_eq t.isLt N_0
  unfold held lag
  split
  · rw [is_first]
    by_cases h : t.val = 0
    · rw [if_pos h, dif_neg (by omega)]
      rfl
    · rw [if_neg h, dif_pos (by omega)]
      refine (last_at m c t _ _ _ ?_)
      dsimp only
      omega
  · rw [dif_pos (by omega)]
    refine (own_at m c t _ _ _ ?_)
    dsimp only
    omega
theorem out_at (t : Fin cfg0.N) (a : Fin 128) (b : Fin 1536) (r : Fin 4096) (hr : r.val = t.val * 128 + a.val) :
    out0_4 (grid0.coords t) (iblk m c 0 t) (iblk m c 1 t) (iblk m c 2 t) (iblk m c 3 t) (ix2 a b) = result (V m c main_arg0) (V m c main_arg1) (V m c main_arg2) (ix2 r b) := by
  have h : under (grid0.coords t) (iblk m c 0 t) (iblk m c 1 t) (iblk m c 2 t) (iblk m c 3 t) a b = before (V m c main_arg0) (V m c main_arg1) (V m c main_arg2) b r.val := by
    have e0 : iblk m c 0 t (ix2 a b) = lag (V m c main_arg0) b 0 (t.val * 128 + a.val) := by
      unfold lag
      rw [dif_pos (by omega)]
      exact own_at m c t _ _ _ rfl
    unfold under before
    rw [held_at m c t a b 3 _ (by omega) _ (by omega), held_at m c t a b 2 _ (by omega) _ (by omega), held_at m c t a b 1 _ (by omega) _ (by omega), e0, bias_at, taps_at, taps_at, taps_at, taps_at, hr]
  rw [out_eq, pay_at, h]
  rfl

theorem flushed_out (t : Fin cfg0.N) (hf : (cfg0.win 4).flush t = true) : (dats m 0 c).flushed 4 t = ((cfg0.win 4).blk t).view.read (Elt Ideal) (result (V m c main_arg0) (V m c main_arg1) (V m c main_arg2)) := by
  obtain ⟨-, -, -, -, h0, h1⟩ := coords t
  have hN : t.val < 32 := lt_of_lt_of_eq t.isLt N_0
  rw [Value.flushed4]
  funext y
  show out0_4 (grid0.coords t) (iblk m c 0 t) (iblk m c 1 t) (iblk m c 2 t) (iblk m c 3 t) ((cfg0.win 4).xinj (cfg0.grid.coords t) y) = result (V m c main_arg0) (V m c main_arg1) (V m c main_arg2) (((cfg0.win 4).blk t).view.emb y)
  have y0 : (y 0).val < 128 := ((cfg0.win 4).xinj (cfg0.grid.coords t) y 0).isLt
  have y1 : (y 1).val < 1536 := ((cfg0.win 4).xinj (cfg0.grid.coords t) y 1).isLt
  have he : ((cfg0.win 4).blk t).view.emb y = (ix2 ⟨t.val * 128 + (y 0).val, by omega⟩ ⟨(y 1).val, y1⟩ : S4096x1536.Idx) := funext fun d => Fin.ext (match d with
    | ⟨0, _⟩ => by show win0_4.index t 0 * 128 + 1 * (y 0).val = t.val * 128 + (y 0).val; rw [h0, Nat.one_mul]
    | ⟨1, _⟩ => by show win0_4.index t 1 * 1536 + 1 * (y 1).val = (y 1).val; rw [h1, Nat.one_mul, Nat.zero_mul, Nat.zero_add])
  have hy : (cfg0.win 4).xinj (cfg0.grid.coords t) y = (ix2 ⟨(y 0).val, y0⟩ ⟨(y 1).val, y1⟩ : S128x1536.Idx) := funext fun d => match d with
    | ⟨0, _⟩ => rfl
    | ⟨1, _⟩ => rfl
  rw [he]
  conv_lhs => rw [hy]
  exact out_at m c t _ _ _ rfl

theorem cover_out (i : S4096x1536.Idx) : ∃ t : Fin cfg0.N, (cfg0.win 4).flush t = true ∧ i ∈ ((cfg0.win 4).blk t).view.set := by
  have i0 : (i 0).val < 4096 := (i 0).isLt
  have i1 : (i 1).val < 1536 := (i 1).isLt
  have hb : (i 0).val / 128 < cfg0.N := by rw [show cfg0.N = 32 from N_0]; omega
  obtain ⟨-, -, -, -, h0, h1⟩ := coords ⟨_, hb⟩
  refine ⟨⟨_, hb⟩, flush0_4 _, ?_⟩
  show (show ((View.whole main_v1).slice (win0_4.rect ⟨_, hb⟩)).ty.Idx from i) ∈ ((View.whole main_v1).slice (win0_4.rect ⟨_, hb⟩)).set
  rw [View.set_slice_whole, Rect.mem_set_unit]
  obtain ⟨s0, s1⟩ := sizes ⟨_, hb⟩
  intro a
  match a with
  | ⟨0, _⟩ => show win0_4.index ⟨_, hb⟩ 0 * 128 ≤ (i 0).val ∧ (i 0).val < win0_4.index ⟨_, hb⟩ 0 * 128 + win0_4.xsize (grid0.coords ⟨_, hb⟩) 0
              rw [h0, s0]; dsimp only; omega
  | ⟨1, _⟩ => show win0_4.index ⟨_, hb⟩ 1 * 1536 ≤ (i 1).val ∧ (i 1).val < win0_4.index ⟨_, hb⟩ 1 * 1536 + win0_4.xsize (grid0.coords ⟨_, hb⟩) 1
              rw [h1, s1]; omega

theorem final_out : (dats m 0 c).arrAt 4 cfg0.N = result (V m c main_arg0) (V m c main_arg1) (V m c main_arg2) := by
  funext i
  rw [(dats m 0 c).arrAt_eq_piecewise 4 _ (flushed_out m c) i, if_pos (cover_out i)]
end Array

end Cert.ConvFwdIdeal.Conv

namespace Cert.ConvFwdRefIdeal.Conv
open Cert.ConvFwdRefIdeal Cert.ConvFwdRefIdeal.Gen Idealize.ShloMosaic Idealize.ShloMosaic.TcCoe
open Cert.ConvBwdPreRefIdeal.Conv (given share given_at share_at)
variable (x : FVec Ideal S4096x1536 .f32) (w : FVec Ideal S4x1536 .f32) (b : FVec Ideal S1536 .f32)

/-- The reference's result. -/
def wanted : FVec Ideal S4096x1536 .f32 := mulf (given x w b) (share x w b)

theorem meet : Cert.ConvFwdIdeal.Conv.result x w b = wanted x w b := by
  funext y
  idx_vars y
  have h : wanted x w b (ix2 y0 y1) = given x w b (ix2 y0 y1) * share x w b (ix2 y0 y1) := by
    pointwise [wanted]
  rw [h, share_at, given_at, ← zero_sub]
  rfl
end Cert.ConvFwdRefIdeal.Conv
end
-- ==== Proof.ConvFwdClaims.lean ====
module

public import proofs.«01_k».proof.Defs
public import proofs.«01_k».proof.Proof.Gen.ConvFwd
public import proofs.«01_k».proof.Proof.ConvFwd
public import Idealize.ShloMosaic.Adequacy
public import Idealize.ShloMosaic.Init

/-! The claims of one call: the three frames, and the equality of its result with the reference's. -/

@[expose] public section

set_option maxRecDepth 16384
set_option maxHeartbeats 1000000

noncomputable section

namespace Cert.Proof.ConvFwd

open Idealize.ShloMosaic Idealize.SL.Sem

/-- The kernel's body is the idealized program's, word for word. -/
theorem bodies_eq : Cert.ConvFwd.defs₀ (F := Bits) = Cert.ConvFwdIdeal.defs₀ (F := Bits) := by
  unfold Cert.ConvFwd.defs₀ Cert.ConvFwdIdeal.defs₀
  refine congrArg Defs.onTc ?_
  funext l a
  match l, a with
  | 0, (t, s) => rfl

theorem table_eq : Cert.ConvFwd.defs (F := Bits) = Cert.ConvFwdIdeal.defs (F := Bits) :=
  congrArg (Pipeline.defs Cert.ConvFwdIdeal.pcfgs) bodies_eq

theorem main_eq : Cert.ConvFwd.main (F := Bits) = Cert.ConvFwdIdeal.main (F := Bits) := by rfl

theorem frame_P : Cert.quiescent_ConvFwd := fun m ρ _ => by
  rw [table_eq, main_eq]
  exact Cert.ConvFwdIdeal.Gen.frame (F := Bits) m ρ

theorem frame_PI : Cert.quiescent_ConvFwdIdeal := fun m ρ _ => Cert.ConvFwdIdeal.Gen.frame (F := Ideal) m ρ

/-- The reference declares no semaphore. -/
theorem frame_RI : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

/-- The common value is the reference's result. -/
theorem algebraic : Cert.algebraic_ConvFwdIdeal_ConvFwdRefIdeal := fun m ρ m' ρ' _ hagree =>
  ⟨fun c => Cert.ConvFwdRefIdeal.Conv.wanted (m' (c.tc.loc Cert.ConvFwdRefIdeal.main_arg0)) (m' (c.tc.loc Cert.ConvFwdRefIdeal.main_arg1)) (m' (c.tc.loc Cert.ConvFwdRefIdeal.main_arg2)),
    (θ_run Cert.ConvFwdIdeal.defs _ _).mono (fun _ h c =>
      ⟨((h c).1.trans (Cert.ConvFwdIdeal.Conv.final_out m c)).trans (by
          beta_reduce
          rw [Cert.ConvFwdIdeal.Gen.V_main_arg0, Cert.ConvFwdIdeal.Gen.V_main_arg1, Cert.ConvFwdIdeal.Gen.V_main_arg2, (hagree c).1, (hagree c).2.1, (hagree c).2.2]
          exact Cert.ConvFwdRefIdeal.Conv.meet _ _ _), (h c).2⟩)
      (Cert.ConvFwdIdeal.Value.run_blocks (F := Ideal) m ρ),
    Cert.ConvFwdRefIdeal.Value.run (F := Ideal) m' ρ'⟩

end Cert.Proof.ConvFwd

end
-- ==== Proof.lean ====
/- The certificate: the three frames, the idealization's statement, and the equality of the results with the
   reference's, for every program. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Final
public import proofs.«01_k».proof.Proof.Same
public import proofs.«01_k».proof.Proof.MlpOutDxClaims
public import proofs.«01_k».proof.Proof.MlpOutDwClaims
public import proofs.«01_k».proof.Proof.MlpInDwClaims
public import proofs.«01_k».proof.Proof.MlpInDxClaims
public import proofs.«01_k».proof.Proof.OutProjDxClaims
public import proofs.«01_k».proof.Proof.OutProjDwClaims
public import proofs.«01_k».proof.Proof.InProjDwClaims
public import proofs.«01_k».proof.Proof.InProjDxClaims
public import proofs.«01_k».proof.Proof.InProjQkvClaims
public import proofs.«01_k».proof.Proof.InProjXbcClaims
public import proofs.«01_k».proof.Proof.InProjZdtClaims
public import proofs.«01_k».proof.Proof.OutProjClaims
public import proofs.«01_k».proof.Proof.MlpInClaims
public import proofs.«01_k».proof.Proof.MlpOutClaims
public import proofs.«01_k».proof.Proof.ConvBwdInClaims
public import proofs.«01_k».proof.Proof.LnBwdClaims
public import proofs.«01_k».proof.Proof.ConvBwdPreClaims
public import proofs.«01_k».proof.Proof.LossHeadClaims
public import proofs.«01_k».proof.Proof.GateBwdClaims
public import proofs.«01_k».proof.Proof.LnFwdClaims
public import proofs.«01_k».proof.Proof.GateFwdClaims
public import proofs.«01_k».proof.Proof.ConvFwdClaims
public import Idealize.ShloMosaic.Adequacy
public import Idealize.ShloMosaic.Init

@[expose] public section

noncomputable section

namespace Cert.Proof

open Idealize.ShloMosaic Idealize.SL.Sem

/-- The frame, over any float instance. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  have run := Cert.KernelIdeal.Attn.run_main (F := F) m ρ
  θ_run_and (Cert.KernelIdeal.Gen.frame_of m ρ (Cert.KernelIdeal.Attn.dats m) (Cert.KernelIdeal.Attn.A_eq m)
      ((θ_run Cert.KernelIdeal.defs _ _).mono (fun _ h => h.1) run))
    ((θ_run Cert.KernelIdeal.defs _ _).mono (fun _ h => h.2) run)

theorem frame_kernel : Cert.quiescent_Kernel := fun m ρ _ => by
  rw [table_eq, main_eq]
  exact frame_any (F := Bits) m ρ

theorem frame_kernelIdeal : Cert.quiescent_KernelIdeal := fun m ρ _ => frame_any (F := Ideal) m ρ

/-- The reference declares no semaphore. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The common values are the reference's three gradients of the arguments. -/
theorem algebraic : Cert.algebraic_KernelIdeal_ReferenceIdeal := fun m ρ m' ρ' _ hagree =>
  have run := Cert.KernelIdeal.Attn.run_main (F := Ideal) m ρ
  ⟨fun c => Cert.ReferenceIdeal.Value.res_main_v136 (F := Ideal) m' c, fun c => Cert.ReferenceIdeal.Value.res_main_v138 (F := Ideal) m' c,
    fun c => Cert.ReferenceIdeal.Value.res_main_v140 (F := Ideal) m' c,
    (θ_run Cert.KernelIdeal.defs _ _).mono (fun _ h c =>
      ⟨(((h.1.1 c).1 8).trans (Cert.KernelIdeal.Attn.final_Q m c)).trans
          ((Cert.KernelIdeal.Attn.blocks_Q m c _ _ _ (hagree c).1.symm (hagree c).2.1.symm (hagree c).2.2.symm).trans (Cert.ReferenceIdeal.Attn.res_Q m' c).symm),
        (((h.1.1 c).1 9).trans (Cert.KernelIdeal.Attn.final_K m c)).trans
          ((Cert.KernelIdeal.Attn.blocks_K m c _ _ _ (hagree c).1.symm (hagree c).2.1.symm (hagree c).2.2.symm).trans (Cert.ReferenceIdeal.Attn.res_K m' c).symm),
        (((h.1.1 c).1 10).trans (Cert.KernelIdeal.Attn.final_V m c)).trans
          ((Cert.KernelIdeal.Attn.blocks_V m c _ _ _ (hagree c).1.symm (hagree c).2.1.symm (hagree c).2.2.symm).trans (Cert.ReferenceIdeal.Attn.res_V m' c).symm),
        h.2 c⟩)
      (θ_run_and run (Cert.KernelIdeal.Gen.frame_of m ρ (Cert.KernelIdeal.Attn.dats m) (Cert.KernelIdeal.Attn.A_eq m)
        ((θ_run Cert.KernelIdeal.defs _ _).mono (fun _ h => h.1) run))),
    Cert.ReferenceIdeal.Value.run (F := Ideal) m' ρ'⟩

theorem claim : Cert.Claim :=
  ⟨Cert.Kernel.Gen.facts, Cert.KernelIdeal.Gen.facts, Cert.ReferenceIdeal.Gen.facts,
    Cert.MlpOutDx.Gen.facts, Cert.MlpOutDxIdeal.Gen.facts, Cert.MlpOutDxRefIdeal.Gen.facts,
    Cert.MlpOutDw.Gen.facts, Cert.MlpOutDwIdeal.Gen.facts, Cert.MlpOutDwRefIdeal.Gen.facts,
    Cert.MlpInDw.Gen.facts, Cert.MlpInDwIdeal.Gen.facts, Cert.MlpInDwRefIdeal.Gen.facts,
    Cert.MlpInDx.Gen.facts, Cert.MlpInDxIdeal.Gen.facts, Cert.MlpInDxRefIdeal.Gen.facts,
    Cert.OutProjDx.Gen.facts, Cert.OutProjDxIdeal.Gen.facts, Cert.OutProjDxRefIdeal.Gen.facts,
    Cert.OutProjDw.Gen.facts, Cert.OutProjDwIdeal.Gen.facts, Cert.OutProjDwRefIdeal.Gen.facts,
    Cert.InProjDw.Gen.facts, Cert.InProjDwIdeal.Gen.facts, Cert.InProjDwRefIdeal.Gen.facts,
    Cert.InProjDx.Gen.facts, Cert.InProjDxIdeal.Gen.facts, Cert.InProjDxRefIdeal.Gen.facts,
    Cert.InProjQkv.Gen.facts, Cert.InProjQkvIdeal.Gen.facts, Cert.InProjQkvRefIdeal.Gen.facts,
    Cert.InProjXbc.Gen.facts, Cert.InProjXbcIdeal.Gen.facts, Cert.InProjXbcRefIdeal.Gen.facts,
    Cert.InProjZdt.Gen.facts, Cert.InProjZdtIdeal.Gen.facts, Cert.InProjZdtRefIdeal.Gen.facts,
    Cert.OutProj.Gen.facts, Cert.OutProjIdeal.Gen.facts, Cert.OutProjRefIdeal.Gen.facts,
    Cert.MlpIn.Gen.facts, Cert.MlpInIdeal.Gen.facts, Cert.MlpInRefIdeal.Gen.facts,
    Cert.MlpOut.Gen.facts, Cert.MlpOutIdeal.Gen.facts, Cert.MlpOutRefIdeal.Gen.facts,
    Cert.ConvBwdIn.Gen.facts, Cert.ConvBwdInIdeal.Gen.facts, Cert.ConvBwdInRefIdeal.Gen.facts,
    Cert.LnBwd.Gen.facts, Cert.LnBwdIdeal.Gen.facts, Cert.LnBwdRefIdeal.Gen.facts,
    Cert.ConvBwdPre.Gen.facts, Cert.ConvBwdPreIdeal.Gen.facts, Cert.ConvBwdPreRefIdeal.Gen.facts,
    Cert.LossHead.Gen.facts, Cert.LossHeadIdeal.Gen.facts, Cert.LossHeadRefIdeal.Gen.facts,
    Cert.GateBwd.Gen.facts, Cert.GateBwdIdeal.Gen.facts, Cert.GateBwdRefIdeal.Gen.facts,
    Cert.LnFwd.Gen.facts, Cert.LnFwdIdeal.Gen.facts, Cert.LnFwdRefIdeal.Gen.facts,
    Cert.GateFwd.Gen.facts, Cert.GateFwdIdeal.Gen.facts, Cert.GateFwdRefIdeal.Gen.facts,
    Cert.ConvFwd.Gen.facts, Cert.ConvFwdIdeal.Gen.facts, Cert.ConvFwdRefIdeal.Gen.facts,
    Cert.Pre_finite.Gen.facts, Cert.Pre_bounded.Gen.facts,
    frame_kernel, frame_kernelIdeal, frame_referenceIdeal,
    MlpOutDx.frame_P, MlpOutDx.frame_PI, MlpOutDx.frame_RI,
    MlpOutDw.frame_P, MlpOutDw.frame_PI, MlpOutDw.frame_RI,
    MlpInDw.frame_P, MlpInDw.frame_PI, MlpInDw.frame_RI,
    MlpInDx.frame_P, MlpInDx.frame_PI, MlpInDx.frame_RI,
    OutProjDx.frame_P, OutProjDx.frame_PI, OutProjDx.frame_RI,
    OutProjDw.frame_P, OutProjDw.frame_PI, OutProjDw.frame_RI,
    InProjDw.frame_P, InProjDw.frame_PI, InProjDw.frame_RI,
    InProjDx.frame_P, InProjDx.frame_PI, InProjDx.frame_RI,
    InProjQkv.frame_P, InProjQkv.frame_PI, InProjQkv.frame_RI,
    InProjXbc.frame_P, InProjXbc.frame_PI, InProjXbc.frame_RI,
    InProjZdt.frame_P, InProjZdt.frame_PI, InProjZdt.frame_RI,
    OutProj.frame_P, OutProj.frame_PI, OutProj.frame_RI,
    MlpIn.frame_P, MlpIn.frame_PI, MlpIn.frame_RI,
    MlpOut.frame_P, MlpOut.frame_PI, MlpOut.frame_RI,
    ConvBwdIn.frame_P, ConvBwdIn.frame_PI, ConvBwdIn.frame_RI,
    LnBwd.frame_P, LnBwd.frame_PI, LnBwd.frame_RI,
    ConvBwdPre.frame_P, ConvBwdPre.frame_PI, ConvBwdPre.frame_PI_finite, ConvBwdPre.frame_RI, ConvBwdPre.frame_RI_finite,
    LossHead.frame_P, LossHead.frame_PI, LossHead.frame_RI,
    GateBwd.frame_P, GateBwd.frame_PI, GateBwd.frame_PI_bounded, GateBwd.frame_RI, GateBwd.frame_RI_bounded,
    LnFwd.frame_P, LnFwd.frame_PI, LnFwd.frame_RI,
    GateFwd.frame_P, GateFwd.frame_PI, GateFwd.frame_RI,
    ConvFwd.frame_P, ConvFwd.frame_PI, ConvFwd.frame_RI,
    trivial, algebraic, trivial, MlpOutDx.algebraic,
    trivial, MlpOutDw.algebraic, trivial, MlpInDw.algebraic,
    trivial, MlpInDx.algebraic, trivial, OutProjDx.algebraic,
    trivial, OutProjDw.algebraic, trivial, InProjDw.algebraic,
    trivial, InProjDx.algebraic, trivial, InProjQkv.algebraic,
    trivial, InProjXbc.algebraic, trivial, InProjZdt.algebraic,
    trivial, OutProj.algebraic, trivial, MlpIn.algebraic,
    trivial, MlpOut.algebraic, trivial, ConvBwdIn.algebraic,
    trivial, LnBwd.algebraic, trivial, ConvBwdPre.algebraic,
    trivial, LossHead.algebraic, trivial, GateBwd.algebraic,
    trivial, LnFwd.algebraic, trivial, GateFwd.algebraic,
    trivial, ConvFwd.algebraic⟩

end Cert.Proof

end
